-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluIdeal_swiglu_finite [hPre_swiglu_finite : Cert.Pre_swiglu_finite.Facts] (m : (ℓ : Loc Cert.SwigluIdeal.nD Cert.SwigluIdeal.τ Cert.SwigluIdeal.sig) → Buf (Elt Ideal) ℓ) : Prop :=
  ∀ c : Dev Cert.SwigluIdeal.nD,
    (Cert.Pre_swiglu_finite.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2)) (m ((c.tc : Thread Cert.SwigluIdeal.nD Cert.SwigluIdeal.τ).loc Cert.SwigluIdeal.main_arg3))) = (fun _ => 1#1)

def Pre_SwigluReferenceIdeal (m : (ℓ : Loc Cert.SwigluReferenceIdeal.nD Cert.SwigluReferenceIdeal.τ Cert.SwigluReferenceIdeal.sig) → Buf (Elt Ideal) ℓ) : Prop :=
  True

def Pre_SwigluReferenceIdeal_swiglu_finite [hPre_swiglu_finite : Cert.Pre_swiglu_finite.Facts] (m : (ℓ : Loc Cert.SwigluReferenceIdeal.nD Cert.SwigluReferenceIdeal.τ Cert.SwigluReferenceIdeal.sig) → Buf (Elt Ideal) ℓ) : Prop :=
  ∀ c : Dev Cert.SwigluReferenceIdeal.nD,
    (Cert.Pre_swiglu_finite.fn (F := Ideal) (m ((c.tc : Thread Cert.SwigluReferenceIdeal.nD Cert.SwigluReferenceIdeal.τ).loc Cert.SwigluReferenceIdeal.main_arg0)) (m ((c.tc : Thread Cert.SwigluReferenceIdeal.nD Cert.SwigluReferenceIdeal.τ).loc Cert.SwigluReferenceIdeal.main_arg1)) (m ((c.tc : Thread Cert.SwigluReferenceIdeal.nD Cert.SwigluReferenceIdeal.τ).loc Cert.SwigluReferenceIdeal.main_arg2)) (m ((c.tc : Thread Cert.SwigluReferenceIdeal.nD Cert.SwigluReferenceIdeal.τ).loc Cert.SwigluReferenceIdeal.main_arg3))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_norm_finite [hPre_norm_finite : Cert.Pre_norm_finite.Facts] (m : (ℓ : Loc Cert.NormIdeal.nD Cert.NormIdeal.τ Cert.NormIdeal.sig) → Buf (Elt Ideal) ℓ) : Prop :=
  ∀ c : Dev Cert.NormIdeal.nD,
    (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3))) = (fun _ => 1#1)

def Pre_NormReferenceIdeal (m : (ℓ : Loc Cert.NormReferenceIdeal.nD Cert.NormReferenceIdeal.τ Cert.NormReferenceIdeal.sig) → Buf (Elt Ideal) ℓ) : Prop :=
  True

def Pre_NormReferenceIdeal_norm_finite [hPre_norm_finite : Cert.Pre_norm_finite.Facts] (m : (ℓ : Loc Cert.NormReferenceIdeal.nD Cert.NormReferenceIdeal.τ Cert.NormReferenceIdeal.sig) → Buf (Elt Ideal) ℓ) : Prop :=
  ∀ c : Dev Cert.NormReferenceIdeal.nD,
    (Cert.Pre_norm_finite.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3))) = (fun _ => 1#1)

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownReferenceIdeal (m : (ℓ : Loc Cert.DwDownReferenceIdeal.nD Cert.DwDownReferenceIdeal.τ Cert.DwDownReferenceIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInReferenceIdeal (m : (ℓ : Loc Cert.DwInReferenceIdeal.nD Cert.DwInReferenceIdeal.τ Cert.DwInReferenceIdeal.sig) → Buf (Elt Ideal) ℓ) : Prop :=
  True

def Pre_DxGate (m : (ℓ : Loc Cert.DxGate.nD Cert.DxGate.τ Cert.DxGate.sig) → Buf (Elt Bits) ℓ) : Prop :=
  True

def Pre_DxGateIdeal (m : (ℓ : Loc Cert.DxGateIdeal.nD Cert.DxGateIdeal.τ Cert.DxGateIdeal.sig) → Buf (Elt Ideal) ℓ) : Prop :=
  True

def Pre_DxGateReferenceIdeal (m : (ℓ : Loc Cert.DxGateReferenceIdeal.nD Cert.DxGateReferenceIdeal.τ Cert.DxGateReferenceIdeal.sig) → Buf (Elt Ideal) ℓ) : Prop :=
  True

def Pre_DxUp (m : (ℓ : Loc Cert.DxUp.nD Cert.DxUp.τ Cert.DxUp.sig) → Buf (Elt Bits) ℓ) : Prop :=
  True

def Pre_DxUpIdeal (m : (ℓ : Loc Cert.DxUpIdeal.nD Cert.DxUpIdeal.τ Cert.DxUpIdeal.sig) → Buf (Elt Ideal) ℓ) : Prop :=
  True

def Pre_DxUpReferenceIdeal (m : (ℓ : Loc Cert.DxUpReferenceIdeal.nD Cert.DxUpReferenceIdeal.τ Cert.DxUpReferenceIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInReferenceIdeal (m : (ℓ : Loc Cert.FfnInReferenceIdeal.nD Cert.FfnInReferenceIdeal.τ Cert.FfnInReferenceIdeal.sig) → Buf (Elt Ideal) ℓ) : Prop :=
  True

def Pre_DwSsd (m : (ℓ : Loc Cert.DwSsd.nD Cert.DwSsd.τ Cert.DwSsd.sig) → Buf (Elt Bits) ℓ) : Prop :=
  True

def Pre_DwSsdIdeal (m : (ℓ : Loc Cert.DwSsdIdeal.nD Cert.DwSsdIdeal.τ Cert.DwSsdIdeal.sig) → Buf (Elt Ideal) ℓ) : Prop :=
  True

def Pre_DwSsdReferenceIdeal (m : (ℓ : Loc Cert.DwSsdReferenceIdeal.nD Cert.DwSsdReferenceIdeal.τ Cert.DwSsdReferenceIdeal.sig) → Buf (Elt Ideal) ℓ) : Prop :=
  True

def Pre_DwLru (m : (ℓ : Loc Cert.DwLru.nD Cert.DwLru.τ Cert.DwLru.sig) → Buf (Elt Bits) ℓ) : Prop :=
  True

def Pre_DwLruIdeal (m : (ℓ : Loc Cert.DwLruIdeal.nD Cert.DwLruIdeal.τ Cert.DwLruIdeal.sig) → Buf (Elt Ideal) ℓ) : Prop :=
  True

def Pre_DwLruReferenceIdeal (m : (ℓ : Loc Cert.DwLruReferenceIdeal.nD Cert.DwLruReferenceIdeal.τ Cert.DwLruReferenceIdeal.sig) → Buf (Elt Ideal) ℓ) : Prop :=
  True

def Pre_DwGl (m : (ℓ : Loc Cert.DwGl.nD Cert.DwGl.τ Cert.DwGl.sig) → Buf (Elt Bits) ℓ) : Prop :=
  True

def Pre_DwGlIdeal (m : (ℓ : Loc Cert.DwGlIdeal.nD Cert.DwGlIdeal.τ Cert.DwGlIdeal.sig) → Buf (Elt Ideal) ℓ) : Prop :=
  True

def Pre_DwGlReferenceIdeal (m : (ℓ : Loc Cert.DwGlReferenceIdeal.nD Cert.DwGlReferenceIdeal.τ Cert.DwGlReferenceIdeal.sig) → Buf (Elt Ideal) ℓ) : Prop :=
  True

def Pre_DwQ (m : (ℓ : Loc Cert.DwQ.nD Cert.DwQ.τ Cert.DwQ.sig) → Buf (Elt Bits) ℓ) : Prop :=
  True

def Pre_DwQIdeal (m : (ℓ : Loc Cert.DwQIdeal.nD Cert.DwQIdeal.τ Cert.DwQIdeal.sig) → Buf (Elt Ideal) ℓ) : Prop :=
  True

def Pre_DwQReferenceIdeal (m : (ℓ : Loc Cert.DwQReferenceIdeal.nD Cert.DwQReferenceIdeal.τ Cert.DwQReferenceIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutReferenceIdeal (m : (ℓ : Loc Cert.DwOutReferenceIdeal.nD Cert.DwOutReferenceIdeal.τ Cert.DwOutReferenceIdeal.sig) → Buf (Elt Ideal) ℓ) : Prop :=
  True

def Pre_DwBrSsd (m : (ℓ : Loc Cert.DwBrSsd.nD Cert.DwBrSsd.τ Cert.DwBrSsd.sig) → Buf (Elt Bits) ℓ) : Prop :=
  True

def Pre_DwBrSsdIdeal (m : (ℓ : Loc Cert.DwBrSsdIdeal.nD Cert.DwBrSsdIdeal.τ Cert.DwBrSsdIdeal.sig) → Buf (Elt Ideal) ℓ) : Prop :=
  True

def Pre_DwBrSsdReferenceIdeal (m : (ℓ : Loc Cert.DwBrSsdReferenceIdeal.nD Cert.DwBrSsdReferenceIdeal.τ Cert.DwBrSsdReferenceIdeal.sig) → Buf (Elt Ideal) ℓ) : Prop :=
  True

def Pre_DxSsd (m : (ℓ : Loc Cert.DxSsd.nD Cert.DxSsd.τ Cert.DxSsd.sig) → Buf (Elt Bits) ℓ) : Prop :=
  True

def Pre_DxSsdIdeal (m : (ℓ : Loc Cert.DxSsdIdeal.nD Cert.DxSsdIdeal.τ Cert.DxSsdIdeal.sig) → Buf (Elt Ideal) ℓ) : Prop :=
  True

def Pre_DxSsdReferenceIdeal (m : (ℓ : Loc Cert.DxSsdReferenceIdeal.nD Cert.DxSsdReferenceIdeal.τ Cert.DxSsdReferenceIdeal.sig) → Buf (Elt Ideal) ℓ) : Prop :=
  True

def Pre_DxLru (m : (ℓ : Loc Cert.DxLru.nD Cert.DxLru.τ Cert.DxLru.sig) → Buf (Elt Bits) ℓ) : Prop :=
  True

def Pre_DxLruIdeal (m : (ℓ : Loc Cert.DxLruIdeal.nD Cert.DxLruIdeal.τ Cert.DxLruIdeal.sig) → Buf (Elt Ideal) ℓ) : Prop :=
  True

def Pre_DxLruReferenceIdeal (m : (ℓ : Loc Cert.DxLruReferenceIdeal.nD Cert.DxLruReferenceIdeal.τ Cert.DxLruReferenceIdeal.sig) → Buf (Elt Ideal) ℓ) : Prop :=
  True

def Pre_DxGl (m : (ℓ : Loc Cert.DxGl.nD Cert.DxGl.τ Cert.DxGl.sig) → Buf (Elt Bits) ℓ) : Prop :=
  True

def Pre_DxGlIdeal (m : (ℓ : Loc Cert.DxGlIdeal.nD Cert.DxGlIdeal.τ Cert.DxGlIdeal.sig) → Buf (Elt Ideal) ℓ) : Prop :=
  True

def Pre_DxGlReferenceIdeal (m : (ℓ : Loc Cert.DxGlReferenceIdeal.nD Cert.DxGlReferenceIdeal.τ Cert.DxGlReferenceIdeal.sig) → Buf (Elt Ideal) ℓ) : Prop :=
  True

def Pre_DxQ (m : (ℓ : Loc Cert.DxQ.nD Cert.DxQ.τ Cert.DxQ.sig) → Buf (Elt Bits) ℓ) : Prop :=
  True

def Pre_DxQIdeal (m : (ℓ : Loc Cert.DxQIdeal.nD Cert.DxQIdeal.τ Cert.DxQIdeal.sig) → Buf (Elt Ideal) ℓ) : Prop :=
  True

def Pre_DxQReferenceIdeal (m : (ℓ : Loc Cert.DxQReferenceIdeal.nD Cert.DxQReferenceIdeal.τ Cert.DxQReferenceIdeal.sig) → Buf (Elt Ideal) ℓ) : Prop :=
  True

def Pre_DMerged (m : (ℓ : Loc Cert.DMerged.nD Cert.DMerged.τ Cert.DMerged.sig) → Buf (Elt Bits) ℓ) : Prop :=
  True

def Pre_DMergedIdeal (m : (ℓ : Loc Cert.DMergedIdeal.nD Cert.DMergedIdeal.τ Cert.DMergedIdeal.sig) → Buf (Elt Ideal) ℓ) : Prop :=
  True

def Pre_DMergedReferenceIdeal (m : (ℓ : Loc Cert.DMergedReferenceIdeal.nD Cert.DMergedReferenceIdeal.τ Cert.DMergedReferenceIdeal.sig) → Buf (Elt Ideal) ℓ) : Prop :=
  True

def Pre_DyLru (m : (ℓ : Loc Cert.DyLru.nD Cert.DyLru.τ Cert.DyLru.sig) → Buf (Elt Bits) ℓ) : Prop :=
  True

def Pre_DyLruIdeal (m : (ℓ : Loc Cert.DyLruIdeal.nD Cert.DyLruIdeal.τ Cert.DyLruIdeal.sig) → Buf (Elt Ideal) ℓ) : Prop :=
  True

def Pre_DyLruReferenceIdeal (m : (ℓ : Loc Cert.DyLruReferenceIdeal.nD Cert.DyLruReferenceIdeal.τ Cert.DyLruReferenceIdeal.sig) → Buf (Elt Ideal) ℓ) : Prop :=
  True

def Pre_DySsd (m : (ℓ : Loc Cert.DySsd.nD Cert.DySsd.τ Cert.DySsd.sig) → Buf (Elt Bits) ℓ) : Prop :=
  True

def Pre_DySsdIdeal (m : (ℓ : Loc Cert.DySsdIdeal.nD Cert.DySsdIdeal.τ Cert.DySsdIdeal.sig) → Buf (Elt Ideal) ℓ) : Prop :=
  True

def Pre_DySsdReferenceIdeal (m : (ℓ : Loc Cert.DySsdReferenceIdeal.nD Cert.DySsdReferenceIdeal.τ Cert.DySsdReferenceIdeal.sig) → Buf (Elt Ideal) ℓ) : Prop :=
  True

def Pre_DyXa (m : (ℓ : Loc Cert.DyXa.nD Cert.DyXa.τ Cert.DyXa.sig) → Buf (Elt Bits) ℓ) : Prop :=
  True

def Pre_DyXaIdeal (m : (ℓ : Loc Cert.DyXaIdeal.nD Cert.DyXaIdeal.τ Cert.DyXaIdeal.sig) → Buf (Elt Ideal) ℓ) : Prop :=
  True

def Pre_DyXaReferenceIdeal (m : (ℓ : Loc Cert.DyXaReferenceIdeal.nD Cert.DyXaReferenceIdeal.τ Cert.DyXaReferenceIdeal.sig) → Buf (Elt Ideal) ℓ) : Prop :=
  True

def Pre_ProjSsd (m : (ℓ : Loc Cert.ProjSsd.nD Cert.ProjSsd.τ Cert.ProjSsd.sig) → Buf (Elt Bits) ℓ) : Prop :=
  True

def Pre_ProjSsdIdeal (m : (ℓ : Loc Cert.ProjSsdIdeal.nD Cert.ProjSsdIdeal.τ Cert.ProjSsdIdeal.sig) → Buf (Elt Ideal) ℓ) : Prop :=
  True

def Pre_ProjSsdReferenceIdeal (m : (ℓ : Loc Cert.ProjSsdReferenceIdeal.nD Cert.ProjSsdReferenceIdeal.τ Cert.ProjSsdReferenceIdeal.sig) → Buf (Elt Ideal) ℓ) : Prop :=
  True

def Pre_ProjLru (m : (ℓ : Loc Cert.ProjLru.nD Cert.ProjLru.τ Cert.ProjLru.sig) → Buf (Elt Bits) ℓ) : Prop :=
  True

def Pre_ProjLruIdeal (m : (ℓ : Loc Cert.ProjLruIdeal.nD Cert.ProjLruIdeal.τ Cert.ProjLruIdeal.sig) → Buf (Elt Ideal) ℓ) : Prop :=
  True

def Pre_ProjLruReferenceIdeal (m : (ℓ : Loc Cert.ProjLruReferenceIdeal.nD Cert.ProjLruReferenceIdeal.τ Cert.ProjLruReferenceIdeal.sig) → Buf (Elt Ideal) ℓ) : Prop :=
  True

def Pre_ProjGl (m : (ℓ : Loc Cert.ProjGl.nD Cert.ProjGl.τ Cert.ProjGl.sig) → Buf (Elt Bits) ℓ) : Prop :=
  True

def Pre_ProjGlIdeal (m : (ℓ : Loc Cert.ProjGlIdeal.nD Cert.ProjGlIdeal.τ Cert.ProjGlIdeal.sig) → Buf (Elt Ideal) ℓ) : Prop :=
  True

def Pre_ProjGlReferenceIdeal (m : (ℓ : Loc Cert.ProjGlReferenceIdeal.nD Cert.ProjGlReferenceIdeal.τ Cert.ProjGlReferenceIdeal.sig) → Buf (Elt Ideal) ℓ) : Prop :=
  True

def Pre_ProjQ (m : (ℓ : Loc Cert.ProjQ.nD Cert.ProjQ.τ Cert.ProjQ.sig) → Buf (Elt Bits) ℓ) : Prop :=
  True

def Pre_ProjQIdeal (m : (ℓ : Loc Cert.ProjQIdeal.nD Cert.ProjQIdeal.τ Cert.ProjQIdeal.sig) → Buf (Elt Ideal) ℓ) : Prop :=
  True

def Pre_ProjQReferenceIdeal (m : (ℓ : Loc Cert.ProjQReferenceIdeal.nD Cert.ProjQReferenceIdeal.τ Cert.ProjQReferenceIdeal.sig) → Buf (Elt Ideal) ℓ) : Prop :=
  True

def Pre_BrSsd (m : (ℓ : Loc Cert.BrSsd.nD Cert.BrSsd.τ Cert.BrSsd.sig) → Buf (Elt Bits) ℓ) : Prop :=
  True

def Pre_BrSsdIdeal (m : (ℓ : Loc Cert.BrSsdIdeal.nD Cert.BrSsdIdeal.τ Cert.BrSsdIdeal.sig) → Buf (Elt Ideal) ℓ) : Prop :=
  True

def Pre_BrSsdReferenceIdeal (m : (ℓ : Loc Cert.BrSsdReferenceIdeal.nD Cert.BrSsdReferenceIdeal.τ Cert.BrSsdReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownReferenceIdeal (m : (ℓ : Loc Cert.FfnDownReferenceIdeal.nD Cert.FfnDownReferenceIdeal.τ Cert.FfnDownReferenceIdeal.sig) → Buf (Elt Ideal) ℓ) : Prop :=
  True

def Pre_XaFwd (m : (ℓ : Loc Cert.XaFwd.nD Cert.XaFwd.τ Cert.XaFwd.sig) → Buf (Elt Bits) ℓ) : Prop :=
  True

def Pre_XaFwdIdeal (m : (ℓ : Loc Cert.XaFwdIdeal.nD Cert.XaFwdIdeal.τ Cert.XaFwdIdeal.sig) → Buf (Elt Ideal) ℓ) : Prop :=
  True

def Pre_XaFwdReferenceIdeal (m : (ℓ : Loc Cert.XaFwdReferenceIdeal.nD Cert.XaFwdReferenceIdeal.τ Cert.XaFwdReferenceIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdReferenceIdeal (m : (ℓ : Loc Cert.MergeFwdReferenceIdeal.nD Cert.MergeFwdReferenceIdeal.τ Cert.MergeFwdReferenceIdeal.sig) → Buf (Elt Ideal) ℓ) : Prop :=
  True

def Pre_LnFwd (m : (ℓ : Loc Cert.LnFwd.nD Cert.LnFwd.τ Cert.LnFwd.sig) → Buf (Elt Bits) ℓ) : Prop :=
  True

def Pre_LnFwdIdeal (m : (ℓ : Loc Cert.LnFwdIdeal.nD Cert.LnFwdIdeal.τ Cert.LnFwdIdeal.sig) → Buf (Elt Ideal) ℓ) : Prop :=
  True

def Pre_LnFwdReferenceIdeal (m : (ℓ : Loc Cert.LnFwdReferenceIdeal.nD Cert.LnFwdReferenceIdeal.τ Cert.LnFwdReferenceIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadReferenceIdeal (m : (ℓ : Loc Cert.LossHeadReferenceIdeal.nD Cert.LossHeadReferenceIdeal.τ Cert.LossHeadReferenceIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvReferenceIdeal (m : (ℓ : Loc Cert.KvReferenceIdeal.nD Cert.KvReferenceIdeal.τ Cert.KvReferenceIdeal.sig) → Buf (Elt Ideal) ℓ) : Prop :=
  True

def Pre_DwKv (m : (ℓ : Loc Cert.DwKv.nD Cert.DwKv.τ Cert.DwKv.sig) → Buf (Elt Bits) ℓ) : Prop :=
  True

def Pre_DwKvIdeal (m : (ℓ : Loc Cert.DwKvIdeal.nD Cert.DwKvIdeal.τ Cert.DwKvIdeal.sig) → Buf (Elt Ideal) ℓ) : Prop :=
  True

def Pre_DwKvReferenceIdeal (m : (ℓ : Loc Cert.DwKvReferenceIdeal.nD Cert.DwKvReferenceIdeal.τ Cert.DwKvReferenceIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamKv (m : (ℓ : Loc Cert.AdamKv.nD Cert.AdamKv.τ Cert.AdamKv.sig) → Buf (Elt Bits) ℓ) : Prop :=
  True

def Pre_AdamKvIdeal (m : (ℓ : Loc Cert.AdamKvIdeal.nD Cert.AdamKvIdeal.τ Cert.AdamKvIdeal.sig) → Buf (Elt Ideal) ℓ) : Prop :=
  True

def Pre_AdamKvReferenceIdeal (m : (ℓ : Loc Cert.AdamKvReferenceIdeal.nD Cert.AdamKvReferenceIdeal.τ Cert.AdamKvReferenceIdeal.sig) → Buf (Elt Ideal) ℓ) : Prop :=
  True

def Pre_AdamBr (m : (ℓ : Loc Cert.AdamBr.nD Cert.AdamBr.τ Cert.AdamBr.sig) → Buf (Elt Bits) ℓ) : Prop :=
  True

def Pre_AdamBrIdeal (m : (ℓ : Loc Cert.AdamBrIdeal.nD Cert.AdamBrIdeal.τ Cert.AdamBrIdeal.sig) → Buf (Elt Ideal) ℓ) : Prop :=
  True

def Pre_AdamBrReferenceIdeal (m : (ℓ : Loc Cert.AdamBrReferenceIdeal.nD Cert.AdamBrReferenceIdeal.τ Cert.AdamBrReferenceIdeal.sig) → Buf (Elt Ideal) ℓ) : Prop :=
  True

def Pre_AdamBrSsd (m : (ℓ : Loc Cert.AdamBrSsd.nD Cert.AdamBrSsd.τ Cert.AdamBrSsd.sig) → Buf (Elt Bits) ℓ) : Prop :=
  True

def Pre_AdamBrSsdIdeal (m : (ℓ : Loc Cert.AdamBrSsdIdeal.nD Cert.AdamBrSsdIdeal.τ Cert.AdamBrSsdIdeal.sig) → Buf (Elt Ideal) ℓ) : Prop :=
  True

def Pre_AdamBrSsdReferenceIdeal (m : (ℓ : Loc Cert.AdamBrSsdReferenceIdeal.nD Cert.AdamBrSsdReferenceIdeal.τ Cert.AdamBrSsdReferenceIdeal.sig) → Buf (Elt Ideal) ℓ) : Prop :=
  True

def Pre_AdamFfnIn (m : (ℓ : Loc Cert.AdamFfnIn.nD Cert.AdamFfnIn.τ Cert.AdamFfnIn.sig) → Buf (Elt Bits) ℓ) : Prop :=
  True

def Pre_AdamFfnInIdeal (m : (ℓ : Loc Cert.AdamFfnInIdeal.nD Cert.AdamFfnInIdeal.τ Cert.AdamFfnInIdeal.sig) → Buf (Elt Ideal) ℓ) : Prop :=
  True

def Pre_AdamFfnInReferenceIdeal (m : (ℓ : Loc Cert.AdamFfnInReferenceIdeal.nD Cert.AdamFfnInReferenceIdeal.τ Cert.AdamFfnInReferenceIdeal.sig) → Buf (Elt Ideal) ℓ) : Prop :=
  True

def Pre_AdamFfnDown (m : (ℓ : Loc Cert.AdamFfnDown.nD Cert.AdamFfnDown.τ Cert.AdamFfnDown.sig) → Buf (Elt Bits) ℓ) : Prop :=
  True

def Pre_AdamFfnDownIdeal (m : (ℓ : Loc Cert.AdamFfnDownIdeal.nD Cert.AdamFfnDownIdeal.τ Cert.AdamFfnDownIdeal.sig) → Buf (Elt Ideal) ℓ) : Prop :=
  True

def Pre_AdamFfnDownReferenceIdeal (m : (ℓ : Loc Cert.AdamFfnDownReferenceIdeal.nD Cert.AdamFfnDownReferenceIdeal.τ Cert.AdamFfnDownReferenceIdeal.sig) → Buf (Elt Ideal) ℓ) : Prop :=
  True

def Pre_AdamTail (m : (ℓ : Loc Cert.AdamTail.nD Cert.AdamTail.τ Cert.AdamTail.sig) → Buf (Elt Bits) ℓ) : Prop :=
  True

def Pre_AdamTailIdeal (m : (ℓ : Loc Cert.AdamTailIdeal.nD Cert.AdamTailIdeal.τ Cert.AdamTailIdeal.sig) → Buf (Elt Ideal) ℓ) : Prop :=
  True

def Pre_AdamTailReferenceIdeal (m : (ℓ : Loc Cert.AdamTailReferenceIdeal.nD Cert.AdamTailReferenceIdeal.τ Cert.AdamTailReferenceIdeal.sig) → Buf (Elt Ideal) ℓ) : Prop :=
  True

def Pre_SlotSum (m : (ℓ : Loc Cert.SlotSum.nD Cert.SlotSum.τ Cert.SlotSum.sig) → Buf (Elt Bits) ℓ) : Prop :=
  True

def Pre_SlotSumIdeal (m : (ℓ : Loc Cert.SlotSumIdeal.nD Cert.SlotSumIdeal.τ Cert.SlotSumIdeal.sig) → Buf (Elt Ideal) ℓ) : Prop :=
  True

def Pre_SlotSumReferenceIdeal (m : (ℓ : Loc Cert.SlotSumReferenceIdeal.nD Cert.SlotSumReferenceIdeal.τ Cert.SlotSumReferenceIdeal.sig) → Buf (Elt Ideal) ℓ) : Prop :=
  True

def Pre_LruConv (m : (ℓ : Loc Cert.LruConv.nD Cert.LruConv.τ Cert.LruConv.sig) → Buf (Elt Bits) ℓ) : Prop :=
  True

def Pre_LruConvIdeal (m : (ℓ : Loc Cert.LruConvIdeal.nD Cert.LruConvIdeal.τ Cert.LruConvIdeal.sig) → Buf (Elt Ideal) ℓ) : Prop :=
  True

def Pre_LruConvReferenceIdeal (m : (ℓ : Loc Cert.LruConvReferenceIdeal.nD Cert.LruConvReferenceIdeal.τ Cert.LruConvReferenceIdeal.sig) → Buf (Elt Ideal) ℓ) : Prop :=
  True

def Pre_SsdBwd (m : (ℓ : Loc Cert.SsdBwd.nD Cert.SsdBwd.τ Cert.SsdBwd.sig) → Buf (Elt Bits) ℓ) : Prop :=
  True

def Pre_SsdBwdIdeal (m : (ℓ : Loc Cert.SsdBwdIdeal.nD Cert.SsdBwdIdeal.τ Cert.SsdBwdIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2)
      ∧ r.2.mem ((c.tc : Thread Cert.Swiglu.nD Cert.Swiglu.τ).loc Cert.Swiglu.main_arg3) = m ((c.tc : Thread Cert.Swiglu.nD Cert.Swiglu.τ).loc Cert.Swiglu.main_arg3))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
      ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3))
      ∧ r.2.sem = fun _ => 0)

def quiescent_SwigluIdeal_pre_swiglu_finite [hSwigluIdeal : Cert.SwigluIdeal.Facts] [hPre_swiglu_finite : Cert.Pre_swiglu_finite.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal_swiglu_finite m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
      ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3))
      ∧ r.2.sem = fun _ => 0)

def quiescent_SwigluReferenceIdeal [hSwigluReferenceIdeal : Cert.SwigluReferenceIdeal.Facts] : Prop :=
  ∀ (m : (ℓ : Loc Cert.SwigluReferenceIdeal.nD Cert.SwigluReferenceIdeal.τ Cert.SwigluReferenceIdeal.sig) → Buf (Elt Ideal) ℓ) (g : Dev Cert.SwigluReferenceIdeal.nD → PrngReg), Pre_SwigluReferenceIdeal m →
    θ_run (Cert.SwigluReferenceIdeal.defs (F := Ideal)) (onTc (τ := Cert.SwigluReferenceIdeal.τ) (Cert.SwigluReferenceIdeal.main (F := Ideal))) ⟨m, fun _ => 0, g⟩ (fun r => (∀ c : Dev Cert.SwigluReferenceIdeal.nD,
      r.2.mem ((c.tc : Thread Cert.SwigluReferenceIdeal.nD Cert.SwigluReferenceIdeal.τ).loc Cert.SwigluReferenceIdeal.main_arg0) = m ((c.tc : Thread Cert.SwigluReferenceIdeal.nD Cert.SwigluReferenceIdeal.τ).loc Cert.SwigluReferenceIdeal.main_arg0)
      ∧ r.2.mem ((c.tc : Thread Cert.SwigluReferenceIdeal.nD Cert.SwigluReferenceIdeal.τ).loc Cert.SwigluReferenceIdeal.main_arg1) = m ((c.tc : Thread Cert.SwigluReferenceIdeal.nD Cert.SwigluReferenceIdeal.τ).loc Cert.SwigluReferenceIdeal.main_arg1)
      ∧ r.2.mem ((c.tc : Thread Cert.SwigluReferenceIdeal.nD Cert.SwigluReferenceIdeal.τ).loc Cert.SwigluReferenceIdeal.main_arg2) = m ((c.tc : Thread Cert.SwigluReferenceIdeal.nD Cert.SwigluReferenceIdeal.τ).loc Cert.SwigluReferenceIdeal.main_arg2)
      ∧ r.2.mem ((c.tc : Thread Cert.SwigluReferenceIdeal.nD Cert.SwigluReferenceIdeal.τ).loc Cert.SwigluReferenceIdeal.main_arg3) = m ((c.tc : Thread Cert.SwigluReferenceIdeal.nD Cert.SwigluReferenceIdeal.τ).loc Cert.SwigluReferenceIdeal.main_arg3))
      ∧ r.2.sem = fun _ => 0)

def quiescent_SwigluReferenceIdeal_pre_swiglu_finite [hSwigluReferenceIdeal : Cert.SwigluReferenceIdeal.Facts] [hPre_swiglu_finite : Cert.Pre_swiglu_finite.Facts] : Prop :=
  ∀ (m : (ℓ : Loc Cert.SwigluReferenceIdeal.nD Cert.SwigluReferenceIdeal.τ Cert.SwigluReferenceIdeal.sig) → Buf (Elt Ideal) ℓ) (g : Dev Cert.SwigluReferenceIdeal.nD → PrngReg), Pre_SwigluReferenceIdeal_swiglu_finite m →
    θ_run (Cert.SwigluReferenceIdeal.defs (F := Ideal)) (onTc (τ := Cert.SwigluReferenceIdeal.τ) (Cert.SwigluReferenceIdeal.main (F := Ideal))) ⟨m, fun _ => 0, g⟩ (fun r => (∀ c : Dev Cert.SwigluReferenceIdeal.nD,
      r.2.mem ((c.tc : Thread Cert.SwigluReferenceIdeal.nD Cert.SwigluReferenceIdeal.τ).loc Cert.SwigluReferenceIdeal.main_arg0) = m ((c.tc : Thread Cert.SwigluReferenceIdeal.nD Cert.SwigluReferenceIdeal.τ).loc Cert.SwigluReferenceIdeal.main_arg0)
      ∧ r.2.mem ((c.tc : Thread Cert.SwigluReferenceIdeal.nD Cert.SwigluReferenceIdeal.τ).loc Cert.SwigluReferenceIdeal.main_arg1) = m ((c.tc : Thread Cert.SwigluReferenceIdeal.nD Cert.SwigluReferenceIdeal.τ).loc Cert.SwigluReferenceIdeal.main_arg1)
      ∧ r.2.mem ((c.tc : Thread Cert.SwigluReferenceIdeal.nD Cert.SwigluReferenceIdeal.τ).loc Cert.SwigluReferenceIdeal.main_arg2) = m ((c.tc : Thread Cert.SwigluReferenceIdeal.nD Cert.SwigluReferenceIdeal.τ).loc Cert.SwigluReferenceIdeal.main_arg2)
      ∧ r.2.mem ((c.tc : Thread Cert.SwigluReferenceIdeal.nD Cert.SwigluReferenceIdeal.τ).loc Cert.SwigluReferenceIdeal.main_arg3) = m ((c.tc : Thread Cert.SwigluReferenceIdeal.nD Cert.SwigluReferenceIdeal.τ).loc Cert.SwigluReferenceIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4)
      ∧ r.2.mem ((c.tc : Thread Cert.GateReferenceIdeal.nD Cert.GateReferenceIdeal.τ).loc Cert.GateReferenceIdeal.main_arg5) = m ((c.tc : Thread Cert.GateReferenceIdeal.nD Cert.GateReferenceIdeal.τ).loc Cert.GateReferenceIdeal.main_arg5))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormIdeal_pre_norm_finite [hNormIdeal : Cert.NormIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg), Pre_NormIdeal_norm_finite m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_NormReferenceIdeal_pre_norm_finite [hNormReferenceIdeal : Cert.NormReferenceIdeal.Facts] [hPre_norm_finite : Cert.Pre_norm_finite.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal_norm_finite m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownReferenceIdeal [hDwDownReferenceIdeal : Cert.DwDownReferenceIdeal.Facts] : Prop :=
  ∀ (m : (ℓ : Loc Cert.DwDownReferenceIdeal.nD Cert.DwDownReferenceIdeal.τ Cert.DwDownReferenceIdeal.sig) → Buf (Elt Ideal) ℓ) (g : Dev Cert.DwDownReferenceIdeal.nD → PrngReg), Pre_DwDownReferenceIdeal m →
    θ_run (Cert.DwDownReferenceIdeal.defs (F := Ideal)) (onTc (τ := Cert.DwDownReferenceIdeal.τ) (Cert.DwDownReferenceIdeal.main (F := Ideal))) ⟨m, fun _ => 0, g⟩ (fun r => (∀ c : Dev Cert.DwDownReferenceIdeal.nD,
      r.2.mem ((c.tc : Thread Cert.DwDownReferenceIdeal.nD Cert.DwDownReferenceIdeal.τ).loc Cert.DwDownReferenceIdeal.main_arg0) = m ((c.tc : Thread Cert.DwDownReferenceIdeal.nD Cert.DwDownReferenceIdeal.τ).loc Cert.DwDownReferenceIdeal.main_arg0)
      ∧ r.2.mem ((c.tc : Thread Cert.DwDownReferenceIdeal.nD Cert.DwDownReferenceIdeal.τ).loc Cert.DwDownReferenceIdeal.main_arg1) = m ((c.tc : Thread Cert.DwDownReferenceIdeal.nD Cert.DwDownReferenceIdeal.τ).loc Cert.DwDownReferenceIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInReferenceIdeal [hDwInReferenceIdeal : Cert.DwInReferenceIdeal.Facts] : Prop :=
  ∀ (m : (ℓ : Loc Cert.DwInReferenceIdeal.nD Cert.DwInReferenceIdeal.τ Cert.DwInReferenceIdeal.sig) → Buf (Elt Ideal) ℓ) (g : Dev Cert.DwInReferenceIdeal.nD → PrngReg), Pre_DwInReferenceIdeal m →
    θ_run (Cert.DwInReferenceIdeal.defs (F := Ideal)) (onTc (τ := Cert.DwInReferenceIdeal.τ) (Cert.DwInReferenceIdeal.main (F := Ideal))) ⟨m, fun _ => 0, g⟩ (fun r => (∀ c : Dev Cert.DwInReferenceIdeal.nD,
      r.2.mem ((c.tc : Thread Cert.DwInReferenceIdeal.nD Cert.DwInReferenceIdeal.τ).loc Cert.DwInReferenceIdeal.main_arg0) = m ((c.tc : Thread Cert.DwInReferenceIdeal.nD Cert.DwInReferenceIdeal.τ).loc Cert.DwInReferenceIdeal.main_arg0)
      ∧ r.2.mem ((c.tc : Thread Cert.DwInReferenceIdeal.nD Cert.DwInReferenceIdeal.τ).loc Cert.DwInReferenceIdeal.main_arg1) = m ((c.tc : Thread Cert.DwInReferenceIdeal.nD Cert.DwInReferenceIdeal.τ).loc Cert.DwInReferenceIdeal.main_arg1))
      ∧ r.2.sem = fun _ => 0)

def quiescent_DxGate [hDxGate : Cert.DxGate.Facts] : Prop :=
  ∀ (m : (ℓ : Loc Cert.DxGate.nD Cert.DxGate.τ Cert.DxGate.sig) → Buf (Elt Bits) ℓ) (g : Dev Cert.DxGate.nD → PrngReg), Pre_DxGate m →
    θ_run (Cert.DxGate.defs (F := Bits)) (onTc (τ := Cert.DxGate.τ) (Cert.DxGate.main (F := Bits))) ⟨m, fun _ => 0, g⟩ (fun r => (∀ c : Dev Cert.DxGate.nD,
      r.2.mem ((c.tc : Thread Cert.DxGate.nD Cert.DxGate.τ).loc Cert.DxGate.main_arg0) = m ((c.tc : Thread Cert.DxGate.nD Cert.DxGate.τ).loc Cert.DxGate.main_arg0)
      ∧ r.2.mem ((c.tc : Thread Cert.DxGate.nD Cert.DxGate.τ).loc Cert.DxGate.main_arg1) = m ((c.tc : Thread Cert.DxGate.nD Cert.DxGate.τ).loc Cert.DxGate.main_arg1)
      ∧ r.2.mem ((c.tc : Thread Cert.DxGate.nD Cert.DxGate.τ).loc Cert.DxGate.main_arg2) = m ((c.tc : Thread Cert.DxGate.nD Cert.DxGate.τ).loc Cert.DxGate.main_arg2))
      ∧ r.2.sem = fun _ => 0)

def quiescent_DxGateIdeal [hDxGateIdeal : Cert.DxGateIdeal.Facts] : Prop :=
  ∀ (m : (ℓ : Loc Cert.DxGateIdeal.nD Cert.DxGateIdeal.τ Cert.DxGateIdeal.sig) → Buf (Elt Ideal) ℓ) (g : Dev Cert.DxGateIdeal.nD → PrngReg), Pre_DxGateIdeal m →
    θ_run (Cert.DxGateIdeal.defs (F := Ideal)) (onTc (τ := Cert.DxGateIdeal.τ) (Cert.DxGateIdeal.main (F := Ideal))) ⟨m, fun _ => 0, g⟩ (fun r => (∀ c : Dev Cert.DxGateIdeal.nD,
      r.2.mem ((c.tc : Thread Cert.DxGateIdeal.nD Cert.DxGateIdeal.τ).loc Cert.DxGateIdeal.main_arg0) = m ((c.tc : Thread Cert.DxGateIdeal.nD Cert.DxGateIdeal.τ).loc Cert.DxGateIdeal.main_arg0)
      ∧ r.2.mem ((c.tc : Thread Cert.DxGateIdeal.nD Cert.DxGateIdeal.τ).loc Cert.DxGateIdeal.main_arg1) = m ((c.tc : Thread Cert.DxGateIdeal.nD Cert.DxGateIdeal.τ).loc Cert.DxGateIdeal.main_arg1)
      ∧ r.2.mem ((c.tc : Thread Cert.DxGateIdeal.nD Cert.DxGateIdeal.τ).loc Cert.DxGateIdeal.main_arg2) = m ((c.tc : Thread Cert.DxGateIdeal.nD Cert.DxGateIdeal.τ).loc Cert.DxGateIdeal.main_arg2))
      ∧ r.2.sem = fun _ => 0)

def quiescent_DxGateReferenceIdeal [hDxGateReferenceIdeal : Cert.DxGateReferenceIdeal.Facts] : Prop :=
  ∀ (m : (ℓ : Loc Cert.DxGateReferenceIdeal.nD Cert.DxGateReferenceIdeal.τ Cert.DxGateReferenceIdeal.sig) → Buf (Elt Ideal) ℓ) (g : Dev Cert.DxGateReferenceIdeal.nD → PrngReg), Pre_DxGateReferenceIdeal m →
    θ_run (Cert.DxGateReferenceIdeal.defs (F := Ideal)) (onTc (τ := Cert.DxGateReferenceIdeal.τ) (Cert.DxGateReferenceIdeal.main (F := Ideal))) ⟨m, fun _ => 0, g⟩ (fun r => (∀ c : Dev Cert.DxGateReferenceIdeal.nD,
      r.2.mem ((c.tc : Thread Cert.DxGateReferenceIdeal.nD Cert.DxGateReferenceIdeal.τ).loc Cert.DxGateReferenceIdeal.main_arg0) = m ((c.tc : Thread Cert.DxGateReferenceIdeal.nD Cert.DxGateReferenceIdeal.τ).loc Cert.DxGateReferenceIdeal.main_arg0)
      ∧ r.2.mem ((c.tc : Thread Cert.DxGateReferenceIdeal.nD Cert.DxGateReferenceIdeal.τ).loc Cert.DxGateReferenceIdeal.main_arg1) = m ((c.tc : Thread Cert.DxGateReferenceIdeal.nD Cert.DxGateReferenceIdeal.τ).loc Cert.DxGateReferenceIdeal.main_arg1)
      ∧ r.2.mem ((c.tc : Thread Cert.DxGateReferenceIdeal.nD Cert.DxGateReferenceIdeal.τ).loc Cert.DxGateReferenceIdeal.main_arg2) = m ((c.tc : Thread Cert.DxGateReferenceIdeal.nD Cert.DxGateReferenceIdeal.τ).loc Cert.DxGateReferenceIdeal.main_arg2))
      ∧ r.2.sem = fun _ => 0)

def quiescent_DxUp [hDxUp : Cert.DxUp.Facts] : Prop :=
  ∀ (m : (ℓ : Loc Cert.DxUp.nD Cert.DxUp.τ Cert.DxUp.sig) → Buf (Elt Bits) ℓ) (g : Dev Cert.DxUp.nD → PrngReg), Pre_DxUp m →
    θ_run (Cert.DxUp.defs (F := Bits)) (onTc (τ := Cert.DxUp.τ) (Cert.DxUp.main (F := Bits))) ⟨m, fun _ => 0, g⟩ (fun r => (∀ c : Dev Cert.DxUp.nD,
      r.2.mem ((c.tc : Thread Cert.DxUp.nD Cert.DxUp.τ).loc Cert.DxUp.main_arg0) = m ((c.tc : Thread Cert.DxUp.nD Cert.DxUp.τ).loc Cert.DxUp.main_arg0)
      ∧ r.2.mem ((c.tc : Thread Cert.DxUp.nD Cert.DxUp.τ).loc Cert.DxUp.main_arg1) = m ((c.tc : Thread Cert.DxUp.nD Cert.DxUp.τ).loc Cert.DxUp.main_arg1)
      ∧ r.2.mem ((c.tc : Thread Cert.DxUp.nD Cert.DxUp.τ).loc Cert.DxUp.main_arg2) = m ((c.tc : Thread Cert.DxUp.nD Cert.DxUp.τ).loc Cert.DxUp.main_arg2))
      ∧ r.2.sem = fun _ => 0)

def quiescent_DxUpIdeal [hDxUpIdeal : Cert.DxUpIdeal.Facts] : Prop :=
  ∀ (m : (ℓ : Loc Cert.DxUpIdeal.nD Cert.DxUpIdeal.τ Cert.DxUpIdeal.sig) → Buf (Elt Ideal) ℓ) (g : Dev Cert.DxUpIdeal.nD → PrngReg), Pre_DxUpIdeal m →
    θ_run (Cert.DxUpIdeal.defs (F := Ideal)) (onTc (τ := Cert.DxUpIdeal.τ) (Cert.DxUpIdeal.main (F := Ideal))) ⟨m, fun _ => 0, g⟩ (fun r => (∀ c : Dev Cert.DxUpIdeal.nD,
      r.2.mem ((c.tc : Thread Cert.DxUpIdeal.nD Cert.DxUpIdeal.τ).loc Cert.DxUpIdeal.main_arg0) = m ((c.tc : Thread Cert.DxUpIdeal.nD Cert.DxUpIdeal.τ).loc Cert.DxUpIdeal.main_arg0)
      ∧ r.2.mem ((c.tc : Thread Cert.DxUpIdeal.nD Cert.DxUpIdeal.τ).loc Cert.DxUpIdeal.main_arg1) = m ((c.tc : Thread Cert.DxUpIdeal.nD Cert.DxUpIdeal.τ).loc Cert.DxUpIdeal.main_arg1)
      ∧ r.2.mem ((c.tc : Thread Cert.DxUpIdeal.nD Cert.DxUpIdeal.τ).loc Cert.DxUpIdeal.main_arg2) = m ((c.tc : Thread Cert.DxUpIdeal.nD Cert.DxUpIdeal.τ).loc Cert.DxUpIdeal.main_arg2))
      ∧ r.2.sem = fun _ => 0)

def quiescent_DxUpReferenceIdeal [hDxUpReferenceIdeal : Cert.DxUpReferenceIdeal.Facts] : Prop :=
  ∀ (m : (ℓ : Loc Cert.DxUpReferenceIdeal.nD Cert.DxUpReferenceIdeal.τ Cert.DxUpReferenceIdeal.sig) → Buf (Elt Ideal) ℓ) (g : Dev Cert.DxUpReferenceIdeal.nD → PrngReg), Pre_DxUpReferenceIdeal m →
    θ_run (Cert.DxUpReferenceIdeal.defs (F := Ideal)) (onTc (τ := Cert.DxUpReferenceIdeal.τ) (Cert.DxUpReferenceIdeal.main (F := Ideal))) ⟨m, fun _ => 0, g⟩ (fun r => (∀ c : Dev Cert.DxUpReferenceIdeal.nD,
      r.2.mem ((c.tc : Thread Cert.DxUpReferenceIdeal.nD Cert.DxUpReferenceIdeal.τ).loc Cert.DxUpReferenceIdeal.main_arg0) = m ((c.tc : Thread Cert.DxUpReferenceIdeal.nD Cert.DxUpReferenceIdeal.τ).loc Cert.DxUpReferenceIdeal.main_arg0)
      ∧ r.2.mem ((c.tc : Thread Cert.DxUpReferenceIdeal.nD Cert.DxUpReferenceIdeal.τ).loc Cert.DxUpReferenceIdeal.main_arg1) = m ((c.tc : Thread Cert.DxUpReferenceIdeal.nD Cert.DxUpReferenceIdeal.τ).loc Cert.DxUpReferenceIdeal.main_arg1)
      ∧ r.2.mem ((c.tc : Thread Cert.DxUpReferenceIdeal.nD Cert.DxUpReferenceIdeal.τ).loc Cert.DxUpReferenceIdeal.main_arg2) = m ((c.tc : Thread Cert.DxUpReferenceIdeal.nD Cert.DxUpReferenceIdeal.τ).loc Cert.DxUpReferenceIdeal.main_arg2))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInReferenceIdeal [hFfnInReferenceIdeal : Cert.FfnInReferenceIdeal.Facts] : Prop :=
  ∀ (m : (ℓ : Loc Cert.FfnInReferenceIdeal.nD Cert.FfnInReferenceIdeal.τ Cert.FfnInReferenceIdeal.sig) → Buf (Elt Ideal) ℓ) (g : Dev Cert.FfnInReferenceIdeal.nD → PrngReg), Pre_FfnInReferenceIdeal m →
    θ_run (Cert.FfnInReferenceIdeal.defs (F := Ideal)) (onTc (τ := Cert.FfnInReferenceIdeal.τ) (Cert.FfnInReferenceIdeal.main (F := Ideal))) ⟨m, fun _ => 0, g⟩ (fun r => (∀ c : Dev Cert.FfnInReferenceIdeal.nD,
      r.2.mem ((c.tc : Thread Cert.FfnInReferenceIdeal.nD Cert.FfnInReferenceIdeal.τ).loc Cert.FfnInReferenceIdeal.main_arg0) = m ((c.tc : Thread Cert.FfnInReferenceIdeal.nD Cert.FfnInReferenceIdeal.τ).loc Cert.FfnInReferenceIdeal.main_arg0)
      ∧ r.2.mem ((c.tc : Thread Cert.FfnInReferenceIdeal.nD Cert.FfnInReferenceIdeal.τ).loc Cert.FfnInReferenceIdeal.main_arg1) = m ((c.tc : Thread Cert.FfnInReferenceIdeal.nD Cert.FfnInReferenceIdeal.τ).loc Cert.FfnInReferenceIdeal.main_arg1))
      ∧ r.2.sem = fun _ => 0)

def quiescent_DwSsd [hDwSsd : Cert.DwSsd.Facts] : Prop :=
  ∀ (m : (ℓ : Loc Cert.DwSsd.nD Cert.DwSsd.τ Cert.DwSsd.sig) → Buf (Elt Bits) ℓ) (g : Dev Cert.DwSsd.nD → PrngReg), Pre_DwSsd m →
    θ_run (Cert.DwSsd.defs (F := Bits)) (onTc (τ := Cert.DwSsd.τ) (Cert.DwSsd.main (F := Bits))) ⟨m, fun _ => 0, g⟩ (fun r => (∀ c : Dev Cert.DwSsd.nD,
      r.2.mem ((c.tc : Thread Cert.DwSsd.nD Cert.DwSsd.τ).loc Cert.DwSsd.main_arg0) = m ((c.tc : Thread Cert.DwSsd.nD Cert.DwSsd.τ).loc Cert.DwSsd.main_arg0)
      ∧ r.2.mem ((c.tc : Thread Cert.DwSsd.nD Cert.DwSsd.τ).loc Cert.DwSsd.main_arg1) = m ((c.tc : Thread Cert.DwSsd.nD Cert.DwSsd.τ).loc Cert.DwSsd.main_arg1))
      ∧ r.2.sem = fun _ => 0)

def quiescent_DwSsdIdeal [hDwSsdIdeal : Cert.DwSsdIdeal.Facts] : Prop :=
  ∀ (m : (ℓ : Loc Cert.DwSsdIdeal.nD Cert.DwSsdIdeal.τ Cert.DwSsdIdeal.sig) → Buf (Elt Ideal) ℓ) (g : Dev Cert.DwSsdIdeal.nD → PrngReg), Pre_DwSsdIdeal m →
    θ_run (Cert.DwSsdIdeal.defs (F := Ideal)) (onTc (τ := Cert.DwSsdIdeal.τ) (Cert.DwSsdIdeal.main (F := Ideal))) ⟨m, fun _ => 0, g⟩ (fun r => (∀ c : Dev Cert.DwSsdIdeal.nD,
      r.2.mem ((c.tc : Thread Cert.DwSsdIdeal.nD Cert.DwSsdIdeal.τ).loc Cert.DwSsdIdeal.main_arg0) = m ((c.tc : Thread Cert.DwSsdIdeal.nD Cert.DwSsdIdeal.τ).loc Cert.DwSsdIdeal.main_arg0)
      ∧ r.2.mem ((c.tc : Thread Cert.DwSsdIdeal.nD Cert.DwSsdIdeal.τ).loc Cert.DwSsdIdeal.main_arg1) = m ((c.tc : Thread Cert.DwSsdIdeal.nD Cert.DwSsdIdeal.τ).loc Cert.DwSsdIdeal.main_arg1))
      ∧ r.2.sem = fun _ => 0)

def quiescent_DwSsdReferenceIdeal [hDwSsdReferenceIdeal : Cert.DwSsdReferenceIdeal.Facts] : Prop :=
  ∀ (m : (ℓ : Loc Cert.DwSsdReferenceIdeal.nD Cert.DwSsdReferenceIdeal.τ Cert.DwSsdReferenceIdeal.sig) → Buf (Elt Ideal) ℓ) (g : Dev Cert.DwSsdReferenceIdeal.nD → PrngReg), Pre_DwSsdReferenceIdeal m →
    θ_run (Cert.DwSsdReferenceIdeal.defs (F := Ideal)) (onTc (τ := Cert.DwSsdReferenceIdeal.τ) (Cert.DwSsdReferenceIdeal.main (F := Ideal))) ⟨m, fun _ => 0, g⟩ (fun r => (∀ c : Dev Cert.DwSsdReferenceIdeal.nD,
      r.2.mem ((c.tc : Thread Cert.DwSsdReferenceIdeal.nD Cert.DwSsdReferenceIdeal.τ).loc Cert.DwSsdReferenceIdeal.main_arg0) = m ((c.tc : Thread Cert.DwSsdReferenceIdeal.nD Cert.DwSsdReferenceIdeal.τ).loc Cert.DwSsdReferenceIdeal.main_arg0)
      ∧ r.2.mem ((c.tc : Thread Cert.DwSsdReferenceIdeal.nD Cert.DwSsdReferenceIdeal.τ).loc Cert.DwSsdReferenceIdeal.main_arg1) = m ((c.tc : Thread Cert.DwSsdReferenceIdeal.nD Cert.DwSsdReferenceIdeal.τ).loc Cert.DwSsdReferenceIdeal.main_arg1))
      ∧ r.2.sem = fun _ => 0)

def quiescent_DwLru [hDwLru : Cert.DwLru.Facts] : Prop :=
  ∀ (m : (ℓ : Loc Cert.DwLru.nD Cert.DwLru.τ Cert.DwLru.sig) → Buf (Elt Bits) ℓ) (g : Dev Cert.DwLru.nD → PrngReg), Pre_DwLru m →
    θ_run (Cert.DwLru.defs (F := Bits)) (onTc (τ := Cert.DwLru.τ) (Cert.DwLru.main (F := Bits))) ⟨m, fun _ => 0, g⟩ (fun r => (∀ c : Dev Cert.DwLru.nD,
      r.2.mem ((c.tc : Thread Cert.DwLru.nD Cert.DwLru.τ).loc Cert.DwLru.main_arg0) = m ((c.tc : Thread Cert.DwLru.nD Cert.DwLru.τ).loc Cert.DwLru.main_arg0)
      ∧ r.2.mem ((c.tc : Thread Cert.DwLru.nD Cert.DwLru.τ).loc Cert.DwLru.main_arg1) = m ((c.tc : Thread Cert.DwLru.nD Cert.DwLru.τ).loc Cert.DwLru.main_arg1))
      ∧ r.2.sem = fun _ => 0)

def quiescent_DwLruIdeal [hDwLruIdeal : Cert.DwLruIdeal.Facts] : Prop :=
  ∀ (m : (ℓ : Loc Cert.DwLruIdeal.nD Cert.DwLruIdeal.τ Cert.DwLruIdeal.sig) → Buf (Elt Ideal) ℓ) (g : Dev Cert.DwLruIdeal.nD → PrngReg), Pre_DwLruIdeal m →
    θ_run (Cert.DwLruIdeal.defs (F := Ideal)) (onTc (τ := Cert.DwLruIdeal.τ) (Cert.DwLruIdeal.main (F := Ideal))) ⟨m, fun _ => 0, g⟩ (fun r => (∀ c : Dev Cert.DwLruIdeal.nD,
      r.2.mem ((c.tc : Thread Cert.DwLruIdeal.nD Cert.DwLruIdeal.τ).loc Cert.DwLruIdeal.main_arg0) = m ((c.tc : Thread Cert.DwLruIdeal.nD Cert.DwLruIdeal.τ).loc Cert.DwLruIdeal.main_arg0)
      ∧ r.2.mem ((c.tc : Thread Cert.DwLruIdeal.nD Cert.DwLruIdeal.τ).loc Cert.DwLruIdeal.main_arg1) = m ((c.tc : Thread Cert.DwLruIdeal.nD Cert.DwLruIdeal.τ).loc Cert.DwLruIdeal.main_arg1))
      ∧ r.2.sem = fun _ => 0)

def quiescent_DwLruReferenceIdeal [hDwLruReferenceIdeal : Cert.DwLruReferenceIdeal.Facts] : Prop :=
  ∀ (m : (ℓ : Loc Cert.DwLruReferenceIdeal.nD Cert.DwLruReferenceIdeal.τ Cert.DwLruReferenceIdeal.sig) → Buf (Elt Ideal) ℓ) (g : Dev Cert.DwLruReferenceIdeal.nD → PrngReg), Pre_DwLruReferenceIdeal m →
    θ_run (Cert.DwLruReferenceIdeal.defs (F := Ideal)) (onTc (τ := Cert.DwLruReferenceIdeal.τ) (Cert.DwLruReferenceIdeal.main (F := Ideal))) ⟨m, fun _ => 0, g⟩ (fun r => (∀ c : Dev Cert.DwLruReferenceIdeal.nD,
      r.2.mem ((c.tc : Thread Cert.DwLruReferenceIdeal.nD Cert.DwLruReferenceIdeal.τ).loc Cert.DwLruReferenceIdeal.main_arg0) = m ((c.tc : Thread Cert.DwLruReferenceIdeal.nD Cert.DwLruReferenceIdeal.τ).loc Cert.DwLruReferenceIdeal.main_arg0)
      ∧ r.2.mem ((c.tc : Thread Cert.DwLruReferenceIdeal.nD Cert.DwLruReferenceIdeal.τ).loc Cert.DwLruReferenceIdeal.main_arg1) = m ((c.tc : Thread Cert.DwLruReferenceIdeal.nD Cert.DwLruReferenceIdeal.τ).loc Cert.DwLruReferenceIdeal.main_arg1))
      ∧ r.2.sem = fun _ => 0)

def quiescent_DwGl [hDwGl : Cert.DwGl.Facts] : Prop :=
  ∀ (m : (ℓ : Loc Cert.DwGl.nD Cert.DwGl.τ Cert.DwGl.sig) → Buf (Elt Bits) ℓ) (g : Dev Cert.DwGl.nD → PrngReg), Pre_DwGl m →
    θ_run (Cert.DwGl.defs (F := Bits)) (onTc (τ := Cert.DwGl.τ) (Cert.DwGl.main (F := Bits))) ⟨m, fun _ => 0, g⟩ (fun r => (∀ c : Dev Cert.DwGl.nD,
      r.2.mem ((c.tc : Thread Cert.DwGl.nD Cert.DwGl.τ).loc Cert.DwGl.main_arg0) = m ((c.tc : Thread Cert.DwGl.nD Cert.DwGl.τ).loc Cert.DwGl.main_arg0)
      ∧ r.2.mem ((c.tc : Thread Cert.DwGl.nD Cert.DwGl.τ).loc Cert.DwGl.main_arg1) = m ((c.tc : Thread Cert.DwGl.nD Cert.DwGl.τ).loc Cert.DwGl.main_arg1))
      ∧ r.2.sem = fun _ => 0)

def quiescent_DwGlIdeal [hDwGlIdeal : Cert.DwGlIdeal.Facts] : Prop :=
  ∀ (m : (ℓ : Loc Cert.DwGlIdeal.nD Cert.DwGlIdeal.τ Cert.DwGlIdeal.sig) → Buf (Elt Ideal) ℓ) (g : Dev Cert.DwGlIdeal.nD → PrngReg), Pre_DwGlIdeal m →
    θ_run (Cert.DwGlIdeal.defs (F := Ideal)) (onTc (τ := Cert.DwGlIdeal.τ) (Cert.DwGlIdeal.main (F := Ideal))) ⟨m, fun _ => 0, g⟩ (fun r => (∀ c : Dev Cert.DwGlIdeal.nD,
      r.2.mem ((c.tc : Thread Cert.DwGlIdeal.nD Cert.DwGlIdeal.τ).loc Cert.DwGlIdeal.main_arg0) = m ((c.tc : Thread Cert.DwGlIdeal.nD Cert.DwGlIdeal.τ).loc Cert.DwGlIdeal.main_arg0)
      ∧ r.2.mem ((c.tc : Thread Cert.DwGlIdeal.nD Cert.DwGlIdeal.τ).loc Cert.DwGlIdeal.main_arg1) = m ((c.tc : Thread Cert.DwGlIdeal.nD Cert.DwGlIdeal.τ).loc Cert.DwGlIdeal.main_arg1))
      ∧ r.2.sem = fun _ => 0)

def quiescent_DwGlReferenceIdeal [hDwGlReferenceIdeal : Cert.DwGlReferenceIdeal.Facts] : Prop :=
  ∀ (m : (ℓ : Loc Cert.DwGlReferenceIdeal.nD Cert.DwGlReferenceIdeal.τ Cert.DwGlReferenceIdeal.sig) → Buf (Elt Ideal) ℓ) (g : Dev Cert.DwGlReferenceIdeal.nD → PrngReg), Pre_DwGlReferenceIdeal m →
    θ_run (Cert.DwGlReferenceIdeal.defs (F := Ideal)) (onTc (τ := Cert.DwGlReferenceIdeal.τ) (Cert.DwGlReferenceIdeal.main (F := Ideal))) ⟨m, fun _ => 0, g⟩ (fun r => (∀ c : Dev Cert.DwGlReferenceIdeal.nD,
      r.2.mem ((c.tc : Thread Cert.DwGlReferenceIdeal.nD Cert.DwGlReferenceIdeal.τ).loc Cert.DwGlReferenceIdeal.main_arg0) = m ((c.tc : Thread Cert.DwGlReferenceIdeal.nD Cert.DwGlReferenceIdeal.τ).loc Cert.DwGlReferenceIdeal.main_arg0)
      ∧ r.2.mem ((c.tc : Thread Cert.DwGlReferenceIdeal.nD Cert.DwGlReferenceIdeal.τ).loc Cert.DwGlReferenceIdeal.main_arg1) = m ((c.tc : Thread Cert.DwGlReferenceIdeal.nD Cert.DwGlReferenceIdeal.τ).loc Cert.DwGlReferenceIdeal.main_arg1))
      ∧ r.2.sem = fun _ => 0)

def quiescent_DwQ [hDwQ : Cert.DwQ.Facts] : Prop :=
  ∀ (m : (ℓ : Loc Cert.DwQ.nD Cert.DwQ.τ Cert.DwQ.sig) → Buf (Elt Bits) ℓ) (g : Dev Cert.DwQ.nD → PrngReg), Pre_DwQ m →
    θ_run (Cert.DwQ.defs (F := Bits)) (onTc (τ := Cert.DwQ.τ) (Cert.DwQ.main (F := Bits))) ⟨m, fun _ => 0, g⟩ (fun r => (∀ c : Dev Cert.DwQ.nD,
      r.2.mem ((c.tc : Thread Cert.DwQ.nD Cert.DwQ.τ).loc Cert.DwQ.main_arg0) = m ((c.tc : Thread Cert.DwQ.nD Cert.DwQ.τ).loc Cert.DwQ.main_arg0)
      ∧ r.2.mem ((c.tc : Thread Cert.DwQ.nD Cert.DwQ.τ).loc Cert.DwQ.main_arg1) = m ((c.tc : Thread Cert.DwQ.nD Cert.DwQ.τ).loc Cert.DwQ.main_arg1))
      ∧ r.2.sem = fun _ => 0)

def quiescent_DwQIdeal [hDwQIdeal : Cert.DwQIdeal.Facts] : Prop :=
  ∀ (m : (ℓ : Loc Cert.DwQIdeal.nD Cert.DwQIdeal.τ Cert.DwQIdeal.sig) → Buf (Elt Ideal) ℓ) (g : Dev Cert.DwQIdeal.nD → PrngReg), Pre_DwQIdeal m →
    θ_run (Cert.DwQIdeal.defs (F := Ideal)) (onTc (τ := Cert.DwQIdeal.τ) (Cert.DwQIdeal.main (F := Ideal))) ⟨m, fun _ => 0, g⟩ (fun r => (∀ c : Dev Cert.DwQIdeal.nD,
      r.2.mem ((c.tc : Thread Cert.DwQIdeal.nD Cert.DwQIdeal.τ).loc Cert.DwQIdeal.main_arg0) = m ((c.tc : Thread Cert.DwQIdeal.nD Cert.DwQIdeal.τ).loc Cert.DwQIdeal.main_arg0)
      ∧ r.2.mem ((c.tc : Thread Cert.DwQIdeal.nD Cert.DwQIdeal.τ).loc Cert.DwQIdeal.main_arg1) = m ((c.tc : Thread Cert.DwQIdeal.nD Cert.DwQIdeal.τ).loc Cert.DwQIdeal.main_arg1))
      ∧ r.2.sem = fun _ => 0)

def quiescent_DwQReferenceIdeal [hDwQReferenceIdeal : Cert.DwQReferenceIdeal.Facts] : Prop :=
  ∀ (m : (ℓ : Loc Cert.DwQReferenceIdeal.nD Cert.DwQReferenceIdeal.τ Cert.DwQReferenceIdeal.sig) → Buf (Elt Ideal) ℓ) (g : Dev Cert.DwQReferenceIdeal.nD → PrngReg), Pre_DwQReferenceIdeal m →
    θ_run (Cert.DwQReferenceIdeal.defs (F := Ideal)) (onTc (τ := Cert.DwQReferenceIdeal.τ) (Cert.DwQReferenceIdeal.main (F := Ideal))) ⟨m, fun _ => 0, g⟩ (fun r => (∀ c : Dev Cert.DwQReferenceIdeal.nD,
      r.2.mem ((c.tc : Thread Cert.DwQReferenceIdeal.nD Cert.DwQReferenceIdeal.τ).loc Cert.DwQReferenceIdeal.main_arg0) = m ((c.tc : Thread Cert.DwQReferenceIdeal.nD Cert.DwQReferenceIdeal.τ).loc Cert.DwQReferenceIdeal.main_arg0)
      ∧ r.2.mem ((c.tc : Thread Cert.DwQReferenceIdeal.nD Cert.DwQReferenceIdeal.τ).loc Cert.DwQReferenceIdeal.main_arg1) = m ((c.tc : Thread Cert.DwQReferenceIdeal.nD Cert.DwQReferenceIdeal.τ).loc Cert.DwQReferenceIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutReferenceIdeal [hDwOutReferenceIdeal : Cert.DwOutReferenceIdeal.Facts] : Prop :=
  ∀ (m : (ℓ : Loc Cert.DwOutReferenceIdeal.nD Cert.DwOutReferenceIdeal.τ Cert.DwOutReferenceIdeal.sig) → Buf (Elt Ideal) ℓ) (g : Dev Cert.DwOutReferenceIdeal.nD → PrngReg), Pre_DwOutReferenceIdeal m →
    θ_run (Cert.DwOutReferenceIdeal.defs (F := Ideal)) (onTc (τ := Cert.DwOutReferenceIdeal.τ) (Cert.DwOutReferenceIdeal.main (F := Ideal))) ⟨m, fun _ => 0, g⟩ (fun r => (∀ c : Dev Cert.DwOutReferenceIdeal.nD,
      r.2.mem ((c.tc : Thread Cert.DwOutReferenceIdeal.nD Cert.DwOutReferenceIdeal.τ).loc Cert.DwOutReferenceIdeal.main_arg0) = m ((c.tc : Thread Cert.DwOutReferenceIdeal.nD Cert.DwOutReferenceIdeal.τ).loc Cert.DwOutReferenceIdeal.main_arg0)
      ∧ r.2.mem ((c.tc : Thread Cert.DwOutReferenceIdeal.nD Cert.DwOutReferenceIdeal.τ).loc Cert.DwOutReferenceIdeal.main_arg1) = m ((c.tc : Thread Cert.DwOutReferenceIdeal.nD Cert.DwOutReferenceIdeal.τ).loc Cert.DwOutReferenceIdeal.main_arg1))
      ∧ r.2.sem = fun _ => 0)

def quiescent_DwBrSsd [hDwBrSsd : Cert.DwBrSsd.Facts] : Prop :=
  ∀ (m : (ℓ : Loc Cert.DwBrSsd.nD Cert.DwBrSsd.τ Cert.DwBrSsd.sig) → Buf (Elt Bits) ℓ) (g : Dev Cert.DwBrSsd.nD → PrngReg), Pre_DwBrSsd m →
    θ_run (Cert.DwBrSsd.defs (F := Bits)) (onTc (τ := Cert.DwBrSsd.τ) (Cert.DwBrSsd.main (F := Bits))) ⟨m, fun _ => 0, g⟩ (fun r => (∀ c : Dev Cert.DwBrSsd.nD,
      r.2.mem ((c.tc : Thread Cert.DwBrSsd.nD Cert.DwBrSsd.τ).loc Cert.DwBrSsd.main_arg0) = m ((c.tc : Thread Cert.DwBrSsd.nD Cert.DwBrSsd.τ).loc Cert.DwBrSsd.main_arg0)
      ∧ r.2.mem ((c.tc : Thread Cert.DwBrSsd.nD Cert.DwBrSsd.τ).loc Cert.DwBrSsd.main_arg1) = m ((c.tc : Thread Cert.DwBrSsd.nD Cert.DwBrSsd.τ).loc Cert.DwBrSsd.main_arg1))
      ∧ r.2.sem = fun _ => 0)

def quiescent_DwBrSsdIdeal [hDwBrSsdIdeal : Cert.DwBrSsdIdeal.Facts] : Prop :=
  ∀ (m : (ℓ : Loc Cert.DwBrSsdIdeal.nD Cert.DwBrSsdIdeal.τ Cert.DwBrSsdIdeal.sig) → Buf (Elt Ideal) ℓ) (g : Dev Cert.DwBrSsdIdeal.nD → PrngReg), Pre_DwBrSsdIdeal m →
    θ_run (Cert.DwBrSsdIdeal.defs (F := Ideal)) (onTc (τ := Cert.DwBrSsdIdeal.τ) (Cert.DwBrSsdIdeal.main (F := Ideal))) ⟨m, fun _ => 0, g⟩ (fun r => (∀ c : Dev Cert.DwBrSsdIdeal.nD,
      r.2.mem ((c.tc : Thread Cert.DwBrSsdIdeal.nD Cert.DwBrSsdIdeal.τ).loc Cert.DwBrSsdIdeal.main_arg0) = m ((c.tc : Thread Cert.DwBrSsdIdeal.nD Cert.DwBrSsdIdeal.τ).loc Cert.DwBrSsdIdeal.main_arg0)
      ∧ r.2.mem ((c.tc : Thread Cert.DwBrSsdIdeal.nD Cert.DwBrSsdIdeal.τ).loc Cert.DwBrSsdIdeal.main_arg1) = m ((c.tc : Thread Cert.DwBrSsdIdeal.nD Cert.DwBrSsdIdeal.τ).loc Cert.DwBrSsdIdeal.main_arg1))
      ∧ r.2.sem = fun _ => 0)

def quiescent_DwBrSsdReferenceIdeal [hDwBrSsdReferenceIdeal : Cert.DwBrSsdReferenceIdeal.Facts] : Prop :=
  ∀ (m : (ℓ : Loc Cert.DwBrSsdReferenceIdeal.nD Cert.DwBrSsdReferenceIdeal.τ Cert.DwBrSsdReferenceIdeal.sig) → Buf (Elt Ideal) ℓ) (g : Dev Cert.DwBrSsdReferenceIdeal.nD → PrngReg), Pre_DwBrSsdReferenceIdeal m →
    θ_run (Cert.DwBrSsdReferenceIdeal.defs (F := Ideal)) (onTc (τ := Cert.DwBrSsdReferenceIdeal.τ) (Cert.DwBrSsdReferenceIdeal.main (F := Ideal))) ⟨m, fun _ => 0, g⟩ (fun r => (∀ c : Dev Cert.DwBrSsdReferenceIdeal.nD,
      r.2.mem ((c.tc : Thread Cert.DwBrSsdReferenceIdeal.nD Cert.DwBrSsdReferenceIdeal.τ).loc Cert.DwBrSsdReferenceIdeal.main_arg0) = m ((c.tc : Thread Cert.DwBrSsdReferenceIdeal.nD Cert.DwBrSsdReferenceIdeal.τ).loc Cert.DwBrSsdReferenceIdeal.main_arg0)
      ∧ r.2.mem ((c.tc : Thread Cert.DwBrSsdReferenceIdeal.nD Cert.DwBrSsdReferenceIdeal.τ).loc Cert.DwBrSsdReferenceIdeal.main_arg1) = m ((c.tc : Thread Cert.DwBrSsdReferenceIdeal.nD Cert.DwBrSsdReferenceIdeal.τ).loc Cert.DwBrSsdReferenceIdeal.main_arg1))
      ∧ r.2.sem = fun _ => 0)

def quiescent_DxSsd [hDxSsd : Cert.DxSsd.Facts] : Prop :=
  ∀ (m : (ℓ : Loc Cert.DxSsd.nD Cert.DxSsd.τ Cert.DxSsd.sig) → Buf (Elt Bits) ℓ) (g : Dev Cert.DxSsd.nD → PrngReg), Pre_DxSsd m →
    θ_run (Cert.DxSsd.defs (F := Bits)) (onTc (τ := Cert.DxSsd.τ) (Cert.DxSsd.main (F := Bits))) ⟨m, fun _ => 0, g⟩ (fun r => (∀ c : Dev Cert.DxSsd.nD,
      r.2.mem ((c.tc : Thread Cert.DxSsd.nD Cert.DxSsd.τ).loc Cert.DxSsd.main_arg0) = m ((c.tc : Thread Cert.DxSsd.nD Cert.DxSsd.τ).loc Cert.DxSsd.main_arg0)
      ∧ r.2.mem ((c.tc : Thread Cert.DxSsd.nD Cert.DxSsd.τ).loc Cert.DxSsd.main_arg1) = m ((c.tc : Thread Cert.DxSsd.nD Cert.DxSsd.τ).loc Cert.DxSsd.main_arg1)
      ∧ r.2.mem ((c.tc : Thread Cert.DxSsd.nD Cert.DxSsd.τ).loc Cert.DxSsd.main_arg2) = m ((c.tc : Thread Cert.DxSsd.nD Cert.DxSsd.τ).loc Cert.DxSsd.main_arg2))
      ∧ r.2.sem = fun _ => 0)

def quiescent_DxSsdIdeal [hDxSsdIdeal : Cert.DxSsdIdeal.Facts] : Prop :=
  ∀ (m : (ℓ : Loc Cert.DxSsdIdeal.nD Cert.DxSsdIdeal.τ Cert.DxSsdIdeal.sig) → Buf (Elt Ideal) ℓ) (g : Dev Cert.DxSsdIdeal.nD → PrngReg), Pre_DxSsdIdeal m →
    θ_run (Cert.DxSsdIdeal.defs (F := Ideal)) (onTc (τ := Cert.DxSsdIdeal.τ) (Cert.DxSsdIdeal.main (F := Ideal))) ⟨m, fun _ => 0, g⟩ (fun r => (∀ c : Dev Cert.DxSsdIdeal.nD,
      r.2.mem ((c.tc : Thread Cert.DxSsdIdeal.nD Cert.DxSsdIdeal.τ).loc Cert.DxSsdIdeal.main_arg0) = m ((c.tc : Thread Cert.DxSsdIdeal.nD Cert.DxSsdIdeal.τ).loc Cert.DxSsdIdeal.main_arg0)
      ∧ r.2.mem ((c.tc : Thread Cert.DxSsdIdeal.nD Cert.DxSsdIdeal.τ).loc Cert.DxSsdIdeal.main_arg1) = m ((c.tc : Thread Cert.DxSsdIdeal.nD Cert.DxSsdIdeal.τ).loc Cert.DxSsdIdeal.main_arg1)
      ∧ r.2.mem ((c.tc : Thread Cert.DxSsdIdeal.nD Cert.DxSsdIdeal.τ).loc Cert.DxSsdIdeal.main_arg2) = m ((c.tc : Thread Cert.DxSsdIdeal.nD Cert.DxSsdIdeal.τ).loc Cert.DxSsdIdeal.main_arg2))
      ∧ r.2.sem = fun _ => 0)

def quiescent_DxSsdReferenceIdeal [hDxSsdReferenceIdeal : Cert.DxSsdReferenceIdeal.Facts] : Prop :=
  ∀ (m : (ℓ : Loc Cert.DxSsdReferenceIdeal.nD Cert.DxSsdReferenceIdeal.τ Cert.DxSsdReferenceIdeal.sig) → Buf (Elt Ideal) ℓ) (g : Dev Cert.DxSsdReferenceIdeal.nD → PrngReg), Pre_DxSsdReferenceIdeal m →
    θ_run (Cert.DxSsdReferenceIdeal.defs (F := Ideal)) (onTc (τ := Cert.DxSsdReferenceIdeal.τ) (Cert.DxSsdReferenceIdeal.main (F := Ideal))) ⟨m, fun _ => 0, g⟩ (fun r => (∀ c : Dev Cert.DxSsdReferenceIdeal.nD,
      r.2.mem ((c.tc : Thread Cert.DxSsdReferenceIdeal.nD Cert.DxSsdReferenceIdeal.τ).loc Cert.DxSsdReferenceIdeal.main_arg0) = m ((c.tc : Thread Cert.DxSsdReferenceIdeal.nD Cert.DxSsdReferenceIdeal.τ).loc Cert.DxSsdReferenceIdeal.main_arg0)
      ∧ r.2.mem ((c.tc : Thread Cert.DxSsdReferenceIdeal.nD Cert.DxSsdReferenceIdeal.τ).loc Cert.DxSsdReferenceIdeal.main_arg1) = m ((c.tc : Thread Cert.DxSsdReferenceIdeal.nD Cert.DxSsdReferenceIdeal.τ).loc Cert.DxSsdReferenceIdeal.main_arg1)
      ∧ r.2.mem ((c.tc : Thread Cert.DxSsdReferenceIdeal.nD Cert.DxSsdReferenceIdeal.τ).loc Cert.DxSsdReferenceIdeal.main_arg2) = m ((c.tc : Thread Cert.DxSsdReferenceIdeal.nD Cert.DxSsdReferenceIdeal.τ).loc Cert.DxSsdReferenceIdeal.main_arg2))
      ∧ r.2.sem = fun _ => 0)

def quiescent_DxLru [hDxLru : Cert.DxLru.Facts] : Prop :=
  ∀ (m : (ℓ : Loc Cert.DxLru.nD Cert.DxLru.τ Cert.DxLru.sig) → Buf (Elt Bits) ℓ) (g : Dev Cert.DxLru.nD → PrngReg), Pre_DxLru m →
    θ_run (Cert.DxLru.defs (F := Bits)) (onTc (τ := Cert.DxLru.τ) (Cert.DxLru.main (F := Bits))) ⟨m, fun _ => 0, g⟩ (fun r => (∀ c : Dev Cert.DxLru.nD,
      r.2.mem ((c.tc : Thread Cert.DxLru.nD Cert.DxLru.τ).loc Cert.DxLru.main_arg0) = m ((c.tc : Thread Cert.DxLru.nD Cert.DxLru.τ).loc Cert.DxLru.main_arg0)
      ∧ r.2.mem ((c.tc : Thread Cert.DxLru.nD Cert.DxLru.τ).loc Cert.DxLru.main_arg1) = m ((c.tc : Thread Cert.DxLru.nD Cert.DxLru.τ).loc Cert.DxLru.main_arg1)
      ∧ r.2.mem ((c.tc : Thread Cert.DxLru.nD Cert.DxLru.τ).loc Cert.DxLru.main_arg2) = m ((c.tc : Thread Cert.DxLru.nD Cert.DxLru.τ).loc Cert.DxLru.main_arg2))
      ∧ r.2.sem = fun _ => 0)

def quiescent_DxLruIdeal [hDxLruIdeal : Cert.DxLruIdeal.Facts] : Prop :=
  ∀ (m : (ℓ : Loc Cert.DxLruIdeal.nD Cert.DxLruIdeal.τ Cert.DxLruIdeal.sig) → Buf (Elt Ideal) ℓ) (g : Dev Cert.DxLruIdeal.nD → PrngReg), Pre_DxLruIdeal m →
    θ_run (Cert.DxLruIdeal.defs (F := Ideal)) (onTc (τ := Cert.DxLruIdeal.τ) (Cert.DxLruIdeal.main (F := Ideal))) ⟨m, fun _ => 0, g⟩ (fun r => (∀ c : Dev Cert.DxLruIdeal.nD,
      r.2.mem ((c.tc : Thread Cert.DxLruIdeal.nD Cert.DxLruIdeal.τ).loc Cert.DxLruIdeal.main_arg0) = m ((c.tc : Thread Cert.DxLruIdeal.nD Cert.DxLruIdeal.τ).loc Cert.DxLruIdeal.main_arg0)
      ∧ r.2.mem ((c.tc : Thread Cert.DxLruIdeal.nD Cert.DxLruIdeal.τ).loc Cert.DxLruIdeal.main_arg1) = m ((c.tc : Thread Cert.DxLruIdeal.nD Cert.DxLruIdeal.τ).loc Cert.DxLruIdeal.main_arg1)
      ∧ r.2.mem ((c.tc : Thread Cert.DxLruIdeal.nD Cert.DxLruIdeal.τ).loc Cert.DxLruIdeal.main_arg2) = m ((c.tc : Thread Cert.DxLruIdeal.nD Cert.DxLruIdeal.τ).loc Cert.DxLruIdeal.main_arg2))
      ∧ r.2.sem = fun _ => 0)

def quiescent_DxLruReferenceIdeal [hDxLruReferenceIdeal : Cert.DxLruReferenceIdeal.Facts] : Prop :=
  ∀ (m : (ℓ : Loc Cert.DxLruReferenceIdeal.nD Cert.DxLruReferenceIdeal.τ Cert.DxLruReferenceIdeal.sig) → Buf (Elt Ideal) ℓ) (g : Dev Cert.DxLruReferenceIdeal.nD → PrngReg), Pre_DxLruReferenceIdeal m →
    θ_run (Cert.DxLruReferenceIdeal.defs (F := Ideal)) (onTc (τ := Cert.DxLruReferenceIdeal.τ) (Cert.DxLruReferenceIdeal.main (F := Ideal))) ⟨m, fun _ => 0, g⟩ (fun r => (∀ c : Dev Cert.DxLruReferenceIdeal.nD,
      r.2.mem ((c.tc : Thread Cert.DxLruReferenceIdeal.nD Cert.DxLruReferenceIdeal.τ).loc Cert.DxLruReferenceIdeal.main_arg0) = m ((c.tc : Thread Cert.DxLruReferenceIdeal.nD Cert.DxLruReferenceIdeal.τ).loc Cert.DxLruReferenceIdeal.main_arg0)
      ∧ r.2.mem ((c.tc : Thread Cert.DxLruReferenceIdeal.nD Cert.DxLruReferenceIdeal.τ).loc Cert.DxLruReferenceIdeal.main_arg1) = m ((c.tc : Thread Cert.DxLruReferenceIdeal.nD Cert.DxLruReferenceIdeal.τ).loc Cert.DxLruReferenceIdeal.main_arg1)
      ∧ r.2.mem ((c.tc : Thread Cert.DxLruReferenceIdeal.nD Cert.DxLruReferenceIdeal.τ).loc Cert.DxLruReferenceIdeal.main_arg2) = m ((c.tc : Thread Cert.DxLruReferenceIdeal.nD Cert.DxLruReferenceIdeal.τ).loc Cert.DxLruReferenceIdeal.main_arg2))
      ∧ r.2.sem = fun _ => 0)

def quiescent_DxGl [hDxGl : Cert.DxGl.Facts] : Prop :=
  ∀ (m : (ℓ : Loc Cert.DxGl.nD Cert.DxGl.τ Cert.DxGl.sig) → Buf (Elt Bits) ℓ) (g : Dev Cert.DxGl.nD → PrngReg), Pre_DxGl m →
    θ_run (Cert.DxGl.defs (F := Bits)) (onTc (τ := Cert.DxGl.τ) (Cert.DxGl.main (F := Bits))) ⟨m, fun _ => 0, g⟩ (fun r => (∀ c : Dev Cert.DxGl.nD,
      r.2.mem ((c.tc : Thread Cert.DxGl.nD Cert.DxGl.τ).loc Cert.DxGl.main_arg0) = m ((c.tc : Thread Cert.DxGl.nD Cert.DxGl.τ).loc Cert.DxGl.main_arg0)
      ∧ r.2.mem ((c.tc : Thread Cert.DxGl.nD Cert.DxGl.τ).loc Cert.DxGl.main_arg1) = m ((c.tc : Thread Cert.DxGl.nD Cert.DxGl.τ).loc Cert.DxGl.main_arg1)
      ∧ r.2.mem ((c.tc : Thread Cert.DxGl.nD Cert.DxGl.τ).loc Cert.DxGl.main_arg2) = m ((c.tc : Thread Cert.DxGl.nD Cert.DxGl.τ).loc Cert.DxGl.main_arg2))
      ∧ r.2.sem = fun _ => 0)

def quiescent_DxGlIdeal [hDxGlIdeal : Cert.DxGlIdeal.Facts] : Prop :=
  ∀ (m : (ℓ : Loc Cert.DxGlIdeal.nD Cert.DxGlIdeal.τ Cert.DxGlIdeal.sig) → Buf (Elt Ideal) ℓ) (g : Dev Cert.DxGlIdeal.nD → PrngReg), Pre_DxGlIdeal m →
    θ_run (Cert.DxGlIdeal.defs (F := Ideal)) (onTc (τ := Cert.DxGlIdeal.τ) (Cert.DxGlIdeal.main (F := Ideal))) ⟨m, fun _ => 0, g⟩ (fun r => (∀ c : Dev Cert.DxGlIdeal.nD,
      r.2.mem ((c.tc : Thread Cert.DxGlIdeal.nD Cert.DxGlIdeal.τ).loc Cert.DxGlIdeal.main_arg0) = m ((c.tc : Thread Cert.DxGlIdeal.nD Cert.DxGlIdeal.τ).loc Cert.DxGlIdeal.main_arg0)
      ∧ r.2.mem ((c.tc : Thread Cert.DxGlIdeal.nD Cert.DxGlIdeal.τ).loc Cert.DxGlIdeal.main_arg1) = m ((c.tc : Thread Cert.DxGlIdeal.nD Cert.DxGlIdeal.τ).loc Cert.DxGlIdeal.main_arg1)
      ∧ r.2.mem ((c.tc : Thread Cert.DxGlIdeal.nD Cert.DxGlIdeal.τ).loc Cert.DxGlIdeal.main_arg2) = m ((c.tc : Thread Cert.DxGlIdeal.nD Cert.DxGlIdeal.τ).loc Cert.DxGlIdeal.main_arg2))
      ∧ r.2.sem = fun _ => 0)

def quiescent_DxGlReferenceIdeal [hDxGlReferenceIdeal : Cert.DxGlReferenceIdeal.Facts] : Prop :=
  ∀ (m : (ℓ : Loc Cert.DxGlReferenceIdeal.nD Cert.DxGlReferenceIdeal.τ Cert.DxGlReferenceIdeal.sig) → Buf (Elt Ideal) ℓ) (g : Dev Cert.DxGlReferenceIdeal.nD → PrngReg), Pre_DxGlReferenceIdeal m →
    θ_run (Cert.DxGlReferenceIdeal.defs (F := Ideal)) (onTc (τ := Cert.DxGlReferenceIdeal.τ) (Cert.DxGlReferenceIdeal.main (F := Ideal))) ⟨m, fun _ => 0, g⟩ (fun r => (∀ c : Dev Cert.DxGlReferenceIdeal.nD,
      r.2.mem ((c.tc : Thread Cert.DxGlReferenceIdeal.nD Cert.DxGlReferenceIdeal.τ).loc Cert.DxGlReferenceIdeal.main_arg0) = m ((c.tc : Thread Cert.DxGlReferenceIdeal.nD Cert.DxGlReferenceIdeal.τ).loc Cert.DxGlReferenceIdeal.main_arg0)
      ∧ r.2.mem ((c.tc : Thread Cert.DxGlReferenceIdeal.nD Cert.DxGlReferenceIdeal.τ).loc Cert.DxGlReferenceIdeal.main_arg1) = m ((c.tc : Thread Cert.DxGlReferenceIdeal.nD Cert.DxGlReferenceIdeal.τ).loc Cert.DxGlReferenceIdeal.main_arg1)
      ∧ r.2.mem ((c.tc : Thread Cert.DxGlReferenceIdeal.nD Cert.DxGlReferenceIdeal.τ).loc Cert.DxGlReferenceIdeal.main_arg2) = m ((c.tc : Thread Cert.DxGlReferenceIdeal.nD Cert.DxGlReferenceIdeal.τ).loc Cert.DxGlReferenceIdeal.main_arg2))
      ∧ r.2.sem = fun _ => 0)

def quiescent_DxQ [hDxQ : Cert.DxQ.Facts] : Prop :=
  ∀ (m : (ℓ : Loc Cert.DxQ.nD Cert.DxQ.τ Cert.DxQ.sig) → Buf (Elt Bits) ℓ) (g : Dev Cert.DxQ.nD → PrngReg), Pre_DxQ m →
    θ_run (Cert.DxQ.defs (F := Bits)) (onTc (τ := Cert.DxQ.τ) (Cert.DxQ.main (F := Bits))) ⟨m, fun _ => 0, g⟩ (fun r => (∀ c : Dev Cert.DxQ.nD,
      r.2.mem ((c.tc : Thread Cert.DxQ.nD Cert.DxQ.τ).loc Cert.DxQ.main_arg0) = m ((c.tc : Thread Cert.DxQ.nD Cert.DxQ.τ).loc Cert.DxQ.main_arg0)
      ∧ r.2.mem ((c.tc : Thread Cert.DxQ.nD Cert.DxQ.τ).loc Cert.DxQ.main_arg1) = m ((c.tc : Thread Cert.DxQ.nD Cert.DxQ.τ).loc Cert.DxQ.main_arg1)
      ∧ r.2.mem ((c.tc : Thread Cert.DxQ.nD Cert.DxQ.τ).loc Cert.DxQ.main_arg2) = m ((c.tc : Thread Cert.DxQ.nD Cert.DxQ.τ).loc Cert.DxQ.main_arg2))
      ∧ r.2.sem = fun _ => 0)

def quiescent_DxQIdeal [hDxQIdeal : Cert.DxQIdeal.Facts] : Prop :=
  ∀ (m : (ℓ : Loc Cert.DxQIdeal.nD Cert.DxQIdeal.τ Cert.DxQIdeal.sig) → Buf (Elt Ideal) ℓ) (g : Dev Cert.DxQIdeal.nD → PrngReg), Pre_DxQIdeal m →
    θ_run (Cert.DxQIdeal.defs (F := Ideal)) (onTc (τ := Cert.DxQIdeal.τ) (Cert.DxQIdeal.main (F := Ideal))) ⟨m, fun _ => 0, g⟩ (fun r => (∀ c : Dev Cert.DxQIdeal.nD,
      r.2.mem ((c.tc : Thread Cert.DxQIdeal.nD Cert.DxQIdeal.τ).loc Cert.DxQIdeal.main_arg0) = m ((c.tc : Thread Cert.DxQIdeal.nD Cert.DxQIdeal.τ).loc Cert.DxQIdeal.main_arg0)
      ∧ r.2.mem ((c.tc : Thread Cert.DxQIdeal.nD Cert.DxQIdeal.τ).loc Cert.DxQIdeal.main_arg1) = m ((c.tc : Thread Cert.DxQIdeal.nD Cert.DxQIdeal.τ).loc Cert.DxQIdeal.main_arg1)
      ∧ r.2.mem ((c.tc : Thread Cert.DxQIdeal.nD Cert.DxQIdeal.τ).loc Cert.DxQIdeal.main_arg2) = m ((c.tc : Thread Cert.DxQIdeal.nD Cert.DxQIdeal.τ).loc Cert.DxQIdeal.main_arg2))
      ∧ r.2.sem = fun _ => 0)

def quiescent_DxQReferenceIdeal [hDxQReferenceIdeal : Cert.DxQReferenceIdeal.Facts] : Prop :=
  ∀ (m : (ℓ : Loc Cert.DxQReferenceIdeal.nD Cert.DxQReferenceIdeal.τ Cert.DxQReferenceIdeal.sig) → Buf (Elt Ideal) ℓ) (g : Dev Cert.DxQReferenceIdeal.nD → PrngReg), Pre_DxQReferenceIdeal m →
    θ_run (Cert.DxQReferenceIdeal.defs (F := Ideal)) (onTc (τ := Cert.DxQReferenceIdeal.τ) (Cert.DxQReferenceIdeal.main (F := Ideal))) ⟨m, fun _ => 0, g⟩ (fun r => (∀ c : Dev Cert.DxQReferenceIdeal.nD,
      r.2.mem ((c.tc : Thread Cert.DxQReferenceIdeal.nD Cert.DxQReferenceIdeal.τ).loc Cert.DxQReferenceIdeal.main_arg0) = m ((c.tc : Thread Cert.DxQReferenceIdeal.nD Cert.DxQReferenceIdeal.τ).loc Cert.DxQReferenceIdeal.main_arg0)
      ∧ r.2.mem ((c.tc : Thread Cert.DxQReferenceIdeal.nD Cert.DxQReferenceIdeal.τ).loc Cert.DxQReferenceIdeal.main_arg1) = m ((c.tc : Thread Cert.DxQReferenceIdeal.nD Cert.DxQReferenceIdeal.τ).loc Cert.DxQReferenceIdeal.main_arg1)
      ∧ r.2.mem ((c.tc : Thread Cert.DxQReferenceIdeal.nD Cert.DxQReferenceIdeal.τ).loc Cert.DxQReferenceIdeal.main_arg2) = m ((c.tc : Thread Cert.DxQReferenceIdeal.nD Cert.DxQReferenceIdeal.τ).loc Cert.DxQReferenceIdeal.main_arg2))
      ∧ r.2.sem = fun _ => 0)

def quiescent_DMerged [hDMerged : Cert.DMerged.Facts] : Prop :=
  ∀ (m : (ℓ : Loc Cert.DMerged.nD Cert.DMerged.τ Cert.DMerged.sig) → Buf (Elt Bits) ℓ) (g : Dev Cert.DMerged.nD → PrngReg), Pre_DMerged m →
    θ_run (Cert.DMerged.defs (F := Bits)) (onTc (τ := Cert.DMerged.τ) (Cert.DMerged.main (F := Bits))) ⟨m, fun _ => 0, g⟩ (fun r => (∀ c : Dev Cert.DMerged.nD,
      r.2.mem ((c.tc : Thread Cert.DMerged.nD Cert.DMerged.τ).loc Cert.DMerged.main_arg0) = m ((c.tc : Thread Cert.DMerged.nD Cert.DMerged.τ).loc Cert.DMerged.main_arg0)
      ∧ r.2.mem ((c.tc : Thread Cert.DMerged.nD Cert.DMerged.τ).loc Cert.DMerged.main_arg1) = m ((c.tc : Thread Cert.DMerged.nD Cert.DMerged.τ).loc Cert.DMerged.main_arg1))
      ∧ r.2.sem = fun _ => 0)

def quiescent_DMergedIdeal [hDMergedIdeal : Cert.DMergedIdeal.Facts] : Prop :=
  ∀ (m : (ℓ : Loc Cert.DMergedIdeal.nD Cert.DMergedIdeal.τ Cert.DMergedIdeal.sig) → Buf (Elt Ideal) ℓ) (g : Dev Cert.DMergedIdeal.nD → PrngReg), Pre_DMergedIdeal m →
    θ_run (Cert.DMergedIdeal.defs (F := Ideal)) (onTc (τ := Cert.DMergedIdeal.τ) (Cert.DMergedIdeal.main (F := Ideal))) ⟨m, fun _ => 0, g⟩ (fun r => (∀ c : Dev Cert.DMergedIdeal.nD,
      r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
      ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1))
      ∧ r.2.sem = fun _ => 0)

def quiescent_DMergedReferenceIdeal [hDMergedReferenceIdeal : Cert.DMergedReferenceIdeal.Facts] : Prop :=
  ∀ (m : (ℓ : Loc Cert.DMergedReferenceIdeal.nD Cert.DMergedReferenceIdeal.τ Cert.DMergedReferenceIdeal.sig) → Buf (Elt Ideal) ℓ) (g : Dev Cert.DMergedReferenceIdeal.nD → PrngReg), Pre_DMergedReferenceIdeal m →
    θ_run (Cert.DMergedReferenceIdeal.defs (F := Ideal)) (onTc (τ := Cert.DMergedReferenceIdeal.τ) (Cert.DMergedReferenceIdeal.main (F := Ideal))) ⟨m, fun _ => 0, g⟩ (fun r => (∀ c : Dev Cert.DMergedReferenceIdeal.nD,
      r.2.mem ((c.tc : Thread Cert.DMergedReferenceIdeal.nD Cert.DMergedReferenceIdeal.τ).loc Cert.DMergedReferenceIdeal.main_arg0) = m ((c.tc : Thread Cert.DMergedReferenceIdeal.nD Cert.DMergedReferenceIdeal.τ).loc Cert.DMergedReferenceIdeal.main_arg0)
      ∧ r.2.mem ((c.tc : Thread Cert.DMergedReferenceIdeal.nD Cert.DMergedReferenceIdeal.τ).loc Cert.DMergedReferenceIdeal.main_arg1) = m ((c.tc : Thread Cert.DMergedReferenceIdeal.nD Cert.DMergedReferenceIdeal.τ).loc Cert.DMergedReferenceIdeal.main_arg1))
      ∧ r.2.sem = fun _ => 0)

def quiescent_DyLru [hDyLru : Cert.DyLru.Facts] : Prop :=
  ∀ (m : (ℓ : Loc Cert.DyLru.nD Cert.DyLru.τ Cert.DyLru.sig) → Buf (Elt Bits) ℓ) (g : Dev Cert.DyLru.nD → PrngReg), Pre_DyLru m →
    θ_run (Cert.DyLru.defs (F := Bits)) (onTc (τ := Cert.DyLru.τ) (Cert.DyLru.main (F := Bits))) ⟨m, fun _ => 0, g⟩ (fun r => (∀ c : Dev Cert.DyLru.nD,
      r.2.mem ((c.tc : Thread Cert.DyLru.nD Cert.DyLru.τ).loc Cert.DyLru.main_arg0) = m ((c.tc : Thread Cert.DyLru.nD Cert.DyLru.τ).loc Cert.DyLru.main_arg0)
      ∧ r.2.mem ((c.tc : Thread Cert.DyLru.nD Cert.DyLru.τ).loc Cert.DyLru.main_arg1) = m ((c.tc : Thread Cert.DyLru.nD Cert.DyLru.τ).loc Cert.DyLru.main_arg1))
      ∧ r.2.sem = fun _ => 0)

def quiescent_DyLruIdeal [hDyLruIdeal : Cert.DyLruIdeal.Facts] : Prop :=
  ∀ (m : (ℓ : Loc Cert.DyLruIdeal.nD Cert.DyLruIdeal.τ Cert.DyLruIdeal.sig) → Buf (Elt Ideal) ℓ) (g : Dev Cert.DyLruIdeal.nD → PrngReg), Pre_DyLruIdeal m →
    θ_run (Cert.DyLruIdeal.defs (F := Ideal)) (onTc (τ := Cert.DyLruIdeal.τ) (Cert.DyLruIdeal.main (F := Ideal))) ⟨m, fun _ => 0, g⟩ (fun r => (∀ c : Dev Cert.DyLruIdeal.nD,
      r.2.mem ((c.tc : Thread Cert.DyLruIdeal.nD Cert.DyLruIdeal.τ).loc Cert.DyLruIdeal.main_arg0) = m ((c.tc : Thread Cert.DyLruIdeal.nD Cert.DyLruIdeal.τ).loc Cert.DyLruIdeal.main_arg0)
      ∧ r.2.mem ((c.tc : Thread Cert.DyLruIdeal.nD Cert.DyLruIdeal.τ).loc Cert.DyLruIdeal.main_arg1) = m ((c.tc : Thread Cert.DyLruIdeal.nD Cert.DyLruIdeal.τ).loc Cert.DyLruIdeal.main_arg1))
      ∧ r.2.sem = fun _ => 0)

def quiescent_DyLruReferenceIdeal [hDyLruReferenceIdeal : Cert.DyLruReferenceIdeal.Facts] : Prop :=
  ∀ (m : (ℓ : Loc Cert.DyLruReferenceIdeal.nD Cert.DyLruReferenceIdeal.τ Cert.DyLruReferenceIdeal.sig) → Buf (Elt Ideal) ℓ) (g : Dev Cert.DyLruReferenceIdeal.nD → PrngReg), Pre_DyLruReferenceIdeal m →
    θ_run (Cert.DyLruReferenceIdeal.defs (F := Ideal)) (onTc (τ := Cert.DyLruReferenceIdeal.τ) (Cert.DyLruReferenceIdeal.main (F := Ideal))) ⟨m, fun _ => 0, g⟩ (fun r => (∀ c : Dev Cert.DyLruReferenceIdeal.nD,
      r.2.mem ((c.tc : Thread Cert.DyLruReferenceIdeal.nD Cert.DyLruReferenceIdeal.τ).loc Cert.DyLruReferenceIdeal.main_arg0) = m ((c.tc : Thread Cert.DyLruReferenceIdeal.nD Cert.DyLruReferenceIdeal.τ).loc Cert.DyLruReferenceIdeal.main_arg0)
      ∧ r.2.mem ((c.tc : Thread Cert.DyLruReferenceIdeal.nD Cert.DyLruReferenceIdeal.τ).loc Cert.DyLruReferenceIdeal.main_arg1) = m ((c.tc : Thread Cert.DyLruReferenceIdeal.nD Cert.DyLruReferenceIdeal.τ).loc Cert.DyLruReferenceIdeal.main_arg1))
      ∧ r.2.sem = fun _ => 0)

def quiescent_DySsd [hDySsd : Cert.DySsd.Facts] : Prop :=
  ∀ (m : (ℓ : Loc Cert.DySsd.nD Cert.DySsd.τ Cert.DySsd.sig) → Buf (Elt Bits) ℓ) (g : Dev Cert.DySsd.nD → PrngReg), Pre_DySsd m →
    θ_run (Cert.DySsd.defs (F := Bits)) (onTc (τ := Cert.DySsd.τ) (Cert.DySsd.main (F := Bits))) ⟨m, fun _ => 0, g⟩ (fun r => (∀ c : Dev Cert.DySsd.nD,
      r.2.mem ((c.tc : Thread Cert.DySsd.nD Cert.DySsd.τ).loc Cert.DySsd.main_arg0) = m ((c.tc : Thread Cert.DySsd.nD Cert.DySsd.τ).loc Cert.DySsd.main_arg0)
      ∧ r.2.mem ((c.tc : Thread Cert.DySsd.nD Cert.DySsd.τ).loc Cert.DySsd.main_arg1) = m ((c.tc : Thread Cert.DySsd.nD Cert.DySsd.τ).loc Cert.DySsd.main_arg1))
      ∧ r.2.sem = fun _ => 0)

def quiescent_DySsdIdeal [hDySsdIdeal : Cert.DySsdIdeal.Facts] : Prop :=
  ∀ (m : (ℓ : Loc Cert.DySsdIdeal.nD Cert.DySsdIdeal.τ Cert.DySsdIdeal.sig) → Buf (Elt Ideal) ℓ) (g : Dev Cert.DySsdIdeal.nD → PrngReg), Pre_DySsdIdeal m →
    θ_run (Cert.DySsdIdeal.defs (F := Ideal)) (onTc (τ := Cert.DySsdIdeal.τ) (Cert.DySsdIdeal.main (F := Ideal))) ⟨m, fun _ => 0, g⟩ (fun r => (∀ c : Dev Cert.DySsdIdeal.nD,
      r.2.mem ((c.tc : Thread Cert.DySsdIdeal.nD Cert.DySsdIdeal.τ).loc Cert.DySsdIdeal.main_arg0) = m ((c.tc : Thread Cert.DySsdIdeal.nD Cert.DySsdIdeal.τ).loc Cert.DySsdIdeal.main_arg0)
      ∧ r.2.mem ((c.tc : Thread Cert.DySsdIdeal.nD Cert.DySsdIdeal.τ).loc Cert.DySsdIdeal.main_arg1) = m ((c.tc : Thread Cert.DySsdIdeal.nD Cert.DySsdIdeal.τ).loc Cert.DySsdIdeal.main_arg1))
      ∧ r.2.sem = fun _ => 0)

def quiescent_DySsdReferenceIdeal [hDySsdReferenceIdeal : Cert.DySsdReferenceIdeal.Facts] : Prop :=
  ∀ (m : (ℓ : Loc Cert.DySsdReferenceIdeal.nD Cert.DySsdReferenceIdeal.τ Cert.DySsdReferenceIdeal.sig) → Buf (Elt Ideal) ℓ) (g : Dev Cert.DySsdReferenceIdeal.nD → PrngReg), Pre_DySsdReferenceIdeal m →
    θ_run (Cert.DySsdReferenceIdeal.defs (F := Ideal)) (onTc (τ := Cert.DySsdReferenceIdeal.τ) (Cert.DySsdReferenceIdeal.main (F := Ideal))) ⟨m, fun _ => 0, g⟩ (fun r => (∀ c : Dev Cert.DySsdReferenceIdeal.nD,
      r.2.mem ((c.tc : Thread Cert.DySsdReferenceIdeal.nD Cert.DySsdReferenceIdeal.τ).loc Cert.DySsdReferenceIdeal.main_arg0) = m ((c.tc : Thread Cert.DySsdReferenceIdeal.nD Cert.DySsdReferenceIdeal.τ).loc Cert.DySsdReferenceIdeal.main_arg0)
      ∧ r.2.mem ((c.tc : Thread Cert.DySsdReferenceIdeal.nD Cert.DySsdReferenceIdeal.τ).loc Cert.DySsdReferenceIdeal.main_arg1) = m ((c.tc : Thread Cert.DySsdReferenceIdeal.nD Cert.DySsdReferenceIdeal.τ).loc Cert.DySsdReferenceIdeal.main_arg1))
      ∧ r.2.sem = fun _ => 0)

def quiescent_DyXa [hDyXa : Cert.DyXa.Facts] : Prop :=
  ∀ (m : (ℓ : Loc Cert.DyXa.nD Cert.DyXa.τ Cert.DyXa.sig) → Buf (Elt Bits) ℓ) (g : Dev Cert.DyXa.nD → PrngReg), Pre_DyXa m →
    θ_run (Cert.DyXa.defs (F := Bits)) (onTc (τ := Cert.DyXa.τ) (Cert.DyXa.main (F := Bits))) ⟨m, fun _ => 0, g⟩ (fun r => (∀ c : Dev Cert.DyXa.nD,
      r.2.mem ((c.tc : Thread Cert.DyXa.nD Cert.DyXa.τ).loc Cert.DyXa.main_arg0) = m ((c.tc : Thread Cert.DyXa.nD Cert.DyXa.τ).loc Cert.DyXa.main_arg0)
      ∧ r.2.mem ((c.tc : Thread Cert.DyXa.nD Cert.DyXa.τ).loc Cert.DyXa.main_arg1) = m ((c.tc : Thread Cert.DyXa.nD Cert.DyXa.τ).loc Cert.DyXa.main_arg1))
      ∧ r.2.sem = fun _ => 0)

def quiescent_DyXaIdeal [hDyXaIdeal : Cert.DyXaIdeal.Facts] : Prop :=
  ∀ (m : (ℓ : Loc Cert.DyXaIdeal.nD Cert.DyXaIdeal.τ Cert.DyXaIdeal.sig) → Buf (Elt Ideal) ℓ) (g : Dev Cert.DyXaIdeal.nD → PrngReg), Pre_DyXaIdeal m →
    θ_run (Cert.DyXaIdeal.defs (F := Ideal)) (onTc (τ := Cert.DyXaIdeal.τ) (Cert.DyXaIdeal.main (F := Ideal))) ⟨m, fun _ => 0, g⟩ (fun r => (∀ c : Dev Cert.DyXaIdeal.nD,
      r.2.mem ((c.tc : Thread Cert.DyXaIdeal.nD Cert.DyXaIdeal.τ).loc Cert.DyXaIdeal.main_arg0) = m ((c.tc : Thread Cert.DyXaIdeal.nD Cert.DyXaIdeal.τ).loc Cert.DyXaIdeal.main_arg0)
      ∧ r.2.mem ((c.tc : Thread Cert.DyXaIdeal.nD Cert.DyXaIdeal.τ).loc Cert.DyXaIdeal.main_arg1) = m ((c.tc : Thread Cert.DyXaIdeal.nD Cert.DyXaIdeal.τ).loc Cert.DyXaIdeal.main_arg1))
      ∧ r.2.sem = fun _ => 0)

def quiescent_DyXaReferenceIdeal [hDyXaReferenceIdeal : Cert.DyXaReferenceIdeal.Facts] : Prop :=
  ∀ (m : (ℓ : Loc Cert.DyXaReferenceIdeal.nD Cert.DyXaReferenceIdeal.τ Cert.DyXaReferenceIdeal.sig) → Buf (Elt Ideal) ℓ) (g : Dev Cert.DyXaReferenceIdeal.nD → PrngReg), Pre_DyXaReferenceIdeal m →
    θ_run (Cert.DyXaReferenceIdeal.defs (F := Ideal)) (onTc (τ := Cert.DyXaReferenceIdeal.τ) (Cert.DyXaReferenceIdeal.main (F := Ideal))) ⟨m, fun _ => 0, g⟩ (fun r => (∀ c : Dev Cert.DyXaReferenceIdeal.nD,
      r.2.mem ((c.tc : Thread Cert.DyXaReferenceIdeal.nD Cert.DyXaReferenceIdeal.τ).loc Cert.DyXaReferenceIdeal.main_arg0) = m ((c.tc : Thread Cert.DyXaReferenceIdeal.nD Cert.DyXaReferenceIdeal.τ).loc Cert.DyXaReferenceIdeal.main_arg0)
      ∧ r.2.mem ((c.tc : Thread Cert.DyXaReferenceIdeal.nD Cert.DyXaReferenceIdeal.τ).loc Cert.DyXaReferenceIdeal.main_arg1) = m ((c.tc : Thread Cert.DyXaReferenceIdeal.nD Cert.DyXaReferenceIdeal.τ).loc Cert.DyXaReferenceIdeal.main_arg1))
      ∧ r.2.sem = fun _ => 0)

def quiescent_ProjSsd [hProjSsd : Cert.ProjSsd.Facts] : Prop :=
  ∀ (m : (ℓ : Loc Cert.ProjSsd.nD Cert.ProjSsd.τ Cert.ProjSsd.sig) → Buf (Elt Bits) ℓ) (g : Dev Cert.ProjSsd.nD → PrngReg), Pre_ProjSsd m →
    θ_run (Cert.ProjSsd.defs (F := Bits)) (onTc (τ := Cert.ProjSsd.τ) (Cert.ProjSsd.main (F := Bits))) ⟨m, fun _ => 0, g⟩ (fun r => (∀ c : Dev Cert.ProjSsd.nD,
      r.2.mem ((c.tc : Thread Cert.ProjSsd.nD Cert.ProjSsd.τ).loc Cert.ProjSsd.main_arg0) = m ((c.tc : Thread Cert.ProjSsd.nD Cert.ProjSsd.τ).loc Cert.ProjSsd.main_arg0)
      ∧ r.2.mem ((c.tc : Thread Cert.ProjSsd.nD Cert.ProjSsd.τ).loc Cert.ProjSsd.main_arg1) = m ((c.tc : Thread Cert.ProjSsd.nD Cert.ProjSsd.τ).loc Cert.ProjSsd.main_arg1))
      ∧ r.2.sem = fun _ => 0)

def quiescent_ProjSsdIdeal [hProjSsdIdeal : Cert.ProjSsdIdeal.Facts] : Prop :=
  ∀ (m : (ℓ : Loc Cert.ProjSsdIdeal.nD Cert.ProjSsdIdeal.τ Cert.ProjSsdIdeal.sig) → Buf (Elt Ideal) ℓ) (g : Dev Cert.ProjSsdIdeal.nD → PrngReg), Pre_ProjSsdIdeal m →
    θ_run (Cert.ProjSsdIdeal.defs (F := Ideal)) (onTc (τ := Cert.ProjSsdIdeal.τ) (Cert.ProjSsdIdeal.main (F := Ideal))) ⟨m, fun _ => 0, g⟩ (fun r => (∀ c : Dev Cert.ProjSsdIdeal.nD,
      r.2.mem ((c.tc : Thread Cert.ProjSsdIdeal.nD Cert.ProjSsdIdeal.τ).loc Cert.ProjSsdIdeal.main_arg0) = m ((c.tc : Thread Cert.ProjSsdIdeal.nD Cert.ProjSsdIdeal.τ).loc Cert.ProjSsdIdeal.main_arg0)
      ∧ r.2.mem ((c.tc : Thread Cert.ProjSsdIdeal.nD Cert.ProjSsdIdeal.τ).loc Cert.ProjSsdIdeal.main_arg1) = m ((c.tc : Thread Cert.ProjSsdIdeal.nD Cert.ProjSsdIdeal.τ).loc Cert.ProjSsdIdeal.main_arg1))
      ∧ r.2.sem = fun _ => 0)

def quiescent_ProjSsdReferenceIdeal [hProjSsdReferenceIdeal : Cert.ProjSsdReferenceIdeal.Facts] : Prop :=
  ∀ (m : (ℓ : Loc Cert.ProjSsdReferenceIdeal.nD Cert.ProjSsdReferenceIdeal.τ Cert.ProjSsdReferenceIdeal.sig) → Buf (Elt Ideal) ℓ) (g : Dev Cert.ProjSsdReferenceIdeal.nD → PrngReg), Pre_ProjSsdReferenceIdeal m →
    θ_run (Cert.ProjSsdReferenceIdeal.defs (F := Ideal)) (onTc (τ := Cert.ProjSsdReferenceIdeal.τ) (Cert.ProjSsdReferenceIdeal.main (F := Ideal))) ⟨m, fun _ => 0, g⟩ (fun r => (∀ c : Dev Cert.ProjSsdReferenceIdeal.nD,
      r.2.mem ((c.tc : Thread Cert.ProjSsdReferenceIdeal.nD Cert.ProjSsdReferenceIdeal.τ).loc Cert.ProjSsdReferenceIdeal.main_arg0) = m ((c.tc : Thread Cert.ProjSsdReferenceIdeal.nD Cert.ProjSsdReferenceIdeal.τ).loc Cert.ProjSsdReferenceIdeal.main_arg0)
      ∧ r.2.mem ((c.tc : Thread Cert.ProjSsdReferenceIdeal.nD Cert.ProjSsdReferenceIdeal.τ).loc Cert.ProjSsdReferenceIdeal.main_arg1) = m ((c.tc : Thread Cert.ProjSsdReferenceIdeal.nD Cert.ProjSsdReferenceIdeal.τ).loc Cert.ProjSsdReferenceIdeal.main_arg1))
      ∧ r.2.sem = fun _ => 0)

def quiescent_ProjLru [hProjLru : Cert.ProjLru.Facts] : Prop :=
  ∀ (m : (ℓ : Loc Cert.ProjLru.nD Cert.ProjLru.τ Cert.ProjLru.sig) → Buf (Elt Bits) ℓ) (g : Dev Cert.ProjLru.nD → PrngReg), Pre_ProjLru m →
    θ_run (Cert.ProjLru.defs (F := Bits)) (onTc (τ := Cert.ProjLru.τ) (Cert.ProjLru.main (F := Bits))) ⟨m, fun _ => 0, g⟩ (fun r => (∀ c : Dev Cert.ProjLru.nD,
      r.2.mem ((c.tc : Thread Cert.ProjLru.nD Cert.ProjLru.τ).loc Cert.ProjLru.main_arg0) = m ((c.tc : Thread Cert.ProjLru.nD Cert.ProjLru.τ).loc Cert.ProjLru.main_arg0)
      ∧ r.2.mem ((c.tc : Thread Cert.ProjLru.nD Cert.ProjLru.τ).loc Cert.ProjLru.main_arg1) = m ((c.tc : Thread Cert.ProjLru.nD Cert.ProjLru.τ).loc Cert.ProjLru.main_arg1))
      ∧ r.2.sem = fun _ => 0)

def quiescent_ProjLruIdeal [hProjLruIdeal : Cert.ProjLruIdeal.Facts] : Prop :=
  ∀ (m : (ℓ : Loc Cert.ProjLruIdeal.nD Cert.ProjLruIdeal.τ Cert.ProjLruIdeal.sig) → Buf (Elt Ideal) ℓ) (g : Dev Cert.ProjLruIdeal.nD → PrngReg), Pre_ProjLruIdeal m →
    θ_run (Cert.ProjLruIdeal.defs (F := Ideal)) (onTc (τ := Cert.ProjLruIdeal.τ) (Cert.ProjLruIdeal.main (F := Ideal))) ⟨m, fun _ => 0, g⟩ (fun r => (∀ c : Dev Cert.ProjLruIdeal.nD,
      r.2.mem ((c.tc : Thread Cert.ProjLruIdeal.nD Cert.ProjLruIdeal.τ).loc Cert.ProjLruIdeal.main_arg0) = m ((c.tc : Thread Cert.ProjLruIdeal.nD Cert.ProjLruIdeal.τ).loc Cert.ProjLruIdeal.main_arg0)
      ∧ r.2.mem ((c.tc : Thread Cert.ProjLruIdeal.nD Cert.ProjLruIdeal.τ).loc Cert.ProjLruIdeal.main_arg1) = m ((c.tc : Thread Cert.ProjLruIdeal.nD Cert.ProjLruIdeal.τ).loc Cert.ProjLruIdeal.main_arg1))
      ∧ r.2.sem = fun _ => 0)

def quiescent_ProjLruReferenceIdeal [hProjLruReferenceIdeal : Cert.ProjLruReferenceIdeal.Facts] : Prop :=
  ∀ (m : (ℓ : Loc Cert.ProjLruReferenceIdeal.nD Cert.ProjLruReferenceIdeal.τ Cert.ProjLruReferenceIdeal.sig) → Buf (Elt Ideal) ℓ) (g : Dev Cert.ProjLruReferenceIdeal.nD → PrngReg), Pre_ProjLruReferenceIdeal m →
    θ_run (Cert.ProjLruReferenceIdeal.defs (F := Ideal)) (onTc (τ := Cert.ProjLruReferenceIdeal.τ) (Cert.ProjLruReferenceIdeal.main (F := Ideal))) ⟨m, fun _ => 0, g⟩ (fun r => (∀ c : Dev Cert.ProjLruReferenceIdeal.nD,
      r.2.mem ((c.tc : Thread Cert.ProjLruReferenceIdeal.nD Cert.ProjLruReferenceIdeal.τ).loc Cert.ProjLruReferenceIdeal.main_arg0) = m ((c.tc : Thread Cert.ProjLruReferenceIdeal.nD Cert.ProjLruReferenceIdeal.τ).loc Cert.ProjLruReferenceIdeal.main_arg0)
      ∧ r.2.mem ((c.tc : Thread Cert.ProjLruReferenceIdeal.nD Cert.ProjLruReferenceIdeal.τ).loc Cert.ProjLruReferenceIdeal.main_arg1) = m ((c.tc : Thread Cert.ProjLruReferenceIdeal.nD Cert.ProjLruReferenceIdeal.τ).loc Cert.ProjLruReferenceIdeal.main_arg1))
      ∧ r.2.sem = fun _ => 0)

def quiescent_ProjGl [hProjGl : Cert.ProjGl.Facts] : Prop :=
  ∀ (m : (ℓ : Loc Cert.ProjGl.nD Cert.ProjGl.τ Cert.ProjGl.sig) → Buf (Elt Bits) ℓ) (g : Dev Cert.ProjGl.nD → PrngReg), Pre_ProjGl m →
    θ_run (Cert.ProjGl.defs (F := Bits)) (onTc (τ := Cert.ProjGl.τ) (Cert.ProjGl.main (F := Bits))) ⟨m, fun _ => 0, g⟩ (fun r => (∀ c : Dev Cert.ProjGl.nD,
      r.2.mem ((c.tc : Thread Cert.ProjGl.nD Cert.ProjGl.τ).loc Cert.ProjGl.main_arg0) = m ((c.tc : Thread Cert.ProjGl.nD Cert.ProjGl.τ).loc Cert.ProjGl.main_arg0)
      ∧ r.2.mem ((c.tc : Thread Cert.ProjGl.nD Cert.ProjGl.τ).loc Cert.ProjGl.main_arg1) = m ((c.tc : Thread Cert.ProjGl.nD Cert.ProjGl.τ).loc Cert.ProjGl.main_arg1))
      ∧ r.2.sem = fun _ => 0)

def quiescent_ProjGlIdeal [hProjGlIdeal : Cert.ProjGlIdeal.Facts] : Prop :=
  ∀ (m : (ℓ : Loc Cert.ProjGlIdeal.nD Cert.ProjGlIdeal.τ Cert.ProjGlIdeal.sig) → Buf (Elt Ideal) ℓ) (g : Dev Cert.ProjGlIdeal.nD → PrngReg), Pre_ProjGlIdeal m →
    θ_run (Cert.ProjGlIdeal.defs (F := Ideal)) (onTc (τ := Cert.ProjGlIdeal.τ) (Cert.ProjGlIdeal.main (F := Ideal))) ⟨m, fun _ => 0, g⟩ (fun r => (∀ c : Dev Cert.ProjGlIdeal.nD,
      r.2.mem ((c.tc : Thread Cert.ProjGlIdeal.nD Cert.ProjGlIdeal.τ).loc Cert.ProjGlIdeal.main_arg0) = m ((c.tc : Thread Cert.ProjGlIdeal.nD Cert.ProjGlIdeal.τ).loc Cert.ProjGlIdeal.main_arg0)
      ∧ r.2.mem ((c.tc : Thread Cert.ProjGlIdeal.nD Cert.ProjGlIdeal.τ).loc Cert.ProjGlIdeal.main_arg1) = m ((c.tc : Thread Cert.ProjGlIdeal.nD Cert.ProjGlIdeal.τ).loc Cert.ProjGlIdeal.main_arg1))
      ∧ r.2.sem = fun _ => 0)

def quiescent_ProjGlReferenceIdeal [hProjGlReferenceIdeal : Cert.ProjGlReferenceIdeal.Facts] : Prop :=
  ∀ (m : (ℓ : Loc Cert.ProjGlReferenceIdeal.nD Cert.ProjGlReferenceIdeal.τ Cert.ProjGlReferenceIdeal.sig) → Buf (Elt Ideal) ℓ) (g : Dev Cert.ProjGlReferenceIdeal.nD → PrngReg), Pre_ProjGlReferenceIdeal m →
    θ_run (Cert.ProjGlReferenceIdeal.defs (F := Ideal)) (onTc (τ := Cert.ProjGlReferenceIdeal.τ) (Cert.ProjGlReferenceIdeal.main (F := Ideal))) ⟨m, fun _ => 0, g⟩ (fun r => (∀ c : Dev Cert.ProjGlReferenceIdeal.nD,
      r.2.mem ((c.tc : Thread Cert.ProjGlReferenceIdeal.nD Cert.ProjGlReferenceIdeal.τ).loc Cert.ProjGlReferenceIdeal.main_arg0) = m ((c.tc : Thread Cert.ProjGlReferenceIdeal.nD Cert.ProjGlReferenceIdeal.τ).loc Cert.ProjGlReferenceIdeal.main_arg0)
      ∧ r.2.mem ((c.tc : Thread Cert.ProjGlReferenceIdeal.nD Cert.ProjGlReferenceIdeal.τ).loc Cert.ProjGlReferenceIdeal.main_arg1) = m ((c.tc : Thread Cert.ProjGlReferenceIdeal.nD Cert.ProjGlReferenceIdeal.τ).loc Cert.ProjGlReferenceIdeal.main_arg1))
      ∧ r.2.sem = fun _ => 0)

def quiescent_ProjQ [hProjQ : Cert.ProjQ.Facts] : Prop :=
  ∀ (m : (ℓ : Loc Cert.ProjQ.nD Cert.ProjQ.τ Cert.ProjQ.sig) → Buf (Elt Bits) ℓ) (g : Dev Cert.ProjQ.nD → PrngReg), Pre_ProjQ m →
    θ_run (Cert.ProjQ.defs (F := Bits)) (onTc (τ := Cert.ProjQ.τ) (Cert.ProjQ.main (F := Bits))) ⟨m, fun _ => 0, g⟩ (fun r => (∀ c : Dev Cert.ProjQ.nD,
      r.2.mem ((c.tc : Thread Cert.ProjQ.nD Cert.ProjQ.τ).loc Cert.ProjQ.main_arg0) = m ((c.tc : Thread Cert.ProjQ.nD Cert.ProjQ.τ).loc Cert.ProjQ.main_arg0)
      ∧ r.2.mem ((c.tc : Thread Cert.ProjQ.nD Cert.ProjQ.τ).loc Cert.ProjQ.main_arg1) = m ((c.tc : Thread Cert.ProjQ.nD Cert.ProjQ.τ).loc Cert.ProjQ.main_arg1))
      ∧ r.2.sem = fun _ => 0)

def quiescent_ProjQIdeal [hProjQIdeal : Cert.ProjQIdeal.Facts] : Prop :=
  ∀ (m : (ℓ : Loc Cert.ProjQIdeal.nD Cert.ProjQIdeal.τ Cert.ProjQIdeal.sig) → Buf (Elt Ideal) ℓ) (g : Dev Cert.ProjQIdeal.nD → PrngReg), Pre_ProjQIdeal m →
    θ_run (Cert.ProjQIdeal.defs (F := Ideal)) (onTc (τ := Cert.ProjQIdeal.τ) (Cert.ProjQIdeal.main (F := Ideal))) ⟨m, fun _ => 0, g⟩ (fun r => (∀ c : Dev Cert.ProjQIdeal.nD,
      r.2.mem ((c.tc : Thread Cert.ProjQIdeal.nD Cert.ProjQIdeal.τ).loc Cert.ProjQIdeal.main_arg0) = m ((c.tc : Thread Cert.ProjQIdeal.nD Cert.ProjQIdeal.τ).loc Cert.ProjQIdeal.main_arg0)
      ∧ r.2.mem ((c.tc : Thread Cert.ProjQIdeal.nD Cert.ProjQIdeal.τ).loc Cert.ProjQIdeal.main_arg1) = m ((c.tc : Thread Cert.ProjQIdeal.nD Cert.ProjQIdeal.τ).loc Cert.ProjQIdeal.main_arg1))
      ∧ r.2.sem = fun _ => 0)

def quiescent_ProjQReferenceIdeal [hProjQReferenceIdeal : Cert.ProjQReferenceIdeal.Facts] : Prop :=
  ∀ (m : (ℓ : Loc Cert.ProjQReferenceIdeal.nD Cert.ProjQReferenceIdeal.τ Cert.ProjQReferenceIdeal.sig) → Buf (Elt Ideal) ℓ) (g : Dev Cert.ProjQReferenceIdeal.nD → PrngReg), Pre_ProjQReferenceIdeal m →
    θ_run (Cert.ProjQReferenceIdeal.defs (F := Ideal)) (onTc (τ := Cert.ProjQReferenceIdeal.τ) (Cert.ProjQReferenceIdeal.main (F := Ideal))) ⟨m, fun _ => 0, g⟩ (fun r => (∀ c : Dev Cert.ProjQReferenceIdeal.nD,
      r.2.mem ((c.tc : Thread Cert.ProjQReferenceIdeal.nD Cert.ProjQReferenceIdeal.τ).loc Cert.ProjQReferenceIdeal.main_arg0) = m ((c.tc : Thread Cert.ProjQReferenceIdeal.nD Cert.ProjQReferenceIdeal.τ).loc Cert.ProjQReferenceIdeal.main_arg0)
      ∧ r.2.mem ((c.tc : Thread Cert.ProjQReferenceIdeal.nD Cert.ProjQReferenceIdeal.τ).loc Cert.ProjQReferenceIdeal.main_arg1) = m ((c.tc : Thread Cert.ProjQReferenceIdeal.nD Cert.ProjQReferenceIdeal.τ).loc Cert.ProjQReferenceIdeal.main_arg1))
      ∧ r.2.sem = fun _ => 0)

def quiescent_BrSsd [hBrSsd : Cert.BrSsd.Facts] : Prop :=
  ∀ (m : (ℓ : Loc Cert.BrSsd.nD Cert.BrSsd.τ Cert.BrSsd.sig) → Buf (Elt Bits) ℓ) (g : Dev Cert.BrSsd.nD → PrngReg), Pre_BrSsd m →
    θ_run (Cert.BrSsd.defs (F := Bits)) (onTc (τ := Cert.BrSsd.τ) (Cert.BrSsd.main (F := Bits))) ⟨m, fun _ => 0, g⟩ (fun r => (∀ c : Dev Cert.BrSsd.nD,
      r.2.mem ((c.tc : Thread Cert.BrSsd.nD Cert.BrSsd.τ).loc Cert.BrSsd.main_arg0) = m ((c.tc : Thread Cert.BrSsd.nD Cert.BrSsd.τ).loc Cert.BrSsd.main_arg0)
      ∧ r.2.mem ((c.tc : Thread Cert.BrSsd.nD Cert.BrSsd.τ).loc Cert.BrSsd.main_arg1) = m ((c.tc : Thread Cert.BrSsd.nD Cert.BrSsd.τ).loc Cert.BrSsd.main_arg1))
      ∧ r.2.sem = fun _ => 0)

def quiescent_BrSsdIdeal [hBrSsdIdeal : Cert.BrSsdIdeal.Facts] : Prop :=
  ∀ (m : (ℓ : Loc Cert.BrSsdIdeal.nD Cert.BrSsdIdeal.τ Cert.BrSsdIdeal.sig) → Buf (Elt Ideal) ℓ) (g : Dev Cert.BrSsdIdeal.nD → PrngReg), Pre_BrSsdIdeal m →
    θ_run (Cert.BrSsdIdeal.defs (F := Ideal)) (onTc (τ := Cert.BrSsdIdeal.τ) (Cert.BrSsdIdeal.main (F := Ideal))) ⟨m, fun _ => 0, g⟩ (fun r => (∀ c : Dev Cert.BrSsdIdeal.nD,
      r.2.mem ((c.tc : Thread Cert.BrSsdIdeal.nD Cert.BrSsdIdeal.τ).loc Cert.BrSsdIdeal.main_arg0) = m ((c.tc : Thread Cert.BrSsdIdeal.nD Cert.BrSsdIdeal.τ).loc Cert.BrSsdIdeal.main_arg0)
      ∧ r.2.mem ((c.tc : Thread Cert.BrSsdIdeal.nD Cert.BrSsdIdeal.τ).loc Cert.BrSsdIdeal.main_arg1) = m ((c.tc : Thread Cert.BrSsdIdeal.nD Cert.BrSsdIdeal.τ).loc Cert.BrSsdIdeal.main_arg1))
      ∧ r.2.sem = fun _ => 0)

def quiescent_BrSsdReferenceIdeal [hBrSsdReferenceIdeal : Cert.BrSsdReferenceIdeal.Facts] : Prop :=
  ∀ (m : (ℓ : Loc Cert.BrSsdReferenceIdeal.nD Cert.BrSsdReferenceIdeal.τ Cert.BrSsdReferenceIdeal.sig) → Buf (Elt Ideal) ℓ) (g : Dev Cert.BrSsdReferenceIdeal.nD → PrngReg), Pre_BrSsdReferenceIdeal m →
    θ_run (Cert.BrSsdReferenceIdeal.defs (F := Ideal)) (onTc (τ := Cert.BrSsdReferenceIdeal.τ) (Cert.BrSsdReferenceIdeal.main (F := Ideal))) ⟨m, fun _ => 0, g⟩ (fun r => (∀ c : Dev Cert.BrSsdReferenceIdeal.nD,
      r.2.mem ((c.tc : Thread Cert.BrSsdReferenceIdeal.nD Cert.BrSsdReferenceIdeal.τ).loc Cert.BrSsdReferenceIdeal.main_arg0) = m ((c.tc : Thread Cert.BrSsdReferenceIdeal.nD Cert.BrSsdReferenceIdeal.τ).loc Cert.BrSsdReferenceIdeal.main_arg0)
      ∧ r.2.mem ((c.tc : Thread Cert.BrSsdReferenceIdeal.nD Cert.BrSsdReferenceIdeal.τ).loc Cert.BrSsdReferenceIdeal.main_arg1) = m ((c.tc : Thread Cert.BrSsdReferenceIdeal.nD Cert.BrSsdReferenceIdeal.τ).loc Cert.BrSsdReferenceIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_FfnDownReferenceIdeal [hFfnDownReferenceIdeal : Cert.FfnDownReferenceIdeal.Facts] : Prop :=
  ∀ (m : (ℓ : Loc Cert.FfnDownReferenceIdeal.nD Cert.FfnDownReferenceIdeal.τ Cert.FfnDownReferenceIdeal.sig) → Buf (Elt Ideal) ℓ) (g : Dev Cert.FfnDownReferenceIdeal.nD → PrngReg), Pre_FfnDownReferenceIdeal m →
    θ_run (Cert.FfnDownReferenceIdeal.defs (F := Ideal)) (onTc (τ := Cert.FfnDownReferenceIdeal.τ) (Cert.FfnDownReferenceIdeal.main (F := Ideal))) ⟨m, fun _ => 0, g⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1))
      ∧ r.2.sem = fun _ => 0)

def quiescent_XaFwd [hXaFwd : Cert.XaFwd.Facts] : Prop :=
  ∀ (m : (ℓ : Loc Cert.XaFwd.nD Cert.XaFwd.τ Cert.XaFwd.sig) → Buf (Elt Bits) ℓ) (g : Dev Cert.XaFwd.nD → PrngReg), Pre_XaFwd m →
    θ_run (Cert.XaFwd.defs (F := Bits)) (onTc (τ := Cert.XaFwd.τ) (Cert.XaFwd.main (F := Bits))) ⟨m, fun _ => 0, g⟩ (fun r => (∀ c : Dev Cert.XaFwd.nD,
      r.2.mem ((c.tc : Thread Cert.XaFwd.nD Cert.XaFwd.τ).loc Cert.XaFwd.main_arg0) = m ((c.tc : Thread Cert.XaFwd.nD Cert.XaFwd.τ).loc Cert.XaFwd.main_arg0)
      ∧ r.2.mem ((c.tc : Thread Cert.XaFwd.nD Cert.XaFwd.τ).loc Cert.XaFwd.main_arg1) = m ((c.tc : Thread Cert.XaFwd.nD Cert.XaFwd.τ).loc Cert.XaFwd.main_arg1))
      ∧ r.2.sem = fun _ => 0)

def quiescent_XaFwdIdeal [hXaFwdIdeal : Cert.XaFwdIdeal.Facts] : Prop :=
  ∀ (m : (ℓ : Loc Cert.XaFwdIdeal.nD Cert.XaFwdIdeal.τ Cert.XaFwdIdeal.sig) → Buf (Elt Ideal) ℓ) (g : Dev Cert.XaFwdIdeal.nD → PrngReg), Pre_XaFwdIdeal m →
    θ_run (Cert.XaFwdIdeal.defs (F := Ideal)) (onTc (τ := Cert.XaFwdIdeal.τ) (Cert.XaFwdIdeal.main (F := Ideal))) ⟨m, fun _ => 0, g⟩ (fun r => (∀ c : Dev Cert.XaFwdIdeal.nD,
      r.2.mem ((c.tc : Thread Cert.XaFwdIdeal.nD Cert.XaFwdIdeal.τ).loc Cert.XaFwdIdeal.main_arg0) = m ((c.tc : Thread Cert.XaFwdIdeal.nD Cert.XaFwdIdeal.τ).loc Cert.XaFwdIdeal.main_arg0)
      ∧ r.2.mem ((c.tc : Thread Cert.XaFwdIdeal.nD Cert.XaFwdIdeal.τ).loc Cert.XaFwdIdeal.main_arg1) = m ((c.tc : Thread Cert.XaFwdIdeal.nD Cert.XaFwdIdeal.τ).loc Cert.XaFwdIdeal.main_arg1))
      ∧ r.2.sem = fun _ => 0)

def quiescent_XaFwdReferenceIdeal [hXaFwdReferenceIdeal : Cert.XaFwdReferenceIdeal.Facts] : Prop :=
  ∀ (m : (ℓ : Loc Cert.XaFwdReferenceIdeal.nD Cert.XaFwdReferenceIdeal.τ Cert.XaFwdReferenceIdeal.sig) → Buf (Elt Ideal) ℓ) (g : Dev Cert.XaFwdReferenceIdeal.nD → PrngReg), Pre_XaFwdReferenceIdeal m →
    θ_run (Cert.XaFwdReferenceIdeal.defs (F := Ideal)) (onTc (τ := Cert.XaFwdReferenceIdeal.τ) (Cert.XaFwdReferenceIdeal.main (F := Ideal))) ⟨m, fun _ => 0, g⟩ (fun r => (∀ c : Dev Cert.XaFwdReferenceIdeal.nD,
      r.2.mem ((c.tc : Thread Cert.XaFwdReferenceIdeal.nD Cert.XaFwdReferenceIdeal.τ).loc Cert.XaFwdReferenceIdeal.main_arg0) = m ((c.tc : Thread Cert.XaFwdReferenceIdeal.nD Cert.XaFwdReferenceIdeal.τ).loc Cert.XaFwdReferenceIdeal.main_arg0)
      ∧ r.2.mem ((c.tc : Thread Cert.XaFwdReferenceIdeal.nD Cert.XaFwdReferenceIdeal.τ).loc Cert.XaFwdReferenceIdeal.main_arg1) = m ((c.tc : Thread Cert.XaFwdReferenceIdeal.nD Cert.XaFwdReferenceIdeal.τ).loc Cert.XaFwdReferenceIdeal.main_arg1))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ r.2.sem = fun _ => 0)

def quiescent_MergeFwdReferenceIdeal [hMergeFwdReferenceIdeal : Cert.MergeFwdReferenceIdeal.Facts] : Prop :=
  ∀ (m : (ℓ : Loc Cert.MergeFwdReferenceIdeal.nD Cert.MergeFwdReferenceIdeal.τ Cert.MergeFwdReferenceIdeal.sig) → Buf (Elt Ideal) ℓ) (g : Dev Cert.MergeFwdReferenceIdeal.nD → PrngReg), Pre_MergeFwdReferenceIdeal m →
    θ_run (Cert.MergeFwdReferenceIdeal.defs (F := Ideal)) (onTc (τ := Cert.MergeFwdReferenceIdeal.τ) (Cert.MergeFwdReferenceIdeal.main (F := Ideal))) ⟨m, fun _ => 0, g⟩ (fun r => (∀ c : Dev Cert.MergeFwdReferenceIdeal.nD,
      r.2.mem ((c.tc : Thread Cert.MergeFwdReferenceIdeal.nD Cert.MergeFwdReferenceIdeal.τ).loc Cert.MergeFwdReferenceIdeal.main_arg0) = m ((c.tc : Thread Cert.MergeFwdReferenceIdeal.nD Cert.MergeFwdReferenceIdeal.τ).loc Cert.MergeFwdReferenceIdeal.main_arg0)
      ∧ r.2.mem ((c.tc : Thread Cert.MergeFwdReferenceIdeal.nD Cert.MergeFwdReferenceIdeal.τ).loc Cert.MergeFwdReferenceIdeal.main_arg1) = m ((c.tc : Thread Cert.MergeFwdReferenceIdeal.nD Cert.MergeFwdReferenceIdeal.τ).loc Cert.MergeFwdReferenceIdeal.main_arg1)
      ∧ r.2.mem ((c.tc : Thread Cert.MergeFwdReferenceIdeal.nD Cert.MergeFwdReferenceIdeal.τ).loc Cert.MergeFwdReferenceIdeal.main_arg2) = m ((c.tc : Thread Cert.MergeFwdReferenceIdeal.nD Cert.MergeFwdReferenceIdeal.τ).loc Cert.MergeFwdReferenceIdeal.main_arg2)
      ∧ r.2.mem ((c.tc : Thread Cert.MergeFwdReferenceIdeal.nD Cert.MergeFwdReferenceIdeal.τ).loc Cert.MergeFwdReferenceIdeal.main_arg3) = m ((c.tc : Thread Cert.MergeFwdReferenceIdeal.nD Cert.MergeFwdReferenceIdeal.τ).loc Cert.MergeFwdReferenceIdeal.main_arg3)
      ∧ r.2.mem ((c.tc : Thread Cert.MergeFwdReferenceIdeal.nD Cert.MergeFwdReferenceIdeal.τ).loc Cert.MergeFwdReferenceIdeal.main_arg4) = m ((c.tc : Thread Cert.MergeFwdReferenceIdeal.nD Cert.MergeFwdReferenceIdeal.τ).loc Cert.MergeFwdReferenceIdeal.main_arg4))
      ∧ r.2.sem = fun _ => 0)

def quiescent_LnFwd [hLnFwd : Cert.LnFwd.Facts] : Prop :=
  ∀ (m : (ℓ : Loc Cert.LnFwd.nD Cert.LnFwd.τ Cert.LnFwd.sig) → Buf (Elt Bits) ℓ) (g : Dev Cert.LnFwd.nD → PrngReg), Pre_LnFwd m →
    θ_run (Cert.LnFwd.defs (F := Bits)) (onTc (τ := Cert.LnFwd.τ) (Cert.LnFwd.main (F := Bits))) ⟨m, fun _ => 0, g⟩ (fun r => (∀ c : Dev Cert.LnFwd.nD,
      r.2.mem ((c.tc : Thread Cert.LnFwd.nD Cert.LnFwd.τ).loc Cert.LnFwd.main_arg0) = m ((c.tc : Thread Cert.LnFwd.nD Cert.LnFwd.τ).loc Cert.LnFwd.main_arg0)
      ∧ r.2.mem ((c.tc : Thread Cert.LnFwd.nD Cert.LnFwd.τ).loc Cert.LnFwd.main_arg1) = m ((c.tc : Thread Cert.LnFwd.nD Cert.LnFwd.τ).loc Cert.LnFwd.main_arg1)
      ∧ r.2.mem ((c.tc : Thread Cert.LnFwd.nD Cert.LnFwd.τ).loc Cert.LnFwd.main_arg2) = m ((c.tc : Thread Cert.LnFwd.nD Cert.LnFwd.τ).loc Cert.LnFwd.main_arg2)
      ∧ r.2.mem ((c.tc : Thread Cert.LnFwd.nD Cert.LnFwd.τ).loc Cert.LnFwd.main_arg3) = m ((c.tc : Thread Cert.LnFwd.nD Cert.LnFwd.τ).loc Cert.LnFwd.main_arg3))
      ∧ r.2.sem = fun _ => 0)

def quiescent_LnFwdIdeal [hLnFwdIdeal : Cert.LnFwdIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg), Pre_LnFwdIdeal m →
    θ_run (Cert.LnFwdIdeal.defs (F := Ideal)) (onTc (τ := Cert.LnFwdIdeal.τ) (Cert.LnFwdIdeal.main (F := Ideal))) ⟨m, fun _ => 0, g⟩ (fun r => (∀ c : Dev Cert.LnFwdIdeal.nD,
      r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
      ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
      ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2)
      ∧ r.2.mem ((c.tc : Thread Cert.LnFwdIdeal.nD Cert.LnFwdIdeal.τ).loc Cert.LnFwdIdeal.main_arg3) = m ((c.tc : Thread Cert.LnFwdIdeal.nD Cert.LnFwdIdeal.τ).loc Cert.LnFwdIdeal.main_arg3))
      ∧ r.2.sem = fun _ => 0)

def quiescent_LnFwdReferenceIdeal [hLnFwdReferenceIdeal : Cert.LnFwdReferenceIdeal.Facts] : Prop :=
  ∀ (m : (ℓ : Loc Cert.LnFwdReferenceIdeal.nD Cert.LnFwdReferenceIdeal.τ Cert.LnFwdReferenceIdeal.sig) → Buf (Elt Ideal) ℓ) (g : Dev Cert.LnFwdReferenceIdeal.nD → PrngReg), Pre_LnFwdReferenceIdeal m →
    θ_run (Cert.LnFwdReferenceIdeal.defs (F := Ideal)) (onTc (τ := Cert.LnFwdReferenceIdeal.τ) (Cert.LnFwdReferenceIdeal.main (F := Ideal))) ⟨m, fun _ => 0, g⟩ (fun r => (∀ c : Dev Cert.LnFwdReferenceIdeal.nD,
      r.2.mem ((c.tc : Thread Cert.LnFwdReferenceIdeal.nD Cert.LnFwdReferenceIdeal.τ).loc Cert.LnFwdReferenceIdeal.main_arg0) = m ((c.tc : Thread Cert.LnFwdReferenceIdeal.nD Cert.LnFwdReferenceIdeal.τ).loc Cert.LnFwdReferenceIdeal.main_arg0)
      ∧ r.2.mem ((c.tc : Thread Cert.LnFwdReferenceIdeal.nD Cert.LnFwdReferenceIdeal.τ).loc Cert.LnFwdReferenceIdeal.main_arg1) = m ((c.tc : Thread Cert.LnFwdReferenceIdeal.nD Cert.LnFwdReferenceIdeal.τ).loc Cert.LnFwdReferenceIdeal.main_arg1)
      ∧ r.2.mem ((c.tc : Thread Cert.LnFwdReferenceIdeal.nD Cert.LnFwdReferenceIdeal.τ).loc Cert.LnFwdReferenceIdeal.main_arg2) = m ((c.tc : Thread Cert.LnFwdReferenceIdeal.nD Cert.LnFwdReferenceIdeal.τ).loc Cert.LnFwdReferenceIdeal.main_arg2)
      ∧ r.2.mem ((c.tc : Thread Cert.LnFwdReferenceIdeal.nD Cert.LnFwdReferenceIdeal.τ).loc Cert.LnFwdReferenceIdeal.main_arg3) = m ((c.tc : Thread Cert.LnFwdReferenceIdeal.nD Cert.LnFwdReferenceIdeal.τ).loc Cert.LnFwdReferenceIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossHeadReferenceIdeal [hLossHeadReferenceIdeal : Cert.LossHeadReferenceIdeal.Facts] : Prop :=
  ∀ (m : (ℓ : Loc Cert.LossHeadReferenceIdeal.nD Cert.LossHeadReferenceIdeal.τ Cert.LossHeadReferenceIdeal.sig) → Buf (Elt Ideal) ℓ) (g : Dev Cert.LossHeadReferenceIdeal.nD → PrngReg), Pre_LossHeadReferenceIdeal m →
    θ_run (Cert.LossHeadReferenceIdeal.defs (F := Ideal)) (onTc (τ := Cert.LossHeadReferenceIdeal.τ) (Cert.LossHeadReferenceIdeal.main (F := Ideal))) ⟨m, fun _ => 0, g⟩ (fun r => (∀ c : Dev Cert.LossHeadReferenceIdeal.nD,
      r.2.mem ((c.tc : Thread Cert.LossHeadReferenceIdeal.nD Cert.LossHeadReferenceIdeal.τ).loc Cert.LossHeadReferenceIdeal.main_arg0) = m ((c.tc : Thread Cert.LossHeadReferenceIdeal.nD Cert.LossHeadReferenceIdeal.τ).loc Cert.LossHeadReferenceIdeal.main_arg0)
      ∧ r.2.mem ((c.tc : Thread Cert.LossHeadReferenceIdeal.nD Cert.LossHeadReferenceIdeal.τ).loc Cert.LossHeadReferenceIdeal.main_arg1) = m ((c.tc : Thread Cert.LossHeadReferenceIdeal.nD Cert.LossHeadReferenceIdeal.τ).loc Cert.LossHeadReferenceIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvReferenceIdeal [hKvReferenceIdeal : Cert.KvReferenceIdeal.Facts] : Prop :=
  ∀ (m : (ℓ : Loc Cert.KvReferenceIdeal.nD Cert.KvReferenceIdeal.τ Cert.KvReferenceIdeal.sig) → Buf (Elt Ideal) ℓ) (g : Dev Cert.KvReferenceIdeal.nD → PrngReg), Pre_KvReferenceIdeal m →
    θ_run (Cert.KvReferenceIdeal.defs (F := Ideal)) (onTc (τ := Cert.KvReferenceIdeal.τ) (Cert.KvReferenceIdeal.main (F := Ideal))) ⟨m, fun _ => 0, g⟩ (fun r => (∀ c : Dev Cert.KvReferenceIdeal.nD,
      r.2.mem ((c.tc : Thread Cert.KvReferenceIdeal.nD Cert.KvReferenceIdeal.τ).loc Cert.KvReferenceIdeal.main_arg0) = m ((c.tc : Thread Cert.KvReferenceIdeal.nD Cert.KvReferenceIdeal.τ).loc Cert.KvReferenceIdeal.main_arg0)
      ∧ r.2.mem ((c.tc : Thread Cert.KvReferenceIdeal.nD Cert.KvReferenceIdeal.τ).loc Cert.KvReferenceIdeal.main_arg1) = m ((c.tc : Thread Cert.KvReferenceIdeal.nD Cert.KvReferenceIdeal.τ).loc Cert.KvReferenceIdeal.main_arg1))
      ∧ r.2.sem = fun _ => 0)

def quiescent_DwKv [hDwKv : Cert.DwKv.Facts] : Prop :=
  ∀ (m : (ℓ : Loc Cert.DwKv.nD Cert.DwKv.τ Cert.DwKv.sig) → Buf (Elt Bits) ℓ) (g : Dev Cert.DwKv.nD → PrngReg), Pre_DwKv m →
    θ_run (Cert.DwKv.defs (F := Bits)) (onTc (τ := Cert.DwKv.τ) (Cert.DwKv.main (F := Bits))) ⟨m, fun _ => 0, g⟩ (fun r => (∀ c : Dev Cert.DwKv.nD,
      r.2.mem ((c.tc : Thread Cert.DwKv.nD Cert.DwKv.τ).loc Cert.DwKv.main_arg0) = m ((c.tc : Thread Cert.DwKv.nD Cert.DwKv.τ).loc Cert.DwKv.main_arg0)
      ∧ r.2.mem ((c.tc : Thread Cert.DwKv.nD Cert.DwKv.τ).loc Cert.DwKv.main_arg1) = m ((c.tc : Thread Cert.DwKv.nD Cert.DwKv.τ).loc Cert.DwKv.main_arg1))
      ∧ r.2.sem = fun _ => 0)

def quiescent_DwKvIdeal [hDwKvIdeal : Cert.DwKvIdeal.Facts] : Prop :=
  ∀ (m : (ℓ : Loc Cert.DwKvIdeal.nD Cert.DwKvIdeal.τ Cert.DwKvIdeal.sig) → Buf (Elt Ideal) ℓ) (g : Dev Cert.DwKvIdeal.nD → PrngReg), Pre_DwKvIdeal m →
    θ_run (Cert.DwKvIdeal.defs (F := Ideal)) (onTc (τ := Cert.DwKvIdeal.τ) (Cert.DwKvIdeal.main (F := Ideal))) ⟨m, fun _ => 0, g⟩ (fun r => (∀ c : Dev Cert.DwKvIdeal.nD,
      r.2.mem ((c.tc : Thread Cert.DwKvIdeal.nD Cert.DwKvIdeal.τ).loc Cert.DwKvIdeal.main_arg0) = m ((c.tc : Thread Cert.DwKvIdeal.nD Cert.DwKvIdeal.τ).loc Cert.DwKvIdeal.main_arg0)
      ∧ r.2.mem ((c.tc : Thread Cert.DwKvIdeal.nD Cert.DwKvIdeal.τ).loc Cert.DwKvIdeal.main_arg1) = m ((c.tc : Thread Cert.DwKvIdeal.nD Cert.DwKvIdeal.τ).loc Cert.DwKvIdeal.main_arg1))
      ∧ r.2.sem = fun _ => 0)

def quiescent_DwKvReferenceIdeal [hDwKvReferenceIdeal : Cert.DwKvReferenceIdeal.Facts] : Prop :=
  ∀ (m : (ℓ : Loc Cert.DwKvReferenceIdeal.nD Cert.DwKvReferenceIdeal.τ Cert.DwKvReferenceIdeal.sig) → Buf (Elt Ideal) ℓ) (g : Dev Cert.DwKvReferenceIdeal.nD → PrngReg), Pre_DwKvReferenceIdeal m →
    θ_run (Cert.DwKvReferenceIdeal.defs (F := Ideal)) (onTc (τ := Cert.DwKvReferenceIdeal.τ) (Cert.DwKvReferenceIdeal.main (F := Ideal))) ⟨m, fun _ => 0, g⟩ (fun r => (∀ c : Dev Cert.DwKvReferenceIdeal.nD,
      r.2.mem ((c.tc : Thread Cert.DwKvReferenceIdeal.nD Cert.DwKvReferenceIdeal.τ).loc Cert.DwKvReferenceIdeal.main_arg0) = m ((c.tc : Thread Cert.DwKvReferenceIdeal.nD Cert.DwKvReferenceIdeal.τ).loc Cert.DwKvReferenceIdeal.main_arg0)
      ∧ r.2.mem ((c.tc : Thread Cert.DwKvReferenceIdeal.nD Cert.DwKvReferenceIdeal.τ).loc Cert.DwKvReferenceIdeal.main_arg1) = m ((c.tc : Thread Cert.DwKvReferenceIdeal.nD Cert.DwKvReferenceIdeal.τ).loc Cert.DwKvReferenceIdeal.main_arg1))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3)
      ∧ r.2.mem ((c.tc : Thread Cert.AdamInReferenceIdeal.nD Cert.AdamInReferenceIdeal.τ).loc Cert.AdamInReferenceIdeal.main_arg4) = m ((c.tc : Thread Cert.AdamInReferenceIdeal.nD Cert.AdamInReferenceIdeal.τ).loc Cert.AdamInReferenceIdeal.main_arg4))
      ∧ r.2.sem = fun _ => 0)

def quiescent_AdamKv [hAdamKv : Cert.AdamKv.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3)
      ∧ r.2.mem ((c.tc : Thread Cert.AdamKv.nD Cert.AdamKv.τ).loc Cert.AdamKv.main_arg4) = m ((c.tc : Thread Cert.AdamKv.nD Cert.AdamKv.τ).loc Cert.AdamKv.main_arg4))
      ∧ r.2.sem = fun _ => 0)

def quiescent_AdamKvIdeal [hAdamKvIdeal : Cert.AdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3)
      ∧ r.2.mem ((c.tc : Thread Cert.AdamKvIdeal.nD Cert.AdamKvIdeal.τ).loc Cert.AdamKvIdeal.main_arg4) = m ((c.tc : Thread Cert.AdamKvIdeal.nD Cert.AdamKvIdeal.τ).loc Cert.AdamKvIdeal.main_arg4))
      ∧ r.2.sem = fun _ => 0)

def quiescent_AdamKvReferenceIdeal [hAdamKvReferenceIdeal : Cert.AdamKvReferenceIdeal.Facts] : Prop :=
  ∀ (m : (ℓ : Loc Cert.AdamKvReferenceIdeal.nD Cert.AdamKvReferenceIdeal.τ Cert.AdamKvReferenceIdeal.sig) → Buf (Elt Ideal) ℓ) (g : Dev Cert.AdamKvReferenceIdeal.nD → PrngReg), Pre_AdamKvReferenceIdeal m →
    θ_run (Cert.AdamKvReferenceIdeal.defs (F := Ideal)) (onTc (τ := Cert.AdamKvReferenceIdeal.τ) (Cert.AdamKvReferenceIdeal.main (F := Ideal))) ⟨m, fun _ => 0, g⟩ (fun r => (∀ c : Dev Cert.AdamKvReferenceIdeal.nD,
      r.2.mem ((c.tc : Thread Cert.AdamKvReferenceIdeal.nD Cert.AdamKvReferenceIdeal.τ).loc Cert.AdamKvReferenceIdeal.main_arg0) = m ((c.tc : Thread Cert.AdamKvReferenceIdeal.nD Cert.AdamKvReferenceIdeal.τ).loc Cert.AdamKvReferenceIdeal.main_arg0)
      ∧ r.2.mem ((c.tc : Thread Cert.AdamKvReferenceIdeal.nD Cert.AdamKvReferenceIdeal.τ).loc Cert.AdamKvReferenceIdeal.main_arg1) = m ((c.tc : Thread Cert.AdamKvReferenceIdeal.nD Cert.AdamKvReferenceIdeal.τ).loc Cert.AdamKvReferenceIdeal.main_arg1)
      ∧ r.2.mem ((c.tc : Thread Cert.AdamKvReferenceIdeal.nD Cert.AdamKvReferenceIdeal.τ).loc Cert.AdamKvReferenceIdeal.main_arg2) = m ((c.tc : Thread Cert.AdamKvReferenceIdeal.nD Cert.AdamKvReferenceIdeal.τ).loc Cert.AdamKvReferenceIdeal.main_arg2)
      ∧ r.2.mem ((c.tc : Thread Cert.AdamKvReferenceIdeal.nD Cert.AdamKvReferenceIdeal.τ).loc Cert.AdamKvReferenceIdeal.main_arg3) = m ((c.tc : Thread Cert.AdamKvReferenceIdeal.nD Cert.AdamKvReferenceIdeal.τ).loc Cert.AdamKvReferenceIdeal.main_arg3)
      ∧ r.2.mem ((c.tc : Thread Cert.AdamKvReferenceIdeal.nD Cert.AdamKvReferenceIdeal.τ).loc Cert.AdamKvReferenceIdeal.main_arg4) = m ((c.tc : Thread Cert.AdamKvReferenceIdeal.nD Cert.AdamKvReferenceIdeal.τ).loc Cert.AdamKvReferenceIdeal.main_arg4))
      ∧ r.2.sem = fun _ => 0)

def quiescent_AdamBr [hAdamBr : Cert.AdamBr.Facts] : Prop :=
  ∀ (m : (ℓ : Loc Cert.AdamBr.nD Cert.AdamBr.τ Cert.AdamBr.sig) → Buf (Elt Bits) ℓ) (g : Dev Cert.AdamBr.nD → PrngReg), Pre_AdamBr m →
    θ_run (Cert.AdamBr.defs (F := Bits)) (onTc (τ := Cert.AdamBr.τ) (Cert.AdamBr.main (F := Bits))) ⟨m, fun _ => 0, g⟩ (fun r => (∀ c : Dev Cert.AdamBr.nD,
      r.2.mem ((c.tc : Thread Cert.AdamBr.nD Cert.AdamBr.τ).loc Cert.AdamBr.main_arg0) = m ((c.tc : Thread Cert.AdamBr.nD Cert.AdamBr.τ).loc Cert.AdamBr.main_arg0)
      ∧ r.2.mem ((c.tc : Thread Cert.AdamBr.nD Cert.AdamBr.τ).loc Cert.AdamBr.main_arg1) = m ((c.tc : Thread Cert.AdamBr.nD Cert.AdamBr.τ).loc Cert.AdamBr.main_arg1)
      ∧ r.2.mem ((c.tc : Thread Cert.AdamBr.nD Cert.AdamBr.τ).loc Cert.AdamBr.main_arg2) = m ((c.tc : Thread Cert.AdamBr.nD Cert.AdamBr.τ).loc Cert.AdamBr.main_arg2)
      ∧ r.2.mem ((c.tc : Thread Cert.AdamBr.nD Cert.AdamBr.τ).loc Cert.AdamBr.main_arg3) = m ((c.tc : Thread Cert.AdamBr.nD Cert.AdamBr.τ).loc Cert.AdamBr.main_arg3)
      ∧ r.2.mem ((c.tc : Thread Cert.AdamBr.nD Cert.AdamBr.τ).loc Cert.AdamBr.main_arg4) = m ((c.tc : Thread Cert.AdamBr.nD Cert.AdamBr.τ).loc Cert.AdamBr.main_arg4))
      ∧ r.2.sem = fun _ => 0)

def quiescent_AdamBrIdeal [hAdamBrIdeal : Cert.AdamBrIdeal.Facts] : Prop :=
  ∀ (m : (ℓ : Loc Cert.AdamBrIdeal.nD Cert.AdamBrIdeal.τ Cert.AdamBrIdeal.sig) → Buf (Elt Ideal) ℓ) (g : Dev Cert.AdamBrIdeal.nD → PrngReg), Pre_AdamBrIdeal m →
    θ_run (Cert.AdamBrIdeal.defs (F := Ideal)) (onTc (τ := Cert.AdamBrIdeal.τ) (Cert.AdamBrIdeal.main (F := Ideal))) ⟨m, fun _ => 0, g⟩ (fun r => (∀ c : Dev Cert.AdamBrIdeal.nD,
      r.2.mem ((c.tc : Thread Cert.AdamBrIdeal.nD Cert.AdamBrIdeal.τ).loc Cert.AdamBrIdeal.main_arg0) = m ((c.tc : Thread Cert.AdamBrIdeal.nD Cert.AdamBrIdeal.τ).loc Cert.AdamBrIdeal.main_arg0)
      ∧ r.2.mem ((c.tc : Thread Cert.AdamBrIdeal.nD Cert.AdamBrIdeal.τ).loc Cert.AdamBrIdeal.main_arg1) = m ((c.tc : Thread Cert.AdamBrIdeal.nD Cert.AdamBrIdeal.τ).loc Cert.AdamBrIdeal.main_arg1)
      ∧ r.2.mem ((c.tc : Thread Cert.AdamBrIdeal.nD Cert.AdamBrIdeal.τ).loc Cert.AdamBrIdeal.main_arg2) = m ((c.tc : Thread Cert.AdamBrIdeal.nD Cert.AdamBrIdeal.τ).loc Cert.AdamBrIdeal.main_arg2)
      ∧ r.2.mem ((c.tc : Thread Cert.AdamBrIdeal.nD Cert.AdamBrIdeal.τ).loc Cert.AdamBrIdeal.main_arg3) = m ((c.tc : Thread Cert.AdamBrIdeal.nD Cert.AdamBrIdeal.τ).loc Cert.AdamBrIdeal.main_arg3)
      ∧ r.2.mem ((c.tc : Thread Cert.AdamBrIdeal.nD Cert.AdamBrIdeal.τ).loc Cert.AdamBrIdeal.main_arg4) = m ((c.tc : Thread Cert.AdamBrIdeal.nD Cert.AdamBrIdeal.τ).loc Cert.AdamBrIdeal.main_arg4))
      ∧ r.2.sem = fun _ => 0)

def quiescent_AdamBrReferenceIdeal [hAdamBrReferenceIdeal : Cert.AdamBrReferenceIdeal.Facts] : Prop :=
  ∀ (m : (ℓ : Loc Cert.AdamBrReferenceIdeal.nD Cert.AdamBrReferenceIdeal.τ Cert.AdamBrReferenceIdeal.sig) → Buf (Elt Ideal) ℓ) (g : Dev Cert.AdamBrReferenceIdeal.nD → PrngReg), Pre_AdamBrReferenceIdeal m →
    θ_run (Cert.AdamBrReferenceIdeal.defs (F := Ideal)) (onTc (τ := Cert.AdamBrReferenceIdeal.τ) (Cert.AdamBrReferenceIdeal.main (F := Ideal))) ⟨m, fun _ => 0, g⟩ (fun r => (∀ c : Dev Cert.AdamBrReferenceIdeal.nD,
      r.2.mem ((c.tc : Thread Cert.AdamBrReferenceIdeal.nD Cert.AdamBrReferenceIdeal.τ).loc Cert.AdamBrReferenceIdeal.main_arg0) = m ((c.tc : Thread Cert.AdamBrReferenceIdeal.nD Cert.AdamBrReferenceIdeal.τ).loc Cert.AdamBrReferenceIdeal.main_arg0)
      ∧ r.2.mem ((c.tc : Thread Cert.AdamBrReferenceIdeal.nD Cert.AdamBrReferenceIdeal.τ).loc Cert.AdamBrReferenceIdeal.main_arg1) = m ((c.tc : Thread Cert.AdamBrReferenceIdeal.nD Cert.AdamBrReferenceIdeal.τ).loc Cert.AdamBrReferenceIdeal.main_arg1)
      ∧ r.2.mem ((c.tc : Thread Cert.AdamBrReferenceIdeal.nD Cert.AdamBrReferenceIdeal.τ).loc Cert.AdamBrReferenceIdeal.main_arg2) = m ((c.tc : Thread Cert.AdamBrReferenceIdeal.nD Cert.AdamBrReferenceIdeal.τ).loc Cert.AdamBrReferenceIdeal.main_arg2)
      ∧ r.2.mem ((c.tc : Thread Cert.AdamBrReferenceIdeal.nD Cert.AdamBrReferenceIdeal.τ).loc Cert.AdamBrReferenceIdeal.main_arg3) = m ((c.tc : Thread Cert.AdamBrReferenceIdeal.nD Cert.AdamBrReferenceIdeal.τ).loc Cert.AdamBrReferenceIdeal.main_arg3)
      ∧ r.2.mem ((c.tc : Thread Cert.AdamBrReferenceIdeal.nD Cert.AdamBrReferenceIdeal.τ).loc Cert.AdamBrReferenceIdeal.main_arg4) = m ((c.tc : Thread Cert.AdamBrReferenceIdeal.nD Cert.AdamBrReferenceIdeal.τ).loc Cert.AdamBrReferenceIdeal.main_arg4))
      ∧ r.2.sem = fun _ => 0)

def quiescent_AdamBrSsd [hAdamBrSsd : Cert.AdamBrSsd.Facts] : Prop :=
  ∀ (m : (ℓ : Loc Cert.AdamBrSsd.nD Cert.AdamBrSsd.τ Cert.AdamBrSsd.sig) → Buf (Elt Bits) ℓ) (g : Dev Cert.AdamBrSsd.nD → PrngReg), Pre_AdamBrSsd m →
    θ_run (Cert.AdamBrSsd.defs (F := Bits)) (onTc (τ := Cert.AdamBrSsd.τ) (Cert.AdamBrSsd.main (F := Bits))) ⟨m, fun _ => 0, g⟩ (fun r => (∀ c : Dev Cert.AdamBrSsd.nD,
      r.2.mem ((c.tc : Thread Cert.AdamBrSsd.nD Cert.AdamBrSsd.τ).loc Cert.AdamBrSsd.main_arg0) = m ((c.tc : Thread Cert.AdamBrSsd.nD Cert.AdamBrSsd.τ).loc Cert.AdamBrSsd.main_arg0)
      ∧ r.2.mem ((c.tc : Thread Cert.AdamBrSsd.nD Cert.AdamBrSsd.τ).loc Cert.AdamBrSsd.main_arg1) = m ((c.tc : Thread Cert.AdamBrSsd.nD Cert.AdamBrSsd.τ).loc Cert.AdamBrSsd.main_arg1)
      ∧ r.2.mem ((c.tc : Thread Cert.AdamBrSsd.nD Cert.AdamBrSsd.τ).loc Cert.AdamBrSsd.main_arg2) = m ((c.tc : Thread Cert.AdamBrSsd.nD Cert.AdamBrSsd.τ).loc Cert.AdamBrSsd.main_arg2)
      ∧ r.2.mem ((c.tc : Thread Cert.AdamBrSsd.nD Cert.AdamBrSsd.τ).loc Cert.AdamBrSsd.main_arg3) = m ((c.tc : Thread Cert.AdamBrSsd.nD Cert.AdamBrSsd.τ).loc Cert.AdamBrSsd.main_arg3)
      ∧ r.2.mem ((c.tc : Thread Cert.AdamBrSsd.nD Cert.AdamBrSsd.τ).loc Cert.AdamBrSsd.main_arg4) = m ((c.tc : Thread Cert.AdamBrSsd.nD Cert.AdamBrSsd.τ).loc Cert.AdamBrSsd.main_arg4))
      ∧ r.2.sem = fun _ => 0)

def quiescent_AdamBrSsdIdeal [hAdamBrSsdIdeal : Cert.AdamBrSsdIdeal.Facts] : Prop :=
  ∀ (m : (ℓ : Loc Cert.AdamBrSsdIdeal.nD Cert.AdamBrSsdIdeal.τ Cert.AdamBrSsdIdeal.sig) → Buf (Elt Ideal) ℓ) (g : Dev Cert.AdamBrSsdIdeal.nD → PrngReg), Pre_AdamBrSsdIdeal m →
    θ_run (Cert.AdamBrSsdIdeal.defs (F := Ideal)) (onTc (τ := Cert.AdamBrSsdIdeal.τ) (Cert.AdamBrSsdIdeal.main (F := Ideal))) ⟨m, fun _ => 0, g⟩ (fun r => (∀ c : Dev Cert.AdamBrSsdIdeal.nD,
      r.2.mem ((c.tc : Thread Cert.AdamBrSsdIdeal.nD Cert.AdamBrSsdIdeal.τ).loc Cert.AdamBrSsdIdeal.main_arg0) = m ((c.tc : Thread Cert.AdamBrSsdIdeal.nD Cert.AdamBrSsdIdeal.τ).loc Cert.AdamBrSsdIdeal.main_arg0)
      ∧ r.2.mem ((c.tc : Thread Cert.AdamBrSsdIdeal.nD Cert.AdamBrSsdIdeal.τ).loc Cert.AdamBrSsdIdeal.main_arg1) = m ((c.tc : Thread Cert.AdamBrSsdIdeal.nD Cert.AdamBrSsdIdeal.τ).loc Cert.AdamBrSsdIdeal.main_arg1)
      ∧ r.2.mem ((c.tc : Thread Cert.AdamBrSsdIdeal.nD Cert.AdamBrSsdIdeal.τ).loc Cert.AdamBrSsdIdeal.main_arg2) = m ((c.tc : Thread Cert.AdamBrSsdIdeal.nD Cert.AdamBrSsdIdeal.τ).loc Cert.AdamBrSsdIdeal.main_arg2)
      ∧ r.2.mem ((c.tc : Thread Cert.AdamBrSsdIdeal.nD Cert.AdamBrSsdIdeal.τ).loc Cert.AdamBrSsdIdeal.main_arg3) = m ((c.tc : Thread Cert.AdamBrSsdIdeal.nD Cert.AdamBrSsdIdeal.τ).loc Cert.AdamBrSsdIdeal.main_arg3)
      ∧ r.2.mem ((c.tc : Thread Cert.AdamBrSsdIdeal.nD Cert.AdamBrSsdIdeal.τ).loc Cert.AdamBrSsdIdeal.main_arg4) = m ((c.tc : Thread Cert.AdamBrSsdIdeal.nD Cert.AdamBrSsdIdeal.τ).loc Cert.AdamBrSsdIdeal.main_arg4))
      ∧ r.2.sem = fun _ => 0)

def quiescent_AdamBrSsdReferenceIdeal [hAdamBrSsdReferenceIdeal : Cert.AdamBrSsdReferenceIdeal.Facts] : Prop :=
  ∀ (m : (ℓ : Loc Cert.AdamBrSsdReferenceIdeal.nD Cert.AdamBrSsdReferenceIdeal.τ Cert.AdamBrSsdReferenceIdeal.sig) → Buf (Elt Ideal) ℓ) (g : Dev Cert.AdamBrSsdReferenceIdeal.nD → PrngReg), Pre_AdamBrSsdReferenceIdeal m →
    θ_run (Cert.AdamBrSsdReferenceIdeal.defs (F := Ideal)) (onTc (τ := Cert.AdamBrSsdReferenceIdeal.τ) (Cert.AdamBrSsdReferenceIdeal.main (F := Ideal))) ⟨m, fun _ => 0, g⟩ (fun r => (∀ c : Dev Cert.AdamBrSsdReferenceIdeal.nD,
      r.2.mem ((c.tc : Thread Cert.AdamBrSsdReferenceIdeal.nD Cert.AdamBrSsdReferenceIdeal.τ).loc Cert.AdamBrSsdReferenceIdeal.main_arg0) = m ((c.tc : Thread Cert.AdamBrSsdReferenceIdeal.nD Cert.AdamBrSsdReferenceIdeal.τ).loc Cert.AdamBrSsdReferenceIdeal.main_arg0)
      ∧ r.2.mem ((c.tc : Thread Cert.AdamBrSsdReferenceIdeal.nD Cert.AdamBrSsdReferenceIdeal.τ).loc Cert.AdamBrSsdReferenceIdeal.main_arg1) = m ((c.tc : Thread Cert.AdamBrSsdReferenceIdeal.nD Cert.AdamBrSsdReferenceIdeal.τ).loc Cert.AdamBrSsdReferenceIdeal.main_arg1)
      ∧ r.2.mem ((c.tc : Thread Cert.AdamBrSsdReferenceIdeal.nD Cert.AdamBrSsdReferenceIdeal.τ).loc Cert.AdamBrSsdReferenceIdeal.main_arg2) = m ((c.tc : Thread Cert.AdamBrSsdReferenceIdeal.nD Cert.AdamBrSsdReferenceIdeal.τ).loc Cert.AdamBrSsdReferenceIdeal.main_arg2)
      ∧ r.2.mem ((c.tc : Thread Cert.AdamBrSsdReferenceIdeal.nD Cert.AdamBrSsdReferenceIdeal.τ).loc Cert.AdamBrSsdReferenceIdeal.main_arg3) = m ((c.tc : Thread Cert.AdamBrSsdReferenceIdeal.nD Cert.AdamBrSsdReferenceIdeal.τ).loc Cert.AdamBrSsdReferenceIdeal.main_arg3)
      ∧ r.2.mem ((c.tc : Thread Cert.AdamBrSsdReferenceIdeal.nD Cert.AdamBrSsdReferenceIdeal.τ).loc Cert.AdamBrSsdReferenceIdeal.main_arg4) = m ((c.tc : Thread Cert.AdamBrSsdReferenceIdeal.nD Cert.AdamBrSsdReferenceIdeal.τ).loc Cert.AdamBrSsdReferenceIdeal.main_arg4))
      ∧ r.2.sem = fun _ => 0)

def quiescent_AdamFfnIn [hAdamFfnIn : Cert.AdamFfnIn.Facts] : Prop :=
  ∀ (m : (ℓ : Loc Cert.AdamFfnIn.nD Cert.AdamFfnIn.τ Cert.AdamFfnIn.sig) → Buf (Elt Bits) ℓ) (g : Dev Cert.AdamFfnIn.nD → PrngReg), Pre_AdamFfnIn m →
    θ_run (Cert.AdamFfnIn.defs (F := Bits)) (onTc (τ := Cert.AdamFfnIn.τ) (Cert.AdamFfnIn.main (F := Bits))) ⟨m, fun _ => 0, g⟩ (fun r => (∀ c : Dev Cert.AdamFfnIn.nD,
      r.2.mem ((c.tc : Thread Cert.AdamFfnIn.nD Cert.AdamFfnIn.τ).loc Cert.AdamFfnIn.main_arg0) = m ((c.tc : Thread Cert.AdamFfnIn.nD Cert.AdamFfnIn.τ).loc Cert.AdamFfnIn.main_arg0)
      ∧ r.2.mem ((c.tc : Thread Cert.AdamFfnIn.nD Cert.AdamFfnIn.τ).loc Cert.AdamFfnIn.main_arg1) = m ((c.tc : Thread Cert.AdamFfnIn.nD Cert.AdamFfnIn.τ).loc Cert.AdamFfnIn.main_arg1)
      ∧ r.2.mem ((c.tc : Thread Cert.AdamFfnIn.nD Cert.AdamFfnIn.τ).loc Cert.AdamFfnIn.main_arg2) = m ((c.tc : Thread Cert.AdamFfnIn.nD Cert.AdamFfnIn.τ).loc Cert.AdamFfnIn.main_arg2)
      ∧ r.2.mem ((c.tc : Thread Cert.AdamFfnIn.nD Cert.AdamFfnIn.τ).loc Cert.AdamFfnIn.main_arg3) = m ((c.tc : Thread Cert.AdamFfnIn.nD Cert.AdamFfnIn.τ).loc Cert.AdamFfnIn.main_arg3)
      ∧ r.2.mem ((c.tc : Thread Cert.AdamFfnIn.nD Cert.AdamFfnIn.τ).loc Cert.AdamFfnIn.main_arg4) = m ((c.tc : Thread Cert.AdamFfnIn.nD Cert.AdamFfnIn.τ).loc Cert.AdamFfnIn.main_arg4))
      ∧ r.2.sem = fun _ => 0)

def quiescent_AdamFfnInIdeal [hAdamFfnInIdeal : Cert.AdamFfnInIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg), Pre_AdamFfnInIdeal m →
    θ_run (Cert.AdamFfnInIdeal.defs (F := Ideal)) (onTc (τ := Cert.AdamFfnInIdeal.τ) (Cert.AdamFfnInIdeal.main (F := Ideal))) ⟨m, fun _ => 0, g⟩ (fun r => (∀ c : Dev Cert.AdamFfnInIdeal.nD,
      r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
      ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
      ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
      ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3)
      ∧ r.2.mem ((c.tc : Thread Cert.AdamFfnInIdeal.nD Cert.AdamFfnInIdeal.τ).loc Cert.AdamFfnInIdeal.main_arg4) = m ((c.tc : Thread Cert.AdamFfnInIdeal.nD Cert.AdamFfnInIdeal.τ).loc Cert.AdamFfnInIdeal.main_arg4))
      ∧ r.2.sem = fun _ => 0)

def quiescent_AdamFfnInReferenceIdeal [hAdamFfnInReferenceIdeal : Cert.AdamFfnInReferenceIdeal.Facts] : Prop :=
  ∀ (m : (ℓ : Loc Cert.AdamFfnInReferenceIdeal.nD Cert.AdamFfnInReferenceIdeal.τ Cert.AdamFfnInReferenceIdeal.sig) → Buf (Elt Ideal) ℓ) (g : Dev Cert.AdamFfnInReferenceIdeal.nD → PrngReg), Pre_AdamFfnInReferenceIdeal m →
    θ_run (Cert.AdamFfnInReferenceIdeal.defs (F := Ideal)) (onTc (τ := Cert.AdamFfnInReferenceIdeal.τ) (Cert.AdamFfnInReferenceIdeal.main (F := Ideal))) ⟨m, fun _ => 0, g⟩ (fun r => (∀ c : Dev Cert.AdamFfnInReferenceIdeal.nD,
      r.2.mem ((c.tc : Thread Cert.AdamFfnInReferenceIdeal.nD Cert.AdamFfnInReferenceIdeal.τ).loc Cert.AdamFfnInReferenceIdeal.main_arg0) = m ((c.tc : Thread Cert.AdamFfnInReferenceIdeal.nD Cert.AdamFfnInReferenceIdeal.τ).loc Cert.AdamFfnInReferenceIdeal.main_arg0)
      ∧ r.2.mem ((c.tc : Thread Cert.AdamFfnInReferenceIdeal.nD Cert.AdamFfnInReferenceIdeal.τ).loc Cert.AdamFfnInReferenceIdeal.main_arg1) = m ((c.tc : Thread Cert.AdamFfnInReferenceIdeal.nD Cert.AdamFfnInReferenceIdeal.τ).loc Cert.AdamFfnInReferenceIdeal.main_arg1)
      ∧ r.2.mem ((c.tc : Thread Cert.AdamFfnInReferenceIdeal.nD Cert.AdamFfnInReferenceIdeal.τ).loc Cert.AdamFfnInReferenceIdeal.main_arg2) = m ((c.tc : Thread Cert.AdamFfnInReferenceIdeal.nD Cert.AdamFfnInReferenceIdeal.τ).loc Cert.AdamFfnInReferenceIdeal.main_arg2)
      ∧ r.2.mem ((c.tc : Thread Cert.AdamFfnInReferenceIdeal.nD Cert.AdamFfnInReferenceIdeal.τ).loc Cert.AdamFfnInReferenceIdeal.main_arg3) = m ((c.tc : Thread Cert.AdamFfnInReferenceIdeal.nD Cert.AdamFfnInReferenceIdeal.τ).loc Cert.AdamFfnInReferenceIdeal.main_arg3)
      ∧ r.2.mem ((c.tc : Thread Cert.AdamFfnInReferenceIdeal.nD Cert.AdamFfnInReferenceIdeal.τ).loc Cert.AdamFfnInReferenceIdeal.main_arg4) = m ((c.tc : Thread Cert.AdamFfnInReferenceIdeal.nD Cert.AdamFfnInReferenceIdeal.τ).loc Cert.AdamFfnInReferenceIdeal.main_arg4))
      ∧ r.2.sem = fun _ => 0)

def quiescent_AdamFfnDown [hAdamFfnDown : Cert.AdamFfnDown.Facts] : Prop :=
  ∀ (m : (ℓ : Loc Cert.AdamFfnDown.nD Cert.AdamFfnDown.τ Cert.AdamFfnDown.sig) → Buf (Elt Bits) ℓ) (g : Dev Cert.AdamFfnDown.nD → PrngReg), Pre_AdamFfnDown m →
    θ_run (Cert.AdamFfnDown.defs (F := Bits)) (onTc (τ := Cert.AdamFfnDown.τ) (Cert.AdamFfnDown.main (F := Bits))) ⟨m, fun _ => 0, g⟩ (fun r => (∀ c : Dev Cert.AdamFfnDown.nD,
      r.2.mem ((c.tc : Thread Cert.AdamFfnDown.nD Cert.AdamFfnDown.τ).loc Cert.AdamFfnDown.main_arg0) = m ((c.tc : Thread Cert.AdamFfnDown.nD Cert.AdamFfnDown.τ).loc Cert.AdamFfnDown.main_arg0)
      ∧ r.2.mem ((c.tc : Thread Cert.AdamFfnDown.nD Cert.AdamFfnDown.τ).loc Cert.AdamFfnDown.main_arg1) = m ((c.tc : Thread Cert.AdamFfnDown.nD Cert.AdamFfnDown.τ).loc Cert.AdamFfnDown.main_arg1)
      ∧ r.2.mem ((c.tc : Thread Cert.AdamFfnDown.nD Cert.AdamFfnDown.τ).loc Cert.AdamFfnDown.main_arg2) = m ((c.tc : Thread Cert.AdamFfnDown.nD Cert.AdamFfnDown.τ).loc Cert.AdamFfnDown.main_arg2)
      ∧ r.2.mem ((c.tc : Thread Cert.AdamFfnDown.nD Cert.AdamFfnDown.τ).loc Cert.AdamFfnDown.main_arg3) = m ((c.tc : Thread Cert.AdamFfnDown.nD Cert.AdamFfnDown.τ).loc Cert.AdamFfnDown.main_arg3)
      ∧ r.2.mem ((c.tc : Thread Cert.AdamFfnDown.nD Cert.AdamFfnDown.τ).loc Cert.AdamFfnDown.main_arg4) = m ((c.tc : Thread Cert.AdamFfnDown.nD Cert.AdamFfnDown.τ).loc Cert.AdamFfnDown.main_arg4))
      ∧ r.2.sem = fun _ => 0)

def quiescent_AdamFfnDownIdeal [hAdamFfnDownIdeal : Cert.AdamFfnDownIdeal.Facts] : Prop :=
  ∀ (m : (ℓ : Loc Cert.AdamFfnDownIdeal.nD Cert.AdamFfnDownIdeal.τ Cert.AdamFfnDownIdeal.sig) → Buf (Elt Ideal) ℓ) (g : Dev Cert.AdamFfnDownIdeal.nD → PrngReg), Pre_AdamFfnDownIdeal m →
    θ_run (Cert.AdamFfnDownIdeal.defs (F := Ideal)) (onTc (τ := Cert.AdamFfnDownIdeal.τ) (Cert.AdamFfnDownIdeal.main (F := Ideal))) ⟨m, fun _ => 0, g⟩ (fun r => (∀ c : Dev Cert.AdamFfnDownIdeal.nD,
      r.2.mem ((c.tc : Thread Cert.AdamFfnDownIdeal.nD Cert.AdamFfnDownIdeal.τ).loc Cert.AdamFfnDownIdeal.main_arg0) = m ((c.tc : Thread Cert.AdamFfnDownIdeal.nD Cert.AdamFfnDownIdeal.τ).loc Cert.AdamFfnDownIdeal.main_arg0)
      ∧ r.2.mem ((c.tc : Thread Cert.AdamFfnDownIdeal.nD Cert.AdamFfnDownIdeal.τ).loc Cert.AdamFfnDownIdeal.main_arg1) = m ((c.tc : Thread Cert.AdamFfnDownIdeal.nD Cert.AdamFfnDownIdeal.τ).loc Cert.AdamFfnDownIdeal.main_arg1)
      ∧ r.2.mem ((c.tc : Thread Cert.AdamFfnDownIdeal.nD Cert.AdamFfnDownIdeal.τ).loc Cert.AdamFfnDownIdeal.main_arg2) = m ((c.tc : Thread Cert.AdamFfnDownIdeal.nD Cert.AdamFfnDownIdeal.τ).loc Cert.AdamFfnDownIdeal.main_arg2)
      ∧ r.2.mem ((c.tc : Thread Cert.AdamFfnDownIdeal.nD Cert.AdamFfnDownIdeal.τ).loc Cert.AdamFfnDownIdeal.main_arg3) = m ((c.tc : Thread Cert.AdamFfnDownIdeal.nD Cert.AdamFfnDownIdeal.τ).loc Cert.AdamFfnDownIdeal.main_arg3)
      ∧ r.2.mem ((c.tc : Thread Cert.AdamFfnDownIdeal.nD Cert.AdamFfnDownIdeal.τ).loc Cert.AdamFfnDownIdeal.main_arg4) = m ((c.tc : Thread Cert.AdamFfnDownIdeal.nD Cert.AdamFfnDownIdeal.τ).loc Cert.AdamFfnDownIdeal.main_arg4))
      ∧ r.2.sem = fun _ => 0)

def quiescent_AdamFfnDownReferenceIdeal [hAdamFfnDownReferenceIdeal : Cert.AdamFfnDownReferenceIdeal.Facts] : Prop :=
  ∀ (m : (ℓ : Loc Cert.AdamFfnDownReferenceIdeal.nD Cert.AdamFfnDownReferenceIdeal.τ Cert.AdamFfnDownReferenceIdeal.sig) → Buf (Elt Ideal) ℓ) (g : Dev Cert.AdamFfnDownReferenceIdeal.nD → PrngReg), Pre_AdamFfnDownReferenceIdeal m →
    θ_run (Cert.AdamFfnDownReferenceIdeal.defs (F := Ideal)) (onTc (τ := Cert.AdamFfnDownReferenceIdeal.τ) (Cert.AdamFfnDownReferenceIdeal.main (F := Ideal))) ⟨m, fun _ => 0, g⟩ (fun r => (∀ c : Dev Cert.AdamFfnDownReferenceIdeal.nD,
      r.2.mem ((c.tc : Thread Cert.AdamFfnDownReferenceIdeal.nD Cert.AdamFfnDownReferenceIdeal.τ).loc Cert.AdamFfnDownReferenceIdeal.main_arg0) = m ((c.tc : Thread Cert.AdamFfnDownReferenceIdeal.nD Cert.AdamFfnDownReferenceIdeal.τ).loc Cert.AdamFfnDownReferenceIdeal.main_arg0)
      ∧ r.2.mem ((c.tc : Thread Cert.AdamFfnDownReferenceIdeal.nD Cert.AdamFfnDownReferenceIdeal.τ).loc Cert.AdamFfnDownReferenceIdeal.main_arg1) = m ((c.tc : Thread Cert.AdamFfnDownReferenceIdeal.nD Cert.AdamFfnDownReferenceIdeal.τ).loc Cert.AdamFfnDownReferenceIdeal.main_arg1)
      ∧ r.2.mem ((c.tc : Thread Cert.AdamFfnDownReferenceIdeal.nD Cert.AdamFfnDownReferenceIdeal.τ).loc Cert.AdamFfnDownReferenceIdeal.main_arg2) = m ((c.tc : Thread Cert.AdamFfnDownReferenceIdeal.nD Cert.AdamFfnDownReferenceIdeal.τ).loc Cert.AdamFfnDownReferenceIdeal.main_arg2)
      ∧ r.2.mem ((c.tc : Thread Cert.AdamFfnDownReferenceIdeal.nD Cert.AdamFfnDownReferenceIdeal.τ).loc Cert.AdamFfnDownReferenceIdeal.main_arg3) = m ((c.tc : Thread Cert.AdamFfnDownReferenceIdeal.nD Cert.AdamFfnDownReferenceIdeal.τ).loc Cert.AdamFfnDownReferenceIdeal.main_arg3)
      ∧ r.2.mem ((c.tc : Thread Cert.AdamFfnDownReferenceIdeal.nD Cert.AdamFfnDownReferenceIdeal.τ).loc Cert.AdamFfnDownReferenceIdeal.main_arg4) = m ((c.tc : Thread Cert.AdamFfnDownReferenceIdeal.nD Cert.AdamFfnDownReferenceIdeal.τ).loc Cert.AdamFfnDownReferenceIdeal.main_arg4))
      ∧ r.2.sem = fun _ => 0)

def quiescent_AdamTail [hAdamTail : Cert.AdamTail.Facts] : Prop :=
  ∀ (m : (ℓ : Loc Cert.AdamTail.nD Cert.AdamTail.τ Cert.AdamTail.sig) → Buf (Elt Bits) ℓ) (g : Dev Cert.AdamTail.nD → PrngReg), Pre_AdamTail m →
    θ_run (Cert.AdamTail.defs (F := Bits)) (onTc (τ := Cert.AdamTail.τ) (Cert.AdamTail.main (F := Bits))) ⟨m, fun _ => 0, g⟩ (fun r => (∀ c : Dev Cert.AdamTail.nD,
      r.2.mem ((c.tc : Thread Cert.AdamTail.nD Cert.AdamTail.τ).loc Cert.AdamTail.main_arg0) = m ((c.tc : Thread Cert.AdamTail.nD Cert.AdamTail.τ).loc Cert.AdamTail.main_arg0)
      ∧ r.2.mem ((c.tc : Thread Cert.AdamTail.nD Cert.AdamTail.τ).loc Cert.AdamTail.main_arg1) = m ((c.tc : Thread Cert.AdamTail.nD Cert.AdamTail.τ).loc Cert.AdamTail.main_arg1)
      ∧ r.2.mem ((c.tc : Thread Cert.AdamTail.nD Cert.AdamTail.τ).loc Cert.AdamTail.main_arg2) = m ((c.tc : Thread Cert.AdamTail.nD Cert.AdamTail.τ).loc Cert.AdamTail.main_arg2)
      ∧ r.2.mem ((c.tc : Thread Cert.AdamTail.nD Cert.AdamTail.τ).loc Cert.AdamTail.main_arg3) = m ((c.tc : Thread Cert.AdamTail.nD Cert.AdamTail.τ).loc Cert.AdamTail.main_arg3))
      ∧ r.2.sem = fun _ => 0)

def quiescent_AdamTailIdeal [hAdamTailIdeal : Cert.AdamTailIdeal.Facts] : Prop :=
  ∀ (m : (ℓ : Loc Cert.AdamTailIdeal.nD Cert.AdamTailIdeal.τ Cert.AdamTailIdeal.sig) → Buf (Elt Ideal) ℓ) (g : Dev Cert.AdamTailIdeal.nD → PrngReg), Pre_AdamTailIdeal m →
    θ_run (Cert.AdamTailIdeal.defs (F := Ideal)) (onTc (τ := Cert.AdamTailIdeal.τ) (Cert.AdamTailIdeal.main (F := Ideal))) ⟨m, fun _ => 0, g⟩ (fun r => (∀ c : Dev Cert.AdamTailIdeal.nD,
      r.2.mem ((c.tc : Thread Cert.AdamTailIdeal.nD Cert.AdamTailIdeal.τ).loc Cert.AdamTailIdeal.main_arg0) = m ((c.tc : Thread Cert.AdamTailIdeal.nD Cert.AdamTailIdeal.τ).loc Cert.AdamTailIdeal.main_arg0)
      ∧ r.2.mem ((c.tc : Thread Cert.AdamTailIdeal.nD Cert.AdamTailIdeal.τ).loc Cert.AdamTailIdeal.main_arg1) = m ((c.tc : Thread Cert.AdamTailIdeal.nD Cert.AdamTailIdeal.τ).loc Cert.AdamTailIdeal.main_arg1)
      ∧ r.2.mem ((c.tc : Thread Cert.AdamTailIdeal.nD Cert.AdamTailIdeal.τ).loc Cert.AdamTailIdeal.main_arg2) = m ((c.tc : Thread Cert.AdamTailIdeal.nD Cert.AdamTailIdeal.τ).loc Cert.AdamTailIdeal.main_arg2)
      ∧ r.2.mem ((c.tc : Thread Cert.AdamTailIdeal.nD Cert.AdamTailIdeal.τ).loc Cert.AdamTailIdeal.main_arg3) = m ((c.tc : Thread Cert.AdamTailIdeal.nD Cert.AdamTailIdeal.τ).loc Cert.AdamTailIdeal.main_arg3))
      ∧ r.2.sem = fun _ => 0)

def quiescent_AdamTailReferenceIdeal [hAdamTailReferenceIdeal : Cert.AdamTailReferenceIdeal.Facts] : Prop :=
  ∀ (m : (ℓ : Loc Cert.AdamTailReferenceIdeal.nD Cert.AdamTailReferenceIdeal.τ Cert.AdamTailReferenceIdeal.sig) → Buf (Elt Ideal) ℓ) (g : Dev Cert.AdamTailReferenceIdeal.nD → PrngReg), Pre_AdamTailReferenceIdeal m →
    θ_run (Cert.AdamTailReferenceIdeal.defs (F := Ideal)) (onTc (τ := Cert.AdamTailReferenceIdeal.τ) (Cert.AdamTailReferenceIdeal.main (F := Ideal))) ⟨m, fun _ => 0, g⟩ (fun r => (∀ c : Dev Cert.AdamTailReferenceIdeal.nD,
      r.2.mem ((c.tc : Thread Cert.AdamTailReferenceIdeal.nD Cert.AdamTailReferenceIdeal.τ).loc Cert.AdamTailReferenceIdeal.main_arg0) = m ((c.tc : Thread Cert.AdamTailReferenceIdeal.nD Cert.AdamTailReferenceIdeal.τ).loc Cert.AdamTailReferenceIdeal.main_arg0)
      ∧ r.2.mem ((c.tc : Thread Cert.AdamTailReferenceIdeal.nD Cert.AdamTailReferenceIdeal.τ).loc Cert.AdamTailReferenceIdeal.main_arg1) = m ((c.tc : Thread Cert.AdamTailReferenceIdeal.nD Cert.AdamTailReferenceIdeal.τ).loc Cert.AdamTailReferenceIdeal.main_arg1)
      ∧ r.2.mem ((c.tc : Thread Cert.AdamTailReferenceIdeal.nD Cert.AdamTailReferenceIdeal.τ).loc Cert.AdamTailReferenceIdeal.main_arg2) = m ((c.tc : Thread Cert.AdamTailReferenceIdeal.nD Cert.AdamTailReferenceIdeal.τ).loc Cert.AdamTailReferenceIdeal.main_arg2)
      ∧ r.2.mem ((c.tc : Thread Cert.AdamTailReferenceIdeal.nD Cert.AdamTailReferenceIdeal.τ).loc Cert.AdamTailReferenceIdeal.main_arg3) = m ((c.tc : Thread Cert.AdamTailReferenceIdeal.nD Cert.AdamTailReferenceIdeal.τ).loc Cert.AdamTailReferenceIdeal.main_arg3))
      ∧ r.2.sem = fun _ => 0)

def quiescent_SlotSum [hSlotSum : Cert.SlotSum.Facts] : Prop :=
  ∀ (m : (ℓ : Loc Cert.SlotSum.nD Cert.SlotSum.τ Cert.SlotSum.sig) → Buf (Elt Bits) ℓ) (g : Dev Cert.SlotSum.nD → PrngReg), Pre_SlotSum m →
    θ_run (Cert.SlotSum.defs (F := Bits)) (onTc (τ := Cert.SlotSum.τ) (Cert.SlotSum.main (F := Bits))) ⟨m, fun _ => 0, g⟩ (fun r => (∀ c : Dev Cert.SlotSum.nD,
      r.2.mem ((c.tc : Thread Cert.SlotSum.nD Cert.SlotSum.τ).loc Cert.SlotSum.main_arg0) = m ((c.tc : Thread Cert.SlotSum.nD Cert.SlotSum.τ).loc Cert.SlotSum.main_arg0))
      ∧ r.2.sem = fun _ => 0)

def quiescent_SlotSumIdeal [hSlotSumIdeal : Cert.SlotSumIdeal.Facts] : Prop :=
  ∀ (m : (ℓ : Loc Cert.SlotSumIdeal.nD Cert.SlotSumIdeal.τ Cert.SlotSumIdeal.sig) → Buf (Elt Ideal) ℓ) (g : Dev Cert.SlotSumIdeal.nD → PrngReg), Pre_SlotSumIdeal m →
    θ_run (Cert.SlotSumIdeal.defs (F := Ideal)) (onTc (τ := Cert.SlotSumIdeal.τ) (Cert.SlotSumIdeal.main (F := Ideal))) ⟨m, fun _ => 0, g⟩ (fun r => (∀ c : Dev Cert.SlotSumIdeal.nD,
      r.2.mem ((c.tc : Thread Cert.SlotSumIdeal.nD Cert.SlotSumIdeal.τ).loc Cert.SlotSumIdeal.main_arg0) = m ((c.tc : Thread Cert.SlotSumIdeal.nD Cert.SlotSumIdeal.τ).loc Cert.SlotSumIdeal.main_arg0))
      ∧ r.2.sem = fun _ => 0)

def quiescent_SlotSumReferenceIdeal [hSlotSumReferenceIdeal : Cert.SlotSumReferenceIdeal.Facts] : Prop :=
  ∀ (m : (ℓ : Loc Cert.SlotSumReferenceIdeal.nD Cert.SlotSumReferenceIdeal.τ Cert.SlotSumReferenceIdeal.sig) → Buf (Elt Ideal) ℓ) (g : Dev Cert.SlotSumReferenceIdeal.nD → PrngReg), Pre_SlotSumReferenceIdeal m →
    θ_run (Cert.SlotSumReferenceIdeal.defs (F := Ideal)) (onTc (τ := Cert.SlotSumReferenceIdeal.τ) (Cert.SlotSumReferenceIdeal.main (F := Ideal))) ⟨m, fun _ => 0, g⟩ (fun r => (∀ c : Dev Cert.SlotSumReferenceIdeal.nD,
      r.2.mem ((c.tc : Thread Cert.SlotSumReferenceIdeal.nD Cert.SlotSumReferenceIdeal.τ).loc Cert.SlotSumReferenceIdeal.main_arg0) = m ((c.tc : Thread Cert.SlotSumReferenceIdeal.nD Cert.SlotSumReferenceIdeal.τ).loc Cert.SlotSumReferenceIdeal.main_arg0))
      ∧ r.2.sem = fun _ => 0)

def quiescent_LruConv [hLruConv : Cert.LruConv.Facts] : Prop :=
  ∀ (m : (ℓ : Loc Cert.LruConv.nD Cert.LruConv.τ Cert.LruConv.sig) → Buf (Elt Bits) ℓ) (g : Dev Cert.LruConv.nD → PrngReg), Pre_LruConv m →
    θ_run (Cert.LruConv.defs (F := Bits)) (onTc (τ := Cert.LruConv.τ) (Cert.LruConv.main (F := Bits))) ⟨m, fun _ => 0, g⟩ (fun r => (∀ c : Dev Cert.LruConv.nD,
      r.2.mem ((c.tc : Thread Cert.LruConv.nD Cert.LruConv.τ).loc Cert.LruConv.main_arg0) = m ((c.tc : Thread Cert.LruConv.nD Cert.LruConv.τ).loc Cert.LruConv.main_arg0)
      ∧ r.2.mem ((c.tc : Thread Cert.LruConv.nD Cert.LruConv.τ).loc Cert.LruConv.main_arg1) = m ((c.tc : Thread Cert.LruConv.nD Cert.LruConv.τ).loc Cert.LruConv.main_arg1)
      ∧ r.2.mem ((c.tc : Thread Cert.LruConv.nD Cert.LruConv.τ).loc Cert.LruConv.main_arg2) = m ((c.tc : Thread Cert.LruConv.nD Cert.LruConv.τ).loc Cert.LruConv.main_arg2)
      ∧ r.2.mem ((c.tc : Thread Cert.LruConv.nD Cert.LruConv.τ).loc Cert.LruConv.main_arg3) = m ((c.tc : Thread Cert.LruConv.nD Cert.LruConv.τ).loc Cert.LruConv.main_arg3)
      ∧ r.2.mem ((c.tc : Thread Cert.LruConv.nD Cert.LruConv.τ).loc Cert.LruConv.main_arg4) = m ((c.tc : Thread Cert.LruConv.nD Cert.LruConv.τ).loc Cert.LruConv.main_arg4)
      ∧ r.2.mem ((c.tc : Thread Cert.LruConv.nD Cert.LruConv.τ).loc Cert.LruConv.main_arg5) = m ((c.tc : Thread Cert.LruConv.nD Cert.LruConv.τ).loc Cert.LruConv.main_arg5)
      ∧ r.2.mem ((c.tc : Thread Cert.LruConv.nD Cert.LruConv.τ).loc Cert.LruConv.main_arg6) = m ((c.tc : Thread Cert.LruConv.nD Cert.LruConv.τ).loc Cert.LruConv.main_arg6)
      ∧ r.2.mem ((c.tc : Thread Cert.LruConv.nD Cert.LruConv.τ).loc Cert.LruConv.main_arg7) = m ((c.tc : Thread Cert.LruConv.nD Cert.LruConv.τ).loc Cert.LruConv.main_arg7))
      ∧ r.2.sem = fun _ => 0)

def quiescent_LruConvIdeal [hLruConvIdeal : Cert.LruConvIdeal.Facts] : Prop :=
  ∀ (m : (ℓ : Loc Cert.LruConvIdeal.nD Cert.LruConvIdeal.τ Cert.LruConvIdeal.sig) → Buf (Elt Ideal) ℓ) (g : Dev Cert.LruConvIdeal.nD → PrngReg), Pre_LruConvIdeal m →
    θ_run (Cert.LruConvIdeal.defs (F := Ideal)) (onTc (τ := Cert.LruConvIdeal.τ) (Cert.LruConvIdeal.main (F := Ideal))) ⟨m, fun _ => 0, g⟩ (fun r => (∀ c : Dev Cert.LruConvIdeal.nD,
      r.2.mem ((c.tc : Thread Cert.LruConvIdeal.nD Cert.LruConvIdeal.τ).loc Cert.LruConvIdeal.main_arg0) = m ((c.tc : Thread Cert.LruConvIdeal.nD Cert.LruConvIdeal.τ).loc Cert.LruConvIdeal.main_arg0)
      ∧ r.2.mem ((c.tc : Thread Cert.LruConvIdeal.nD Cert.LruConvIdeal.τ).loc Cert.LruConvIdeal.main_arg1) = m ((c.tc : Thread Cert.LruConvIdeal.nD Cert.LruConvIdeal.τ).loc Cert.LruConvIdeal.main_arg1)
      ∧ r.2.mem ((c.tc : Thread Cert.LruConvIdeal.nD Cert.LruConvIdeal.τ).loc Cert.LruConvIdeal.main_arg2) = m ((c.tc : Thread Cert.LruConvIdeal.nD Cert.LruConvIdeal.τ).loc Cert.LruConvIdeal.main_arg2)
      ∧ r.2.mem ((c.tc : Thread Cert.LruConvIdeal.nD Cert.LruConvIdeal.τ).loc Cert.LruConvIdeal.main_arg3) = m ((c.tc : Thread Cert.LruConvIdeal.nD Cert.LruConvIdeal.τ).loc Cert.LruConvIdeal.main_arg3)
      ∧ r.2.mem ((c.tc : Thread Cert.LruConvIdeal.nD Cert.LruConvIdeal.τ).loc Cert.LruConvIdeal.main_arg4) = m ((c.tc : Thread Cert.LruConvIdeal.nD Cert.LruConvIdeal.τ).loc Cert.LruConvIdeal.main_arg4)
      ∧ r.2.mem ((c.tc : Thread Cert.LruConvIdeal.nD Cert.LruConvIdeal.τ).loc Cert.LruConvIdeal.main_arg5) = m ((c.tc : Thread Cert.LruConvIdeal.nD Cert.LruConvIdeal.τ).loc Cert.LruConvIdeal.main_arg5)
      ∧ r.2.mem ((c.tc : Thread Cert.LruConvIdeal.nD Cert.LruConvIdeal.τ).loc Cert.LruConvIdeal.main_arg6) = m ((c.tc : Thread Cert.LruConvIdeal.nD Cert.LruConvIdeal.τ).loc Cert.LruConvIdeal.main_arg6)
      ∧ r.2.mem ((c.tc : Thread Cert.LruConvIdeal.nD Cert.LruConvIdeal.τ).loc Cert.LruConvIdeal.main_arg7) = m ((c.tc : Thread Cert.LruConvIdeal.nD Cert.LruConvIdeal.τ).loc Cert.LruConvIdeal.main_arg7))
      ∧ r.2.sem = fun _ => 0)

def quiescent_LruConvReferenceIdeal [hLruConvReferenceIdeal : Cert.LruConvReferenceIdeal.Facts] : Prop :=
  ∀ (m : (ℓ : Loc Cert.LruConvReferenceIdeal.nD Cert.LruConvReferenceIdeal.τ Cert.LruConvReferenceIdeal.sig) → Buf (Elt Ideal) ℓ) (g : Dev Cert.LruConvReferenceIdeal.nD → PrngReg), Pre_LruConvReferenceIdeal m →
    θ_run (Cert.LruConvReferenceIdeal.defs (F := Ideal)) (onTc (τ := Cert.LruConvReferenceIdeal.τ) (Cert.LruConvReferenceIdeal.main (F := Ideal))) ⟨m, fun _ => 0, g⟩ (fun r => (∀ c : Dev Cert.LruConvReferenceIdeal.nD,
      r.2.mem ((c.tc : Thread Cert.LruConvReferenceIdeal.nD Cert.LruConvReferenceIdeal.τ).loc Cert.LruConvReferenceIdeal.main_arg0) = m ((c.tc : Thread Cert.LruConvReferenceIdeal.nD Cert.LruConvReferenceIdeal.τ).loc Cert.LruConvReferenceIdeal.main_arg0)
      ∧ r.2.mem ((c.tc : Thread Cert.LruConvReferenceIdeal.nD Cert.LruConvReferenceIdeal.τ).loc Cert.LruConvReferenceIdeal.main_arg1) = m ((c.tc : Thread Cert.LruConvReferenceIdeal.nD Cert.LruConvReferenceIdeal.τ).loc Cert.LruConvReferenceIdeal.main_arg1)
      ∧ r.2.mem ((c.tc : Thread Cert.LruConvReferenceIdeal.nD Cert.LruConvReferenceIdeal.τ).loc Cert.LruConvReferenceIdeal.main_arg2) = m ((c.tc : Thread Cert.LruConvReferenceIdeal.nD Cert.LruConvReferenceIdeal.τ).loc Cert.LruConvReferenceIdeal.main_arg2)
      ∧ r.2.mem ((c.tc : Thread Cert.LruConvReferenceIdeal.nD Cert.LruConvReferenceIdeal.τ).loc Cert.LruConvReferenceIdeal.main_arg3) = m ((c.tc : Thread Cert.LruConvReferenceIdeal.nD Cert.LruConvReferenceIdeal.τ).loc Cert.LruConvReferenceIdeal.main_arg3)
      ∧ r.2.mem ((c.tc : Thread Cert.LruConvReferenceIdeal.nD Cert.LruConvReferenceIdeal.τ).loc Cert.LruConvReferenceIdeal.main_arg4) = m ((c.tc : Thread Cert.LruConvReferenceIdeal.nD Cert.LruConvReferenceIdeal.τ).loc Cert.LruConvReferenceIdeal.main_arg4)
      ∧ r.2.mem ((c.tc : Thread Cert.LruConvReferenceIdeal.nD Cert.LruConvReferenceIdeal.τ).loc Cert.LruConvReferenceIdeal.main_arg5) = m ((c.tc : Thread Cert.LruConvReferenceIdeal.nD Cert.LruConvReferenceIdeal.τ).loc Cert.LruConvReferenceIdeal.main_arg5)
      ∧ r.2.mem ((c.tc : Thread Cert.LruConvReferenceIdeal.nD Cert.LruConvReferenceIdeal.τ).loc Cert.LruConvReferenceIdeal.main_arg6) = m ((c.tc : Thread Cert.LruConvReferenceIdeal.nD Cert.LruConvReferenceIdeal.τ).loc Cert.LruConvReferenceIdeal.main_arg6)
      ∧ r.2.mem ((c.tc : Thread Cert.LruConvReferenceIdeal.nD Cert.LruConvReferenceIdeal.τ).loc Cert.LruConvReferenceIdeal.main_arg7) = m ((c.tc : Thread Cert.LruConvReferenceIdeal.nD Cert.LruConvReferenceIdeal.τ).loc Cert.LruConvReferenceIdeal.main_arg7))
      ∧ r.2.sem = fun _ => 0)

def quiescent_SsdBwd [hSsdBwd : Cert.SsdBwd.Facts] : Prop :=
  ∀ (m : (ℓ : Loc Cert.SsdBwd.nD Cert.SsdBwd.τ Cert.SsdBwd.sig) → Buf (Elt Bits) ℓ) (g : Dev Cert.SsdBwd.nD → PrngReg), Pre_SsdBwd m →
    θ_run (Cert.SsdBwd.defs (F := Bits)) (onTc (τ := Cert.SsdBwd.τ) (Cert.SsdBwd.main (F := Bits))) ⟨m, fun _ => 0, g⟩ (fun r => (∀ c : Dev Cert.SsdBwd.nD,
      r.2.mem ((c.tc : Thread Cert.SsdBwd.nD Cert.SsdBwd.τ).loc Cert.SsdBwd.main_arg0) = m ((c.tc : Thread Cert.SsdBwd.nD Cert.SsdBwd.τ).loc Cert.SsdBwd.main_arg0)
      ∧ r.2.mem ((c.tc : Thread Cert.SsdBwd.nD Cert.SsdBwd.τ).loc Cert.SsdBwd.main_arg1) = m ((c.tc : Thread Cert.SsdBwd.nD Cert.SsdBwd.τ).loc Cert.SsdBwd.main_arg1)
      ∧ r.2.mem ((c.tc : Thread Cert.SsdBwd.nD Cert.SsdBwd.τ).loc Cert.SsdBwd.main_arg2) = m ((c.tc : Thread Cert.SsdBwd.nD Cert.SsdBwd.τ).loc Cert.SsdBwd.main_arg2)
      ∧ r.2.mem ((c.tc : Thread Cert.SsdBwd.nD Cert.SsdBwd.τ).loc Cert.SsdBwd.main_arg3) = m ((c.tc : Thread Cert.SsdBwd.nD Cert.SsdBwd.τ).loc Cert.SsdBwd.main_arg3)
      ∧ r.2.mem ((c.tc : Thread Cert.SsdBwd.nD Cert.SsdBwd.τ).loc Cert.SsdBwd.main_arg4) = m ((c.tc : Thread Cert.SsdBwd.nD Cert.SsdBwd.τ).loc Cert.SsdBwd.main_arg4)
      ∧ r.2.mem ((c.tc : Thread Cert.SsdBwd.nD Cert.SsdBwd.τ).loc Cert.SsdBwd.main_arg5) = m ((c.tc : Thread Cert.SsdBwd.nD Cert.SsdBwd.τ).loc Cert.SsdBwd.main_arg5)
      ∧ r.2.mem ((c.tc : Thread Cert.SsdBwd.nD Cert.SsdBwd.τ).loc Cert.SsdBwd.main_arg6) = m ((c.tc : Thread Cert.SsdBwd.nD Cert.SsdBwd.τ).loc Cert.SsdBwd.main_arg6)
      ∧ r.2.mem ((c.tc : Thread Cert.SsdBwd.nD Cert.SsdBwd.τ).loc Cert.SsdBwd.main_arg7) = m ((c.tc : Thread Cert.SsdBwd.nD Cert.SsdBwd.τ).loc Cert.SsdBwd.main_arg7)
      ∧ r.2.mem ((c.tc : Thread Cert.SsdBwd.nD Cert.SsdBwd.τ).loc Cert.SsdBwd.main_arg8) = m ((c.tc : Thread Cert.SsdBwd.nD Cert.SsdBwd.τ).loc Cert.SsdBwd.main_arg8)
      ∧ r.2.mem ((c.tc : Thread Cert.SsdBwd.nD Cert.SsdBwd.τ).loc Cert.SsdBwd.main_arg9) = m ((c.tc : Thread Cert.SsdBwd.nD Cert.SsdBwd.τ).loc Cert.SsdBwd.main_arg9))
      ∧ r.2.sem = fun _ => 0)

def quiescent_SsdBwdIdeal [hSsdBwdIdeal : Cert.SsdBwdIdeal.Facts] : Prop :=
  ∀ (m : (ℓ : Loc Cert.SsdBwdIdeal.nD Cert.SsdBwdIdeal.τ Cert.SsdBwdIdeal.sig) → Buf (Elt Ideal) ℓ) (g : Dev Cert.SsdBwdIdeal.nD → PrngReg), Pre_SsdBwdIdeal m →
    θ_run (Cert.SsdBwdIdeal.defs (F := Ideal)) (onTc (τ := Cert.SsdBwdIdeal.τ) (Cert.SsdBwdIdeal.main (F := Ideal))) ⟨m, fun _ => 0, g⟩ (fun r => (∀ c : Dev Cert.SsdBwdIdeal.nD,
      r.2.mem ((c.tc : Thread Cert.SsdBwdIdeal.nD Cert.SsdBwdIdeal.τ).loc Cert.SsdBwdIdeal.main_arg0) = m ((c.tc : Thread Cert.SsdBwdIdeal.nD Cert.SsdBwdIdeal.τ).loc Cert.SsdBwdIdeal.main_arg0)
      ∧ r.2.mem ((c.tc : Thread Cert.SsdBwdIdeal.nD Cert.SsdBwdIdeal.τ).loc Cert.SsdBwdIdeal.main_arg1) = m ((c.tc : Thread Cert.SsdBwdIdeal.nD Cert.SsdBwdIdeal.τ).loc Cert.SsdBwdIdeal.main_arg1)
      ∧ r.2.mem ((c.tc : Thread Cert.SsdBwdIdeal.nD Cert.SsdBwdIdeal.τ).loc Cert.SsdBwdIdeal.main_arg2) = m ((c.tc : Thread Cert.SsdBwdIdeal.nD Cert.SsdBwdIdeal.τ).loc Cert.SsdBwdIdeal.main_arg2)
      ∧ r.2.mem ((c.tc : Thread Cert.SsdBwdIdeal.nD Cert.SsdBwdIdeal.τ).loc Cert.SsdBwdIdeal.main_arg3) = m ((c.tc : Thread Cert.SsdBwdIdeal.nD Cert.SsdBwdIdeal.τ).loc Cert.SsdBwdIdeal.main_arg3)
      ∧ r.2.mem ((c.tc : Thread Cert.SsdBwdIdeal.nD Cert.SsdBwdIdeal.τ).loc Cert.SsdBwdIdeal.main_arg4) = m ((c.tc : Thread Cert.SsdBwdIdeal.nD Cert.SsdBwdIdeal.τ).loc Cert.SsdBwdIdeal.main_arg4)
      ∧ r.2.mem ((c.tc : Thread Cert.SsdBwdIdeal.nD Cert.SsdBwdIdeal.τ).loc Cert.SsdBwdIdeal.main_arg5) = m ((c.tc : Thread Cert.SsdBwdIdeal.nD Cert.SsdBwdIdeal.τ).loc Cert.SsdBwdIdeal.main_arg5)
      ∧ r.2.mem ((c.tc : Thread Cert.SsdBwdIdeal.nD Cert.SsdBwdIdeal.τ).loc Cert.SsdBwdIdeal.main_arg6) = m ((c.tc : Thread Cert.SsdBwdIdeal.nD Cert.SsdBwdIdeal.τ).loc Cert.SsdBwdIdeal.main_arg6)
      ∧ r.2.mem ((c.tc : Thread Cert.SsdBwdIdeal.nD Cert.SsdBwdIdeal.τ).loc Cert.SsdBwdIdeal.main_arg7) = m ((c.tc : Thread Cert.SsdBwdIdeal.nD Cert.SsdBwdIdeal.τ).loc Cert.SsdBwdIdeal.main_arg7)
      ∧ r.2.mem ((c.tc : Thread Cert.SsdBwdIdeal.nD Cert.SsdBwdIdeal.τ).loc Cert.SsdBwdIdeal.main_arg8) = m ((c.tc : Thread Cert.SsdBwdIdeal.nD Cert.SsdBwdIdeal.τ).loc Cert.SsdBwdIdeal.main_arg8)
      ∧ r.2.mem ((c.tc : Thread Cert.SsdBwdIdeal.nD Cert.SsdBwdIdeal.τ).loc Cert.SsdBwdIdeal.main_arg9) = m ((c.tc : Thread Cert.SsdBwdIdeal.nD Cert.SsdBwdIdeal.τ).loc Cert.SsdBwdIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Swiglu_SwigluIdeal : Prop :=
  True

def algebraic_SwigluIdeal_SwigluReferenceIdeal_pre_swiglu_finite [hSwigluIdeal : Cert.SwigluIdeal.Facts] [hSwigluReferenceIdeal : Cert.SwigluReferenceIdeal.Facts] [hPre_swiglu_finite : Cert.Pre_swiglu_finite.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluReferenceIdeal.nD Cert.SwigluReferenceIdeal.τ Cert.SwigluReferenceIdeal.sig) → Buf (Elt Ideal) ℓ) (g' : Dev Cert.SwigluReferenceIdeal.nD → PrngReg), Pre_SwigluIdeal_swiglu_finite m →
    (∀ c : Dev Cert.SwigluIdeal.nD,
      m' ((c.tc : Thread Cert.SwigluReferenceIdeal.nD Cert.SwigluReferenceIdeal.τ).loc Cert.SwigluReferenceIdeal.main_arg0) = m ((c.tc : Thread Cert.SwigluIdeal.nD Cert.SwigluIdeal.τ).loc Cert.SwigluIdeal.main_arg0)
      ∧ m' ((c.tc : Thread Cert.SwigluReferenceIdeal.nD Cert.SwigluReferenceIdeal.τ).loc Cert.SwigluReferenceIdeal.main_arg1) = m ((c.tc : Thread Cert.SwigluIdeal.nD Cert.SwigluIdeal.τ).loc Cert.SwigluIdeal.main_arg1)
      ∧ m' ((c.tc : Thread Cert.SwigluReferenceIdeal.nD Cert.SwigluReferenceIdeal.τ).loc Cert.SwigluReferenceIdeal.main_arg2) = m ((c.tc : Thread Cert.SwigluIdeal.nD Cert.SwigluIdeal.τ).loc Cert.SwigluIdeal.main_arg2)
      ∧ m' ((c.tc : Thread Cert.SwigluReferenceIdeal.nD Cert.SwigluReferenceIdeal.τ).loc Cert.SwigluReferenceIdeal.main_arg3) = m ((c.tc : Thread Cert.SwigluIdeal.nD Cert.SwigluIdeal.τ).loc Cert.SwigluIdeal.main_arg3)) →
    ∃ (v0 : (c : Dev Cert.SwigluIdeal.nD) → Buf (Elt Ideal) ((c.tc : Thread Cert.SwigluIdeal.nD Cert.SwigluIdeal.τ).loc Cert.SwigluIdeal.main_v0_0)) (v1 : (c : Dev Cert.SwigluIdeal.nD) → Buf (Elt Ideal) ((c.tc : Thread Cert.SwigluIdeal.nD Cert.SwigluIdeal.τ).loc Cert.SwigluIdeal.main_v0_1)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v0_0) = v0 c
          ∧ r.2.mem ((c.tc : Thread Cert.SwigluIdeal.nD Cert.SwigluIdeal.τ).loc Cert.SwigluIdeal.main_v0_1) = v1 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
          ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3))
      ∧ θ_run (Cert.SwigluReferenceIdeal.defs (F := Ideal)) (onTc (τ := Cert.SwigluReferenceIdeal.τ) (Cert.SwigluReferenceIdeal.main (F := Ideal))) ⟨m', fun _ => 0, g'⟩ (fun r => ∀ c : Dev Cert.SwigluReferenceIdeal.nD,
          r.2.mem ((c.tc : Thread Cert.SwigluReferenceIdeal.nD Cert.SwigluReferenceIdeal.τ).loc Cert.SwigluReferenceIdeal.main_v10) = v0 c
          ∧ r.2.mem ((c.tc : Thread Cert.SwigluReferenceIdeal.nD Cert.SwigluReferenceIdeal.τ).loc Cert.SwigluReferenceIdeal.main_v11) = v1 c
          ∧ r.2.mem ((c.tc : Thread Cert.SwigluReferenceIdeal.nD Cert.SwigluReferenceIdeal.τ).loc Cert.SwigluReferenceIdeal.main_arg0) = m' ((c.tc : Thread Cert.SwigluReferenceIdeal.nD Cert.SwigluReferenceIdeal.τ).loc Cert.SwigluReferenceIdeal.main_arg0)
          ∧ r.2.mem ((c.tc : Thread Cert.SwigluReferenceIdeal.nD Cert.SwigluReferenceIdeal.τ).loc Cert.SwigluReferenceIdeal.main_arg1) = m' ((c.tc : Thread Cert.SwigluReferenceIdeal.nD Cert.SwigluReferenceIdeal.τ).loc Cert.SwigluReferenceIdeal.main_arg1)
          ∧ r.2.mem ((c.tc : Thread Cert.SwigluReferenceIdeal.nD Cert.SwigluReferenceIdeal.τ).loc Cert.SwigluReferenceIdeal.main_arg2) = m' ((c.tc : Thread Cert.SwigluReferenceIdeal.nD Cert.SwigluReferenceIdeal.τ).loc Cert.SwigluReferenceIdeal.main_arg2)
          ∧ r.2.mem ((c.tc : Thread Cert.SwigluReferenceIdeal.nD Cert.SwigluReferenceIdeal.τ).loc Cert.SwigluReferenceIdeal.main_arg3) = m' ((c.tc : Thread Cert.SwigluReferenceIdeal.nD Cert.SwigluReferenceIdeal.τ).loc Cert.SwigluReferenceIdeal.main_arg3))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)
      ∧ m' ((c.tc : Thread Cert.GateReferenceIdeal.nD Cert.GateReferenceIdeal.τ).loc Cert.GateReferenceIdeal.main_arg2) = m ((c.tc : Thread Cert.GateIdeal.nD Cert.GateIdeal.τ).loc Cert.GateIdeal.main_arg2)
      ∧ m' ((c.tc : Thread Cert.GateReferenceIdeal.nD Cert.GateReferenceIdeal.τ).loc Cert.GateReferenceIdeal.main_arg3) = m ((c.tc : Thread Cert.GateIdeal.nD Cert.GateIdeal.τ).loc Cert.GateIdeal.main_arg3)
      ∧ m' ((c.tc : Thread Cert.GateReferenceIdeal.nD Cert.GateReferenceIdeal.τ).loc Cert.GateReferenceIdeal.main_arg4) = m ((c.tc : Thread Cert.GateIdeal.nD Cert.GateIdeal.τ).loc Cert.GateIdeal.main_arg4)
      ∧ m' ((c.tc : Thread Cert.GateReferenceIdeal.nD Cert.GateReferenceIdeal.τ).loc Cert.GateReferenceIdeal.main_arg5) = m ((c.tc : Thread Cert.GateIdeal.nD Cert.GateIdeal.τ).loc Cert.GateIdeal.main_arg5)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)) (v2 : (c : Dev Cert.GateIdeal.nD) → Buf (Elt Ideal) ((c.tc : Thread Cert.GateIdeal.nD Cert.GateIdeal.τ).loc Cert.GateIdeal.main_v0_2)) (v3 : (c : Dev Cert.GateIdeal.nD) → Buf (Elt Ideal) ((c.tc : Thread Cert.GateIdeal.nD Cert.GateIdeal.τ).loc Cert.GateIdeal.main_v0_3)) (v4 : (c : Dev Cert.GateIdeal.nD) → Buf (Elt Ideal) ((c.tc : Thread Cert.GateIdeal.nD Cert.GateIdeal.τ).loc Cert.GateIdeal.main_v0_4)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_v0_2) = v2 c
          ∧ r.2.mem ((c.tc : Thread Cert.GateIdeal.nD Cert.GateIdeal.τ).loc Cert.GateIdeal.main_v0_3) = v3 c
          ∧ r.2.mem ((c.tc : Thread Cert.GateIdeal.nD Cert.GateIdeal.τ).loc Cert.GateIdeal.main_v0_4) = v4 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v51) = v0 c
          ∧ r.2.mem ((c.tc : Thread Cert.GateReferenceIdeal.nD Cert.GateReferenceIdeal.τ).loc Cert.GateReferenceIdeal.main_v52) = v1 c
          ∧ r.2.mem ((c.tc : Thread Cert.GateReferenceIdeal.nD Cert.GateReferenceIdeal.τ).loc Cert.GateReferenceIdeal.main_v53) = v2 c
          ∧ r.2.mem ((c.tc : Thread Cert.GateReferenceIdeal.nD Cert.GateReferenceIdeal.τ).loc Cert.GateReferenceIdeal.main_v54) = v3 c
          ∧ r.2.mem ((c.tc : Thread Cert.GateReferenceIdeal.nD Cert.GateReferenceIdeal.τ).loc Cert.GateReferenceIdeal.main_v49) = v4 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3)
          ∧ r.2.mem ((c.tc : Thread Cert.GateReferenceIdeal.nD Cert.GateReferenceIdeal.τ).loc Cert.GateReferenceIdeal.main_arg4) = m' ((c.tc : Thread Cert.GateReferenceIdeal.nD Cert.GateReferenceIdeal.τ).loc Cert.GateReferenceIdeal.main_arg4)
          ∧ r.2.mem ((c.tc : Thread Cert.GateReferenceIdeal.nD Cert.GateReferenceIdeal.τ).loc Cert.GateReferenceIdeal.main_arg5) = m' ((c.tc : Thread Cert.GateReferenceIdeal.nD Cert.GateReferenceIdeal.τ).loc Cert.GateReferenceIdeal.main_arg5))

def preserves_Norm_NormIdeal : Prop :=
  True

def algebraic_NormIdeal_NormReferenceIdeal_pre_norm_finite [hNormIdeal : Cert.NormIdeal.Facts] [hNormReferenceIdeal : Cert.NormReferenceIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal_norm_finite m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)
      ∧ m' ((c.tc : Thread Cert.NormReferenceIdeal.nD Cert.NormReferenceIdeal.τ).loc Cert.NormReferenceIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v0_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v0_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v62) = v0 c
          ∧ r.2.mem ((c.tc : Thread Cert.NormReferenceIdeal.nD Cert.NormReferenceIdeal.τ).loc Cert.NormReferenceIdeal.main_v36) = v1 c
          ∧ r.2.mem ((c.tc : Thread Cert.NormReferenceIdeal.nD Cert.NormReferenceIdeal.τ).loc Cert.NormReferenceIdeal.main_v33) = v2 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3))

def preserves_DwDown_DwDownIdeal : Prop :=
  True

def algebraic_DwDownIdeal_DwDownReferenceIdeal [hDwDownIdeal : Cert.DwDownIdeal.Facts] [hDwDownReferenceIdeal : Cert.DwDownReferenceIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownReferenceIdeal.nD Cert.DwDownReferenceIdeal.τ Cert.DwDownReferenceIdeal.sig) → Buf (Elt Ideal) ℓ) (g' : Dev Cert.DwDownReferenceIdeal.nD → PrngReg), Pre_DwDownIdeal m →
    (∀ c : Dev Cert.DwDownIdeal.nD,
      m' ((c.tc : Thread Cert.DwDownReferenceIdeal.nD Cert.DwDownReferenceIdeal.τ).loc Cert.DwDownReferenceIdeal.main_arg0) = m ((c.tc : Thread Cert.DwDownIdeal.nD Cert.DwDownIdeal.τ).loc Cert.DwDownIdeal.main_arg0)
      ∧ m' ((c.tc : Thread Cert.DwDownReferenceIdeal.nD Cert.DwDownReferenceIdeal.τ).loc Cert.DwDownReferenceIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownReferenceIdeal.defs (F := Ideal)) (onTc (τ := Cert.DwDownReferenceIdeal.τ) (Cert.DwDownReferenceIdeal.main (F := Ideal))) ⟨m', fun _ => 0, g'⟩ (fun r => ∀ c : Dev Cert.DwDownReferenceIdeal.nD,
          r.2.mem ((c.tc : Thread Cert.DwDownReferenceIdeal.nD Cert.DwDownReferenceIdeal.τ).loc Cert.DwDownReferenceIdeal.main_v4) = v0 c
          ∧ r.2.mem ((c.tc : Thread Cert.DwDownReferenceIdeal.nD Cert.DwDownReferenceIdeal.τ).loc Cert.DwDownReferenceIdeal.main_arg0) = m' ((c.tc : Thread Cert.DwDownReferenceIdeal.nD Cert.DwDownReferenceIdeal.τ).loc Cert.DwDownReferenceIdeal.main_arg0)
          ∧ r.2.mem ((c.tc : Thread Cert.DwDownReferenceIdeal.nD Cert.DwDownReferenceIdeal.τ).loc Cert.DwDownReferenceIdeal.main_arg1) = m' ((c.tc : Thread Cert.DwDownReferenceIdeal.nD Cert.DwDownReferenceIdeal.τ).loc Cert.DwDownReferenceIdeal.main_arg1))

def preserves_DwIn_DwInIdeal : Prop :=
  True

def algebraic_DwInIdeal_DwInReferenceIdeal [hDwInIdeal : Cert.DwInIdeal.Facts] [hDwInReferenceIdeal : Cert.DwInReferenceIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInReferenceIdeal.nD Cert.DwInReferenceIdeal.τ Cert.DwInReferenceIdeal.sig) → Buf (Elt Ideal) ℓ) (g' : Dev Cert.DwInReferenceIdeal.nD → PrngReg), Pre_DwInIdeal m →
    (∀ c : Dev Cert.DwInIdeal.nD,
      m' ((c.tc : Thread Cert.DwInReferenceIdeal.nD Cert.DwInReferenceIdeal.τ).loc Cert.DwInReferenceIdeal.main_arg0) = m ((c.tc : Thread Cert.DwInIdeal.nD Cert.DwInIdeal.τ).loc Cert.DwInIdeal.main_arg0)
      ∧ m' ((c.tc : Thread Cert.DwInReferenceIdeal.nD Cert.DwInReferenceIdeal.τ).loc Cert.DwInReferenceIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInReferenceIdeal.defs (F := Ideal)) (onTc (τ := Cert.DwInReferenceIdeal.τ) (Cert.DwInReferenceIdeal.main (F := Ideal))) ⟨m', fun _ => 0, g'⟩ (fun r => ∀ c : Dev Cert.DwInReferenceIdeal.nD,
          r.2.mem ((c.tc : Thread Cert.DwInReferenceIdeal.nD Cert.DwInReferenceIdeal.τ).loc Cert.DwInReferenceIdeal.main_v7) = v0 c
          ∧ r.2.mem ((c.tc : Thread Cert.DwInReferenceIdeal.nD Cert.DwInReferenceIdeal.τ).loc Cert.DwInReferenceIdeal.main_arg0) = m' ((c.tc : Thread Cert.DwInReferenceIdeal.nD Cert.DwInReferenceIdeal.τ).loc Cert.DwInReferenceIdeal.main_arg0)
          ∧ r.2.mem ((c.tc : Thread Cert.DwInReferenceIdeal.nD Cert.DwInReferenceIdeal.τ).loc Cert.DwInReferenceIdeal.main_arg1) = m' ((c.tc : Thread Cert.DwInReferenceIdeal.nD Cert.DwInReferenceIdeal.τ).loc Cert.DwInReferenceIdeal.main_arg1))

def preserves_DxGate_DxGateIdeal : Prop :=
  True

def algebraic_DxGateIdeal_DxGateReferenceIdeal [hDxGateIdeal : Cert.DxGateIdeal.Facts] [hDxGateReferenceIdeal : Cert.DxGateReferenceIdeal.Facts] : Prop :=
  ∀ (m : (ℓ : Loc Cert.DxGateIdeal.nD Cert.DxGateIdeal.τ Cert.DxGateIdeal.sig) → Buf (Elt Ideal) ℓ) (g : Dev Cert.DxGateIdeal.nD → PrngReg)
    (m' : (ℓ : Loc Cert.DxGateReferenceIdeal.nD Cert.DxGateReferenceIdeal.τ Cert.DxGateReferenceIdeal.sig) → Buf (Elt Ideal) ℓ) (g' : Dev Cert.DxGateReferenceIdeal.nD → PrngReg), Pre_DxGateIdeal m →
    (∀ c : Dev Cert.DxGateIdeal.nD,
      m' ((c.tc : Thread Cert.DxGateReferenceIdeal.nD Cert.DxGateReferenceIdeal.τ).loc Cert.DxGateReferenceIdeal.main_arg0) = m ((c.tc : Thread Cert.DxGateIdeal.nD Cert.DxGateIdeal.τ).loc Cert.DxGateIdeal.main_arg0)
      ∧ m' ((c.tc : Thread Cert.DxGateReferenceIdeal.nD Cert.DxGateReferenceIdeal.τ).loc Cert.DxGateReferenceIdeal.main_arg1) = m ((c.tc : Thread Cert.DxGateIdeal.nD Cert.DxGateIdeal.τ).loc Cert.DxGateIdeal.main_arg1)
      ∧ m' ((c.tc : Thread Cert.DxGateReferenceIdeal.nD Cert.DxGateReferenceIdeal.τ).loc Cert.DxGateReferenceIdeal.main_arg2) = m ((c.tc : Thread Cert.DxGateIdeal.nD Cert.DxGateIdeal.τ).loc Cert.DxGateIdeal.main_arg2)) →
    ∃ (v0 : (c : Dev Cert.DxGateIdeal.nD) → Buf (Elt Ideal) ((c.tc : Thread Cert.DxGateIdeal.nD Cert.DxGateIdeal.τ).loc Cert.DxGateIdeal.main_v0)),
      θ_run (Cert.DxGateIdeal.defs (F := Ideal)) (onTc (τ := Cert.DxGateIdeal.τ) (Cert.DxGateIdeal.main (F := Ideal))) ⟨m, fun _ => 0, g⟩ (fun r => ∀ c : Dev Cert.DxGateIdeal.nD,
          r.2.mem ((c.tc : Thread Cert.DxGateIdeal.nD Cert.DxGateIdeal.τ).loc Cert.DxGateIdeal.main_v0) = v0 c
          ∧ r.2.mem ((c.tc : Thread Cert.DxGateIdeal.nD Cert.DxGateIdeal.τ).loc Cert.DxGateIdeal.main_arg0) = m ((c.tc : Thread Cert.DxGateIdeal.nD Cert.DxGateIdeal.τ).loc Cert.DxGateIdeal.main_arg0)
          ∧ r.2.mem ((c.tc : Thread Cert.DxGateIdeal.nD Cert.DxGateIdeal.τ).loc Cert.DxGateIdeal.main_arg1) = m ((c.tc : Thread Cert.DxGateIdeal.nD Cert.DxGateIdeal.τ).loc Cert.DxGateIdeal.main_arg1)
          ∧ r.2.mem ((c.tc : Thread Cert.DxGateIdeal.nD Cert.DxGateIdeal.τ).loc Cert.DxGateIdeal.main_arg2) = m ((c.tc : Thread Cert.DxGateIdeal.nD Cert.DxGateIdeal.τ).loc Cert.DxGateIdeal.main_arg2))
      ∧ θ_run (Cert.DxGateReferenceIdeal.defs (F := Ideal)) (onTc (τ := Cert.DxGateReferenceIdeal.τ) (Cert.DxGateReferenceIdeal.main (F := Ideal))) ⟨m', fun _ => 0, g'⟩ (fun r => ∀ c : Dev Cert.DxGateReferenceIdeal.nD,
          r.2.mem ((c.tc : Thread Cert.DxGateReferenceIdeal.nD Cert.DxGateReferenceIdeal.τ).loc Cert.DxGateReferenceIdeal.main_v10) = v0 c
          ∧ r.2.mem ((c.tc : Thread Cert.DxGateReferenceIdeal.nD Cert.DxGateReferenceIdeal.τ).loc Cert.DxGateReferenceIdeal.main_arg0) = m' ((c.tc : Thread Cert.DxGateReferenceIdeal.nD Cert.DxGateReferenceIdeal.τ).loc Cert.DxGateReferenceIdeal.main_arg0)
          ∧ r.2.mem ((c.tc : Thread Cert.DxGateReferenceIdeal.nD Cert.DxGateReferenceIdeal.τ).loc Cert.DxGateReferenceIdeal.main_arg1) = m' ((c.tc : Thread Cert.DxGateReferenceIdeal.nD Cert.DxGateReferenceIdeal.τ).loc Cert.DxGateReferenceIdeal.main_arg1)
          ∧ r.2.mem ((c.tc : Thread Cert.DxGateReferenceIdeal.nD Cert.DxGateReferenceIdeal.τ).loc Cert.DxGateReferenceIdeal.main_arg2) = m' ((c.tc : Thread Cert.DxGateReferenceIdeal.nD Cert.DxGateReferenceIdeal.τ).loc Cert.DxGateReferenceIdeal.main_arg2))

def preserves_DxUp_DxUpIdeal : Prop :=
  True

def algebraic_DxUpIdeal_DxUpReferenceIdeal [hDxUpIdeal : Cert.DxUpIdeal.Facts] [hDxUpReferenceIdeal : Cert.DxUpReferenceIdeal.Facts] : Prop :=
  ∀ (m : (ℓ : Loc Cert.DxUpIdeal.nD Cert.DxUpIdeal.τ Cert.DxUpIdeal.sig) → Buf (Elt Ideal) ℓ) (g : Dev Cert.DxUpIdeal.nD → PrngReg)
    (m' : (ℓ : Loc Cert.DxUpReferenceIdeal.nD Cert.DxUpReferenceIdeal.τ Cert.DxUpReferenceIdeal.sig) → Buf (Elt Ideal) ℓ) (g' : Dev Cert.DxUpReferenceIdeal.nD → PrngReg), Pre_DxUpIdeal m →
    (∀ c : Dev Cert.DxUpIdeal.nD,
      m' ((c.tc : Thread Cert.DxUpReferenceIdeal.nD Cert.DxUpReferenceIdeal.τ).loc Cert.DxUpReferenceIdeal.main_arg0) = m ((c.tc : Thread Cert.DxUpIdeal.nD Cert.DxUpIdeal.τ).loc Cert.DxUpIdeal.main_arg0)
      ∧ m' ((c.tc : Thread Cert.DxUpReferenceIdeal.nD Cert.DxUpReferenceIdeal.τ).loc Cert.DxUpReferenceIdeal.main_arg1) = m ((c.tc : Thread Cert.DxUpIdeal.nD Cert.DxUpIdeal.τ).loc Cert.DxUpIdeal.main_arg1)
      ∧ m' ((c.tc : Thread Cert.DxUpReferenceIdeal.nD Cert.DxUpReferenceIdeal.τ).loc Cert.DxUpReferenceIdeal.main_arg2) = m ((c.tc : Thread Cert.DxUpIdeal.nD Cert.DxUpIdeal.τ).loc Cert.DxUpIdeal.main_arg2)) →
    ∃ (v0 : (c : Dev Cert.DxUpIdeal.nD) → Buf (Elt Ideal) ((c.tc : Thread Cert.DxUpIdeal.nD Cert.DxUpIdeal.τ).loc Cert.DxUpIdeal.main_v0)),
      θ_run (Cert.DxUpIdeal.defs (F := Ideal)) (onTc (τ := Cert.DxUpIdeal.τ) (Cert.DxUpIdeal.main (F := Ideal))) ⟨m, fun _ => 0, g⟩ (fun r => ∀ c : Dev Cert.DxUpIdeal.nD,
          r.2.mem ((c.tc : Thread Cert.DxUpIdeal.nD Cert.DxUpIdeal.τ).loc Cert.DxUpIdeal.main_v0) = v0 c
          ∧ r.2.mem ((c.tc : Thread Cert.DxUpIdeal.nD Cert.DxUpIdeal.τ).loc Cert.DxUpIdeal.main_arg0) = m ((c.tc : Thread Cert.DxUpIdeal.nD Cert.DxUpIdeal.τ).loc Cert.DxUpIdeal.main_arg0)
          ∧ r.2.mem ((c.tc : Thread Cert.DxUpIdeal.nD Cert.DxUpIdeal.τ).loc Cert.DxUpIdeal.main_arg1) = m ((c.tc : Thread Cert.DxUpIdeal.nD Cert.DxUpIdeal.τ).loc Cert.DxUpIdeal.main_arg1)
          ∧ r.2.mem ((c.tc : Thread Cert.DxUpIdeal.nD Cert.DxUpIdeal.τ).loc Cert.DxUpIdeal.main_arg2) = m ((c.tc : Thread Cert.DxUpIdeal.nD Cert.DxUpIdeal.τ).loc Cert.DxUpIdeal.main_arg2))
      ∧ θ_run (Cert.DxUpReferenceIdeal.defs (F := Ideal)) (onTc (τ := Cert.DxUpReferenceIdeal.τ) (Cert.DxUpReferenceIdeal.main (F := Ideal))) ⟨m', fun _ => 0, g'⟩ (fun r => ∀ c : Dev Cert.DxUpReferenceIdeal.nD,
          r.2.mem ((c.tc : Thread Cert.DxUpReferenceIdeal.nD Cert.DxUpReferenceIdeal.τ).loc Cert.DxUpReferenceIdeal.main_v6) = v0 c
          ∧ r.2.mem ((c.tc : Thread Cert.DxUpReferenceIdeal.nD Cert.DxUpReferenceIdeal.τ).loc Cert.DxUpReferenceIdeal.main_arg0) = m' ((c.tc : Thread Cert.DxUpReferenceIdeal.nD Cert.DxUpReferenceIdeal.τ).loc Cert.DxUpReferenceIdeal.main_arg0)
          ∧ r.2.mem ((c.tc : Thread Cert.DxUpReferenceIdeal.nD Cert.DxUpReferenceIdeal.τ).loc Cert.DxUpReferenceIdeal.main_arg1) = m' ((c.tc : Thread Cert.DxUpReferenceIdeal.nD Cert.DxUpReferenceIdeal.τ).loc Cert.DxUpReferenceIdeal.main_arg1)
          ∧ r.2.mem ((c.tc : Thread Cert.DxUpReferenceIdeal.nD Cert.DxUpReferenceIdeal.τ).loc Cert.DxUpReferenceIdeal.main_arg2) = m' ((c.tc : Thread Cert.DxUpReferenceIdeal.nD Cert.DxUpReferenceIdeal.τ).loc Cert.DxUpReferenceIdeal.main_arg2))

def preserves_FfnIn_FfnInIdeal : Prop :=
  True

def algebraic_FfnInIdeal_FfnInReferenceIdeal [hFfnInIdeal : Cert.FfnInIdeal.Facts] [hFfnInReferenceIdeal : Cert.FfnInReferenceIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInReferenceIdeal.nD Cert.FfnInReferenceIdeal.τ Cert.FfnInReferenceIdeal.sig) → Buf (Elt Ideal) ℓ) (g' : Dev Cert.FfnInReferenceIdeal.nD → PrngReg), Pre_FfnInIdeal m →
    (∀ c : Dev Cert.FfnInIdeal.nD,
      m' ((c.tc : Thread Cert.FfnInReferenceIdeal.nD Cert.FfnInReferenceIdeal.τ).loc Cert.FfnInReferenceIdeal.main_arg0) = m ((c.tc : Thread Cert.FfnInIdeal.nD Cert.FfnInIdeal.τ).loc Cert.FfnInIdeal.main_arg0)
      ∧ m' ((c.tc : Thread Cert.FfnInReferenceIdeal.nD Cert.FfnInReferenceIdeal.τ).loc Cert.FfnInReferenceIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v0_0)) (v1 : (c : Dev Cert.FfnInIdeal.nD) → Buf (Elt Ideal) ((c.tc : Thread Cert.FfnInIdeal.nD Cert.FfnInIdeal.τ).loc Cert.FfnInIdeal.main_v0_1)) (v2 : (c : Dev Cert.FfnInIdeal.nD) → Buf (Elt Ideal) ((c.tc : Thread Cert.FfnInIdeal.nD Cert.FfnInIdeal.τ).loc Cert.FfnInIdeal.main_v0_2)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0_0) = v0 c
          ∧ r.2.mem ((c.tc : Thread Cert.FfnInIdeal.nD Cert.FfnInIdeal.τ).loc Cert.FfnInIdeal.main_v0_1) = v1 c
          ∧ r.2.mem ((c.tc : Thread Cert.FfnInIdeal.nD Cert.FfnInIdeal.τ).loc Cert.FfnInIdeal.main_v0_2) = v2 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInReferenceIdeal.defs (F := Ideal)) (onTc (τ := Cert.FfnInReferenceIdeal.τ) (Cert.FfnInReferenceIdeal.main (F := Ideal))) ⟨m', fun _ => 0, g'⟩ (fun r => ∀ c : Dev Cert.FfnInReferenceIdeal.nD,
          r.2.mem ((c.tc : Thread Cert.FfnInReferenceIdeal.nD Cert.FfnInReferenceIdeal.τ).loc Cert.FfnInReferenceIdeal.main_v6) = v0 c
          ∧ r.2.mem ((c.tc : Thread Cert.FfnInReferenceIdeal.nD Cert.FfnInReferenceIdeal.τ).loc Cert.FfnInReferenceIdeal.main_v7) = v1 c
          ∧ r.2.mem ((c.tc : Thread Cert.FfnInReferenceIdeal.nD Cert.FfnInReferenceIdeal.τ).loc Cert.FfnInReferenceIdeal.main_v10) = v2 c
          ∧ r.2.mem ((c.tc : Thread Cert.FfnInReferenceIdeal.nD Cert.FfnInReferenceIdeal.τ).loc Cert.FfnInReferenceIdeal.main_arg0) = m' ((c.tc : Thread Cert.FfnInReferenceIdeal.nD Cert.FfnInReferenceIdeal.τ).loc Cert.FfnInReferenceIdeal.main_arg0)
          ∧ r.2.mem ((c.tc : Thread Cert.FfnInReferenceIdeal.nD Cert.FfnInReferenceIdeal.τ).loc Cert.FfnInReferenceIdeal.main_arg1) = m' ((c.tc : Thread Cert.FfnInReferenceIdeal.nD Cert.FfnInReferenceIdeal.τ).loc Cert.FfnInReferenceIdeal.main_arg1))

def preserves_DwSsd_DwSsdIdeal : Prop :=
  True

def algebraic_DwSsdIdeal_DwSsdReferenceIdeal [hDwSsdIdeal : Cert.DwSsdIdeal.Facts] [hDwSsdReferenceIdeal : Cert.DwSsdReferenceIdeal.Facts] : Prop :=
  ∀ (m : (ℓ : Loc Cert.DwSsdIdeal.nD Cert.DwSsdIdeal.τ Cert.DwSsdIdeal.sig) → Buf (Elt Ideal) ℓ) (g : Dev Cert.DwSsdIdeal.nD → PrngReg)
    (m' : (ℓ : Loc Cert.DwSsdReferenceIdeal.nD Cert.DwSsdReferenceIdeal.τ Cert.DwSsdReferenceIdeal.sig) → Buf (Elt Ideal) ℓ) (g' : Dev Cert.DwSsdReferenceIdeal.nD → PrngReg), Pre_DwSsdIdeal m →
    (∀ c : Dev Cert.DwSsdIdeal.nD,
      m' ((c.tc : Thread Cert.DwSsdReferenceIdeal.nD Cert.DwSsdReferenceIdeal.τ).loc Cert.DwSsdReferenceIdeal.main_arg0) = m ((c.tc : Thread Cert.DwSsdIdeal.nD Cert.DwSsdIdeal.τ).loc Cert.DwSsdIdeal.main_arg0)
      ∧ m' ((c.tc : Thread Cert.DwSsdReferenceIdeal.nD Cert.DwSsdReferenceIdeal.τ).loc Cert.DwSsdReferenceIdeal.main_arg1) = m ((c.tc : Thread Cert.DwSsdIdeal.nD Cert.DwSsdIdeal.τ).loc Cert.DwSsdIdeal.main_arg1)) →
    ∃ (v0 : (c : Dev Cert.DwSsdIdeal.nD) → Buf (Elt Ideal) ((c.tc : Thread Cert.DwSsdIdeal.nD Cert.DwSsdIdeal.τ).loc Cert.DwSsdIdeal.main_v0)),
      θ_run (Cert.DwSsdIdeal.defs (F := Ideal)) (onTc (τ := Cert.DwSsdIdeal.τ) (Cert.DwSsdIdeal.main (F := Ideal))) ⟨m, fun _ => 0, g⟩ (fun r => ∀ c : Dev Cert.DwSsdIdeal.nD,
          r.2.mem ((c.tc : Thread Cert.DwSsdIdeal.nD Cert.DwSsdIdeal.τ).loc Cert.DwSsdIdeal.main_v0) = v0 c
          ∧ r.2.mem ((c.tc : Thread Cert.DwSsdIdeal.nD Cert.DwSsdIdeal.τ).loc Cert.DwSsdIdeal.main_arg0) = m ((c.tc : Thread Cert.DwSsdIdeal.nD Cert.DwSsdIdeal.τ).loc Cert.DwSsdIdeal.main_arg0)
          ∧ r.2.mem ((c.tc : Thread Cert.DwSsdIdeal.nD Cert.DwSsdIdeal.τ).loc Cert.DwSsdIdeal.main_arg1) = m ((c.tc : Thread Cert.DwSsdIdeal.nD Cert.DwSsdIdeal.τ).loc Cert.DwSsdIdeal.main_arg1))
      ∧ θ_run (Cert.DwSsdReferenceIdeal.defs (F := Ideal)) (onTc (τ := Cert.DwSsdReferenceIdeal.τ) (Cert.DwSsdReferenceIdeal.main (F := Ideal))) ⟨m', fun _ => 0, g'⟩ (fun r => ∀ c : Dev Cert.DwSsdReferenceIdeal.nD,
          r.2.mem ((c.tc : Thread Cert.DwSsdReferenceIdeal.nD Cert.DwSsdReferenceIdeal.τ).loc Cert.DwSsdReferenceIdeal.main_v5) = v0 c
          ∧ r.2.mem ((c.tc : Thread Cert.DwSsdReferenceIdeal.nD Cert.DwSsdReferenceIdeal.τ).loc Cert.DwSsdReferenceIdeal.main_arg0) = m' ((c.tc : Thread Cert.DwSsdReferenceIdeal.nD Cert.DwSsdReferenceIdeal.τ).loc Cert.DwSsdReferenceIdeal.main_arg0)
          ∧ r.2.mem ((c.tc : Thread Cert.DwSsdReferenceIdeal.nD Cert.DwSsdReferenceIdeal.τ).loc Cert.DwSsdReferenceIdeal.main_arg1) = m' ((c.tc : Thread Cert.DwSsdReferenceIdeal.nD Cert.DwSsdReferenceIdeal.τ).loc Cert.DwSsdReferenceIdeal.main_arg1))

def preserves_DwLru_DwLruIdeal : Prop :=
  True

def algebraic_DwLruIdeal_DwLruReferenceIdeal [hDwLruIdeal : Cert.DwLruIdeal.Facts] [hDwLruReferenceIdeal : Cert.DwLruReferenceIdeal.Facts] : Prop :=
  ∀ (m : (ℓ : Loc Cert.DwLruIdeal.nD Cert.DwLruIdeal.τ Cert.DwLruIdeal.sig) → Buf (Elt Ideal) ℓ) (g : Dev Cert.DwLruIdeal.nD → PrngReg)
    (m' : (ℓ : Loc Cert.DwLruReferenceIdeal.nD Cert.DwLruReferenceIdeal.τ Cert.DwLruReferenceIdeal.sig) → Buf (Elt Ideal) ℓ) (g' : Dev Cert.DwLruReferenceIdeal.nD → PrngReg), Pre_DwLruIdeal m →
    (∀ c : Dev Cert.DwLruIdeal.nD,
      m' ((c.tc : Thread Cert.DwLruReferenceIdeal.nD Cert.DwLruReferenceIdeal.τ).loc Cert.DwLruReferenceIdeal.main_arg0) = m ((c.tc : Thread Cert.DwLruIdeal.nD Cert.DwLruIdeal.τ).loc Cert.DwLruIdeal.main_arg0)
      ∧ m' ((c.tc : Thread Cert.DwLruReferenceIdeal.nD Cert.DwLruReferenceIdeal.τ).loc Cert.DwLruReferenceIdeal.main_arg1) = m ((c.tc : Thread Cert.DwLruIdeal.nD Cert.DwLruIdeal.τ).loc Cert.DwLruIdeal.main_arg1)) →
    ∃ (v0 : (c : Dev Cert.DwLruIdeal.nD) → Buf (Elt Ideal) ((c.tc : Thread Cert.DwLruIdeal.nD Cert.DwLruIdeal.τ).loc Cert.DwLruIdeal.main_v0)),
      θ_run (Cert.DwLruIdeal.defs (F := Ideal)) (onTc (τ := Cert.DwLruIdeal.τ) (Cert.DwLruIdeal.main (F := Ideal))) ⟨m, fun _ => 0, g⟩ (fun r => ∀ c : Dev Cert.DwLruIdeal.nD,
          r.2.mem ((c.tc : Thread Cert.DwLruIdeal.nD Cert.DwLruIdeal.τ).loc Cert.DwLruIdeal.main_v0) = v0 c
          ∧ r.2.mem ((c.tc : Thread Cert.DwLruIdeal.nD Cert.DwLruIdeal.τ).loc Cert.DwLruIdeal.main_arg0) = m ((c.tc : Thread Cert.DwLruIdeal.nD Cert.DwLruIdeal.τ).loc Cert.DwLruIdeal.main_arg0)
          ∧ r.2.mem ((c.tc : Thread Cert.DwLruIdeal.nD Cert.DwLruIdeal.τ).loc Cert.DwLruIdeal.main_arg1) = m ((c.tc : Thread Cert.DwLruIdeal.nD Cert.DwLruIdeal.τ).loc Cert.DwLruIdeal.main_arg1))
      ∧ θ_run (Cert.DwLruReferenceIdeal.defs (F := Ideal)) (onTc (τ := Cert.DwLruReferenceIdeal.τ) (Cert.DwLruReferenceIdeal.main (F := Ideal))) ⟨m', fun _ => 0, g'⟩ (fun r => ∀ c : Dev Cert.DwLruReferenceIdeal.nD,
          r.2.mem ((c.tc : Thread Cert.DwLruReferenceIdeal.nD Cert.DwLruReferenceIdeal.τ).loc Cert.DwLruReferenceIdeal.main_v5) = v0 c
          ∧ r.2.mem ((c.tc : Thread Cert.DwLruReferenceIdeal.nD Cert.DwLruReferenceIdeal.τ).loc Cert.DwLruReferenceIdeal.main_arg0) = m' ((c.tc : Thread Cert.DwLruReferenceIdeal.nD Cert.DwLruReferenceIdeal.τ).loc Cert.DwLruReferenceIdeal.main_arg0)
          ∧ r.2.mem ((c.tc : Thread Cert.DwLruReferenceIdeal.nD Cert.DwLruReferenceIdeal.τ).loc Cert.DwLruReferenceIdeal.main_arg1) = m' ((c.tc : Thread Cert.DwLruReferenceIdeal.nD Cert.DwLruReferenceIdeal.τ).loc Cert.DwLruReferenceIdeal.main_arg1))

def preserves_DwGl_DwGlIdeal : Prop :=
  True

def algebraic_DwGlIdeal_DwGlReferenceIdeal [hDwGlIdeal : Cert.DwGlIdeal.Facts] [hDwGlReferenceIdeal : Cert.DwGlReferenceIdeal.Facts] : Prop :=
  ∀ (m : (ℓ : Loc Cert.DwGlIdeal.nD Cert.DwGlIdeal.τ Cert.DwGlIdeal.sig) → Buf (Elt Ideal) ℓ) (g : Dev Cert.DwGlIdeal.nD → PrngReg)
    (m' : (ℓ : Loc Cert.DwGlReferenceIdeal.nD Cert.DwGlReferenceIdeal.τ Cert.DwGlReferenceIdeal.sig) → Buf (Elt Ideal) ℓ) (g' : Dev Cert.DwGlReferenceIdeal.nD → PrngReg), Pre_DwGlIdeal m →
    (∀ c : Dev Cert.DwGlIdeal.nD,
      m' ((c.tc : Thread Cert.DwGlReferenceIdeal.nD Cert.DwGlReferenceIdeal.τ).loc Cert.DwGlReferenceIdeal.main_arg0) = m ((c.tc : Thread Cert.DwGlIdeal.nD Cert.DwGlIdeal.τ).loc Cert.DwGlIdeal.main_arg0)
      ∧ m' ((c.tc : Thread Cert.DwGlReferenceIdeal.nD Cert.DwGlReferenceIdeal.τ).loc Cert.DwGlReferenceIdeal.main_arg1) = m ((c.tc : Thread Cert.DwGlIdeal.nD Cert.DwGlIdeal.τ).loc Cert.DwGlIdeal.main_arg1)) →
    ∃ (v0 : (c : Dev Cert.DwGlIdeal.nD) → Buf (Elt Ideal) ((c.tc : Thread Cert.DwGlIdeal.nD Cert.DwGlIdeal.τ).loc Cert.DwGlIdeal.main_v0)),
      θ_run (Cert.DwGlIdeal.defs (F := Ideal)) (onTc (τ := Cert.DwGlIdeal.τ) (Cert.DwGlIdeal.main (F := Ideal))) ⟨m, fun _ => 0, g⟩ (fun r => ∀ c : Dev Cert.DwGlIdeal.nD,
          r.2.mem ((c.tc : Thread Cert.DwGlIdeal.nD Cert.DwGlIdeal.τ).loc Cert.DwGlIdeal.main_v0) = v0 c
          ∧ r.2.mem ((c.tc : Thread Cert.DwGlIdeal.nD Cert.DwGlIdeal.τ).loc Cert.DwGlIdeal.main_arg0) = m ((c.tc : Thread Cert.DwGlIdeal.nD Cert.DwGlIdeal.τ).loc Cert.DwGlIdeal.main_arg0)
          ∧ r.2.mem ((c.tc : Thread Cert.DwGlIdeal.nD Cert.DwGlIdeal.τ).loc Cert.DwGlIdeal.main_arg1) = m ((c.tc : Thread Cert.DwGlIdeal.nD Cert.DwGlIdeal.τ).loc Cert.DwGlIdeal.main_arg1))
      ∧ θ_run (Cert.DwGlReferenceIdeal.defs (F := Ideal)) (onTc (τ := Cert.DwGlReferenceIdeal.τ) (Cert.DwGlReferenceIdeal.main (F := Ideal))) ⟨m', fun _ => 0, g'⟩ (fun r => ∀ c : Dev Cert.DwGlReferenceIdeal.nD,
          r.2.mem ((c.tc : Thread Cert.DwGlReferenceIdeal.nD Cert.DwGlReferenceIdeal.τ).loc Cert.DwGlReferenceIdeal.main_v5) = v0 c
          ∧ r.2.mem ((c.tc : Thread Cert.DwGlReferenceIdeal.nD Cert.DwGlReferenceIdeal.τ).loc Cert.DwGlReferenceIdeal.main_arg0) = m' ((c.tc : Thread Cert.DwGlReferenceIdeal.nD Cert.DwGlReferenceIdeal.τ).loc Cert.DwGlReferenceIdeal.main_arg0)
          ∧ r.2.mem ((c.tc : Thread Cert.DwGlReferenceIdeal.nD Cert.DwGlReferenceIdeal.τ).loc Cert.DwGlReferenceIdeal.main_arg1) = m' ((c.tc : Thread Cert.DwGlReferenceIdeal.nD Cert.DwGlReferenceIdeal.τ).loc Cert.DwGlReferenceIdeal.main_arg1))

def preserves_DwQ_DwQIdeal : Prop :=
  True

def algebraic_DwQIdeal_DwQReferenceIdeal [hDwQIdeal : Cert.DwQIdeal.Facts] [hDwQReferenceIdeal : Cert.DwQReferenceIdeal.Facts] : Prop :=
  ∀ (m : (ℓ : Loc Cert.DwQIdeal.nD Cert.DwQIdeal.τ Cert.DwQIdeal.sig) → Buf (Elt Ideal) ℓ) (g : Dev Cert.DwQIdeal.nD → PrngReg)
    (m' : (ℓ : Loc Cert.DwQReferenceIdeal.nD Cert.DwQReferenceIdeal.τ Cert.DwQReferenceIdeal.sig) → Buf (Elt Ideal) ℓ) (g' : Dev Cert.DwQReferenceIdeal.nD → PrngReg), Pre_DwQIdeal m →
    (∀ c : Dev Cert.DwQIdeal.nD,
      m' ((c.tc : Thread Cert.DwQReferenceIdeal.nD Cert.DwQReferenceIdeal.τ).loc Cert.DwQReferenceIdeal.main_arg0) = m ((c.tc : Thread Cert.DwQIdeal.nD Cert.DwQIdeal.τ).loc Cert.DwQIdeal.main_arg0)
      ∧ m' ((c.tc : Thread Cert.DwQReferenceIdeal.nD Cert.DwQReferenceIdeal.τ).loc Cert.DwQReferenceIdeal.main_arg1) = m ((c.tc : Thread Cert.DwQIdeal.nD Cert.DwQIdeal.τ).loc Cert.DwQIdeal.main_arg1)) →
    ∃ (v0 : (c : Dev Cert.DwQIdeal.nD) → Buf (Elt Ideal) ((c.tc : Thread Cert.DwQIdeal.nD Cert.DwQIdeal.τ).loc Cert.DwQIdeal.main_v0)),
      θ_run (Cert.DwQIdeal.defs (F := Ideal)) (onTc (τ := Cert.DwQIdeal.τ) (Cert.DwQIdeal.main (F := Ideal))) ⟨m, fun _ => 0, g⟩ (fun r => ∀ c : Dev Cert.DwQIdeal.nD,
          r.2.mem ((c.tc : Thread Cert.DwQIdeal.nD Cert.DwQIdeal.τ).loc Cert.DwQIdeal.main_v0) = v0 c
          ∧ r.2.mem ((c.tc : Thread Cert.DwQIdeal.nD Cert.DwQIdeal.τ).loc Cert.DwQIdeal.main_arg0) = m ((c.tc : Thread Cert.DwQIdeal.nD Cert.DwQIdeal.τ).loc Cert.DwQIdeal.main_arg0)
          ∧ r.2.mem ((c.tc : Thread Cert.DwQIdeal.nD Cert.DwQIdeal.τ).loc Cert.DwQIdeal.main_arg1) = m ((c.tc : Thread Cert.DwQIdeal.nD Cert.DwQIdeal.τ).loc Cert.DwQIdeal.main_arg1))
      ∧ θ_run (Cert.DwQReferenceIdeal.defs (F := Ideal)) (onTc (τ := Cert.DwQReferenceIdeal.τ) (Cert.DwQReferenceIdeal.main (F := Ideal))) ⟨m', fun _ => 0, g'⟩ (fun r => ∀ c : Dev Cert.DwQReferenceIdeal.nD,
          r.2.mem ((c.tc : Thread Cert.DwQReferenceIdeal.nD Cert.DwQReferenceIdeal.τ).loc Cert.DwQReferenceIdeal.main_v5) = v0 c
          ∧ r.2.mem ((c.tc : Thread Cert.DwQReferenceIdeal.nD Cert.DwQReferenceIdeal.τ).loc Cert.DwQReferenceIdeal.main_arg0) = m' ((c.tc : Thread Cert.DwQReferenceIdeal.nD Cert.DwQReferenceIdeal.τ).loc Cert.DwQReferenceIdeal.main_arg0)
          ∧ r.2.mem ((c.tc : Thread Cert.DwQReferenceIdeal.nD Cert.DwQReferenceIdeal.τ).loc Cert.DwQReferenceIdeal.main_arg1) = m' ((c.tc : Thread Cert.DwQReferenceIdeal.nD Cert.DwQReferenceIdeal.τ).loc Cert.DwQReferenceIdeal.main_arg1))

def preserves_DwOut_DwOutIdeal : Prop :=
  True

def algebraic_DwOutIdeal_DwOutReferenceIdeal [hDwOutIdeal : Cert.DwOutIdeal.Facts] [hDwOutReferenceIdeal : Cert.DwOutReferenceIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutReferenceIdeal.nD Cert.DwOutReferenceIdeal.τ Cert.DwOutReferenceIdeal.sig) → Buf (Elt Ideal) ℓ) (g' : Dev Cert.DwOutReferenceIdeal.nD → PrngReg), Pre_DwOutIdeal m →
    (∀ c : Dev Cert.DwOutIdeal.nD,
      m' ((c.tc : Thread Cert.DwOutReferenceIdeal.nD Cert.DwOutReferenceIdeal.τ).loc Cert.DwOutReferenceIdeal.main_arg0) = m ((c.tc : Thread Cert.DwOutIdeal.nD Cert.DwOutIdeal.τ).loc Cert.DwOutIdeal.main_arg0)
      ∧ m' ((c.tc : Thread Cert.DwOutReferenceIdeal.nD Cert.DwOutReferenceIdeal.τ).loc Cert.DwOutReferenceIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutReferenceIdeal.defs (F := Ideal)) (onTc (τ := Cert.DwOutReferenceIdeal.τ) (Cert.DwOutReferenceIdeal.main (F := Ideal))) ⟨m', fun _ => 0, g'⟩ (fun r => ∀ c : Dev Cert.DwOutReferenceIdeal.nD,
          r.2.mem ((c.tc : Thread Cert.DwOutReferenceIdeal.nD Cert.DwOutReferenceIdeal.τ).loc Cert.DwOutReferenceIdeal.main_v4) = v0 c
          ∧ r.2.mem ((c.tc : Thread Cert.DwOutReferenceIdeal.nD Cert.DwOutReferenceIdeal.τ).loc Cert.DwOutReferenceIdeal.main_arg0) = m' ((c.tc : Thread Cert.DwOutReferenceIdeal.nD Cert.DwOutReferenceIdeal.τ).loc Cert.DwOutReferenceIdeal.main_arg0)
          ∧ r.2.mem ((c.tc : Thread Cert.DwOutReferenceIdeal.nD Cert.DwOutReferenceIdeal.τ).loc Cert.DwOutReferenceIdeal.main_arg1) = m' ((c.tc : Thread Cert.DwOutReferenceIdeal.nD Cert.DwOutReferenceIdeal.τ).loc Cert.DwOutReferenceIdeal.main_arg1))

def preserves_DwBrSsd_DwBrSsdIdeal : Prop :=
  True

def algebraic_DwBrSsdIdeal_DwBrSsdReferenceIdeal [hDwBrSsdIdeal : Cert.DwBrSsdIdeal.Facts] [hDwBrSsdReferenceIdeal : Cert.DwBrSsdReferenceIdeal.Facts] : Prop :=
  ∀ (m : (ℓ : Loc Cert.DwBrSsdIdeal.nD Cert.DwBrSsdIdeal.τ Cert.DwBrSsdIdeal.sig) → Buf (Elt Ideal) ℓ) (g : Dev Cert.DwBrSsdIdeal.nD → PrngReg)
    (m' : (ℓ : Loc Cert.DwBrSsdReferenceIdeal.nD Cert.DwBrSsdReferenceIdeal.τ Cert.DwBrSsdReferenceIdeal.sig) → Buf (Elt Ideal) ℓ) (g' : Dev Cert.DwBrSsdReferenceIdeal.nD → PrngReg), Pre_DwBrSsdIdeal m →
    (∀ c : Dev Cert.DwBrSsdIdeal.nD,
      m' ((c.tc : Thread Cert.DwBrSsdReferenceIdeal.nD Cert.DwBrSsdReferenceIdeal.τ).loc Cert.DwBrSsdReferenceIdeal.main_arg0) = m ((c.tc : Thread Cert.DwBrSsdIdeal.nD Cert.DwBrSsdIdeal.τ).loc Cert.DwBrSsdIdeal.main_arg0)
      ∧ m' ((c.tc : Thread Cert.DwBrSsdReferenceIdeal.nD Cert.DwBrSsdReferenceIdeal.τ).loc Cert.DwBrSsdReferenceIdeal.main_arg1) = m ((c.tc : Thread Cert.DwBrSsdIdeal.nD Cert.DwBrSsdIdeal.τ).loc Cert.DwBrSsdIdeal.main_arg1)) →
    ∃ (v0 : (c : Dev Cert.DwBrSsdIdeal.nD) → Buf (Elt Ideal) ((c.tc : Thread Cert.DwBrSsdIdeal.nD Cert.DwBrSsdIdeal.τ).loc Cert.DwBrSsdIdeal.main_v0)),
      θ_run (Cert.DwBrSsdIdeal.defs (F := Ideal)) (onTc (τ := Cert.DwBrSsdIdeal.τ) (Cert.DwBrSsdIdeal.main (F := Ideal))) ⟨m, fun _ => 0, g⟩ (fun r => ∀ c : Dev Cert.DwBrSsdIdeal.nD,
          r.2.mem ((c.tc : Thread Cert.DwBrSsdIdeal.nD Cert.DwBrSsdIdeal.τ).loc Cert.DwBrSsdIdeal.main_v0) = v0 c
          ∧ r.2.mem ((c.tc : Thread Cert.DwBrSsdIdeal.nD Cert.DwBrSsdIdeal.τ).loc Cert.DwBrSsdIdeal.main_arg0) = m ((c.tc : Thread Cert.DwBrSsdIdeal.nD Cert.DwBrSsdIdeal.τ).loc Cert.DwBrSsdIdeal.main_arg0)
          ∧ r.2.mem ((c.tc : Thread Cert.DwBrSsdIdeal.nD Cert.DwBrSsdIdeal.τ).loc Cert.DwBrSsdIdeal.main_arg1) = m ((c.tc : Thread Cert.DwBrSsdIdeal.nD Cert.DwBrSsdIdeal.τ).loc Cert.DwBrSsdIdeal.main_arg1))
      ∧ θ_run (Cert.DwBrSsdReferenceIdeal.defs (F := Ideal)) (onTc (τ := Cert.DwBrSsdReferenceIdeal.τ) (Cert.DwBrSsdReferenceIdeal.main (F := Ideal))) ⟨m', fun _ => 0, g'⟩ (fun r => ∀ c : Dev Cert.DwBrSsdReferenceIdeal.nD,
          r.2.mem ((c.tc : Thread Cert.DwBrSsdReferenceIdeal.nD Cert.DwBrSsdReferenceIdeal.τ).loc Cert.DwBrSsdReferenceIdeal.main_v5) = v0 c
          ∧ r.2.mem ((c.tc : Thread Cert.DwBrSsdReferenceIdeal.nD Cert.DwBrSsdReferenceIdeal.τ).loc Cert.DwBrSsdReferenceIdeal.main_arg0) = m' ((c.tc : Thread Cert.DwBrSsdReferenceIdeal.nD Cert.DwBrSsdReferenceIdeal.τ).loc Cert.DwBrSsdReferenceIdeal.main_arg0)
          ∧ r.2.mem ((c.tc : Thread Cert.DwBrSsdReferenceIdeal.nD Cert.DwBrSsdReferenceIdeal.τ).loc Cert.DwBrSsdReferenceIdeal.main_arg1) = m' ((c.tc : Thread Cert.DwBrSsdReferenceIdeal.nD Cert.DwBrSsdReferenceIdeal.τ).loc Cert.DwBrSsdReferenceIdeal.main_arg1))

def preserves_DxSsd_DxSsdIdeal : Prop :=
  True

def algebraic_DxSsdIdeal_DxSsdReferenceIdeal [hDxSsdIdeal : Cert.DxSsdIdeal.Facts] [hDxSsdReferenceIdeal : Cert.DxSsdReferenceIdeal.Facts] : Prop :=
  ∀ (m : (ℓ : Loc Cert.DxSsdIdeal.nD Cert.DxSsdIdeal.τ Cert.DxSsdIdeal.sig) → Buf (Elt Ideal) ℓ) (g : Dev Cert.DxSsdIdeal.nD → PrngReg)
    (m' : (ℓ : Loc Cert.DxSsdReferenceIdeal.nD Cert.DxSsdReferenceIdeal.τ Cert.DxSsdReferenceIdeal.sig) → Buf (Elt Ideal) ℓ) (g' : Dev Cert.DxSsdReferenceIdeal.nD → PrngReg), Pre_DxSsdIdeal m →
    (∀ c : Dev Cert.DxSsdIdeal.nD,
      m' ((c.tc : Thread Cert.DxSsdReferenceIdeal.nD Cert.DxSsdReferenceIdeal.τ).loc Cert.DxSsdReferenceIdeal.main_arg0) = m ((c.tc : Thread Cert.DxSsdIdeal.nD Cert.DxSsdIdeal.τ).loc Cert.DxSsdIdeal.main_arg0)
      ∧ m' ((c.tc : Thread Cert.DxSsdReferenceIdeal.nD Cert.DxSsdReferenceIdeal.τ).loc Cert.DxSsdReferenceIdeal.main_arg1) = m ((c.tc : Thread Cert.DxSsdIdeal.nD Cert.DxSsdIdeal.τ).loc Cert.DxSsdIdeal.main_arg1)
      ∧ m' ((c.tc : Thread Cert.DxSsdReferenceIdeal.nD Cert.DxSsdReferenceIdeal.τ).loc Cert.DxSsdReferenceIdeal.main_arg2) = m ((c.tc : Thread Cert.DxSsdIdeal.nD Cert.DxSsdIdeal.τ).loc Cert.DxSsdIdeal.main_arg2)) →
    ∃ (v0 : (c : Dev Cert.DxSsdIdeal.nD) → Buf (Elt Ideal) ((c.tc : Thread Cert.DxSsdIdeal.nD Cert.DxSsdIdeal.τ).loc Cert.DxSsdIdeal.main_v0)),
      θ_run (Cert.DxSsdIdeal.defs (F := Ideal)) (onTc (τ := Cert.DxSsdIdeal.τ) (Cert.DxSsdIdeal.main (F := Ideal))) ⟨m, fun _ => 0, g⟩ (fun r => ∀ c : Dev Cert.DxSsdIdeal.nD,
          r.2.mem ((c.tc : Thread Cert.DxSsdIdeal.nD Cert.DxSsdIdeal.τ).loc Cert.DxSsdIdeal.main_v0) = v0 c
          ∧ r.2.mem ((c.tc : Thread Cert.DxSsdIdeal.nD Cert.DxSsdIdeal.τ).loc Cert.DxSsdIdeal.main_arg0) = m ((c.tc : Thread Cert.DxSsdIdeal.nD Cert.DxSsdIdeal.τ).loc Cert.DxSsdIdeal.main_arg0)
          ∧ r.2.mem ((c.tc : Thread Cert.DxSsdIdeal.nD Cert.DxSsdIdeal.τ).loc Cert.DxSsdIdeal.main_arg1) = m ((c.tc : Thread Cert.DxSsdIdeal.nD Cert.DxSsdIdeal.τ).loc Cert.DxSsdIdeal.main_arg1)
          ∧ r.2.mem ((c.tc : Thread Cert.DxSsdIdeal.nD Cert.DxSsdIdeal.τ).loc Cert.DxSsdIdeal.main_arg2) = m ((c.tc : Thread Cert.DxSsdIdeal.nD Cert.DxSsdIdeal.τ).loc Cert.DxSsdIdeal.main_arg2))
      ∧ θ_run (Cert.DxSsdReferenceIdeal.defs (F := Ideal)) (onTc (τ := Cert.DxSsdReferenceIdeal.τ) (Cert.DxSsdReferenceIdeal.main (F := Ideal))) ⟨m', fun _ => 0, g'⟩ (fun r => ∀ c : Dev Cert.DxSsdReferenceIdeal.nD,
          r.2.mem ((c.tc : Thread Cert.DxSsdReferenceIdeal.nD Cert.DxSsdReferenceIdeal.τ).loc Cert.DxSsdReferenceIdeal.main_v9) = v0 c
          ∧ r.2.mem ((c.tc : Thread Cert.DxSsdReferenceIdeal.nD Cert.DxSsdReferenceIdeal.τ).loc Cert.DxSsdReferenceIdeal.main_arg0) = m' ((c.tc : Thread Cert.DxSsdReferenceIdeal.nD Cert.DxSsdReferenceIdeal.τ).loc Cert.DxSsdReferenceIdeal.main_arg0)
          ∧ r.2.mem ((c.tc : Thread Cert.DxSsdReferenceIdeal.nD Cert.DxSsdReferenceIdeal.τ).loc Cert.DxSsdReferenceIdeal.main_arg1) = m' ((c.tc : Thread Cert.DxSsdReferenceIdeal.nD Cert.DxSsdReferenceIdeal.τ).loc Cert.DxSsdReferenceIdeal.main_arg1)
          ∧ r.2.mem ((c.tc : Thread Cert.DxSsdReferenceIdeal.nD Cert.DxSsdReferenceIdeal.τ).loc Cert.DxSsdReferenceIdeal.main_arg2) = m' ((c.tc : Thread Cert.DxSsdReferenceIdeal.nD Cert.DxSsdReferenceIdeal.τ).loc Cert.DxSsdReferenceIdeal.main_arg2))

def preserves_DxLru_DxLruIdeal : Prop :=
  True

def algebraic_DxLruIdeal_DxLruReferenceIdeal [hDxLruIdeal : Cert.DxLruIdeal.Facts] [hDxLruReferenceIdeal : Cert.DxLruReferenceIdeal.Facts] : Prop :=
  ∀ (m : (ℓ : Loc Cert.DxLruIdeal.nD Cert.DxLruIdeal.τ Cert.DxLruIdeal.sig) → Buf (Elt Ideal) ℓ) (g : Dev Cert.DxLruIdeal.nD → PrngReg)
    (m' : (ℓ : Loc Cert.DxLruReferenceIdeal.nD Cert.DxLruReferenceIdeal.τ Cert.DxLruReferenceIdeal.sig) → Buf (Elt Ideal) ℓ) (g' : Dev Cert.DxLruReferenceIdeal.nD → PrngReg), Pre_DxLruIdeal m →
    (∀ c : Dev Cert.DxLruIdeal.nD,
      m' ((c.tc : Thread Cert.DxLruReferenceIdeal.nD Cert.DxLruReferenceIdeal.τ).loc Cert.DxLruReferenceIdeal.main_arg0) = m ((c.tc : Thread Cert.DxLruIdeal.nD Cert.DxLruIdeal.τ).loc Cert.DxLruIdeal.main_arg0)
      ∧ m' ((c.tc : Thread Cert.DxLruReferenceIdeal.nD Cert.DxLruReferenceIdeal.τ).loc Cert.DxLruReferenceIdeal.main_arg1) = m ((c.tc : Thread Cert.DxLruIdeal.nD Cert.DxLruIdeal.τ).loc Cert.DxLruIdeal.main_arg1)
      ∧ m' ((c.tc : Thread Cert.DxLruReferenceIdeal.nD Cert.DxLruReferenceIdeal.τ).loc Cert.DxLruReferenceIdeal.main_arg2) = m ((c.tc : Thread Cert.DxLruIdeal.nD Cert.DxLruIdeal.τ).loc Cert.DxLruIdeal.main_arg2)) →
    ∃ (v0 : (c : Dev Cert.DxLruIdeal.nD) → Buf (Elt Ideal) ((c.tc : Thread Cert.DxLruIdeal.nD Cert.DxLruIdeal.τ).loc Cert.DxLruIdeal.main_v0)),
      θ_run (Cert.DxLruIdeal.defs (F := Ideal)) (onTc (τ := Cert.DxLruIdeal.τ) (Cert.DxLruIdeal.main (F := Ideal))) ⟨m, fun _ => 0, g⟩ (fun r => ∀ c : Dev Cert.DxLruIdeal.nD,
          r.2.mem ((c.tc : Thread Cert.DxLruIdeal.nD Cert.DxLruIdeal.τ).loc Cert.DxLruIdeal.main_v0) = v0 c
          ∧ r.2.mem ((c.tc : Thread Cert.DxLruIdeal.nD Cert.DxLruIdeal.τ).loc Cert.DxLruIdeal.main_arg0) = m ((c.tc : Thread Cert.DxLruIdeal.nD Cert.DxLruIdeal.τ).loc Cert.DxLruIdeal.main_arg0)
          ∧ r.2.mem ((c.tc : Thread Cert.DxLruIdeal.nD Cert.DxLruIdeal.τ).loc Cert.DxLruIdeal.main_arg1) = m ((c.tc : Thread Cert.DxLruIdeal.nD Cert.DxLruIdeal.τ).loc Cert.DxLruIdeal.main_arg1)
          ∧ r.2.mem ((c.tc : Thread Cert.DxLruIdeal.nD Cert.DxLruIdeal.τ).loc Cert.DxLruIdeal.main_arg2) = m ((c.tc : Thread Cert.DxLruIdeal.nD Cert.DxLruIdeal.τ).loc Cert.DxLruIdeal.main_arg2))
      ∧ θ_run (Cert.DxLruReferenceIdeal.defs (F := Ideal)) (onTc (τ := Cert.DxLruReferenceIdeal.τ) (Cert.DxLruReferenceIdeal.main (F := Ideal))) ⟨m', fun _ => 0, g'⟩ (fun r => ∀ c : Dev Cert.DxLruReferenceIdeal.nD,
          r.2.mem ((c.tc : Thread Cert.DxLruReferenceIdeal.nD Cert.DxLruReferenceIdeal.τ).loc Cert.DxLruReferenceIdeal.main_v5) = v0 c
          ∧ r.2.mem ((c.tc : Thread Cert.DxLruReferenceIdeal.nD Cert.DxLruReferenceIdeal.τ).loc Cert.DxLruReferenceIdeal.main_arg0) = m' ((c.tc : Thread Cert.DxLruReferenceIdeal.nD Cert.DxLruReferenceIdeal.τ).loc Cert.DxLruReferenceIdeal.main_arg0)
          ∧ r.2.mem ((c.tc : Thread Cert.DxLruReferenceIdeal.nD Cert.DxLruReferenceIdeal.τ).loc Cert.DxLruReferenceIdeal.main_arg1) = m' ((c.tc : Thread Cert.DxLruReferenceIdeal.nD Cert.DxLruReferenceIdeal.τ).loc Cert.DxLruReferenceIdeal.main_arg1)
          ∧ r.2.mem ((c.tc : Thread Cert.DxLruReferenceIdeal.nD Cert.DxLruReferenceIdeal.τ).loc Cert.DxLruReferenceIdeal.main_arg2) = m' ((c.tc : Thread Cert.DxLruReferenceIdeal.nD Cert.DxLruReferenceIdeal.τ).loc Cert.DxLruReferenceIdeal.main_arg2))

def preserves_DxGl_DxGlIdeal : Prop :=
  True

def algebraic_DxGlIdeal_DxGlReferenceIdeal [hDxGlIdeal : Cert.DxGlIdeal.Facts] [hDxGlReferenceIdeal : Cert.DxGlReferenceIdeal.Facts] : Prop :=
  ∀ (m : (ℓ : Loc Cert.DxGlIdeal.nD Cert.DxGlIdeal.τ Cert.DxGlIdeal.sig) → Buf (Elt Ideal) ℓ) (g : Dev Cert.DxGlIdeal.nD → PrngReg)
    (m' : (ℓ : Loc Cert.DxGlReferenceIdeal.nD Cert.DxGlReferenceIdeal.τ Cert.DxGlReferenceIdeal.sig) → Buf (Elt Ideal) ℓ) (g' : Dev Cert.DxGlReferenceIdeal.nD → PrngReg), Pre_DxGlIdeal m →
    (∀ c : Dev Cert.DxGlIdeal.nD,
      m' ((c.tc : Thread Cert.DxGlReferenceIdeal.nD Cert.DxGlReferenceIdeal.τ).loc Cert.DxGlReferenceIdeal.main_arg0) = m ((c.tc : Thread Cert.DxGlIdeal.nD Cert.DxGlIdeal.τ).loc Cert.DxGlIdeal.main_arg0)
      ∧ m' ((c.tc : Thread Cert.DxGlReferenceIdeal.nD Cert.DxGlReferenceIdeal.τ).loc Cert.DxGlReferenceIdeal.main_arg1) = m ((c.tc : Thread Cert.DxGlIdeal.nD Cert.DxGlIdeal.τ).loc Cert.DxGlIdeal.main_arg1)
      ∧ m' ((c.tc : Thread Cert.DxGlReferenceIdeal.nD Cert.DxGlReferenceIdeal.τ).loc Cert.DxGlReferenceIdeal.main_arg2) = m ((c.tc : Thread Cert.DxGlIdeal.nD Cert.DxGlIdeal.τ).loc Cert.DxGlIdeal.main_arg2)) →
    ∃ (v0 : (c : Dev Cert.DxGlIdeal.nD) → Buf (Elt Ideal) ((c.tc : Thread Cert.DxGlIdeal.nD Cert.DxGlIdeal.τ).loc Cert.DxGlIdeal.main_v0)),
      θ_run (Cert.DxGlIdeal.defs (F := Ideal)) (onTc (τ := Cert.DxGlIdeal.τ) (Cert.DxGlIdeal.main (F := Ideal))) ⟨m, fun _ => 0, g⟩ (fun r => ∀ c : Dev Cert.DxGlIdeal.nD,
          r.2.mem ((c.tc : Thread Cert.DxGlIdeal.nD Cert.DxGlIdeal.τ).loc Cert.DxGlIdeal.main_v0) = v0 c
          ∧ r.2.mem ((c.tc : Thread Cert.DxGlIdeal.nD Cert.DxGlIdeal.τ).loc Cert.DxGlIdeal.main_arg0) = m ((c.tc : Thread Cert.DxGlIdeal.nD Cert.DxGlIdeal.τ).loc Cert.DxGlIdeal.main_arg0)
          ∧ r.2.mem ((c.tc : Thread Cert.DxGlIdeal.nD Cert.DxGlIdeal.τ).loc Cert.DxGlIdeal.main_arg1) = m ((c.tc : Thread Cert.DxGlIdeal.nD Cert.DxGlIdeal.τ).loc Cert.DxGlIdeal.main_arg1)
          ∧ r.2.mem ((c.tc : Thread Cert.DxGlIdeal.nD Cert.DxGlIdeal.τ).loc Cert.DxGlIdeal.main_arg2) = m ((c.tc : Thread Cert.DxGlIdeal.nD Cert.DxGlIdeal.τ).loc Cert.DxGlIdeal.main_arg2))
      ∧ θ_run (Cert.DxGlReferenceIdeal.defs (F := Ideal)) (onTc (τ := Cert.DxGlReferenceIdeal.τ) (Cert.DxGlReferenceIdeal.main (F := Ideal))) ⟨m', fun _ => 0, g'⟩ (fun r => ∀ c : Dev Cert.DxGlReferenceIdeal.nD,
          r.2.mem ((c.tc : Thread Cert.DxGlReferenceIdeal.nD Cert.DxGlReferenceIdeal.τ).loc Cert.DxGlReferenceIdeal.main_v5) = v0 c
          ∧ r.2.mem ((c.tc : Thread Cert.DxGlReferenceIdeal.nD Cert.DxGlReferenceIdeal.τ).loc Cert.DxGlReferenceIdeal.main_arg0) = m' ((c.tc : Thread Cert.DxGlReferenceIdeal.nD Cert.DxGlReferenceIdeal.τ).loc Cert.DxGlReferenceIdeal.main_arg0)
          ∧ r.2.mem ((c.tc : Thread Cert.DxGlReferenceIdeal.nD Cert.DxGlReferenceIdeal.τ).loc Cert.DxGlReferenceIdeal.main_arg1) = m' ((c.tc : Thread Cert.DxGlReferenceIdeal.nD Cert.DxGlReferenceIdeal.τ).loc Cert.DxGlReferenceIdeal.main_arg1)
          ∧ r.2.mem ((c.tc : Thread Cert.DxGlReferenceIdeal.nD Cert.DxGlReferenceIdeal.τ).loc Cert.DxGlReferenceIdeal.main_arg2) = m' ((c.tc : Thread Cert.DxGlReferenceIdeal.nD Cert.DxGlReferenceIdeal.τ).loc Cert.DxGlReferenceIdeal.main_arg2))

def preserves_DxQ_DxQIdeal : Prop :=
  True

def algebraic_DxQIdeal_DxQReferenceIdeal [hDxQIdeal : Cert.DxQIdeal.Facts] [hDxQReferenceIdeal : Cert.DxQReferenceIdeal.Facts] : Prop :=
  ∀ (m : (ℓ : Loc Cert.DxQIdeal.nD Cert.DxQIdeal.τ Cert.DxQIdeal.sig) → Buf (Elt Ideal) ℓ) (g : Dev Cert.DxQIdeal.nD → PrngReg)
    (m' : (ℓ : Loc Cert.DxQReferenceIdeal.nD Cert.DxQReferenceIdeal.τ Cert.DxQReferenceIdeal.sig) → Buf (Elt Ideal) ℓ) (g' : Dev Cert.DxQReferenceIdeal.nD → PrngReg), Pre_DxQIdeal m →
    (∀ c : Dev Cert.DxQIdeal.nD,
      m' ((c.tc : Thread Cert.DxQReferenceIdeal.nD Cert.DxQReferenceIdeal.τ).loc Cert.DxQReferenceIdeal.main_arg0) = m ((c.tc : Thread Cert.DxQIdeal.nD Cert.DxQIdeal.τ).loc Cert.DxQIdeal.main_arg0)
      ∧ m' ((c.tc : Thread Cert.DxQReferenceIdeal.nD Cert.DxQReferenceIdeal.τ).loc Cert.DxQReferenceIdeal.main_arg1) = m ((c.tc : Thread Cert.DxQIdeal.nD Cert.DxQIdeal.τ).loc Cert.DxQIdeal.main_arg1)
      ∧ m' ((c.tc : Thread Cert.DxQReferenceIdeal.nD Cert.DxQReferenceIdeal.τ).loc Cert.DxQReferenceIdeal.main_arg2) = m ((c.tc : Thread Cert.DxQIdeal.nD Cert.DxQIdeal.τ).loc Cert.DxQIdeal.main_arg2)) →
    ∃ (v0 : (c : Dev Cert.DxQIdeal.nD) → Buf (Elt Ideal) ((c.tc : Thread Cert.DxQIdeal.nD Cert.DxQIdeal.τ).loc Cert.DxQIdeal.main_v0)),
      θ_run (Cert.DxQIdeal.defs (F := Ideal)) (onTc (τ := Cert.DxQIdeal.τ) (Cert.DxQIdeal.main (F := Ideal))) ⟨m, fun _ => 0, g⟩ (fun r => ∀ c : Dev Cert.DxQIdeal.nD,
          r.2.mem ((c.tc : Thread Cert.DxQIdeal.nD Cert.DxQIdeal.τ).loc Cert.DxQIdeal.main_v0) = v0 c
          ∧ r.2.mem ((c.tc : Thread Cert.DxQIdeal.nD Cert.DxQIdeal.τ).loc Cert.DxQIdeal.main_arg0) = m ((c.tc : Thread Cert.DxQIdeal.nD Cert.DxQIdeal.τ).loc Cert.DxQIdeal.main_arg0)
          ∧ r.2.mem ((c.tc : Thread Cert.DxQIdeal.nD Cert.DxQIdeal.τ).loc Cert.DxQIdeal.main_arg1) = m ((c.tc : Thread Cert.DxQIdeal.nD Cert.DxQIdeal.τ).loc Cert.DxQIdeal.main_arg1)
          ∧ r.2.mem ((c.tc : Thread Cert.DxQIdeal.nD Cert.DxQIdeal.τ).loc Cert.DxQIdeal.main_arg2) = m ((c.tc : Thread Cert.DxQIdeal.nD Cert.DxQIdeal.τ).loc Cert.DxQIdeal.main_arg2))
      ∧ θ_run (Cert.DxQReferenceIdeal.defs (F := Ideal)) (onTc (τ := Cert.DxQReferenceIdeal.τ) (Cert.DxQReferenceIdeal.main (F := Ideal))) ⟨m', fun _ => 0, g'⟩ (fun r => ∀ c : Dev Cert.DxQReferenceIdeal.nD,
          r.2.mem ((c.tc : Thread Cert.DxQReferenceIdeal.nD Cert.DxQReferenceIdeal.τ).loc Cert.DxQReferenceIdeal.main_v5) = v0 c
          ∧ r.2.mem ((c.tc : Thread Cert.DxQReferenceIdeal.nD Cert.DxQReferenceIdeal.τ).loc Cert.DxQReferenceIdeal.main_arg0) = m' ((c.tc : Thread Cert.DxQReferenceIdeal.nD Cert.DxQReferenceIdeal.τ).loc Cert.DxQReferenceIdeal.main_arg0)
          ∧ r.2.mem ((c.tc : Thread Cert.DxQReferenceIdeal.nD Cert.DxQReferenceIdeal.τ).loc Cert.DxQReferenceIdeal.main_arg1) = m' ((c.tc : Thread Cert.DxQReferenceIdeal.nD Cert.DxQReferenceIdeal.τ).loc Cert.DxQReferenceIdeal.main_arg1)
          ∧ r.2.mem ((c.tc : Thread Cert.DxQReferenceIdeal.nD Cert.DxQReferenceIdeal.τ).loc Cert.DxQReferenceIdeal.main_arg2) = m' ((c.tc : Thread Cert.DxQReferenceIdeal.nD Cert.DxQReferenceIdeal.τ).loc Cert.DxQReferenceIdeal.main_arg2))

def preserves_DMerged_DMergedIdeal : Prop :=
  True

def algebraic_DMergedIdeal_DMergedReferenceIdeal [hDMergedIdeal : Cert.DMergedIdeal.Facts] [hDMergedReferenceIdeal : Cert.DMergedReferenceIdeal.Facts] : Prop :=
  ∀ (m : (ℓ : Loc Cert.DMergedIdeal.nD Cert.DMergedIdeal.τ Cert.DMergedIdeal.sig) → Buf (Elt Ideal) ℓ) (g : Dev Cert.DMergedIdeal.nD → PrngReg)
    (m' : (ℓ : Loc Cert.DMergedReferenceIdeal.nD Cert.DMergedReferenceIdeal.τ Cert.DMergedReferenceIdeal.sig) → Buf (Elt Ideal) ℓ) (g' : Dev Cert.DMergedReferenceIdeal.nD → PrngReg), Pre_DMergedIdeal m →
    (∀ c : Dev Cert.DMergedIdeal.nD,
      m' ((c.tc : Thread Cert.DMergedReferenceIdeal.nD Cert.DMergedReferenceIdeal.τ).loc Cert.DMergedReferenceIdeal.main_arg0) = m ((c.tc : Thread Cert.DMergedIdeal.nD Cert.DMergedIdeal.τ).loc Cert.DMergedIdeal.main_arg0)
      ∧ m' ((c.tc : Thread Cert.DMergedReferenceIdeal.nD Cert.DMergedReferenceIdeal.τ).loc Cert.DMergedReferenceIdeal.main_arg1) = m ((c.tc : Thread Cert.DMergedIdeal.nD Cert.DMergedIdeal.τ).loc Cert.DMergedIdeal.main_arg1)) →
    ∃ (v0 : (c : Dev Cert.DMergedIdeal.nD) → Buf (Elt Ideal) ((c.tc : Thread Cert.DMergedIdeal.nD Cert.DMergedIdeal.τ).loc Cert.DMergedIdeal.main_v0)),
      θ_run (Cert.DMergedIdeal.defs (F := Ideal)) (onTc (τ := Cert.DMergedIdeal.τ) (Cert.DMergedIdeal.main (F := Ideal))) ⟨m, fun _ => 0, g⟩ (fun r => ∀ c : Dev Cert.DMergedIdeal.nD,
          r.2.mem ((c.tc : Thread Cert.DMergedIdeal.nD Cert.DMergedIdeal.τ).loc Cert.DMergedIdeal.main_v0) = v0 c
          ∧ r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
          ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1))
      ∧ θ_run (Cert.DMergedReferenceIdeal.defs (F := Ideal)) (onTc (τ := Cert.DMergedReferenceIdeal.τ) (Cert.DMergedReferenceIdeal.main (F := Ideal))) ⟨m', fun _ => 0, g'⟩ (fun r => ∀ c : Dev Cert.DMergedReferenceIdeal.nD,
          r.2.mem ((c.tc : Thread Cert.DMergedReferenceIdeal.nD Cert.DMergedReferenceIdeal.τ).loc Cert.DMergedReferenceIdeal.main_v3) = v0 c
          ∧ r.2.mem ((c.tc : Thread Cert.DMergedReferenceIdeal.nD Cert.DMergedReferenceIdeal.τ).loc Cert.DMergedReferenceIdeal.main_arg0) = m' ((c.tc : Thread Cert.DMergedReferenceIdeal.nD Cert.DMergedReferenceIdeal.τ).loc Cert.DMergedReferenceIdeal.main_arg0)
          ∧ r.2.mem ((c.tc : Thread Cert.DMergedReferenceIdeal.nD Cert.DMergedReferenceIdeal.τ).loc Cert.DMergedReferenceIdeal.main_arg1) = m' ((c.tc : Thread Cert.DMergedReferenceIdeal.nD Cert.DMergedReferenceIdeal.τ).loc Cert.DMergedReferenceIdeal.main_arg1))

def preserves_DyLru_DyLruIdeal : Prop :=
  True

def algebraic_DyLruIdeal_DyLruReferenceIdeal [hDyLruIdeal : Cert.DyLruIdeal.Facts] [hDyLruReferenceIdeal : Cert.DyLruReferenceIdeal.Facts] : Prop :=
  ∀ (m : (ℓ : Loc Cert.DyLruIdeal.nD Cert.DyLruIdeal.τ Cert.DyLruIdeal.sig) → Buf (Elt Ideal) ℓ) (g : Dev Cert.DyLruIdeal.nD → PrngReg)
    (m' : (ℓ : Loc Cert.DyLruReferenceIdeal.nD Cert.DyLruReferenceIdeal.τ Cert.DyLruReferenceIdeal.sig) → Buf (Elt Ideal) ℓ) (g' : Dev Cert.DyLruReferenceIdeal.nD → PrngReg), Pre_DyLruIdeal m →
    (∀ c : Dev Cert.DyLruIdeal.nD,
      m' ((c.tc : Thread Cert.DyLruReferenceIdeal.nD Cert.DyLruReferenceIdeal.τ).loc Cert.DyLruReferenceIdeal.main_arg0) = m ((c.tc : Thread Cert.DyLruIdeal.nD Cert.DyLruIdeal.τ).loc Cert.DyLruIdeal.main_arg0)
      ∧ m' ((c.tc : Thread Cert.DyLruReferenceIdeal.nD Cert.DyLruReferenceIdeal.τ).loc Cert.DyLruReferenceIdeal.main_arg1) = m ((c.tc : Thread Cert.DyLruIdeal.nD Cert.DyLruIdeal.τ).loc Cert.DyLruIdeal.main_arg1)) →
    ∃ (v0 : (c : Dev Cert.DyLruIdeal.nD) → Buf (Elt Ideal) ((c.tc : Thread Cert.DyLruIdeal.nD Cert.DyLruIdeal.τ).loc Cert.DyLruIdeal.main_v0)),
      θ_run (Cert.DyLruIdeal.defs (F := Ideal)) (onTc (τ := Cert.DyLruIdeal.τ) (Cert.DyLruIdeal.main (F := Ideal))) ⟨m, fun _ => 0, g⟩ (fun r => ∀ c : Dev Cert.DyLruIdeal.nD,
          r.2.mem ((c.tc : Thread Cert.DyLruIdeal.nD Cert.DyLruIdeal.τ).loc Cert.DyLruIdeal.main_v0) = v0 c
          ∧ r.2.mem ((c.tc : Thread Cert.DyLruIdeal.nD Cert.DyLruIdeal.τ).loc Cert.DyLruIdeal.main_arg0) = m ((c.tc : Thread Cert.DyLruIdeal.nD Cert.DyLruIdeal.τ).loc Cert.DyLruIdeal.main_arg0)
          ∧ r.2.mem ((c.tc : Thread Cert.DyLruIdeal.nD Cert.DyLruIdeal.τ).loc Cert.DyLruIdeal.main_arg1) = m ((c.tc : Thread Cert.DyLruIdeal.nD Cert.DyLruIdeal.τ).loc Cert.DyLruIdeal.main_arg1))
      ∧ θ_run (Cert.DyLruReferenceIdeal.defs (F := Ideal)) (onTc (τ := Cert.DyLruReferenceIdeal.τ) (Cert.DyLruReferenceIdeal.main (F := Ideal))) ⟨m', fun _ => 0, g'⟩ (fun r => ∀ c : Dev Cert.DyLruReferenceIdeal.nD,
          r.2.mem ((c.tc : Thread Cert.DyLruReferenceIdeal.nD Cert.DyLruReferenceIdeal.τ).loc Cert.DyLruReferenceIdeal.main_v4) = v0 c
          ∧ r.2.mem ((c.tc : Thread Cert.DyLruReferenceIdeal.nD Cert.DyLruReferenceIdeal.τ).loc Cert.DyLruReferenceIdeal.main_arg0) = m' ((c.tc : Thread Cert.DyLruReferenceIdeal.nD Cert.DyLruReferenceIdeal.τ).loc Cert.DyLruReferenceIdeal.main_arg0)
          ∧ r.2.mem ((c.tc : Thread Cert.DyLruReferenceIdeal.nD Cert.DyLruReferenceIdeal.τ).loc Cert.DyLruReferenceIdeal.main_arg1) = m' ((c.tc : Thread Cert.DyLruReferenceIdeal.nD Cert.DyLruReferenceIdeal.τ).loc Cert.DyLruReferenceIdeal.main_arg1))

def preserves_DySsd_DySsdIdeal : Prop :=
  True

def algebraic_DySsdIdeal_DySsdReferenceIdeal [hDySsdIdeal : Cert.DySsdIdeal.Facts] [hDySsdReferenceIdeal : Cert.DySsdReferenceIdeal.Facts] : Prop :=
  ∀ (m : (ℓ : Loc Cert.DySsdIdeal.nD Cert.DySsdIdeal.τ Cert.DySsdIdeal.sig) → Buf (Elt Ideal) ℓ) (g : Dev Cert.DySsdIdeal.nD → PrngReg)
    (m' : (ℓ : Loc Cert.DySsdReferenceIdeal.nD Cert.DySsdReferenceIdeal.τ Cert.DySsdReferenceIdeal.sig) → Buf (Elt Ideal) ℓ) (g' : Dev Cert.DySsdReferenceIdeal.nD → PrngReg), Pre_DySsdIdeal m →
    (∀ c : Dev Cert.DySsdIdeal.nD,
      m' ((c.tc : Thread Cert.DySsdReferenceIdeal.nD Cert.DySsdReferenceIdeal.τ).loc Cert.DySsdReferenceIdeal.main_arg0) = m ((c.tc : Thread Cert.DySsdIdeal.nD Cert.DySsdIdeal.τ).loc Cert.DySsdIdeal.main_arg0)
      ∧ m' ((c.tc : Thread Cert.DySsdReferenceIdeal.nD Cert.DySsdReferenceIdeal.τ).loc Cert.DySsdReferenceIdeal.main_arg1) = m ((c.tc : Thread Cert.DySsdIdeal.nD Cert.DySsdIdeal.τ).loc Cert.DySsdIdeal.main_arg1)) →
    ∃ (v0 : (c : Dev Cert.DySsdIdeal.nD) → Buf (Elt Ideal) ((c.tc : Thread Cert.DySsdIdeal.nD Cert.DySsdIdeal.τ).loc Cert.DySsdIdeal.main_v0)),
      θ_run (Cert.DySsdIdeal.defs (F := Ideal)) (onTc (τ := Cert.DySsdIdeal.τ) (Cert.DySsdIdeal.main (F := Ideal))) ⟨m, fun _ => 0, g⟩ (fun r => ∀ c : Dev Cert.DySsdIdeal.nD,
          r.2.mem ((c.tc : Thread Cert.DySsdIdeal.nD Cert.DySsdIdeal.τ).loc Cert.DySsdIdeal.main_v0) = v0 c
          ∧ r.2.mem ((c.tc : Thread Cert.DySsdIdeal.nD Cert.DySsdIdeal.τ).loc Cert.DySsdIdeal.main_arg0) = m ((c.tc : Thread Cert.DySsdIdeal.nD Cert.DySsdIdeal.τ).loc Cert.DySsdIdeal.main_arg0)
          ∧ r.2.mem ((c.tc : Thread Cert.DySsdIdeal.nD Cert.DySsdIdeal.τ).loc Cert.DySsdIdeal.main_arg1) = m ((c.tc : Thread Cert.DySsdIdeal.nD Cert.DySsdIdeal.τ).loc Cert.DySsdIdeal.main_arg1))
      ∧ θ_run (Cert.DySsdReferenceIdeal.defs (F := Ideal)) (onTc (τ := Cert.DySsdReferenceIdeal.τ) (Cert.DySsdReferenceIdeal.main (F := Ideal))) ⟨m', fun _ => 0, g'⟩ (fun r => ∀ c : Dev Cert.DySsdReferenceIdeal.nD,
          r.2.mem ((c.tc : Thread Cert.DySsdReferenceIdeal.nD Cert.DySsdReferenceIdeal.τ).loc Cert.DySsdReferenceIdeal.main_v4) = v0 c
          ∧ r.2.mem ((c.tc : Thread Cert.DySsdReferenceIdeal.nD Cert.DySsdReferenceIdeal.τ).loc Cert.DySsdReferenceIdeal.main_arg0) = m' ((c.tc : Thread Cert.DySsdReferenceIdeal.nD Cert.DySsdReferenceIdeal.τ).loc Cert.DySsdReferenceIdeal.main_arg0)
          ∧ r.2.mem ((c.tc : Thread Cert.DySsdReferenceIdeal.nD Cert.DySsdReferenceIdeal.τ).loc Cert.DySsdReferenceIdeal.main_arg1) = m' ((c.tc : Thread Cert.DySsdReferenceIdeal.nD Cert.DySsdReferenceIdeal.τ).loc Cert.DySsdReferenceIdeal.main_arg1))

def preserves_DyXa_DyXaIdeal : Prop :=
  True

def algebraic_DyXaIdeal_DyXaReferenceIdeal [hDyXaIdeal : Cert.DyXaIdeal.Facts] [hDyXaReferenceIdeal : Cert.DyXaReferenceIdeal.Facts] : Prop :=
  ∀ (m : (ℓ : Loc Cert.DyXaIdeal.nD Cert.DyXaIdeal.τ Cert.DyXaIdeal.sig) → Buf (Elt Ideal) ℓ) (g : Dev Cert.DyXaIdeal.nD → PrngReg)
    (m' : (ℓ : Loc Cert.DyXaReferenceIdeal.nD Cert.DyXaReferenceIdeal.τ Cert.DyXaReferenceIdeal.sig) → Buf (Elt Ideal) ℓ) (g' : Dev Cert.DyXaReferenceIdeal.nD → PrngReg), Pre_DyXaIdeal m →
    (∀ c : Dev Cert.DyXaIdeal.nD,
      m' ((c.tc : Thread Cert.DyXaReferenceIdeal.nD Cert.DyXaReferenceIdeal.τ).loc Cert.DyXaReferenceIdeal.main_arg0) = m ((c.tc : Thread Cert.DyXaIdeal.nD Cert.DyXaIdeal.τ).loc Cert.DyXaIdeal.main_arg0)
      ∧ m' ((c.tc : Thread Cert.DyXaReferenceIdeal.nD Cert.DyXaReferenceIdeal.τ).loc Cert.DyXaReferenceIdeal.main_arg1) = m ((c.tc : Thread Cert.DyXaIdeal.nD Cert.DyXaIdeal.τ).loc Cert.DyXaIdeal.main_arg1)) →
    ∃ (v0 : (c : Dev Cert.DyXaIdeal.nD) → Buf (Elt Ideal) ((c.tc : Thread Cert.DyXaIdeal.nD Cert.DyXaIdeal.τ).loc Cert.DyXaIdeal.main_v0)),
      θ_run (Cert.DyXaIdeal.defs (F := Ideal)) (onTc (τ := Cert.DyXaIdeal.τ) (Cert.DyXaIdeal.main (F := Ideal))) ⟨m, fun _ => 0, g⟩ (fun r => ∀ c : Dev Cert.DyXaIdeal.nD,
          r.2.mem ((c.tc : Thread Cert.DyXaIdeal.nD Cert.DyXaIdeal.τ).loc Cert.DyXaIdeal.main_v0) = v0 c
          ∧ r.2.mem ((c.tc : Thread Cert.DyXaIdeal.nD Cert.DyXaIdeal.τ).loc Cert.DyXaIdeal.main_arg0) = m ((c.tc : Thread Cert.DyXaIdeal.nD Cert.DyXaIdeal.τ).loc Cert.DyXaIdeal.main_arg0)
          ∧ r.2.mem ((c.tc : Thread Cert.DyXaIdeal.nD Cert.DyXaIdeal.τ).loc Cert.DyXaIdeal.main_arg1) = m ((c.tc : Thread Cert.DyXaIdeal.nD Cert.DyXaIdeal.τ).loc Cert.DyXaIdeal.main_arg1))
      ∧ θ_run (Cert.DyXaReferenceIdeal.defs (F := Ideal)) (onTc (τ := Cert.DyXaReferenceIdeal.τ) (Cert.DyXaReferenceIdeal.main (F := Ideal))) ⟨m', fun _ => 0, g'⟩ (fun r => ∀ c : Dev Cert.DyXaReferenceIdeal.nD,
          r.2.mem ((c.tc : Thread Cert.DyXaReferenceIdeal.nD Cert.DyXaReferenceIdeal.τ).loc Cert.DyXaReferenceIdeal.main_v5) = v0 c
          ∧ r.2.mem ((c.tc : Thread Cert.DyXaReferenceIdeal.nD Cert.DyXaReferenceIdeal.τ).loc Cert.DyXaReferenceIdeal.main_arg0) = m' ((c.tc : Thread Cert.DyXaReferenceIdeal.nD Cert.DyXaReferenceIdeal.τ).loc Cert.DyXaReferenceIdeal.main_arg0)
          ∧ r.2.mem ((c.tc : Thread Cert.DyXaReferenceIdeal.nD Cert.DyXaReferenceIdeal.τ).loc Cert.DyXaReferenceIdeal.main_arg1) = m' ((c.tc : Thread Cert.DyXaReferenceIdeal.nD Cert.DyXaReferenceIdeal.τ).loc Cert.DyXaReferenceIdeal.main_arg1))

def preserves_ProjSsd_ProjSsdIdeal : Prop :=
  True

def algebraic_ProjSsdIdeal_ProjSsdReferenceIdeal [hProjSsdIdeal : Cert.ProjSsdIdeal.Facts] [hProjSsdReferenceIdeal : Cert.ProjSsdReferenceIdeal.Facts] : Prop :=
  ∀ (m : (ℓ : Loc Cert.ProjSsdIdeal.nD Cert.ProjSsdIdeal.τ Cert.ProjSsdIdeal.sig) → Buf (Elt Ideal) ℓ) (g : Dev Cert.ProjSsdIdeal.nD → PrngReg)
    (m' : (ℓ : Loc Cert.ProjSsdReferenceIdeal.nD Cert.ProjSsdReferenceIdeal.τ Cert.ProjSsdReferenceIdeal.sig) → Buf (Elt Ideal) ℓ) (g' : Dev Cert.ProjSsdReferenceIdeal.nD → PrngReg), Pre_ProjSsdIdeal m →
    (∀ c : Dev Cert.ProjSsdIdeal.nD,
      m' ((c.tc : Thread Cert.ProjSsdReferenceIdeal.nD Cert.ProjSsdReferenceIdeal.τ).loc Cert.ProjSsdReferenceIdeal.main_arg0) = m ((c.tc : Thread Cert.ProjSsdIdeal.nD Cert.ProjSsdIdeal.τ).loc Cert.ProjSsdIdeal.main_arg0)
      ∧ m' ((c.tc : Thread Cert.ProjSsdReferenceIdeal.nD Cert.ProjSsdReferenceIdeal.τ).loc Cert.ProjSsdReferenceIdeal.main_arg1) = m ((c.tc : Thread Cert.ProjSsdIdeal.nD Cert.ProjSsdIdeal.τ).loc Cert.ProjSsdIdeal.main_arg1)) →
    ∃ (v0 : (c : Dev Cert.ProjSsdIdeal.nD) → Buf (Elt Ideal) ((c.tc : Thread Cert.ProjSsdIdeal.nD Cert.ProjSsdIdeal.τ).loc Cert.ProjSsdIdeal.main_v0)),
      θ_run (Cert.ProjSsdIdeal.defs (F := Ideal)) (onTc (τ := Cert.ProjSsdIdeal.τ) (Cert.ProjSsdIdeal.main (F := Ideal))) ⟨m, fun _ => 0, g⟩ (fun r => ∀ c : Dev Cert.ProjSsdIdeal.nD,
          r.2.mem ((c.tc : Thread Cert.ProjSsdIdeal.nD Cert.ProjSsdIdeal.τ).loc Cert.ProjSsdIdeal.main_v0) = v0 c
          ∧ r.2.mem ((c.tc : Thread Cert.ProjSsdIdeal.nD Cert.ProjSsdIdeal.τ).loc Cert.ProjSsdIdeal.main_arg0) = m ((c.tc : Thread Cert.ProjSsdIdeal.nD Cert.ProjSsdIdeal.τ).loc Cert.ProjSsdIdeal.main_arg0)
          ∧ r.2.mem ((c.tc : Thread Cert.ProjSsdIdeal.nD Cert.ProjSsdIdeal.τ).loc Cert.ProjSsdIdeal.main_arg1) = m ((c.tc : Thread Cert.ProjSsdIdeal.nD Cert.ProjSsdIdeal.τ).loc Cert.ProjSsdIdeal.main_arg1))
      ∧ θ_run (Cert.ProjSsdReferenceIdeal.defs (F := Ideal)) (onTc (τ := Cert.ProjSsdReferenceIdeal.τ) (Cert.ProjSsdReferenceIdeal.main (F := Ideal))) ⟨m', fun _ => 0, g'⟩ (fun r => ∀ c : Dev Cert.ProjSsdReferenceIdeal.nD,
          r.2.mem ((c.tc : Thread Cert.ProjSsdReferenceIdeal.nD Cert.ProjSsdReferenceIdeal.τ).loc Cert.ProjSsdReferenceIdeal.main_v2) = v0 c
          ∧ r.2.mem ((c.tc : Thread Cert.ProjSsdReferenceIdeal.nD Cert.ProjSsdReferenceIdeal.τ).loc Cert.ProjSsdReferenceIdeal.main_arg0) = m' ((c.tc : Thread Cert.ProjSsdReferenceIdeal.nD Cert.ProjSsdReferenceIdeal.τ).loc Cert.ProjSsdReferenceIdeal.main_arg0)
          ∧ r.2.mem ((c.tc : Thread Cert.ProjSsdReferenceIdeal.nD Cert.ProjSsdReferenceIdeal.τ).loc Cert.ProjSsdReferenceIdeal.main_arg1) = m' ((c.tc : Thread Cert.ProjSsdReferenceIdeal.nD Cert.ProjSsdReferenceIdeal.τ).loc Cert.ProjSsdReferenceIdeal.main_arg1))

def preserves_ProjLru_ProjLruIdeal : Prop :=
  True

def algebraic_ProjLruIdeal_ProjLruReferenceIdeal [hProjLruIdeal : Cert.ProjLruIdeal.Facts] [hProjLruReferenceIdeal : Cert.ProjLruReferenceIdeal.Facts] : Prop :=
  ∀ (m : (ℓ : Loc Cert.ProjLruIdeal.nD Cert.ProjLruIdeal.τ Cert.ProjLruIdeal.sig) → Buf (Elt Ideal) ℓ) (g : Dev Cert.ProjLruIdeal.nD → PrngReg)
    (m' : (ℓ : Loc Cert.ProjLruReferenceIdeal.nD Cert.ProjLruReferenceIdeal.τ Cert.ProjLruReferenceIdeal.sig) → Buf (Elt Ideal) ℓ) (g' : Dev Cert.ProjLruReferenceIdeal.nD → PrngReg), Pre_ProjLruIdeal m →
    (∀ c : Dev Cert.ProjLruIdeal.nD,
      m' ((c.tc : Thread Cert.ProjLruReferenceIdeal.nD Cert.ProjLruReferenceIdeal.τ).loc Cert.ProjLruReferenceIdeal.main_arg0) = m ((c.tc : Thread Cert.ProjLruIdeal.nD Cert.ProjLruIdeal.τ).loc Cert.ProjLruIdeal.main_arg0)
      ∧ m' ((c.tc : Thread Cert.ProjLruReferenceIdeal.nD Cert.ProjLruReferenceIdeal.τ).loc Cert.ProjLruReferenceIdeal.main_arg1) = m ((c.tc : Thread Cert.ProjLruIdeal.nD Cert.ProjLruIdeal.τ).loc Cert.ProjLruIdeal.main_arg1)) →
    ∃ (v0 : (c : Dev Cert.ProjLruIdeal.nD) → Buf (Elt Ideal) ((c.tc : Thread Cert.ProjLruIdeal.nD Cert.ProjLruIdeal.τ).loc Cert.ProjLruIdeal.main_v0)),
      θ_run (Cert.ProjLruIdeal.defs (F := Ideal)) (onTc (τ := Cert.ProjLruIdeal.τ) (Cert.ProjLruIdeal.main (F := Ideal))) ⟨m, fun _ => 0, g⟩ (fun r => ∀ c : Dev Cert.ProjLruIdeal.nD,
          r.2.mem ((c.tc : Thread Cert.ProjLruIdeal.nD Cert.ProjLruIdeal.τ).loc Cert.ProjLruIdeal.main_v0) = v0 c
          ∧ r.2.mem ((c.tc : Thread Cert.ProjLruIdeal.nD Cert.ProjLruIdeal.τ).loc Cert.ProjLruIdeal.main_arg0) = m ((c.tc : Thread Cert.ProjLruIdeal.nD Cert.ProjLruIdeal.τ).loc Cert.ProjLruIdeal.main_arg0)
          ∧ r.2.mem ((c.tc : Thread Cert.ProjLruIdeal.nD Cert.ProjLruIdeal.τ).loc Cert.ProjLruIdeal.main_arg1) = m ((c.tc : Thread Cert.ProjLruIdeal.nD Cert.ProjLruIdeal.τ).loc Cert.ProjLruIdeal.main_arg1))
      ∧ θ_run (Cert.ProjLruReferenceIdeal.defs (F := Ideal)) (onTc (τ := Cert.ProjLruReferenceIdeal.τ) (Cert.ProjLruReferenceIdeal.main (F := Ideal))) ⟨m', fun _ => 0, g'⟩ (fun r => ∀ c : Dev Cert.ProjLruReferenceIdeal.nD,
          r.2.mem ((c.tc : Thread Cert.ProjLruReferenceIdeal.nD Cert.ProjLruReferenceIdeal.τ).loc Cert.ProjLruReferenceIdeal.main_v2) = v0 c
          ∧ r.2.mem ((c.tc : Thread Cert.ProjLruReferenceIdeal.nD Cert.ProjLruReferenceIdeal.τ).loc Cert.ProjLruReferenceIdeal.main_arg0) = m' ((c.tc : Thread Cert.ProjLruReferenceIdeal.nD Cert.ProjLruReferenceIdeal.τ).loc Cert.ProjLruReferenceIdeal.main_arg0)
          ∧ r.2.mem ((c.tc : Thread Cert.ProjLruReferenceIdeal.nD Cert.ProjLruReferenceIdeal.τ).loc Cert.ProjLruReferenceIdeal.main_arg1) = m' ((c.tc : Thread Cert.ProjLruReferenceIdeal.nD Cert.ProjLruReferenceIdeal.τ).loc Cert.ProjLruReferenceIdeal.main_arg1))

def preserves_ProjGl_ProjGlIdeal : Prop :=
  True

def algebraic_ProjGlIdeal_ProjGlReferenceIdeal [hProjGlIdeal : Cert.ProjGlIdeal.Facts] [hProjGlReferenceIdeal : Cert.ProjGlReferenceIdeal.Facts] : Prop :=
  ∀ (m : (ℓ : Loc Cert.ProjGlIdeal.nD Cert.ProjGlIdeal.τ Cert.ProjGlIdeal.sig) → Buf (Elt Ideal) ℓ) (g : Dev Cert.ProjGlIdeal.nD → PrngReg)
    (m' : (ℓ : Loc Cert.ProjGlReferenceIdeal.nD Cert.ProjGlReferenceIdeal.τ Cert.ProjGlReferenceIdeal.sig) → Buf (Elt Ideal) ℓ) (g' : Dev Cert.ProjGlReferenceIdeal.nD → PrngReg), Pre_ProjGlIdeal m →
    (∀ c : Dev Cert.ProjGlIdeal.nD,
      m' ((c.tc : Thread Cert.ProjGlReferenceIdeal.nD Cert.ProjGlReferenceIdeal.τ).loc Cert.ProjGlReferenceIdeal.main_arg0) = m ((c.tc : Thread Cert.ProjGlIdeal.nD Cert.ProjGlIdeal.τ).loc Cert.ProjGlIdeal.main_arg0)
      ∧ m' ((c.tc : Thread Cert.ProjGlReferenceIdeal.nD Cert.ProjGlReferenceIdeal.τ).loc Cert.ProjGlReferenceIdeal.main_arg1) = m ((c.tc : Thread Cert.ProjGlIdeal.nD Cert.ProjGlIdeal.τ).loc Cert.ProjGlIdeal.main_arg1)) →
    ∃ (v0 : (c : Dev Cert.ProjGlIdeal.nD) → Buf (Elt Ideal) ((c.tc : Thread Cert.ProjGlIdeal.nD Cert.ProjGlIdeal.τ).loc Cert.ProjGlIdeal.main_v0)),
      θ_run (Cert.ProjGlIdeal.defs (F := Ideal)) (onTc (τ := Cert.ProjGlIdeal.τ) (Cert.ProjGlIdeal.main (F := Ideal))) ⟨m, fun _ => 0, g⟩ (fun r => ∀ c : Dev Cert.ProjGlIdeal.nD,
          r.2.mem ((c.tc : Thread Cert.ProjGlIdeal.nD Cert.ProjGlIdeal.τ).loc Cert.ProjGlIdeal.main_v0) = v0 c
          ∧ r.2.mem ((c.tc : Thread Cert.ProjGlIdeal.nD Cert.ProjGlIdeal.τ).loc Cert.ProjGlIdeal.main_arg0) = m ((c.tc : Thread Cert.ProjGlIdeal.nD Cert.ProjGlIdeal.τ).loc Cert.ProjGlIdeal.main_arg0)
          ∧ r.2.mem ((c.tc : Thread Cert.ProjGlIdeal.nD Cert.ProjGlIdeal.τ).loc Cert.ProjGlIdeal.main_arg1) = m ((c.tc : Thread Cert.ProjGlIdeal.nD Cert.ProjGlIdeal.τ).loc Cert.ProjGlIdeal.main_arg1))
      ∧ θ_run (Cert.ProjGlReferenceIdeal.defs (F := Ideal)) (onTc (τ := Cert.ProjGlReferenceIdeal.τ) (Cert.ProjGlReferenceIdeal.main (F := Ideal))) ⟨m', fun _ => 0, g'⟩ (fun r => ∀ c : Dev Cert.ProjGlReferenceIdeal.nD,
          r.2.mem ((c.tc : Thread Cert.ProjGlReferenceIdeal.nD Cert.ProjGlReferenceIdeal.τ).loc Cert.ProjGlReferenceIdeal.main_v3) = v0 c
          ∧ r.2.mem ((c.tc : Thread Cert.ProjGlReferenceIdeal.nD Cert.ProjGlReferenceIdeal.τ).loc Cert.ProjGlReferenceIdeal.main_arg0) = m' ((c.tc : Thread Cert.ProjGlReferenceIdeal.nD Cert.ProjGlReferenceIdeal.τ).loc Cert.ProjGlReferenceIdeal.main_arg0)
          ∧ r.2.mem ((c.tc : Thread Cert.ProjGlReferenceIdeal.nD Cert.ProjGlReferenceIdeal.τ).loc Cert.ProjGlReferenceIdeal.main_arg1) = m' ((c.tc : Thread Cert.ProjGlReferenceIdeal.nD Cert.ProjGlReferenceIdeal.τ).loc Cert.ProjGlReferenceIdeal.main_arg1))

def preserves_ProjQ_ProjQIdeal : Prop :=
  True

def algebraic_ProjQIdeal_ProjQReferenceIdeal [hProjQIdeal : Cert.ProjQIdeal.Facts] [hProjQReferenceIdeal : Cert.ProjQReferenceIdeal.Facts] : Prop :=
  ∀ (m : (ℓ : Loc Cert.ProjQIdeal.nD Cert.ProjQIdeal.τ Cert.ProjQIdeal.sig) → Buf (Elt Ideal) ℓ) (g : Dev Cert.ProjQIdeal.nD → PrngReg)
    (m' : (ℓ : Loc Cert.ProjQReferenceIdeal.nD Cert.ProjQReferenceIdeal.τ Cert.ProjQReferenceIdeal.sig) → Buf (Elt Ideal) ℓ) (g' : Dev Cert.ProjQReferenceIdeal.nD → PrngReg), Pre_ProjQIdeal m →
    (∀ c : Dev Cert.ProjQIdeal.nD,
      m' ((c.tc : Thread Cert.ProjQReferenceIdeal.nD Cert.ProjQReferenceIdeal.τ).loc Cert.ProjQReferenceIdeal.main_arg0) = m ((c.tc : Thread Cert.ProjQIdeal.nD Cert.ProjQIdeal.τ).loc Cert.ProjQIdeal.main_arg0)
      ∧ m' ((c.tc : Thread Cert.ProjQReferenceIdeal.nD Cert.ProjQReferenceIdeal.τ).loc Cert.ProjQReferenceIdeal.main_arg1) = m ((c.tc : Thread Cert.ProjQIdeal.nD Cert.ProjQIdeal.τ).loc Cert.ProjQIdeal.main_arg1)) →
    ∃ (v0 : (c : Dev Cert.ProjQIdeal.nD) → Buf (Elt Ideal) ((c.tc : Thread Cert.ProjQIdeal.nD Cert.ProjQIdeal.τ).loc Cert.ProjQIdeal.main_v0)),
      θ_run (Cert.ProjQIdeal.defs (F := Ideal)) (onTc (τ := Cert.ProjQIdeal.τ) (Cert.ProjQIdeal.main (F := Ideal))) ⟨m, fun _ => 0, g⟩ (fun r => ∀ c : Dev Cert.ProjQIdeal.nD,
          r.2.mem ((c.tc : Thread Cert.ProjQIdeal.nD Cert.ProjQIdeal.τ).loc Cert.ProjQIdeal.main_v0) = v0 c
          ∧ r.2.mem ((c.tc : Thread Cert.ProjQIdeal.nD Cert.ProjQIdeal.τ).loc Cert.ProjQIdeal.main_arg0) = m ((c.tc : Thread Cert.ProjQIdeal.nD Cert.ProjQIdeal.τ).loc Cert.ProjQIdeal.main_arg0)
          ∧ r.2.mem ((c.tc : Thread Cert.ProjQIdeal.nD Cert.ProjQIdeal.τ).loc Cert.ProjQIdeal.main_arg1) = m ((c.tc : Thread Cert.ProjQIdeal.nD Cert.ProjQIdeal.τ).loc Cert.ProjQIdeal.main_arg1))
      ∧ θ_run (Cert.ProjQReferenceIdeal.defs (F := Ideal)) (onTc (τ := Cert.ProjQReferenceIdeal.τ) (Cert.ProjQReferenceIdeal.main (F := Ideal))) ⟨m', fun _ => 0, g'⟩ (fun r => ∀ c : Dev Cert.ProjQReferenceIdeal.nD,
          r.2.mem ((c.tc : Thread Cert.ProjQReferenceIdeal.nD Cert.ProjQReferenceIdeal.τ).loc Cert.ProjQReferenceIdeal.main_v3) = v0 c
          ∧ r.2.mem ((c.tc : Thread Cert.ProjQReferenceIdeal.nD Cert.ProjQReferenceIdeal.τ).loc Cert.ProjQReferenceIdeal.main_arg0) = m' ((c.tc : Thread Cert.ProjQReferenceIdeal.nD Cert.ProjQReferenceIdeal.τ).loc Cert.ProjQReferenceIdeal.main_arg0)
          ∧ r.2.mem ((c.tc : Thread Cert.ProjQReferenceIdeal.nD Cert.ProjQReferenceIdeal.τ).loc Cert.ProjQReferenceIdeal.main_arg1) = m' ((c.tc : Thread Cert.ProjQReferenceIdeal.nD Cert.ProjQReferenceIdeal.τ).loc Cert.ProjQReferenceIdeal.main_arg1))

def preserves_BrSsd_BrSsdIdeal : Prop :=
  True

def algebraic_BrSsdIdeal_BrSsdReferenceIdeal [hBrSsdIdeal : Cert.BrSsdIdeal.Facts] [hBrSsdReferenceIdeal : Cert.BrSsdReferenceIdeal.Facts] : Prop :=
  ∀ (m : (ℓ : Loc Cert.BrSsdIdeal.nD Cert.BrSsdIdeal.τ Cert.BrSsdIdeal.sig) → Buf (Elt Ideal) ℓ) (g : Dev Cert.BrSsdIdeal.nD → PrngReg)
    (m' : (ℓ : Loc Cert.BrSsdReferenceIdeal.nD Cert.BrSsdReferenceIdeal.τ Cert.BrSsdReferenceIdeal.sig) → Buf (Elt Ideal) ℓ) (g' : Dev Cert.BrSsdReferenceIdeal.nD → PrngReg), Pre_BrSsdIdeal m →
    (∀ c : Dev Cert.BrSsdIdeal.nD,
      m' ((c.tc : Thread Cert.BrSsdReferenceIdeal.nD Cert.BrSsdReferenceIdeal.τ).loc Cert.BrSsdReferenceIdeal.main_arg0) = m ((c.tc : Thread Cert.BrSsdIdeal.nD Cert.BrSsdIdeal.τ).loc Cert.BrSsdIdeal.main_arg0)
      ∧ m' ((c.tc : Thread Cert.BrSsdReferenceIdeal.nD Cert.BrSsdReferenceIdeal.τ).loc Cert.BrSsdReferenceIdeal.main_arg1) = m ((c.tc : Thread Cert.BrSsdIdeal.nD Cert.BrSsdIdeal.τ).loc Cert.BrSsdIdeal.main_arg1)) →
    ∃ (v0 : (c : Dev Cert.BrSsdIdeal.nD) → Buf (Elt Ideal) ((c.tc : Thread Cert.BrSsdIdeal.nD Cert.BrSsdIdeal.τ).loc Cert.BrSsdIdeal.main_v0)),
      θ_run (Cert.BrSsdIdeal.defs (F := Ideal)) (onTc (τ := Cert.BrSsdIdeal.τ) (Cert.BrSsdIdeal.main (F := Ideal))) ⟨m, fun _ => 0, g⟩ (fun r => ∀ c : Dev Cert.BrSsdIdeal.nD,
          r.2.mem ((c.tc : Thread Cert.BrSsdIdeal.nD Cert.BrSsdIdeal.τ).loc Cert.BrSsdIdeal.main_v0) = v0 c
          ∧ r.2.mem ((c.tc : Thread Cert.BrSsdIdeal.nD Cert.BrSsdIdeal.τ).loc Cert.BrSsdIdeal.main_arg0) = m ((c.tc : Thread Cert.BrSsdIdeal.nD Cert.BrSsdIdeal.τ).loc Cert.BrSsdIdeal.main_arg0)
          ∧ r.2.mem ((c.tc : Thread Cert.BrSsdIdeal.nD Cert.BrSsdIdeal.τ).loc Cert.BrSsdIdeal.main_arg1) = m ((c.tc : Thread Cert.BrSsdIdeal.nD Cert.BrSsdIdeal.τ).loc Cert.BrSsdIdeal.main_arg1))
      ∧ θ_run (Cert.BrSsdReferenceIdeal.defs (F := Ideal)) (onTc (τ := Cert.BrSsdReferenceIdeal.τ) (Cert.BrSsdReferenceIdeal.main (F := Ideal))) ⟨m', fun _ => 0, g'⟩ (fun r => ∀ c : Dev Cert.BrSsdReferenceIdeal.nD,
          r.2.mem ((c.tc : Thread Cert.BrSsdReferenceIdeal.nD Cert.BrSsdReferenceIdeal.τ).loc Cert.BrSsdReferenceIdeal.main_v3) = v0 c
          ∧ r.2.mem ((c.tc : Thread Cert.BrSsdReferenceIdeal.nD Cert.BrSsdReferenceIdeal.τ).loc Cert.BrSsdReferenceIdeal.main_arg0) = m' ((c.tc : Thread Cert.BrSsdReferenceIdeal.nD Cert.BrSsdReferenceIdeal.τ).loc Cert.BrSsdReferenceIdeal.main_arg0)
          ∧ r.2.mem ((c.tc : Thread Cert.BrSsdReferenceIdeal.nD Cert.BrSsdReferenceIdeal.τ).loc Cert.BrSsdReferenceIdeal.main_arg1) = m' ((c.tc : Thread Cert.BrSsdReferenceIdeal.nD Cert.BrSsdReferenceIdeal.τ).loc Cert.BrSsdReferenceIdeal.main_arg1))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v2) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1))

def preserves_FfnDown_FfnDownIdeal : Prop :=
  True

def algebraic_FfnDownIdeal_FfnDownReferenceIdeal [hFfnDownIdeal : Cert.FfnDownIdeal.Facts] [hFfnDownReferenceIdeal : Cert.FfnDownReferenceIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownReferenceIdeal.nD Cert.FfnDownReferenceIdeal.τ Cert.FfnDownReferenceIdeal.sig) → Buf (Elt Ideal) ℓ) (g' : Dev Cert.FfnDownReferenceIdeal.nD → PrngReg), Pre_FfnDownIdeal m →
    (∀ c : Dev Cert.FfnDownIdeal.nD,
      m' ((c.tc : Thread Cert.FfnDownReferenceIdeal.nD Cert.FfnDownReferenceIdeal.τ).loc Cert.FfnDownReferenceIdeal.main_arg0) = m ((c.tc : Thread Cert.FfnDownIdeal.nD Cert.FfnDownIdeal.τ).loc Cert.FfnDownIdeal.main_arg0)
      ∧ m' ((c.tc : Thread Cert.FfnDownReferenceIdeal.nD Cert.FfnDownReferenceIdeal.τ).loc Cert.FfnDownReferenceIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.FfnDownReferenceIdeal.defs (F := Ideal)) (onTc (τ := Cert.FfnDownReferenceIdeal.τ) (Cert.FfnDownReferenceIdeal.main (F := Ideal))) ⟨m', fun _ => 0, g'⟩ (fun r => ∀ c : Dev Cert.FfnDownReferenceIdeal.nD,
          r.2.mem ((c.tc : Thread Cert.FfnDownReferenceIdeal.nD Cert.FfnDownReferenceIdeal.τ).loc Cert.FfnDownReferenceIdeal.main_v2) = v0 c
          ∧ r.2.mem ((c.tc : Thread Cert.FfnDownReferenceIdeal.nD Cert.FfnDownReferenceIdeal.τ).loc Cert.FfnDownReferenceIdeal.main_arg0) = m' ((c.tc : Thread Cert.FfnDownReferenceIdeal.nD Cert.FfnDownReferenceIdeal.τ).loc Cert.FfnDownReferenceIdeal.main_arg0)
          ∧ r.2.mem ((c.tc : Thread Cert.FfnDownReferenceIdeal.nD Cert.FfnDownReferenceIdeal.τ).loc Cert.FfnDownReferenceIdeal.main_arg1) = m' ((c.tc : Thread Cert.FfnDownReferenceIdeal.nD Cert.FfnDownReferenceIdeal.τ).loc Cert.FfnDownReferenceIdeal.main_arg1))

def preserves_XaFwd_XaFwdIdeal : Prop :=
  True

def algebraic_XaFwdIdeal_XaFwdReferenceIdeal [hXaFwdIdeal : Cert.XaFwdIdeal.Facts] [hXaFwdReferenceIdeal : Cert.XaFwdReferenceIdeal.Facts] : Prop :=
  ∀ (m : (ℓ : Loc Cert.XaFwdIdeal.nD Cert.XaFwdIdeal.τ Cert.XaFwdIdeal.sig) → Buf (Elt Ideal) ℓ) (g : Dev Cert.XaFwdIdeal.nD → PrngReg)
    (m' : (ℓ : Loc Cert.XaFwdReferenceIdeal.nD Cert.XaFwdReferenceIdeal.τ Cert.XaFwdReferenceIdeal.sig) → Buf (Elt Ideal) ℓ) (g' : Dev Cert.XaFwdReferenceIdeal.nD → PrngReg), Pre_XaFwdIdeal m →
    (∀ c : Dev Cert.XaFwdIdeal.nD,
      m' ((c.tc : Thread Cert.XaFwdReferenceIdeal.nD Cert.XaFwdReferenceIdeal.τ).loc Cert.XaFwdReferenceIdeal.main_arg0) = m ((c.tc : Thread Cert.XaFwdIdeal.nD Cert.XaFwdIdeal.τ).loc Cert.XaFwdIdeal.main_arg0)
      ∧ m' ((c.tc : Thread Cert.XaFwdReferenceIdeal.nD Cert.XaFwdReferenceIdeal.τ).loc Cert.XaFwdReferenceIdeal.main_arg1) = m ((c.tc : Thread Cert.XaFwdIdeal.nD Cert.XaFwdIdeal.τ).loc Cert.XaFwdIdeal.main_arg1)) →
    ∃ (v0 : (c : Dev Cert.XaFwdIdeal.nD) → Buf (Elt Ideal) ((c.tc : Thread Cert.XaFwdIdeal.nD Cert.XaFwdIdeal.τ).loc Cert.XaFwdIdeal.main_v0)),
      θ_run (Cert.XaFwdIdeal.defs (F := Ideal)) (onTc (τ := Cert.XaFwdIdeal.τ) (Cert.XaFwdIdeal.main (F := Ideal))) ⟨m, fun _ => 0, g⟩ (fun r => ∀ c : Dev Cert.XaFwdIdeal.nD,
          r.2.mem ((c.tc : Thread Cert.XaFwdIdeal.nD Cert.XaFwdIdeal.τ).loc Cert.XaFwdIdeal.main_v0) = v0 c
          ∧ r.2.mem ((c.tc : Thread Cert.XaFwdIdeal.nD Cert.XaFwdIdeal.τ).loc Cert.XaFwdIdeal.main_arg0) = m ((c.tc : Thread Cert.XaFwdIdeal.nD Cert.XaFwdIdeal.τ).loc Cert.XaFwdIdeal.main_arg0)
          ∧ r.2.mem ((c.tc : Thread Cert.XaFwdIdeal.nD Cert.XaFwdIdeal.τ).loc Cert.XaFwdIdeal.main_arg1) = m ((c.tc : Thread Cert.XaFwdIdeal.nD Cert.XaFwdIdeal.τ).loc Cert.XaFwdIdeal.main_arg1))
      ∧ θ_run (Cert.XaFwdReferenceIdeal.defs (F := Ideal)) (onTc (τ := Cert.XaFwdReferenceIdeal.τ) (Cert.XaFwdReferenceIdeal.main (F := Ideal))) ⟨m', fun _ => 0, g'⟩ (fun r => ∀ c : Dev Cert.XaFwdReferenceIdeal.nD,
          r.2.mem ((c.tc : Thread Cert.XaFwdReferenceIdeal.nD Cert.XaFwdReferenceIdeal.τ).loc Cert.XaFwdReferenceIdeal.main_v23) = v0 c
          ∧ r.2.mem ((c.tc : Thread Cert.XaFwdReferenceIdeal.nD Cert.XaFwdReferenceIdeal.τ).loc Cert.XaFwdReferenceIdeal.main_arg0) = m' ((c.tc : Thread Cert.XaFwdReferenceIdeal.nD Cert.XaFwdReferenceIdeal.τ).loc Cert.XaFwdReferenceIdeal.main_arg0)
          ∧ r.2.mem ((c.tc : Thread Cert.XaFwdReferenceIdeal.nD Cert.XaFwdReferenceIdeal.τ).loc Cert.XaFwdReferenceIdeal.main_arg1) = m' ((c.tc : Thread Cert.XaFwdReferenceIdeal.nD Cert.XaFwdReferenceIdeal.τ).loc Cert.XaFwdReferenceIdeal.main_arg1))

def preserves_MergeFwd_MergeFwdIdeal : Prop :=
  True

def algebraic_MergeFwdIdeal_MergeFwdReferenceIdeal [hMergeFwdIdeal : Cert.MergeFwdIdeal.Facts] [hMergeFwdReferenceIdeal : Cert.MergeFwdReferenceIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdReferenceIdeal.nD Cert.MergeFwdReferenceIdeal.τ Cert.MergeFwdReferenceIdeal.sig) → Buf (Elt Ideal) ℓ) (g' : Dev Cert.MergeFwdReferenceIdeal.nD → PrngReg), Pre_MergeFwdIdeal m →
    (∀ c : Dev Cert.MergeFwdIdeal.nD,
      m' ((c.tc : Thread Cert.MergeFwdReferenceIdeal.nD Cert.MergeFwdReferenceIdeal.τ).loc Cert.MergeFwdReferenceIdeal.main_arg0) = m ((c.tc : Thread Cert.MergeFwdIdeal.nD Cert.MergeFwdIdeal.τ).loc Cert.MergeFwdIdeal.main_arg0)
      ∧ m' ((c.tc : Thread Cert.MergeFwdReferenceIdeal.nD Cert.MergeFwdReferenceIdeal.τ).loc Cert.MergeFwdReferenceIdeal.main_arg1) = m ((c.tc : Thread Cert.MergeFwdIdeal.nD Cert.MergeFwdIdeal.τ).loc Cert.MergeFwdIdeal.main_arg1)
      ∧ m' ((c.tc : Thread Cert.MergeFwdReferenceIdeal.nD Cert.MergeFwdReferenceIdeal.τ).loc Cert.MergeFwdReferenceIdeal.main_arg2) = m ((c.tc : Thread Cert.MergeFwdIdeal.nD Cert.MergeFwdIdeal.τ).loc Cert.MergeFwdIdeal.main_arg2)
      ∧ m' ((c.tc : Thread Cert.MergeFwdReferenceIdeal.nD Cert.MergeFwdReferenceIdeal.τ).loc Cert.MergeFwdReferenceIdeal.main_arg3) = m ((c.tc : Thread Cert.MergeFwdIdeal.nD Cert.MergeFwdIdeal.τ).loc Cert.MergeFwdIdeal.main_arg3)
      ∧ m' ((c.tc : Thread Cert.MergeFwdReferenceIdeal.nD Cert.MergeFwdReferenceIdeal.τ).loc Cert.MergeFwdReferenceIdeal.main_arg4) = m ((c.tc : Thread Cert.MergeFwdIdeal.nD Cert.MergeFwdIdeal.τ).loc Cert.MergeFwdIdeal.main_arg4)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ θ_run (Cert.MergeFwdReferenceIdeal.defs (F := Ideal)) (onTc (τ := Cert.MergeFwdReferenceIdeal.τ) (Cert.MergeFwdReferenceIdeal.main (F := Ideal))) ⟨m', fun _ => 0, g'⟩ (fun r => ∀ c : Dev Cert.MergeFwdReferenceIdeal.nD,
          r.2.mem ((c.tc : Thread Cert.MergeFwdReferenceIdeal.nD Cert.MergeFwdReferenceIdeal.τ).loc Cert.MergeFwdReferenceIdeal.main_v26) = v0 c
          ∧ r.2.mem ((c.tc : Thread Cert.MergeFwdReferenceIdeal.nD Cert.MergeFwdReferenceIdeal.τ).loc Cert.MergeFwdReferenceIdeal.main_arg0) = m' ((c.tc : Thread Cert.MergeFwdReferenceIdeal.nD Cert.MergeFwdReferenceIdeal.τ).loc Cert.MergeFwdReferenceIdeal.main_arg0)
          ∧ r.2.mem ((c.tc : Thread Cert.MergeFwdReferenceIdeal.nD Cert.MergeFwdReferenceIdeal.τ).loc Cert.MergeFwdReferenceIdeal.main_arg1) = m' ((c.tc : Thread Cert.MergeFwdReferenceIdeal.nD Cert.MergeFwdReferenceIdeal.τ).loc Cert.MergeFwdReferenceIdeal.main_arg1)
          ∧ r.2.mem ((c.tc : Thread Cert.MergeFwdReferenceIdeal.nD Cert.MergeFwdReferenceIdeal.τ).loc Cert.MergeFwdReferenceIdeal.main_arg2) = m' ((c.tc : Thread Cert.MergeFwdReferenceIdeal.nD Cert.MergeFwdReferenceIdeal.τ).loc Cert.MergeFwdReferenceIdeal.main_arg2)
          ∧ r.2.mem ((c.tc : Thread Cert.MergeFwdReferenceIdeal.nD Cert.MergeFwdReferenceIdeal.τ).loc Cert.MergeFwdReferenceIdeal.main_arg3) = m' ((c.tc : Thread Cert.MergeFwdReferenceIdeal.nD Cert.MergeFwdReferenceIdeal.τ).loc Cert.MergeFwdReferenceIdeal.main_arg3)
          ∧ r.2.mem ((c.tc : Thread Cert.MergeFwdReferenceIdeal.nD Cert.MergeFwdReferenceIdeal.τ).loc Cert.MergeFwdReferenceIdeal.main_arg4) = m' ((c.tc : Thread Cert.MergeFwdReferenceIdeal.nD Cert.MergeFwdReferenceIdeal.τ).loc Cert.MergeFwdReferenceIdeal.main_arg4))

def preserves_LnFwd_LnFwdIdeal : Prop :=
  True

def algebraic_LnFwdIdeal_LnFwdReferenceIdeal [hLnFwdIdeal : Cert.LnFwdIdeal.Facts] [hLnFwdReferenceIdeal : Cert.LnFwdReferenceIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg)
    (m' : (ℓ : Loc Cert.LnFwdReferenceIdeal.nD Cert.LnFwdReferenceIdeal.τ Cert.LnFwdReferenceIdeal.sig) → Buf (Elt Ideal) ℓ) (g' : Dev Cert.LnFwdReferenceIdeal.nD → PrngReg), Pre_LnFwdIdeal m →
    (∀ c : Dev Cert.LnFwdIdeal.nD,
      m' ((c.tc : Thread Cert.LnFwdReferenceIdeal.nD Cert.LnFwdReferenceIdeal.τ).loc Cert.LnFwdReferenceIdeal.main_arg0) = m ((c.tc : Thread Cert.LnFwdIdeal.nD Cert.LnFwdIdeal.τ).loc Cert.LnFwdIdeal.main_arg0)
      ∧ m' ((c.tc : Thread Cert.LnFwdReferenceIdeal.nD Cert.LnFwdReferenceIdeal.τ).loc Cert.LnFwdReferenceIdeal.main_arg1) = m ((c.tc : Thread Cert.LnFwdIdeal.nD Cert.LnFwdIdeal.τ).loc Cert.LnFwdIdeal.main_arg1)
      ∧ m' ((c.tc : Thread Cert.LnFwdReferenceIdeal.nD Cert.LnFwdReferenceIdeal.τ).loc Cert.LnFwdReferenceIdeal.main_arg2) = m ((c.tc : Thread Cert.LnFwdIdeal.nD Cert.LnFwdIdeal.τ).loc Cert.LnFwdIdeal.main_arg2)
      ∧ m' ((c.tc : Thread Cert.LnFwdReferenceIdeal.nD Cert.LnFwdReferenceIdeal.τ).loc Cert.LnFwdReferenceIdeal.main_arg3) = m ((c.tc : Thread Cert.LnFwdIdeal.nD Cert.LnFwdIdeal.τ).loc Cert.LnFwdIdeal.main_arg3)) →
    ∃ (v0 : (c : Dev Cert.LnFwdIdeal.nD) → Buf (Elt Ideal) ((c.tc : Thread Cert.LnFwdIdeal.nD Cert.LnFwdIdeal.τ).loc Cert.LnFwdIdeal.main_v0_0)) (v1 : (c : Dev Cert.LnFwdIdeal.nD) → Buf (Elt Ideal) ((c.tc : Thread Cert.LnFwdIdeal.nD Cert.LnFwdIdeal.τ).loc Cert.LnFwdIdeal.main_v0_1)),
      θ_run (Cert.LnFwdIdeal.defs (F := Ideal)) (onTc (τ := Cert.LnFwdIdeal.τ) (Cert.LnFwdIdeal.main (F := Ideal))) ⟨m, fun _ => 0, g⟩ (fun r => ∀ c : Dev Cert.LnFwdIdeal.nD,
          r.2.mem ((c.tc : Thread Cert.LnFwdIdeal.nD Cert.LnFwdIdeal.τ).loc Cert.LnFwdIdeal.main_v0_0) = v0 c
          ∧ r.2.mem ((c.tc : Thread Cert.LnFwdIdeal.nD Cert.LnFwdIdeal.τ).loc Cert.LnFwdIdeal.main_v0_1) = v1 c
          ∧ r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
          ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
          ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2)
          ∧ r.2.mem ((c.tc : Thread Cert.LnFwdIdeal.nD Cert.LnFwdIdeal.τ).loc Cert.LnFwdIdeal.main_arg3) = m ((c.tc : Thread Cert.LnFwdIdeal.nD Cert.LnFwdIdeal.τ).loc Cert.LnFwdIdeal.main_arg3))
      ∧ θ_run (Cert.LnFwdReferenceIdeal.defs (F := Ideal)) (onTc (τ := Cert.LnFwdReferenceIdeal.τ) (Cert.LnFwdReferenceIdeal.main (F := Ideal))) ⟨m', fun _ => 0, g'⟩ (fun r => ∀ c : Dev Cert.LnFwdReferenceIdeal.nD,
          r.2.mem ((c.tc : Thread Cert.LnFwdReferenceIdeal.nD Cert.LnFwdReferenceIdeal.τ).loc Cert.LnFwdReferenceIdeal.main_v24) = v0 c
          ∧ r.2.mem ((c.tc : Thread Cert.LnFwdReferenceIdeal.nD Cert.LnFwdReferenceIdeal.τ).loc Cert.LnFwdReferenceIdeal.main_v25) = v1 c
          ∧ r.2.mem ((c.tc : Thread Cert.LnFwdReferenceIdeal.nD Cert.LnFwdReferenceIdeal.τ).loc Cert.LnFwdReferenceIdeal.main_arg0) = m' ((c.tc : Thread Cert.LnFwdReferenceIdeal.nD Cert.LnFwdReferenceIdeal.τ).loc Cert.LnFwdReferenceIdeal.main_arg0)
          ∧ r.2.mem ((c.tc : Thread Cert.LnFwdReferenceIdeal.nD Cert.LnFwdReferenceIdeal.τ).loc Cert.LnFwdReferenceIdeal.main_arg1) = m' ((c.tc : Thread Cert.LnFwdReferenceIdeal.nD Cert.LnFwdReferenceIdeal.τ).loc Cert.LnFwdReferenceIdeal.main_arg1)
          ∧ r.2.mem ((c.tc : Thread Cert.LnFwdReferenceIdeal.nD Cert.LnFwdReferenceIdeal.τ).loc Cert.LnFwdReferenceIdeal.main_arg2) = m' ((c.tc : Thread Cert.LnFwdReferenceIdeal.nD Cert.LnFwdReferenceIdeal.τ).loc Cert.LnFwdReferenceIdeal.main_arg2)
          ∧ r.2.mem ((c.tc : Thread Cert.LnFwdReferenceIdeal.nD Cert.LnFwdReferenceIdeal.τ).loc Cert.LnFwdReferenceIdeal.main_arg3) = m' ((c.tc : Thread Cert.LnFwdReferenceIdeal.nD Cert.LnFwdReferenceIdeal.τ).loc Cert.LnFwdReferenceIdeal.main_arg3))

def preserves_LossHead_LossHeadIdeal : Prop :=
  True

def algebraic_LossHeadIdeal_LossHeadReferenceIdeal [hLossHeadIdeal : Cert.LossHeadIdeal.Facts] [hLossHeadReferenceIdeal : Cert.LossHeadReferenceIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadReferenceIdeal.nD Cert.LossHeadReferenceIdeal.τ Cert.LossHeadReferenceIdeal.sig) → Buf (Elt Ideal) ℓ) (g' : Dev Cert.LossHeadReferenceIdeal.nD → PrngReg), Pre_LossHeadIdeal m →
    (∀ c : Dev Cert.LossHeadIdeal.nD,
      m' ((c.tc : Thread Cert.LossHeadReferenceIdeal.nD Cert.LossHeadReferenceIdeal.τ).loc Cert.LossHeadReferenceIdeal.main_arg0) = m ((c.tc : Thread Cert.LossHeadIdeal.nD Cert.LossHeadIdeal.τ).loc Cert.LossHeadIdeal.main_arg0)
      ∧ m' ((c.tc : Thread Cert.LossHeadReferenceIdeal.nD Cert.LossHeadReferenceIdeal.τ).loc Cert.LossHeadReferenceIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossHeadReferenceIdeal.defs (F := Ideal)) (onTc (τ := Cert.LossHeadReferenceIdeal.τ) (Cert.LossHeadReferenceIdeal.main (F := Ideal))) ⟨m', fun _ => 0, g'⟩ (fun r => ∀ c : Dev Cert.LossHeadReferenceIdeal.nD,
          r.2.mem ((c.tc : Thread Cert.LossHeadReferenceIdeal.nD Cert.LossHeadReferenceIdeal.τ).loc Cert.LossHeadReferenceIdeal.main_v14) = v0 c
          ∧ r.2.mem ((c.tc : Thread Cert.LossHeadReferenceIdeal.nD Cert.LossHeadReferenceIdeal.τ).loc Cert.LossHeadReferenceIdeal.main_v15) = v1 c
          ∧ r.2.mem ((c.tc : Thread Cert.LossHeadReferenceIdeal.nD Cert.LossHeadReferenceIdeal.τ).loc Cert.LossHeadReferenceIdeal.main_arg0) = m' ((c.tc : Thread Cert.LossHeadReferenceIdeal.nD Cert.LossHeadReferenceIdeal.τ).loc Cert.LossHeadReferenceIdeal.main_arg0)
          ∧ r.2.mem ((c.tc : Thread Cert.LossHeadReferenceIdeal.nD Cert.LossHeadReferenceIdeal.τ).loc Cert.LossHeadReferenceIdeal.main_arg1) = m' ((c.tc : Thread Cert.LossHeadReferenceIdeal.nD Cert.LossHeadReferenceIdeal.τ).loc Cert.LossHeadReferenceIdeal.main_arg1))

def preserves_Kv_KvIdeal : Prop :=
  True

def algebraic_KvIdeal_KvReferenceIdeal [hKvIdeal : Cert.KvIdeal.Facts] [hKvReferenceIdeal : Cert.KvReferenceIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvReferenceIdeal.nD Cert.KvReferenceIdeal.τ Cert.KvReferenceIdeal.sig) → Buf (Elt Ideal) ℓ) (g' : Dev Cert.KvReferenceIdeal.nD → PrngReg), Pre_KvIdeal m →
    (∀ c : Dev Cert.KvIdeal.nD,
      m' ((c.tc : Thread Cert.KvReferenceIdeal.nD Cert.KvReferenceIdeal.τ).loc Cert.KvReferenceIdeal.main_arg0) = m ((c.tc : Thread Cert.KvIdeal.nD Cert.KvIdeal.τ).loc Cert.KvIdeal.main_arg0)
      ∧ m' ((c.tc : Thread Cert.KvReferenceIdeal.nD Cert.KvReferenceIdeal.τ).loc Cert.KvReferenceIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v0)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v0) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvReferenceIdeal.defs (F := Ideal)) (onTc (τ := Cert.KvReferenceIdeal.τ) (Cert.KvReferenceIdeal.main (F := Ideal))) ⟨m', fun _ => 0, g'⟩ (fun r => ∀ c : Dev Cert.KvReferenceIdeal.nD,
          r.2.mem ((c.tc : Thread Cert.KvReferenceIdeal.nD Cert.KvReferenceIdeal.τ).loc Cert.KvReferenceIdeal.main_v1) = v0 c
          ∧ r.2.mem ((c.tc : Thread Cert.KvReferenceIdeal.nD Cert.KvReferenceIdeal.τ).loc Cert.KvReferenceIdeal.main_arg0) = m' ((c.tc : Thread Cert.KvReferenceIdeal.nD Cert.KvReferenceIdeal.τ).loc Cert.KvReferenceIdeal.main_arg0)
          ∧ r.2.mem ((c.tc : Thread Cert.KvReferenceIdeal.nD Cert.KvReferenceIdeal.τ).loc Cert.KvReferenceIdeal.main_arg1) = m' ((c.tc : Thread Cert.KvReferenceIdeal.nD Cert.KvReferenceIdeal.τ).loc Cert.KvReferenceIdeal.main_arg1))

def preserves_DwKv_DwKvIdeal : Prop :=
  True

def algebraic_DwKvIdeal_DwKvReferenceIdeal [hDwKvIdeal : Cert.DwKvIdeal.Facts] [hDwKvReferenceIdeal : Cert.DwKvReferenceIdeal.Facts] : Prop :=
  ∀ (m : (ℓ : Loc Cert.DwKvIdeal.nD Cert.DwKvIdeal.τ Cert.DwKvIdeal.sig) → Buf (Elt Ideal) ℓ) (g : Dev Cert.DwKvIdeal.nD → PrngReg)
    (m' : (ℓ : Loc Cert.DwKvReferenceIdeal.nD Cert.DwKvReferenceIdeal.τ Cert.DwKvReferenceIdeal.sig) → Buf (Elt Ideal) ℓ) (g' : Dev Cert.DwKvReferenceIdeal.nD → PrngReg), Pre_DwKvIdeal m →
    (∀ c : Dev Cert.DwKvIdeal.nD,
      m' ((c.tc : Thread Cert.DwKvReferenceIdeal.nD Cert.DwKvReferenceIdeal.τ).loc Cert.DwKvReferenceIdeal.main_arg0) = m ((c.tc : Thread Cert.DwKvIdeal.nD Cert.DwKvIdeal.τ).loc Cert.DwKvIdeal.main_arg0)
      ∧ m' ((c.tc : Thread Cert.DwKvReferenceIdeal.nD Cert.DwKvReferenceIdeal.τ).loc Cert.DwKvReferenceIdeal.main_arg1) = m ((c.tc : Thread Cert.DwKvIdeal.nD Cert.DwKvIdeal.τ).loc Cert.DwKvIdeal.main_arg1)) →
    ∃ (v0 : (c : Dev Cert.DwKvIdeal.nD) → Buf (Elt Ideal) ((c.tc : Thread Cert.DwKvIdeal.nD Cert.DwKvIdeal.τ).loc Cert.DwKvIdeal.main_v0)),
      θ_run (Cert.DwKvIdeal.defs (F := Ideal)) (onTc (τ := Cert.DwKvIdeal.τ) (Cert.DwKvIdeal.main (F := Ideal))) ⟨m, fun _ => 0, g⟩ (fun r => ∀ c : Dev Cert.DwKvIdeal.nD,
          r.2.mem ((c.tc : Thread Cert.DwKvIdeal.nD Cert.DwKvIdeal.τ).loc Cert.DwKvIdeal.main_v0) = v0 c
          ∧ r.2.mem ((c.tc : Thread Cert.DwKvIdeal.nD Cert.DwKvIdeal.τ).loc Cert.DwKvIdeal.main_arg0) = m ((c.tc : Thread Cert.DwKvIdeal.nD Cert.DwKvIdeal.τ).loc Cert.DwKvIdeal.main_arg0)
          ∧ r.2.mem ((c.tc : Thread Cert.DwKvIdeal.nD Cert.DwKvIdeal.τ).loc Cert.DwKvIdeal.main_arg1) = m ((c.tc : Thread Cert.DwKvIdeal.nD Cert.DwKvIdeal.τ).loc Cert.DwKvIdeal.main_arg1))
      ∧ θ_run (Cert.DwKvReferenceIdeal.defs (F := Ideal)) (onTc (τ := Cert.DwKvReferenceIdeal.τ) (Cert.DwKvReferenceIdeal.main (F := Ideal))) ⟨m', fun _ => 0, g'⟩ (fun r => ∀ c : Dev Cert.DwKvReferenceIdeal.nD,
          r.2.mem ((c.tc : Thread Cert.DwKvReferenceIdeal.nD Cert.DwKvReferenceIdeal.τ).loc Cert.DwKvReferenceIdeal.main_v5) = v0 c
          ∧ r.2.mem ((c.tc : Thread Cert.DwKvReferenceIdeal.nD Cert.DwKvReferenceIdeal.τ).loc Cert.DwKvReferenceIdeal.main_arg0) = m' ((c.tc : Thread Cert.DwKvReferenceIdeal.nD Cert.DwKvReferenceIdeal.τ).loc Cert.DwKvReferenceIdeal.main_arg0)
          ∧ r.2.mem ((c.tc : Thread Cert.DwKvReferenceIdeal.nD Cert.DwKvReferenceIdeal.τ).loc Cert.DwKvReferenceIdeal.main_arg1) = m' ((c.tc : Thread Cert.DwKvReferenceIdeal.nD Cert.DwKvReferenceIdeal.τ).loc Cert.DwKvReferenceIdeal.main_arg1))

def preserves_AdamIn_AdamInIdeal : Prop :=
  True

def algebraic_AdamInIdeal_AdamInReferenceIdeal [hAdamInIdeal : Cert.AdamInIdeal.Facts] [hAdamInReferenceIdeal : Cert.AdamInReferenceIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m' ((c.tc : Thread Cert.AdamInReferenceIdeal.nD Cert.AdamInReferenceIdeal.τ).loc Cert.AdamInReferenceIdeal.main_arg0) = m ((c.tc : Thread Cert.AdamInIdeal.nD Cert.AdamInIdeal.τ).loc Cert.AdamInIdeal.main_arg0)
      ∧ m' ((c.tc : Thread Cert.AdamInReferenceIdeal.nD Cert.AdamInReferenceIdeal.τ).loc Cert.AdamInReferenceIdeal.main_arg1) = m ((c.tc : Thread Cert.AdamInIdeal.nD Cert.AdamInIdeal.τ).loc Cert.AdamInIdeal.main_arg1)
      ∧ m' ((c.tc : Thread Cert.AdamInReferenceIdeal.nD Cert.AdamInReferenceIdeal.τ).loc Cert.AdamInReferenceIdeal.main_arg2) = m ((c.tc : Thread Cert.AdamInIdeal.nD Cert.AdamInIdeal.τ).loc Cert.AdamInIdeal.main_arg2)
      ∧ m' ((c.tc : Thread Cert.AdamInReferenceIdeal.nD Cert.AdamInReferenceIdeal.τ).loc Cert.AdamInReferenceIdeal.main_arg3) = m ((c.tc : Thread Cert.AdamInIdeal.nD Cert.AdamInIdeal.τ).loc Cert.AdamInIdeal.main_arg3)
      ∧ m' ((c.tc : Thread Cert.AdamInReferenceIdeal.nD Cert.AdamInReferenceIdeal.τ).loc Cert.AdamInReferenceIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v6) = v0 c
          ∧ r.2.mem ((c.tc : Thread Cert.AdamInReferenceIdeal.nD Cert.AdamInReferenceIdeal.τ).loc Cert.AdamInReferenceIdeal.main_v30) = v1 c
          ∧ r.2.mem ((c.tc : Thread Cert.AdamInReferenceIdeal.nD Cert.AdamInReferenceIdeal.τ).loc Cert.AdamInReferenceIdeal.main_v11) = v2 c
          ∧ r.2.mem ((c.tc : Thread Cert.AdamInReferenceIdeal.nD Cert.AdamInReferenceIdeal.τ).loc Cert.AdamInReferenceIdeal.main_v17) = v3 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3)
          ∧ r.2.mem ((c.tc : Thread Cert.AdamInReferenceIdeal.nD Cert.AdamInReferenceIdeal.τ).loc Cert.AdamInReferenceIdeal.main_arg4) = m' ((c.tc : Thread Cert.AdamInReferenceIdeal.nD Cert.AdamInReferenceIdeal.τ).loc Cert.AdamInReferenceIdeal.main_arg4))

def preserves_AdamKv_AdamKvIdeal : Prop :=
  True

def algebraic_AdamKvIdeal_AdamKvReferenceIdeal [hAdamKvIdeal : Cert.AdamKvIdeal.Facts] [hAdamKvReferenceIdeal : Cert.AdamKvReferenceIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.AdamKvReferenceIdeal.nD Cert.AdamKvReferenceIdeal.τ Cert.AdamKvReferenceIdeal.sig) → Buf (Elt Ideal) ℓ) (g' : Dev Cert.AdamKvReferenceIdeal.nD → PrngReg), Pre_AdamKvIdeal m →
    (∀ c : Dev Cert.AdamKvIdeal.nD,
      m' ((c.tc : Thread Cert.AdamKvReferenceIdeal.nD Cert.AdamKvReferenceIdeal.τ).loc Cert.AdamKvReferenceIdeal.main_arg0) = m ((c.tc : Thread Cert.AdamKvIdeal.nD Cert.AdamKvIdeal.τ).loc Cert.AdamKvIdeal.main_arg0)
      ∧ m' ((c.tc : Thread Cert.AdamKvReferenceIdeal.nD Cert.AdamKvReferenceIdeal.τ).loc Cert.AdamKvReferenceIdeal.main_arg1) = m ((c.tc : Thread Cert.AdamKvIdeal.nD Cert.AdamKvIdeal.τ).loc Cert.AdamKvIdeal.main_arg1)
      ∧ m' ((c.tc : Thread Cert.AdamKvReferenceIdeal.nD Cert.AdamKvReferenceIdeal.τ).loc Cert.AdamKvReferenceIdeal.main_arg2) = m ((c.tc : Thread Cert.AdamKvIdeal.nD Cert.AdamKvIdeal.τ).loc Cert.AdamKvIdeal.main_arg2)
      ∧ m' ((c.tc : Thread Cert.AdamKvReferenceIdeal.nD Cert.AdamKvReferenceIdeal.τ).loc Cert.AdamKvReferenceIdeal.main_arg3) = m ((c.tc : Thread Cert.AdamKvIdeal.nD Cert.AdamKvIdeal.τ).loc Cert.AdamKvIdeal.main_arg3)
      ∧ m' ((c.tc : Thread Cert.AdamKvReferenceIdeal.nD Cert.AdamKvReferenceIdeal.τ).loc Cert.AdamKvReferenceIdeal.main_arg4) = m ((c.tc : Thread Cert.AdamKvIdeal.nD Cert.AdamKvIdeal.τ).loc Cert.AdamKvIdeal.main_arg4)) →
    ∃ (v0 : (c : Dev Cert.AdamKvIdeal.nD) → Buf (Elt Ideal) ((c.tc : Thread Cert.AdamKvIdeal.nD Cert.AdamKvIdeal.τ).loc Cert.AdamKvIdeal.main_v0_0)) (v1 : (c : Dev Cert.AdamKvIdeal.nD) → Buf (Elt Ideal) ((c.tc : Thread Cert.AdamKvIdeal.nD Cert.AdamKvIdeal.τ).loc Cert.AdamKvIdeal.main_v0_1)) (v2 : (c : Dev Cert.AdamKvIdeal.nD) → Buf (Elt Ideal) ((c.tc : Thread Cert.AdamKvIdeal.nD Cert.AdamKvIdeal.τ).loc Cert.AdamKvIdeal.main_v0_2)) (v3 : (c : Dev Cert.AdamKvIdeal.nD) → Buf (Elt Ideal) ((c.tc : Thread Cert.AdamKvIdeal.nD Cert.AdamKvIdeal.τ).loc Cert.AdamKvIdeal.main_v0_3)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v0_0) = v0 c
          ∧ r.2.mem ((c.tc : Thread Cert.AdamKvIdeal.nD Cert.AdamKvIdeal.τ).loc Cert.AdamKvIdeal.main_v0_1) = v1 c
          ∧ r.2.mem ((c.tc : Thread Cert.AdamKvIdeal.nD Cert.AdamKvIdeal.τ).loc Cert.AdamKvIdeal.main_v0_2) = v2 c
          ∧ r.2.mem ((c.tc : Thread Cert.AdamKvIdeal.nD Cert.AdamKvIdeal.τ).loc Cert.AdamKvIdeal.main_v0_3) = v3 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3)
          ∧ r.2.mem ((c.tc : Thread Cert.AdamKvIdeal.nD Cert.AdamKvIdeal.τ).loc Cert.AdamKvIdeal.main_arg4) = m ((c.tc : Thread Cert.AdamKvIdeal.nD Cert.AdamKvIdeal.τ).loc Cert.AdamKvIdeal.main_arg4))
      ∧ θ_run (Cert.AdamKvReferenceIdeal.defs (F := Ideal)) (onTc (τ := Cert.AdamKvReferenceIdeal.τ) (Cert.AdamKvReferenceIdeal.main (F := Ideal))) ⟨m', fun _ => 0, g'⟩ (fun r => ∀ c : Dev Cert.AdamKvReferenceIdeal.nD,
          r.2.mem ((c.tc : Thread Cert.AdamKvReferenceIdeal.nD Cert.AdamKvReferenceIdeal.τ).loc Cert.AdamKvReferenceIdeal.main_v6) = v0 c
          ∧ r.2.mem ((c.tc : Thread Cert.AdamKvReferenceIdeal.nD Cert.AdamKvReferenceIdeal.τ).loc Cert.AdamKvReferenceIdeal.main_v30) = v1 c
          ∧ r.2.mem ((c.tc : Thread Cert.AdamKvReferenceIdeal.nD Cert.AdamKvReferenceIdeal.τ).loc Cert.AdamKvReferenceIdeal.main_v11) = v2 c
          ∧ r.2.mem ((c.tc : Thread Cert.AdamKvReferenceIdeal.nD Cert.AdamKvReferenceIdeal.τ).loc Cert.AdamKvReferenceIdeal.main_v17) = v3 c
          ∧ r.2.mem ((c.tc : Thread Cert.AdamKvReferenceIdeal.nD Cert.AdamKvReferenceIdeal.τ).loc Cert.AdamKvReferenceIdeal.main_arg0) = m' ((c.tc : Thread Cert.AdamKvReferenceIdeal.nD Cert.AdamKvReferenceIdeal.τ).loc Cert.AdamKvReferenceIdeal.main_arg0)
          ∧ r.2.mem ((c.tc : Thread Cert.AdamKvReferenceIdeal.nD Cert.AdamKvReferenceIdeal.τ).loc Cert.AdamKvReferenceIdeal.main_arg1) = m' ((c.tc : Thread Cert.AdamKvReferenceIdeal.nD Cert.AdamKvReferenceIdeal.τ).loc Cert.AdamKvReferenceIdeal.main_arg1)
          ∧ r.2.mem ((c.tc : Thread Cert.AdamKvReferenceIdeal.nD Cert.AdamKvReferenceIdeal.τ).loc Cert.AdamKvReferenceIdeal.main_arg2) = m' ((c.tc : Thread Cert.AdamKvReferenceIdeal.nD Cert.AdamKvReferenceIdeal.τ).loc Cert.AdamKvReferenceIdeal.main_arg2)
          ∧ r.2.mem ((c.tc : Thread Cert.AdamKvReferenceIdeal.nD Cert.AdamKvReferenceIdeal.τ).loc Cert.AdamKvReferenceIdeal.main_arg3) = m' ((c.tc : Thread Cert.AdamKvReferenceIdeal.nD Cert.AdamKvReferenceIdeal.τ).loc Cert.AdamKvReferenceIdeal.main_arg3)
          ∧ r.2.mem ((c.tc : Thread Cert.AdamKvReferenceIdeal.nD Cert.AdamKvReferenceIdeal.τ).loc Cert.AdamKvReferenceIdeal.main_arg4) = m' ((c.tc : Thread Cert.AdamKvReferenceIdeal.nD Cert.AdamKvReferenceIdeal.τ).loc Cert.AdamKvReferenceIdeal.main_arg4))

def preserves_AdamBr_AdamBrIdeal : Prop :=
  True

def algebraic_AdamBrIdeal_AdamBrReferenceIdeal [hAdamBrIdeal : Cert.AdamBrIdeal.Facts] [hAdamBrReferenceIdeal : Cert.AdamBrReferenceIdeal.Facts] : Prop :=
  ∀ (m : (ℓ : Loc Cert.AdamBrIdeal.nD Cert.AdamBrIdeal.τ Cert.AdamBrIdeal.sig) → Buf (Elt Ideal) ℓ) (g : Dev Cert.AdamBrIdeal.nD → PrngReg)
    (m' : (ℓ : Loc Cert.AdamBrReferenceIdeal.nD Cert.AdamBrReferenceIdeal.τ Cert.AdamBrReferenceIdeal.sig) → Buf (Elt Ideal) ℓ) (g' : Dev Cert.AdamBrReferenceIdeal.nD → PrngReg), Pre_AdamBrIdeal m →
    (∀ c : Dev Cert.AdamBrIdeal.nD,
      m' ((c.tc : Thread Cert.AdamBrReferenceIdeal.nD Cert.AdamBrReferenceIdeal.τ).loc Cert.AdamBrReferenceIdeal.main_arg0) = m ((c.tc : Thread Cert.AdamBrIdeal.nD Cert.AdamBrIdeal.τ).loc Cert.AdamBrIdeal.main_arg0)
      ∧ m' ((c.tc : Thread Cert.AdamBrReferenceIdeal.nD Cert.AdamBrReferenceIdeal.τ).loc Cert.AdamBrReferenceIdeal.main_arg1) = m ((c.tc : Thread Cert.AdamBrIdeal.nD Cert.AdamBrIdeal.τ).loc Cert.AdamBrIdeal.main_arg1)
      ∧ m' ((c.tc : Thread Cert.AdamBrReferenceIdeal.nD Cert.AdamBrReferenceIdeal.τ).loc Cert.AdamBrReferenceIdeal.main_arg2) = m ((c.tc : Thread Cert.AdamBrIdeal.nD Cert.AdamBrIdeal.τ).loc Cert.AdamBrIdeal.main_arg2)
      ∧ m' ((c.tc : Thread Cert.AdamBrReferenceIdeal.nD Cert.AdamBrReferenceIdeal.τ).loc Cert.AdamBrReferenceIdeal.main_arg3) = m ((c.tc : Thread Cert.AdamBrIdeal.nD Cert.AdamBrIdeal.τ).loc Cert.AdamBrIdeal.main_arg3)
      ∧ m' ((c.tc : Thread Cert.AdamBrReferenceIdeal.nD Cert.AdamBrReferenceIdeal.τ).loc Cert.AdamBrReferenceIdeal.main_arg4) = m ((c.tc : Thread Cert.AdamBrIdeal.nD Cert.AdamBrIdeal.τ).loc Cert.AdamBrIdeal.main_arg4)) →
    ∃ (v0 : (c : Dev Cert.AdamBrIdeal.nD) → Buf (Elt Ideal) ((c.tc : Thread Cert.AdamBrIdeal.nD Cert.AdamBrIdeal.τ).loc Cert.AdamBrIdeal.main_v0_0)) (v1 : (c : Dev Cert.AdamBrIdeal.nD) → Buf (Elt Ideal) ((c.tc : Thread Cert.AdamBrIdeal.nD Cert.AdamBrIdeal.τ).loc Cert.AdamBrIdeal.main_v0_1)) (v2 : (c : Dev Cert.AdamBrIdeal.nD) → Buf (Elt Ideal) ((c.tc : Thread Cert.AdamBrIdeal.nD Cert.AdamBrIdeal.τ).loc Cert.AdamBrIdeal.main_v0_2)) (v3 : (c : Dev Cert.AdamBrIdeal.nD) → Buf (Elt Ideal) ((c.tc : Thread Cert.AdamBrIdeal.nD Cert.AdamBrIdeal.τ).loc Cert.AdamBrIdeal.main_v0_3)),
      θ_run (Cert.AdamBrIdeal.defs (F := Ideal)) (onTc (τ := Cert.AdamBrIdeal.τ) (Cert.AdamBrIdeal.main (F := Ideal))) ⟨m, fun _ => 0, g⟩ (fun r => ∀ c : Dev Cert.AdamBrIdeal.nD,
          r.2.mem ((c.tc : Thread Cert.AdamBrIdeal.nD Cert.AdamBrIdeal.τ).loc Cert.AdamBrIdeal.main_v0_0) = v0 c
          ∧ r.2.mem ((c.tc : Thread Cert.AdamBrIdeal.nD Cert.AdamBrIdeal.τ).loc Cert.AdamBrIdeal.main_v0_1) = v1 c
          ∧ r.2.mem ((c.tc : Thread Cert.AdamBrIdeal.nD Cert.AdamBrIdeal.τ).loc Cert.AdamBrIdeal.main_v0_2) = v2 c
          ∧ r.2.mem ((c.tc : Thread Cert.AdamBrIdeal.nD Cert.AdamBrIdeal.τ).loc Cert.AdamBrIdeal.main_v0_3) = v3 c
          ∧ r.2.mem ((c.tc : Thread Cert.AdamBrIdeal.nD Cert.AdamBrIdeal.τ).loc Cert.AdamBrIdeal.main_arg0) = m ((c.tc : Thread Cert.AdamBrIdeal.nD Cert.AdamBrIdeal.τ).loc Cert.AdamBrIdeal.main_arg0)
          ∧ r.2.mem ((c.tc : Thread Cert.AdamBrIdeal.nD Cert.AdamBrIdeal.τ).loc Cert.AdamBrIdeal.main_arg1) = m ((c.tc : Thread Cert.AdamBrIdeal.nD Cert.AdamBrIdeal.τ).loc Cert.AdamBrIdeal.main_arg1)
          ∧ r.2.mem ((c.tc : Thread Cert.AdamBrIdeal.nD Cert.AdamBrIdeal.τ).loc Cert.AdamBrIdeal.main_arg2) = m ((c.tc : Thread Cert.AdamBrIdeal.nD Cert.AdamBrIdeal.τ).loc Cert.AdamBrIdeal.main_arg2)
          ∧ r.2.mem ((c.tc : Thread Cert.AdamBrIdeal.nD Cert.AdamBrIdeal.τ).loc Cert.AdamBrIdeal.main_arg3) = m ((c.tc : Thread Cert.AdamBrIdeal.nD Cert.AdamBrIdeal.τ).loc Cert.AdamBrIdeal.main_arg3)
          ∧ r.2.mem ((c.tc : Thread Cert.AdamBrIdeal.nD Cert.AdamBrIdeal.τ).loc Cert.AdamBrIdeal.main_arg4) = m ((c.tc : Thread Cert.AdamBrIdeal.nD Cert.AdamBrIdeal.τ).loc Cert.AdamBrIdeal.main_arg4))
      ∧ θ_run (Cert.AdamBrReferenceIdeal.defs (F := Ideal)) (onTc (τ := Cert.AdamBrReferenceIdeal.τ) (Cert.AdamBrReferenceIdeal.main (F := Ideal))) ⟨m', fun _ => 0, g'⟩ (fun r => ∀ c : Dev Cert.AdamBrReferenceIdeal.nD,
          r.2.mem ((c.tc : Thread Cert.AdamBrReferenceIdeal.nD Cert.AdamBrReferenceIdeal.τ).loc Cert.AdamBrReferenceIdeal.main_v6) = v0 c
          ∧ r.2.mem ((c.tc : Thread Cert.AdamBrReferenceIdeal.nD Cert.AdamBrReferenceIdeal.τ).loc Cert.AdamBrReferenceIdeal.main_v30) = v1 c
          ∧ r.2.mem ((c.tc : Thread Cert.AdamBrReferenceIdeal.nD Cert.AdamBrReferenceIdeal.τ).loc Cert.AdamBrReferenceIdeal.main_v11) = v2 c
          ∧ r.2.mem ((c.tc : Thread Cert.AdamBrReferenceIdeal.nD Cert.AdamBrReferenceIdeal.τ).loc Cert.AdamBrReferenceIdeal.main_v17) = v3 c
          ∧ r.2.mem ((c.tc : Thread Cert.AdamBrReferenceIdeal.nD Cert.AdamBrReferenceIdeal.τ).loc Cert.AdamBrReferenceIdeal.main_arg0) = m' ((c.tc : Thread Cert.AdamBrReferenceIdeal.nD Cert.AdamBrReferenceIdeal.τ).loc Cert.AdamBrReferenceIdeal.main_arg0)
          ∧ r.2.mem ((c.tc : Thread Cert.AdamBrReferenceIdeal.nD Cert.AdamBrReferenceIdeal.τ).loc Cert.AdamBrReferenceIdeal.main_arg1) = m' ((c.tc : Thread Cert.AdamBrReferenceIdeal.nD Cert.AdamBrReferenceIdeal.τ).loc Cert.AdamBrReferenceIdeal.main_arg1)
          ∧ r.2.mem ((c.tc : Thread Cert.AdamBrReferenceIdeal.nD Cert.AdamBrReferenceIdeal.τ).loc Cert.AdamBrReferenceIdeal.main_arg2) = m' ((c.tc : Thread Cert.AdamBrReferenceIdeal.nD Cert.AdamBrReferenceIdeal.τ).loc Cert.AdamBrReferenceIdeal.main_arg2)
          ∧ r.2.mem ((c.tc : Thread Cert.AdamBrReferenceIdeal.nD Cert.AdamBrReferenceIdeal.τ).loc Cert.AdamBrReferenceIdeal.main_arg3) = m' ((c.tc : Thread Cert.AdamBrReferenceIdeal.nD Cert.AdamBrReferenceIdeal.τ).loc Cert.AdamBrReferenceIdeal.main_arg3)
          ∧ r.2.mem ((c.tc : Thread Cert.AdamBrReferenceIdeal.nD Cert.AdamBrReferenceIdeal.τ).loc Cert.AdamBrReferenceIdeal.main_arg4) = m' ((c.tc : Thread Cert.AdamBrReferenceIdeal.nD Cert.AdamBrReferenceIdeal.τ).loc Cert.AdamBrReferenceIdeal.main_arg4))

def preserves_AdamBrSsd_AdamBrSsdIdeal : Prop :=
  True

def algebraic_AdamBrSsdIdeal_AdamBrSsdReferenceIdeal [hAdamBrSsdIdeal : Cert.AdamBrSsdIdeal.Facts] [hAdamBrSsdReferenceIdeal : Cert.AdamBrSsdReferenceIdeal.Facts] : Prop :=
  ∀ (m : (ℓ : Loc Cert.AdamBrSsdIdeal.nD Cert.AdamBrSsdIdeal.τ Cert.AdamBrSsdIdeal.sig) → Buf (Elt Ideal) ℓ) (g : Dev Cert.AdamBrSsdIdeal.nD → PrngReg)
    (m' : (ℓ : Loc Cert.AdamBrSsdReferenceIdeal.nD Cert.AdamBrSsdReferenceIdeal.τ Cert.AdamBrSsdReferenceIdeal.sig) → Buf (Elt Ideal) ℓ) (g' : Dev Cert.AdamBrSsdReferenceIdeal.nD → PrngReg), Pre_AdamBrSsdIdeal m →
    (∀ c : Dev Cert.AdamBrSsdIdeal.nD,
      m' ((c.tc : Thread Cert.AdamBrSsdReferenceIdeal.nD Cert.AdamBrSsdReferenceIdeal.τ).loc Cert.AdamBrSsdReferenceIdeal.main_arg0) = m ((c.tc : Thread Cert.AdamBrSsdIdeal.nD Cert.AdamBrSsdIdeal.τ).loc Cert.AdamBrSsdIdeal.main_arg0)
      ∧ m' ((c.tc : Thread Cert.AdamBrSsdReferenceIdeal.nD Cert.AdamBrSsdReferenceIdeal.τ).loc Cert.AdamBrSsdReferenceIdeal.main_arg1) = m ((c.tc : Thread Cert.AdamBrSsdIdeal.nD Cert.AdamBrSsdIdeal.τ).loc Cert.AdamBrSsdIdeal.main_arg1)
      ∧ m' ((c.tc : Thread Cert.AdamBrSsdReferenceIdeal.nD Cert.AdamBrSsdReferenceIdeal.τ).loc Cert.AdamBrSsdReferenceIdeal.main_arg2) = m ((c.tc : Thread Cert.AdamBrSsdIdeal.nD Cert.AdamBrSsdIdeal.τ).loc Cert.AdamBrSsdIdeal.main_arg2)
      ∧ m' ((c.tc : Thread Cert.AdamBrSsdReferenceIdeal.nD Cert.AdamBrSsdReferenceIdeal.τ).loc Cert.AdamBrSsdReferenceIdeal.main_arg3) = m ((c.tc : Thread Cert.AdamBrSsdIdeal.nD Cert.AdamBrSsdIdeal.τ).loc Cert.AdamBrSsdIdeal.main_arg3)
      ∧ m' ((c.tc : Thread Cert.AdamBrSsdReferenceIdeal.nD Cert.AdamBrSsdReferenceIdeal.τ).loc Cert.AdamBrSsdReferenceIdeal.main_arg4) = m ((c.tc : Thread Cert.AdamBrSsdIdeal.nD Cert.AdamBrSsdIdeal.τ).loc Cert.AdamBrSsdIdeal.main_arg4)) →
    ∃ (v0 : (c : Dev Cert.AdamBrSsdIdeal.nD) → Buf (Elt Ideal) ((c.tc : Thread Cert.AdamBrSsdIdeal.nD Cert.AdamBrSsdIdeal.τ).loc Cert.AdamBrSsdIdeal.main_v0_0)) (v1 : (c : Dev Cert.AdamBrSsdIdeal.nD) → Buf (Elt Ideal) ((c.tc : Thread Cert.AdamBrSsdIdeal.nD Cert.AdamBrSsdIdeal.τ).loc Cert.AdamBrSsdIdeal.main_v0_1)) (v2 : (c : Dev Cert.AdamBrSsdIdeal.nD) → Buf (Elt Ideal) ((c.tc : Thread Cert.AdamBrSsdIdeal.nD Cert.AdamBrSsdIdeal.τ).loc Cert.AdamBrSsdIdeal.main_v0_2)) (v3 : (c : Dev Cert.AdamBrSsdIdeal.nD) → Buf (Elt Ideal) ((c.tc : Thread Cert.AdamBrSsdIdeal.nD Cert.AdamBrSsdIdeal.τ).loc Cert.AdamBrSsdIdeal.main_v0_3)),
      θ_run (Cert.AdamBrSsdIdeal.defs (F := Ideal)) (onTc (τ := Cert.AdamBrSsdIdeal.τ) (Cert.AdamBrSsdIdeal.main (F := Ideal))) ⟨m, fun _ => 0, g⟩ (fun r => ∀ c : Dev Cert.AdamBrSsdIdeal.nD,
          r.2.mem ((c.tc : Thread Cert.AdamBrSsdIdeal.nD Cert.AdamBrSsdIdeal.τ).loc Cert.AdamBrSsdIdeal.main_v0_0) = v0 c
          ∧ r.2.mem ((c.tc : Thread Cert.AdamBrSsdIdeal.nD Cert.AdamBrSsdIdeal.τ).loc Cert.AdamBrSsdIdeal.main_v0_1) = v1 c
          ∧ r.2.mem ((c.tc : Thread Cert.AdamBrSsdIdeal.nD Cert.AdamBrSsdIdeal.τ).loc Cert.AdamBrSsdIdeal.main_v0_2) = v2 c
          ∧ r.2.mem ((c.tc : Thread Cert.AdamBrSsdIdeal.nD Cert.AdamBrSsdIdeal.τ).loc Cert.AdamBrSsdIdeal.main_v0_3) = v3 c
          ∧ r.2.mem ((c.tc : Thread Cert.AdamBrSsdIdeal.nD Cert.AdamBrSsdIdeal.τ).loc Cert.AdamBrSsdIdeal.main_arg0) = m ((c.tc : Thread Cert.AdamBrSsdIdeal.nD Cert.AdamBrSsdIdeal.τ).loc Cert.AdamBrSsdIdeal.main_arg0)
          ∧ r.2.mem ((c.tc : Thread Cert.AdamBrSsdIdeal.nD Cert.AdamBrSsdIdeal.τ).loc Cert.AdamBrSsdIdeal.main_arg1) = m ((c.tc : Thread Cert.AdamBrSsdIdeal.nD Cert.AdamBrSsdIdeal.τ).loc Cert.AdamBrSsdIdeal.main_arg1)
          ∧ r.2.mem ((c.tc : Thread Cert.AdamBrSsdIdeal.nD Cert.AdamBrSsdIdeal.τ).loc Cert.AdamBrSsdIdeal.main_arg2) = m ((c.tc : Thread Cert.AdamBrSsdIdeal.nD Cert.AdamBrSsdIdeal.τ).loc Cert.AdamBrSsdIdeal.main_arg2)
          ∧ r.2.mem ((c.tc : Thread Cert.AdamBrSsdIdeal.nD Cert.AdamBrSsdIdeal.τ).loc Cert.AdamBrSsdIdeal.main_arg3) = m ((c.tc : Thread Cert.AdamBrSsdIdeal.nD Cert.AdamBrSsdIdeal.τ).loc Cert.AdamBrSsdIdeal.main_arg3)
          ∧ r.2.mem ((c.tc : Thread Cert.AdamBrSsdIdeal.nD Cert.AdamBrSsdIdeal.τ).loc Cert.AdamBrSsdIdeal.main_arg4) = m ((c.tc : Thread Cert.AdamBrSsdIdeal.nD Cert.AdamBrSsdIdeal.τ).loc Cert.AdamBrSsdIdeal.main_arg4))
      ∧ θ_run (Cert.AdamBrSsdReferenceIdeal.defs (F := Ideal)) (onTc (τ := Cert.AdamBrSsdReferenceIdeal.τ) (Cert.AdamBrSsdReferenceIdeal.main (F := Ideal))) ⟨m', fun _ => 0, g'⟩ (fun r => ∀ c : Dev Cert.AdamBrSsdReferenceIdeal.nD,
          r.2.mem ((c.tc : Thread Cert.AdamBrSsdReferenceIdeal.nD Cert.AdamBrSsdReferenceIdeal.τ).loc Cert.AdamBrSsdReferenceIdeal.main_v6) = v0 c
          ∧ r.2.mem ((c.tc : Thread Cert.AdamBrSsdReferenceIdeal.nD Cert.AdamBrSsdReferenceIdeal.τ).loc Cert.AdamBrSsdReferenceIdeal.main_v30) = v1 c
          ∧ r.2.mem ((c.tc : Thread Cert.AdamBrSsdReferenceIdeal.nD Cert.AdamBrSsdReferenceIdeal.τ).loc Cert.AdamBrSsdReferenceIdeal.main_v11) = v2 c
          ∧ r.2.mem ((c.tc : Thread Cert.AdamBrSsdReferenceIdeal.nD Cert.AdamBrSsdReferenceIdeal.τ).loc Cert.AdamBrSsdReferenceIdeal.main_v17) = v3 c
          ∧ r.2.mem ((c.tc : Thread Cert.AdamBrSsdReferenceIdeal.nD Cert.AdamBrSsdReferenceIdeal.τ).loc Cert.AdamBrSsdReferenceIdeal.main_arg0) = m' ((c.tc : Thread Cert.AdamBrSsdReferenceIdeal.nD Cert.AdamBrSsdReferenceIdeal.τ).loc Cert.AdamBrSsdReferenceIdeal.main_arg0)
          ∧ r.2.mem ((c.tc : Thread Cert.AdamBrSsdReferenceIdeal.nD Cert.AdamBrSsdReferenceIdeal.τ).loc Cert.AdamBrSsdReferenceIdeal.main_arg1) = m' ((c.tc : Thread Cert.AdamBrSsdReferenceIdeal.nD Cert.AdamBrSsdReferenceIdeal.τ).loc Cert.AdamBrSsdReferenceIdeal.main_arg1)
          ∧ r.2.mem ((c.tc : Thread Cert.AdamBrSsdReferenceIdeal.nD Cert.AdamBrSsdReferenceIdeal.τ).loc Cert.AdamBrSsdReferenceIdeal.main_arg2) = m' ((c.tc : Thread Cert.AdamBrSsdReferenceIdeal.nD Cert.AdamBrSsdReferenceIdeal.τ).loc Cert.AdamBrSsdReferenceIdeal.main_arg2)
          ∧ r.2.mem ((c.tc : Thread Cert.AdamBrSsdReferenceIdeal.nD Cert.AdamBrSsdReferenceIdeal.τ).loc Cert.AdamBrSsdReferenceIdeal.main_arg3) = m' ((c.tc : Thread Cert.AdamBrSsdReferenceIdeal.nD Cert.AdamBrSsdReferenceIdeal.τ).loc Cert.AdamBrSsdReferenceIdeal.main_arg3)
          ∧ r.2.mem ((c.tc : Thread Cert.AdamBrSsdReferenceIdeal.nD Cert.AdamBrSsdReferenceIdeal.τ).loc Cert.AdamBrSsdReferenceIdeal.main_arg4) = m' ((c.tc : Thread Cert.AdamBrSsdReferenceIdeal.nD Cert.AdamBrSsdReferenceIdeal.τ).loc Cert.AdamBrSsdReferenceIdeal.main_arg4))

def preserves_AdamFfnIn_AdamFfnInIdeal : Prop :=
  True

def algebraic_AdamFfnInIdeal_AdamFfnInReferenceIdeal [hAdamFfnInIdeal : Cert.AdamFfnInIdeal.Facts] [hAdamFfnInReferenceIdeal : Cert.AdamFfnInReferenceIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg)
    (m' : (ℓ : Loc Cert.AdamFfnInReferenceIdeal.nD Cert.AdamFfnInReferenceIdeal.τ Cert.AdamFfnInReferenceIdeal.sig) → Buf (Elt Ideal) ℓ) (g' : Dev Cert.AdamFfnInReferenceIdeal.nD → PrngReg), Pre_AdamFfnInIdeal m →
    (∀ c : Dev Cert.AdamFfnInIdeal.nD,
      m' ((c.tc : Thread Cert.AdamFfnInReferenceIdeal.nD Cert.AdamFfnInReferenceIdeal.τ).loc Cert.AdamFfnInReferenceIdeal.main_arg0) = m ((c.tc : Thread Cert.AdamFfnInIdeal.nD Cert.AdamFfnInIdeal.τ).loc Cert.AdamFfnInIdeal.main_arg0)
      ∧ m' ((c.tc : Thread Cert.AdamFfnInReferenceIdeal.nD Cert.AdamFfnInReferenceIdeal.τ).loc Cert.AdamFfnInReferenceIdeal.main_arg1) = m ((c.tc : Thread Cert.AdamFfnInIdeal.nD Cert.AdamFfnInIdeal.τ).loc Cert.AdamFfnInIdeal.main_arg1)
      ∧ m' ((c.tc : Thread Cert.AdamFfnInReferenceIdeal.nD Cert.AdamFfnInReferenceIdeal.τ).loc Cert.AdamFfnInReferenceIdeal.main_arg2) = m ((c.tc : Thread Cert.AdamFfnInIdeal.nD Cert.AdamFfnInIdeal.τ).loc Cert.AdamFfnInIdeal.main_arg2)
      ∧ m' ((c.tc : Thread Cert.AdamFfnInReferenceIdeal.nD Cert.AdamFfnInReferenceIdeal.τ).loc Cert.AdamFfnInReferenceIdeal.main_arg3) = m ((c.tc : Thread Cert.AdamFfnInIdeal.nD Cert.AdamFfnInIdeal.τ).loc Cert.AdamFfnInIdeal.main_arg3)
      ∧ m' ((c.tc : Thread Cert.AdamFfnInReferenceIdeal.nD Cert.AdamFfnInReferenceIdeal.τ).loc Cert.AdamFfnInReferenceIdeal.main_arg4) = m ((c.tc : Thread Cert.AdamFfnInIdeal.nD Cert.AdamFfnInIdeal.τ).loc Cert.AdamFfnInIdeal.main_arg4)) →
    ∃ (v0 : (c : Dev Cert.AdamFfnInIdeal.nD) → Buf (Elt Ideal) ((c.tc : Thread Cert.AdamFfnInIdeal.nD Cert.AdamFfnInIdeal.τ).loc Cert.AdamFfnInIdeal.main_v0_0)) (v1 : (c : Dev Cert.AdamFfnInIdeal.nD) → Buf (Elt Ideal) ((c.tc : Thread Cert.AdamFfnInIdeal.nD Cert.AdamFfnInIdeal.τ).loc Cert.AdamFfnInIdeal.main_v0_1)) (v2 : (c : Dev Cert.AdamFfnInIdeal.nD) → Buf (Elt Ideal) ((c.tc : Thread Cert.AdamFfnInIdeal.nD Cert.AdamFfnInIdeal.τ).loc Cert.AdamFfnInIdeal.main_v0_2)) (v3 : (c : Dev Cert.AdamFfnInIdeal.nD) → Buf (Elt Ideal) ((c.tc : Thread Cert.AdamFfnInIdeal.nD Cert.AdamFfnInIdeal.τ).loc Cert.AdamFfnInIdeal.main_v0_3)),
      θ_run (Cert.AdamFfnInIdeal.defs (F := Ideal)) (onTc (τ := Cert.AdamFfnInIdeal.τ) (Cert.AdamFfnInIdeal.main (F := Ideal))) ⟨m, fun _ => 0, g⟩ (fun r => ∀ c : Dev Cert.AdamFfnInIdeal.nD,
          r.2.mem ((c.tc : Thread Cert.AdamFfnInIdeal.nD Cert.AdamFfnInIdeal.τ).loc Cert.AdamFfnInIdeal.main_v0_0) = v0 c
          ∧ r.2.mem ((c.tc : Thread Cert.AdamFfnInIdeal.nD Cert.AdamFfnInIdeal.τ).loc Cert.AdamFfnInIdeal.main_v0_1) = v1 c
          ∧ r.2.mem ((c.tc : Thread Cert.AdamFfnInIdeal.nD Cert.AdamFfnInIdeal.τ).loc Cert.AdamFfnInIdeal.main_v0_2) = v2 c
          ∧ r.2.mem ((c.tc : Thread Cert.AdamFfnInIdeal.nD Cert.AdamFfnInIdeal.τ).loc Cert.AdamFfnInIdeal.main_v0_3) = v3 c
          ∧ r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
          ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
          ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
          ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3)
          ∧ r.2.mem ((c.tc : Thread Cert.AdamFfnInIdeal.nD Cert.AdamFfnInIdeal.τ).loc Cert.AdamFfnInIdeal.main_arg4) = m ((c.tc : Thread Cert.AdamFfnInIdeal.nD Cert.AdamFfnInIdeal.τ).loc Cert.AdamFfnInIdeal.main_arg4))
      ∧ θ_run (Cert.AdamFfnInReferenceIdeal.defs (F := Ideal)) (onTc (τ := Cert.AdamFfnInReferenceIdeal.τ) (Cert.AdamFfnInReferenceIdeal.main (F := Ideal))) ⟨m', fun _ => 0, g'⟩ (fun r => ∀ c : Dev Cert.AdamFfnInReferenceIdeal.nD,
          r.2.mem ((c.tc : Thread Cert.AdamFfnInReferenceIdeal.nD Cert.AdamFfnInReferenceIdeal.τ).loc Cert.AdamFfnInReferenceIdeal.main_v6) = v0 c
          ∧ r.2.mem ((c.tc : Thread Cert.AdamFfnInReferenceIdeal.nD Cert.AdamFfnInReferenceIdeal.τ).loc Cert.AdamFfnInReferenceIdeal.main_v30) = v1 c
          ∧ r.2.mem ((c.tc : Thread Cert.AdamFfnInReferenceIdeal.nD Cert.AdamFfnInReferenceIdeal.τ).loc Cert.AdamFfnInReferenceIdeal.main_v11) = v2 c
          ∧ r.2.mem ((c.tc : Thread Cert.AdamFfnInReferenceIdeal.nD Cert.AdamFfnInReferenceIdeal.τ).loc Cert.AdamFfnInReferenceIdeal.main_v17) = v3 c
          ∧ r.2.mem ((c.tc : Thread Cert.AdamFfnInReferenceIdeal.nD Cert.AdamFfnInReferenceIdeal.τ).loc Cert.AdamFfnInReferenceIdeal.main_arg0) = m' ((c.tc : Thread Cert.AdamFfnInReferenceIdeal.nD Cert.AdamFfnInReferenceIdeal.τ).loc Cert.AdamFfnInReferenceIdeal.main_arg0)
          ∧ r.2.mem ((c.tc : Thread Cert.AdamFfnInReferenceIdeal.nD Cert.AdamFfnInReferenceIdeal.τ).loc Cert.AdamFfnInReferenceIdeal.main_arg1) = m' ((c.tc : Thread Cert.AdamFfnInReferenceIdeal.nD Cert.AdamFfnInReferenceIdeal.τ).loc Cert.AdamFfnInReferenceIdeal.main_arg1)
          ∧ r.2.mem ((c.tc : Thread Cert.AdamFfnInReferenceIdeal.nD Cert.AdamFfnInReferenceIdeal.τ).loc Cert.AdamFfnInReferenceIdeal.main_arg2) = m' ((c.tc : Thread Cert.AdamFfnInReferenceIdeal.nD Cert.AdamFfnInReferenceIdeal.τ).loc Cert.AdamFfnInReferenceIdeal.main_arg2)
          ∧ r.2.mem ((c.tc : Thread Cert.AdamFfnInReferenceIdeal.nD Cert.AdamFfnInReferenceIdeal.τ).loc Cert.AdamFfnInReferenceIdeal.main_arg3) = m' ((c.tc : Thread Cert.AdamFfnInReferenceIdeal.nD Cert.AdamFfnInReferenceIdeal.τ).loc Cert.AdamFfnInReferenceIdeal.main_arg3)
          ∧ r.2.mem ((c.tc : Thread Cert.AdamFfnInReferenceIdeal.nD Cert.AdamFfnInReferenceIdeal.τ).loc Cert.AdamFfnInReferenceIdeal.main_arg4) = m' ((c.tc : Thread Cert.AdamFfnInReferenceIdeal.nD Cert.AdamFfnInReferenceIdeal.τ).loc Cert.AdamFfnInReferenceIdeal.main_arg4))

def preserves_AdamFfnDown_AdamFfnDownIdeal : Prop :=
  True

def algebraic_AdamFfnDownIdeal_AdamFfnDownReferenceIdeal [hAdamFfnDownIdeal : Cert.AdamFfnDownIdeal.Facts] [hAdamFfnDownReferenceIdeal : Cert.AdamFfnDownReferenceIdeal.Facts] : Prop :=
  ∀ (m : (ℓ : Loc Cert.AdamFfnDownIdeal.nD Cert.AdamFfnDownIdeal.τ Cert.AdamFfnDownIdeal.sig) → Buf (Elt Ideal) ℓ) (g : Dev Cert.AdamFfnDownIdeal.nD → PrngReg)
    (m' : (ℓ : Loc Cert.AdamFfnDownReferenceIdeal.nD Cert.AdamFfnDownReferenceIdeal.τ Cert.AdamFfnDownReferenceIdeal.sig) → Buf (Elt Ideal) ℓ) (g' : Dev Cert.AdamFfnDownReferenceIdeal.nD → PrngReg), Pre_AdamFfnDownIdeal m →
    (∀ c : Dev Cert.AdamFfnDownIdeal.nD,
      m' ((c.tc : Thread Cert.AdamFfnDownReferenceIdeal.nD Cert.AdamFfnDownReferenceIdeal.τ).loc Cert.AdamFfnDownReferenceIdeal.main_arg0) = m ((c.tc : Thread Cert.AdamFfnDownIdeal.nD Cert.AdamFfnDownIdeal.τ).loc Cert.AdamFfnDownIdeal.main_arg0)
      ∧ m' ((c.tc : Thread Cert.AdamFfnDownReferenceIdeal.nD Cert.AdamFfnDownReferenceIdeal.τ).loc Cert.AdamFfnDownReferenceIdeal.main_arg1) = m ((c.tc : Thread Cert.AdamFfnDownIdeal.nD Cert.AdamFfnDownIdeal.τ).loc Cert.AdamFfnDownIdeal.main_arg1)
      ∧ m' ((c.tc : Thread Cert.AdamFfnDownReferenceIdeal.nD Cert.AdamFfnDownReferenceIdeal.τ).loc Cert.AdamFfnDownReferenceIdeal.main_arg2) = m ((c.tc : Thread Cert.AdamFfnDownIdeal.nD Cert.AdamFfnDownIdeal.τ).loc Cert.AdamFfnDownIdeal.main_arg2)
      ∧ m' ((c.tc : Thread Cert.AdamFfnDownReferenceIdeal.nD Cert.AdamFfnDownReferenceIdeal.τ).loc Cert.AdamFfnDownReferenceIdeal.main_arg3) = m ((c.tc : Thread Cert.AdamFfnDownIdeal.nD Cert.AdamFfnDownIdeal.τ).loc Cert.AdamFfnDownIdeal.main_arg3)
      ∧ m' ((c.tc : Thread Cert.AdamFfnDownReferenceIdeal.nD Cert.AdamFfnDownReferenceIdeal.τ).loc Cert.AdamFfnDownReferenceIdeal.main_arg4) = m ((c.tc : Thread Cert.AdamFfnDownIdeal.nD Cert.AdamFfnDownIdeal.τ).loc Cert.AdamFfnDownIdeal.main_arg4)) →
    ∃ (v0 : (c : Dev Cert.AdamFfnDownIdeal.nD) → Buf (Elt Ideal) ((c.tc : Thread Cert.AdamFfnDownIdeal.nD Cert.AdamFfnDownIdeal.τ).loc Cert.AdamFfnDownIdeal.main_v0_0)) (v1 : (c : Dev Cert.AdamFfnDownIdeal.nD) → Buf (Elt Ideal) ((c.tc : Thread Cert.AdamFfnDownIdeal.nD Cert.AdamFfnDownIdeal.τ).loc Cert.AdamFfnDownIdeal.main_v0_1)) (v2 : (c : Dev Cert.AdamFfnDownIdeal.nD) → Buf (Elt Ideal) ((c.tc : Thread Cert.AdamFfnDownIdeal.nD Cert.AdamFfnDownIdeal.τ).loc Cert.AdamFfnDownIdeal.main_v0_2)) (v3 : (c : Dev Cert.AdamFfnDownIdeal.nD) → Buf (Elt Ideal) ((c.tc : Thread Cert.AdamFfnDownIdeal.nD Cert.AdamFfnDownIdeal.τ).loc Cert.AdamFfnDownIdeal.main_v0_3)),
      θ_run (Cert.AdamFfnDownIdeal.defs (F := Ideal)) (onTc (τ := Cert.AdamFfnDownIdeal.τ) (Cert.AdamFfnDownIdeal.main (F := Ideal))) ⟨m, fun _ => 0, g⟩ (fun r => ∀ c : Dev Cert.AdamFfnDownIdeal.nD,
          r.2.mem ((c.tc : Thread Cert.AdamFfnDownIdeal.nD Cert.AdamFfnDownIdeal.τ).loc Cert.AdamFfnDownIdeal.main_v0_0) = v0 c
          ∧ r.2.mem ((c.tc : Thread Cert.AdamFfnDownIdeal.nD Cert.AdamFfnDownIdeal.τ).loc Cert.AdamFfnDownIdeal.main_v0_1) = v1 c
          ∧ r.2.mem ((c.tc : Thread Cert.AdamFfnDownIdeal.nD Cert.AdamFfnDownIdeal.τ).loc Cert.AdamFfnDownIdeal.main_v0_2) = v2 c
          ∧ r.2.mem ((c.tc : Thread Cert.AdamFfnDownIdeal.nD Cert.AdamFfnDownIdeal.τ).loc Cert.AdamFfnDownIdeal.main_v0_3) = v3 c
          ∧ r.2.mem ((c.tc : Thread Cert.AdamFfnDownIdeal.nD Cert.AdamFfnDownIdeal.τ).loc Cert.AdamFfnDownIdeal.main_arg0) = m ((c.tc : Thread Cert.AdamFfnDownIdeal.nD Cert.AdamFfnDownIdeal.τ).loc Cert.AdamFfnDownIdeal.main_arg0)
          ∧ r.2.mem ((c.tc : Thread Cert.AdamFfnDownIdeal.nD Cert.AdamFfnDownIdeal.τ).loc Cert.AdamFfnDownIdeal.main_arg1) = m ((c.tc : Thread Cert.AdamFfnDownIdeal.nD Cert.AdamFfnDownIdeal.τ).loc Cert.AdamFfnDownIdeal.main_arg1)
          ∧ r.2.mem ((c.tc : Thread Cert.AdamFfnDownIdeal.nD Cert.AdamFfnDownIdeal.τ).loc Cert.AdamFfnDownIdeal.main_arg2) = m ((c.tc : Thread Cert.AdamFfnDownIdeal.nD Cert.AdamFfnDownIdeal.τ).loc Cert.AdamFfnDownIdeal.main_arg2)
          ∧ r.2.mem ((c.tc : Thread Cert.AdamFfnDownIdeal.nD Cert.AdamFfnDownIdeal.τ).loc Cert.AdamFfnDownIdeal.main_arg3) = m ((c.tc : Thread Cert.AdamFfnDownIdeal.nD Cert.AdamFfnDownIdeal.τ).loc Cert.AdamFfnDownIdeal.main_arg3)
          ∧ r.2.mem ((c.tc : Thread Cert.AdamFfnDownIdeal.nD Cert.AdamFfnDownIdeal.τ).loc Cert.AdamFfnDownIdeal.main_arg4) = m ((c.tc : Thread Cert.AdamFfnDownIdeal.nD Cert.AdamFfnDownIdeal.τ).loc Cert.AdamFfnDownIdeal.main_arg4))
      ∧ θ_run (Cert.AdamFfnDownReferenceIdeal.defs (F := Ideal)) (onTc (τ := Cert.AdamFfnDownReferenceIdeal.τ) (Cert.AdamFfnDownReferenceIdeal.main (F := Ideal))) ⟨m', fun _ => 0, g'⟩ (fun r => ∀ c : Dev Cert.AdamFfnDownReferenceIdeal.nD,
          r.2.mem ((c.tc : Thread Cert.AdamFfnDownReferenceIdeal.nD Cert.AdamFfnDownReferenceIdeal.τ).loc Cert.AdamFfnDownReferenceIdeal.main_v6) = v0 c
          ∧ r.2.mem ((c.tc : Thread Cert.AdamFfnDownReferenceIdeal.nD Cert.AdamFfnDownReferenceIdeal.τ).loc Cert.AdamFfnDownReferenceIdeal.main_v30) = v1 c
          ∧ r.2.mem ((c.tc : Thread Cert.AdamFfnDownReferenceIdeal.nD Cert.AdamFfnDownReferenceIdeal.τ).loc Cert.AdamFfnDownReferenceIdeal.main_v11) = v2 c
          ∧ r.2.mem ((c.tc : Thread Cert.AdamFfnDownReferenceIdeal.nD Cert.AdamFfnDownReferenceIdeal.τ).loc Cert.AdamFfnDownReferenceIdeal.main_v17) = v3 c
          ∧ r.2.mem ((c.tc : Thread Cert.AdamFfnDownReferenceIdeal.nD Cert.AdamFfnDownReferenceIdeal.τ).loc Cert.AdamFfnDownReferenceIdeal.main_arg0) = m' ((c.tc : Thread Cert.AdamFfnDownReferenceIdeal.nD Cert.AdamFfnDownReferenceIdeal.τ).loc Cert.AdamFfnDownReferenceIdeal.main_arg0)
          ∧ r.2.mem ((c.tc : Thread Cert.AdamFfnDownReferenceIdeal.nD Cert.AdamFfnDownReferenceIdeal.τ).loc Cert.AdamFfnDownReferenceIdeal.main_arg1) = m' ((c.tc : Thread Cert.AdamFfnDownReferenceIdeal.nD Cert.AdamFfnDownReferenceIdeal.τ).loc Cert.AdamFfnDownReferenceIdeal.main_arg1)
          ∧ r.2.mem ((c.tc : Thread Cert.AdamFfnDownReferenceIdeal.nD Cert.AdamFfnDownReferenceIdeal.τ).loc Cert.AdamFfnDownReferenceIdeal.main_arg2) = m' ((c.tc : Thread Cert.AdamFfnDownReferenceIdeal.nD Cert.AdamFfnDownReferenceIdeal.τ).loc Cert.AdamFfnDownReferenceIdeal.main_arg2)
          ∧ r.2.mem ((c.tc : Thread Cert.AdamFfnDownReferenceIdeal.nD Cert.AdamFfnDownReferenceIdeal.τ).loc Cert.AdamFfnDownReferenceIdeal.main_arg3) = m' ((c.tc : Thread Cert.AdamFfnDownReferenceIdeal.nD Cert.AdamFfnDownReferenceIdeal.τ).loc Cert.AdamFfnDownReferenceIdeal.main_arg3)
          ∧ r.2.mem ((c.tc : Thread Cert.AdamFfnDownReferenceIdeal.nD Cert.AdamFfnDownReferenceIdeal.τ).loc Cert.AdamFfnDownReferenceIdeal.main_arg4) = m' ((c.tc : Thread Cert.AdamFfnDownReferenceIdeal.nD Cert.AdamFfnDownReferenceIdeal.τ).loc Cert.AdamFfnDownReferenceIdeal.main_arg4))

def preserves_AdamTail_AdamTailIdeal : Prop :=
  True

def algebraic_AdamTailIdeal_AdamTailReferenceIdeal [hAdamTailIdeal : Cert.AdamTailIdeal.Facts] [hAdamTailReferenceIdeal : Cert.AdamTailReferenceIdeal.Facts] : Prop :=
  ∀ (m : (ℓ : Loc Cert.AdamTailIdeal.nD Cert.AdamTailIdeal.τ Cert.AdamTailIdeal.sig) → Buf (Elt Ideal) ℓ) (g : Dev Cert.AdamTailIdeal.nD → PrngReg)
    (m' : (ℓ : Loc Cert.AdamTailReferenceIdeal.nD Cert.AdamTailReferenceIdeal.τ Cert.AdamTailReferenceIdeal.sig) → Buf (Elt Ideal) ℓ) (g' : Dev Cert.AdamTailReferenceIdeal.nD → PrngReg), Pre_AdamTailIdeal m →
    (∀ c : Dev Cert.AdamTailIdeal.nD,
      m' ((c.tc : Thread Cert.AdamTailReferenceIdeal.nD Cert.AdamTailReferenceIdeal.τ).loc Cert.AdamTailReferenceIdeal.main_arg0) = m ((c.tc : Thread Cert.AdamTailIdeal.nD Cert.AdamTailIdeal.τ).loc Cert.AdamTailIdeal.main_arg0)
      ∧ m' ((c.tc : Thread Cert.AdamTailReferenceIdeal.nD Cert.AdamTailReferenceIdeal.τ).loc Cert.AdamTailReferenceIdeal.main_arg1) = m ((c.tc : Thread Cert.AdamTailIdeal.nD Cert.AdamTailIdeal.τ).loc Cert.AdamTailIdeal.main_arg1)
      ∧ m' ((c.tc : Thread Cert.AdamTailReferenceIdeal.nD Cert.AdamTailReferenceIdeal.τ).loc Cert.AdamTailReferenceIdeal.main_arg2) = m ((c.tc : Thread Cert.AdamTailIdeal.nD Cert.AdamTailIdeal.τ).loc Cert.AdamTailIdeal.main_arg2)
      ∧ m' ((c.tc : Thread Cert.AdamTailReferenceIdeal.nD Cert.AdamTailReferenceIdeal.τ).loc Cert.AdamTailReferenceIdeal.main_arg3) = m ((c.tc : Thread Cert.AdamTailIdeal.nD Cert.AdamTailIdeal.τ).loc Cert.AdamTailIdeal.main_arg3)) →
    ∃ (v0 : (c : Dev Cert.AdamTailIdeal.nD) → Buf (Elt Ideal) ((c.tc : Thread Cert.AdamTailIdeal.nD Cert.AdamTailIdeal.τ).loc Cert.AdamTailIdeal.main_v0_0)) (v1 : (c : Dev Cert.AdamTailIdeal.nD) → Buf (Elt Ideal) ((c.tc : Thread Cert.AdamTailIdeal.nD Cert.AdamTailIdeal.τ).loc Cert.AdamTailIdeal.main_v0_1)) (v2 : (c : Dev Cert.AdamTailIdeal.nD) → Buf (Elt Ideal) ((c.tc : Thread Cert.AdamTailIdeal.nD Cert.AdamTailIdeal.τ).loc Cert.AdamTailIdeal.main_v0_2)) (v3 : (c : Dev Cert.AdamTailIdeal.nD) → Buf (Elt Ideal) ((c.tc : Thread Cert.AdamTailIdeal.nD Cert.AdamTailIdeal.τ).loc Cert.AdamTailIdeal.main_v0_3)),
      θ_run (Cert.AdamTailIdeal.defs (F := Ideal)) (onTc (τ := Cert.AdamTailIdeal.τ) (Cert.AdamTailIdeal.main (F := Ideal))) ⟨m, fun _ => 0, g⟩ (fun r => ∀ c : Dev Cert.AdamTailIdeal.nD,
          r.2.mem ((c.tc : Thread Cert.AdamTailIdeal.nD Cert.AdamTailIdeal.τ).loc Cert.AdamTailIdeal.main_v0_0) = v0 c
          ∧ r.2.mem ((c.tc : Thread Cert.AdamTailIdeal.nD Cert.AdamTailIdeal.τ).loc Cert.AdamTailIdeal.main_v0_1) = v1 c
          ∧ r.2.mem ((c.tc : Thread Cert.AdamTailIdeal.nD Cert.AdamTailIdeal.τ).loc Cert.AdamTailIdeal.main_v0_2) = v2 c
          ∧ r.2.mem ((c.tc : Thread Cert.AdamTailIdeal.nD Cert.AdamTailIdeal.τ).loc Cert.AdamTailIdeal.main_v0_3) = v3 c
          ∧ r.2.mem ((c.tc : Thread Cert.AdamTailIdeal.nD Cert.AdamTailIdeal.τ).loc Cert.AdamTailIdeal.main_arg0) = m ((c.tc : Thread Cert.AdamTailIdeal.nD Cert.AdamTailIdeal.τ).loc Cert.AdamTailIdeal.main_arg0)
          ∧ r.2.mem ((c.tc : Thread Cert.AdamTailIdeal.nD Cert.AdamTailIdeal.τ).loc Cert.AdamTailIdeal.main_arg1) = m ((c.tc : Thread Cert.AdamTailIdeal.nD Cert.AdamTailIdeal.τ).loc Cert.AdamTailIdeal.main_arg1)
          ∧ r.2.mem ((c.tc : Thread Cert.AdamTailIdeal.nD Cert.AdamTailIdeal.τ).loc Cert.AdamTailIdeal.main_arg2) = m ((c.tc : Thread Cert.AdamTailIdeal.nD Cert.AdamTailIdeal.τ).loc Cert.AdamTailIdeal.main_arg2)
          ∧ r.2.mem ((c.tc : Thread Cert.AdamTailIdeal.nD Cert.AdamTailIdeal.τ).loc Cert.AdamTailIdeal.main_arg3) = m ((c.tc : Thread Cert.AdamTailIdeal.nD Cert.AdamTailIdeal.τ).loc Cert.AdamTailIdeal.main_arg3))
      ∧ θ_run (Cert.AdamTailReferenceIdeal.defs (F := Ideal)) (onTc (τ := Cert.AdamTailReferenceIdeal.τ) (Cert.AdamTailReferenceIdeal.main (F := Ideal))) ⟨m', fun _ => 0, g'⟩ (fun r => ∀ c : Dev Cert.AdamTailReferenceIdeal.nD,
          r.2.mem ((c.tc : Thread Cert.AdamTailReferenceIdeal.nD Cert.AdamTailReferenceIdeal.τ).loc Cert.AdamTailReferenceIdeal.main_arg0) = v0 c
          ∧ r.2.mem ((c.tc : Thread Cert.AdamTailReferenceIdeal.nD Cert.AdamTailReferenceIdeal.τ).loc Cert.AdamTailReferenceIdeal.main_v23) = v1 c
          ∧ r.2.mem ((c.tc : Thread Cert.AdamTailReferenceIdeal.nD Cert.AdamTailReferenceIdeal.τ).loc Cert.AdamTailReferenceIdeal.main_v4) = v2 c
          ∧ r.2.mem ((c.tc : Thread Cert.AdamTailReferenceIdeal.nD Cert.AdamTailReferenceIdeal.τ).loc Cert.AdamTailReferenceIdeal.main_v10) = v3 c
          ∧ r.2.mem ((c.tc : Thread Cert.AdamTailReferenceIdeal.nD Cert.AdamTailReferenceIdeal.τ).loc Cert.AdamTailReferenceIdeal.main_arg0) = m' ((c.tc : Thread Cert.AdamTailReferenceIdeal.nD Cert.AdamTailReferenceIdeal.τ).loc Cert.AdamTailReferenceIdeal.main_arg0)
          ∧ r.2.mem ((c.tc : Thread Cert.AdamTailReferenceIdeal.nD Cert.AdamTailReferenceIdeal.τ).loc Cert.AdamTailReferenceIdeal.main_arg1) = m' ((c.tc : Thread Cert.AdamTailReferenceIdeal.nD Cert.AdamTailReferenceIdeal.τ).loc Cert.AdamTailReferenceIdeal.main_arg1)
          ∧ r.2.mem ((c.tc : Thread Cert.AdamTailReferenceIdeal.nD Cert.AdamTailReferenceIdeal.τ).loc Cert.AdamTailReferenceIdeal.main_arg2) = m' ((c.tc : Thread Cert.AdamTailReferenceIdeal.nD Cert.AdamTailReferenceIdeal.τ).loc Cert.AdamTailReferenceIdeal.main_arg2)
          ∧ r.2.mem ((c.tc : Thread Cert.AdamTailReferenceIdeal.nD Cert.AdamTailReferenceIdeal.τ).loc Cert.AdamTailReferenceIdeal.main_arg3) = m' ((c.tc : Thread Cert.AdamTailReferenceIdeal.nD Cert.AdamTailReferenceIdeal.τ).loc Cert.AdamTailReferenceIdeal.main_arg3))

def preserves_SlotSum_SlotSumIdeal : Prop :=
  True

def algebraic_SlotSumIdeal_SlotSumReferenceIdeal [hSlotSumIdeal : Cert.SlotSumIdeal.Facts] [hSlotSumReferenceIdeal : Cert.SlotSumReferenceIdeal.Facts] : Prop :=
  ∀ (m : (ℓ : Loc Cert.SlotSumIdeal.nD Cert.SlotSumIdeal.τ Cert.SlotSumIdeal.sig) → Buf (Elt Ideal) ℓ) (g : Dev Cert.SlotSumIdeal.nD → PrngReg)
    (m' : (ℓ : Loc Cert.SlotSumReferenceIdeal.nD Cert.SlotSumReferenceIdeal.τ Cert.SlotSumReferenceIdeal.sig) → Buf (Elt Ideal) ℓ) (g' : Dev Cert.SlotSumReferenceIdeal.nD → PrngReg), Pre_SlotSumIdeal m →
    (∀ c : Dev Cert.SlotSumIdeal.nD,
      m' ((c.tc : Thread Cert.SlotSumReferenceIdeal.nD Cert.SlotSumReferenceIdeal.τ).loc Cert.SlotSumReferenceIdeal.main_arg0) = m ((c.tc : Thread Cert.SlotSumIdeal.nD Cert.SlotSumIdeal.τ).loc Cert.SlotSumIdeal.main_arg0)) →
    ∃ (v0 : (c : Dev Cert.SlotSumIdeal.nD) → Buf (Elt Ideal) ((c.tc : Thread Cert.SlotSumIdeal.nD Cert.SlotSumIdeal.τ).loc Cert.SlotSumIdeal.main_v0)),
      θ_run (Cert.SlotSumIdeal.defs (F := Ideal)) (onTc (τ := Cert.SlotSumIdeal.τ) (Cert.SlotSumIdeal.main (F := Ideal))) ⟨m, fun _ => 0, g⟩ (fun r => ∀ c : Dev Cert.SlotSumIdeal.nD,
          r.2.mem ((c.tc : Thread Cert.SlotSumIdeal.nD Cert.SlotSumIdeal.τ).loc Cert.SlotSumIdeal.main_v0) = v0 c
          ∧ r.2.mem ((c.tc : Thread Cert.SlotSumIdeal.nD Cert.SlotSumIdeal.τ).loc Cert.SlotSumIdeal.main_arg0) = m ((c.tc : Thread Cert.SlotSumIdeal.nD Cert.SlotSumIdeal.τ).loc Cert.SlotSumIdeal.main_arg0))
      ∧ θ_run (Cert.SlotSumReferenceIdeal.defs (F := Ideal)) (onTc (τ := Cert.SlotSumReferenceIdeal.τ) (Cert.SlotSumReferenceIdeal.main (F := Ideal))) ⟨m', fun _ => 0, g'⟩ (fun r => ∀ c : Dev Cert.SlotSumReferenceIdeal.nD,
          r.2.mem ((c.tc : Thread Cert.SlotSumReferenceIdeal.nD Cert.SlotSumReferenceIdeal.τ).loc Cert.SlotSumReferenceIdeal.main_v0) = v0 c
          ∧ r.2.mem ((c.tc : Thread Cert.SlotSumReferenceIdeal.nD Cert.SlotSumReferenceIdeal.τ).loc Cert.SlotSumReferenceIdeal.main_arg0) = m' ((c.tc : Thread Cert.SlotSumReferenceIdeal.nD Cert.SlotSumReferenceIdeal.τ).loc Cert.SlotSumReferenceIdeal.main_arg0))

def preserves_LruConv_LruConvIdeal : Prop :=
  True

def algebraic_LruConvIdeal_LruConvReferenceIdeal [hLruConvIdeal : Cert.LruConvIdeal.Facts] [hLruConvReferenceIdeal : Cert.LruConvReferenceIdeal.Facts] : Prop :=
  ∀ (m : (ℓ : Loc Cert.LruConvIdeal.nD Cert.LruConvIdeal.τ Cert.LruConvIdeal.sig) → Buf (Elt Ideal) ℓ) (g : Dev Cert.LruConvIdeal.nD → PrngReg)
    (m' : (ℓ : Loc Cert.LruConvReferenceIdeal.nD Cert.LruConvReferenceIdeal.τ Cert.LruConvReferenceIdeal.sig) → Buf (Elt Ideal) ℓ) (g' : Dev Cert.LruConvReferenceIdeal.nD → PrngReg), Pre_LruConvIdeal m →
    (∀ c : Dev Cert.LruConvIdeal.nD,
      m' ((c.tc : Thread Cert.LruConvReferenceIdeal.nD Cert.LruConvReferenceIdeal.τ).loc Cert.LruConvReferenceIdeal.main_arg0) = m ((c.tc : Thread Cert.LruConvIdeal.nD Cert.LruConvIdeal.τ).loc Cert.LruConvIdeal.main_arg0)
      ∧ m' ((c.tc : Thread Cert.LruConvReferenceIdeal.nD Cert.LruConvReferenceIdeal.τ).loc Cert.LruConvReferenceIdeal.main_arg1) = m ((c.tc : Thread Cert.LruConvIdeal.nD Cert.LruConvIdeal.τ).loc Cert.LruConvIdeal.main_arg1)
      ∧ m' ((c.tc : Thread Cert.LruConvReferenceIdeal.nD Cert.LruConvReferenceIdeal.τ).loc Cert.LruConvReferenceIdeal.main_arg2) = m ((c.tc : Thread Cert.LruConvIdeal.nD Cert.LruConvIdeal.τ).loc Cert.LruConvIdeal.main_arg2)
      ∧ m' ((c.tc : Thread Cert.LruConvReferenceIdeal.nD Cert.LruConvReferenceIdeal.τ).loc Cert.LruConvReferenceIdeal.main_arg3) = m ((c.tc : Thread Cert.LruConvIdeal.nD Cert.LruConvIdeal.τ).loc Cert.LruConvIdeal.main_arg3)
      ∧ m' ((c.tc : Thread Cert.LruConvReferenceIdeal.nD Cert.LruConvReferenceIdeal.τ).loc Cert.LruConvReferenceIdeal.main_arg4) = m ((c.tc : Thread Cert.LruConvIdeal.nD Cert.LruConvIdeal.τ).loc Cert.LruConvIdeal.main_arg4)
      ∧ m' ((c.tc : Thread Cert.LruConvReferenceIdeal.nD Cert.LruConvReferenceIdeal.τ).loc Cert.LruConvReferenceIdeal.main_arg5) = m ((c.tc : Thread Cert.LruConvIdeal.nD Cert.LruConvIdeal.τ).loc Cert.LruConvIdeal.main_arg5)
      ∧ m' ((c.tc : Thread Cert.LruConvReferenceIdeal.nD Cert.LruConvReferenceIdeal.τ).loc Cert.LruConvReferenceIdeal.main_arg6) = m ((c.tc : Thread Cert.LruConvIdeal.nD Cert.LruConvIdeal.τ).loc Cert.LruConvIdeal.main_arg6)
      ∧ m' ((c.tc : Thread Cert.LruConvReferenceIdeal.nD Cert.LruConvReferenceIdeal.τ).loc Cert.LruConvReferenceIdeal.main_arg7) = m ((c.tc : Thread Cert.LruConvIdeal.nD Cert.LruConvIdeal.τ).loc Cert.LruConvIdeal.main_arg7)) →
    ∃ (v0 : (c : Dev Cert.LruConvIdeal.nD) → Buf (Elt Ideal) ((c.tc : Thread Cert.LruConvIdeal.nD Cert.LruConvIdeal.τ).loc Cert.LruConvIdeal.main_v0_2)),
      θ_run (Cert.LruConvIdeal.defs (F := Ideal)) (onTc (τ := Cert.LruConvIdeal.τ) (Cert.LruConvIdeal.main (F := Ideal))) ⟨m, fun _ => 0, g⟩ (fun r => ∀ c : Dev Cert.LruConvIdeal.nD,
          r.2.mem ((c.tc : Thread Cert.LruConvIdeal.nD Cert.LruConvIdeal.τ).loc Cert.LruConvIdeal.main_v0_2) = v0 c
          ∧ r.2.mem ((c.tc : Thread Cert.LruConvIdeal.nD Cert.LruConvIdeal.τ).loc Cert.LruConvIdeal.main_arg0) = m ((c.tc : Thread Cert.LruConvIdeal.nD Cert.LruConvIdeal.τ).loc Cert.LruConvIdeal.main_arg0)
          ∧ r.2.mem ((c.tc : Thread Cert.LruConvIdeal.nD Cert.LruConvIdeal.τ).loc Cert.LruConvIdeal.main_arg1) = m ((c.tc : Thread Cert.LruConvIdeal.nD Cert.LruConvIdeal.τ).loc Cert.LruConvIdeal.main_arg1)
          ∧ r.2.mem ((c.tc : Thread Cert.LruConvIdeal.nD Cert.LruConvIdeal.τ).loc Cert.LruConvIdeal.main_arg2) = m ((c.tc : Thread Cert.LruConvIdeal.nD Cert.LruConvIdeal.τ).loc Cert.LruConvIdeal.main_arg2)
          ∧ r.2.mem ((c.tc : Thread Cert.LruConvIdeal.nD Cert.LruConvIdeal.τ).loc Cert.LruConvIdeal.main_arg3) = m ((c.tc : Thread Cert.LruConvIdeal.nD Cert.LruConvIdeal.τ).loc Cert.LruConvIdeal.main_arg3)
          ∧ r.2.mem ((c.tc : Thread Cert.LruConvIdeal.nD Cert.LruConvIdeal.τ).loc Cert.LruConvIdeal.main_arg4) = m ((c.tc : Thread Cert.LruConvIdeal.nD Cert.LruConvIdeal.τ).loc Cert.LruConvIdeal.main_arg4)
          ∧ r.2.mem ((c.tc : Thread Cert.LruConvIdeal.nD Cert.LruConvIdeal.τ).loc Cert.LruConvIdeal.main_arg5) = m ((c.tc : Thread Cert.LruConvIdeal.nD Cert.LruConvIdeal.τ).loc Cert.LruConvIdeal.main_arg5)
          ∧ r.2.mem ((c.tc : Thread Cert.LruConvIdeal.nD Cert.LruConvIdeal.τ).loc Cert.LruConvIdeal.main_arg6) = m ((c.tc : Thread Cert.LruConvIdeal.nD Cert.LruConvIdeal.τ).loc Cert.LruConvIdeal.main_arg6)
          ∧ r.2.mem ((c.tc : Thread Cert.LruConvIdeal.nD Cert.LruConvIdeal.τ).loc Cert.LruConvIdeal.main_arg7) = m ((c.tc : Thread Cert.LruConvIdeal.nD Cert.LruConvIdeal.τ).loc Cert.LruConvIdeal.main_arg7))
      ∧ θ_run (Cert.LruConvReferenceIdeal.defs (F := Ideal)) (onTc (τ := Cert.LruConvReferenceIdeal.τ) (Cert.LruConvReferenceIdeal.main (F := Ideal))) ⟨m', fun _ => 0, g'⟩ (fun r => ∀ c : Dev Cert.LruConvReferenceIdeal.nD,
          r.2.mem ((c.tc : Thread Cert.LruConvReferenceIdeal.nD Cert.LruConvReferenceIdeal.τ).loc Cert.LruConvReferenceIdeal.main_v25) = v0 c
          ∧ r.2.mem ((c.tc : Thread Cert.LruConvReferenceIdeal.nD Cert.LruConvReferenceIdeal.τ).loc Cert.LruConvReferenceIdeal.main_arg0) = m' ((c.tc : Thread Cert.LruConvReferenceIdeal.nD Cert.LruConvReferenceIdeal.τ).loc Cert.LruConvReferenceIdeal.main_arg0)
          ∧ r.2.mem ((c.tc : Thread Cert.LruConvReferenceIdeal.nD Cert.LruConvReferenceIdeal.τ).loc Cert.LruConvReferenceIdeal.main_arg1) = m' ((c.tc : Thread Cert.LruConvReferenceIdeal.nD Cert.LruConvReferenceIdeal.τ).loc Cert.LruConvReferenceIdeal.main_arg1)
          ∧ r.2.mem ((c.tc : Thread Cert.LruConvReferenceIdeal.nD Cert.LruConvReferenceIdeal.τ).loc Cert.LruConvReferenceIdeal.main_arg2) = m' ((c.tc : Thread Cert.LruConvReferenceIdeal.nD Cert.LruConvReferenceIdeal.τ).loc Cert.LruConvReferenceIdeal.main_arg2)
          ∧ r.2.mem ((c.tc : Thread Cert.LruConvReferenceIdeal.nD Cert.LruConvReferenceIdeal.τ).loc Cert.LruConvReferenceIdeal.main_arg3) = m' ((c.tc : Thread Cert.LruConvReferenceIdeal.nD Cert.LruConvReferenceIdeal.τ).loc Cert.LruConvReferenceIdeal.main_arg3)
          ∧ r.2.mem ((c.tc : Thread Cert.LruConvReferenceIdeal.nD Cert.LruConvReferenceIdeal.τ).loc Cert.LruConvReferenceIdeal.main_arg4) = m' ((c.tc : Thread Cert.LruConvReferenceIdeal.nD Cert.LruConvReferenceIdeal.τ).loc Cert.LruConvReferenceIdeal.main_arg4)
          ∧ r.2.mem ((c.tc : Thread Cert.LruConvReferenceIdeal.nD Cert.LruConvReferenceIdeal.τ).loc Cert.LruConvReferenceIdeal.main_arg5) = m' ((c.tc : Thread Cert.LruConvReferenceIdeal.nD Cert.LruConvReferenceIdeal.τ).loc Cert.LruConvReferenceIdeal.main_arg5)
          ∧ r.2.mem ((c.tc : Thread Cert.LruConvReferenceIdeal.nD Cert.LruConvReferenceIdeal.τ).loc Cert.LruConvReferenceIdeal.main_arg6) = m' ((c.tc : Thread Cert.LruConvReferenceIdeal.nD Cert.LruConvReferenceIdeal.τ).loc Cert.LruConvReferenceIdeal.main_arg6)
          ∧ r.2.mem ((c.tc : Thread Cert.LruConvReferenceIdeal.nD Cert.LruConvReferenceIdeal.τ).loc Cert.LruConvReferenceIdeal.main_arg7) = m' ((c.tc : Thread Cert.LruConvReferenceIdeal.nD Cert.LruConvReferenceIdeal.τ).loc Cert.LruConvReferenceIdeal.main_arg7))

def preserves_SsdBwd_SsdBwdIdeal : Prop :=
  True

def Claim : Prop :=
  ∃ (hKernel : Cert.Kernel.Facts) (hKernelIdeal : Cert.KernelIdeal.Facts) (hReferenceIdeal : Cert.ReferenceIdeal.Facts) (hSwiglu : Cert.Swiglu.Facts) (hSwigluIdeal : Cert.SwigluIdeal.Facts) (hSwigluReferenceIdeal : Cert.SwigluReferenceIdeal.Facts) (hGate : Cert.Gate.Facts) (hGateIdeal : Cert.GateIdeal.Facts) (hGateReferenceIdeal : Cert.GateReferenceIdeal.Facts) (hNorm : Cert.Norm.Facts) (hNormIdeal : Cert.NormIdeal.Facts) (hNormReferenceIdeal : Cert.NormReferenceIdeal.Facts) (hDwDown : Cert.DwDown.Facts) (hDwDownIdeal : Cert.DwDownIdeal.Facts) (hDwDownReferenceIdeal : Cert.DwDownReferenceIdeal.Facts) (hDwIn : Cert.DwIn.Facts) (hDwInIdeal : Cert.DwInIdeal.Facts) (hDwInReferenceIdeal : Cert.DwInReferenceIdeal.Facts) (hDxGate : Cert.DxGate.Facts) (hDxGateIdeal : Cert.DxGateIdeal.Facts) (hDxGateReferenceIdeal : Cert.DxGateReferenceIdeal.Facts) (hDxUp : Cert.DxUp.Facts) (hDxUpIdeal : Cert.DxUpIdeal.Facts) (hDxUpReferenceIdeal : Cert.DxUpReferenceIdeal.Facts) (hFfnIn : Cert.FfnIn.Facts) (hFfnInIdeal : Cert.FfnInIdeal.Facts) (hFfnInReferenceIdeal : Cert.FfnInReferenceIdeal.Facts) (hDwSsd : Cert.DwSsd.Facts) (hDwSsdIdeal : Cert.DwSsdIdeal.Facts) (hDwSsdReferenceIdeal : Cert.DwSsdReferenceIdeal.Facts) (hDwLru : Cert.DwLru.Facts) (hDwLruIdeal : Cert.DwLruIdeal.Facts) (hDwLruReferenceIdeal : Cert.DwLruReferenceIdeal.Facts) (hDwGl : Cert.DwGl.Facts) (hDwGlIdeal : Cert.DwGlIdeal.Facts) (hDwGlReferenceIdeal : Cert.DwGlReferenceIdeal.Facts) (hDwQ : Cert.DwQ.Facts) (hDwQIdeal : Cert.DwQIdeal.Facts) (hDwQReferenceIdeal : Cert.DwQReferenceIdeal.Facts) (hDwOut : Cert.DwOut.Facts) (hDwOutIdeal : Cert.DwOutIdeal.Facts) (hDwOutReferenceIdeal : Cert.DwOutReferenceIdeal.Facts) (hDwBrSsd : Cert.DwBrSsd.Facts) (hDwBrSsdIdeal : Cert.DwBrSsdIdeal.Facts) (hDwBrSsdReferenceIdeal : Cert.DwBrSsdReferenceIdeal.Facts) (hDxSsd : Cert.DxSsd.Facts) (hDxSsdIdeal : Cert.DxSsdIdeal.Facts) (hDxSsdReferenceIdeal : Cert.DxSsdReferenceIdeal.Facts) (hDxLru : Cert.DxLru.Facts) (hDxLruIdeal : Cert.DxLruIdeal.Facts) (hDxLruReferenceIdeal : Cert.DxLruReferenceIdeal.Facts) (hDxGl : Cert.DxGl.Facts) (hDxGlIdeal : Cert.DxGlIdeal.Facts) (hDxGlReferenceIdeal : Cert.DxGlReferenceIdeal.Facts) (hDxQ : Cert.DxQ.Facts) (hDxQIdeal : Cert.DxQIdeal.Facts) (hDxQReferenceIdeal : Cert.DxQReferenceIdeal.Facts) (hDMerged : Cert.DMerged.Facts) (hDMergedIdeal : Cert.DMergedIdeal.Facts) (hDMergedReferenceIdeal : Cert.DMergedReferenceIdeal.Facts) (hDyLru : Cert.DyLru.Facts) (hDyLruIdeal : Cert.DyLruIdeal.Facts) (hDyLruReferenceIdeal : Cert.DyLruReferenceIdeal.Facts) (hDySsd : Cert.DySsd.Facts) (hDySsdIdeal : Cert.DySsdIdeal.Facts) (hDySsdReferenceIdeal : Cert.DySsdReferenceIdeal.Facts) (hDyXa : Cert.DyXa.Facts) (hDyXaIdeal : Cert.DyXaIdeal.Facts) (hDyXaReferenceIdeal : Cert.DyXaReferenceIdeal.Facts) (hProjSsd : Cert.ProjSsd.Facts) (hProjSsdIdeal : Cert.ProjSsdIdeal.Facts) (hProjSsdReferenceIdeal : Cert.ProjSsdReferenceIdeal.Facts) (hProjLru : Cert.ProjLru.Facts) (hProjLruIdeal : Cert.ProjLruIdeal.Facts) (hProjLruReferenceIdeal : Cert.ProjLruReferenceIdeal.Facts) (hProjGl : Cert.ProjGl.Facts) (hProjGlIdeal : Cert.ProjGlIdeal.Facts) (hProjGlReferenceIdeal : Cert.ProjGlReferenceIdeal.Facts) (hProjQ : Cert.ProjQ.Facts) (hProjQIdeal : Cert.ProjQIdeal.Facts) (hProjQReferenceIdeal : Cert.ProjQReferenceIdeal.Facts) (hBrSsd : Cert.BrSsd.Facts) (hBrSsdIdeal : Cert.BrSsdIdeal.Facts) (hBrSsdReferenceIdeal : Cert.BrSsdReferenceIdeal.Facts) (hOutProj : Cert.OutProj.Facts) (hOutProjIdeal : Cert.OutProjIdeal.Facts) (hOutProjReferenceIdeal : Cert.OutProjReferenceIdeal.Facts) (hFfnDown : Cert.FfnDown.Facts) (hFfnDownIdeal : Cert.FfnDownIdeal.Facts) (hFfnDownReferenceIdeal : Cert.FfnDownReferenceIdeal.Facts) (hXaFwd : Cert.XaFwd.Facts) (hXaFwdIdeal : Cert.XaFwdIdeal.Facts) (hXaFwdReferenceIdeal : Cert.XaFwdReferenceIdeal.Facts) (hMergeFwd : Cert.MergeFwd.Facts) (hMergeFwdIdeal : Cert.MergeFwdIdeal.Facts) (hMergeFwdReferenceIdeal : Cert.MergeFwdReferenceIdeal.Facts) (hLnFwd : Cert.LnFwd.Facts) (hLnFwdIdeal : Cert.LnFwdIdeal.Facts) (hLnFwdReferenceIdeal : Cert.LnFwdReferenceIdeal.Facts) (hLossHead : Cert.LossHead.Facts) (hLossHeadIdeal : Cert.LossHeadIdeal.Facts) (hLossHeadReferenceIdeal : Cert.LossHeadReferenceIdeal.Facts) (hKv : Cert.Kv.Facts) (hKvIdeal : Cert.KvIdeal.Facts) (hKvReferenceIdeal : Cert.KvReferenceIdeal.Facts) (hDwKv : Cert.DwKv.Facts) (hDwKvIdeal : Cert.DwKvIdeal.Facts) (hDwKvReferenceIdeal : Cert.DwKvReferenceIdeal.Facts) (hAdamIn : Cert.AdamIn.Facts) (hAdamInIdeal : Cert.AdamInIdeal.Facts) (hAdamInReferenceIdeal : Cert.AdamInReferenceIdeal.Facts) (hAdamKv : Cert.AdamKv.Facts) (hAdamKvIdeal : Cert.AdamKvIdeal.Facts) (hAdamKvReferenceIdeal : Cert.AdamKvReferenceIdeal.Facts) (hAdamBr : Cert.AdamBr.Facts) (hAdamBrIdeal : Cert.AdamBrIdeal.Facts) (hAdamBrReferenceIdeal : Cert.AdamBrReferenceIdeal.Facts) (hAdamBrSsd : Cert.AdamBrSsd.Facts) (hAdamBrSsdIdeal : Cert.AdamBrSsdIdeal.Facts) (hAdamBrSsdReferenceIdeal : Cert.AdamBrSsdReferenceIdeal.Facts) (hAdamFfnIn : Cert.AdamFfnIn.Facts) (hAdamFfnInIdeal : Cert.AdamFfnInIdeal.Facts) (hAdamFfnInReferenceIdeal : Cert.AdamFfnInReferenceIdeal.Facts) (hAdamFfnDown : Cert.AdamFfnDown.Facts) (hAdamFfnDownIdeal : Cert.AdamFfnDownIdeal.Facts) (hAdamFfnDownReferenceIdeal : Cert.AdamFfnDownReferenceIdeal.Facts) (hAdamTail : Cert.AdamTail.Facts) (hAdamTailIdeal : Cert.AdamTailIdeal.Facts) (hAdamTailReferenceIdeal : Cert.AdamTailReferenceIdeal.Facts) (hSlotSum : Cert.SlotSum.Facts) (hSlotSumIdeal : Cert.SlotSumIdeal.Facts) (hSlotSumReferenceIdeal : Cert.SlotSumReferenceIdeal.Facts) (hLruConv : Cert.LruConv.Facts) (hLruConvIdeal : Cert.LruConvIdeal.Facts) (hLruConvReferenceIdeal : Cert.LruConvReferenceIdeal.Facts) (hSsdBwd : Cert.SsdBwd.Facts) (hSsdBwdIdeal : Cert.SsdBwdIdeal.Facts) (hPre_finite : Cert.Pre_finite.Facts) (hPre_swiglu_finite : Cert.Pre_swiglu_finite.Facts) (hPre_norm_finite : Cert.Pre_norm_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Swiglu (hSwiglu := hSwiglu)
    ∧ quiescent_SwigluIdeal (hSwigluIdeal := hSwigluIdeal)
    ∧ quiescent_SwigluIdeal_pre_swiglu_finite (hSwigluIdeal := hSwigluIdeal) (hPre_swiglu_finite := hPre_swiglu_finite)
    ∧ quiescent_SwigluReferenceIdeal (hSwigluReferenceIdeal := hSwigluReferenceIdeal)
    ∧ quiescent_SwigluReferenceIdeal_pre_swiglu_finite (hSwigluReferenceIdeal := hSwigluReferenceIdeal) (hPre_swiglu_finite := hPre_swiglu_finite)
    ∧ quiescent_Gate (hGate := hGate)
    ∧ quiescent_GateIdeal (hGateIdeal := hGateIdeal)
    ∧ quiescent_GateReferenceIdeal (hGateReferenceIdeal := hGateReferenceIdeal)
    ∧ quiescent_Norm (hNorm := hNorm)
    ∧ quiescent_NormIdeal (hNormIdeal := hNormIdeal)
    ∧ quiescent_NormIdeal_pre_norm_finite (hNormIdeal := hNormIdeal) (hPre_norm_finite := hPre_norm_finite)
    ∧ quiescent_NormReferenceIdeal (hNormReferenceIdeal := hNormReferenceIdeal)
    ∧ quiescent_NormReferenceIdeal_pre_norm_finite (hNormReferenceIdeal := hNormReferenceIdeal) (hPre_norm_finite := hPre_norm_finite)
    ∧ quiescent_DwDown (hDwDown := hDwDown)
    ∧ quiescent_DwDownIdeal (hDwDownIdeal := hDwDownIdeal)
    ∧ quiescent_DwDownReferenceIdeal (hDwDownReferenceIdeal := hDwDownReferenceIdeal)
    ∧ quiescent_DwIn (hDwIn := hDwIn)
    ∧ quiescent_DwInIdeal (hDwInIdeal := hDwInIdeal)
    ∧ quiescent_DwInReferenceIdeal (hDwInReferenceIdeal := hDwInReferenceIdeal)
    ∧ quiescent_DxGate (hDxGate := hDxGate)
    ∧ quiescent_DxGateIdeal (hDxGateIdeal := hDxGateIdeal)
    ∧ quiescent_DxGateReferenceIdeal (hDxGateReferenceIdeal := hDxGateReferenceIdeal)
    ∧ quiescent_DxUp (hDxUp := hDxUp)
    ∧ quiescent_DxUpIdeal (hDxUpIdeal := hDxUpIdeal)
    ∧ quiescent_DxUpReferenceIdeal (hDxUpReferenceIdeal := hDxUpReferenceIdeal)
    ∧ quiescent_FfnIn (hFfnIn := hFfnIn)
    ∧ quiescent_FfnInIdeal (hFfnInIdeal := hFfnInIdeal)
    ∧ quiescent_FfnInReferenceIdeal (hFfnInReferenceIdeal := hFfnInReferenceIdeal)
    ∧ quiescent_DwSsd (hDwSsd := hDwSsd)
    ∧ quiescent_DwSsdIdeal (hDwSsdIdeal := hDwSsdIdeal)
    ∧ quiescent_DwSsdReferenceIdeal (hDwSsdReferenceIdeal := hDwSsdReferenceIdeal)
    ∧ quiescent_DwLru (hDwLru := hDwLru)
    ∧ quiescent_DwLruIdeal (hDwLruIdeal := hDwLruIdeal)
    ∧ quiescent_DwLruReferenceIdeal (hDwLruReferenceIdeal := hDwLruReferenceIdeal)
    ∧ quiescent_DwGl (hDwGl := hDwGl)
    ∧ quiescent_DwGlIdeal (hDwGlIdeal := hDwGlIdeal)
    ∧ quiescent_DwGlReferenceIdeal (hDwGlReferenceIdeal := hDwGlReferenceIdeal)
    ∧ quiescent_DwQ (hDwQ := hDwQ)
    ∧ quiescent_DwQIdeal (hDwQIdeal := hDwQIdeal)
    ∧ quiescent_DwQReferenceIdeal (hDwQReferenceIdeal := hDwQReferenceIdeal)
    ∧ quiescent_DwOut (hDwOut := hDwOut)
    ∧ quiescent_DwOutIdeal (hDwOutIdeal := hDwOutIdeal)
    ∧ quiescent_DwOutReferenceIdeal (hDwOutReferenceIdeal := hDwOutReferenceIdeal)
    ∧ quiescent_DwBrSsd (hDwBrSsd := hDwBrSsd)
    ∧ quiescent_DwBrSsdIdeal (hDwBrSsdIdeal := hDwBrSsdIdeal)
    ∧ quiescent_DwBrSsdReferenceIdeal (hDwBrSsdReferenceIdeal := hDwBrSsdReferenceIdeal)
    ∧ quiescent_DxSsd (hDxSsd := hDxSsd)
    ∧ quiescent_DxSsdIdeal (hDxSsdIdeal := hDxSsdIdeal)
    ∧ quiescent_DxSsdReferenceIdeal (hDxSsdReferenceIdeal := hDxSsdReferenceIdeal)
    ∧ quiescent_DxLru (hDxLru := hDxLru)
    ∧ quiescent_DxLruIdeal (hDxLruIdeal := hDxLruIdeal)
    ∧ quiescent_DxLruReferenceIdeal (hDxLruReferenceIdeal := hDxLruReferenceIdeal)
    ∧ quiescent_DxGl (hDxGl := hDxGl)
    ∧ quiescent_DxGlIdeal (hDxGlIdeal := hDxGlIdeal)
    ∧ quiescent_DxGlReferenceIdeal (hDxGlReferenceIdeal := hDxGlReferenceIdeal)
    ∧ quiescent_DxQ (hDxQ := hDxQ)
    ∧ quiescent_DxQIdeal (hDxQIdeal := hDxQIdeal)
    ∧ quiescent_DxQReferenceIdeal (hDxQReferenceIdeal := hDxQReferenceIdeal)
    ∧ quiescent_DMerged (hDMerged := hDMerged)
    ∧ quiescent_DMergedIdeal (hDMergedIdeal := hDMergedIdeal)
    ∧ quiescent_DMergedReferenceIdeal (hDMergedReferenceIdeal := hDMergedReferenceIdeal)
    ∧ quiescent_DyLru (hDyLru := hDyLru)
    ∧ quiescent_DyLruIdeal (hDyLruIdeal := hDyLruIdeal)
    ∧ quiescent_DyLruReferenceIdeal (hDyLruReferenceIdeal := hDyLruReferenceIdeal)
    ∧ quiescent_DySsd (hDySsd := hDySsd)
    ∧ quiescent_DySsdIdeal (hDySsdIdeal := hDySsdIdeal)
    ∧ quiescent_DySsdReferenceIdeal (hDySsdReferenceIdeal := hDySsdReferenceIdeal)
    ∧ quiescent_DyXa (hDyXa := hDyXa)
    ∧ quiescent_DyXaIdeal (hDyXaIdeal := hDyXaIdeal)
    ∧ quiescent_DyXaReferenceIdeal (hDyXaReferenceIdeal := hDyXaReferenceIdeal)
    ∧ quiescent_ProjSsd (hProjSsd := hProjSsd)
    ∧ quiescent_ProjSsdIdeal (hProjSsdIdeal := hProjSsdIdeal)
    ∧ quiescent_ProjSsdReferenceIdeal (hProjSsdReferenceIdeal := hProjSsdReferenceIdeal)
    ∧ quiescent_ProjLru (hProjLru := hProjLru)
    ∧ quiescent_ProjLruIdeal (hProjLruIdeal := hProjLruIdeal)
    ∧ quiescent_ProjLruReferenceIdeal (hProjLruReferenceIdeal := hProjLruReferenceIdeal)
    ∧ quiescent_ProjGl (hProjGl := hProjGl)
    ∧ quiescent_ProjGlIdeal (hProjGlIdeal := hProjGlIdeal)
    ∧ quiescent_ProjGlReferenceIdeal (hProjGlReferenceIdeal := hProjGlReferenceIdeal)
    ∧ quiescent_ProjQ (hProjQ := hProjQ)
    ∧ quiescent_ProjQIdeal (hProjQIdeal := hProjQIdeal)
    ∧ quiescent_ProjQReferenceIdeal (hProjQReferenceIdeal := hProjQReferenceIdeal)
    ∧ quiescent_BrSsd (hBrSsd := hBrSsd)
    ∧ quiescent_BrSsdIdeal (hBrSsdIdeal := hBrSsdIdeal)
    ∧ quiescent_BrSsdReferenceIdeal (hBrSsdReferenceIdeal := hBrSsdReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_FfnDown (hFfnDown := hFfnDown)
    ∧ quiescent_FfnDownIdeal (hFfnDownIdeal := hFfnDownIdeal)
    ∧ quiescent_FfnDownReferenceIdeal (hFfnDownReferenceIdeal := hFfnDownReferenceIdeal)
    ∧ quiescent_XaFwd (hXaFwd := hXaFwd)
    ∧ quiescent_XaFwdIdeal (hXaFwdIdeal := hXaFwdIdeal)
    ∧ quiescent_XaFwdReferenceIdeal (hXaFwdReferenceIdeal := hXaFwdReferenceIdeal)
    ∧ quiescent_MergeFwd (hMergeFwd := hMergeFwd)
    ∧ quiescent_MergeFwdIdeal (hMergeFwdIdeal := hMergeFwdIdeal)
    ∧ quiescent_MergeFwdReferenceIdeal (hMergeFwdReferenceIdeal := hMergeFwdReferenceIdeal)
    ∧ quiescent_LnFwd (hLnFwd := hLnFwd)
    ∧ quiescent_LnFwdIdeal (hLnFwdIdeal := hLnFwdIdeal)
    ∧ quiescent_LnFwdReferenceIdeal (hLnFwdReferenceIdeal := hLnFwdReferenceIdeal)
    ∧ quiescent_LossHead (hLossHead := hLossHead)
    ∧ quiescent_LossHeadIdeal (hLossHeadIdeal := hLossHeadIdeal)
    ∧ quiescent_LossHeadReferenceIdeal (hLossHeadReferenceIdeal := hLossHeadReferenceIdeal)
    ∧ quiescent_Kv (hKv := hKv)
    ∧ quiescent_KvIdeal (hKvIdeal := hKvIdeal)
    ∧ quiescent_KvReferenceIdeal (hKvReferenceIdeal := hKvReferenceIdeal)
    ∧ quiescent_DwKv (hDwKv := hDwKv)
    ∧ quiescent_DwKvIdeal (hDwKvIdeal := hDwKvIdeal)
    ∧ quiescent_DwKvReferenceIdeal (hDwKvReferenceIdeal := hDwKvReferenceIdeal)
    ∧ quiescent_AdamIn (hAdamIn := hAdamIn)
    ∧ quiescent_AdamInIdeal (hAdamInIdeal := hAdamInIdeal)
    ∧ quiescent_AdamInReferenceIdeal (hAdamInReferenceIdeal := hAdamInReferenceIdeal)
    ∧ quiescent_AdamKv (hAdamKv := hAdamKv)
    ∧ quiescent_AdamKvIdeal (hAdamKvIdeal := hAdamKvIdeal)
    ∧ quiescent_AdamKvReferenceIdeal (hAdamKvReferenceIdeal := hAdamKvReferenceIdeal)
    ∧ quiescent_AdamBr (hAdamBr := hAdamBr)
    ∧ quiescent_AdamBrIdeal (hAdamBrIdeal := hAdamBrIdeal)
    ∧ quiescent_AdamBrReferenceIdeal (hAdamBrReferenceIdeal := hAdamBrReferenceIdeal)
    ∧ quiescent_AdamBrSsd (hAdamBrSsd := hAdamBrSsd)
    ∧ quiescent_AdamBrSsdIdeal (hAdamBrSsdIdeal := hAdamBrSsdIdeal)
    ∧ quiescent_AdamBrSsdReferenceIdeal (hAdamBrSsdReferenceIdeal := hAdamBrSsdReferenceIdeal)
    ∧ quiescent_AdamFfnIn (hAdamFfnIn := hAdamFfnIn)
    ∧ quiescent_AdamFfnInIdeal (hAdamFfnInIdeal := hAdamFfnInIdeal)
    ∧ quiescent_AdamFfnInReferenceIdeal (hAdamFfnInReferenceIdeal := hAdamFfnInReferenceIdeal)
    ∧ quiescent_AdamFfnDown (hAdamFfnDown := hAdamFfnDown)
    ∧ quiescent_AdamFfnDownIdeal (hAdamFfnDownIdeal := hAdamFfnDownIdeal)
    ∧ quiescent_AdamFfnDownReferenceIdeal (hAdamFfnDownReferenceIdeal := hAdamFfnDownReferenceIdeal)
    ∧ quiescent_AdamTail (hAdamTail := hAdamTail)
    ∧ quiescent_AdamTailIdeal (hAdamTailIdeal := hAdamTailIdeal)
    ∧ quiescent_AdamTailReferenceIdeal (hAdamTailReferenceIdeal := hAdamTailReferenceIdeal)
    ∧ quiescent_SlotSum (hSlotSum := hSlotSum)
    ∧ quiescent_SlotSumIdeal (hSlotSumIdeal := hSlotSumIdeal)
    ∧ quiescent_SlotSumReferenceIdeal (hSlotSumReferenceIdeal := hSlotSumReferenceIdeal)
    ∧ quiescent_LruConv (hLruConv := hLruConv)
    ∧ quiescent_LruConvIdeal (hLruConvIdeal := hLruConvIdeal)
    ∧ quiescent_LruConvReferenceIdeal (hLruConvReferenceIdeal := hLruConvReferenceIdeal)
    ∧ quiescent_SsdBwd (hSsdBwd := hSsdBwd)
    ∧ quiescent_SsdBwdIdeal (hSsdBwdIdeal := hSsdBwdIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Swiglu_SwigluIdeal
    ∧ algebraic_SwigluIdeal_SwigluReferenceIdeal_pre_swiglu_finite (hSwigluIdeal := hSwigluIdeal) (hSwigluReferenceIdeal := hSwigluReferenceIdeal) (hPre_swiglu_finite := hPre_swiglu_finite)
    ∧ preserves_Gate_GateIdeal
    ∧ algebraic_GateIdeal_GateReferenceIdeal (hGateIdeal := hGateIdeal) (hGateReferenceIdeal := hGateReferenceIdeal)
    ∧ preserves_Norm_NormIdeal
    ∧ algebraic_NormIdeal_NormReferenceIdeal_pre_norm_finite (hNormIdeal := hNormIdeal) (hNormReferenceIdeal := hNormReferenceIdeal) (hPre_norm_finite := hPre_norm_finite)
    ∧ preserves_DwDown_DwDownIdeal
    ∧ algebraic_DwDownIdeal_DwDownReferenceIdeal (hDwDownIdeal := hDwDownIdeal) (hDwDownReferenceIdeal := hDwDownReferenceIdeal)
    ∧ preserves_DwIn_DwInIdeal
    ∧ algebraic_DwInIdeal_DwInReferenceIdeal (hDwInIdeal := hDwInIdeal) (hDwInReferenceIdeal := hDwInReferenceIdeal)
    ∧ preserves_DxGate_DxGateIdeal
    ∧ algebraic_DxGateIdeal_DxGateReferenceIdeal (hDxGateIdeal := hDxGateIdeal) (hDxGateReferenceIdeal := hDxGateReferenceIdeal)
    ∧ preserves_DxUp_DxUpIdeal
    ∧ algebraic_DxUpIdeal_DxUpReferenceIdeal (hDxUpIdeal := hDxUpIdeal) (hDxUpReferenceIdeal := hDxUpReferenceIdeal)
    ∧ preserves_FfnIn_FfnInIdeal
    ∧ algebraic_FfnInIdeal_FfnInReferenceIdeal (hFfnInIdeal := hFfnInIdeal) (hFfnInReferenceIdeal := hFfnInReferenceIdeal)
    ∧ preserves_DwSsd_DwSsdIdeal
    ∧ algebraic_DwSsdIdeal_DwSsdReferenceIdeal (hDwSsdIdeal := hDwSsdIdeal) (hDwSsdReferenceIdeal := hDwSsdReferenceIdeal)
    ∧ preserves_DwLru_DwLruIdeal
    ∧ algebraic_DwLruIdeal_DwLruReferenceIdeal (hDwLruIdeal := hDwLruIdeal) (hDwLruReferenceIdeal := hDwLruReferenceIdeal)
    ∧ preserves_DwGl_DwGlIdeal
    ∧ algebraic_DwGlIdeal_DwGlReferenceIdeal (hDwGlIdeal := hDwGlIdeal) (hDwGlReferenceIdeal := hDwGlReferenceIdeal)
    ∧ preserves_DwQ_DwQIdeal
    ∧ algebraic_DwQIdeal_DwQReferenceIdeal (hDwQIdeal := hDwQIdeal) (hDwQReferenceIdeal := hDwQReferenceIdeal)
    ∧ preserves_DwOut_DwOutIdeal
    ∧ algebraic_DwOutIdeal_DwOutReferenceIdeal (hDwOutIdeal := hDwOutIdeal) (hDwOutReferenceIdeal := hDwOutReferenceIdeal)
    ∧ preserves_DwBrSsd_DwBrSsdIdeal
    ∧ algebraic_DwBrSsdIdeal_DwBrSsdReferenceIdeal (hDwBrSsdIdeal := hDwBrSsdIdeal) (hDwBrSsdReferenceIdeal := hDwBrSsdReferenceIdeal)
    ∧ preserves_DxSsd_DxSsdIdeal
    ∧ algebraic_DxSsdIdeal_DxSsdReferenceIdeal (hDxSsdIdeal := hDxSsdIdeal) (hDxSsdReferenceIdeal := hDxSsdReferenceIdeal)
    ∧ preserves_DxLru_DxLruIdeal
    ∧ algebraic_DxLruIdeal_DxLruReferenceIdeal (hDxLruIdeal := hDxLruIdeal) (hDxLruReferenceIdeal := hDxLruReferenceIdeal)
    ∧ preserves_DxGl_DxGlIdeal
    ∧ algebraic_DxGlIdeal_DxGlReferenceIdeal (hDxGlIdeal := hDxGlIdeal) (hDxGlReferenceIdeal := hDxGlReferenceIdeal)
    ∧ preserves_DxQ_DxQIdeal
    ∧ algebraic_DxQIdeal_DxQReferenceIdeal (hDxQIdeal := hDxQIdeal) (hDxQReferenceIdeal := hDxQReferenceIdeal)
    ∧ preserves_DMerged_DMergedIdeal
    ∧ algebraic_DMergedIdeal_DMergedReferenceIdeal (hDMergedIdeal := hDMergedIdeal) (hDMergedReferenceIdeal := hDMergedReferenceIdeal)
    ∧ preserves_DyLru_DyLruIdeal
    ∧ algebraic_DyLruIdeal_DyLruReferenceIdeal (hDyLruIdeal := hDyLruIdeal) (hDyLruReferenceIdeal := hDyLruReferenceIdeal)
    ∧ preserves_DySsd_DySsdIdeal
    ∧ algebraic_DySsdIdeal_DySsdReferenceIdeal (hDySsdIdeal := hDySsdIdeal) (hDySsdReferenceIdeal := hDySsdReferenceIdeal)
    ∧ preserves_DyXa_DyXaIdeal
    ∧ algebraic_DyXaIdeal_DyXaReferenceIdeal (hDyXaIdeal := hDyXaIdeal) (hDyXaReferenceIdeal := hDyXaReferenceIdeal)
    ∧ preserves_ProjSsd_ProjSsdIdeal
    ∧ algebraic_ProjSsdIdeal_ProjSsdReferenceIdeal (hProjSsdIdeal := hProjSsdIdeal) (hProjSsdReferenceIdeal := hProjSsdReferenceIdeal)
    ∧ preserves_ProjLru_ProjLruIdeal
    ∧ algebraic_ProjLruIdeal_ProjLruReferenceIdeal (hProjLruIdeal := hProjLruIdeal) (hProjLruReferenceIdeal := hProjLruReferenceIdeal)
    ∧ preserves_ProjGl_ProjGlIdeal
    ∧ algebraic_ProjGlIdeal_ProjGlReferenceIdeal (hProjGlIdeal := hProjGlIdeal) (hProjGlReferenceIdeal := hProjGlReferenceIdeal)
    ∧ preserves_ProjQ_ProjQIdeal
    ∧ algebraic_ProjQIdeal_ProjQReferenceIdeal (hProjQIdeal := hProjQIdeal) (hProjQReferenceIdeal := hProjQReferenceIdeal)
    ∧ preserves_BrSsd_BrSsdIdeal
    ∧ algebraic_BrSsdIdeal_BrSsdReferenceIdeal (hBrSsdIdeal := hBrSsdIdeal) (hBrSsdReferenceIdeal := hBrSsdReferenceIdeal)
    ∧ preserves_OutProj_OutProjIdeal
    ∧ algebraic_OutProjIdeal_OutProjReferenceIdeal (hOutProjIdeal := hOutProjIdeal) (hOutProjReferenceIdeal := hOutProjReferenceIdeal)
    ∧ preserves_FfnDown_FfnDownIdeal
    ∧ algebraic_FfnDownIdeal_FfnDownReferenceIdeal (hFfnDownIdeal := hFfnDownIdeal) (hFfnDownReferenceIdeal := hFfnDownReferenceIdeal)
    ∧ preserves_XaFwd_XaFwdIdeal
    ∧ algebraic_XaFwdIdeal_XaFwdReferenceIdeal (hXaFwdIdeal := hXaFwdIdeal) (hXaFwdReferenceIdeal := hXaFwdReferenceIdeal)
    ∧ preserves_MergeFwd_MergeFwdIdeal
    ∧ algebraic_MergeFwdIdeal_MergeFwdReferenceIdeal (hMergeFwdIdeal := hMergeFwdIdeal) (hMergeFwdReferenceIdeal := hMergeFwdReferenceIdeal)
    ∧ preserves_LnFwd_LnFwdIdeal
    ∧ algebraic_LnFwdIdeal_LnFwdReferenceIdeal (hLnFwdIdeal := hLnFwdIdeal) (hLnFwdReferenceIdeal := hLnFwdReferenceIdeal)
    ∧ preserves_LossHead_LossHeadIdeal
    ∧ algebraic_LossHeadIdeal_LossHeadReferenceIdeal (hLossHeadIdeal := hLossHeadIdeal) (hLossHeadReferenceIdeal := hLossHeadReferenceIdeal)
    ∧ preserves_Kv_KvIdeal
    ∧ algebraic_KvIdeal_KvReferenceIdeal (hKvIdeal := hKvIdeal) (hKvReferenceIdeal := hKvReferenceIdeal)
    ∧ preserves_DwKv_DwKvIdeal
    ∧ algebraic_DwKvIdeal_DwKvReferenceIdeal (hDwKvIdeal := hDwKvIdeal) (hDwKvReferenceIdeal := hDwKvReferenceIdeal)
    ∧ preserves_AdamIn_AdamInIdeal
    ∧ algebraic_AdamInIdeal_AdamInReferenceIdeal (hAdamInIdeal := hAdamInIdeal) (hAdamInReferenceIdeal := hAdamInReferenceIdeal)
    ∧ preserves_AdamKv_AdamKvIdeal
    ∧ algebraic_AdamKvIdeal_AdamKvReferenceIdeal (hAdamKvIdeal := hAdamKvIdeal) (hAdamKvReferenceIdeal := hAdamKvReferenceIdeal)
    ∧ preserves_AdamBr_AdamBrIdeal
    ∧ algebraic_AdamBrIdeal_AdamBrReferenceIdeal (hAdamBrIdeal := hAdamBrIdeal) (hAdamBrReferenceIdeal := hAdamBrReferenceIdeal)
    ∧ preserves_AdamBrSsd_AdamBrSsdIdeal
    ∧ algebraic_AdamBrSsdIdeal_AdamBrSsdReferenceIdeal (hAdamBrSsdIdeal := hAdamBrSsdIdeal) (hAdamBrSsdReferenceIdeal := hAdamBrSsdReferenceIdeal)
    ∧ preserves_AdamFfnIn_AdamFfnInIdeal
    ∧ algebraic_AdamFfnInIdeal_AdamFfnInReferenceIdeal (hAdamFfnInIdeal := hAdamFfnInIdeal) (hAdamFfnInReferenceIdeal := hAdamFfnInReferenceIdeal)
    ∧ preserves_AdamFfnDown_AdamFfnDownIdeal
    ∧ algebraic_AdamFfnDownIdeal_AdamFfnDownReferenceIdeal (hAdamFfnDownIdeal := hAdamFfnDownIdeal) (hAdamFfnDownReferenceIdeal := hAdamFfnDownReferenceIdeal)
    ∧ preserves_AdamTail_AdamTailIdeal
    ∧ algebraic_AdamTailIdeal_AdamTailReferenceIdeal (hAdamTailIdeal := hAdamTailIdeal) (hAdamTailReferenceIdeal := hAdamTailReferenceIdeal)
    ∧ preserves_SlotSum_SlotSumIdeal
    ∧ algebraic_SlotSumIdeal_SlotSumReferenceIdeal (hSlotSumIdeal := hSlotSumIdeal) (hSlotSumReferenceIdeal := hSlotSumReferenceIdeal)
    ∧ preserves_LruConv_LruConvIdeal
    ∧ algebraic_LruConvIdeal_LruConvReferenceIdeal (hLruConvIdeal := hLruConvIdeal) (hLruConvReferenceIdeal := hLruConvReferenceIdeal)
    ∧ preserves_SsdBwd_SsdBwdIdeal
-- ==== Pre_finite.lean ====
abbrev S8192x1024 : Shape := ⟨2, ![8192, 1024]⟩
abbrev S256x2048 : Shape := ⟨2, ![256, 2048]⟩
abbrev S_ : Shape := ⟨0, ![]⟩
abbrev S256x1024 : Shape := ⟨2, ![256, 1024]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  slices_S256x2048_S256x1024_0_0 : S256x2048.Slices ![0, 0] S256x1024
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S8192x1024 .bf16) (main_arg1 : FVec F S256x2048 .f32) (main_arg2 : FVec F S8192x1024 .bf16) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S256x1024 .f32 := (extractStridedSlice S256x1024 ![0, 0] · slices_S256x2048_S256x1024_0_0) main_arg1
  let main_v6 : FVec F S256x1024 .f32 := Host.absf main_v5
  let main_cst_0 : FVec F S_ .f32 := constant S_ .f32 0x7F800000#32
  let main_v7 : FVec F S256x1024 .f32 := broadcastInDim S256x1024 ![] bcast_S_S256x1024 main_cst_0
  let main_v8 : IVec S256x1024 1 := cmpf .olt main_v6 main_v7
  let main_c_1 : IVec S_ 1 := constantI S_ 1 1#1
  let main_v9 : IVec S_ 1 := (fun x v => Host.reduce IntOp.andi x v reducesTo_S256x1024_S_d0_1 h_S_) main_v8 main_c_1
  let main_v10 : IVec S_ 1 := andi main_v4 main_v9
  main_v10
-- ==== Pre_norm_finite.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  main_v18

def fn {F : FTy → Type} [FloatOps F] (main_arg0 : FVec F S8192x1024 .f32) (main_arg1 : FVec F S8192x1024 .f32) (main_arg2 : FVec F S8192x1024 .f32) (main_arg3 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_v13 main_v16
-- ==== Pre_swiglu_finite.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bitsLt_bf16_f32 : FTy.bits .bf16 < FTy.bits .f32
  bcast_S_S2816x1024 : S_.BroadcastsInDim S2816x1024 (![] : Fin 0 → Fin S2816x1024.rank)
  reducesTo_S2816x1024_S_d0_1 : S2816x1024.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn {F : FTy → Type} [FloatOps F] (main_arg0 : FVec F S8192x1024 .f32) (main_arg1 : FVec F S2816x1024 .bf16) (main_arg2 : FVec F S8192x2816 .bf16) (main_arg3 : FVec F S8192x2816 .bf16) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_c_1 : IVec S_ 1 := constantI S_ 1 1#1
  let main_v8 : IVec S_ 1 := (fun x v => Host.reduce IntOp.andi x v reducesTo_S2816x1024_S_d0_1 h_S_) main_v7 main_c_1
  let main_v9 : IVec S_ 1 := andi main_v3 main_v8
  let main_v10 : FVec F S8192x2816 .f32 := (extf .f32 · bitsLt_bf16_f32) main_arg3
  let main_v11 : FVec F S8192x2816 .f32 := Host.absf main_v10
  let main_cst_2 : FVec F S_ .f32 := constant S_ .f32 0x7F800000#32
  let main_v12 : FVec F S8192x2816 .f32 := broadcastInDim S8192x2816 ![] bcast_S_S8192x2816 main_cst_2
  let main_v13 : IVec S8192x2816 1 := cmpf .olt main_v11 main_v12
  let main_c_3 : IVec S_ 1 := constantI S_ 1 1#1
  let main_v14 : IVec S_ 1 := (fun x v => Host.reduce IntOp.andi x v reducesTo_S8192x2816_S_d0_1 h_S_) main_v13 main_c_3
  let main_v15 : IVec S_ 1 := andi main_v9 main_v14
  main_v15
-- ==== Kernel.lean ====
abbrev S8192x1024 : Shape := ⟨2, ![8192, 1024]⟩
abbrev S256x2048 : Shape := ⟨2, ![256, 2048]⟩
abbrev S512x1024 : Shape := ⟨2, ![512, 1024]⟩
abbrev S256x256 : Shape := ⟨2, ![256, 256]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S256x2048, .f32⟩
  | .hbm, ⟨2, _⟩ => ⟨S8192x1024, .bf16⟩
  | .hbm, ⟨3, _⟩ => ⟨S8192x1024, .bf16⟩
  | .hbm, ⟨4, _⟩ => ⟨S256x2048, .f32⟩
  | .local _ .vmem, ⟨0, _⟩ => ⟨S512x1024, .bf16⟩
  | .local _ .vmem, ⟨1, _⟩ => ⟨S512x1024, .bf16⟩
  | .local _ .vmem, ⟨2, _⟩ => ⟨S256x2048, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S256x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S8192x1024 : Shape := ⟨2, ![8192, 1024]⟩
abbrev S256x2048 : Shape := ⟨2, ![256, 2048]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩
abbrev S4x256x256 : Shape := ⟨3, ![4, 256, 256]⟩

abbrev nBuf : Space → Nat
  | .hbm => 86
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S256x2048, .f32⟩
  | .hbm, ⟨2, _⟩ => ⟨S8192x1024, .bf16⟩
  | .hbm, ⟨3, _⟩ => ⟨S8192x1024, .f32⟩
  | .hbm, ⟨4, _⟩ => ⟨S256x1024, .f32⟩
  | .hbm, ⟨5, _⟩ => ⟨S256x1024, .f32⟩
  | .hbm, ⟨6, _⟩ => ⟨S8192x4x256, .f32⟩
  | .hbm, ⟨7, _⟩ => ⟨S256x4x256, .f32⟩
  | .hbm, ⟨8, _⟩ => ⟨S256x4x256, .f32⟩
  | .hbm, ⟨9, _⟩ => ⟨S4x8192x256, .f32⟩
  | .hbm, ⟨10, _⟩ => ⟨S_, .f32⟩
  | .hbm, ⟨11, _⟩ => ⟨S4x8192x256, .f32⟩
  | .hbm, ⟨12, _⟩ => ⟨S4x8192x256, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S4x8192x256, .f32⟩
  | .hbm, ⟨17, _⟩ => ⟨S4x8192x256, .i1⟩
  | .hbm, ⟨18, _⟩ => ⟨S4x8192x256, .f32⟩
  | .hbm, ⟨19, _⟩ => ⟨S_, .f32⟩
  | .hbm, ⟨20, _⟩ => ⟨S4x8192, .f32⟩
  | .hbm, ⟨21, _⟩ => ⟨S_, .f32⟩
  | .hbm, ⟨22, _⟩ => ⟨S4x8192, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S4x8192, .i1⟩
  | .hbm, ⟨27, _⟩ => ⟨S_, .f32⟩
  | .hbm, ⟨28, _⟩ => ⟨S4x8192, .f32⟩
  | .hbm, ⟨29, _⟩ => ⟨S4x8192, .i1⟩
  | .hbm, ⟨30, _⟩ => ⟨S_, .f32⟩
  | .hbm, ⟨31, _⟩ => ⟨S4x8192, .f32⟩
  | .hbm, ⟨32, _⟩ => ⟨S_, .f32⟩
  | .hbm, ⟨33, _⟩ => ⟨S4x8192, .f32⟩
  | .hbm, ⟨34, _⟩ => ⟨S_, .f32⟩
  | .hbm, ⟨35, _⟩ => ⟨S4x8192, .f32⟩
  | .hbm, ⟨36, _⟩ => ⟨S4x8192, .f32⟩
  | .hbm, ⟨37, _⟩ => ⟨S4x8192, .f32⟩
  | .hbm, ⟨38, _⟩ => ⟨S4x8192x1, .f32⟩
  | .hbm, ⟨39, _⟩ => ⟨S4x8192x256, .f32⟩
  | .hbm, ⟨40, _⟩ => ⟨S4x8192x256, .f32⟩
  | .hbm, ⟨41, _⟩ => ⟨S4x8192x256, .f32⟩
  | .hbm, ⟨42, _⟩ => ⟨S_, .f32⟩
  | .hbm, ⟨43, _⟩ => ⟨S4x8192, .f32⟩
  | .hbm, ⟨44, _⟩ => ⟨S4x8192x1, .f32⟩
  | .hbm, ⟨45, _⟩ => ⟨S4x8192x256, .f32⟩
  | .hbm, ⟨46, _⟩ => ⟨S4x8192x256, .f32⟩
  | .hbm, ⟨47, _⟩ => ⟨S4x8192x1, .f32⟩
  | .hbm, ⟨48, _⟩ => ⟨S_, .f32⟩
  | .hbm, ⟨49, _⟩ => ⟨S4x8192x1, .f32⟩
  | .hbm, ⟨50, _⟩ => ⟨S4x8192x1, .f32⟩
  | .hbm, ⟨51, _⟩ => ⟨S4x256x8192, .f32⟩
  | .hbm, ⟨52, _⟩ => ⟨S8192x4x256, .f32⟩
  | .hbm, ⟨53, _⟩ => ⟨S8192x1024, .f32⟩
  | .hbm, ⟨54, _⟩ => ⟨S8192x1024, .f32⟩
  | .hbm, ⟨55, _⟩ => ⟨S8192x4x256, .f32⟩
  | .hbm, ⟨56, _⟩ => ⟨S4x256x8192, .f32⟩
  | .hbm, ⟨57, _⟩ => ⟨S4x8192x256, .f32⟩
  | .hbm, ⟨58, _⟩ => ⟨S4x256x256, .f32⟩
  | .hbm, ⟨59, _⟩ => ⟨S256x4x256, .f32⟩
  | .hbm, ⟨60, _⟩ => ⟨S4x8192x256, .f32⟩
  | .hbm, ⟨61, _⟩ => ⟨S4x8192x256, .f32⟩
  | .hbm, ⟨62, _⟩ => ⟨S4x8192x256, .f32⟩
  | .hbm, ⟨63, _⟩ => ⟨S_, .f32⟩
  | .hbm, ⟨64, _⟩ => ⟨S4x8192, .f32⟩
  | .hbm, ⟨65, _⟩ => ⟨S4x8192x1, .f32⟩
  | .hbm, ⟨66, _⟩ => ⟨S4x8192x1, .f32⟩
  | .hbm, ⟨67, _⟩ => ⟨S4x8192x256, .f32⟩
  | .hbm, ⟨68, _⟩ => ⟨S4x8192x256, .f32⟩
  | .hbm, ⟨69, _⟩ => ⟨S_, .f32⟩
  | .hbm, ⟨70, _⟩ => ⟨S4x8192, .f32⟩
  | .hbm, ⟨71, _⟩ => ⟨S4x8192x256, .f32⟩
  | .hbm, ⟨72, _⟩ => ⟨S4x8192x256, .f32⟩
  | .hbm, ⟨73, _⟩ => ⟨S4x8192x256, .f32⟩
  | .hbm, ⟨74, _⟩ => ⟨S_, .f32⟩
  | .hbm, ⟨75, _⟩ => ⟨S4x8192x256, .f32⟩
  | .hbm, ⟨76, _⟩ => ⟨S4x8192x256, .f32⟩
  | .hbm, ⟨77, _⟩ => ⟨S4x256x256, .f32⟩
  | .hbm, ⟨78, _⟩ => ⟨S256x4x256, .f32⟩
  | .hbm, ⟨79, _⟩ => ⟨S4x8192x256, .f32⟩
  | .hbm, ⟨80, _⟩ => ⟨S8192x4x256, .f32⟩
  | .hbm, ⟨81, _⟩ => ⟨S256x1024, .f32⟩
  | .hbm, ⟨82, _⟩ => ⟨S256x1024, .f32⟩
  | .hbm, ⟨83, _⟩ => ⟨S8192x1024, .f32⟩
  | .hbm, ⟨84, _⟩ => ⟨S256x2048, .f32⟩
  | .hbm, ⟨85, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_10 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== Swiglu.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SwigluReferenceIdeal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S2816x1024, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .bf16⟩
  | .hbm, ⟨30, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== Gate.lean ====
abbrev S8192x3072 : Shape := ⟨2, ![8192, 3072]⟩
abbrev S1x3072 : Shape := ⟨2, ![1, 3072]⟩
abbrev S8192x1024 : Shape := ⟨2, ![8192, 1024]⟩
abbrev S512x3072 : Shape := ⟨2, ![512, 3072]⟩
abbrev S512x1024 : Shape := ⟨2, ![512, 1024]⟩
abbrev S1x1024 : Shape := ⟨2, ![1, 1024]⟩
abbrev S1024 : Shape := ⟨1, ![1024]⟩

abbrev nBuf : Space → Nat
  | .hbm => 11
  | .vmem => 20
  | .smem => 0
  | _ => 0

abbrev bufTy : (tb : Table) → Fin (tcTables nBuf tb) → BufTy
  | .hbm, ⟨0, _⟩ => ⟨S8192x3072, .bf16⟩
  | .hbm, ⟨1, _⟩ => ⟨S1x3072, .f32⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .f32⟩
  | .hbm, ⟨6, _⟩ => ⟨S8192x3072, .bf16⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S1x3072, .f32⟩
  | .local _ .vmem, ⟨0, _⟩ => ⟨S512x3072, .bf16⟩
  | .local _ .vmem, ⟨1, _⟩ => ⟨S512x3072, .bf16⟩
  | .local _ .vmem, ⟨2, _⟩ => ⟨S1x3072, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S512x3072, .bf16⟩
  | .local _ .vmem, ⟨12, _⟩ => ⟨S512x3072, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S1x3072, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== GateReferenceIdeal.lean ====
abbrev S8192x3072 : Shape := ⟨2, ![8192, 3072]⟩
abbrev S1x3072 : Shape := ⟨2, ![1, 3072]⟩
abbrev S8192x1024 : Shape := ⟨2, ![8192, 1024]⟩
abbrev S8192x3x1024 : Shape := ⟨3, ![8192, 3, 1024]⟩
abbrev S3x1024 : Shape := ⟨2, ![3, 1024]⟩
abbrev S1x3x1024 : Shape := ⟨3, ![1, 3, 1024]⟩
abbrev S_ : Shape := ⟨0, ![]⟩
abbrev S8192x1x1024 : Shape := ⟨3, ![8192, 1, 1024]⟩

abbrev nBuf : Space → Nat
  | .hbm => 69
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1x3072, .f32⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .f32⟩
  | .hbm, ⟨6, _⟩ => ⟨S8192x3072, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x3x1024, .f32⟩
  | .hbm, ⟨11, _⟩ => ⟨S3x1024, .f32⟩
  | .hbm, ⟨12, _⟩ => ⟨S1x3x1024, .f32⟩
  | .hbm, ⟨13, _⟩ => ⟨S8192x3x1024, .f32⟩
  | .hbm, ⟨14, _⟩ => ⟨S8192x3x1024, .f32⟩
  | .hbm, ⟨15, _⟩ => ⟨S8192x3x1024, .f32⟩
  | .hbm, ⟨16, _⟩ => ⟨S8192x3x1024, .f32⟩
  | .hbm, ⟨17, _⟩ => ⟨S_, .f32⟩
  | .hbm, ⟨18, _⟩ => ⟨S8192x3x1024, .f32⟩
  | .hbm, ⟨19, _⟩ => ⟨S8192x3x1024, .f32⟩
  | .hbm, ⟨20, _⟩ => ⟨S_, .f32⟩
  | .hbm, ⟨21, _⟩ => ⟨S8192x3x1024, .f32⟩
  | .hbm, ⟨22, _⟩ => ⟨S8192x3x1024, .f32⟩
  | .hbm, ⟨23, _⟩ => ⟨S_, .f32⟩
  | .hbm, ⟨24, _⟩ => ⟨S8192x3x1024, .f32⟩
  | .hbm, ⟨25, _⟩ => ⟨S8192x3x1024, .f32⟩
  | .hbm, ⟨26, _⟩ => ⟨S8192x3x1024, .f32⟩
  | .hbm, ⟨27, _⟩ => ⟨S8192x1x1024, .f32⟩
  | .hbm, ⟨28, _⟩ => ⟨S8192x1024, .f32⟩
  | .hbm, ⟨29, _⟩ => ⟨S8192x1024, .f32⟩
  | .hbm, ⟨30, _⟩ => ⟨S8192x1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1x1024, .f32⟩
  | .hbm, ⟨43, _⟩ => ⟨S_, .f32⟩
  | .hbm, ⟨44, _⟩ => ⟨S8192x3x1024, .f32⟩
  | .hbm, ⟨45, _⟩ => ⟨S8192x1024, .f32⟩
  | .hbm, ⟨46, _⟩ => ⟨S8192x1024, .f32⟩
  | .hbm, ⟨47, _⟩ => ⟨S8192x1x1024, .f32⟩
  | .hbm, ⟨48, _⟩ => ⟨S_, .f32⟩
  | .hbm, ⟨49, _⟩ => ⟨S8192x3x1024, .f32⟩
  | .hbm, ⟨50, _⟩ => ⟨S8192x3x1024, .f32⟩
  | .hbm, ⟨51, _⟩ => ⟨S8192x1024, .f32⟩
  | .hbm, ⟨52, _⟩ => ⟨S8192x1024, .f32⟩
  | .hbm, ⟨53, _⟩ => ⟨S8192x1x1024, .f32⟩
  | .hbm, ⟨54, _⟩ => ⟨S_, .f32⟩
  | .hbm, ⟨55, _⟩ => ⟨S8192x3x1024, .f32⟩
  | .hbm, ⟨56, _⟩ => ⟨S8192x3x1024, .f32⟩
  | .hbm, ⟨57, _⟩ => ⟨S8192x3x1024, .f32⟩
  | .hbm, ⟨58, _⟩ => ⟨S_, .f32⟩
  | .hbm, ⟨59, _⟩ => ⟨S3x1024, .f32⟩
  | .hbm, ⟨60, _⟩ => ⟨S1x3x1024, .f32⟩
  | .hbm, ⟨61, _⟩ => ⟨S_, .f32⟩
  | .hbm, ⟨62, _⟩ => ⟨S3x1024, .f32⟩
  | .hbm, ⟨63, _⟩ => ⟨S1x3072, .f32⟩
  | .hbm, ⟨64, _⟩ => ⟨S8192x3072, .f32⟩
  | .hbm, ⟨65, _⟩ => ⟨S8192x3072, .bf16⟩
  | .hbm, ⟨66, _⟩ => ⟨S8192x1024, .bf16⟩
  | .hbm, ⟨67, _⟩ => ⟨S8192x1024, .bf16⟩
  | .hbm, ⟨68, _⟩ => ⟨S8192x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_4 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_5 : Ref sig .tc := ⟨.hbm, 58, rfl⟩
abbrev main_v46 : Ref sig .tc := ⟨.hbm, 59, rfl⟩
abbrev main_v47 : Ref sig .tc := ⟨.hbm, 60, rfl⟩
abbrev main_cst_6 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩

abbrev nD : Nat := 1
abbrev τ : Topo := Topo.v7x

variable {F : FTy → Type} [FloatOps F]
-- ==== Norm.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormReferenceIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 85
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S8192x1024, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S_, .f32⟩
  | .hbm, ⟨82, _⟩ => ⟨S8192, .f32⟩
  | .hbm, ⟨83, _⟩ => ⟨S8192x1024, .f32⟩
  | .hbm, ⟨84, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_cst_12 : Ref sig .tc := ⟨.hbm, 65, rfl⟩
abbrev main_v48 : Ref sig .tc := ⟨.hbm, 66, rfl⟩
abbrev main_v49 : Ref sig .tc := ⟨.hbm, 67, rfl⟩
abbrev main_cst_13 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_14 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_15 : Ref sig .tc := ⟨.hbm, 78, rfl⟩
abbrev main_v58 : Ref sig .tc := ⟨.hbm, 79, rfl⟩
abbrev main_v59 : Ref sig .tc := ⟨.hbm, 80, rfl⟩
abbrev main_cst_16 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]
-- ==== DwDown.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownReferenceIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S1024x2816, .f32⟩
  | .hbm, ⟨7, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwIn.lean ====
abbrev S8192x2816 : Shape := ⟨2, ![8192, 2816]⟩
abbrev S8192x1024 : Shape := ⟨2, ![8192, 1024]⟩
abbrev S2816x1024 : Shape := ⟨2, ![2816, 1024]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInReferenceIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S8192x2816, .f32⟩
  | .hbm, ⟨7, _⟩ => ⟨S8192x2816, .f32⟩
  | .hbm, ⟨8, _⟩ => ⟨S2816x1024, .f32⟩
  | .hbm, ⟨9, _⟩ => ⟨S1024x2816, .f32⟩
  | .hbm, ⟨10, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DxGate.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DxGateReferenceIdeal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩
abbrev S1024x2816 : Shape := ⟨2, ![1024, 2816]⟩

abbrev nBuf : Space → Nat
  | .hbm => 17
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S2816x1024, .f32⟩
  | .hbm, ⟨6, _⟩ => ⟨S1024x2816, .f32⟩
  | .hbm, ⟨7, _⟩ => ⟨S8192x2816, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x2816, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== DxUp.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DxUpReferenceIdeal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S2816x1024, .f32⟩
  | .hbm, ⟨6, _⟩ => ⟨S1024x2816, .f32⟩
  | .hbm, ⟨7, _⟩ => ⟨S8192x2816, .f32⟩
  | .hbm, ⟨8, _⟩ => ⟨S8192x2816, .f32⟩
  | .hbm, ⟨9, _⟩ => ⟨S8192x1024, .f32⟩
  | .hbm, ⟨10, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== FfnIn.lean ====
abbrev S8192x1024 : Shape := ⟨2, ![8192, 1024]⟩
abbrev S5632x1024 : Shape := ⟨2, ![5632, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 5
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnInReferenceIdeal.lean ====
abbrev S8192x1024 : Shape := ⟨2, ![8192, 1024]⟩
abbrev S5632x1024 : Shape := ⟨2, ![5632, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x1024, .f32⟩
  | .hbm, ⟨3, _⟩ => ⟨S5632x1024, .f32⟩
  | .hbm, ⟨4, _⟩ => ⟨S1024x5632, .f32⟩
  | .hbm, ⟨5, _⟩ => ⟨S8192x5632, .f32⟩
  | .hbm, ⟨6, _⟩ => ⟨S8192x2816, .f32⟩
  | .hbm, ⟨7, _⟩ => ⟨S8192x2816, .f32⟩
  | .hbm, ⟨8, _⟩ => ⟨S8192x2816, .bf16⟩
  | .hbm, ⟨9, _⟩ => ⟨S8192x2816, .bf16⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== DwSsd.lean ====
abbrev S8192x1024 : Shape := ⟨2, ![8192, 1024]⟩
abbrev S8192x5632 : Shape := ⟨2, ![8192, 5632]⟩
abbrev S1024x5632 : Shape := ⟨2, ![1024, 5632]⟩
abbrev S4096x512 : Shape := ⟨2, ![4096, 512]⟩
abbrev S4096x1408 : Shape := ⟨2, ![4096, 1408]⟩
abbrev S512x1408 : Shape := ⟨2, ![512, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .f32⟩
  | .local _ .vmem, ⟨0, _⟩ => ⟨S4096x512, .bf16⟩
  | .local _ .vmem, ⟨1, _⟩ => ⟨S4096x512, .bf16⟩
  | .local _ .vmem, ⟨2, _⟩ => ⟨S4096x1408, .bf16⟩
  | .local _ .vmem, ⟨3, _⟩ => ⟨S4096x1408, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwSsdReferenceIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwLru.lean ====
abbrev S8192x1024 : Shape := ⟨2, ![8192, 1024]⟩
abbrev S8192x2048 : Shape := ⟨2, ![8192, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwLruReferenceIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwGl.lean ====
abbrev S8192x1024 : Shape := ⟨2, ![8192, 1024]⟩
abbrev S8192x3072 : Shape := ⟨2, ![8192, 3072]⟩
abbrev S1024x3072 : Shape := ⟨2, ![1024, 3072]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwGlReferenceIdeal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwQ.lean ====
abbrev S8192x1024 : Shape := ⟨2, ![8192, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwQReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwOut.lean ====
abbrev S8192x1024 : Shape := ⟨2, ![8192, 1024]⟩
abbrev S1024x1024 : Shape := ⟨2, ![1024, 1024]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwBrSsd.lean ====
abbrev S8192x2048 : Shape := ⟨2, ![8192, 2048]⟩
abbrev S8192x1024 : Shape := ⟨2, ![8192, 1024]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwBrSsdReferenceIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S_, .f32⟩
  | .hbm, ⟨3, _⟩ => ⟨S2048x1024, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DxSsd.lean ====
abbrev S8192x5632 : Shape := ⟨2, ![8192, 5632]⟩
abbrev S1024x5632 : Shape := ⟨2, ![1024, 5632]⟩
abbrev S8192x1024 : Shape := ⟨2, ![8192, 1024]⟩
abbrev S512x5632 : Shape := ⟨2, ![512, 5632]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .hbm, ⟨3, _⟩ => ⟨S8192x1024, .f32⟩
  | .local _ .vmem, ⟨0, _⟩ => ⟨S512x5632, .bf16⟩
  | .local _ .vmem, ⟨1, _⟩ => ⟨S512x5632, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DxSsdReferenceIdeal.lean ====
abbrev S8192x5632 : Shape := ⟨2, ![8192, 5632]⟩
abbrev S1024x5632 : Shape := ⟨2, ![1024, 5632]⟩
abbrev S8192x1024 : Shape := ⟨2, ![8192, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1024x5632, .f32⟩
  | .hbm, ⟨6, _⟩ => ⟨S8192x5632, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x5632, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== DxLru.lean ====
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .f32⟩
  | .hbm, ⟨3, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DxLruReferenceIdeal.lean ====
abbrev S8192x2048 : Shape := ⟨2, ![8192, 2048]⟩
abbrev S1024x2048 : Shape := ⟨2, ![1024, 2048]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1024x2048, .f32⟩
  | .hbm, ⟨6, _⟩ => ⟨S8192x2048, .f32⟩
  | .hbm, ⟨7, _⟩ => ⟨S8192x2048, .f32⟩
  | .hbm, ⟨8, _⟩ => ⟨S8192x1024, .f32⟩
  | .hbm, ⟨9, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== DxGl.lean ====
abbrev S8192x3072 : Shape := ⟨2, ![8192, 3072]⟩
abbrev S1024x3072 : Shape := ⟨2, ![1024, 3072]⟩
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .hbm, ⟨3, _⟩ => ⟨S8192x1024, .f32⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DxGlReferenceIdeal.lean ====
abbrev S8192x3072 : Shape := ⟨2, ![8192, 3072]⟩
abbrev S1024x3072 : Shape := ⟨2, ![1024, 3072]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1024x3072, .f32⟩
  | .hbm, ⟨6, _⟩ => ⟨S8192x3072, .f32⟩
  | .hbm, ⟨7, _⟩ => ⟨S8192x3072, .f32⟩
  | .hbm, ⟨8, _⟩ => ⟨S8192x1024, .f32⟩
  | .hbm, ⟨9, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== DxQ.lean ====
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DxQReferenceIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== DMerged.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMergedReferenceIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DyLru.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DyLruReferenceIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DySsd.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DySsdReferenceIdeal.lean ====
abbrev S8192x1024 : Shape := ⟨2, ![8192, 1024]⟩
abbrev S2048x1024 : Shape := ⟨2, ![2048, 1024]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S_, .f32⟩
  | .hbm, ⟨3, _⟩ => ⟨S8192x2048, .f32⟩
  | .hbm, ⟨4, _⟩ => ⟨S2048x1024, .f32⟩
  | .hbm, ⟨5, _⟩ => ⟨S8192x1024, .f32⟩
  | .hbm, ⟨6, _⟩ => ⟨S8192x1024, .f32⟩
  | .hbm, ⟨7, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DyXa.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DyXaReferenceIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProjSsd.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjSsdReferenceIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjLru.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjLruReferenceIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjGl.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjGlReferenceIdeal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S8192x3072, .f32⟩
  | .hbm, ⟨5, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjQ.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjQReferenceIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BrSsd.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrSsdReferenceIdeal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x2048, .f32⟩
  | .hbm, ⟨3, _⟩ => ⟨S2048x1024, .f32⟩
  | .hbm, ⟨4, _⟩ => ⟨S8192x1024, .f32⟩
  | .hbm, ⟨5, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutProj.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjReferenceIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnDown.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownReferenceIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .f32⟩
  | .hbm, ⟨3, _⟩ => ⟨S2816x1024, .f32⟩
  | .hbm, ⟨4, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== XaFwd.lean ====
abbrev S8192x1024 : Shape := ⟨2, ![8192, 1024]⟩
abbrev S256x2048 : Shape := ⟨2, ![256, 2048]⟩
abbrev S512x1024 : Shape := ⟨2, ![512, 1024]⟩
abbrev S256x256 : Shape := ⟨2, ![256, 256]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S256x2048, .f32⟩
  | .hbm, ⟨2, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S256x2048, .f32⟩
  | .local _ .vmem, ⟨3, _⟩ => ⟨S512x1024, .bf16⟩
  | .local _ .vmem, ⟨4, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== XaFwdReferenceIdeal.lean ====
abbrev S8192x1024 : Shape := ⟨2, ![8192, 1024]⟩
abbrev S256x2048 : Shape := ⟨2, ![256, 2048]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S256x2048, .f32⟩
  | .hbm, ⟨2, _⟩ => ⟨S8192x1024, .f32⟩
  | .hbm, ⟨3, _⟩ => ⟨S256x1024, .f32⟩
  | .hbm, ⟨4, _⟩ => ⟨S256x1024, .f32⟩
  | .hbm, ⟨5, _⟩ => ⟨S8192x4x256, .f32⟩
  | .hbm, ⟨6, _⟩ => ⟨S256x4x256, .f32⟩
  | .hbm, ⟨7, _⟩ => ⟨S256x4x256, .f32⟩
  | .hbm, ⟨8, _⟩ => ⟨S4x8192x256, .f32⟩
  | .hbm, ⟨9, _⟩ => ⟨S_, .f32⟩
  | .hbm, ⟨10, _⟩ => ⟨S4x8192x256, .f32⟩
  | .hbm, ⟨11, _⟩ => ⟨S4x8192x256, .f32⟩
  | .hbm, ⟨12, _⟩ => ⟨S_, .f32⟩
  | .hbm, ⟨13, _⟩ => ⟨S4x8192, .f32⟩
  | .hbm, ⟨14, _⟩ => ⟨S_, .f32⟩
  | .hbm, ⟨15, _⟩ => ⟨S4x8192, .f32⟩
  | .hbm, ⟨16, _⟩ => ⟨S4x8192, .f32⟩
  | .hbm, ⟨17, _⟩ => ⟨S4x8192x1, .f32⟩
  | .hbm, ⟨18, _⟩ => ⟨S4x8192x256, .f32⟩
  | .hbm, ⟨19, _⟩ => ⟨S4x8192x256, .f32⟩
  | .hbm, ⟨20, _⟩ => ⟨S4x8192x256, .f32⟩
  | .hbm, ⟨21, _⟩ => ⟨S_, .f32⟩
  | .hbm, ⟨22, _⟩ => ⟨S4x8192, .f32⟩
  | .hbm, ⟨23, _⟩ => ⟨S4x8192x1, .f32⟩
  | .hbm, ⟨24, _⟩ => ⟨S4x8192x256, .f32⟩
  | .hbm, ⟨25, _⟩ => ⟨S4x8192x256, .f32⟩
  | .hbm, ⟨26, _⟩ => ⟨S4x256x8192, .f32⟩
  | .hbm, ⟨27, _⟩ => ⟨S8192x4x256, .f32⟩
  | .hbm, ⟨28, _⟩ => ⟨S8192x1024, .f32⟩
  | .hbm, ⟨29, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== MergeFwd.lean ====
abbrev S8192x3072 : Shape := ⟨2, ![8192, 3072]⟩
abbrev S1x3072 : Shape := ⟨2, ![1, 3072]⟩
abbrev S8192x1024 : Shape := ⟨2, ![8192, 1024]⟩
abbrev S512x3072 : Shape := ⟨2, ![512, 3072]⟩
abbrev S512x1024 : Shape := ⟨2, ![512, 1024]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S8192x3072, .bf16⟩
  | .hbm, ⟨1, _⟩ => ⟨S1x3072, .f32⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .local _ .vmem, ⟨0, _⟩ => ⟨S512x3072, .bf16⟩
  | .local _ .vmem, ⟨1, _⟩ => ⟨S512x3072, .bf16⟩
  | .local _ .vmem, ⟨2, _⟩ => ⟨S1x3072, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MergeFwdReferenceIdeal.lean ====
abbrev S8192x3072 : Shape := ⟨2, ![8192, 3072]⟩
abbrev S1x3072 : Shape := ⟨2, ![1, 3072]⟩
abbrev S8192x1024 : Shape := ⟨2, ![8192, 1024]⟩
abbrev S8192x3x1024 : Shape := ⟨3, ![8192, 3, 1024]⟩
abbrev S3x1024 : Shape := ⟨2, ![3, 1024]⟩
abbrev S1x3x1024 : Shape := ⟨3, ![1, 3, 1024]⟩
abbrev S_ : Shape := ⟨0, ![]⟩
abbrev S8192x1x1024 : Shape := ⟨3, ![8192, 1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1x3072, .f32⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x3072, .f32⟩
  | .hbm, ⟨6, _⟩ => ⟨S8192x3x1024, .f32⟩
  | .hbm, ⟨7, _⟩ => ⟨S3x1024, .f32⟩
  | .hbm, ⟨8, _⟩ => ⟨S1x3x1024, .f32⟩
  | .hbm, ⟨9, _⟩ => ⟨S8192x3x1024, .f32⟩
  | .hbm, ⟨10, _⟩ => ⟨S8192x3x1024, .f32⟩
  | .hbm, ⟨11, _⟩ => ⟨S8192x3x1024, .f32⟩
  | .hbm, ⟨12, _⟩ => ⟨S8192x3x1024, .f32⟩
  | .hbm, ⟨13, _⟩ => ⟨S_, .f32⟩
  | .hbm, ⟨14, _⟩ => ⟨S8192x3x1024, .f32⟩
  | .hbm, ⟨15, _⟩ => ⟨S8192x3x1024, .f32⟩
  | .hbm, ⟨16, _⟩ => ⟨S_, .f32⟩
  | .hbm, ⟨17, _⟩ => ⟨S8192x3x1024, .f32⟩
  | .hbm, ⟨18, _⟩ => ⟨S8192x3x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1x1024, .f32⟩
  | .hbm, ⟨23, _⟩ => ⟨S8192x1024, .f32⟩
  | .hbm, ⟨24, _⟩ => ⟨S8192x1024, .f32⟩
  | .hbm, ⟨25, _⟩ => ⟨S8192x1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== LnFwd.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LnFwdReferenceIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== LossHead.lean ====
abbrev S8192x1024 : Shape := ⟨2, ![8192, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossHeadReferenceIdeal.lean ====
abbrev S8192x1024 : Shape := ⟨2, ![8192, 1024]⟩
abbrev S_ : Shape := ⟨0, ![]⟩
abbrev S8192 : Shape := ⟨1, ![8192]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kv.lean ====
abbrev S256x1024 : Shape := ⟨2, ![256, 1024]⟩
abbrev S1024x2048 : Shape := ⟨2, ![1024, 2048]⟩
abbrev S256x2048 : Shape := ⟨2, ![256, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1024x2048, .bf16⟩
  | .hbm, ⟨2, _⟩ => ⟨S256x2048, .f32⟩
  | .local _ .vmem, ⟨0, _⟩ => ⟨S256x1024, .f32⟩
  | .local _ .vmem, ⟨1, _⟩ => ⟨S1024x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvReferenceIdeal.lean ====
abbrev S256x1024 : Shape := ⟨2, ![256, 1024]⟩
abbrev S1024x2048 : Shape := ⟨2, ![1024, 2048]⟩
abbrev S256x2048 : Shape := ⟨2, ![256, 2048]⟩

abbrev nBuf : Space → Nat
  | .hbm => 4
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x2048, .bf16⟩
  | .hbm, ⟨2, _⟩ => ⟨S1024x2048, .f32⟩
  | .hbm, ⟨3, _⟩ => ⟨S256x2048, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DwKv.lean ====
abbrev S256x1024 : Shape := ⟨2, ![256, 1024]⟩
abbrev S256x2048 : Shape := ⟨2, ![256, 2048]⟩
abbrev S8x1024x256 : Shape := ⟨3, ![8, 1024, 256]⟩
abbrev S256x256 : Shape := ⟨2, ![256, 256]⟩
abbrev S1x1024x256 : Shape := ⟨3, ![1, 1024, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S256x2048, .f32⟩
  | .hbm, ⟨2, _⟩ => ⟨S8x1024x256, .f32⟩
  | .local _ .vmem, ⟨0, _⟩ => ⟨S256x1024, .f32⟩
  | .local _ .vmem, ⟨1, _⟩ => ⟨S256x256, .f32⟩
  | .local _ .vmem, ⟨2, _⟩ => ⟨S256x256, .f32⟩
  | .local _ .vmem, ⟨3, _⟩ => ⟨S1x1024x256, .f32⟩
  | .local _ .vmem, ⟨4, _⟩ => ⟨S1x1024x256, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwKvReferenceIdeal.lean ====
abbrev S256x1024 : Shape := ⟨2, ![256, 1024]⟩
abbrev S256x2048 : Shape := ⟨2, ![256, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x2048, .f32⟩
  | .hbm, ⟨2, _⟩ => ⟨S_, .f32⟩
  | .hbm, ⟨3, _⟩ => ⟨S1024x2048, .f32⟩
  | .hbm, ⟨4, _⟩ => ⟨S256x2048, .f32⟩
  | .hbm, ⟨5, _⟩ => ⟨S2048x1024, .f32⟩
  | .hbm, ⟨6, _⟩ => ⟨S1024x2048, .f32⟩
  | .hbm, ⟨7, _⟩ => ⟨S1024x8x256, .f32⟩
  | .hbm, ⟨8, _⟩ => ⟨S8x1024x256, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AdamIn.lean ====
abbrev S4x1024x1412 : Shape := ⟨3, ![4, 1024, 1412]⟩
abbrev S2x1024x1412 : Shape := ⟨3, ![2, 1024, 1412]⟩
abbrev S4x128x1412 : Shape := ⟨3, ![4, 128, 1412]⟩
abbrev S1x128x1412 : Shape := ⟨3, ![1, 128, 1412]⟩
abbrev S128x1412 : Shape := ⟨2, ![128, 1412]⟩

abbrev nBuf : Space → Nat
  | .hbm => 9
  | .vmem => 18
  | .smem => 0
  | _ => 0

abbrev bufTy : (tb : Table) → Fin (tcTables nBuf tb) → BufTy
  | .hbm, ⟨0, _⟩ => ⟨S4x1024x1412, .bf16⟩
  | .hbm, ⟨1, _⟩ => ⟨S4x1024x1412, .bf16⟩
  | .hbm, ⟨2, _⟩ => ⟨S2x1024x1412, .f32⟩
  | .hbm, ⟨3, _⟩ => ⟨S2x1024x1412, .f32⟩
  | .hbm, ⟨4, _⟩ => ⟨S2x1024x1412, .f32⟩
  | .hbm, ⟨5, _⟩ => ⟨S2x1024x1412, .f32⟩
  | .hbm, ⟨6, _⟩ => ⟨S2x1024x1412, .f32⟩
  | .hbm, ⟨7, _⟩ => ⟨S2x1024x1412, .f32⟩
  | .hbm, ⟨8, _⟩ => ⟨S2x1024x1412, .f32⟩
  | .local _ .vmem, ⟨0, _⟩ => ⟨S4x128x1412, .bf16⟩
  | .local _ .vmem, ⟨1, _⟩ => ⟨S4x128x1412, .bf16⟩
  | .local _ .vmem, ⟨2, _⟩ => ⟨S4x128x1412, .bf16⟩
  | .local _ .vmem, ⟨3, _⟩ => ⟨S4x128x1412, .bf16⟩
  | .local _ .vmem, ⟨4, _⟩ => ⟨S1x128x1412, .f32⟩
  | .local _ .vmem, ⟨5, _⟩ => ⟨S1x128x1412, .f32⟩
  | .local _ .vmem, ⟨6, _⟩ => ⟨S1x128x1412, .f32⟩
  | .local _ .vmem, ⟨7, _⟩ => ⟨S1x128x1412, .f32⟩
  | .local _ .vmem, ⟨8, _⟩ => ⟨S1x128x1412, .f32⟩
  | .local _ .vmem, ⟨9, _⟩ => ⟨S1x128x1412, .f32⟩
  | .local _ .vmem, ⟨10, _⟩ => ⟨S1x128x1412, .f32⟩
  | .local _ .vmem, ⟨11, _⟩ => ⟨S1x128x1412, .f32⟩
  | .local _ .vmem, ⟨12, _⟩ => ⟨S1x128x1412, .f32⟩
  | .local _ .vmem, ⟨13, _⟩ => ⟨S1x128x1412, .f32⟩
  | .local _ .vmem, ⟨14, _⟩ => ⟨S1x128x1412, .f32⟩
  | .local _ .vmem, ⟨15, _⟩ => ⟨S1x128x1412, .f32⟩
  | .local _ .vmem, ⟨16, _⟩ => ⟨S1x128x1412, .f32⟩
  | .local _ .vmem, ⟨17, _⟩ => ⟨S1x128x1412, .f32⟩
  | _, _ => ⟨S4x1024x1412, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x128x1412 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128x1412 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1412 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1412 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1412 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1412 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1412 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1412 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1412 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamInReferenceIdeal.lean ====
abbrev S4x1024x1412 : Shape := ⟨3, ![4, 1024, 1412]⟩
abbrev S2x1024x1412 : Shape := ⟨3, ![2, 1024, 1412]⟩
abbrev S_ : Shape := ⟨0, ![]⟩
abbrev S1024x1412 : Shape := ⟨2, ![1024, 1412]⟩
abbrev S1x1024x1412 : Shape := ⟨3, ![1, 1024, 1412]⟩

abbrev nBuf : Space → Nat
  | .hbm => 47
  | .vmem => 0
  | .smem => 0
  | _ => 0

abbrev bufTy : (tb : Table) → Fin (tcTables nBuf tb) → BufTy
  | .hbm, ⟨0, _⟩ => ⟨S4x1024x1412, .bf16⟩
  | .hbm, ⟨1, _⟩ => ⟨S4x1024x1412, .bf16⟩
  | .hbm, ⟨2, _⟩ => ⟨S2x1024x1412, .f32⟩
  | .hbm, ⟨3, _⟩ => ⟨S2x1024x1412, .f32⟩
  | .hbm, ⟨4, _⟩ => ⟨S2x1024x1412, .f32⟩
  | .hbm, ⟨5, _⟩ => ⟨S4x1024x1412, .f32⟩
  | .hbm, ⟨6, _⟩ => ⟨S_, .f32⟩
  | .hbm, ⟨7, _⟩ => ⟨S1024x1412, .f32⟩
  | .hbm, ⟨8, _⟩ => ⟨S4x1024x1412, .f32⟩
  | .hbm, ⟨9, _⟩ => ⟨S_, .f32⟩
  | .hbm, ⟨10, _⟩ => ⟨S1024x1412, .f32⟩
  | .hbm, ⟨11, _⟩ => ⟨S1x1024x1412, .f32⟩
  | .hbm, ⟨12, _⟩ => ⟨S1x1024x1412, .f32⟩
  | .hbm, ⟨13, _⟩ => ⟨S2x1024x1412, .f32⟩
  | .hbm, ⟨14, _⟩ => ⟨S_, .f32⟩
  | .hbm, ⟨15, _⟩ => ⟨S2x1024x1412, .f32⟩
  | .hbm, ⟨16, _⟩ => ⟨S2x1024x1412, .f32⟩
  | .hbm, ⟨17, _⟩ => ⟨S_, .f32⟩
  | .hbm, ⟨18, _⟩ => ⟨S2x1024x1412, .f32⟩
  | .hbm, ⟨19, _⟩ => ⟨S2x1024x1412, .f32⟩
  | .hbm, ⟨20, _⟩ => ⟨S2x1024x1412, .f32⟩
  | .hbm, ⟨21, _⟩ => ⟨S_, .f32⟩
  | .hbm, ⟨22, _⟩ => ⟨S2x1024x1412, .f32⟩
  | .hbm, ⟨23, _⟩ => ⟨S2x1024x1412, .f32⟩
  | .hbm, ⟨24, _⟩ => ⟨S2x1024x1412, .f32⟩
  | .hbm, ⟨25, _⟩ => ⟨S_, .f32⟩
  | .hbm, ⟨26, _⟩ => ⟨S2x1024x1412, .f32⟩
  | .hbm, ⟨27, _⟩ => ⟨S2x1024x1412, .f32⟩
  | .hbm, ⟨28, _⟩ => ⟨S2x1024x1412, .f32⟩
  | .hbm, ⟨29, _⟩ => ⟨S_, .f32⟩
  | .hbm, ⟨30, _⟩ => ⟨S2x1024x1412, .f32⟩
  | .hbm, ⟨31, _⟩ => ⟨S2x1024x1412, .f32⟩
  | .hbm, ⟨32, _⟩ => ⟨S_, .f32⟩
  | .hbm, ⟨33, _⟩ => ⟨S2x1024x1412, .f32⟩
  | .hbm, ⟨34, _⟩ => ⟨S2x1024x1412, .f32⟩
  | .hbm, ⟨35, _⟩ => ⟨S2x1024x1412, .f32⟩
  | .hbm, ⟨36, _⟩ => ⟨S_, .f32⟩
  | .hbm, ⟨37, _⟩ => ⟨S2x1024x1412, .f32⟩
  | .hbm, ⟨38, _⟩ => ⟨S2x1024x1412, .f32⟩
  | .hbm, ⟨39, _⟩ => ⟨S2x1024x1412, .f32⟩
  | .hbm, ⟨40, _⟩ => ⟨S_, .f32⟩
  | .hbm, ⟨41, _⟩ => ⟨S2x1024x1412, .f32⟩
  | .hbm, ⟨42, _⟩ => ⟨S2x1024x1412, .f32⟩
  | .hbm, ⟨43, _⟩ => ⟨S2x1024x1412, .f32⟩
  | .hbm, ⟨44, _⟩ => ⟨S_, .f32⟩
  | .hbm, ⟨45, _⟩ => ⟨S2x1024x1412, .f32⟩
  | .hbm, ⟨46, _⟩ => ⟨S2x1024x1412, .f32⟩
  | _, _ => ⟨S4x1024x1412, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamKv.lean ====
abbrev S4x1024x256 : Shape := ⟨3, ![4, 1024, 256]⟩
abbrev S2x1024x256 : Shape := ⟨3, ![2, 1024, 256]⟩
abbrev S4x256x256 : Shape := ⟨3, ![4, 256, 256]⟩
abbrev S1x256x256 : Shape := ⟨3, ![1, 256, 256]⟩
abbrev S256x256 : Shape := ⟨2, ![256, 256]⟩

abbrev nBuf : Space → Nat
  | .hbm => 9
  | .vmem => 18
  | .smem => 0
  | _ => 0

abbrev bufTy : (tb : Table) → Fin (tcTables nBuf tb) → BufTy
  | .hbm, ⟨0, _⟩ => ⟨S4x1024x256, .bf16⟩
  | .hbm, ⟨1, _⟩ => ⟨S4x1024x256, .bf16⟩
  | .hbm, ⟨2, _⟩ => ⟨S2x1024x256, .f32⟩
  | .hbm, ⟨3, _⟩ => ⟨S2x1024x256, .f32⟩
  | .hbm, ⟨4, _⟩ => ⟨S2x1024x256, .f32⟩
  | .hbm, ⟨5, _⟩ => ⟨S2x1024x256, .f32⟩
  | .hbm, ⟨6, _⟩ => ⟨S2x1024x256, .f32⟩
  | .hbm, ⟨7, _⟩ => ⟨S2x1024x256, .f32⟩
  | .hbm, ⟨8, _⟩ => ⟨S2x1024x256, .f32⟩
  | .local _ .vmem, ⟨0, _⟩ => ⟨S4x256x256, .bf16⟩
  | .local _ .vmem, ⟨1, _⟩ => ⟨S4x256x256, .bf16⟩
  | .local _ .vmem, ⟨2, _⟩ => ⟨S4x256x256, .bf16⟩
  | .local _ .vmem, ⟨3, _⟩ => ⟨S4x256x256, .bf16⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | _, _ => ⟨S4x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamKvReferenceIdeal.lean ====
abbrev S4x1024x256 : Shape := ⟨3, ![4, 1024, 256]⟩
abbrev S2x1024x256 : Shape := ⟨3, ![2, 1024, 256]⟩
abbrev S_ : Shape := ⟨0, ![]⟩
abbrev S1024x256 : Shape := ⟨2, ![1024, 256]⟩
abbrev S1x1024x256 : Shape := ⟨3, ![1, 1024, 256]⟩

abbrev nBuf : Space → Nat
  | .hbm => 47
  | .vmem => 0
  | .smem => 0
  | _ => 0

abbrev bufTy : (tb : Table) → Fin (tcTables nBuf tb) → BufTy
  | .hbm, ⟨0, _⟩ => ⟨S4x1024x256, .bf16⟩
  | .hbm, ⟨1, _⟩ => ⟨S4x1024x256, .bf16⟩
  | .hbm, ⟨2, _⟩ => ⟨S2x1024x256, .f32⟩
  | .hbm, ⟨3, _⟩ => ⟨S2x1024x256, .f32⟩
  | .hbm, ⟨4, _⟩ => ⟨S2x1024x256, .f32⟩
  | .hbm, ⟨5, _⟩ => ⟨S4x1024x256, .f32⟩
  | .hbm, ⟨6, _⟩ => ⟨S_, .f32⟩
  | .hbm, ⟨7, _⟩ => ⟨S1024x256, .f32⟩
  | .hbm, ⟨8, _⟩ => ⟨S4x1024x256, .f32⟩
  | .hbm, ⟨9, _⟩ => ⟨S_, .f32⟩
  | .hbm, ⟨10, _⟩ => ⟨S1024x256, .f32⟩
  | .hbm, ⟨11, _⟩ => ⟨S1x1024x256, .f32⟩
  | .hbm, ⟨12, _⟩ => ⟨S1x1024x256, .f32⟩
  | .hbm, ⟨13, _⟩ => ⟨S2x1024x256, .f32⟩
  | .hbm, ⟨14, _⟩ => ⟨S_, .f32⟩
  | .hbm, ⟨15, _⟩ => ⟨S2x1024x256, .f32⟩
  | .hbm, ⟨16, _⟩ => ⟨S2x1024x256, .f32⟩
  | .hbm, ⟨17, _⟩ => ⟨S_, .f32⟩
  | .hbm, ⟨18, _⟩ => ⟨S2x1024x256, .f32⟩
  | .hbm, ⟨19, _⟩ => ⟨S2x1024x256, .f32⟩
  | .hbm, ⟨20, _⟩ => ⟨S2x1024x256, .f32⟩
  | .hbm, ⟨21, _⟩ => ⟨S_, .f32⟩
  | .hbm, ⟨22, _⟩ => ⟨S2x1024x256, .f32⟩
  | .hbm, ⟨23, _⟩ => ⟨S2x1024x256, .f32⟩
  | .hbm, ⟨24, _⟩ => ⟨S2x1024x256, .f32⟩
  | .hbm, ⟨25, _⟩ => ⟨S_, .f32⟩
  | .hbm, ⟨26, _⟩ => ⟨S2x1024x256, .f32⟩
  | .hbm, ⟨27, _⟩ => ⟨S2x1024x256, .f32⟩
  | .hbm, ⟨28, _⟩ => ⟨S2x1024x256, .f32⟩
  | .hbm, ⟨29, _⟩ => ⟨S_, .f32⟩
  | .hbm, ⟨30, _⟩ => ⟨S2x1024x256, .f32⟩
  | .hbm, ⟨31, _⟩ => ⟨S2x1024x256, .f32⟩
  | .hbm, ⟨32, _⟩ => ⟨S_, .f32⟩
  | .hbm, ⟨33, _⟩ => ⟨S2x1024x256, .f32⟩
  | .hbm, ⟨34, _⟩ => ⟨S2x1024x256, .f32⟩
  | .hbm, ⟨35, _⟩ => ⟨S2x1024x256, .f32⟩
  | .hbm, ⟨36, _⟩ => ⟨S_, .f32⟩
  | .hbm, ⟨37, _⟩ => ⟨S2x1024x256, .f32⟩
  | .hbm, ⟨38, _⟩ => ⟨S2x1024x256, .f32⟩
  | .hbm, ⟨39, _⟩ => ⟨S2x1024x256, .f32⟩
  | .hbm, ⟨40, _⟩ => ⟨S_, .f32⟩
  | .hbm, ⟨41, _⟩ => ⟨S2x1024x256, .f32⟩
  | .hbm, ⟨42, _⟩ => ⟨S2x1024x256, .f32⟩
  | .hbm, ⟨43, _⟩ => ⟨S2x1024x256, .f32⟩
  | .hbm, ⟨44, _⟩ => ⟨S_, .f32⟩
  | .hbm, ⟨45, _⟩ => ⟨S2x1024x256, .f32⟩
  | .hbm, ⟨46, _⟩ => ⟨S2x1024x256, .f32⟩
  | _, _ => ⟨S4x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamBr.lean ====
abbrev S4x128x1024 : Shape := ⟨3, ![4, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4x128x1024, .bf16⟩
  | .hbm, ⟨1, _⟩ => ⟨S4x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S4x128x1024, .bf16⟩
  | .local _ .vmem, ⟨1, _⟩ => ⟨S4x128x1024, .bf16⟩
  | .local _ .vmem, ⟨2, _⟩ => ⟨S4x128x1024, .bf16⟩
  | .local _ .vmem, ⟨3, _⟩ => ⟨S4x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamBrReferenceIdeal.lean ====
abbrev S4x128x1024 : Shape := ⟨3, ![4, 128, 1024]⟩
abbrev S2x128x1024 : Shape := ⟨3, ![2, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 47
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S4x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S4x128x1024, .f32⟩
  | .hbm, ⟨6, _⟩ => ⟨S_, .f32⟩
  | .hbm, ⟨7, _⟩ => ⟨S128x1024, .f32⟩
  | .hbm, ⟨8, _⟩ => ⟨S4x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S1x128x1024, .f32⟩
  | .hbm, ⟨13, _⟩ => ⟨S2x128x1024, .f32⟩
  | .hbm, ⟨14, _⟩ => ⟨S_, .f32⟩
  | .hbm, ⟨15, _⟩ => ⟨S2x128x1024, .f32⟩
  | .hbm, ⟨16, _⟩ => ⟨S2x128x1024, .f32⟩
  | .hbm, ⟨17, _⟩ => ⟨S_, .f32⟩
  | .hbm, ⟨18, _⟩ => ⟨S2x128x1024, .f32⟩
  | .hbm, ⟨19, _⟩ => ⟨S2x128x1024, .f32⟩
  | .hbm, ⟨20, _⟩ => ⟨S2x128x1024, .f32⟩
  | .hbm, ⟨21, _⟩ => ⟨S_, .f32⟩
  | .hbm, ⟨22, _⟩ => ⟨S2x128x1024, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S_, .f32⟩
  | .hbm, ⟨33, _⟩ => ⟨S2x128x1024, .f32⟩
  | .hbm, ⟨34, _⟩ => ⟨S2x128x1024, .f32⟩
  | .hbm, ⟨35, _⟩ => ⟨S2x128x1024, .f32⟩
  | .hbm, ⟨36, _⟩ => ⟨S_, .f32⟩
  | .hbm, ⟨37, _⟩ => ⟨S2x128x1024, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S2x128x1024, .f32⟩
  | .hbm, ⟨42, _⟩ => ⟨S2x128x1024, .f32⟩
  | .hbm, ⟨43, _⟩ => ⟨S2x128x1024, .f32⟩
  | .hbm, ⟨44, _⟩ => ⟨S_, .f32⟩
  | .hbm, ⟨45, _⟩ => ⟨S2x128x1024, .f32⟩
  | .hbm, ⟨46, _⟩ => ⟨S2x128x1024, .f32⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamBrSsd.lean ====
abbrev S4x256x1024 : Shape := ⟨3, ![4, 256, 1024]⟩
abbrev S2x256x1024 : Shape := ⟨3, ![2, 256, 1024]⟩
abbrev S1x256x1024 : Shape := ⟨3, ![1, 256, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4x256x1024, .bf16⟩
  | .hbm, ⟨1, _⟩ => ⟨S4x256x1024, .bf16⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S4x256x1024, .bf16⟩
  | .local _ .vmem, ⟨3, _⟩ => ⟨S4x256x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S4x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamBrSsdReferenceIdeal.lean ====
abbrev S4x256x1024 : Shape := ⟨3, ![4, 256, 1024]⟩
abbrev S2x256x1024 : Shape := ⟨3, ![2, 256, 1024]⟩
abbrev S_ : Shape := ⟨0, ![]⟩
abbrev S256x1024 : Shape := ⟨2, ![256, 1024]⟩
abbrev S1x256x1024 : Shape := ⟨3, ![1, 256, 1024]⟩

abbrev nBuf : Space → Nat
  | .hbm => 47
  | .vmem => 0
  | .smem => 0
  | _ => 0

abbrev bufTy : (tb : Table) → Fin (tcTables nBuf tb) → BufTy
  | .hbm, ⟨0, _⟩ => ⟨S4x256x1024, .bf16⟩
  | .hbm, ⟨1, _⟩ => ⟨S4x256x1024, .bf16⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S4x256x1024, .f32⟩
  | .hbm, ⟨6, _⟩ => ⟨S_, .f32⟩
  | .hbm, ⟨7, _⟩ => ⟨S256x1024, .f32⟩
  | .hbm, ⟨8, _⟩ => ⟨S4x256x1024, .f32⟩
  | .hbm, ⟨9, _⟩ => ⟨S_, .f32⟩
  | .hbm, ⟨10, _⟩ => ⟨S256x1024, .f32⟩
  | .hbm, ⟨11, _⟩ => ⟨S1x256x1024, .f32⟩
  | .hbm, ⟨12, _⟩ => ⟨S1x256x1024, .f32⟩
  | .hbm, ⟨13, _⟩ => ⟨S2x256x1024, .f32⟩
  | .hbm, ⟨14, _⟩ => ⟨S_, .f32⟩
  | .hbm, ⟨15, _⟩ => ⟨S2x256x1024, .f32⟩
  | .hbm, ⟨16, _⟩ => ⟨S2x256x1024, .f32⟩
  | .hbm, ⟨17, _⟩ => ⟨S_, .f32⟩
  | .hbm, ⟨18, _⟩ => ⟨S2x256x1024, .f32⟩
  | .hbm, ⟨19, _⟩ => ⟨S2x256x1024, .f32⟩
  | .hbm, ⟨20, _⟩ => ⟨S2x256x1024, .f32⟩
  | .hbm, ⟨21, _⟩ => ⟨S_, .f32⟩
  | .hbm, ⟨22, _⟩ => ⟨S2x256x1024, .f32⟩
  | .hbm, ⟨23, _⟩ => ⟨S2x256x1024, .f32⟩
  | .hbm, ⟨24, _⟩ => ⟨S2x256x1024, .f32⟩
  | .hbm, ⟨25, _⟩ => ⟨S_, .f32⟩
  | .hbm, ⟨26, _⟩ => ⟨S2x256x1024, .f32⟩
  | .hbm, ⟨27, _⟩ => ⟨S2x256x1024, .f32⟩
  | .hbm, ⟨28, _⟩ => ⟨S2x256x1024, .f32⟩
  | .hbm, ⟨29, _⟩ => ⟨S_, .f32⟩
  | .hbm, ⟨30, _⟩ => ⟨S2x256x1024, .f32⟩
  | .hbm, ⟨31, _⟩ => ⟨S2x256x1024, .f32⟩
  | .hbm, ⟨32, _⟩ => ⟨S_, .f32⟩
  | .hbm, ⟨33, _⟩ => ⟨S2x256x1024, .f32⟩
  | .hbm, ⟨34, _⟩ => ⟨S2x256x1024, .f32⟩
  | .hbm, ⟨35, _⟩ => ⟨S2x256x1024, .f32⟩
  | .hbm, ⟨36, _⟩ => ⟨S_, .f32⟩
  | .hbm, ⟨37, _⟩ => ⟨S2x256x1024, .f32⟩
  | .hbm, ⟨38, _⟩ => ⟨S2x256x1024, .f32⟩
  | .hbm, ⟨39, _⟩ => ⟨S2x256x1024, .f32⟩
  | .hbm, ⟨40, _⟩ => ⟨S_, .f32⟩
  | .hbm, ⟨41, _⟩ => ⟨S2x256x1024, .f32⟩
  | .hbm, ⟨42, _⟩ => ⟨S2x256x1024, .f32⟩
  | .hbm, ⟨43, _⟩ => ⟨S2x256x1024, .f32⟩
  | .hbm, ⟨44, _⟩ => ⟨S_, .f32⟩
  | .hbm, ⟨45, _⟩ => ⟨S2x256x1024, .f32⟩
  | .hbm, ⟨46, _⟩ => ⟨S2x256x1024, .f32⟩
  | _, _ => ⟨S4x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamFfnIn.lean ====
abbrev S4x704x1024 : Shape := ⟨3, ![4, 704, 1024]⟩
abbrev S2x704x1024 : Shape := ⟨3, ![2, 704, 1024]⟩
abbrev S4x176x1024 : Shape := ⟨3, ![4, 176, 1024]⟩
abbrev S1x176x1024 : Shape := ⟨3, ![1, 176, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4x704x1024, .bf16⟩
  | .hbm, ⟨1, _⟩ => ⟨S4x704x1024, .bf16⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .local _ .vmem, ⟨0, _⟩ => ⟨S4x176x1024, .bf16⟩
  | .local _ .vmem, ⟨1, _⟩ => ⟨S4x176x1024, .bf16⟩
  | .local _ .vmem, ⟨2, _⟩ => ⟨S4x176x1024, .bf16⟩
  | .local _ .vmem, ⟨3, _⟩ => ⟨S4x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S4x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamFfnInReferenceIdeal.lean ====
abbrev S4x704x1024 : Shape := ⟨3, ![4, 704, 1024]⟩
abbrev S2x704x1024 : Shape := ⟨3, ![2, 704, 1024]⟩
abbrev S_ : Shape := ⟨0, ![]⟩
abbrev S704x1024 : Shape := ⟨2, ![704, 1024]⟩
abbrev S1x704x1024 : Shape := ⟨3, ![1, 704, 1024]⟩

abbrev nBuf : Space → Nat
  | .hbm => 47
  | .vmem => 0
  | .smem => 0
  | _ => 0

abbrev bufTy : (tb : Table) → Fin (tcTables nBuf tb) → BufTy
  | .hbm, ⟨0, _⟩ => ⟨S4x704x1024, .bf16⟩
  | .hbm, ⟨1, _⟩ => ⟨S4x704x1024, .bf16⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S4x704x1024, .f32⟩
  | .hbm, ⟨6, _⟩ => ⟨S_, .f32⟩
  | .hbm, ⟨7, _⟩ => ⟨S704x1024, .f32⟩
  | .hbm, ⟨8, _⟩ => ⟨S4x704x1024, .f32⟩
  | .hbm, ⟨9, _⟩ => ⟨S_, .f32⟩
  | .hbm, ⟨10, _⟩ => ⟨S704x1024, .f32⟩
  | .hbm, ⟨11, _⟩ => ⟨S1x704x1024, .f32⟩
  | .hbm, ⟨12, _⟩ => ⟨S1x704x1024, .f32⟩
  | .hbm, ⟨13, _⟩ => ⟨S2x704x1024, .f32⟩
  | .hbm, ⟨14, _⟩ => ⟨S_, .f32⟩
  | .hbm, ⟨15, _⟩ => ⟨S2x704x1024, .f32⟩
  | .hbm, ⟨16, _⟩ => ⟨S2x704x1024, .f32⟩
  | .hbm, ⟨17, _⟩ => ⟨S_, .f32⟩
  | .hbm, ⟨18, _⟩ => ⟨S2x704x1024, .f32⟩
  | .hbm, ⟨19, _⟩ => ⟨S2x704x1024, .f32⟩
  | .hbm, ⟨20, _⟩ => ⟨S2x704x1024, .f32⟩
  | .hbm, ⟨21, _⟩ => ⟨S_, .f32⟩
  | .hbm, ⟨22, _⟩ => ⟨S2x704x1024, .f32⟩
  | .hbm, ⟨23, _⟩ => ⟨S2x704x1024, .f32⟩
  | .hbm, ⟨24, _⟩ => ⟨S2x704x1024, .f32⟩
  | .hbm, ⟨25, _⟩ => ⟨S_, .f32⟩
  | .hbm, ⟨26, _⟩ => ⟨S2x704x1024, .f32⟩
  | .hbm, ⟨27, _⟩ => ⟨S2x704x1024, .f32⟩
  | .hbm, ⟨28, _⟩ => ⟨S2x704x1024, .f32⟩
  | .hbm, ⟨29, _⟩ => ⟨S_, .f32⟩
  | .hbm, ⟨30, _⟩ => ⟨S2x704x1024, .f32⟩
  | .hbm, ⟨31, _⟩ => ⟨S2x704x1024, .f32⟩
  | .hbm, ⟨32, _⟩ => ⟨S_, .f32⟩
  | .hbm, ⟨33, _⟩ => ⟨S2x704x1024, .f32⟩
  | .hbm, ⟨34, _⟩ => ⟨S2x704x1024, .f32⟩
  | .hbm, ⟨35, _⟩ => ⟨S2x704x1024, .f32⟩
  | .hbm, ⟨36, _⟩ => ⟨S_, .f32⟩
  | .hbm, ⟨37, _⟩ => ⟨S2x704x1024, .f32⟩
  | .hbm, ⟨38, _⟩ => ⟨S2x704x1024, .f32⟩
  | .hbm, ⟨39, _⟩ => ⟨S2x704x1024, .f32⟩
  | .hbm, ⟨40, _⟩ => ⟨S_, .f32⟩
  | .hbm, ⟨41, _⟩ => ⟨S2x704x1024, .f32⟩
  | .hbm, ⟨42, _⟩ => ⟨S2x704x1024, .f32⟩
  | .hbm, ⟨43, _⟩ => ⟨S2x704x1024, .f32⟩
  | .hbm, ⟨44, _⟩ => ⟨S_, .f32⟩
  | .hbm, ⟨45, _⟩ => ⟨S2x704x1024, .f32⟩
  | .hbm, ⟨46, _⟩ => ⟨S2x704x1024, .f32⟩
  | _, _ => ⟨S4x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamFfnDown.lean ====
abbrev S4x352x1024 : Shape := ⟨3, ![4, 352, 1024]⟩
abbrev S2x352x1024 : Shape := ⟨3, ![2, 352, 1024]⟩
abbrev S4x176x1024 : Shape := ⟨3, ![4, 176, 1024]⟩
abbrev S1x176x1024 : Shape := ⟨3, ![1, 176, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4x352x1024, .bf16⟩
  | .hbm, ⟨1, _⟩ => ⟨S4x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .local _ .vmem, ⟨0, _⟩ => ⟨S4x176x1024, .bf16⟩
  | .local _ .vmem, ⟨1, _⟩ => ⟨S4x176x1024, .bf16⟩
  | .local _ .vmem, ⟨2, _⟩ => ⟨S4x176x1024, .bf16⟩
  | .local _ .vmem, ⟨3, _⟩ => ⟨S4x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S4x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamFfnDownReferenceIdeal.lean ====
abbrev S4x352x1024 : Shape := ⟨3, ![4, 352, 1024]⟩
abbrev S2x352x1024 : Shape := ⟨3, ![2, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 47
  | .vmem => 0
  | .smem => 0
  | _ => 0

abbrev bufTy : (tb : Table) → Fin (tcTables nBuf tb) → BufTy
  | .hbm, ⟨0, _⟩ => ⟨S4x352x1024, .bf16⟩
  | .hbm, ⟨1, _⟩ => ⟨S4x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S4x352x1024, .f32⟩
  | .hbm, ⟨6, _⟩ => ⟨S_, .f32⟩
  | .hbm, ⟨7, _⟩ => ⟨S352x1024, .f32⟩
  | .hbm, ⟨8, _⟩ => ⟨S4x352x1024, .f32⟩
  | .hbm, ⟨9, _⟩ => ⟨S_, .f32⟩
  | .hbm, ⟨10, _⟩ => ⟨S352x1024, .f32⟩
  | .hbm, ⟨11, _⟩ => ⟨S1x352x1024, .f32⟩
  | .hbm, ⟨12, _⟩ => ⟨S1x352x1024, .f32⟩
  | .hbm, ⟨13, _⟩ => ⟨S2x352x1024, .f32⟩
  | .hbm, ⟨14, _⟩ => ⟨S_, .f32⟩
  | .hbm, ⟨15, _⟩ => ⟨S2x352x1024, .f32⟩
  | .hbm, ⟨16, _⟩ => ⟨S2x352x1024, .f32⟩
  | .hbm, ⟨17, _⟩ => ⟨S_, .f32⟩
  | .hbm, ⟨18, _⟩ => ⟨S2x352x1024, .f32⟩
  | .hbm, ⟨19, _⟩ => ⟨S2x352x1024, .f32⟩
  | .hbm, ⟨20, _⟩ => ⟨S2x352x1024, .f32⟩
  | .hbm, ⟨21, _⟩ => ⟨S_, .f32⟩
  | .hbm, ⟨22, _⟩ => ⟨S2x352x1024, .f32⟩
  | .hbm, ⟨23, _⟩ => ⟨S2x352x1024, .f32⟩
  | .hbm, ⟨24, _⟩ => ⟨S2x352x1024, .f32⟩
  | .hbm, ⟨25, _⟩ => ⟨S_, .f32⟩
  | .hbm, ⟨26, _⟩ => ⟨S2x352x1024, .f32⟩
  | .hbm, ⟨27, _⟩ => ⟨S2x352x1024, .f32⟩
  | .hbm, ⟨28, _⟩ => ⟨S2x352x1024, .f32⟩
  | .hbm, ⟨29, _⟩ => ⟨S_, .f32⟩
  | .hbm, ⟨30, _⟩ => ⟨S2x352x1024, .f32⟩
  | .hbm, ⟨31, _⟩ => ⟨S2x352x1024, .f32⟩
  | .hbm, ⟨32, _⟩ => ⟨S_, .f32⟩
  | .hbm, ⟨33, _⟩ => ⟨S2x352x1024, .f32⟩
  | .hbm, ⟨34, _⟩ => ⟨S2x352x1024, .f32⟩
  | .hbm, ⟨35, _⟩ => ⟨S2x352x1024, .f32⟩
  | .hbm, ⟨36, _⟩ => ⟨S_, .f32⟩
  | .hbm, ⟨37, _⟩ => ⟨S2x352x1024, .f32⟩
  | .hbm, ⟨38, _⟩ => ⟨S2x352x1024, .f32⟩
  | .hbm, ⟨39, _⟩ => ⟨S2x352x1024, .f32⟩
  | .hbm, ⟨40, _⟩ => ⟨S_, .f32⟩
  | .hbm, ⟨41, _⟩ => ⟨S2x352x1024, .f32⟩
  | .hbm, ⟨42, _⟩ => ⟨S2x352x1024, .f32⟩
  | .hbm, ⟨43, _⟩ => ⟨S2x352x1024, .f32⟩
  | .hbm, ⟨44, _⟩ => ⟨S_, .f32⟩
  | .hbm, ⟨45, _⟩ => ⟨S2x352x1024, .f32⟩
  | .hbm, ⟨46, _⟩ => ⟨S2x352x1024, .f32⟩
  | _, _ => ⟨S4x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamTail.lean ====
abbrev S1x552x1024 : Shape := ⟨3, ![1, 552, 1024]⟩
abbrev S1x184x1024 : Shape := ⟨3, ![1, 184, 1024]⟩
abbrev S184x1024 : Shape := ⟨2, ![184, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1x552x1024, .f32⟩
  | .hbm, ⟨1, _⟩ => ⟨S1x552x1024, .f32⟩
  | .hbm, ⟨2, _⟩ => ⟨S1x552x1024, .f32⟩
  | .hbm, ⟨3, _⟩ => ⟨S1x552x1024, .f32⟩
  | .hbm, ⟨4, _⟩ => ⟨S1x552x1024, .f32⟩
  | .hbm, ⟨5, _⟩ => ⟨S1x552x1024, .f32⟩
  | .hbm, ⟨6, _⟩ => ⟨S1x552x1024, .f32⟩
  | .hbm, ⟨7, _⟩ => ⟨S1x552x1024, .f32⟩
  | .local _ .vmem, ⟨0, _⟩ => ⟨S1x184x1024, .f32⟩
  | .local _ .vmem, ⟨1, _⟩ => ⟨S1x184x1024, .f32⟩
  | .local _ .vmem, ⟨2, _⟩ => ⟨S1x184x1024, .f32⟩
  | .local _ .vmem, ⟨3, _⟩ => ⟨S1x184x1024, .f32⟩
  | .local _ .vmem, ⟨4, _⟩ => ⟨S1x184x1024, .f32⟩
  | .local _ .vmem, ⟨5, _⟩ => ⟨S1x184x1024, .f32⟩
  | .local _ .vmem, ⟨6, _⟩ => ⟨S1x184x1024, .f32⟩
  | .local _ .vmem, ⟨7, _⟩ => ⟨S1x184x1024, .f32⟩
  | .local _ .vmem, ⟨8, _⟩ => ⟨S1x184x1024, .f32⟩
  | .local _ .vmem, ⟨9, _⟩ => ⟨S1x184x1024, .f32⟩
  | .local _ .vmem, ⟨10, _⟩ => ⟨S1x184x1024, .f32⟩
  | .local _ .vmem, ⟨11, _⟩ => ⟨S1x184x1024, .f32⟩
  | .local _ .vmem, ⟨12, _⟩ => ⟨S1x184x1024, .f32⟩
  | .local _ .vmem, ⟨13, _⟩ => ⟨S1x184x1024, .f32⟩
  | .local _ .vmem, ⟨14, _⟩ => ⟨S1x184x1024, .f32⟩
  | .local _ .vmem, ⟨15, _⟩ => ⟨S1x184x1024, .f32⟩
  | _, _ => ⟨S1x552x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x184x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x184x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x184x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x184x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x184x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x184x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x184x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x184x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamTailReferenceIdeal.lean ====
abbrev S1x552x1024 : Shape := ⟨3, ![1, 552, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x552x1024, .f32⟩
  | .hbm, ⟨1, _⟩ => ⟨S1x552x1024, .f32⟩
  | .hbm, ⟨2, _⟩ => ⟨S1x552x1024, .f32⟩
  | .hbm, ⟨3, _⟩ => ⟨S1x552x1024, .f32⟩
  | .hbm, ⟨4, _⟩ => ⟨S_, .f32⟩
  | .hbm, ⟨5, _⟩ => ⟨S1x552x1024, .f32⟩
  | .hbm, ⟨6, _⟩ => ⟨S1x552x1024, .f32⟩
  | .hbm, ⟨7, _⟩ => ⟨S_, .f32⟩
  | .hbm, ⟨8, _⟩ => ⟨S1x552x1024, .f32⟩
  | .hbm, ⟨9, _⟩ => ⟨S1x552x1024, .f32⟩
  | .hbm, ⟨10, _⟩ => ⟨S1x552x1024, .f32⟩
  | .hbm, ⟨11, _⟩ => ⟨S_, .f32⟩
  | .hbm, ⟨12, _⟩ => ⟨S1x552x1024, .f32⟩
  | .hbm, ⟨13, _⟩ => ⟨S1x552x1024, .f32⟩
  | .hbm, ⟨14, _⟩ => ⟨S1x552x1024, .f32⟩
  | .hbm, ⟨15, _⟩ => ⟨S_, .f32⟩
  | .hbm, ⟨16, _⟩ => ⟨S1x552x1024, .f32⟩
  | .hbm, ⟨17, _⟩ => ⟨S1x552x1024, .f32⟩
  | .hbm, ⟨18, _⟩ => ⟨S1x552x1024, .f32⟩
  | .hbm, ⟨19, _⟩ => ⟨S_, .f32⟩
  | .hbm, ⟨20, _⟩ => ⟨S1x552x1024, .f32⟩
  | .hbm, ⟨21, _⟩ => ⟨S1x552x1024, .f32⟩
  | .hbm, ⟨22, _⟩ => ⟨S_, .f32⟩
  | .hbm, ⟨23, _⟩ => ⟨S1x552x1024, .f32⟩
  | .hbm, ⟨24, _⟩ => ⟨S1x552x1024, .f32⟩
  | .hbm, ⟨25, _⟩ => ⟨S1x552x1024, .f32⟩
  | .hbm, ⟨26, _⟩ => ⟨S_, .f32⟩
  | .hbm, ⟨27, _⟩ => ⟨S1x552x1024, .f32⟩
  | .hbm, ⟨28, _⟩ => ⟨S1x552x1024, .f32⟩
  | .hbm, ⟨29, _⟩ => ⟨S1x552x1024, .f32⟩
  | .hbm, ⟨30, _⟩ => ⟨S_, .f32⟩
  | .hbm, ⟨31, _⟩ => ⟨S1x552x1024, .f32⟩
  | .hbm, ⟨32, _⟩ => ⟨S1x552x1024, .f32⟩
  | .hbm, ⟨33, _⟩ => ⟨S1x552x1024, .f32⟩
  | .hbm, ⟨34, _⟩ => ⟨S_, .f32⟩
  | .hbm, ⟨35, _⟩ => ⟨S1x552x1024, .f32⟩
  | .hbm, ⟨36, _⟩ => ⟨S1x552x1024, .f32⟩
  | _, _ => ⟨S1x552x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SlotSum.lean ====
abbrev S4x80x1024 : Shape := ⟨3, ![4, 80, 1024]⟩
abbrev S80x1024 : Shape := ⟨2, ![80, 1024]⟩
abbrev S1x80x1024 : Shape := ⟨3, ![1, 80, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x80x1024, .f32⟩
  | .hbm, ⟨1, _⟩ => ⟨S80x1024, .f32⟩
  | .local _ .vmem, ⟨0, _⟩ => ⟨S4x80x1024, .f32⟩
  | .local _ .vmem, ⟨1, _⟩ => ⟨S80x1024, .f32⟩
  | _, _ => ⟨S4x80x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4x80x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S80x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SlotSumReferenceIdeal.lean ====
abbrev S4x80x1024 : Shape := ⟨3, ![4, 80, 1024]⟩
abbrev S_ : Shape := ⟨0, ![]⟩
abbrev S80x1024 : Shape := ⟨2, ![80, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4x80x1024, .f32⟩
  | .hbm, ⟨1, _⟩ => ⟨S_, .f32⟩
  | .hbm, ⟨2, _⟩ => ⟨S80x1024, .f32⟩
  | _, _ => ⟨S4x80x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== LruConv.lean ====
abbrev S8192x2048 : Shape := ⟨2, ![8192, 2048]⟩
abbrev S4x1024 : Shape := ⟨2, ![4, 1024]⟩
abbrev S1x1024 : Shape := ⟨2, ![1, 1024]⟩
abbrev S8x128x128 : Shape := ⟨3, ![8, 128, 128]⟩
abbrev S8192x1024 : Shape := ⟨2, ![8192, 1024]⟩
abbrev S256x1024 : Shape := ⟨2, ![256, 1024]⟩
abbrev S8x1024 : Shape := ⟨2, ![8, 1024]⟩
abbrev S264x1024 : Shape := ⟨2, ![264, 1024]⟩
abbrev S256x128 : Shape := ⟨2, ![256, 128]⟩
abbrev S1x128x128 : Shape := ⟨3, ![1, 128, 128]⟩
abbrev S128x128 : Shape := ⟨2, ![128, 128]⟩
abbrev S256x1 : Shape := ⟨2, ![256, 1]⟩
abbrev S32x8x1024 : Shape := ⟨3, ![32, 8, 1024]⟩
abbrev S1x8x1 : Shape := ⟨3, ![1, 8, 1]⟩
abbrev S1x8x1024 : Shape := ⟨3, ![1, 8, 1024]⟩

abbrev nBuf : Space → Nat
  | .hbm => 11
  | .vmem => 20
  | .smem => 0
  | _ => 0

abbrev bufTy : (tb : Table) → Fin (tcTables nBuf tb) → BufTy
  | .hbm, ⟨0, _⟩ => ⟨S8192x2048, .f32⟩
  | .hbm, ⟨1, _⟩ => ⟨S4x1024, .f32⟩
  | .hbm, ⟨2, _⟩ => ⟨S1x1024, .f32⟩
  | .hbm, ⟨3, _⟩ => ⟨S8x128x128, .f32⟩
  | .hbm, ⟨4, _⟩ => ⟨S1x1024, .f32⟩
  | .hbm, ⟨5, _⟩ => ⟨S8x128x128, .f32⟩
  | .hbm, ⟨6, _⟩ => ⟨S1x1024, .f32⟩
  | .hbm, ⟨7, _⟩ => ⟨S1x1024, .f32⟩
  | .hbm, ⟨8, _⟩ => ⟨S8192x1024, .bf16⟩
  | .hbm, ⟨9, _⟩ => ⟨S8192x1024, .f32⟩
  | .hbm, ⟨10, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S256x1024, .f32⟩
  | .local _ .vmem, ⟨5, _⟩ => ⟨S256x1024, .f32⟩
  | .local _ .vmem, ⟨6, _⟩ => ⟨S4x1024, .f32⟩
  | .local _ .vmem, ⟨7, _⟩ => ⟨S1x1024, .f32⟩
  | .local _ .vmem, ⟨8, _⟩ => ⟨S8x128x128, .f32⟩
  | .local _ .vmem, ⟨9, _⟩ => ⟨S1x1024, .f32⟩
  | .local _ .vmem, ⟨10, _⟩ => ⟨S8x128x128, .f32⟩
  | .local _ .vmem, ⟨11, _⟩ => ⟨S1x1024, .f32⟩
  | .local _ .vmem, ⟨12, _⟩ => ⟨S1x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S1x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== LruConvReferenceIdeal.lean ====
abbrev S8192x2048 : Shape := ⟨2, ![8192, 2048]⟩
abbrev S4x1024 : Shape := ⟨2, ![4, 1024]⟩
abbrev S1x1024 : Shape := ⟨2, ![1, 1024]⟩
abbrev S8x128x128 : Shape := ⟨3, ![8, 128, 128]⟩
abbrev S_ : Shape := ⟨0, ![]⟩
abbrev S3x1024 : Shape := ⟨2, ![3, 1024]⟩
abbrev S8192x1024 : Shape := ⟨2, ![8192, 1024]⟩
abbrev S8195x1024 : Shape := ⟨2, ![8195, 1024]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x1024, .f32⟩
  | .hbm, ⟨2, _⟩ => ⟨S1x1024, .f32⟩
  | .hbm, ⟨3, _⟩ => ⟨S8x128x128, .f32⟩
  | .hbm, ⟨4, _⟩ => ⟨S1x1024, .f32⟩
  | .hbm, ⟨5, _⟩ => ⟨S8x128x128, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S3x1024, .f32⟩
  | .hbm, ⟨10, _⟩ => ⟨S8192x1024, .f32⟩
  | .hbm, ⟨11, _⟩ => ⟨S8195x1024, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== SsdBwd.lean ====
abbrev S8192x5632 : Shape := ⟨2, ![8192, 5632]⟩
abbrev S8192x3072 : Shape := ⟨2, ![8192, 3072]⟩
abbrev S8192x2048 : Shape := ⟨2, ![8192, 2048]⟩
abbrev S128x128x2048 : Shape := ⟨3, ![128, 128, 2048]⟩
abbrev S4x3072 : Shape := ⟨2, ![4, 3072]⟩
abbrev S1x32 : Shape := ⟨2, ![1, 32]⟩
abbrev S1x2048 : Shape := ⟨2, ![1, 2048]⟩
abbrev S1x3072 : Shape := ⟨2, ![1, 3072]⟩
abbrev S64x5632 : Shape := ⟨2, ![64, 5632]⟩
abbrev S64x3072 : Shape := ⟨2, ![64, 3072]⟩
abbrev S64x2048 : Shape := ⟨2, ![64, 2048]⟩
abbrev S1x128x2048 : Shape := ⟨3, ![1, 128, 2048]⟩
abbrev S128x2048 : Shape := ⟨2, ![128, 2048]⟩
abbrev S8x3072 : Shape := ⟨2, ![8, 3072]⟩
abbrev S1x128 : Shape := ⟨2, ![1, 128]⟩
abbrev S32x2048 : Shape := ⟨2, ![32, 2048]⟩
abbrev S64x64 : Shape := ⟨2, ![64, 64]⟩
abbrev S32x32 : Shape := ⟨2, ![32, 32]⟩
abbrev S64x128 : Shape := ⟨2, ![64, 128]⟩
abbrev S64x32 : Shape := ⟨2, ![64, 32]⟩
abbrev S192x32 : Shape := ⟨2, ![192, 32]⟩
abbrev S192x2048 : Shape := ⟨2, ![192, 2048]⟩
abbrev S8x32 : Shape := ⟨2, ![8, 32]⟩
abbrev S16x32 : Shape := ⟨2, ![16, 32]⟩
abbrev S16x2048 : Shape := ⟨2, ![16, 2048]⟩
abbrev S128x32 : Shape := ⟨2, ![128, 32]⟩
abbrev S32x128 : Shape := ⟨2, ![32, 128]⟩
abbrev S64x512 : Shape := ⟨2, ![64, 512]⟩
abbrev S64 : Shape := ⟨1, ![64]⟩
abbrev S64x1 : Shape := ⟨2, ![64, 1]⟩
abbrev S512 : Shape := ⟨1, ![512]⟩
abbrev S1x512 : Shape := ⟨2, ![1, 512]⟩
abbrev S2048 : Shape := ⟨1, ![2048]⟩
abbrev S32x1 : Shape := ⟨2, ![32, 1]⟩
abbrev S128x128 : Shape := ⟨2, ![128, 128]⟩
abbrev S128 : Shape := ⟨1, ![128]⟩
abbrev S128x512 : Shape := ⟨2, ![128, 512]⟩
abbrev S8x2048 : Shape := ⟨2, ![8, 2048]⟩
abbrev S24x2048 : Shape := ⟨2, ![24, 2048]⟩
abbrev S24x32 : Shape := ⟨2, ![24, 32]⟩
abbrev S32 : Shape := ⟨1, ![32]⟩
abbrev S72x3072 : Shape := ⟨2, ![72, 3072]⟩
abbrev S3072 : Shape := ⟨1, ![3072]⟩

abbrev nBuf : Space → Nat
  | .hbm => 17
  | .vmem => 25
  | .smem => 0
  | _ => 0

abbrev bufTy : (tb : Table) → Fin (tcTables nBuf tb) → BufTy
  | .hbm, ⟨0, _⟩ => ⟨S8192x5632, .f32⟩
  | .hbm, ⟨1, _⟩ => ⟨S8192x3072, .f32⟩
  | .hbm, ⟨2, _⟩ => ⟨S8192x2048, .f32⟩
  | .hbm, ⟨3, _⟩ => ⟨S128x128x2048, .f32⟩
  | .hbm, ⟨4, _⟩ => ⟨S8192x2048, .f32⟩
  | .hbm, ⟨5, _⟩ => ⟨S4x3072, .f32⟩
  | .hbm, ⟨6, _⟩ => ⟨S1x32, .f32⟩
  | .hbm, ⟨7, _⟩ => ⟨S1x32, .f32⟩
  | .hbm, ⟨8, _⟩ => ⟨S1x32, .f32⟩
  | .hbm, ⟨9, _⟩ => ⟨S1x2048, .f32⟩
  | .hbm, ⟨10, _⟩ => ⟨S8192x5632, .bf16⟩
  | .hbm, ⟨11, _⟩ => ⟨S4x3072, .f32⟩
  | .hbm, ⟨12, _⟩ => ⟨S1x3072, .f32⟩
  | .hbm, ⟨13, _⟩ => ⟨S1x32, .f32⟩
  | .hbm, ⟨14, _⟩ => ⟨S1x32, .f32⟩
  | .hbm, ⟨15, _⟩ => ⟨S1x32, .f32⟩
  | .hbm, ⟨16, _⟩ => ⟨S1x2048, .f32⟩
  | .local _ .vmem, ⟨0, _⟩ => ⟨S64x5632, .f32⟩
  | .local _ .vmem, ⟨1, _⟩ => ⟨S64x5632, .f32⟩
  | .local _ .vmem, ⟨2, _⟩ => ⟨S64x3072, .f32⟩
  | .local _ .vmem, ⟨3, _⟩ => ⟨S64x3072, .f32⟩
  | .local _ .vmem, ⟨4, _⟩ => ⟨S64x2048, .f32⟩
  | .local _ .vmem, ⟨5, _⟩ => ⟨S64x2048, .f32⟩
  | .local _ .vmem, ⟨6, _⟩ => ⟨S1x128x2048, .f32⟩
  | .local _ .vmem, ⟨7, _⟩ => ⟨S1x128x2048, .f32⟩
  | .local _ .vmem, ⟨8, _⟩ => ⟨S64x2048, .f32⟩
  | .local _ .vmem, ⟨9, _⟩ => ⟨S64x2048, .f32⟩
  | .local _ .vmem, ⟨10, _⟩ => ⟨S4x3072, .f32⟩
  | .local _ .vmem, ⟨11, _⟩ => ⟨S1x32, .f32⟩
  | .local _ .vmem, ⟨12, _⟩ => ⟨S1x32, .f32⟩
  | .local _ .vmem, ⟨13, _⟩ => ⟨S1x32, .f32⟩
  | .local _ .vmem, ⟨14, _⟩ => ⟨S1x2048, .f32⟩
  | .local _ .vmem, ⟨15, _⟩ => ⟨S64x5632, .bf16⟩
  | .local _ .vmem, ⟨16, _⟩ => ⟨S64x5632, .bf16⟩
  | .local _ .vmem, ⟨17, _⟩ => ⟨S4x3072, .f32⟩
  | .local _ .vmem, ⟨18, _⟩ => ⟨S1x3072, .f32⟩
  | .local _ .vmem, ⟨19, _⟩ => ⟨S1x32, .f32⟩
  | .local _ .vmem, ⟨20, _⟩ => ⟨S1x32, .f32⟩
  | .local _ .vmem, ⟨21, _⟩ => ⟨S1x32, .f32⟩
  | .local _ .vmem, ⟨22, _⟩ => ⟨S1x2048, .f32⟩
  | .local _ .vmem, ⟨23, _⟩ => ⟨S128x2048, .f32⟩
  | .local _ .vmem, ⟨24, _⟩ => ⟨S8x3072, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22

abbrev nD : Nat := 1
abbrev τ : Topo := Topo.v7x

variable {F : FTy → Type} [FloatOps F]

abbrev grid0 : Pipeline.Grid := ⟨1, ![128], ![false]⟩

def k0_mult1 : BitVec 32 :=
  let c0_i32_2 : BitVec 32 := 0#32
  let c0_i32_1 : BitVec 32 := 0#32
  let v33 : BitVec 32 := Scalar.subi c0_i32_2 c0_i32_1
  let c64_i32_3 : BitVec 32 := 64#32
  let v34 : BitVec 32 := Scalar.muli v33 c64_i32_3
  v34
def k0_off1 : Fin 2 → Nat :=
  let c0_i32_2 : BitVec 32 := 0#32
  let c0_i32_1 : BitVec 32 := 0#32
  let v33 : BitVec 32 := Scalar.subi c0_i32_2 c0_i32_1
  let c64_i32_3 : BitVec 32 := 64#32
  let v34 : BitVec 32 := Scalar.muli v33 c64_i32_3
  let v35 : BitVec 32 := v34
  let v36 : Index := Scalar.indexCast v35
  let c0 : Index := 0#32
  ![v36.toNat, 0]
def k0_off2 : Fin 2 → Nat :=
  let c0_i32_2 : BitVec 32 := 0#32
  let c0_i32_1 : BitVec 32 := 0#32
  let v33 : BitVec 32 := Scalar.subi c0_i32_2 c0_i32_1
  let c64_i32_3 : BitVec 32 := 64#32
  let v34 : BitVec 32 := Scalar.muli v33 c64_i32_3
  let v35 : BitVec 32 := v34
  let c0_i32_4 : BitVec 32 := 0#32
  ![v35.toNat, 0]
def k0_off3 : Fin 3 → Nat :=
  let c0_i32_2 : BitVec 32 := 0#32
  let c0_i32_1 : BitVec 32 := 0#32
  let v33 : BitVec 32 := Scalar.subi c0_i32_2 c0_i32_1
  let v113 : Index := Scalar.indexCast v33
  let c0_26 : Index := 0#32
  let c0_27 : Index := 0#32
  ![v113.toNat, 0, 0]
def k0_off4 : Fin 2 → Nat :=
  let c0_i32_2 : BitVec 32 := 0#32
  let c0_i32_1 : BitVec 32 := 0#32
  let v33 : BitVec 32 := Scalar.subi c0_i32_2 c0_i32_1
  let c64_i32_3 : BitVec 32 := 64#32
  let v34 : BitVec 32 := Scalar.muli v33 c64_i32_3
  let v35 : BitVec 32 := v34
  let v118 : Index := Scalar.indexCast v35
  let c0_32 : Index := 0#32
  ![v118.toNat, 0]
def k0_off5 : Fin 2 → Nat :=
  let c0_i32_2 : BitVec 32 := 0#32
  let c0_i32_1 : BitVec 32 := 0#32
  let v33 : BitVec 32 := Scalar.subi c0_i32_2 c0_i32_1
  let c64_i32_3 : BitVec 32 := 64#32
  let v34 : BitVec 32 := Scalar.muli v33 c64_i32_3
  let v35 : BitVec 32 := v34
  let c0_i32_70 : BitVec 32 := 0#32
  ![v35.toNat, 0]
def k0_off6 : Fin 2 → Nat :=
  let c0_i32_2 : BitVec 32 := 0#32
  let c0_i32_1 : BitVec 32 := 0#32
  let v33 : BitVec 32 := Scalar.subi c0_i32_2 c0_i32_1
  let c64_i32_3 : BitVec 32 := 64#32
  let v34 : BitVec 32 := Scalar.muli v33 c64_i32_3
  let v35 : BitVec 32 := v34
  ![v35.toNat, 5120]
def k0_off7 : Fin 2 → Nat :=
  let c0_i32_2 : BitVec 32 := 0#32
  let c0_i32_1 : BitVec 32 := 0#32
  let v33 : BitVec 32 := Scalar.subi c0_i32_2 c0_i32_1
  let c64_i32_3 : BitVec 32 := 64#32
  let v34 : BitVec 32 := Scalar.muli v33 c64_i32_3
  let v35 : BitVec 32 := v34
  ![v35.toNat, 5120]
def k0_off8 : Fin 2 → Nat :=
  let c0_i32_2 : BitVec 32 := 0#32
  let c0_i32_1 : BitVec 32 := 0#32
  let v33 : BitVec 32 := Scalar.subi c0_i32_2 c0_i32_1
  let c64_i32_3 : BitVec 32 := 64#32
  let v34 : BitVec 32 := Scalar.muli v33 c64_i32_3
  let v35 : BitVec 32 := v34
  ![v35.toNat, 2048]
def cc0_transform_0 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S64x5632 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S4x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x3072 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Proof.Softmax.lean ====
/- One row of softmax attention and its gradient, over the extended reals: the two ways of writing the gradient of the
   scores agree where the scores are numbers. -/
module

public import Idealize.ShloMosaic.PureOps
public import Idealize.ShloMosaic.Lib.Pointwise

@[expose] public section

noncomputable section

namespace Cert.Softmax

open Idealize.ShloMosaic

/-- The score's scale, 1/16. -/
abbrev scale : EReal := Ideal.ofBits .f32 0x3D800000#32

/-- The largest score of a row (started from minus infinity). -/
def peak {n : ℕ} (s : Fin n → EReal) : EReal := Finset.univ.fold max (Ideal.ofBits .f32 0xFF800000#32) s

/-- The exponential of a score below the largest. -/
def expo {n : ℕ} (s : Fin n → EReal) (j : Fin n) : EReal := Ideal.exp (s j - peak s)

/-- The row's probabilities. -/
def prob {n : ℕ} (s : Fin n → EReal) (j : Fin n) : EReal := Ideal.div (expo s j) (∑ i, expo s i)

/-- The gradient of the scores from the gradient `g` of the probabilities: `p (g - Σ g p)`. -/
def dscore {n : ℕ} (s g : Fin n → EReal) (j : Fin n) : EReal := prob s j * (g j - ∑ i, g i * prob s i)

/-- The same by the quotient rule: `(g / L - Σ g e / L²) e`. -/
def dscoreQuot {n : ℕ} (s g : Fin n → EReal) (j : Fin n) : EReal :=
  (Ideal.div (g j) (∑ i, expo s i) + -(∑ i, g i * Ideal.div 1 ((∑ i, expo s i) * ∑ i, expo s i) * expo s i)) * expo s j

theorem ofBits_negInf : Ideal.ofBits .f32 0xFF800000#32 = (⊥ : EReal) := by
  simp [Ideal.ofBits, Ideal.ieee]

theorem ofBits_posInf : Ideal.ofBits .f32 0x7F800000#32 = (⊤ : EReal) := by
  simp [Ideal.ofBits, Ideal.ieee]

/-- A nonnegative number distributes over a sum of extended reals. -/
theorem sum_mul_coe {ι : Type*} (t : Finset ι) (f : ι → EReal) {c : ℝ} (hc : 0 ≤ c) :
    ∑ i ∈ t, f i * (c : EReal) = (∑ i ∈ t, f i) * (c : EReal) := by
  classical
  induction t using Finset.induction_on with
  | empty => simp
  | insert a t ha ih =>
    rw [Finset.sum_insert ha, Finset.sum_insert ha, ih,
      EReal.right_distrib_of_nonneg_of_ne_top (by exact_mod_cast hc) (EReal.coe_ne_top c)]

theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- Scores that are numbers have a largest that is a number. -/
theorem peak_coe {n : ℕ} (hn : 0 < n) (s : Fin n → ℝ) : ∃ r : ℝ, peak (fun j => (s j : EReal)) = (r : EReal) := by
  have h1 : peak (fun j => (s j : EReal)) < ⊤ := by
    unfold peak
    rw [Finset.fold_max_lt]
    exact ⟨by rw [ofBits_negInf]; exact bot_lt_top, fun j _ => EReal.coe_lt_top _⟩
  have h2 : (s ⟨0, hn⟩ : EReal) ≤ peak (fun j => (s j : EReal)) := by
    unfold peak
    rw [Finset.le_fold_max]
    exact .inr ⟨⟨0, hn⟩, Finset.mem_univ _, le_rfl⟩
  have h3 : peak (fun j => (s j : EReal)) ≠ ⊥ := fun h => by rw [h] at h2; exact absurd h2 (by simp)
  exact ⟨_, (EReal.coe_toReal h1.ne h3).symm⟩

/-- So the exponentials are positive numbers. -/
theorem expo_coe {n : ℕ} (hn : 0 < n) (s : Fin n → ℝ) :
    ∃ e : Fin n → ℝ, (∀ j, 0 < e j) ∧ ∀ j, expo (fun j => (s j : EReal)) j = (e j : EReal) := by
  obtain ⟨r, hr⟩ := peak_coe hn s
  refine ⟨fun j => Real.exp (s j - r), fun j => Real.exp_pos _, fun j => ?_⟩
  unfold expo
  rw [hr, ← EReal.coe_sub, Ideal.exp_coe]

/-- The two forms of the scores' gradient agree, whatever the gradient of the probabilities. -/
theorem dscoreQuot_eq {n : ℕ} (s g : Fin n → EReal) (hs : ∀ j, ∃ r : ℝ, s j = (r : EReal)) (j : Fin n) :
    dscoreQuot s g j = dscore s g j := by
  have hn : 0 < n := Nat.lt_of_le_of_lt (Nat.zero_le _) j.isLt
  choose s' hs' using hs
  obtain rfl : s = fun j => (s' j : EReal) := funext hs'
  obtain ⟨e, he, hE⟩ := expo_coe hn s'
  have hL : ∑ i, expo (fun j => (s' j : EReal)) i = ((∑ i, e i : ℝ) : EReal) := by
    rw [coe_sum]; exact Finset.sum_congr rfl fun i _ => hE i
  have hpos : 0 < ∑ i, e i := Finset.sum_pos (fun i _ => he i) ⟨⟨0, hn⟩, Finset.mem_univ _⟩
  unfold dscoreQuot dscore prob
  rw [hL]
  simp only [hE]
  generalize (∑ i, e i) = l at hpos ⊢
  have hc : 0 ≤ 1 / l := by positivity
  rw [← EReal.coe_mul]
  simp only [Ideal.div_coe hpos.ne', Ideal.div_coe (mul_pos hpos hpos).ne']
  have h1 : ∀ i, g i * (1 * ((1 / (l * l) : ℝ) : EReal)) * (e i : EReal)
      = g i * ((e i : EReal) * ((1 / l : ℝ) : EReal)) * ((1 / l : ℝ) : EReal) := fun i => by
    rw [one_mul, mul_assoc, mul_assoc, ← EReal.coe_mul, ← EReal.coe_mul, ← EReal.coe_mul]
    congr 2
    field_simp
  simp only [h1]
  rw [sum_mul_coe _ _ hc, ← EReal.neg_mul,
    ← EReal.right_distrib_of_nonneg_of_ne_top (by exact_mod_cast hc) (EReal.coe_ne_top _), ← sub_eq_add_neg]
  rw [mul_assoc, mul_comm ((1 / l : ℝ) : EReal), mul_comm]

end Cert.Softmax

end
-- ==== Proof.XaBlock.lean ====
/- What the body of the attention's gradient computes from one block of 512 queries, head by head. -/
module

public import proofs.«01_k».proof.Proof.Softmax
public import proofs.«01_k».proof.Proof.Gen.KernelIdeal.Skeleton
public import proofs.«01_k».proof.Proof.Gen.KernelIdeal
public import Idealize.ShloMosaic.Lib.Pointwise

@[expose] public section

set_option maxRecDepth 16384

noncomputable section

namespace Cert.KernelIdeal.Xa

open Cert.KernelIdeal Cert.KernelIdeal.Gen Idealize.ShloMosaic Idealize.ShloMosaic.TcCoe Idealize.SL.Sem
open Cert.Softmax (scale)

/-! ## The body's operations, one head at a time -/

/-- The scaled scores of a block of queries. -/
def scores (q : FVec Ideal S512x256 .bf16) (k : FVec Ideal S256x256 .f32) : FVec Ideal S512x256 .f32 :=
  mulf (matmul dot_S512x256_S256x256_S512x256_1_1_0_0_n_n none q (truncf .bf16 k bitsLt_bf16_f32)
    (constant S512x256 .f32 0x00000000#32)) (broadcast S512x256 (Scalar.ofBits .f32 0x3D800000#32))

/-- The exponentials below each row's largest score. -/
def expos (s : FVec Ideal S512x256 .f32) : FVec Ideal S512x256 .f32 :=
  exp (subf s (broadcastTo S512x256 (shapeCast S512x1
    (multiReduction .maximumf [1] S512 s 0xFF800000#32 reduces_S512x256_S512 (.inl rfl) rfl) shapeCasts_S512_S512x1)
    broadcasts_S512x1_S512x256))

/-- A row's sum at every place of the row. -/
def rowSum (x : FVec Ideal S512x256 .f32) : FVec Ideal S512x256 .f32 :=
  broadcastTo S512x256 (shapeCast S512x1
    (multiReduction .add [1] S512 x 0x00000000#32 reduces_S512x256_S512 (.inl rfl) rfl) shapeCasts_S512_S512x1)
    broadcasts_S512x1_S512x256

/-- The probabilities of a block. -/
def probs (q : FVec Ideal S512x256 .bf16) (k : FVec Ideal S256x256 .f32) : FVec Ideal S512x256 .f32 :=
  divf (expos (scores q k)) (rowSum (expos (scores q k)))

/-- The gradient of the probabilities. -/
def dprobs (dy : FVec Ideal S512x256 .bf16) (v : FVec Ideal S256x256 .f32) : FVec Ideal S512x256 .f32 :=
  matmul dot_S512x256_S256x256_S512x256_1_1_0_0_n_n none dy (truncf .bf16 v bitsLt_bf16_f32)
    (constant S512x256 .f32 0x00000000#32)

/-- The gradient of the scaled products. -/
def dscores (q : FVec Ideal S512x256 .bf16) (k v : FVec Ideal S256x256 .f32) (dy : FVec Ideal S512x256 .bf16) :
    FVec Ideal S512x256 .f32 :=
  mulf (mulf (probs q k) (subf (dprobs dy v) (rowSum (mulf (dprobs dy v) (probs q k)))))
    (broadcast S512x256 (Scalar.ofBits .f32 0x3D800000#32))

/-- The gradient of the queries. -/
def dqs (q : FVec Ideal S512x256 .bf16) (k v : FVec Ideal S256x256 .f32) (dy : FVec Ideal S512x256 .bf16) :
    FVec Ideal S512x256 .bf16 :=
  truncf .bf16 (matmul dot_S512x256_S256x256_S512x256_1_0_0_1_n_n none (truncf .bf16 (dscores q k v dy) bitsLt_bf16_f32)
    (truncf .bf16 k bitsLt_bf16_f32) (constant S512x256 .f32 0x00000000#32)) bitsLt_bf16_f32

/-- A product over the block's rows added to what was there. -/
def addRows (acc : FVec Ideal S256x256 .f32) (a : FVec Ideal S512x256 .f32) (b : FVec Ideal S512x256 .bf16) :
    FVec Ideal S256x256 .f32 :=
  addf (shapeCast S256x256 acc shapeCasts_S256x256_S256x256)
    (matmul dot_S512x256_S512x256_S256x256_0_0_1_1_n_n none (truncf .bf16 a bitsLt_bf16_f32) b
      (constant S256x256 .f32 0x00000000#32))

/-- The four heads' queries. -/
def head (h : Fin 4) (x : FVec Ideal S512x1024 .bf16) : FVec Ideal S512x256 .bf16 := match h with
  | 0 => extractStridedSlice S512x256 ![0, 0] x slices_S512x1024_o0_0_S512x256
  | 1 => extractStridedSlice S512x256 ![0, 256] x slices_S512x1024_o0_256_S512x256
  | 2 => extractStridedSlice S512x256 ![0, 512] x slices_S512x1024_o0_512_S512x256
  | 3 => extractStridedSlice S512x256 ![0, 768] x slices_S512x1024_o0_768_S512x256

section Payloads
variable (x : FVec Ideal S512x1024 .bf16) (k v a : FVec Ideal S256x256 .f32) (dy : FVec Ideal S512x256 .bf16)

theorem dv0 : k0_pay4 x k dy a = addRows a (probs (head 0 x) k) dy := rfl
theorem dv1 : k0_pay10 x k dy a = addRows a (probs (head 1 x) k) dy := rfl
theorem dv2 : k0_pay17 (k0_pay14 x k) (k0_pay15 x k) dy a = addRows a (probs (head 2 x) k) dy := rfl
theorem dv3 : k0_pay24 (k0_pay21 x) (k0_pay22 k) dy a = addRows a (probs (head 3 x) k) dy := rfl

theorem dq0 : k0_pay7 k (k0_pay5 x k v dy) (FloatOps.ofBits .f32 0x3D800000#32) = dqs (head 0 x) k v dy := rfl
theorem dq1 : k0_pay12 k v (k0_pay9 x k) dy = dqs (head 1 x) k v dy := rfl
theorem dq2 : k0_pay19 k v (k0_pay14 x k) (k0_pay15 x k) dy = dqs (head 2 x) k v dy := rfl
theorem dq3 : k0_pay26 k v (k0_pay21 x) (k0_pay22 k) dy = dqs (head 3 x) k v dy := rfl

theorem dk0 : k0_pay8 x (k0_pay5 x k v dy) (FloatOps.ofBits .f32 0x3D800000#32) a
    = addRows a (dscores (head 0 x) k v dy) (head 0 x) := rfl
theorem dk1 : k0_pay13 x v (k0_pay9 x k) dy a = addRows a (dscores (head 1 x) k v dy) (head 1 x) := rfl
theorem dk2 : k0_pay20 x v (k0_pay14 x k) (k0_pay15 x k) dy a = addRows a (dscores (head 2 x) k v dy) (head 2 x) := rfl
theorem dk3 : k0_pay1 (k0_pay27 a) (k0_pay28 x) (k0_pay29 v (k0_pay21 x) (k0_pay22 k) dy) (constant S256x256 .f32 0x00000000#32)
    = addRows a (dscores (head 3 x) k v dy) (head 3 x) := rfl
end Payloads

/-! ## … read at an index -/

/-- A row of products: the scaled scores of one query. -/
abbrev sRow (q : Fin 256 → EReal) (k : Fin 256 → Fin 256 → EReal) (j : Fin 256) : EReal := (∑ d, q d * k j d) * scale

section At
variable (q dy : FVec Ideal S512x256 .bf16) (k v : FVec Ideal S256x256 .f32)

theorem scores_at (r : Fin 512) (j : Fin 256) :
    scores q k (ix2 r j) = sRow (fun d => q (ix2 r d)) (fun i d => k (ix2 i d)) j := by
  pointwise! [scores]

theorem expos_at (s : FVec Ideal S512x256 .f32) (r : Fin 512) (j : Fin 256) :
    expos s (ix2 r j) = Cert.Softmax.expo (fun j => s (ix2 r j)) j := by
  pointwise! [expos, Cert.Softmax.expo, Cert.Softmax.peak]

theorem rowSum_at (x : FVec Ideal S512x256 .f32) (r : Fin 512) (j : Fin 256) :
    rowSum x (ix2 r j) = ∑ i : Fin 256, x (ix2 r i) := by
  pointwise! [rowSum]

theorem probs_at (r : Fin 512) (j : Fin 256) :
    probs q k (ix2 r j) = Cert.Softmax.prob (sRow (fun d => q (ix2 r d)) (fun i d => k (ix2 i d))) j := by
  unfold probs Cert.Softmax.prob
  pointwise [rowSum_at, expos_at, scores_at]

theorem dprobs_at (r : Fin 512) (j : Fin 256) :
    dprobs dy v (ix2 r j) = ∑ d : Fin 256, dy (ix2 r d) * v (ix2 j d) := by
  pointwise! [dprobs]

theorem dscores_at (r : Fin 512) (j : Fin 256) :
    dscores q k v dy (ix2 r j) = Cert.Softmax.dscore (sRow (fun d => q (ix2 r d)) (fun i d => k (ix2 i d)))
      (fun j => ∑ d : Fin 256, dy (ix2 r d) * v (ix2 j d)) j * scale := by
  unfold dscores Cert.Softmax.dscore
  pointwise [rowSum_at, probs_at, dprobs_at]

theorem dqs_at (r : Fin 512) (d : Fin 256) :
    dqs q k v dy (ix2 r d) = ∑ j : Fin 256, Cert.Softmax.dscore (sRow (fun d => q (ix2 r d)) (fun i d => k (ix2 i d)))
      (fun j => ∑ d : Fin 256, dy (ix2 r d) * v (ix2 j d)) j * scale * k (ix2 j d) := by
  pointwise! [dqs, dscores_at]

theorem addRows_at (acc : FVec Ideal S256x256 .f32) (a : FVec Ideal S512x256 .f32) (b : FVec Ideal S512x256 .bf16) (j d : Fin 256) :
    addRows acc a b (ix2 j d) = acc (ix2 j d) + ∑ r : Fin 512, a (ix2 r j) * b (ix2 r d) := by
  pointwise! [addRows]

theorem head_at (h : Fin 4) (x : FVec Ideal S512x1024 .bf16) (r : Fin 512) (d : Fin 256) :
    head h x (ix2 r d) = x (ix2 r ⟨h.val * 256 + d.val, by omega⟩) := by
  fin_cases h <;> pointwise! [head]
end At

end Cert.KernelIdeal.Xa

end
-- ==== Proof.XaArrays.lean ====
/- What the attention's gradient leaves in its two result arrays. -/
module

public import proofs.«01_k».proof.Proof.XaBlock
public import proofs.«01_k».proof.Proof.Gen.KernelIdeal.Value
public import Idealize.ShloMosaic.Lib.Pipeline.ValueKit

@[expose] public section

set_option maxRecDepth 16384

noncomputable section

namespace Cert.KernelIdeal.Xa

open Cert.KernelIdeal Cert.KernelIdeal.Gen Idealize.ShloMosaic Idealize.ShloMosaic.TcCoe Idealize.SL.Sem
open Idealize.ShloMosaic.Pipeline (Dat)
open Cert.Softmax (scale)

variable (m : (ℓ : Loc nD τ sig) → Buf (Elt Ideal) ℓ) (c : Dev nD)

/-! ## The gradient as a function of the whole arrays -/

section Whole
variable (Q DY : FVec Ideal S8192x1024 .bf16) (KV : FVec Ideal S256x2048 .f32)

/-- The scaled scores of query `r` in head `h`. -/
def score (h : Fin 4) (r : Fin 8192) : Fin 256 → EReal :=
  sRow (fun d => Q (ix2 r ⟨h.val * 256 + d.val, by omega⟩)) (fun j d => KV (ix2 j ⟨h.val * 256 + d.val, by omega⟩))

/-- The gradient of the probabilities of query `r` in head `h`. -/
def dprob (h : Fin 4) (r : Fin 8192) (j : Fin 256) : EReal :=
  ∑ d : Fin 256, DY (ix2 r ⟨h.val * 256 + d.val, by omega⟩) * KV (ix2 j ⟨1024 + (h.val * 256 + d.val), by omega⟩)

/-- The gradient of the product of query `r` and key `j` in head `h`. -/
def dprod (h : Fin 4) (r : Fin 8192) (j : Fin 256) : EReal :=
  Cert.Softmax.dscore (score Q KV h r) (dprob DY KV h r) j * scale

/-- The queries' gradient. -/
def dqAt (h : Fin 4) (r : Fin 8192) (d : Fin 256) : EReal :=
  ∑ j : Fin 256, dprod Q DY KV h r j * KV (ix2 j ⟨h.val * 256 + d.val, by omega⟩)

/-- What query `r` adds to the keys' gradient. -/
def dkTerm (h : Fin 4) (j d : Fin 256) (r : Fin 8192) : EReal :=
  dprod Q DY KV h r j * Q (ix2 r ⟨h.val * 256 + d.val, by omega⟩)

/-- What query `r` adds to the values' gradient. -/
def dvTerm (h : Fin 4) (j d : Fin 256) (r : Fin 8192) : EReal :=
  Cert.Softmax.prob (score Q KV h r) j * DY (ix2 r ⟨h.val * 256 + d.val, by omega⟩)

/-- The queries' gradient as an array. -/
def dq : FVec Ideal S8192x1024 .bf16 := fun i =>
  dqAt Q DY KV ⟨(i 1 : ℕ) / 256, by have h : (i 1 : ℕ) < 1024 := (i 1).isLt; omega⟩ (i 0) ⟨(i 1 : ℕ) % 256, by omega⟩

/-- What query `r` adds to the gradient of the keys and the values. -/
def dkvTerm (i : S256x2048.Idx) (r : Fin 8192) : EReal :=
  if h : (i 1 : ℕ) < 1024 then dkTerm Q DY KV ⟨(i 1 : ℕ) / 256, by omega⟩ (i 0) ⟨(i 1 : ℕ) % 256, by omega⟩ r
  else dvTerm Q DY KV ⟨(i 1 : ℕ) / 256 - 4, by have h' : (i 1 : ℕ) < 2048 := (i 1).isLt; omega⟩ (i 0) ⟨(i 1 : ℕ) % 256, by omega⟩ r

/-- The keys' gradient beside the values'. -/
def dkv : FVec Ideal S256x2048 .f32 := fun i => ∑ r : Fin 8192, dkvTerm Q DY KV i r

theorem dq_at (h : Fin 4) (r : Fin 8192) (d : Fin 256) (i : S8192x1024.Idx) (h0 : (i 0 : ℕ) = r) (h1 : (i 1 : ℕ) = h.val * 256 + d.val) :
    dq Q DY KV i = dqAt Q DY KV h r d := by
  unfold dq
  congr 1 <;> (apply Fin.ext; simp only []; omega)

theorem dkvTerm_lo (h : Fin 4) (j d : Fin 256) (r : Fin 8192) (i : S256x2048.Idx) (h0 : (i 0 : ℕ) = j)
    (h1 : (i 1 : ℕ) = h.val * 256 + d.val) : dkvTerm Q DY KV i r = dkTerm Q DY KV h j d r := by
  unfold dkvTerm
  rw [dif_pos (by omega)]
  congr 1 <;> (apply Fin.ext; simp only []; omega)

theorem dkvTerm_hi (h : Fin 4) (j d : Fin 256) (r : Fin 8192) (i : S256x2048.Idx) (h0 : (i 0 : ℕ) = j)
    (h1 : (i 1 : ℕ) = 1024 + (h.val * 256 + d.val)) : dkvTerm Q DY KV i r = dvTerm Q DY KV h j d r := by
  unfold dkvTerm
  rw [dif_neg (by omega)]
  congr 1 <;> (apply Fin.ext; simp only []; omega)
end Whole

theorem idx : ∀ t : Fin cfg0.N, win0_0.index t = ![t.val, 0] ∧ win0_1.index t = ![0, 0] ∧ win0_2.index t = ![t.val, 0]
    ∧ win0_3.index t = ![t.val, 0] ∧ win0_4.index t = ![0, 0] :=
  (by decide +kernel : ∀ t : Fin grid0.N, _)

/-- The arguments. -/
abbrev mQ : FVec Ideal S8192x1024 .bf16 := m ((c : Thread nD τ).loc main_arg0)
abbrev mKV : FVec Ideal S256x2048 .f32 := m ((c : Thread nD τ).loc main_arg1)
abbrev mDY : FVec Ideal S8192x1024 .bf16 := m ((c : Thread nD τ).loc main_arg2)

/-! ## One block of queries -/

section Block
variable (t : Fin cfg0.N)

theorem blkQ (r : Fin 512) (d : Fin 1024) :
    (show FVec Ideal S512x1024 .bf16 from iblk m c 0 t) (ix2 r d)
      = mQ m c (ix2 ⟨t.val * 512 + r.val, by have := lt_of_lt_of_eq t.isLt N_0; omega⟩ d) := by
  blk_point [iblk, V, idx t]

variable (h : Fin 4) (k v : FVec Ideal S256x256 .f32) (dy : FVec Ideal S512x256 .bf16)
  (hk : ∀ j d : Fin 256, k (ix2 j d) = mKV m c (ix2 j ⟨h.val * 256 + d.val, by omega⟩))
  (hv : ∀ j d : Fin 256, v (ix2 j d) = mKV m c (ix2 j ⟨1024 + (h.val * 256 + d.val), by omega⟩))
  (hdy : ∀ (r : Fin 512) (d : Fin 256), dy (ix2 r d)
    = mDY m c (ix2 ⟨t.val * 512 + r.val, by have := lt_of_lt_of_eq t.isLt N_0; omega⟩ ⟨h.val * 256 + d.val, by omega⟩))

include hk hv hdy in
theorem block_dq (x : S512x256.Idx) (i : S8192x1024.Idx) (h0 : (i 0 : ℕ) = t.val * 512 + x 0)
    (h1 : (i 1 : ℕ) = h.val * 256 + x 1) :
    dqs (head h (iblk m c 0 t)) k v dy x = dq (mQ m c) (mDY m c) (mKV m c) i := by
  idx_vars x
  rw [dq_at _ _ _ h ⟨t.val * 512 + x0.val, by have := lt_of_lt_of_eq t.isLt N_0; have : x0.val < 512 := x0.isLt; omega⟩ _ i h0 h1, dqs_at]
  simp only [head_at, blkQ, hk, hv, hdy]
  rfl

include hk hv hdy in
theorem block_dk (acc : FVec Ideal S256x256 .f32) (x : S256x256.Idx) (i : S256x2048.Idx) (h0 : (i 0 : ℕ) = x 0)
    (h1 : (i 1 : ℕ) = h.val * 256 + x 1) :
    addRows acc (dscores (head h (iblk m c 0 t)) k v dy) (head h (iblk m c 0 t)) x = acc x
      + ∑ r : Fin 512, dkvTerm (mQ m c) (mDY m c) (mKV m c) i ⟨t.val * 512 + r.val, by have := lt_of_lt_of_eq t.isLt N_0; omega⟩ := by
  idx_vars x
  simp only [dkvTerm_lo _ _ _ h _ _ _ i h0 h1, addRows_at, dscores_at, head_at, blkQ, hk, hv, hdy]
  rfl

include hk hdy in
theorem block_dv (acc : FVec Ideal S256x256 .f32) (x : S256x256.Idx) (i : S256x2048.Idx) (h0 : (i 0 : ℕ) = x 0)
    (h1 : (i 1 : ℕ) = 1024 + (h.val * 256 + x 1)) :
    addRows acc (probs (head h (iblk m c 0 t)) k) dy x = acc x
      + ∑ r : Fin 512, dkvTerm (mQ m c) (mDY m c) (mKV m c) i ⟨t.val * 512 + r.val, by have := lt_of_lt_of_eq t.isLt N_0; omega⟩ := by
  idx_vars x
  simp only [dkvTerm_hi _ _ _ h _ _ _ i h0 h1, addRows_at, probs_at, head_at, blkQ, hk, hdy]
  rfl
end Block

/-! ## The result arrays -/

theorem final_dq : (dats m 0 c).arrAt 3 (cfgs 0).N = dq (mQ m c) (mDY m c) (mKV m c) := by
  refine (dats m 0 c).arrAt_eq_of_covers 3 _ (by decide +kernel) fun t _ y => ?_
  blk_simp
  rw [after0_3]
  by_cases h0 : t.val % 16 = 0
  · rw [outsAt0_A m c t h0]
    frame_out
    canon_tiles x h
    · rw [dq3]; refine block_dq m c t 3 _ _ _ (fun j d => ?_) (fun j d => ?_) (fun r d => ?_) x _ ?_ ?_ <;> (first | blk_point [iblk, V, idx t] | (blk_simp [idx t] <;> try omega))
    · rw [dq2]; refine block_dq m c t 2 _ _ _ (fun j d => ?_) (fun j d => ?_) (fun r d => ?_) x _ ?_ ?_ <;> (first | blk_point [iblk, V, idx t] | (blk_simp [idx t] <;> try omega))
    · rw [dq1]; refine block_dq m c t 1 _ _ _ (fun j d => ?_) (fun j d => ?_) (fun r d => ?_) x _ ?_ ?_ <;> (first | blk_point [iblk, V, idx t] | (blk_simp [idx t] <;> try omega))
    · rw [dq0]; refine block_dq m c t 0 _ _ _ (fun j d => ?_) (fun j d => ?_) (fun r d => ?_) x _ ?_ ?_ <;> (first | blk_point [iblk, V, idx t] | (blk_simp [idx t] <;> try omega))
  · rw [outsAt0_B m c t h0]
    frame_out
    canon_tiles x h
    · rw [dq3]; refine block_dq m c t 3 _ _ _ (fun j d => ?_) (fun j d => ?_) (fun r d => ?_) x _ ?_ ?_ <;> (first | blk_point [iblk, V, idx t] | (blk_simp [idx t] <;> try omega))
    · rw [dq2]; refine block_dq m c t 2 _ _ _ (fun j d => ?_) (fun j d => ?_) (fun r d => ?_) x _ ?_ ?_ <;> (first | blk_point [iblk, V, idx t] | (blk_simp [idx t] <;> try omega))
    · rw [dq1]; refine block_dq m c t 1 _ _ _ (fun j d => ?_) (fun j d => ?_) (fun r d => ?_) x _ ?_ ?_ <;> (first | blk_point [iblk, V, idx t] | (blk_simp [idx t] <;> try omega))
    · rw [dq0]; refine block_dq m c t 0 _ _ _ (fun j d => ?_) (fun j d => ?_) (fun r d => ?_) x _ ?_ ?_ <;> (first | blk_point [iblk, V, idx t] | (blk_simp [idx t] <;> try omega))

end Cert.KernelIdeal.Xa

end
-- ==== Proof.XaSums.lean ====
/- The keys' and the values' gradient: sixteen blocks of queries summed in one array. -/
module

public import proofs.«01_k».proof.Proof.XaArrays
public import Idealize.ShloMosaic.Lib.Pipeline.ReadBack
public import Idealize.ShloMosaic.Lib.Pipeline.ValueKit

@[expose] public section

set_option maxRecDepth 16384

noncomputable section

namespace Cert.KernelIdeal.Xa

open Cert.KernelIdeal Cert.KernelIdeal.Gen Idealize.ShloMosaic Idealize.ShloMosaic.TcCoe Idealize.SL.Sem
open Idealize.ShloMosaic.Pipeline (Dat)
open Cert.Softmax (scale)

variable (m : (ℓ : Loc nD τ sig) → Buf (Elt Ideal) ℓ) (c : Dev nD)

/-- Stores that cover an index hide what was stored before them. -/
theorem canon_append {Val : EltTy → Type} {S : Shape} {e : EltTy} [∀ e, Nonempty (Val e)] :
    ∀ (L L' : List (View.Piece Val S e)) (y : S.Idx) (_ : ∃ p ∈ L, y ∈ p.1.set), View.canon (L ++ L') y = View.canon L y
  | [], _, _, hy => by obtain ⟨p, hp, _⟩ := hy; simp at hp
  | p :: L, L', y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_append L L' y ?_
      obtain ⟨q, hq, hyq⟩ := hy
      rcases List.mem_cons.mp hq with rfl | hq'
      · exact absurd hyq hm
      · exact ⟨q, hq', hyq⟩

/-- What the point's block of queries adds to an entry of the second result. -/
def dkvPart (t : Fin cfg0.N) (y : S256x2048.Idx) : EReal :=
  ∑ r : Fin 512, dkvTerm (mQ m c) (mDY m c) (mKV m c) y ⟨t.val * 512 + r.val, by have := lt_of_lt_of_eq t.isLt N_0; omega⟩

theorem step (t : Fin cfg0.N) (h0 : ¬ t.val % 16 = 0) (y : S256x2048.Idx) :
    (outsAt0 m c t.val t.isLt).2 y
      = (outsAt0 m c (t.val - 1) (Nat.lt_of_le_of_lt (Nat.sub_le _ _) t.isLt)).2 y + dkvPart m c t y := by
  rw [outsAt0_B m c t h0]
  frame_out
  canon_tiles x h
  · rw [dk3]; refine (block_dk m c t 3 _ _ _ (fun j d => ?_) (fun j d => ?_) (fun r d => ?_) _ x y ?_ ?_).trans ?_
    iterate 5 (first | omega | blk_point [iblk, V, idx t])
    refine Ideal.add_congr ?_ rfl; pointwise; blk_ext
  · rw [dv3]; refine (block_dv m c t 3 _ _ (fun j d => ?_) (fun r d => ?_) _ x y ?_ ?_).trans ?_
    iterate 4 (first | omega | blk_point [iblk, V, idx t])
    refine Ideal.add_congr ?_ rfl; pointwise; blk_ext
  · rw [dk2]; refine (block_dk m c t 2 _ _ _ (fun j d => ?_) (fun j d => ?_) (fun r d => ?_) _ x y ?_ ?_).trans ?_
    iterate 5 (first | omega | blk_point [iblk, V, idx t])
    refine Ideal.add_congr ?_ rfl; pointwise; blk_ext
  · rw [dv2]; refine (block_dv m c t 2 _ _ (fun j d => ?_) (fun r d => ?_) _ x y ?_ ?_).trans ?_
    iterate 4 (first | omega | blk_point [iblk, V, idx t])
    refine Ideal.add_congr ?_ rfl; pointwise; blk_ext
  · rw [dk1]; refine (block_dk m c t 1 _ _ _ (fun j d => ?_) (fun j d => ?_) (fun r d => ?_) _ x y ?_ ?_).trans ?_
    iterate 5 (first | omega | blk_point [iblk, V, idx t])
    refine Ideal.add_congr ?_ rfl; pointwise; blk_ext
  · rw [dv1]; refine (block_dv m c t 1 _ _ (fun j d => ?_) (fun r d => ?_) _ x y ?_ ?_).trans ?_
    iterate 4 (first | omega | blk_point [iblk, V, idx t])
    refine Ideal.add_congr ?_ rfl; pointwise; blk_ext
  · rw [dk0]; refine (block_dk m c t 0 _ _ _ (fun j d => ?_) (fun j d => ?_) (fun r d => ?_) _ x y ?_ ?_).trans ?_
    iterate 5 (first | omega | blk_point [iblk, V, idx t])
    refine Ideal.add_congr ?_ rfl; pointwise; blk_ext
  · rw [dv0]; refine (block_dv m c t 0 _ _ (fun j d => ?_) (fun r d => ?_) _ x y ?_ ?_).trans ?_
    iterate 4 (first | omega | blk_point [iblk, V, idx t])
    refine Ideal.add_congr ?_ rfl; pointwise; blk_ext

theorem first (t : Fin cfg0.N) (h0 : t.val % 16 = 0) (y : S256x2048.Idx) :
    (outsAt0 m c t.val t.isLt).2 y = 0 + dkvPart m c t y := by
  rw [outsAt0_A m c t h0]
  frame_out
  refine (canon_append [_, _, _, _, _, _, _, _] [_] y (View.cover_of_tiled _ ![256, 256] (by rfl) y)).trans ?_
  simp (disch := decide) only [↓View.readCov_skip, ↓View.readCov_fill]
  canon_tiles x h
  · rw [dk3]; refine (block_dk m c t 3 _ _ _ (fun j d => ?_) (fun j d => ?_) (fun r d => ?_) _ x y ?_ ?_).trans ?_
    iterate 5 (first | omega | blk_point [iblk, V, idx t])
    refine Ideal.add_congr ?_ rfl; pointwise! [k0_pay2]
  · rw [dv3]; refine (block_dv m c t 3 _ _ (fun j d => ?_) (fun r d => ?_) _ x y ?_ ?_).trans ?_
    iterate 4 (first | omega | blk_point [iblk, V, idx t])
    refine Ideal.add_congr ?_ rfl; pointwise! [k0_pay2]
  · rw [dk2]; refine (block_dk m c t 2 _ _ _ (fun j d => ?_) (fun j d => ?_) (fun r d => ?_) _ x y ?_ ?_).trans ?_
    iterate 5 (first | omega | blk_point [iblk, V, idx t])
    refine Ideal.add_congr ?_ rfl; pointwise! [k0_pay2]
  · rw [dv2]; refine (block_dv m c t 2 _ _ (fun j d => ?_) (fun r d => ?_) _ x y ?_ ?_).trans ?_
    iterate 4 (first | omega | blk_point [iblk, V, idx t])
    refine Ideal.add_congr ?_ rfl; pointwise! [k0_pay2]
  · rw [dk1]; refine (block_dk m c t 1 _ _ _ (fun j d => ?_) (fun j d => ?_) (fun r d => ?_) _ x y ?_ ?_).trans ?_
    iterate 5 (first | omega | blk_point [iblk, V, idx t])
    refine Ideal.add_congr ?_ rfl; pointwise! [k0_pay2]
  · rw [dv1]; refine (block_dv m c t 1 _ _ (fun j d => ?_) (fun r d => ?_) _ x y ?_ ?_).trans ?_
    iterate 4 (first | omega | blk_point [iblk, V, idx t])
    refine Ideal.add_congr ?_ rfl; pointwise! [k0_pay2]
  · rw [dk0]; refine (block_dk m c t 0 _ _ _ (fun j d => ?_) (fun j d => ?_) (fun r d => ?_) _ x y ?_ ?_).trans ?_
    iterate 5 (first | omega | blk_point [iblk, V, idx t])
    refine Ideal.add_congr ?_ rfl; pointwise! [k0_pay2]
  · rw [dv0]; refine (block_dv m c t 0 _ _ (fun j d => ?_) (fun r d => ?_) _ x y ?_ ?_).trans ?_
    iterate 4 (first | omega | blk_point [iblk, V, idx t])
    refine Ideal.add_congr ?_ rfl; pointwise! [k0_pay2]

theorem final_dkv : (dats m 0 c).arrAt 4 (cfgs 0).N = dkv (mQ m c) (mDY m c) (mKV m c) := by
  refine (dats m 0 c).arrAt_eq_of_after_last 4 t0_15 (by decide +kernel) _ fun j => ?_
  blk_simp
  rw [after0_4, Pipeline.eq_sum_fin_of_reset_step_apply_last (fun n h => (outsAt0 m c n h).2) 16 (fun _ => 0)
    (fun p j => dkvPart m c p j) (fun t h j => first m c t h j) (fun t h j => step m c t h j) (le_of_eq N_0) t0_15 rfl j, zero_add]
  unfold dkvPart dkv
  refine Fin.sum_mul_add_congr fun s k hl => ?_
  rfl

end Cert.KernelIdeal.Xa

end
-- ==== Proof.XaReference.lean ====
/- The reference's gradient of the attention, read at an index. -/
module

public import proofs.«01_k».proof.Proof.XaArrays
public import proofs.«01_k».proof.Proof.Gen.ReferenceIdeal.Read

@[expose] public section

set_option maxRecDepth 16384

noncomputable section

namespace Cert.ReferenceIdeal.Xa

open Cert.ReferenceIdeal Cert.ReferenceIdeal.Gen Cert.ReferenceIdeal.Read Idealize.ShloMosaic Idealize.ShloMosaic.TcCoe Idealize.SL.Sem
open Cert.Softmax (scale)
open Cert.KernelIdeal.Xa (score dprob dprod)

variable (Q DY : FVec Ideal S8192x1024 .bf16) (KV : FVec Ideal S256x2048 .f32)

theorem score_at (h : Fin 4) (r : Fin 8192) (j : Fin 256) : val_main_v8 (F := Ideal) Q KV (ix3 h r j) = score Q KV h r j := by
  unfold score Cert.KernelIdeal.Xa.sRow
  pointwise [val_main_v8, val_main_v7, val_main_cst, val_main_v6, val_main_v4, val_main_v3, val_main_v1, val_main_v0]
  blk_ext

theorem max_at (x : FVec Ideal S4x8192x256 .f32) (h : Fin 4) (r : Fin 8192) :
    Host.reduce FloatOps.maximumf x (val_main_cst_0 (F := Ideal)) reducesTo_S4x8192x256_S4x8192_d2 h_S_ (ix2 h r)
      = Cert.Softmax.peak (fun j : Fin 256 => x (ix3 h r j)) := by
  unfold Cert.Softmax.peak
  pointwise [val_main_cst_0]

theorem peak_at (h : Fin 4) (r : Fin 8192) : val_main_v16 (F := Ideal) Q KV (ix2 h r) = Cert.Softmax.peak (score Q KV h r) := by
  have e : val_main_v9 (F := Ideal) Q KV (ix2 h r) = Cert.Softmax.peak (score Q KV h r) := by
    unfold val_main_v9
    rw [max_at]
    exact congrArg Cert.Softmax.peak (funext fun j => score_at Q KV h r j)
  have e' : val_main_v15 (F := Ideal) (ix2 h r) = (⊥ : EReal) := by
    rw [val_main_v15_apply, val_main_cst_2_apply]
    exact Cert.Softmax.ofBits_negInf
  rw [val_main_v16_apply, e, e']
  exact max_eq_right bot_le

theorem expo_at (h : Fin 4) (r : Fin 8192) (j : Fin 256) :
    val_main_v29 (F := Ideal) Q KV (ix3 h r j) = Cert.Softmax.expo (score Q KV h r) j := by
  unfold Cert.Softmax.expo
  pointwise! [val_main_v29, val_main_v28, val_main_v27, val_main_v26, score_at, peak_at]

theorem sum_at (h : Fin 4) (r : Fin 8192) :
    val_main_v30 (F := Ideal) Q KV (ix2 h r) = ∑ i, Cert.Softmax.expo (score Q KV h r) i := by
  pointwise! [val_main_v30, val_main_cst_8, expo_at]

theorem prob_at (h : Fin 4) (r : Fin 8192) (j : Fin 256) :
    val_main_v33 (F := Ideal) Q KV (ix3 h r j) = Cert.Softmax.prob (score Q KV h r) j := by
  unfold Cert.Softmax.prob
  pointwise! [val_main_v33, val_main_v32, val_main_v31, expo_at, sum_at]

theorem dprob_at (h : Fin 4) (r : Fin 8192) (j : Fin 256) :
    val_main_v43 (F := Ideal) KV DY (ix3 h r j) = dprob DY KV h r j := by
  unfold dprob
  pointwise [val_main_v43, val_main_v42, val_main_v41, val_main_v40, val_main_v5, val_main_v2]
  blk_ext

theorem dscore_at (h : Fin 4) (r : Fin 8192) (j : Fin 256) :
    val_main_v57 (F := Ideal) Q KV DY (ix3 h r j) = Cert.Softmax.dscoreQuot (score Q KV h r) (dprob DY KV h r) j := by
  unfold Cert.Softmax.dscoreQuot
  pointwise! [val_main_v57, val_main_v56, val_main_v55, val_main_v54, val_main_v53, val_main_v52, val_main_v51, val_main_v50,
    val_main_v49, val_main_v48, val_main_v47, val_main_v46, val_main_v36, val_main_v35, val_main_v34, val_main_v31,
    val_main_cst_9, val_main_cst_10, val_main_cst_11, expo_at, sum_at, dprob_at, Fin.sum_univ_one]

theorem dprod_at (hs : ∀ h r j, ∃ x : ℝ, score Q KV h r j = x) (h : Fin 4) (r : Fin 8192) (j : Fin 256) :
    val_main_v59 (F := Ideal) Q KV DY (ix3 h r j) = dprod Q DY KV h r j := by
  unfold dprod
  rw [← Cert.Softmax.dscoreQuot_eq _ _ (hs h r)]
  pointwise! [val_main_v59, val_main_v58, val_main_cst_12, dscore_at]

theorem dq_at (hs : ∀ h r j, ∃ x : ℝ, score Q KV h r j = x) : val_main_v68 (F := Ideal) Q KV DY = Cert.KernelIdeal.Xa.dq Q DY KV := by
  funext i
  idx_vars i
  unfold Cert.KernelIdeal.Xa.dq Cert.KernelIdeal.Xa.dqAt
  pointwise [val_main_v68, val_main_v66, val_main_v63, val_main_v62, val_main_v4, val_main_v1, dprod_at _ _ _ hs]
  refine Fin.sum_fin_congr fun j => Ideal.mul_congr rfl (congrArg KV ?_)
  blk_ext

theorem dkv_at (hs : ∀ h r j, ∃ x : ℝ, score Q KV h r j = x) : val_main_v67 (F := Ideal) Q KV DY = Cert.KernelIdeal.Xa.dkv Q DY KV := by
  funext i
  idx_vars i
  unfold Cert.KernelIdeal.Xa.dkv Cert.KernelIdeal.Xa.dkvTerm Cert.KernelIdeal.Xa.dkTerm Cert.KernelIdeal.Xa.dvTerm
  pointwise [val_main_v67, val_main_v65, val_main_v64, val_main_v61, val_main_v60, val_main_v45, val_main_v44, val_main_v42, val_main_v41, val_main_v40, val_main_v3, val_main_v0, dprod_at _ _ _ hs, prob_at]
  by_cases hlt : (i1 : ℕ) < 1024
  · simp only [hlt, dif_pos]
  · simp only [hlt, dif_neg, not_false_eq_true]
    have e1 : ((i1 : ℕ) - 1024) / 256 = (i1 : ℕ) / 256 - 4 := by omega
    have e2 : ((i1 : ℕ) - 1024) % 256 = (i1 : ℕ) % 256 := by omega
    refine Fin.sum_fin_congr fun x => ?_
    simp only [e1, e2]
    exact mul_comm _ _

end Cert.ReferenceIdeal.Xa

end
-- ==== Proof.XaFinite.lean ====
/- The precondition: the queries and the keys are numbers, and so the scores are. -/
module

public import proofs.«01_k».proof.Pre_finite
public import proofs.«01_k».proof.Proof.Gen.Pre_finite
public import proofs.«01_k».proof.Proof.XaArrays
public import Idealize.ShloMosaic.Lib.ReduceAll

@[expose] public section

set_option maxRecDepth 16384

noncomputable section

namespace Cert.Pre_finite.Xa

open Cert.Pre_finite Cert.Pre_finite.Gen Idealize.ShloMosaic

/-- An extended real with an absolute value below infinity is a number. -/
theorem real_of_abs_lt (x : EReal) (h : FloatOps.cmpf (F := Ideal) (φ := .f32) .olt (FloatOps.absf (F := Ideal) (φ := .f32) x)
    (Ideal.ofBits .f32 0x7F800000#32) = 1#1) : ∃ r : ℝ, x = r := by
  have h1 : Ideal.ofBits .f32 0x7F800000#32 = (⊤ : EReal) := Cert.Softmax.ofBits_posInf
  rw [h1] at h
  induction x with
  | bot => exact absurd h (by pointwise; simp [FloatOps.absf])
  | coe r => exact ⟨r, rfl⟩
  | top => exact absurd h (by pointwise; simp [FloatOps.absf])

variable (Q DY : FVec Ideal S8192x1024 .bf16) (KV : FVec Ideal S256x2048 .f32)

theorem real_args (h : Cert.Pre_finite.fn (F := Ideal) Q KV DY = fun _ => 1#1) :
    (∀ i, ∃ r : ℝ, Q i = r) ∧ ∀ (j : Fin 256) (d : Fin 1024), ∃ r : ℝ, KV (ix2 j ⟨d.val, by omega⟩) = r := by
  haveI : Subsingleton S_.Idx := ⟨fun y z => funext fun a => a.elim0⟩
  have e := congrFun h (fun a => a.elim0)
  simp only [Cert.Pre_finite.fn, andi] at e
  have e2 : ∀ a b : BitVec 1, IntOp.andi a b = 1#1 → a = 1#1 ∧ b = 1#1 := by decide
  obtain ⟨h1, h2⟩ := e2 _ _ e
  refine ⟨fun i => ?_, fun j d => ?_⟩
  · exact real_of_abs_lt _ (Host.reduce_andi_all _ _ _ _ _ h1 i)
  · have := Host.reduce_andi_all _ _ _ _ _ h2 (ix2 j d)
    refine real_of_abs_lt _ ?_
    rw [← this]
    pointwise

/-- A scaled product of numbers is a number. -/
theorem real_row {q : Fin 256 → EReal} {k : Fin 256 → Fin 256 → EReal} (hq : ∀ d, ∃ r : ℝ, q d = r)
    (hk : ∀ j d, ∃ r : ℝ, k j d = r) (j : Fin 256) : ∃ r : ℝ, Cert.KernelIdeal.Xa.sRow q k j = r := by
  choose q' hq using hq
  choose k' hk using hk
  have hs : ∃ s : ℝ, Cert.Softmax.scale = (s : EReal) := ⟨1 / 16, by simp [Ideal.ofBits, Ideal.ieee, -EReal.coe_mul]; norm_num⟩
  obtain ⟨s, hs⟩ := hs
  refine ⟨(∑ d, q' d * k' j d) * s, ?_⟩
  rw [EReal.coe_mul, Cert.Softmax.coe_sum]
  unfold Cert.KernelIdeal.Xa.sRow
  rw [hs]
  simp only [hq, hk, EReal.coe_mul]

/-- Under the precondition every score is a number. -/
theorem real_scores (h : Cert.Pre_finite.fn (F := Ideal) Q KV DY = fun _ => 1#1) (a : Fin 4) (r : Fin 8192) (j : Fin 256) :
    ∃ x : ℝ, Cert.KernelIdeal.Xa.score Q KV a r j = x := by
  obtain ⟨hq, hk⟩ := real_args Q DY KV h
  exact real_row (fun d => hq _) (fun j d => hk j ⟨a.val * 256 + d.val, by omega⟩) j

end Cert.Pre_finite.Xa

end
-- ==== Proof.XaClaim.lean ====
/- The attention's gradient: kernel and reference compute the same arrays. -/
module

public import proofs.«01_k».proof.Defs
public import proofs.«01_k».proof.Proof.XaSums
public import proofs.«01_k».proof.Proof.XaReference
public import proofs.«01_k».proof.Proof.XaFinite
public import proofs.«01_k».proof.Proof.Gen.KernelIdeal.Value
public import proofs.«01_k».proof.Proof.Gen.ReferenceIdeal.Run
public import proofs.«01_k».proof.Proof.Gen.Pre_finite
public import Idealize.ShloMosaic.Lib.Claim

@[expose] public section

set_option maxRecDepth 16384

noncomputable section

namespace Cert.XaProof

open Idealize.ShloMosaic Idealize.SL.Sem

/-- The reference runs and leaves its arguments as they were. -/
theorem frame_reference : Cert.quiescent_ReferenceIdeal := by
  intro m g _
  exact (θ_run _ _ _).mono (fun r h => ⟨fun c => (h c).2.2, sem_eq_zero_of_no_sems (by decide) r.2⟩)
    (Cert.ReferenceIdeal.Value.run m g)

/-- Over the extended reals the kernel and the reference leave the same two gradients. -/
theorem algebraic : Cert.algebraic_KernelIdeal_ReferenceIdeal_pre_finite := by
  intro m g m' g' hpre hagree
  have hs := fun c => Cert.Pre_finite.Xa.real_scores _ _ _ (hpre c)
  refine ⟨_, _, Cert.KernelIdeal.Value.run_blocks m g, ?_⟩
  refine (θ_run _ _ _).mono (fun r h c => ?_) (Cert.ReferenceIdeal.Value.run m' g')
  obtain ⟨h0, h1, k0, k1, k2⟩ := h c
  obtain ⟨a0, a1, a2⟩ := hagree c
  refine ⟨h0.trans ?_, h1.trans ?_, k0, k1, k2⟩
  · rw [Cert.ReferenceIdeal.Read.val_main_v68_eq, a0, a1, a2]
    exact (Cert.ReferenceIdeal.Xa.dq_at _ _ _ (hs c)).trans (Cert.KernelIdeal.Xa.final_dq m c).symm
  · rw [Cert.ReferenceIdeal.Read.val_main_v67_eq, a0, a1, a2]
    exact (Cert.ReferenceIdeal.Xa.dkv_at _ _ _ (hs c)).trans (Cert.KernelIdeal.Xa.final_dkv m c).symm

end Cert.XaProof

end
-- ==== Proof.Sigmoid.lean ====
/- The logistic function over the extended reals: half of one plus a hyperbolic tangent, and one over one plus an exponential. -/
module

public import proofs.«01_k».proof.Proof.Softmax

@[expose] public section

noncomputable section

namespace Cert.Sigmoid

open Idealize.ShloMosaic

/-- One half. -/
abbrev half : EReal := Ideal.ofBits .f32 0x3F000000#32

theorem half_eq : half = ((1 / 2 : ℝ) : EReal) := by
  simp [Ideal.ofBits, Ideal.ieee, -EReal.coe_mul]; norm_num

/-- The logistic function by the hyperbolic tangent. -/
def logt (x : EReal) : EReal := half + half * Ideal.tanh (half * x)

/-- The logistic function by the exponential. -/
def sigQuot (x : EReal) : EReal := Ideal.div 1 (1 + Ideal.exp (-x))

/-- The logistic function of a number. -/
def logi (x : ℝ) : ℝ := 1 / (1 + Real.exp (-x))

theorem logi_tanh (x : ℝ) : 1 / 2 + 1 / 2 * Real.tanh (1 / 2 * x) = logi x := by
  unfold logi
  rw [Real.tanh_eq_sinh_div_cosh, Real.sinh_eq, Real.cosh_eq]
  have h1 : Real.exp (-x) = Real.exp (-(1 / 2 * x)) * Real.exp (-(1 / 2 * x)) := by rw [← Real.exp_add]; ring_nf
  have h2 : Real.exp (1 / 2 * x) * Real.exp (-(1 / 2 * x)) = 1 := by rw [← Real.exp_add]; simp
  rw [h1]
  have p1 := Real.exp_pos (1 / 2 * x)
  have p2 := Real.exp_pos (-(1 / 2 * x))
  generalize Real.exp (1 / 2 * x) = a at *
  generalize Real.exp (-(1 / 2 * x)) = b at *
  have : a = 1 / b := by field_simp; linarith
  subst this
  field_simp
  ring

theorem logt_coe (x : ℝ) : logt x = (logi x : EReal) := by
  unfold logt
  rw [half_eq, ← EReal.coe_mul, Ideal.tanh_coe, ← EReal.coe_mul, ← EReal.coe_add, logi_tanh]

theorem sigQuot_coe (x : ℝ) : sigQuot x = (logi x : EReal) := by
  unfold sigQuot
  have h : (1 : ℝ) + Real.exp (-x) ≠ 0 := by positivity
  rw [← EReal.coe_neg, Ideal.exp_coe, ← EReal.coe_one, ← EReal.coe_add, Ideal.div_coe h, ← EReal.coe_mul, one_mul]
  rfl

theorem logt_eq (x : EReal) : logt x = sigQuot x := by
  induction x with
  | bot =>
    unfold logt sigQuot
    rw [half_eq, EReal.coe_mul_bot_of_pos (by norm_num), Ideal.tanh_bot, EReal.neg_bot, Ideal.exp_top,
      EReal.add_top_of_ne_bot (by decide), Ideal.div, if_neg (by simp), EReal.inv_top, mul_zero, ← EReal.coe_one,
      ← EReal.coe_neg, ← EReal.coe_mul, ← EReal.coe_add, ← EReal.coe_zero]
    norm_num
  | coe r => rw [logt_coe, sigQuot_coe]
  | top =>
    unfold logt sigQuot
    rw [half_eq, EReal.coe_mul_top_of_pos (by norm_num), Ideal.tanh_top, EReal.neg_top, Ideal.exp_bot, add_zero,
      ← EReal.coe_one, Ideal.div_coe one_ne_zero, ← EReal.coe_mul, ← EReal.coe_mul, ← EReal.coe_add]
    norm_num

/-- The derivative of `x σ(x)` times a number: factored, and by the product rule. At the infinities `σ (1 - σ)` is zero. -/
theorem gate_rule (p : ℝ) (g : EReal) :
    (p : EReal) * (logt g * (1 + g * (1 - logt g))) = p * sigQuot g + g * p * (sigQuot g * (1 - sigQuot g)) := by
  rw [logt_eq]
  induction g with
  | bot =>
    have h : sigQuot ⊥ = 0 := by
      unfold sigQuot
      rw [EReal.neg_bot, Ideal.exp_top, EReal.add_top_of_ne_bot (by decide), Ideal.div, if_neg (by simp), EReal.inv_top,
        mul_zero]
    simp [h]
  | coe r =>
    rw [sigQuot_coe]
    norm_cast
    ring
  | top =>
    have h : sigQuot ⊤ = 1 := by
      unfold sigQuot
      rw [EReal.neg_top, Ideal.exp_bot, add_zero, ← EReal.coe_one, Ideal.div_coe one_ne_zero, ← EReal.coe_mul]
      norm_num
    have h1 : (1 : EReal) - 1 = 0 := by
      rw [← EReal.coe_one, ← EReal.coe_sub, sub_self, EReal.coe_zero]
    simp [h, h1]

/-- A sum of products of numbers is a number. -/
theorem sum_mul_coe_eq {ι : Type*} [Fintype ι] (a b : ι → ℝ) :
    ∑ i, (a i : EReal) * (b i : EReal) = ((∑ i, a i * b i : ℝ) : EReal) := by
  rw [Cert.Softmax.coe_sum]
  simp only [EReal.coe_mul]

end Cert.Sigmoid

end
-- ==== Proof.SwigluBlock.lean ====
/- What the body of the gated unit's gradient computes from one tile of 1024 rows and 1408 columns. -/
module

public import proofs.«01_k».proof.Proof.Sigmoid
public import proofs.«01_k».proof.Proof.Gen.SwigluIdeal.Skeleton
public import proofs.«01_k».proof.Proof.Gen.SwigluIdeal
public import proofs.«01_k».proof.Proof.Gen.SwigluIdeal.Value
public import Idealize.ShloMosaic.Lib.Pointwise
public import Idealize.ShloMosaic.Lib.Pipeline.ValueKit

@[expose] public section

set_option maxRecDepth 16384

noncomputable section

namespace Cert.SwigluIdeal.Unit

open Cert.SwigluIdeal Cert.SwigluIdeal.Gen Idealize.ShloMosaic Idealize.ShloMosaic.TcCoe Idealize.SL.Sem
open Idealize.ShloMosaic.Pipeline (Dat)
open Cert.Sigmoid

/-- The gradient of the gate from the gradient `a` of the unit: the derivative of `x σ(x)` times the other factor. -/
def dgate (a u g : EReal) : EReal := a * u * (logt g * (1 + g * (1 - logt g)))

/-- The gradient of the other factor. -/
def dup (a g : EReal) : EReal := a * g * logt g

section At
variable (du : FVec Ideal S1024x1024 .f32) (w : FVec Ideal S1408x1024 .bf16) (g u : FVec Ideal S1024x1408 .bf16)

theorem da_at (r : Fin 1024) (j : Fin 1408) : k0_pay1 du w (ix2 r j) = ∑ d : Fin 1024, du (ix2 r d) * w (ix2 j d) := by
  pointwise! [k0_pay1]

theorem sig_at (r : Fin 1024) (j : Fin 1408) : k0_pay3 (F := Ideal) g (ix2 r j) = logt (g (ix2 r j)) := by
  unfold logt
  pointwise! [k0_pay3, k0_pay2]

theorem dgate_at (r : Fin 1024) (j : Fin 1408) :
    k0_pay4 (F := Ideal) du w g u (ix2 r j) = dgate (∑ d : Fin 1024, du (ix2 r d) * w (ix2 j d)) (u (ix2 r j)) (g (ix2 r j)) := by
  unfold dgate
  pointwise! [k0_pay4, k0_pay2, da_at, sig_at]

theorem dup_at (r : Fin 1024) (j : Fin 1408) :
    k0_pay5 (F := Ideal) du w g (ix2 r j) = dup (∑ d : Fin 1024, du (ix2 r d) * w (ix2 j d)) (g (ix2 r j)) := by
  unfold dup
  pointwise! [k0_pay5, k0_pay2, da_at, sig_at]
end At

/-! ## The whole arrays -/

section Whole
variable (DU : FVec Ideal S8192x1024 .f32) (W : FVec Ideal S2816x1024 .bf16) (G U : FVec Ideal S8192x2816 .bf16)

/-- The gradient of the unit: a row of the incoming gradient times a row of the down projection. -/
def da (r : Fin 8192) (j : Fin 2816) : EReal := ∑ d : Fin 1024, DU (ix2 r d) * W (ix2 j d)

def dG : FVec Ideal S8192x2816 .bf16 := fun i => dgate (da DU W (i 0) (i 1)) (U (ix2 (i 0) (i 1))) (G (ix2 (i 0) (i 1)))

def dU : FVec Ideal S8192x2816 .bf16 := fun i => dup (da DU W (i 0) (i 1)) (G (ix2 (i 0) (i 1)))
end Whole

variable (m : (ℓ : Loc nD τ sig) → Buf (Elt Ideal) ℓ) (c : Dev nD)

theorem idx : ∀ t : Fin cfg0.N, win0_0.index t = ![t.val / 2, 0] ∧ win0_1.index t = ![t.val % 2, 0]
    ∧ win0_2.index t = ![t.val / 2, t.val % 2] ∧ win0_3.index t = ![t.val / 2, t.val % 2]
    ∧ win0_4.index t = ![t.val / 2, t.val % 2] ∧ win0_5.index t = ![t.val / 2, t.val % 2] :=
  (by decide +kernel : ∀ t : Fin grid0.N, _)

abbrev mDU : FVec Ideal S8192x1024 .f32 := m ((c : Thread nD τ).loc main_arg0)
abbrev mW : FVec Ideal S2816x1024 .bf16 := m ((c : Thread nD τ).loc main_arg1)
abbrev mG : FVec Ideal S8192x2816 .bf16 := m ((c : Thread nD τ).loc main_arg2)
abbrev mU : FVec Ideal S8192x2816 .bf16 := m ((c : Thread nD τ).loc main_arg3)

theorem lt16 (t : Fin cfg0.N) : t.val < 16 := lt_of_lt_of_eq t.isLt N_0

section Block
variable (t : Fin cfg0.N) (du : FVec Ideal S1024x1024 .f32) (w : FVec Ideal S1408x1024 .bf16) (g u : FVec Ideal S1024x1408 .bf16)
  (hdu : ∀ (r d : Fin 1024), du (ix2 r d) = mDU m c (ix2 ⟨t.val / 2 * 1024 + r.val, by have := lt16 t; omega⟩ d))
  (hw : ∀ (j : Fin 1408) (d : Fin 1024), w (ix2 j d) = mW m c (ix2 ⟨t.val % 2 * 1408 + j.val, by omega⟩ d))
  (hg : ∀ (r : Fin 1024) (j : Fin 1408), g (ix2 r j)
    = mG m c (ix2 ⟨t.val / 2 * 1024 + r.val, by have := lt16 t; omega⟩ ⟨t.val % 2 * 1408 + j.val, by omega⟩))
  (hu : ∀ (r : Fin 1024) (j : Fin 1408), u (ix2 r j)
    = mU m c (ix2 ⟨t.val / 2 * 1024 + r.val, by have := lt16 t; omega⟩ ⟨t.val % 2 * 1408 + j.val, by omega⟩))

include hdu hw hg hu in
theorem block_dG (x : S1024x1408.Idx) (i : S8192x2816.Idx) (h0 : (i 0 : ℕ) = t.val / 2 * 1024 + x 0)
    (h1 : (i 1 : ℕ) = t.val % 2 * 1408 + x 1) :
    k0_pay4 (F := Ideal) du w g u x = dG (mDU m c) (mW m c) (mG m c) (mU m c) i := by
  idx_vars x
  have b0 : x0.val < 1024 := x0.isLt
  have b1 : x1.val < 1408 := x1.isLt
  have e0 : i 0 = (⟨t.val / 2 * 1024 + x0.val, by have := lt16 t; omega⟩ : Fin 8192) := Fin.ext h0
  have e1 : i 1 = (⟨t.val % 2 * 1408 + x1.val, by omega⟩ : Fin 2816) := Fin.ext h1
  unfold dG da
  rw [e0, e1, dgate_at]
  simp only [hdu, hw, hg, hu]

include hdu hw hg in
theorem block_dU (x : S1024x1408.Idx) (i : S8192x2816.Idx) (h0 : (i 0 : ℕ) = t.val / 2 * 1024 + x 0)
    (h1 : (i 1 : ℕ) = t.val % 2 * 1408 + x 1) :
    k0_pay5 (F := Ideal) du w g x = dU (mDU m c) (mW m c) (mG m c) i := by
  idx_vars x
  have b0 : x0.val < 1024 := x0.isLt
  have b1 : x1.val < 1408 := x1.isLt
  have e0 : i 0 = (⟨t.val / 2 * 1024 + x0.val, by have := lt16 t; omega⟩ : Fin 8192) := Fin.ext h0
  have e1 : i 1 = (⟨t.val % 2 * 1408 + x1.val, by omega⟩ : Fin 2816) := Fin.ext h1
  unfold dU da
  rw [e0, e1, dup_at]
  simp only [hdu, hw, hg]
end Block

theorem final_dG : (dats m 0 c).arrAt 4 (cfgs 0).N = dG (mDU m c) (mW m c) (mG m c) (mU m c) := by
  refine (dats m 0 c).arrAt_eq_of_covers 4 _ (by decide +kernel) fun t _ y => ?_
  blk_simp
  rw [after0_4]
  frame_out
  refine block_dG m c t _ _ _ _ (fun r d => ?_) (fun j d => ?_) (fun r d => ?_) (fun r d => ?_) y _ ?_ ?_ <;>
    (first | blk_point [iblk, V, idx t] | (blk_simp [idx t] <;> try omega))

theorem final_dU : (dats m 0 c).arrAt 5 (cfgs 0).N = dU (mDU m c) (mW m c) (mG m c) := by
  refine (dats m 0 c).arrAt_eq_of_covers 5 _ (by decide +kernel) fun t _ y => ?_
  blk_simp
  rw [after0_5]
  frame_out
  refine block_dU m c t _ _ _ (fun r d => ?_) (fun j d => ?_) (fun r d => ?_) y _ ?_ ?_ <;>
    (first | blk_point [iblk, V, idx t] | (blk_simp [idx t] <;> try omega))

end Cert.SwigluIdeal.Unit

end
-- ==== Proof.SwigluReference.lean ====
/- The reference's gradient of the gated unit, read at an index, and the precondition's numbers. -/
module

public import proofs.«01_k».proof.Proof.SwigluBlock
public import proofs.«01_k».proof.Proof.XaFinite
public import proofs.«01_k».proof.Pre_swiglu_finite
public import proofs.«01_k».proof.Proof.Gen.Pre_swiglu_finite
public import proofs.«01_k».proof.Proof.Gen.SwigluReferenceIdeal.Read

@[expose] public section

set_option maxRecDepth 16384

noncomputable section

namespace Cert.SwigluReferenceIdeal.Unit

open Cert.SwigluReferenceIdeal Cert.SwigluReferenceIdeal.Gen Cert.SwigluReferenceIdeal.Read Idealize.ShloMosaic Idealize.ShloMosaic.TcCoe Idealize.SL.Sem
open Cert.Sigmoid
open Cert.SwigluIdeal.Unit (da dgate dup dG dU)

variable (DU : FVec Ideal S8192x1024 .f32) (W : FVec Ideal S2816x1024 .bf16) (G U : FVec Ideal S8192x2816 .bf16)

theorem da_at (r : Fin 8192) (j : Fin 2816) : val_main_v6 (F := Ideal) DU W (ix2 r j) = da DU W r j := by
  unfold da
  pointwise! [val_main_v6, val_main_v4]

theorem sig_at (r : Fin 8192) (j : Fin 2816) : val_main_v2_2 (F := Ideal) G (ix2 r j) = sigQuot (G (ix2 r j)) := by
  unfold sigQuot
  pointwise! [val_main_v2_2, val_main_call0_v4, val_main_call0_v3, val_main_call0_v2, val_main_call0_v1, val_main_call0_v0,
    val_main_call0_cst, val_main_call0_cst_0, val_main_v0]

theorem slope_at (r : Fin 8192) (j : Fin 2816) :
    val_main_v2_1 (F := Ideal) G (ix2 r j) = sigQuot (G (ix2 r j)) * (1 - sigQuot (G (ix2 r j))) := by
  pointwise! [val_main_v2_1, val_main_call0_v7, val_main_call0_v6, val_main_call0_cst_1, sig_at]

theorem dU_at : val_main_v11 (F := Ideal) DU W G = dU DU W G := by
  funext i
  idx_vars i
  unfold dU dup
  rw [logt_eq]
  have e : val_main_v11 (F := Ideal) DU W G (ix2 i0 i1) = G (ix2 i0 i1) * sigQuot (G (ix2 i0 i1)) * da DU W i0 i1 := by
    pointwise! [val_main_v11, val_main_v7, val_main_v2_0, val_main_v0, da_at, sig_at]
  refine e.trans ?_
  rw [mul_comm]
  exact (mul_assoc _ _ _).symm

theorem dG_at (hp : ∀ r j, ∃ p : ℝ, da DU W r j * U (ix2 r j) = p) : val_main_v10 (F := Ideal) DU W G U = dG DU W G U := by
  funext i
  idx_vars i
  unfold dG dgate
  have e : val_main_v10 (F := Ideal) DU W G U (ix2 i0 i1)
      = da DU W i0 i1 * U (ix2 i0 i1) * sigQuot (G (ix2 i0 i1))
        + G (ix2 i0 i1) * (da DU W i0 i1 * U (ix2 i0 i1)) * (sigQuot (G (ix2 i0 i1)) * (1 - sigQuot (G (ix2 i0 i1)))) := by
    pointwise! [val_main_v10, val_main_v9, val_main_call1_v2, val_main_call1_v1, val_main_call1_v0, val_main_v8, val_main_v1,
      val_main_v0, da_at, sig_at, slope_at, add_comm]
  obtain ⟨p, hp⟩ := hp i0 i1
  refine e.trans ?_
  have := gate_rule p (G (ix2 i0 i1))
  rw [← hp] at this
  exact this.symm

end Cert.SwigluReferenceIdeal.Unit

namespace Cert.Pre_swiglu_finite.Unit

open Cert.Pre_swiglu_finite Cert.Pre_swiglu_finite.Gen Idealize.ShloMosaic

variable (DU : FVec Ideal S8192x1024 .f32) (W : FVec Ideal S2816x1024 .bf16) (G U : FVec Ideal S8192x2816 .bf16)

theorem real_args (h : Cert.Pre_swiglu_finite.fn (F := Ideal) DU W G U = fun _ => 1#1) :
    (∀ i, ∃ r : ℝ, DU i = r) ∧ (∀ i, ∃ r : ℝ, W i = r) ∧ ∀ i, ∃ r : ℝ, U i = r := by
  haveI : Subsingleton S_.Idx := ⟨fun y z => funext fun a => a.elim0⟩
  have e := congrFun h (fun a => a.elim0)
  simp only [Cert.Pre_swiglu_finite.fn, andi] at e
  have e2 : ∀ a b : BitVec 1, IntOp.andi a b = 1#1 → a = 1#1 ∧ b = 1#1 := by decide
  obtain ⟨h12, h3⟩ := e2 _ _ e
  obtain ⟨h1, h2⟩ := e2 _ _ h12
  exact ⟨fun i => Cert.Pre_finite.Xa.real_of_abs_lt _ (Host.reduce_andi_all _ _ _ _ _ h1 i),
    fun i => Cert.Pre_finite.Xa.real_of_abs_lt _ (Host.reduce_andi_all _ _ _ _ _ h2 i),
    fun i => Cert.Pre_finite.Xa.real_of_abs_lt _ (Host.reduce_andi_all _ _ _ _ _ h3 i)⟩

theorem real_prod (h : Cert.Pre_swiglu_finite.fn (F := Ideal) DU W G U = fun _ => 1#1) (r : Fin 8192) (j : Fin 2816) :
    ∃ p : ℝ, Cert.SwigluIdeal.Unit.da DU W r j * U (ix2 r j) = p := by
  obtain ⟨h1, h2, h3⟩ := real_args DU W G U h
  choose du h1 using h1
  choose w h2 using h2
  obtain ⟨u, h3⟩ := h3 (ix2 r j)
  refine ⟨(∑ d : Fin 1024, du (ix2 r d) * w (ix2 j d)) * u, ?_⟩
  unfold Cert.SwigluIdeal.Unit.da
  rw [EReal.coe_mul, h3, ← Cert.Sigmoid.sum_mul_coe_eq]
  simp only [h1, h2]

end Cert.Pre_swiglu_finite.Unit

end
-- ==== Proof.SwigluClaim.lean ====
/- The gated unit's gradient: kernel and reference compute the same arrays. -/
module

public import proofs.«01_k».proof.Defs
public import proofs.«01_k».proof.Proof.SwigluReference
public import proofs.«01_k».proof.Proof.Gen.SwigluReferenceIdeal.Run
public import Idealize.ShloMosaic.Lib.Claim

@[expose] public section

set_option maxRecDepth 16384

noncomputable section

namespace Cert.SwigluProof

open Idealize.ShloMosaic Idealize.SL.Sem

/-- The reference runs and leaves its arguments as they were. -/
theorem frame_reference : Cert.quiescent_SwigluReferenceIdeal := by
  intro m g _
  exact (θ_run _ _ _).mono (fun r h => ⟨fun c => (h c).2.2, sem_eq_zero_of_no_sems (by decide) r.2⟩)
    (Cert.SwigluReferenceIdeal.Value.run m g)

/-- Over the extended reals the kernel and the reference leave the same two gradients. -/
theorem algebraic : Cert.algebraic_SwigluIdeal_SwigluReferenceIdeal_pre_swiglu_finite := by
  intro m g m' g' hpre hagree
  refine ⟨_, _, Cert.SwigluIdeal.Value.run_blocks m g, ?_⟩
  refine (θ_run _ _ _).mono (fun r h c => ?_) (Cert.SwigluReferenceIdeal.Value.run m' g')
  obtain ⟨h0, h1, k⟩ := h c
  obtain ⟨a0, a1, a2, a3⟩ := hagree c
  refine ⟨h0.trans ?_, h1.trans ?_, k⟩
  · rw [Cert.SwigluReferenceIdeal.Read.val_main_v10_eq, a0, a1, a2, a3]
    exact (Cert.SwigluReferenceIdeal.Unit.dG_at _ _ _ _ (Cert.Pre_swiglu_finite.Unit.real_prod _ _ _ _ (hpre c))).trans
      (Cert.SwigluIdeal.Unit.final_dG m c).symm
  · rw [Cert.SwigluReferenceIdeal.Read.val_main_v11_eq, a0, a1, a2]
    exact (Cert.SwigluReferenceIdeal.Unit.dU_at _ _ _).trans (Cert.SwigluIdeal.Unit.final_dU m c).symm

end Cert.SwigluProof

end
-- ==== Proof.GateBlock.lean ====
/- What the body of the merge's gradient computes from one block of 512 rows, and the whole arrays. -/
module

public import proofs.«01_k».proof.Proof.Sigmoid
public import proofs.«01_k».proof.Proof.Gen.GateIdeal.Skeleton
public import proofs.«01_k».proof.Proof.Gen.GateIdeal
public import proofs.«01_k».proof.Proof.Gen.GateIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.GateIdeal.Merge

open Cert.GateIdeal Cert.GateIdeal.Gen Idealize.ShloMosaic Idealize.ShloMosaic.TcCoe Idealize.SL.Sem
open Idealize.ShloMosaic.Pipeline (Dat)
open Cert.Sigmoid

/-! ## One third of the columns -/

section At
variable (dm : FVec Ideal S512x1024 .f32) (gl b : FVec Ideal S512x1024 .bf16) (bg acc : FVec Ideal S1x1024 .f32)

theorem gate_at (r : Fin 512) (j : Fin 1024) :
    k0_pay1 (F := Ideal) (k0_pay17 gl) bg (ix2 r j) = logt (gl (ix2 r j) + bg (ix2 0 j)) := by
  unfold logt
  pointwise! [k0_pay1, k0_pay17]

/-- The gradient of the gate's argument. -/
def slope (d b z : EReal) : EReal := d * b * (logt z * (1 - logt z))

theorem slope_at (r : Fin 512) (j : Fin 1024) : k0_pay3 (F := Ideal) dm (k0_pay17 gl) bg b (ix2 r j)
    = slope (dm (ix2 r j)) (b (ix2 r j)) (gl (ix2 r j) + bg (ix2 0 j)) := by
  unfold slope
  pointwise! [k0_pay3, gate_at]

theorem dgl_at (r : Fin 512) (j : Fin 1024) : k0_pay4 (F := Ideal) dm (k0_pay17 gl) bg b (ix2 r j)
    = slope (dm (ix2 r j)) (b (ix2 r j)) (gl (ix2 r j) + bg (ix2 0 j)) := by
  pointwise! [k0_pay4, slope_at]

theorem db_at (r : Fin 512) (j : Fin 1024) : k0_pay2 (F := Ideal) dm (k0_pay17 gl) bg (ix2 r j)
    = dm (ix2 r j) * logt (gl (ix2 r j) + bg (ix2 0 j)) := by
  pointwise! [k0_pay2, gate_at]

theorem sum_at (j : Fin 1024) : k0_pay5 (F := Ideal) dm (k0_pay17 gl) bg b acc (ix2 0 j)
    = acc (ix2 0 j) + ∑ r : Fin 512, slope (dm (ix2 r j)) (b (ix2 r j)) (gl (ix2 r j) + bg (ix2 0 j)) := by
  pointwise! [k0_pay5, slope_at]
end At

theorem db1 (dm : FVec Ideal S512x1024 .f32) (gl : FVec Ideal S512x1024 .bf16) (bg : FVec Ideal S1x1024 .f32) :
    k0_pay8 (F := Ideal) dm gl bg = k0_pay2 dm (k0_pay17 gl) bg := rfl
theorem db2 (dm : FVec Ideal S512x1024 .f32) (gl : FVec Ideal S512x1024 .bf16) (bg : FVec Ideal S1x1024 .f32) :
    k0_pay13 (F := Ideal) dm gl bg = k0_pay2 dm (k0_pay17 gl) bg := rfl
theorem dgl1 (dm : FVec Ideal S512x1024 .f32) (gl b : FVec Ideal S512x1024 .bf16) (bg : FVec Ideal S1x1024 .f32) :
    k0_pay10 (F := Ideal) dm gl bg b = k0_pay4 dm (k0_pay17 gl) bg b := rfl
theorem dgl2 (dm : FVec Ideal S512x1024 .f32) (gl b : FVec Ideal S512x1024 .bf16) (bg : FVec Ideal S1x1024 .f32) :
    k0_pay15 (F := Ideal) dm gl bg b = k0_pay4 dm (k0_pay17 gl) bg b := rfl
theorem sum1 (dm : FVec Ideal S512x1024 .f32) (gl b : FVec Ideal S512x1024 .bf16) (bg acc : FVec Ideal S1x1024 .f32) :
    k0_pay11 (F := Ideal) dm gl bg b acc = k0_pay5 dm (k0_pay17 gl) bg b acc := rfl
theorem sum2 (dm : FVec Ideal S512x1024 .f32) (gl b : FVec Ideal S512x1024 .bf16) (bg acc : FVec Ideal S1x1024 .f32) :
    k0_pay16 (F := Ideal) dm gl bg b acc = k0_pay5 dm (k0_pay17 gl) bg b acc := rfl

/-! ## The whole arrays -/

section Whole
variable (Z : FVec Ideal S8192x3072 .bf16) (BG : FVec Ideal S1x3072 .f32) (B1 B2 B3 : FVec Ideal S8192x1024 .bf16)
  (DM : FVec Ideal S8192x1024 .f32)

/-- The gate's argument of branch `p`. -/
def arg (p : Fin 3) (r : Fin 8192) (j : Fin 1024) : EReal :=
  Z (ix2 r ⟨p.val * 1024 + j.val, by omega⟩) + BG (ix2 0 ⟨p.val * 1024 + j.val, by omega⟩)

/-- Branch `p`. -/
def branch : Fin 3 → FVec Ideal S8192x1024 .bf16 := ![B1, B2, B3]

/-- What row `r` adds to the gradient of the bias, and the gradient of the gate's argument. -/
def term (p : Fin 3) (j : Fin 1024) (r : Fin 8192) : EReal :=
  slope (DM (ix2 r j)) (branch B1 B2 B3 p (ix2 r j)) (arg Z BG p r j)

/-- The gradient of branch `p`. -/
def dB (p : Fin 3) : FVec Ideal S8192x1024 .bf16 := fun i => DM (ix2 (i 0) (i 1)) * logt (arg Z BG p (i 0) (i 1))

def dGL : FVec Ideal S8192x3072 .bf16 := fun i =>
  term Z BG B1 B2 B3 DM ⟨(i 1 : ℕ) / 1024, by have h : (i 1 : ℕ) < 3072 := (i 1).isLt; omega⟩ ⟨(i 1 : ℕ) % 1024, by omega⟩ (i 0)

def dBGTerm (i : S1x3072.Idx) (r : Fin 8192) : EReal :=
  term Z BG B1 B2 B3 DM ⟨(i 1 : ℕ) / 1024, by have h : (i 1 : ℕ) < 3072 := (i 1).isLt; omega⟩ ⟨(i 1 : ℕ) % 1024, by omega⟩ r

def dBG : FVec Ideal S1x3072 .f32 := fun i => ∑ r : Fin 8192, dBGTerm Z BG B1 B2 B3 DM i r

theorem dGL_at (p : Fin 3) (r : Fin 8192) (j : Fin 1024) (i : S8192x3072.Idx) (h0 : (i 0 : ℕ) = r) (h1 : (i 1 : ℕ) = p.val * 1024 + j.val) :
    dGL Z BG B1 B2 B3 DM i = term Z BG B1 B2 B3 DM p j r := by
  unfold dGL
  congr 1 <;> (apply Fin.ext; simp only []; omega)

theorem dBGTerm_at (p : Fin 3) (j : Fin 1024) (i : S1x3072.Idx) (h1 : (i 1 : ℕ) = p.val * 1024 + j.val) :
    dBGTerm Z BG B1 B2 B3 DM i = term Z BG B1 B2 B3 DM p j := by
  funext r
  unfold dBGTerm
  congr 1 <;> (apply Fin.ext; simp only []; omega)
end Whole

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![0, 0] :=
  (by decide +kernel : ∀ t : Fin grid0.N, _)

abbrev mGL : FVec Ideal S8192x3072 .bf16 := m ((c : Thread nD τ).loc main_arg0)
abbrev mBG : FVec Ideal S1x3072 .f32 := m ((c : Thread nD τ).loc main_arg1)
abbrev mB1 : FVec Ideal S8192x1024 .bf16 := m ((c : Thread nD τ).loc main_arg2)
abbrev mB2 : FVec Ideal S8192x1024 .bf16 := m ((c : Thread nD τ).loc main_arg3)
abbrev mB3 : FVec Ideal S8192x1024 .bf16 := m ((c : Thread nD τ).loc main_arg4)
abbrev mDM : FVec Ideal S8192x1024 .f32 := m ((c : Thread nD τ).loc main_arg5)

theorem lt16 (t : Fin cfg0.N) : t.val < 16 := lt_of_lt_of_eq t.isLt N_0

/-- Row `r` of the point's block. -/
abbrev row (t : Fin cfg0.N) (r : Fin 512) : Fin 8192 := ⟨t.val * 512 + r.val, by have := lt16 t; omega⟩

section Block
variable (t : Fin cfg0.N) (p : Fin 3) (dm : FVec Ideal S512x1024 .f32) (gl b : FVec Ideal S512x1024 .bf16)
  (bg acc : FVec Ideal S1x1024 .f32)
  (hdm : ∀ (r : Fin 512) (j : Fin 1024), dm (ix2 r j) = mDM m c (ix2 (row t r) j))
  (hgl : ∀ (r : Fin 512) (j : Fin 1024), gl (ix2 r j) = mGL m c (ix2 (row t r) ⟨p.val * 1024 + j.val, by omega⟩))
  (hb : ∀ (r : Fin 512) (j : Fin 1024), b (ix2 r j) = branch (mB1 m c) (mB2 m c) (mB3 m c) p (ix2 (row t r) j))
  (hbg : ∀ j : Fin 1024, bg (ix2 0 j) = mBG m c (ix2 0 ⟨p.val * 1024 + j.val, by omega⟩))

include hdm hgl hbg in
theorem block_db (x : S512x1024.Idx) (i : S8192x1024.Idx) (h0 : (i 0 : ℕ) = t.val * 512 + x 0) (h1 : (i 1 : ℕ) = x 1) :
    k0_pay2 (F := Ideal) dm (k0_pay17 gl) bg x = dB (mGL m c) (mBG m c) (mDM m c) p i := by
  idx_vars x
  have e0 : i 0 = row t x0 := Fin.ext h0
  have e1 : i 1 = x1 := Fin.ext h1
  unfold dB arg
  rw [e0, e1, db_at, hdm, hgl, hbg]

include hdm hgl hb hbg in
theorem block_dgl (x : S512x1024.Idx) (i : S8192x3072.Idx) (h0 : (i 0 : ℕ) = t.val * 512 + x 0)
    (h1 : (i 1 : ℕ) = p.val * 1024 + x 1) :
    k0_pay4 (F := Ideal) dm (k0_pay17 gl) bg b x = dGL (mGL m c) (mBG m c) (mB1 m c) (mB2 m c) (mB3 m c) (mDM m c) i := by
  idx_vars x
  rw [dGL_at _ _ _ _ _ _ p (row t x0) x1 i h0 h1, dgl_at, hdm, hgl, hbg, hb]
  rfl

include hdm hgl hb hbg in
theorem block_sum (x : S1x1024.Idx) (i : S1x3072.Idx) (h1 : (i 1 : ℕ) = p.val * 1024 + x 1) :
    k0_pay5 (F := Ideal) dm (k0_pay17 gl) bg b acc x = acc x
      + ∑ r : Fin 512, dBGTerm (mGL m c) (mBG m c) (mB1 m c) (mB2 m c) (mB3 m c) (mDM m c) i (row t r) := by
  idx_vars x
  obtain rfl : x0 = 0 := Subsingleton.elim _ _
  rw [dBGTerm_at _ _ _ _ _ _ p x1 i h1, sum_at]
  simp only [hdm, hgl, hbg, hb]
  rfl
end Block

end Cert.GateIdeal.Merge

end
-- ==== Proof.GateArrays.lean ====
/- The merge's gradient: the arrays that the kernel leaves. -/
module

public import proofs.«01_k».proof.Proof.GateBlock
public import proofs.«01_k».proof.Proof.XaSums

@[expose] public section

set_option maxRecDepth 16384

noncomputable section

namespace Cert.GateIdeal.Merge

open Cert.GateIdeal Cert.GateIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem final_dB1 : (dats m 0 c).arrAt 7 (cfgs 0).N = dB (mGL m c) (mBG m c) (mDM m c) 0 := by
  refine (dats m 0 c).arrAt_eq_of_covers 7 _ (by decide +kernel) fun t _ y => ?_
  blk_simp
  rw [after0_7]
  by_cases h0 : t.val % 16 = 0
  · rw [outsAt0_A m c t h0]
    frame_out
    rw [db1]
    refine block_db m c t 0 _ _ _ (fun r j => ?_) (fun r j => ?_) (fun j => ?_) y _ ?_ ?_ <;>
      (first | blk_point [iblk, V, idx t] | (blk_simp [idx t] <;> try omega))
  · rw [outsAt0_B m c t h0]
    frame_out
    rw [db1]
    refine block_db m c t 0 _ _ _ (fun r j => ?_) (fun r j => ?_) (fun j => ?_) y _ ?_ ?_ <;>
      (first | blk_point [iblk, V, idx t] | (blk_simp [idx t] <;> try omega))

theorem final_dB2 : (dats m 0 c).arrAt 8 (cfgs 0).N = dB (mGL m c) (mBG m c) (mDM m c) 1 := by
  refine (dats m 0 c).arrAt_eq_of_covers 8 _ (by decide +kernel) fun t _ y => ?_
  blk_simp
  rw [after0_8]
  by_cases h0 : t.val % 16 = 0
  · rw [outsAt0_A m c t h0]
    frame_out
    rw [db2]
    refine block_db m c t 1 _ _ _ (fun r j => ?_) (fun r j => ?_) (fun j => ?_) y _ ?_ ?_ <;>
      (first | blk_point [iblk, V, idx t] | (blk_simp [idx t] <;> try omega))
  · rw [outsAt0_B m c t h0]
    frame_out
    rw [db2]
    refine block_db m c t 1 _ _ _ (fun r j => ?_) (fun r j => ?_) (fun j => ?_) y _ ?_ ?_ <;>
      (first | blk_point [iblk, V, idx t] | (blk_simp [idx t] <;> try omega))

theorem final_dB3 : (dats m 0 c).arrAt 9 (cfgs 0).N = dB (mGL m c) (mBG m c) (mDM m c) 2 := by
  refine (dats m 0 c).arrAt_eq_of_covers 9 _ (by decide +kernel) fun t _ y => ?_
  blk_simp
  rw [after0_9]
  by_cases h0 : t.val % 16 = 0
  · rw [outsAt0_A m c t h0]
    frame_out
    skip
    refine block_db m c t 2 _ _ _ (fun r j => ?_) (fun r j => ?_) (fun j => ?_) y _ ?_ ?_ <;>
      (first | blk_point [iblk, V, idx t] | (blk_simp [idx t] <;> try omega))
  · rw [outsAt0_B m c t h0]
    frame_out
    skip
    refine block_db m c t 2 _ _ _ (fun r j => ?_) (fun r j => ?_) (fun j => ?_) y _ ?_ ?_ <;>
      (first | blk_point [iblk, V, idx t] | (blk_simp [idx t] <;> try omega))

theorem final_dGL : (dats m 0 c).arrAt 6 (cfgs 0).N = dGL (mGL m c) (mBG m c) (mB1 m c) (mB2 m c) (mB3 m c) (mDM m c) := by
  refine (dats m 0 c).arrAt_eq_of_covers 6 _ (by decide +kernel) fun t _ y => ?_
  blk_simp
  rw [after0_6]
  by_cases h0 : t.val % 16 = 0
  · rw [outsAt0_A m c t h0]
    frame_out
    canon_tiles x h
    · refine block_dgl m c t 2 _ _ _ _ (fun r j => ?_) (fun r j => ?_) (fun r j => (show _ = mB3 m c (ix2 (row t _) _) by blk_point [iblk, V, idx t])) (fun j => ?_) x _ ?_ ?_ <;>
        (first | blk_point [iblk, V, idx t] | (blk_simp [idx t] <;> try omega))
    · rw [dgl2]; refine block_dgl m c t 1 _ _ _ _ (fun r j => ?_) (fun r j => ?_) (fun r j => (show _ = mB2 m c (ix2 (row t _) _) by blk_point [iblk, V, idx t])) (fun j => ?_) x _ ?_ ?_ <;>
        (first | blk_point [iblk, V, idx t] | (blk_simp [idx t] <;> try omega))
    · rw [dgl1]; refine block_dgl m c t 0 _ _ _ _ (fun r j => ?_) (fun r j => ?_) (fun r j => (show _ = mB1 m c (ix2 (row t _) _) by blk_point [iblk, V, idx t])) (fun j => ?_) x _ ?_ ?_ <;>
        (first | blk_point [iblk, V, idx t] | (blk_simp [idx t] <;> try omega))
  · rw [outsAt0_B m c t h0]
    frame_out
    canon_tiles x h
    · refine block_dgl m c t 2 _ _ _ _ (fun r j => ?_) (fun r j => ?_) (fun r j => (show _ = mB3 m c (ix2 (row t _) _) by blk_point [iblk, V, idx t])) (fun j => ?_) x _ ?_ ?_ <;>
        (first | blk_point [iblk, V, idx t] | (blk_simp [idx t] <;> try omega))
    · rw [dgl2]; refine block_dgl m c t 1 _ _ _ _ (fun r j => ?_) (fun r j => ?_) (fun r j => (show _ = mB2 m c (ix2 (row t _) _) by blk_point [iblk, V, idx t])) (fun j => ?_) x _ ?_ ?_ <;>
        (first | blk_point [iblk, V, idx t] | (blk_simp [idx t] <;> try omega))
    · rw [dgl1]; refine block_dgl m c t 0 _ _ _ _ (fun r j => ?_) (fun r j => ?_) (fun r j => (show _ = mB1 m c (ix2 (row t _) _) by blk_point [iblk, V, idx t])) (fun j => ?_) x _ ?_ ?_ <;>
        (first | blk_point [iblk, V, idx t] | (blk_simp [idx t] <;> try omega))

/-- What the point's rows add to an entry of the bias's gradient. -/
def part (t : Fin cfg0.N) (y : S1x3072.Idx) : EReal :=
  ∑ r : Fin 512, dBGTerm (mGL m c) (mBG m c) (mB1 m c) (mB2 m c) (mB3 m c) (mDM m c) y (row t r)

theorem step (t : Fin cfg0.N) (h0 : ¬ t.val % 16 = 0) (y : S1x3072.Idx) :
    (outsAt0 m c t.val t.isLt).2.2.2.2 y
      = (outsAt0 m c (t.val - 1) (Nat.lt_of_le_of_lt (Nat.sub_le _ _) t.isLt)).2.2.2.2 y + part m c t y := by
  rw [outsAt0_B m c t h0]
  frame_out
  canon_tiles x h
  · refine (block_sum m c t 2 _ _ _ _ _ (fun r j => ?_) (fun r j => ?_) (fun r j => (show _ = mB3 m c (ix2 (row t _) _) by blk_point [iblk, V, idx t])) (fun j => ?_) x y ?_).trans ?_
    iterate 4 (first | omega | blk_point [iblk, V, idx t])
    refine Ideal.add_congr ?_ rfl; pointwise; blk_ext
  · rw [sum2]; refine (block_sum m c t 1 _ _ _ _ _ (fun r j => ?_) (fun r j => ?_) (fun r j => (show _ = mB2 m c (ix2 (row t _) _) by blk_point [iblk, V, idx t])) (fun j => ?_) x y ?_).trans ?_
    iterate 4 (first | omega | blk_point [iblk, V, idx t])
    refine Ideal.add_congr ?_ rfl; pointwise; blk_ext
  · rw [sum1]; refine (block_sum m c t 0 _ _ _ _ _ (fun r j => ?_) (fun r j => ?_) (fun r j => (show _ = mB1 m c (ix2 (row t _) _) by blk_point [iblk, V, idx t])) (fun j => ?_) x y ?_).trans ?_
    iterate 4 (first | omega | blk_point [iblk, V, idx t])
    refine Ideal.add_congr ?_ rfl; pointwise; blk_ext

theorem first (t : Fin cfg0.N) (h0 : t.val % 16 = 0) (y : S1x3072.Idx) :
    (outsAt0 m c t.val t.isLt).2.2.2.2 y = 0 + part m c t y := by
  rw [outsAt0_A m c t h0]
  frame_out
  refine (Cert.KernelIdeal.Xa.canon_append [_, _, _] [_] y (View.cover_of_tiled _ ![1, 1024] (by rfl) y)).trans ?_
  simp (disch := decide) only [↓View.readCov_skip, ↓View.readCov_fill]
  canon_tiles x h
  · refine (block_sum m c t 2 _ _ _ _ _ (fun r j => ?_) (fun r j => ?_) (fun r j => (show _ = mB3 m c (ix2 (row t _) _) by blk_point [iblk, V, idx t])) (fun j => ?_) x y ?_).trans ?_
    iterate 4 (first | omega | blk_point [iblk, V, idx t])
    refine Ideal.add_congr ?_ rfl; pointwise! [k0_pay6]
  · rw [sum2]; refine (block_sum m c t 1 _ _ _ _ _ (fun r j => ?_) (fun r j => ?_) (fun r j => (show _ = mB2 m c (ix2 (row t _) _) by blk_point [iblk, V, idx t])) (fun j => ?_) x y ?_).trans ?_
    iterate 4 (first | omega | blk_point [iblk, V, idx t])
    refine Ideal.add_congr ?_ rfl; pointwise! [k0_pay6]
  · rw [sum1]; refine (block_sum m c t 0 _ _ _ _ _ (fun r j => ?_) (fun r j => ?_) (fun r j => (show _ = mB1 m c (ix2 (row t _) _) by blk_point [iblk, V, idx t])) (fun j => ?_) x y ?_).trans ?_
    iterate 4 (first | omega | blk_point [iblk, V, idx t])
    refine Ideal.add_congr ?_ rfl; pointwise! [k0_pay6]

theorem final_dBG : (dats m 0 c).arrAt 10 (cfgs 0).N = dBG (mGL m c) (mBG m c) (mB1 m c) (mB2 m c) (mB3 m c) (mDM m c) := by
  refine (dats m 0 c).arrAt_eq_of_after_last 10 t0_15 (by decide +kernel) _ fun j => ?_
  blk_simp
  rw [after0_10, Pipeline.eq_sum_fin_of_reset_step_apply_last (fun n h => (outsAt0 m c n h).2.2.2.2) 16 (fun _ => 0)
    (fun p j => part m c p j) (fun t h j => first m c t h j) (fun t h j => step m c t h j) (le_of_eq N_0) t0_15 rfl j, zero_add]
  unfold part dBG
  refine Fin.sum_mul_add_congr fun s k hl => ?_
  rfl

end Cert.GateIdeal.Merge

end
-- ==== Proof.GateReference.lean ====
/- The reference's gradient of the merge, read at an index. -/
module

public import proofs.«01_k».proof.Proof.GateBlock
public import proofs.«01_k».proof.Proof.Gen.GateReferenceIdeal.Read
public import Idealize.ShloMosaic.Lib.KernelVsHost

@[expose] public section

set_option maxRecDepth 16384

noncomputable section

namespace Cert.GateReferenceIdeal.Merge

open Cert.GateReferenceIdeal Cert.GateReferenceIdeal.Gen Cert.GateReferenceIdeal.Read Idealize.ShloMosaic Idealize.ShloMosaic.TcCoe Idealize.SL.Sem
open Cert.Sigmoid
open Cert.GateIdeal.Merge (arg branch term slope dB dGL dBG dBGTerm)

variable (Z : FVec Ideal S8192x3072 .bf16) (BG : FVec Ideal S1x3072 .f32) (B1 B2 B3 : FVec Ideal S8192x1024 .bf16)
  (DM : FVec Ideal S8192x1024 .f32)

theorem arg_at (r : Fin 8192) (p : Fin 3) (j : Fin 1024) : val_main_v8 (F := Ideal) Z BG (ix3 r p j) = arg Z BG p r j := by
  unfold arg
  pointwise! [val_main_v8, val_main_v7, val_main_v6, val_main_v5, val_main_v4, val_main_v0]

theorem sig_at (r : Fin 8192) (p : Fin 3) (j : Fin 1024) : val_main_v14 (F := Ideal) Z BG (ix3 r p j) = logt (arg Z BG p r j) := by
  rw [logt_eq]
  unfold sigQuot
  pointwise! [val_main_v14, val_main_v13, val_main_v12, val_main_v11, val_main_v10, val_main_v9, val_main_cst, val_main_cst_0, arg_at]

theorem slope_at (r : Fin 8192) (p : Fin 3) (j : Fin 1024) :
    val_main_v17 (F := Ideal) Z BG (ix3 r p j) = logt (arg Z BG p r j) * (1 - logt (arg Z BG p r j)) := by
  pointwise! [val_main_v17, val_main_v16, val_main_v15, val_main_cst_1, sig_at]

theorem prod1_at (r : Fin 8192) (j : Fin 1024) : val_main_v42 (F := Ideal) B1 DM (ix3 r 0 j) = DM (ix2 r j) * B1 (ix2 r j) := by
  pointwise! [val_main_v42, val_main_v41, val_main_v29, val_main_v1]

theorem prod2_at (r : Fin 8192) (j : Fin 1024) : val_main_v37 (F := Ideal) B2 DM (ix3 r 0 j) = DM (ix2 r j) * B2 (ix2 r j) := by
  pointwise! [val_main_v37, val_main_v36, val_main_v29, val_main_v2]

theorem prod3_at (r : Fin 8192) (j : Fin 1024) : val_main_v33 (F := Ideal) B3 DM (ix3 r 0 j) = DM (ix2 r j) * B3 (ix2 r j) := by
  pointwise! [val_main_v33, val_main_v32, val_main_v30, val_main_v3]

theorem zero2 (i : S_.Idx) : val_main_cst_2 (F := Ideal) i = (0 : EReal) := by pointwise [val_main_cst_2]
theorem zero3 (i : S_.Idx) : val_main_cst_3 (F := Ideal) i = (0 : EReal) := by pointwise [val_main_cst_3]
theorem zero4 (i : S_.Idx) : val_main_cst_4 (F := Ideal) i = (0 : EReal) := by pointwise [val_main_cst_4]

theorem pad1_at (r : Fin 8192) (p : Fin 3) (j : Fin 1024) :
    val_main_v43 (F := Ideal) B1 DM (ix3 r p j) = if p = 0 then DM (ix2 r j) * B1 (ix2 r j) else 0 := by
  unfold val_main_v43
  split
  · next h =>
    subst h
    rw [← prod1_at]
    refine pad_apply_of_inside _ _ _ _ _ _ _ _ _ fun a => ?_
    fin_cases a <;> simp
  · next h =>
    refine (pad_apply_of_not_inside _ _ _ _ _ _ _ _ (1 : Fin 3) ?_).trans (zero4 _)
    intro hh
    have h2 := hh.2.2
    fin_cases p <;> simp at h h2

theorem pad2_at (r : Fin 8192) (p : Fin 3) (j : Fin 1024) :
    val_main_v38 (F := Ideal) B2 DM (ix3 r p j) = if p = 1 then DM (ix2 r j) * B2 (ix2 r j) else 0 := by
  unfold val_main_v38
  split
  · next h =>
    subst h
    rw [← prod2_at]
    refine pad_apply_of_inside _ _ _ _ _ _ _ _ _ fun a => ?_
    fin_cases a <;> simp
  · next h =>
    refine (pad_apply_of_not_inside _ _ _ _ _ _ _ _ (1 : Fin 3) ?_).trans (zero3 _)
    intro hh
    have h1 := hh.1
    have h2 := hh.2.2
    fin_cases p <;> simp at h h1 h2

theorem pad3_at (r : Fin 8192) (p : Fin 3) (j : Fin 1024) :
    val_main_v34 (F := Ideal) B3 DM (ix3 r p j) = if p = 2 then DM (ix2 r j) * B3 (ix2 r j) else 0 := by
  unfold val_main_v34
  split
  · next h =>
    subst h
    rw [← prod3_at]
    refine pad_apply_of_inside _ _ _ _ _ _ _ _ _ fun a => ?_
    fin_cases a <;> simp
  · next h =>
    refine (pad_apply_of_not_inside _ _ _ _ _ _ _ _ (1 : Fin 3) ?_).trans (zero2 _)
    intro hh
    have h1 := hh.1
    fin_cases p <;> simp at h h1

theorem prod_at (r : Fin 8192) (p : Fin 3) (j : Fin 1024) :
    val_main_v44 (F := Ideal) B1 B2 B3 DM (ix3 r p j) = DM (ix2 r j) * branch B1 B2 B3 p (ix2 r j) := by
  rw [val_main_v44_apply, val_main_v39_apply, pad1_at, pad2_at, pad3_at]
  fin_cases p <;> simp [branch]

theorem term_at (r : Fin 8192) (p : Fin 3) (j : Fin 1024) :
    val_main_v45 (F := Ideal) Z BG B1 B2 B3 DM (ix3 r p j) = term Z BG B1 B2 B3 DM p j r := by
  rw [val_main_v45_apply, prod_at, slope_at]
  rfl

theorem dGL_at : val_main_v51 (F := Ideal) Z BG B1 B2 B3 DM = dGL Z BG B1 B2 B3 DM := by
  funext i
  idx_vars i
  have b1 : i1.val < 3072 := i1.isLt
  refine (?_ : _ = val_main_v45 (F := Ideal) Z BG B1 B2 B3 DM (ix3 i0 ⟨i1.val / 1024, by omega⟩ ⟨i1.val % 1024, by omega⟩)).trans
    (term_at Z BG B1 B2 B3 DM _ _ _)
  pointwise [val_main_v51, val_main_v50]
  blk_ext

theorem dBG_at : val_main_v49 (F := Ideal) Z BG B1 B2 B3 DM = dBG Z BG B1 B2 B3 DM := by
  funext i
  idx_vars i
  have b1 : i1.val < 3072 := i1.isLt
  have e : ∀ (p : Fin 3) (j : Fin 1024), val_main_v48 (F := Ideal) Z BG B1 B2 B3 DM (ix2 p j) = ∑ r, term Z BG B1 B2 B3 DM p j r := by
    intro p j
    pointwise! [val_main_v48, val_main_v47, val_main_v46, val_main_cst_5, val_main_cst_6, term_at, Fin.sum_univ_one]
  refine (?_ : _ = val_main_v48 (F := Ideal) Z BG B1 B2 B3 DM (ix2 ⟨i1.val / 1024, by omega⟩ ⟨i1.val % 1024, by omega⟩)).trans (e _ _)
  pointwise [val_main_v49]
  blk_ext

theorem dB1_at : val_main_v52 (F := Ideal) Z BG DM = dB Z BG DM 0 := by
  funext i
  idx_vars i
  unfold dB
  rw [mul_comm]
  pointwise! [val_main_v52, val_main_v40, val_main_v29, val_main_v19, val_main_v18, sig_at]

theorem dB2_at : val_main_v53 (F := Ideal) Z BG DM = dB Z BG DM 1 := by
  funext i
  idx_vars i
  unfold dB
  rw [mul_comm]
  pointwise! [val_main_v53, val_main_v35, val_main_v29, val_main_v22, val_main_v21, sig_at]

theorem dB3_at : val_main_v54 (F := Ideal) Z BG DM = dB Z BG DM 2 := by
  funext i
  idx_vars i
  unfold dB
  rw [mul_comm]
  pointwise! [val_main_v54, val_main_v31, val_main_v30, val_main_v26, val_main_v25, sig_at]

end Cert.GateReferenceIdeal.Merge

end
-- ==== Proof.GateClaim.lean ====
/- The merge's gradient: kernel and reference compute the same arrays. -/
module

public import proofs.«01_k».proof.Defs
public import proofs.«01_k».proof.Proof.GateArrays
public import proofs.«01_k».proof.Proof.GateReference
public import proofs.«01_k».proof.Proof.Gen.GateReferenceIdeal.Run
public import Idealize.ShloMosaic.Lib.Claim

@[expose] public section

set_option maxRecDepth 16384

noncomputable section

namespace Cert.GateProof

open Idealize.ShloMosaic Idealize.SL.Sem

/-- The reference runs and leaves its arguments as they were. -/
theorem frame_reference : Cert.quiescent_GateReferenceIdeal := by
  intro m g _
  exact (θ_run _ _ _).mono (fun r h => ⟨fun c => (h c).2.2.2.2.2, sem_eq_zero_of_no_sems (by decide) r.2⟩)
    (Cert.GateReferenceIdeal.Value.run m g)

/-- Over the extended reals the kernel and the reference leave the same five gradients. -/
theorem algebraic : Cert.algebraic_GateIdeal_GateReferenceIdeal := by
  intro m g m' g' hpre hagree
  refine ⟨_, _, _, _, _, Cert.GateIdeal.Value.run_blocks m g, ?_⟩
  refine (θ_run _ _ _).mono (fun r h c => ?_) (Cert.GateReferenceIdeal.Value.run m' g')
  obtain ⟨h0, h1, h2, h3, h4, k⟩ := h c
  obtain ⟨a0, a1, a2, a3, a4, a5⟩ := hagree c
  refine ⟨h0.trans ?_, h1.trans ?_, h2.trans ?_, h3.trans ?_, h4.trans ?_, k⟩
  · rw [Cert.GateReferenceIdeal.Read.val_main_v51_eq, a0, a1, a2, a3, a4, a5]
    exact (Cert.GateReferenceIdeal.Merge.dGL_at _ _ _ _ _ _).trans (Cert.GateIdeal.Merge.final_dGL m c).symm
  · rw [Cert.GateReferenceIdeal.Read.val_main_v52_eq, a0, a1, a5]
    exact (Cert.GateReferenceIdeal.Merge.dB1_at _ _ _).trans (Cert.GateIdeal.Merge.final_dB1 m c).symm
  · rw [Cert.GateReferenceIdeal.Read.val_main_v53_eq, a0, a1, a5]
    exact (Cert.GateReferenceIdeal.Merge.dB2_at _ _ _).trans (Cert.GateIdeal.Merge.final_dB2 m c).symm
  · rw [Cert.GateReferenceIdeal.Read.val_main_v54_eq, a0, a1, a5]
    exact (Cert.GateReferenceIdeal.Merge.dB3_at _ _ _).trans (Cert.GateIdeal.Merge.final_dB3 m c).symm
  · rw [Cert.GateReferenceIdeal.Read.val_main_v49_eq, a0, a1, a2, a3, a4, a5]
    exact (Cert.GateReferenceIdeal.Merge.dBG_at _ _ _ _ _ _).trans (Cert.GateIdeal.Merge.final_dBG m c).symm

end Cert.GateProof

end
-- ==== Proof.NormRow.lean ====
/- One row of the layer normalisation's gradient over the extended reals: the gradient written with two means, and the one
   that differentiating mean, variance and reciprocal root in turn gives. They agree where the row is made of numbers. -/
module

public import proofs.«01_k».proof.Proof.Sigmoid

@[expose] public section

noncomputable section

namespace Cert.NormRow

open Idealize.ShloMosaic

/-- The row's length. -/
abbrev num : EReal := Ideal.ofBits .f32 0x44800000#32
/-- What is added to the variance. -/
abbrev eps : EReal := Ideal.ofBits .f32 0x3727C5AC#32
/-- The residual's scale. -/
abbrev alpha : EReal := Ideal.ofBits .f32 0x3FB504F3#32
abbrev two : EReal := Ideal.ofBits .f32 0x40000000#32
abbrev mhalf : EReal := Ideal.ofBits .f32 0xBF000000#32

theorem num_eq : num = ((1024 : ℝ) : EReal) := by
  simp [Ideal.ofBits, Ideal.ieee, -EReal.coe_mul]; norm_num
theorem two_eq : two = ((2 : ℝ) : EReal) := by
  simp [Ideal.ofBits, Ideal.ieee, -EReal.coe_mul]; norm_num
theorem mhalf_eq : mhalf = ((-(1 / 2) : ℝ) : EReal) := by
  simp [Ideal.ofBits, Ideal.ieee, -EReal.coe_mul]; norm_num
theorem eps_pos : ∃ e : ℝ, 0 < e ∧ eps = (e : EReal) := by
  refine ⟨10995116 / 2 ^ 40, by norm_num, ?_⟩
  simp [Ideal.ofBits, Ideal.ieee, -EReal.coe_mul]; norm_num
theorem alpha_real : ∃ a : ℝ, alpha = (a : EReal) := by
  refine ⟨11863283 / 2 ^ 23, ?_⟩
  simp [Ideal.ofBits, Ideal.ieee, -EReal.coe_mul]; norm_num

section Row
variable (u dx : Fin 1024 → EReal) (j : Fin 1024)

def mean : EReal := Ideal.div (∑ i, u i) num
def cent : EReal := u j - mean u
def vari : EReal := Ideal.div (∑ i, cent u i * cent u i) num + eps
def rstd : EReal := Ideal.rsqrt (vari u)
def xhat : EReal := cent u j * rstd u

/-- The gradient with two means. -/
def du : EReal := rstd u * (dx j - mean dx - xhat u j * mean fun i => dx i * xhat u i)

/-- The variance's gradient, over the row's length. -/
def dvar : EReal := Ideal.div ((∑ i, cent u i * dx i) * (mhalf * Ideal.div (rstd u) (vari u))) num
/-- The gradient through the variance. -/
def byVar : EReal := dvar u dx * (two * cent u j)
/-- The gradient through the mean. -/
def byMean : EReal := Ideal.div ((∑ i, -(dx i * rstd u)) + ∑ i, -byVar u dx i) num
/-- The gradient step by step. -/
def duSteps : EReal := dx j * rstd u + byVar u dx j + byMean u dx
end Row

theorem mean_coe (a : Fin 1024 → ℝ) : mean (fun i => (a i : EReal)) = (((∑ i, a i) / 1024 : ℝ) : EReal) := by
  unfold mean
  rw [← Cert.Softmax.coe_sum, num_eq, Ideal.div_coe (by norm_num), ← EReal.coe_mul]
  congr 1
  ring

/-- The identity in the reals. -/
theorem du_real (c x : Fin 1024 → ℝ) (R V : ℝ) (hR : R * R * V = 1) (hc : ∑ i, c i = 0) (j : Fin 1024) :
    R * (x j - (∑ i, x i) / 1024 - c j * R * ((∑ i, x i * (c i * R)) / 1024))
      = x j * R + (∑ i, c i * x i) * (-(1 / 2) * (R * (1 / V))) * (1 / 1024) * (2 * c j)
        + ((∑ i, -(x i * R)) + ∑ i, -((∑ k, c k * x k) * (-(1 / 2) * (R * (1 / V))) * (1 / 1024) * (2 * c i))) * (1 / 1024) := by
  have hV : V ≠ 0 := by rintro rfl; simp at hR
  have h1 : 1 / V = R * R := by field_simp; linarith
  have h2 : ∑ i, x i * (c i * R) = (∑ i, c i * x i) * R := by
    rw [Finset.sum_mul]; exact Finset.sum_congr rfl fun i _ => by ring
  have h3 : ∑ i, -(x i * R) = -((∑ i, x i) * R) := by rw [Finset.sum_neg_distrib, Finset.sum_mul]
  have h4 : ∀ k : ℝ, ∑ i, -(k * (2 * c i)) = 0 := by
    intro k
    rw [Finset.sum_neg_distrib, ← Finset.mul_sum, ← Finset.mul_sum, hc]
    simp
  rw [h2, h3, h4, h1]
  ring

theorem du_eq (u dx : Fin 1024 → EReal) (hu : ∀ i, ∃ r : ℝ, u i = r) (hx : ∀ i, ∃ r : ℝ, dx i = r) (j : Fin 1024) :
    du u dx j = duSteps u dx j := by
  choose a ha using hu
  choose x hx using hx
  obtain rfl : u = fun i => (a i : EReal) := funext ha
  obtain rfl : dx = fun i => (x i : EReal) := funext hx
  obtain ⟨e, he, hee⟩ := eps_pos
  have hcent : cent (fun i => (a i : EReal)) = fun i => ((a i - (∑ i, a i) / 1024 : ℝ) : EReal) := by
    funext i
    unfold cent
    rw [mean_coe, EReal.coe_sub]
  have hc : ∑ i, (a i - (∑ i, a i) / 1024) = 0 := by
    rw [Finset.sum_sub_distrib, Finset.sum_const, Finset.card_univ, Fintype.card_fin, nsmul_eq_mul]
    push_cast
    ring
  generalize hcd : (fun i => a i - (∑ i, a i) / 1024) = c at *
  have hcent' : cent (fun i => (a i : EReal)) = fun i => (c i : EReal) := by rw [hcent, ← hcd]
  have hc' : ∑ i, c i = 0 := by rw [← hc, ← hcd]
  have hvari : vari (fun i => (a i : EReal)) = (((∑ i, c i * c i) * (1 / 1024) + e : ℝ) : EReal) := by
    unfold vari
    rw [hcent', Cert.Sigmoid.sum_mul_coe_eq, num_eq, Ideal.div_coe (by norm_num), hee, ← EReal.coe_mul, ← EReal.coe_add]
  have hpos : 0 < (∑ i, c i * c i) * (1 / 1024) + e := by
    have : 0 ≤ ∑ i, c i * c i := Finset.sum_nonneg fun i _ => mul_self_nonneg _
    positivity
  generalize (∑ i, c i * c i) * (1 / 1024) + e = V at hvari hpos
  have hrstd : rstd (fun i => (a i : EReal)) = (((√V)⁻¹ : ℝ) : EReal) := by
    unfold rstd
    rw [hvari, Ideal.rsqrt_coe, if_neg (by linarith), if_neg hpos.ne']
  have hR : (√V)⁻¹ * (√V)⁻¹ * V = 1 := by
    rw [← mul_inv, Real.mul_self_sqrt hpos.le]
    exact inv_mul_cancel₀ hpos.ne'
  generalize (√V)⁻¹ = R at hrstd hR
  have hxhat : xhat (fun i => (a i : EReal)) = fun i => ((c i * R : ℝ) : EReal) := by
    funext i
    unfold xhat
    rw [hcent', hrstd, EReal.coe_mul]
  have hdvar : dvar (fun i => (a i : EReal)) (fun i => (x i : EReal))
      = (((∑ i, c i * x i) * (-(1 / 2) * (R * (1 / V))) * (1 / 1024) : ℝ) : EReal) := by
    unfold dvar
    rw [hcent', hrstd, hvari, Cert.Sigmoid.sum_mul_coe_eq, mhalf_eq, num_eq, Ideal.div_coe hpos.ne', Ideal.div_coe (by norm_num)]
    simp only [EReal.coe_mul]
  have hby : byVar (fun i => (a i : EReal)) (fun i => (x i : EReal))
      = fun i => (((∑ i, c i * x i) * (-(1 / 2) * (R * (1 / V))) * (1 / 1024) * (2 * c i) : ℝ) : EReal) := by
    funext i
    unfold byVar
    rw [hdvar, hcent', two_eq]
    simp only [EReal.coe_mul]
  have hm : byMean (fun i => (a i : EReal)) (fun i => (x i : EReal))
      = (((((∑ i, -(x i * R)) + ∑ i, -((∑ k, c k * x k) * (-(1 / 2) * (R * (1 / V))) * (1 / 1024) * (2 * c i))) * (1 / 1024) : ℝ)) : EReal) := by
    unfold byMean
    rw [hby, hrstd, num_eq, Ideal.div_coe (by norm_num)]
    simp only [← EReal.coe_mul, ← EReal.coe_neg, ← Cert.Softmax.coe_sum, ← EReal.coe_add]
  unfold du duSteps
  rw [hm, hby, hxhat, hrstd]
  simp only [← EReal.coe_mul, mean_coe, ← EReal.coe_sub, ← EReal.coe_add]
  rw [du_real c x R V hR hc' j]

end Cert.NormRow

end
-- ==== Proof.NormBlock.lean ====
/- The layer normalisation's gradient: what the body computes from one block of 512 rows, and the arrays that the kernel leaves. -/
module

public import proofs.«01_k».proof.Proof.NormRow
public import proofs.«01_k».proof.Proof.XaSums
public import proofs.«01_k».proof.Proof.Gen.NormIdeal.Skeleton
public import proofs.«01_k».proof.Proof.Gen.NormIdeal
public import proofs.«01_k».proof.Proof.Gen.NormIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.NormIdeal.Ln

open Cert.NormIdeal Cert.NormIdeal.Gen Idealize.ShloMosaic Idealize.ShloMosaic.TcCoe Idealize.SL.Sem
open Idealize.ShloMosaic.Pipeline (Dat)
open Cert.NormRow

section At
variable (x f dy : FVec Ideal S512x1024 .f32) (g acc : FVec Ideal S1x1024 .f32)

/-- The normalised row: the residual's scale times the one input, plus the other. -/
abbrev uRow (r : Fin 512) (i : Fin 1024) : EReal := alpha * x (ix2 r i) + f (ix2 r i)
/-- The incoming gradient times the gain. -/
abbrev gRow (r : Fin 512) (i : Fin 1024) : EReal := dy (ix2 r i) * g (ix2 0 i)

theorem cent_at (r : Fin 512) (j : Fin 1024) : k0_pay6 (F := Ideal) x f (ix2 r j) = cent (uRow x f r) j := by
  unfold cent mean
  pointwise! [k0_pay6]

theorem rstd_at (r : Fin 512) : k0_pay7 (F := Ideal) x f (ix2 r 0) = rstd (uRow x f r) := by
  unfold rstd vari
  pointwise! [k0_pay7, cent_at]

theorem xhat_at (r : Fin 512) (j : Fin 1024) : k0_pay8 (F := Ideal) x f (ix2 r j) = xhat (uRow x f r) j := by
  unfold xhat
  pointwise! [k0_pay8, cent_at, rstd_at]

theorem dxh_at (r : Fin 512) (j : Fin 1024) : k0_pay9 (F := Ideal) dy g (ix2 r j) = gRow dy g r j := by
  pointwise! [k0_pay9]

theorem m2_at (r : Fin 512) :
    k0_pay10 (F := Ideal) x f dy g (ix2 r 0) = mean fun i => gRow dy g r i * xhat (uRow x f r) i := by
  unfold mean
  pointwise! [k0_pay10, dxh_at, xhat_at]

theorem m1_at (r : Fin 512) (j : Fin 1024) : k0_pay11 (F := Ideal) dy g (ix2 r j) = mean (gRow dy g r) := by
  unfold mean
  pointwise! [k0_pay11, dxh_at]

theorem du_at (r : Fin 512) (j : Fin 1024) :
    k0_pay1 (F := Ideal) (k0_pay7 x f) (k0_pay8 x f) (k0_pay9 dy g) (k0_pay10 x f dy g) (k0_pay11 dy g) (ix2 r j)
      = du (uRow x f r) (gRow dy g r) j := by
  unfold du
  pointwise! [k0_pay1, rstd_at, xhat_at, dxh_at, m1_at, m2_at]

theorem dg_at (j : Fin 1024) : k0_pay2 (F := Ideal) (k0_pay8 x f) dy acc (ix2 0 j)
    = acc (ix2 0 j) + ∑ r : Fin 512, dy (ix2 r j) * xhat (uRow x f r) j := by
  pointwise! [k0_pay2, xhat_at]

theorem db_at (j : Fin 1024) : k0_pay3 (F := Ideal) dy acc (ix2 0 j) = acc (ix2 0 j) + ∑ r : Fin 512, dy (ix2 r j) := by
  pointwise! [k0_pay3]
end At

/-! ## The whole arrays -/

section Whole
variable (X F DY : FVec Ideal S8192x1024 .f32) (G : FVec Ideal S1x1024 .f32)

abbrev uAll (r : Fin 8192) (i : Fin 1024) : EReal := alpha * X (ix2 r i) + F (ix2 r i)
abbrev gAll (r : Fin 8192) (i : Fin 1024) : EReal := DY (ix2 r i) * G (ix2 0 i)

def dUU : FVec Ideal S8192x1024 .f32 := fun i => du (uAll X F (i 0)) (gAll DY G (i 0)) (i 1)
/-- What row `r` adds to the gradient of the gain. -/
def dGTerm (i : S1x1024.Idx) (r : Fin 8192) : EReal := DY (ix2 r (i 1)) * xhat (uAll X F r) (i 1)
def dGG : FVec Ideal S1x1024 .f32 := fun i => ∑ r : Fin 8192, dGTerm X F DY i r
/-- What row `r` adds to the gradient of the shift. -/
def dBTerm (i : S1x1024.Idx) (r : Fin 8192) : EReal := DY (ix2 r (i 1))
def dBB : FVec Ideal S1x1024 .f32 := fun i => ∑ r : Fin 8192, dBTerm DY i r
end Whole

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] ∧ win0_6.index t = ![0, 0] :=
  (by decide +kernel : ∀ t : Fin grid0.N, _)

abbrev mX : FVec Ideal S8192x1024 .f32 := m ((c : Thread nD τ).loc main_arg0)
abbrev mF : FVec Ideal S8192x1024 .f32 := m ((c : Thread nD τ).loc main_arg1)
abbrev mDY : FVec Ideal S8192x1024 .f32 := m ((c : Thread nD τ).loc main_arg2)
abbrev mG : FVec Ideal S1x1024 .f32 := m ((c : Thread nD τ).loc main_arg3)

theorem lt16 (t : Fin cfg0.N) : t.val < 16 := lt_of_lt_of_eq t.isLt N_0

/-- Row `r` of the point's block. -/
abbrev row (t : Fin cfg0.N) (r : Fin 512) : Fin 8192 := ⟨t.val * 512 + r.val, by have := lt16 t; omega⟩

section Block
variable (t : Fin cfg0.N) (x f dy : FVec Ideal S512x1024 .f32) (g acc : FVec Ideal S1x1024 .f32)
  (hx : ∀ (r : Fin 512) (j : Fin 1024), x (ix2 r j) = mX m c (ix2 (row t r) j))
  (hf : ∀ (r : Fin 512) (j : Fin 1024), f (ix2 r j) = mF m c (ix2 (row t r) j))
  (hdy : ∀ (r : Fin 512) (j : Fin 1024), dy (ix2 r j) = mDY m c (ix2 (row t r) j))
  (hg : ∀ j : Fin 1024, g (ix2 0 j) = mG m c (ix2 0 j))

include hx hf in
theorem uRow_eq (r : Fin 512) : uRow x f r = uAll (mX m c) (mF m c) (row t r) := by
  funext i
  show alpha * x (ix2 r i) + f (ix2 r i) = _
  rw [hx, hf]

include hdy hg in
theorem gRow_eq (r : Fin 512) : gRow dy g r = gAll (mDY m c) (mG m c) (row t r) := by
  funext i
  show dy (ix2 r i) * g (ix2 0 i) = _
  rw [hdy, hg]

include hx hf hdy hg in
theorem block_du (y : S512x1024.Idx) (i : S8192x1024.Idx) (h0 : (i 0 : ℕ) = t.val * 512 + y 0) (h1 : (i 1 : ℕ) = y 1) :
    k0_pay1 (F := Ideal) (k0_pay7 x f) (k0_pay8 x f) (k0_pay9 dy g) (k0_pay10 x f dy g) (k0_pay11 dy g) y
      = dUU (mX m c) (mF m c) (mDY m c) (mG m c) i := by
  idx_vars y
  have e0 : i 0 = row t y0 := Fin.ext h0
  have e1 : i 1 = y1 := Fin.ext h1
  unfold dUU
  rw [e0, e1, du_at, uRow_eq m c t x f hx hf, gRow_eq m c t dy g hdy hg]

include hx hf hdy in
theorem block_dg (y : S1x1024.Idx) : k0_pay2 (F := Ideal) (k0_pay8 x f) dy acc y
    = acc y + ∑ r : Fin 512, dGTerm (mX m c) (mF m c) (mDY m c) y (row t r) := by
  idx_vars y
  obtain rfl : y0 = 0 := Subsingleton.elim _ _
  rw [dg_at]
  simp only [uRow_eq m c t x f hx hf, hdy]
  rfl

include hdy in
theorem block_db (y : S1x1024.Idx) : k0_pay3 (F := Ideal) dy acc y = acc y + ∑ r : Fin 512, dBTerm (mDY m c) y (row t r) := by
  idx_vars y
  obtain rfl : y0 = 0 := Subsingleton.elim _ _
  rw [db_at]
  simp only [hdy]
  rfl
end Block

theorem final_dU : (dats m 0 c).arrAt 4 (cfgs 0).N = dUU (mX m c) (mF m c) (mDY m c) (mG m c) := by
  refine (dats m 0 c).arrAt_eq_of_covers 4 _ (by decide +kernel) fun t _ y => ?_
  blk_simp
  rw [after0_4]
  by_cases h0 : t.val % 16 = 0
  · rw [outsAt0_A m c t h0]
    frame_out
    refine block_du m c t _ _ _ _ (fun r j => ?_) (fun r j => ?_) (fun r j => ?_) (fun j => ?_) y _ ?_ ?_ <;>
      (first | blk_point [iblk, V, idx t] | (blk_simp [idx t] <;> try omega))
  · rw [outsAt0_B m c t h0]
    frame_out
    refine block_du m c t _ _ _ _ (fun r j => ?_) (fun r j => ?_) (fun r j => ?_) (fun j => ?_) y _ ?_ ?_ <;>
      (first | blk_point [iblk, V, idx t] | (blk_simp [idx t] <;> try omega))

/-- What the point's rows add to an entry of the gain's gradient. -/
def partG (t : Fin cfg0.N) (y : S1x1024.Idx) : EReal := ∑ r : Fin 512, dGTerm (mX m c) (mF m c) (mDY m c) y (row t r)
/-- What the point's rows add to an entry of the shift's gradient. -/
def partB (t : Fin cfg0.N) (y : S1x1024.Idx) : EReal := ∑ r : Fin 512, dBTerm (mDY m c) y (row t r)

theorem stepG (t : Fin cfg0.N) (h0 : ¬ t.val % 16 = 0) (y : S1x1024.Idx) :
    (outsAt0 m c t.val t.isLt).2.1 y
      = (outsAt0 m c (t.val - 1) (Nat.lt_of_le_of_lt (Nat.sub_le _ _) t.isLt)).2.1 y + partG m c t y := by
  rw [outsAt0_B m c t h0]
  frame_out
  refine (block_dg m c t _ _ _ _ (fun r j => ?_) (fun r j => ?_) (fun r j => ?_) y).trans ?_
  iterate 3 blk_point [iblk, V, idx t]
  refine Ideal.add_congr ?_ rfl; pointwise; blk_ext

theorem firstG (t : Fin cfg0.N) (h0 : t.val % 16 = 0) (y : S1x1024.Idx) :
    (outsAt0 m c t.val t.isLt).2.1 y = 0 + partG m c t y := by
  rw [outsAt0_A m c t h0]
  frame_out
  refine (block_dg m c t _ _ _ _ (fun r j => ?_) (fun r j => ?_) (fun r j => ?_) y).trans ?_
  iterate 3 blk_point [iblk, V, idx t]
  refine Ideal.add_congr ?_ rfl; pointwise! [k0_pay4, k0_pay5]

theorem stepB (t : Fin cfg0.N) (h0 : ¬ t.val % 16 = 0) (y : S1x1024.Idx) :
    (outsAt0 m c t.val t.isLt).2.2 y
      = (outsAt0 m c (t.val - 1) (Nat.lt_of_le_of_lt (Nat.sub_le _ _) t.isLt)).2.2 y + partB m c t y := by
  rw [outsAt0_B m c t h0]
  frame_out
  refine (block_db m c t _ _ (fun r j => ?_) y).trans ?_
  iterate 1 blk_point [iblk, V, idx t]
  refine Ideal.add_congr ?_ rfl; pointwise; blk_ext

theorem firstB (t : Fin cfg0.N) (h0 : t.val % 16 = 0) (y : S1x1024.Idx) :
    (outsAt0 m c t.val t.isLt).2.2 y = 0 + partB m c t y := by
  rw [outsAt0_A m c t h0]
  frame_out
  refine (block_db m c t _ _ (fun r j => ?_) y).trans ?_
  iterate 1 blk_point [iblk, V, idx t]
  refine Ideal.add_congr ?_ rfl; pointwise! [k0_pay4, k0_pay5]

theorem final_dG : (dats m 0 c).arrAt 5 (cfgs 0).N = dGG (mX m c) (mF m c) (mDY m c) := by
  refine (dats m 0 c).arrAt_eq_of_after_last 5 t0_15 (by decide +kernel) _ fun j => ?_
  blk_simp
  rw [after0_5, Pipeline.eq_sum_fin_of_reset_step_apply_last (fun n h => (outsAt0 m c n h).2.1) 16 (fun _ => 0)
    (fun p j => partG m c p j) (fun t h j => firstG m c t h j) (fun t h j => stepG m c t h j) (le_of_eq N_0) t0_15 rfl j, zero_add]
  unfold partG dGG
  refine Fin.sum_mul_add_congr fun s k hl => ?_
  rfl

theorem final_dB : (dats m 0 c).arrAt 6 (cfgs 0).N = dBB (mDY m c) := by
  refine (dats m 0 c).arrAt_eq_of_after_last 6 t0_15 (by decide +kernel) _ fun j => ?_
  blk_simp
  rw [after0_6, Pipeline.eq_sum_fin_of_reset_step_apply_last (fun n h => (outsAt0 m c n h).2.2) 16 (fun _ => 0)
    (fun p j => partB m c p j) (fun t h j => firstB m c t h j) (fun t h j => stepB m c t h j) (le_of_eq N_0) t0_15 rfl j, zero_add]
  unfold partB dBB
  refine Fin.sum_mul_add_congr fun s k hl => ?_
  rfl

end Cert.NormIdeal.Ln

end
-- ==== Proof.NormReference.lean ====
/- The reference's gradient of the layer normalisation, read at an index, and the precondition's numbers. -/
module

public import proofs.«01_k».proof.Proof.NormBlock
public import proofs.«01_k».proof.Proof.XaFinite
public import proofs.«01_k».proof.Pre_norm_finite
public import proofs.«01_k».proof.Proof.Gen.Pre_norm_finite
public import proofs.«01_k».proof.Proof.Gen.NormReferenceIdeal.Read

@[expose] public section

set_option maxRecDepth 16384

noncomputable section

namespace Cert.NormReferenceIdeal.Ln

open Cert.NormReferenceIdeal Cert.NormReferenceIdeal.Gen Cert.NormReferenceIdeal.Read Idealize.ShloMosaic Idealize.ShloMosaic.TcCoe Idealize.SL.Sem
open Cert.NormRow
open Cert.NormIdeal.Ln (uAll gAll dUU dGG dGTerm dBB dBTerm)

variable (X F DY : FVec Ideal S8192x1024 .f32) (G : FVec Ideal S1x1024 .f32)

theorem u_at (r : Fin 8192) (j : Fin 1024) : val_main_v3 (F := Ideal) X F (ix2 r j) = uAll X F r j := by
  pointwise! [val_main_v3, val_main_v2, val_main_v1, val_main_cst_0]

theorem mean_at (r : Fin 8192) : val_main_v7 (F := Ideal) X F (ix2 r 0) = mean (uAll X F r) := by
  unfold mean
  pointwise! [val_main_v7, val_main_v6, val_main_v5, val_main_v4, val_main_cst_1, val_main_cst_2, u_at]

theorem cent_at (r : Fin 8192) (j : Fin 1024) : val_main_v9 (F := Ideal) X F (ix2 r j) = cent (uAll X F r) j := by
  unfold cent
  pointwise! [val_main_v9, val_main_v8, u_at, mean_at]

theorem cent'_at (r : Fin 8192) (j : Fin 1024) : val_main_v18 (F := Ideal) X F (ix2 r j) = cent (uAll X F r) j := by
  unfold cent
  pointwise! [val_main_v18, val_main_v17, u_at, mean_at]

theorem vari_at (r : Fin 8192) : val_main_v20 (F := Ideal) X F (ix2 r 0) = vari (uAll X F r) := by
  unfold vari
  pointwise! [val_main_v20, val_main_v19, val_main_v16, val_main_v15, val_main_v14, val_main_v13, val_main_v10, val_main_cst_4,
    val_main_cst_5, val_main_cst_6, cent_at]

theorem rstd_at (r : Fin 8192) : val_main_v21 (F := Ideal) X F (ix2 r 0) = rstd (uAll X F r) := by
  unfold rstd
  pointwise! [val_main_v21, vari_at]

theorem dxh_at (r : Fin 8192) (j : Fin 1024) : val_main_v38 (F := Ideal) DY G (ix2 r j) = gAll DY G r j := by
  pointwise! [val_main_v38, val_main_v37, val_main_v31]

theorem inner_at (r : Fin 8192) :
    val_main_v41 (F := Ideal) X F DY G (ix2 r 0) = ∑ i, cent (uAll X F r) i * gAll DY G r i := by
  pointwise! [val_main_v41, val_main_v40, val_main_v39, val_main_cst_10, cent'_at, dxh_at]

theorem dvar_at (r : Fin 8192) : val_main_v49 (F := Ideal) X F DY G (ix2 r 0) = dvar (uAll X F r) (gAll DY G r) := by
  unfold dvar
  pointwise! [val_main_v49, val_main_v48, val_main_v44, val_main_v24, val_main_v23, val_main_v22, val_main_cst_7,
    val_main_cst_12, inner_at, rstd_at, vari_at]

theorem byVar_at (r : Fin 8192) (j : Fin 1024) :
    val_main_v52 (F := Ideal) X F DY G (ix2 r j) = byVar (uAll X F r) (gAll DY G r) j := by
  unfold byVar
  pointwise! [val_main_v52, val_main_v51, val_main_v50, val_main_v12, val_main_v11, val_main_cst_3, val_main_cst_13, dvar_at,
    cent_at, Fin.sum_univ_one]

theorem direct_at (r : Fin 8192) (j : Fin 1024) :
    val_main_v43 (F := Ideal) X F DY G (ix2 r j) = gAll DY G r j * rstd (uAll X F r) := by
  pointwise! [val_main_v43, val_main_v42, rstd_at, dxh_at]

theorem byMean_at (r : Fin 8192) : val_main_v59 (F := Ideal) X F DY G (ix2 r 0) = byMean (uAll X F r) (gAll DY G r) := by
  unfold byMean
  pointwise! [val_main_v59, val_main_v58, val_main_v57, val_main_v55, val_main_v54, val_main_v53, val_main_v47, val_main_v46,
    val_main_v45, val_main_cst_11, val_main_cst_14, val_main_cst_15, direct_at, byVar_at]

theorem dU_at (hu : ∀ r i, ∃ x : ℝ, uAll X F r i = x) (hg : ∀ r i, ∃ x : ℝ, gAll DY G r i = x) :
    val_main_v62 (F := Ideal) X F DY G = dUU X F DY G := by
  funext i
  idx_vars i
  unfold dUU
  refine Eq.trans ?_ (du_eq _ _ (hu i0) (hg i0) i1).symm
  unfold duSteps
  pointwise! [val_main_v62, val_main_v61, val_main_v60, val_main_v56, val_main_cst_16, direct_at, byVar_at, byMean_at,
    Fin.sum_univ_one]

theorem dG_at : val_main_v36 (F := Ideal) X F DY = dGG X F DY := by
  funext i
  idx_vars i
  unfold dGG dGTerm xhat
  refine Eq.trans ?_ (Finset.sum_congr rfl fun r _ => mul_comm _ _)
  pointwise! [val_main_v36, val_main_v35, val_main_v34, val_main_v31, val_main_v26, val_main_v25, val_main_cst_9, cent'_at, rstd_at]

theorem dB_at : val_main_v33 (F := Ideal) DY = dBB DY := by
  funext i
  idx_vars i
  unfold dBB dBTerm
  pointwise! [val_main_v33, val_main_v32, val_main_cst_8]

end Cert.NormReferenceIdeal.Ln

namespace Cert.Pre_norm_finite.Ln

open Cert.Pre_norm_finite Cert.Pre_norm_finite.Gen Idealize.ShloMosaic
open Cert.NormIdeal.Ln (uAll gAll)

variable (X F DY : FVec Ideal S8192x1024 .f32) (G : FVec Ideal S1x1024 .f32)

theorem real_rows (h : Cert.Pre_norm_finite.fn (F := Ideal) X F DY G = fun _ => 1#1) :
    (∀ r i, ∃ x : ℝ, uAll X F r i = x) ∧ ∀ r i, ∃ x : ℝ, gAll DY G r i = x := by
  haveI : Subsingleton S_.Idx := ⟨fun y z => funext fun a => a.elim0⟩
  have e := congrFun h (fun a => a.elim0)
  simp only [Cert.Pre_norm_finite.fn, Cert.Pre_norm_finite.fn_part1, andi] at e
  have e2 : ∀ a b : BitVec 1, IntOp.andi a b = 1#1 → a = 1#1 ∧ b = 1#1 := by decide
  obtain ⟨h123, h4⟩ := e2 _ _ e
  obtain ⟨h12, h3⟩ := e2 _ _ h123
  obtain ⟨h1, h2⟩ := e2 _ _ h12
  have x1 : ∀ i, ∃ x : ℝ, X i = x := fun i => Cert.Pre_finite.Xa.real_of_abs_lt _ (Host.reduce_andi_all _ _ _ _ _ h1 i)
  have x2 : ∀ i, ∃ x : ℝ, F i = x := fun i => Cert.Pre_finite.Xa.real_of_abs_lt _ (Host.reduce_andi_all _ _ _ _ _ h2 i)
  have x3 : ∀ i, ∃ x : ℝ, DY i = x := fun i => Cert.Pre_finite.Xa.real_of_abs_lt _ (Host.reduce_andi_all _ _ _ _ _ h3 i)
  have x4 : ∀ i, ∃ x : ℝ, G i = x := fun i => Cert.Pre_finite.Xa.real_of_abs_lt _ (Host.reduce_andi_all _ _ _ _ _ h4 i)
  obtain ⟨a, ha⟩ := Cert.NormRow.alpha_real
  refine ⟨fun r i => ?_, fun r i => ?_⟩
  · obtain ⟨p, hp⟩ := x1 (ix2 r i)
    obtain ⟨q, hq⟩ := x2 (ix2 r i)
    refine ⟨a * p + q, ?_⟩
    show Cert.NormRow.alpha * X (ix2 r i) + F (ix2 r i) = _
    rw [ha, hp, hq, EReal.coe_add, EReal.coe_mul]
  · obtain ⟨p, hp⟩ := x3 (ix2 r i)
    obtain ⟨q, hq⟩ := x4 (ix2 0 i)
    refine ⟨p * q, ?_⟩
    show DY (ix2 r i) * G (ix2 0 i) = _
    rw [hp, hq, EReal.coe_mul]

end Cert.Pre_norm_finite.Ln

end
-- ==== Proof.NormClaim.lean ====
/- The layer normalisation's gradient: kernel and reference compute the same arrays. -/
module

public import proofs.«01_k».proof.Defs
public import proofs.«01_k».proof.Proof.NormReference
public import proofs.«01_k».proof.Proof.Gen.NormReferenceIdeal.Run
public import Idealize.ShloMosaic.Lib.Claim

@[expose] public section

set_option maxRecDepth 16384

noncomputable section

namespace Cert.NormProof

open Idealize.ShloMosaic Idealize.SL.Sem

/-- The reference runs and leaves its arguments as they were. -/
theorem frame_reference : Cert.quiescent_NormReferenceIdeal := by
  intro m g _
  exact (θ_run _ _ _).mono (fun r h => ⟨fun c => (h c).2.2.2, sem_eq_zero_of_no_sems (by decide) r.2⟩)
    (Cert.NormReferenceIdeal.Value.run m g)

/-- Over the extended reals the kernel and the reference leave the same three gradients. -/
theorem algebraic : Cert.algebraic_NormIdeal_NormReferenceIdeal_pre_norm_finite := by
  intro m g m' g' hpre hagree
  refine ⟨_, _, _, Cert.NormIdeal.Value.run_blocks m g, ?_⟩
  refine (θ_run _ _ _).mono (fun r h c => ?_) (Cert.NormReferenceIdeal.Value.run m' g')
  obtain ⟨h0, h1, h2, k⟩ := h c
  obtain ⟨a0, a1, a2, a3⟩ := hagree c
  refine ⟨h0.trans ?_, h1.trans ?_, h2.trans ?_, k⟩
  · rw [Cert.NormReferenceIdeal.Read.val_main_v62_eq, a0, a1, a2, a3]
    obtain ⟨hu, hg⟩ := Cert.Pre_norm_finite.Ln.real_rows _ _ _ _ (hpre c)
    exact (Cert.NormReferenceIdeal.Ln.dU_at _ _ _ _ hu hg).trans (Cert.NormIdeal.Ln.final_dU m c).symm
  · rw [Cert.NormReferenceIdeal.Read.val_main_v36_eq, a0, a1, a2]
    exact (Cert.NormReferenceIdeal.Ln.dG_at _ _ _).trans (Cert.NormIdeal.Ln.final_dG m c).symm
  · rw [Cert.NormReferenceIdeal.Read.val_main_v33_eq, a2]
    exact (Cert.NormReferenceIdeal.Ln.dB_at _).trans (Cert.NormIdeal.Ln.final_dB m c).symm

end Cert.NormProof

end
-- ==== Proof.DwDownBlock.lean ====
/- The gradient of the feed-forward block's down projection: the product over the tokens, tile by tile. -/
module

public import proofs.«01_k».proof.Proof.XaSums
public import proofs.«01_k».proof.Proof.Gen.DwDownIdeal.Skeleton
public import proofs.«01_k».proof.Proof.Gen.DwDownIdeal
public import proofs.«01_k».proof.Proof.Gen.DwDownIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DwDownIdeal.Product

open Cert.DwDownIdeal Cert.DwDownIdeal.Gen Idealize.ShloMosaic Idealize.ShloMosaic.TcCoe Idealize.SL.Sem
open Idealize.ShloMosaic.Pipeline (Dat)

section Whole
variable (A : FVec Ideal S8192x2816 .bf16) (B : FVec Ideal S8192x1024 .f32)

/-- The summand `k` of an entry of the product. -/
def term (i : S2816x1024.Idx) (k : Fin 8192) : EReal := A (ix2 k (i 0)) * B (ix2 k (i 1))
/-- The array that the call leaves. -/
def out : FVec Ideal S2816x1024 .f32 := fun i => (∑ k : Fin 8192, term A B i k)
/-- The summands that the points at place `s` of the inner axis add. -/
def seg (i : S2816x1024.Idx) (s : ℕ) (hs : s < 4) : EReal := ∑ k : Fin 2048, term A B i ⟨s * 2048 + k.val, by have := k.isLt; omega⟩
end Whole

section At
variable (a : FVec Ideal S2048x1408 .bf16) (b : FVec Ideal S2048x1024 .f32) (acc : FVec Ideal S1408x1024 .f32)

/-- The product of two blocks at an entry. -/
abbrev dot (y : S1408x1024.Idx) : EReal := ∑ k : Fin 2048, a (ix2 k (y 0)) * b (ix2 k (y 1))

theorem pay1_at (y : S1408x1024.Idx) : k0_pay1 (F := Ideal) a b y = dot a b y := by
  idx_vars y
  pointwise! [k0_pay1]

theorem pay2_at (y : S1408x1024.Idx) : k0_pay2 (F := Ideal) acc a b y = acc y + dot a b y := by
  idx_vars y
  pointwise! [k0_pay2]

theorem pay3_at (y : S1408x1024.Idx) : k0_pay3 (F := Ideal) acc a b y = acc y + dot a b y := by
  idx_vars y
  pointwise! [k0_pay3]
end At

variable (m : (ℓ : Loc nD τ sig) → Buf (Elt Ideal) ℓ) (c : Dev nD)

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

abbrev mA : FVec Ideal S8192x2816 .bf16 := m ((c : Thread nD τ).loc main_arg0)
abbrev mB : FVec Ideal S8192x1024 .f32 := m ((c : Thread nD τ).loc main_arg1)

theorem lt_points (t : Fin cfg0.N) : t.val < 8 := lt_of_lt_of_eq t.isLt N_0

section Block
variable (t : Fin cfg0.N) (a : FVec Ideal S2048x1408 .bf16) (b : FVec Ideal S2048x1024 .f32)
  (ha : ∀ (p : Fin 2048) (q : Fin 1408), a (ix2 p q) = mA m c (ix2 ⟨t.val % 4 * 2048 + p.val, by have := lt_points t; have := p.isLt; omega⟩ ⟨t.val / 4 * 1408 + q.val, by have := lt_points t; have := q.isLt; omega⟩))
  (hb : ∀ (p : Fin 2048) (q : Fin 1024), b (ix2 p q) = mB m c (ix2 ⟨t.val % 4 * 2048 + p.val, by have := lt_points t; have := p.isLt; omega⟩ q))

include ha hb in
/-- The blocks' product is the point's part of the whole product. -/
theorem block_dot (y : S1408x1024.Idx) (i : S2816x1024.Idx) (h0 : (i 0 : ℕ) = t.val / 4 * 1408 + y 0) (h1 : (i 1 : ℕ) = y 1) :
    dot a b y = seg (mA m c) (mB m c) i (t.val % 4) (Nat.mod_lt _ (by decide)) := by
  idx_vars y
  have b0 : y0.val < 1408 := y0.isLt
  have b1 : y1.val < 1024 := y1.isLt
  have e0 : i 0 = (⟨t.val / 4 * 1408 + y0.val, by have := lt_points t; omega⟩ : Fin 2816) := Fin.ext h0
  have e1 : i 1 = y1 := Fin.ext h1
  unfold seg term
  rw [e0, e1]
  refine Finset.sum_congr rfl fun k _ => ?_
  refine Ideal.mul_congr ((ha _ _).trans ?_) ((hb _ _).trans ?_) <;> rfl
end Block

/-- The scratch after the first point of a tile. -/
theorem scratch_first (t : Fin cfg0.N) (h : t.val % 4 = 0) (y : S1408x1024.Idx) (i : S2816x1024.Idx) (h0 : (i 0 : ℕ) = t.val / 4 * 1408 + y 0) (h1 : (i 1 : ℕ) = y 1) :
    (outsAt0 m c t.val t.isLt).2 y = seg (mA m c) (mB m c) i 0 (by decide) := by
  rw [outsAt0_A m c t h (by omega) (by omega)]
  frame_out
  refine (pay1_at _ _ y).trans ((block_dot m c t _ _ (fun p q => ?_) (fun p q => ?_) y i h0 h1).trans ?_)
  · blk_point [iblk, V, idx t]
  · blk_point [iblk, V, idx t]
  · simp only [h]

/-- The scratch after a later point of a tile: what it held, and the point's summands. -/
theorem scratch_next (t : Fin cfg0.N) (r : ℕ) (hr : r < 4) (h : t.val % 4 = r) (hm : 1 ≤ r ∧ r ≤ 2) (y : S1408x1024.Idx)
    (i : S2816x1024.Idx) (h0 : (i 0 : ℕ) = t.val / 4 * 1408 + y 0) (h1 : (i 1 : ℕ) = y 1) :
    (outsAt0 m c t.val t.isLt).2 y
      = (outsAt0 m c (t.val - 1) (Nat.lt_of_le_of_lt (Nat.sub_le _ _) t.isLt)).2 y + seg (mA m c) (mB m c) i r hr := by
  rw [outsAt0_B m c t (by omega) (by omega) (by omega)]
  frame_out
  refine (pay2_at _ _ _ y).trans (Ideal.add_congr ?_ ((block_dot m c t _ _ (fun p q => ?_) (fun p q => ?_) y i h0 h1).trans ?_))
  · pointwise
    exact congrFun (read_unread_whole cc0_scratch0 _ _) y
  · blk_point [iblk, V, idx t]
  · blk_point [iblk, V, idx t]
  · simp only [h]

/-- The tile's last point leaves the sum of all its points' summands. -/
theorem out_last (t : Fin cfg0.N) (hl : t.val % 4 = 3) (y : S1408x1024.Idx) (i : S2816x1024.Idx) (h0 : (i 0 : ℕ) = t.val / 4 * 1408 + y 0) (h1 : (i 1 : ℕ) = y 1) :
    (outsAt0 m c t.val t.isLt).1 y = out (mA m c) (mB m c) i := by
  have hN := lt_points t
  have e : out (mA m c) (mB m c) i = ∑ s : Fin 4, seg (mA m c) (mB m c) i s.val s.isLt := by
    unfold seg
    exact (Fin.sum_mul_add_congr fun s k hl => rfl).symm
  rw [e, Fin.sum_univ_four, outsAt0_C m c t (by omega) (by omega) hl]
  frame_out
  refine (pay3_at _ _ _ y).trans (Ideal.add_congr ?_ ((block_dot m c t _ _ (fun p q => ?_) (fun p q => ?_) y i h0 h1).trans ?_))
  · refine (?_ : _ = (outsAt0 m c (t.val - 1) (Nat.lt_of_le_of_lt (Nat.sub_le _ _) t.isLt)).2 y).trans
      ((scratch_next m c ⟨t.val - 1, Nat.lt_of_le_of_lt (Nat.sub_le _ _) t.isLt⟩ 2 (by decide) (by dsimp only; omega) (by decide) y i (by dsimp only; omega) (by dsimp only; omega)).trans
        (Ideal.add_congr ((scratch_next m c ⟨t.val - 1 - 1, Nat.lt_of_le_of_lt (Nat.sub_le _ _) (Nat.lt_of_le_of_lt (Nat.sub_le _ _) t.isLt)⟩ 1 (by decide) (by dsimp only; omega) (by decide) y i
          (by dsimp only; omega) (by dsimp only; omega)).trans (Ideal.add_congr (scratch_first m c ⟨t.val - 1 - 1 - 1, Nat.lt_of_le_of_lt (Nat.sub_le _ _) (Nat.lt_of_le_of_lt (Nat.sub_le _ _) (Nat.lt_of_le_of_lt (Nat.sub_le _ _) t.isLt))⟩
            (by dsimp only; omega) y i (by dsimp only; omega) (by dsimp only; omega)) rfl)) rfl))
    pointwise
    exact congrFun (read_unread_whole cc0_scratch0 _ _) y
  · blk_point [iblk, V, idx t]
  · blk_point [iblk, V, idx t]
  · simp only [hl]; rfl

theorem final : (dats m 0 c).arrAt 2 (cfgs 0).N = out (mA m c) (mB m c) := by
  refine (dats m 0 c).arrAt_eq_of_covers 2 _ (by decide +kernel) fun t hf y => ?_
  have hl := (flush0_2 t).mp hf
  blk_simp
  rw [after0_2]
  refine out_last m c t hl y _ ?_ ?_ <;> (blk_simp [idx t] <;> try omega)

end Cert.DwDownIdeal.Product

end
-- ==== Proof.DwDownClaim.lean ====
/- The reference's product, read at an index, and the claims about the call. -/
module

public import proofs.«01_k».proof.Defs
public import proofs.«01_k».proof.Proof.DwDownBlock
public import proofs.«01_k».proof.Proof.Gen.DwDownReferenceIdeal.Read
public import proofs.«01_k».proof.Proof.Gen.DwDownReferenceIdeal.Run
public import Idealize.ShloMosaic.Lib.Claim

@[expose] public section

set_option maxRecDepth 16384

noncomputable section

namespace Cert.DwDownReferenceIdeal.Product

open Cert.DwDownReferenceIdeal Cert.DwDownReferenceIdeal.Gen Cert.DwDownReferenceIdeal.Read Idealize.ShloMosaic Idealize.ShloMosaic.TcCoe Idealize.SL.Sem
open Cert.DwDownIdeal.Product (out term)

theorem out_at (X0 : FVec Ideal S8192x2816 .bf16) (X1 : FVec Ideal S8192x1024 .f32) : val_main_v4 (F := Ideal) X0 X1 = out X0 X1 := by
  funext i
  idx_vars i
  unfold out term
  refine Eq.trans ?_ (Finset.sum_congr rfl fun k _ => mul_comm _ _)
  pointwise! [val_main_cst, val_main_v0, val_main_v1, val_main_v2, val_main_v3, val_main_v4]

end Cert.DwDownReferenceIdeal.Product

namespace Cert.DwDownProof

open Idealize.ShloMosaic Idealize.SL.Sem

/-- The reference runs and leaves its arguments as they were. -/
theorem frame_reference : Cert.quiescent_DwDownReferenceIdeal := by
  intro m g _
  exact (θ_run _ _ _).mono (fun r h => ⟨fun c => (h c).2, sem_eq_zero_of_no_sems (by decide) r.2⟩)
    (Cert.DwDownReferenceIdeal.Value.run m g)

/-- Over the extended reals the kernel and the reference leave the same product. -/
theorem algebraic : Cert.algebraic_DwDownIdeal_DwDownReferenceIdeal := by
  intro m g m' g' _ hagree
  refine ⟨_, Cert.DwDownIdeal.Value.run_blocks m g, ?_⟩
  refine (θ_run _ _ _).mono (fun r h c => ?_) (Cert.DwDownReferenceIdeal.Value.run m' g')
  obtain ⟨h0, k⟩ := h c
  obtain ⟨a0, a1⟩ := hagree c
  refine ⟨h0.trans ?_, k⟩
  rw [Cert.DwDownReferenceIdeal.Read.val_main_v4_eq, a0, a1]
  exact (Cert.DwDownReferenceIdeal.Product.out_at _ _).trans (Cert.DwDownIdeal.Product.final m c).symm

end Cert.DwDownProof

end
-- ==== Proof.DwInBlock.lean ====
/- The gradient of the feed-forward block's in-projection: the product over the tokens, tile by tile. -/
module

public import proofs.«01_k».proof.Proof.XaSums
public import proofs.«01_k».proof.Proof.Gen.DwInIdeal.Skeleton
public import proofs.«01_k».proof.Proof.Gen.DwInIdeal
public import proofs.«01_k».proof.Proof.Gen.DwInIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DwInIdeal.Product

open Cert.DwInIdeal Cert.DwInIdeal.Gen Idealize.ShloMosaic Idealize.ShloMosaic.TcCoe Idealize.SL.Sem
open Idealize.ShloMosaic.Pipeline (Dat)

section Whole
variable (A : FVec Ideal S8192x2816 .bf16) (B : FVec Ideal S8192x1024 .bf16)

/-- The summand `k` of an entry of the product. -/
def term (i : S2816x1024.Idx) (k : Fin 8192) : EReal := A (ix2 k (i 0)) * B (ix2 k (i 1))
/-- The array that the call leaves. -/
def out : FVec Ideal S2816x1024 .f32 := fun i => (∑ k : Fin 8192, term A B i k)
/-- The summands that the points at place `s` of the inner axis add. -/
def seg (i : S2816x1024.Idx) (s : ℕ) (hs : s < 2) : EReal := ∑ k : Fin 4096, term A B i ⟨s * 4096 + k.val, by have := k.isLt; omega⟩
end Whole

section At
variable (a : FVec Ideal S4096x1408 .bf16) (b : FVec Ideal S4096x512 .bf16) (acc : FVec Ideal S1408x512 .f32)

/-- The product of two blocks at an entry. -/
abbrev dot (y : S1408x512.Idx) : EReal := ∑ k : Fin 4096, a (ix2 k (y 0)) * b (ix2 k (y 1))

theorem pay1_at (y : S1408x512.Idx) : k0_pay1 (F := Ideal) a b y = dot a b y := by
  idx_vars y
  pointwise! [k0_pay1]

theorem pay2_at (y : S1408x512.Idx) : k0_pay2 (F := Ideal) acc a b y = acc y + dot a b y := by
  idx_vars y
  pointwise! [k0_pay2]

theorem pay3_at (y : S1408x512.Idx) : k0_pay3 (F := Ideal) acc a b y = acc y + dot a b y := by
  idx_vars y
  pointwise! [k0_pay3]
end At

variable (m : (ℓ : Loc nD τ sig) → Buf (Elt Ideal) ℓ) (c : Dev nD)

theorem idx : ∀ t : Fin cfg0.N, win0_0.index t = ![t.val % 2, t.val / 4] ∧ win0_1.index t = ![t.val % 2, t.val / 2 % 2] ∧ win0_2.index t = ![t.val / 4, t.val / 2 % 2] :=
  (by decide +kernel : ∀ t : Fin grid0.N, _)

abbrev mA : FVec Ideal S8192x2816 .bf16 := m ((c : Thread nD τ).loc main_arg0)
abbrev mB : FVec Ideal S8192x1024 .bf16 := m ((c : Thread nD τ).loc main_arg1)

theorem lt_points (t : Fin cfg0.N) : t.val < 8 := lt_of_lt_of_eq t.isLt N_0

section Block
variable (t : Fin cfg0.N) (a : FVec Ideal S4096x1408 .bf16) (b : FVec Ideal S4096x512 .bf16)
  (ha : ∀ (p : Fin 4096) (q : Fin 1408), a (ix2 p q) = mA m c (ix2 ⟨t.val % 2 * 4096 + p.val, by have := lt_points t; have := p.isLt; omega⟩ ⟨t.val / 4 * 1408 + q.val, by have := lt_points t; have := q.isLt; omega⟩))
  (hb : ∀ (p : Fin 4096) (q : Fin 512), b (ix2 p q) = mB m c (ix2 ⟨t.val % 2 * 4096 + p.val, by have := lt_points t; have := p.isLt; omega⟩ ⟨t.val / 2 % 2 * 512 + q.val, by have := lt_points t; have := q.isLt; omega⟩))

include ha hb in
/-- The blocks' product is the point's part of the whole product. -/
theorem block_dot (y : S1408x512.Idx) (i : S2816x1024.Idx) (h0 : (i 0 : ℕ) = t.val / 4 * 1408 + y 0) (h1 : (i 1 : ℕ) = t.val / 2 % 2 * 512 + y 1) :
    dot a b y = seg (mA m c) (mB m c) i (t.val % 2) (Nat.mod_lt _ (by decide)) := by
  idx_vars y
  have b0 : y0.val < 1408 := y0.isLt
  have b1 : y1.val < 512 := y1.isLt
  have e0 : i 0 = (⟨t.val / 4 * 1408 + y0.val, by have := lt_points t; omega⟩ : Fin 2816) := Fin.ext h0
  have e1 : i 1 = (⟨t.val / 2 % 2 * 512 + y1.val, by have := lt_points t; omega⟩ : Fin 1024) := Fin.ext h1
  unfold seg term
  rw [e0, e1]
  refine Finset.sum_congr rfl fun k _ => ?_
  refine Ideal.mul_congr ((ha _ _).trans ?_) ((hb _ _).trans ?_) <;> rfl
end Block

/-- The scratch after the first point of a tile. -/
theorem scratch_first (t : Fin cfg0.N) (h : t.val % 2 = 0) (y : S1408x512.Idx) (i : S2816x1024.Idx) (h0 : (i 0 : ℕ) = t.val / 4 * 1408 + y 0) (h1 : (i 1 : ℕ) = t.val / 2 % 2 * 512 + y 1) :
    (outsAt0 m c t.val t.isLt).2 y = seg (mA m c) (mB m c) i 0 (by decide) := by
  rw [outsAt0_A m c t h (by omega)]
  frame_out
  refine (pay1_at _ _ y).trans ((block_dot m c t _ _ (fun p q => ?_) (fun p q => ?_) y i h0 h1).trans ?_)
  · blk_point [iblk, V, idx t]
  · blk_point [iblk, V, idx t]
  · simp only [h]

/-- The tile's last point leaves the sum of all its points' summands. -/
theorem out_last (t : Fin cfg0.N) (hl : t.val % 2 = 1) (y : S1408x512.Idx) (i : S2816x1024.Idx) (h0 : (i 0 : ℕ) = t.val / 4 * 1408 + y 0) (h1 : (i 1 : ℕ) = t.val / 2 % 2 * 512 + y 1) :
    (outsAt0 m c t.val t.isLt).1 y = out (mA m c) (mB m c) i := by
  have hN := lt_points t
  have e : out (mA m c) (mB m c) i = ∑ s : Fin 2, seg (mA m c) (mB m c) i s.val s.isLt := by
    unfold seg
    exact (Fin.sum_mul_add_congr fun s k hl => rfl).symm
  rw [e, Fin.sum_univ_two, outsAt0_B m c t (by omega) hl]
  frame_out
  refine (pay3_at _ _ _ y).trans (Ideal.add_congr ?_ ((block_dot m c t _ _ (fun p q => ?_) (fun p q => ?_) y i h0 h1).trans ?_))
  · refine (?_ : _ = (outsAt0 m c (t.val - 1) (Nat.lt_of_le_of_lt (Nat.sub_le _ _) t.isLt)).2 y).trans
      (scratch_first m c ⟨t.val - 1, Nat.lt_of_le_of_lt (Nat.sub_le _ _) t.isLt⟩ (by dsimp only; omega) y i (by dsimp only; omega) (by dsimp only; omega))
    pointwise
    exact congrFun (read_unread_whole cc0_scratch0 _ _) y
  · blk_point [iblk, V, idx t]
  · blk_point [iblk, V, idx t]
  · simp only [hl]; rfl

theorem final : (dats m 0 c).arrAt 2 (cfgs 0).N = out (mA m c) (mB m c) := by
  refine (dats m 0 c).arrAt_eq_of_covers 2 _ (by decide +kernel) fun t hf y => ?_
  have hl := (flush0_2 t).mp hf
  blk_simp
  rw [after0_2]
  refine out_last m c t hl y _ ?_ ?_ <;> (blk_simp [idx t] <;> try omega)

end Cert.DwInIdeal.Product

end
-- ==== Proof.DwInClaim.lean ====
/- The reference's product, read at an index, and the claims about the call. -/
module

public import proofs.«01_k».proof.Defs
public import proofs.«01_k».proof.Proof.DwInBlock
public import proofs.«01_k».proof.Proof.Gen.DwInReferenceIdeal.Read
public import proofs.«01_k».proof.Proof.Gen.DwInReferenceIdeal.Run
public import Idealize.ShloMosaic.Lib.Claim

@[expose] public section

set_option maxRecDepth 16384

noncomputable section

namespace Cert.DwInReferenceIdeal.Product

open Cert.DwInReferenceIdeal Cert.DwInReferenceIdeal.Gen Cert.DwInReferenceIdeal.Read Idealize.ShloMosaic Idealize.ShloMosaic.TcCoe Idealize.SL.Sem
open Cert.DwInIdeal.Product (out term)

theorem out_at (X0 : FVec Ideal S8192x2816 .bf16) (X1 : FVec Ideal S8192x1024 .bf16) : val_main_v7 (F := Ideal) X0 X1 = out X0 X1 := by
  funext i
  idx_vars i
  unfold out term
  pointwise! [val_main_cst, val_main_v0, val_main_v1, val_main_v2, val_main_v3, val_main_v4, val_main_v5, val_main_v6, val_main_v7]

end Cert.DwInReferenceIdeal.Product

namespace Cert.DwInProof

open Idealize.ShloMosaic Idealize.SL.Sem

/-- The reference runs and leaves its arguments as they were. -/
theorem frame_reference : Cert.quiescent_DwInReferenceIdeal := by
  intro m g _
  exact (θ_run _ _ _).mono (fun r h => ⟨fun c => (h c).2, sem_eq_zero_of_no_sems (by decide) r.2⟩)
    (Cert.DwInReferenceIdeal.Value.run m g)

/-- Over the extended reals the kernel and the reference leave the same product. -/
theorem algebraic : Cert.algebraic_DwInIdeal_DwInReferenceIdeal := by
  intro m g m' g' _ hagree
  refine ⟨_, Cert.DwInIdeal.Value.run_blocks m g, ?_⟩
  refine (θ_run _ _ _).mono (fun r h c => ?_) (Cert.DwInReferenceIdeal.Value.run m' g')
  obtain ⟨h0, k⟩ := h c
  obtain ⟨a0, a1⟩ := hagree c
  refine ⟨h0.trans ?_, k⟩
  rw [Cert.DwInReferenceIdeal.Read.val_main_v7_eq, a0, a1]
  exact (Cert.DwInReferenceIdeal.Product.out_at _ _).trans (Cert.DwInIdeal.Product.final m c).symm

end Cert.DwInProof

end
-- ==== Proof.DxGateBlock.lean ====
/- The gate half's part of the gradient of the feed-forward block's input, added to the scaled residual's. -/
module

public import proofs.«01_k».proof.Proof.XaSums
public import proofs.«01_k».proof.Proof.Gen.DxGateIdeal.Skeleton
public import proofs.«01_k».proof.Proof.Gen.DxGateIdeal
public import proofs.«01_k».proof.Proof.Gen.DxGateIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DxGateIdeal.Product

open Cert.DxGateIdeal Cert.DxGateIdeal.Gen Idealize.ShloMosaic Idealize.ShloMosaic.TcCoe Idealize.SL.Sem
open Idealize.ShloMosaic.Pipeline (Dat)

/-- The factor of the residual's gradient. -/
def scale : EReal := Ideal.ofBits .f32 0x3FB504F3#32

section Whole
variable (A : FVec Ideal S8192x2816 .bf16) (B : FVec Ideal S2816x1024 .bf16) (C : FVec Ideal S8192x1024 .f32)

/-- The summand `k` of an entry of the product. -/
def term (i : S8192x1024.Idx) (k : Fin 2816) : EReal := A (ix2 (i 0) k) * B (ix2 k (i 1))
/-- The array that the call leaves. -/
def out : FVec Ideal S8192x1024 .f32 := fun i => (∑ k : Fin 2816, term A B i k) + scale * C i
end Whole

section At
variable (a : FVec Ideal S1024x2816 .bf16) (b : FVec Ideal S2816x1024 .bf16) (acc : FVec Ideal S1024x1024 .f32)

/-- The product of two blocks at an entry. -/
abbrev dot (y : S1024x1024.Idx) : EReal := ∑ k : Fin 2816, a (ix2 (y 0) k) * b (ix2 k (y 1))

theorem pay_at (y : S1024x1024.Idx) : k0_pay1 (F := Ideal) a b acc y = dot a b y + scale * acc y := by
  idx_vars y
  unfold scale
  pointwise! [k0_pay1]
end At

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

abbrev mA : FVec Ideal S8192x2816 .bf16 := m ((c : Thread nD τ).loc main_arg0)
abbrev mB : FVec Ideal S2816x1024 .bf16 := m ((c : Thread nD τ).loc main_arg1)
abbrev mC : FVec Ideal S8192x1024 .f32 := m ((c : Thread nD τ).loc main_arg2)

theorem lt_points (t : Fin cfg0.N) : t.val < 8 := lt_of_lt_of_eq t.isLt N_0

section Block
variable (t : Fin cfg0.N) (a : FVec Ideal S1024x2816 .bf16) (b : FVec Ideal S2816x1024 .bf16)
  (ha : ∀ (p : Fin 1024) (q : Fin 2816), a (ix2 p q) = mA m c (ix2 ⟨t.val * 1024 + p.val, by have := lt_points t; have := p.isLt; omega⟩ q))
  (hb : ∀ (p : Fin 2816) (q : Fin 1024), b (ix2 p q) = mB m c (ix2 p q))

include ha hb in
/-- The blocks' product is the point's part of the whole product. -/
theorem block_dot (y : S1024x1024.Idx) (i : S8192x1024.Idx) (h0 : (i 0 : ℕ) = t.val * 1024 + y 0) (h1 : (i 1 : ℕ) = y 1) :
    dot a b y = ∑ k : Fin 2816, term (mA m c) (mB m c) i k := by
  idx_vars y
  have b0 : y0.val < 1024 := y0.isLt
  have b1 : y1.val < 1024 := y1.isLt
  have e0 : i 0 = (⟨t.val * 1024 + y0.val, by have := lt_points t; omega⟩ : Fin 8192) := Fin.ext h0
  have e1 : i 1 = y1 := Fin.ext h1
  unfold term
  rw [e0, e1]
  refine Finset.sum_congr rfl fun k _ => ?_
  refine Ideal.mul_congr ((ha _ _).trans ?_) ((hb _ _).trans ?_) <;> rfl
end Block

theorem final : (dats m 0 c).arrAt 3 (cfgs 0).N = out (mA m c) (mB m c) (mC m c) := by
  refine (dats m 0 c).arrAt_eq_of_covers 3 _ (by decide +kernel) fun t _ y => ?_
  blk_simp
  rw [after0_3]
  frame_out
  refine (pay_at _ _ _ y).trans ?_
  unfold out
  refine Ideal.add_congr ?_ ?_
  · refine block_dot m c t _ _ (fun p q => ?_) (fun p q => ?_) y _ ?_ ?_ <;>
      (first | blk_point [iblk, V, idx t] | (blk_simp [idx t] <;> try omega))
  · refine Ideal.mul_congr rfl ?_
    idx_vars y
    blk_point [iblk, V, idx t]

end Cert.DxGateIdeal.Product

end
-- ==== Proof.DxGateClaim.lean ====
/- The reference's product, read at an index, and the claims about the call. -/
module

public import proofs.«01_k».proof.Defs
public import proofs.«01_k».proof.Proof.DxGateBlock
public import proofs.«01_k».proof.Proof.Gen.DxGateReferenceIdeal.Read
public import proofs.«01_k».proof.Proof.Gen.DxGateReferenceIdeal.Run
public import Idealize.ShloMosaic.Lib.Claim

@[expose] public section

set_option maxRecDepth 16384

noncomputable section

namespace Cert.DxGateReferenceIdeal.Product

open Cert.DxGateReferenceIdeal Cert.DxGateReferenceIdeal.Gen Cert.DxGateReferenceIdeal.Read Idealize.ShloMosaic Idealize.ShloMosaic.TcCoe Idealize.SL.Sem
open Cert.DxGateIdeal.Product (out term scale)

theorem out_at (X0 : FVec Ideal S8192x2816 .bf16) (X1 : FVec Ideal S2816x1024 .bf16) (X2 : FVec Ideal S8192x1024 .f32) : val_main_v10 (F := Ideal) X0 X1 X2 = out X0 X1 X2 := by
  funext i
  idx_vars i
  unfold out term scale
  refine Eq.trans ?_ (add_comm _ _)
  pointwise! [val_main_cst, val_main_v0, val_main_v1, val_main_v2, val_main_v3, val_main_cst_0, val_main_v4, val_main_v5, val_main_v6, val_main_cst_1, val_main_v7, val_main_v8, val_main_v9, val_main_v10]

end Cert.DxGateReferenceIdeal.Product

namespace Cert.DxGateProof

open Idealize.ShloMosaic Idealize.SL.Sem

/-- The reference runs and leaves its arguments as they were. -/
theorem frame_reference : Cert.quiescent_DxGateReferenceIdeal := by
  intro m g _
  exact (θ_run _ _ _).mono (fun r h => ⟨fun c => (h c).2, sem_eq_zero_of_no_sems (by decide) r.2⟩)
    (Cert.DxGateReferenceIdeal.Value.run m g)

/-- Over the extended reals the kernel and the reference leave the same product. -/
theorem algebraic : Cert.algebraic_DxGateIdeal_DxGateReferenceIdeal := by
  intro m g m' g' _ hagree
  refine ⟨_, Cert.DxGateIdeal.Value.run_blocks m g, ?_⟩
  refine (θ_run _ _ _).mono (fun r h c => ?_) (Cert.DxGateReferenceIdeal.Value.run m' g')
  obtain ⟨h0, k⟩ := h c
  obtain ⟨a0, a1, a2⟩ := hagree c
  refine ⟨h0.trans ?_, k⟩
  rw [Cert.DxGateReferenceIdeal.Read.val_main_v10_eq, a0, a1, a2]
  exact (Cert.DxGateReferenceIdeal.Product.out_at _ _ _).trans (Cert.DxGateIdeal.Product.final m c).symm

end Cert.DxGateProof

end
-- ==== Proof.DxUpBlock.lean ====
/- The other half's part of the gradient of the feed-forward block's input, added to what was there. -/
module

public import proofs.«01_k».proof.Proof.XaSums
public import proofs.«01_k».proof.Proof.Gen.DxUpIdeal.Skeleton
public import proofs.«01_k».proof.Proof.Gen.DxUpIdeal
public import proofs.«01_k».proof.Proof.Gen.DxUpIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DxUpIdeal.Product

open Cert.DxUpIdeal Cert.DxUpIdeal.Gen Idealize.ShloMosaic Idealize.ShloMosaic.TcCoe Idealize.SL.Sem
open Idealize.ShloMosaic.Pipeline (Dat)

section Whole
variable (A : FVec Ideal S8192x2816 .bf16) (B : FVec Ideal S2816x1024 .bf16) (C : FVec Ideal S8192x1024 .f32)

/-- The summand `k` of an entry of the product. -/
def term (i : S8192x1024.Idx) (k : Fin 2816) : EReal := A (ix2 (i 0) k) * B (ix2 k (i 1))
/-- The array that the call leaves. -/
def out : FVec Ideal S8192x1024 .f32 := fun i => (∑ k : Fin 2816, term A B i k) + C i
end Whole

section At
variable (a : FVec Ideal S1024x2816 .bf16) (b : FVec Ideal S2816x1024 .bf16) (acc : FVec Ideal S1024x1024 .f32)

/-- The product of two blocks at an entry. -/
abbrev dot (y : S1024x1024.Idx) : EReal := ∑ k : Fin 2816, a (ix2 (y 0) k) * b (ix2 k (y 1))

theorem pay_at (y : S1024x1024.Idx) : k0_pay1 (F := Ideal) a b acc y = dot a b y + acc y := by
  idx_vars y
  pointwise! [k0_pay1]
end At

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

abbrev mA : FVec Ideal S8192x2816 .bf16 := m ((c : Thread nD τ).loc main_arg0)
abbrev mB : FVec Ideal S2816x1024 .bf16 := m ((c : Thread nD τ).loc main_arg1)
abbrev mC : FVec Ideal S8192x1024 .f32 := m ((c : Thread nD τ).loc main_arg2)

theorem lt_points (t : Fin cfg0.N) : t.val < 8 := lt_of_lt_of_eq t.isLt N_0

section Block
variable (t : Fin cfg0.N) (a : FVec Ideal S1024x2816 .bf16) (b : FVec Ideal S2816x1024 .bf16)
  (ha : ∀ (p : Fin 1024) (q : Fin 2816), a (ix2 p q) = mA m c (ix2 ⟨t.val * 1024 + p.val, by have := lt_points t; have := p.isLt; omega⟩ q))
  (hb : ∀ (p : Fin 2816) (q : Fin 1024), b (ix2 p q) = mB m c (ix2 p q))

include ha hb in
/-- The blocks' product is the point's part of the whole product. -/
theorem block_dot (y : S1024x1024.Idx) (i : S8192x1024.Idx) (h0 : (i 0 : ℕ) = t.val * 1024 + y 0) (h1 : (i 1 : ℕ) = y 1) :
    dot a b y = ∑ k : Fin 2816, term (mA m c) (mB m c) i k := by
  idx_vars y
  have b0 : y0.val < 1024 := y0.isLt
  have b1 : y1.val < 1024 := y1.isLt
  have e0 : i 0 = (⟨t.val * 1024 + y0.val, by have := lt_points t; omega⟩ : Fin 8192) := Fin.ext h0
  have e1 : i 1 = y1 := Fin.ext h1
  unfold term
  rw [e0, e1]
  refine Finset.sum_congr rfl fun k _ => ?_
  refine Ideal.mul_congr ((ha _ _).trans ?_) ((hb _ _).trans ?_) <;> rfl
end Block

theorem final : (dats m 0 c).arrAt 3 (cfgs 0).N = out (mA m c) (mB m c) (mC m c) := by
  refine (dats m 0 c).arrAt_eq_of_covers 3 _ (by decide +kernel) fun t _ y => ?_
  blk_simp
  rw [after0_3]
  frame_out
  refine (pay_at _ _ _ y).trans ?_
  unfold out
  refine Ideal.add_congr ?_ ?_
  · refine block_dot m c t _ _ (fun p q => ?_) (fun p q => ?_) y _ ?_ ?_ <;>
      (first | blk_point [iblk, V, idx t] | (blk_simp [idx t] <;> try omega))
  · idx_vars y
    blk_point [iblk, V, idx t]

end Cert.DxUpIdeal.Product

end
-- ==== Proof.DxUpClaim.lean ====
/- The reference's product, read at an index, and the claims about the call. -/
module

public import proofs.«01_k».proof.Defs
public import proofs.«01_k».proof.Proof.DxUpBlock
public import proofs.«01_k».proof.Proof.Gen.DxUpReferenceIdeal.Read
public import proofs.«01_k».proof.Proof.Gen.DxUpReferenceIdeal.Run
public import Idealize.ShloMosaic.Lib.Claim

@[expose] public section

set_option maxRecDepth 16384

noncomputable section

namespace Cert.DxUpReferenceIdeal.Product

open Cert.DxUpReferenceIdeal Cert.DxUpReferenceIdeal.Gen Cert.DxUpReferenceIdeal.Read Idealize.ShloMosaic Idealize.ShloMosaic.TcCoe Idealize.SL.Sem
open Cert.DxUpIdeal.Product (out term)

theorem out_at (X0 : FVec Ideal S8192x2816 .bf16) (X1 : FVec Ideal S2816x1024 .bf16) (X2 : FVec Ideal S8192x1024 .f32) : val_main_v6 (F := Ideal) X0 X1 X2 = out X0 X1 X2 := by
  funext i
  idx_vars i
  unfold out term
  refine Eq.trans ?_ (add_comm _ _)
  pointwise! [val_main_cst, val_main_v0, val_main_v1, val_main_v2, val_main_v3, val_main_v4, val_main_v5, val_main_v6]

end Cert.DxUpReferenceIdeal.Product

namespace Cert.DxUpProof

open Idealize.ShloMosaic Idealize.SL.Sem

/-- The reference runs and leaves its arguments as they were. -/
theorem frame_reference : Cert.quiescent_DxUpReferenceIdeal := by
  intro m g _
  exact (θ_run _ _ _).mono (fun r h => ⟨fun c => (h c).2, sem_eq_zero_of_no_sems (by decide) r.2⟩)
    (Cert.DxUpReferenceIdeal.Value.run m g)

/-- Over the extended reals the kernel and the reference leave the same product. -/
theorem algebraic : Cert.algebraic_DxUpIdeal_DxUpReferenceIdeal := by
  intro m g m' g' _ hagree
  refine ⟨_, Cert.DxUpIdeal.Value.run_blocks m g, ?_⟩
  refine (θ_run _ _ _).mono (fun r h c => ?_) (Cert.DxUpReferenceIdeal.Value.run m' g')
  obtain ⟨h0, k⟩ := h c
  obtain ⟨a0, a1, a2⟩ := hagree c
  refine ⟨h0.trans ?_, k⟩
  rw [Cert.DxUpReferenceIdeal.Read.val_main_v6_eq, a0, a1, a2]
  exact (Cert.DxUpReferenceIdeal.Product.out_at _ _ _).trans (Cert.DxUpIdeal.Product.final m c).symm

end Cert.DxUpProof

end
-- ==== Proof.FfnInBlock.lean ====
/- The feed-forward block's in-projection and gated unit: what the body computes from one tile, and the arrays that the kernel leaves. -/
module

public import proofs.«01_k».proof.Proof.Sigmoid
public import proofs.«01_k».proof.Proof.XaSums
public import proofs.«01_k».proof.Proof.Gen.FfnInIdeal.Skeleton
public import proofs.«01_k».proof.Proof.Gen.FfnInIdeal
public import proofs.«01_k».proof.Proof.Gen.FfnInIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.FfnInIdeal.Unit

open Cert.FfnInIdeal Cert.FfnInIdeal.Gen Idealize.ShloMosaic Idealize.ShloMosaic.TcCoe Idealize.SL.Sem
open Idealize.ShloMosaic.Pipeline (Dat)
open Cert.Sigmoid

section Whole
variable (X : FVec Ideal S8192x1024 .bf16) (W : FVec Ideal S5632x1024 .bf16)

/-- The in-projection: row `r` of the input with row `j` of the weights. -/
def proj (r : Fin 8192) (j : Fin 5632) : EReal := ∑ k : Fin 1024, X (ix2 r k) * W (ix2 j k)
/-- The row of the weights for the gate, and for the other factor. -/
abbrev lo (j : Fin 2816) : Fin 5632 := ⟨j.val, by have := j.isLt; omega⟩
abbrev hi (j : Fin 2816) : Fin 5632 := ⟨2816 + j.val, by have := j.isLt; omega⟩
def gate : FVec Ideal S8192x2816 .bf16 := fun i => proj X W (i 0) (lo (i 1))
def up : FVec Ideal S8192x2816 .bf16 := fun i => proj X W (i 0) (hi (i 1))
def act : FVec Ideal S8192x2816 .bf16 := fun i =>
  proj X W (i 0) (lo (i 1)) * logt (proj X W (i 0) (lo (i 1))) * proj X W (i 0) (hi (i 1))
end Whole

section At
variable (x : FVec Ideal S1024x1024 .bf16) (w v : FVec Ideal S1408x1024 .bf16)

abbrev dot (r : Fin 1024) (j : Fin 1408) : EReal := ∑ k : Fin 1024, x (ix2 r k) * w (ix2 j k)

theorem pay1_at (r : Fin 1024) (j : Fin 1408) : k0_pay1 (F := Ideal) x w (ix2 r j) = dot x w r j := by
  pointwise! [k0_pay1]

theorem pay2_at (r : Fin 1024) (j : Fin 1408) : k0_pay2 (F := Ideal) x w (ix2 r j) = dot x w r j := by
  pointwise! [k0_pay2]

theorem pay3_at (r : Fin 1024) (j : Fin 1408) : k0_pay3 (F := Ideal) x w (ix2 r j) = dot x w r j := by
  pointwise! [k0_pay3, pay1_at]

theorem pay4_at (r : Fin 1024) (j : Fin 1408) : k0_pay4 (F := Ideal) x w (ix2 r j) = dot x w r j := by
  pointwise! [k0_pay4, pay2_at]

theorem pay5_at (r : Fin 1024) (j : Fin 1408) :
    k0_pay5 (F := Ideal) x w v (ix2 r j) = dot x w r j * logt (dot x w r j) * dot x v r j := by
  unfold logt half
  pointwise! [k0_pay5, pay1_at, pay2_at]
end At

variable (m : (ℓ : Loc nD τ sig) → Buf (Elt Ideal) ℓ) (c : Dev nD)

theorem idx : ∀ t : Fin cfg0.N, win0_0.index t = ![t.val / 2, 0] ∧ win0_1.index t = ![t.val % 2, 0]
    ∧ win0_2.index t = ![2 + t.val % 2, 0] ∧ win0_3.index t = ![t.val / 2, t.val % 2]
    ∧ win0_4.index t = ![t.val / 2, t.val % 2] ∧ win0_5.index t = ![t.val / 2, t.val % 2] :=
  (by decide +kernel : ∀ t : Fin grid0.N, _)

abbrev mX : FVec Ideal S8192x1024 .bf16 := m ((c : Thread nD τ).loc main_arg0)
abbrev mW : FVec Ideal S5632x1024 .bf16 := m ((c : Thread nD τ).loc main_arg1)

theorem lt16 (t : Fin cfg0.N) : t.val < 16 := lt_of_lt_of_eq t.isLt N_0

section Block
variable (t : Fin cfg0.N) (x : FVec Ideal S1024x1024 .bf16) (w v : FVec Ideal S1408x1024 .bf16)
  (hx : ∀ (r d : Fin 1024), x (ix2 r d) = mX m c (ix2 ⟨t.val / 2 * 1024 + r.val, by have := lt16 t; omega⟩ d))
  (hw : ∀ (j : Fin 1408) (d : Fin 1024), w (ix2 j d) = mW m c (ix2 ⟨t.val % 2 * 1408 + j.val, by omega⟩ d))
  (hv : ∀ (j : Fin 1408) (d : Fin 1024), v (ix2 j d) = mW m c (ix2 ⟨(2 + t.val % 2) * 1408 + j.val, by omega⟩ d))

include hx hw in
theorem block_lo (y0 : Fin 1024) (y1 : Fin 1408) (i : S8192x2816.Idx) (h0 : (i 0 : ℕ) = t.val / 2 * 1024 + y0)
    (h1 : (i 1 : ℕ) = t.val % 2 * 1408 + y1) : dot x w y0 y1 = proj (mX m c) (mW m c) (i 0) (lo (i 1)) := by
  have e0 : i 0 = (⟨t.val / 2 * 1024 + y0.val, by have := lt16 t; omega⟩ : Fin 8192) := Fin.ext h0
  have e1 : lo (i 1) = (⟨t.val % 2 * 1408 + y1.val, by have := y1.isLt; omega⟩ : Fin 5632) := Fin.ext h1
  unfold proj
  rw [e0, e1]
  exact Finset.sum_congr rfl fun k _ => Ideal.mul_congr (hx _ _) (hw _ _)

include hx hv in
theorem block_hi (y0 : Fin 1024) (y1 : Fin 1408) (i : S8192x2816.Idx) (h0 : (i 0 : ℕ) = t.val / 2 * 1024 + y0)
    (h1 : (i 1 : ℕ) = t.val % 2 * 1408 + y1) : dot x v y0 y1 = proj (mX m c) (mW m c) (i 0) (hi (i 1)) := by
  have e0 : i 0 = (⟨t.val / 2 * 1024 + y0.val, by have := lt16 t; omega⟩ : Fin 8192) := Fin.ext h0
  have e1 : hi (i 1) = (⟨(2 + t.val % 2) * 1408 + y1.val, by have := y1.isLt; omega⟩ : Fin 5632) :=
    Fin.ext (show 2816 + (i 1 : ℕ) = _ by rw [h1]; dsimp only; omega)
  unfold proj
  rw [e0, e1]
  exact Finset.sum_congr rfl fun k _ => Ideal.mul_congr (hx _ _) (hv _ _)

include hx hw in
theorem block_gate (y : S1024x1408.Idx) (i : S8192x2816.Idx) (h0 : (i 0 : ℕ) = t.val / 2 * 1024 + y 0)
    (h1 : (i 1 : ℕ) = t.val % 2 * 1408 + y 1) : k0_pay3 (F := Ideal) x w y = gate (mX m c) (mW m c) i := by
  idx_vars y
  exact (pay3_at _ _ _ _).trans (block_lo m c t x w hx hw y0 y1 i h0 h1)

include hx hv in
theorem block_up (y : S1024x1408.Idx) (i : S8192x2816.Idx) (h0 : (i 0 : ℕ) = t.val / 2 * 1024 + y 0)
    (h1 : (i 1 : ℕ) = t.val % 2 * 1408 + y 1) : k0_pay4 (F := Ideal) x v y = up (mX m c) (mW m c) i := by
  idx_vars y
  exact (pay4_at _ _ _ _).trans (block_hi m c t x v hx hv y0 y1 i h0 h1)

include hx hw hv in
theorem block_act (y : S1024x1408.Idx) (i : S8192x2816.Idx) (h0 : (i 0 : ℕ) = t.val / 2 * 1024 + y 0)
    (h1 : (i 1 : ℕ) = t.val % 2 * 1408 + y 1) : k0_pay5 (F := Ideal) x w v y = act (mX m c) (mW m c) i := by
  idx_vars y
  unfold act
  rw [pay5_at, block_lo m c t x w hx hw y0 y1 i h0 h1, block_hi m c t x v hx hv y0 y1 i h0 h1]
end Block

theorem final_gate : (dats m 0 c).arrAt 3 (cfgs 0).N = gate (mX m c) (mW m c) := by
  refine (dats m 0 c).arrAt_eq_of_covers 3 _ (by decide +kernel) fun t _ y => ?_
  blk_simp
  rw [after0_3]
  frame_out
  refine block_gate m c t _ _ (fun r d => ?_) (fun j d => ?_) y _ ?_ ?_ <;>
    (first | blk_point [iblk, V, idx t] | (blk_simp [idx t] <;> try omega))

theorem final_up : (dats m 0 c).arrAt 4 (cfgs 0).N = up (mX m c) (mW m c) := by
  refine (dats m 0 c).arrAt_eq_of_covers 4 _ (by decide +kernel) fun t _ y => ?_
  blk_simp
  rw [after0_4]
  frame_out
  refine block_up m c t _ _ (fun r d => ?_) (fun j d => ?_) y _ ?_ ?_ <;>
    (first | blk_point [iblk, V, idx t] | (blk_simp [idx t] <;> try omega))

theorem final_act : (dats m 0 c).arrAt 5 (cfgs 0).N = act (mX m c) (mW m c) := by
  refine (dats m 0 c).arrAt_eq_of_covers 5 _ (by decide +kernel) fun t _ y => ?_
  blk_simp
  rw [after0_5]
  frame_out
  refine block_act m c t _ _ _ (fun r d => ?_) (fun j d => ?_) (fun j d => ?_) y _ ?_ ?_ <;>
    (first | blk_point [iblk, V, idx t] | (blk_simp [idx t] <;> try omega))

end Cert.FfnInIdeal.Unit

end
-- ==== Proof.FfnInClaim.lean ====
/- The reference's in-projection and gated unit, read at an index, and the claims about the call. -/
module

public import proofs.«01_k».proof.Defs
public import proofs.«01_k».proof.Proof.FfnInBlock
public import proofs.«01_k».proof.Proof.Gen.FfnInReferenceIdeal.Read
public import proofs.«01_k».proof.Proof.Gen.FfnInReferenceIdeal.Run
public import Idealize.ShloMosaic.Lib.Claim

@[expose] public section

set_option maxRecDepth 16384

noncomputable section

namespace Cert.FfnInReferenceIdeal.Unit

open Cert.FfnInReferenceIdeal Cert.FfnInReferenceIdeal.Gen Cert.FfnInReferenceIdeal.Read Idealize.ShloMosaic Idealize.ShloMosaic.TcCoe Idealize.SL.Sem
open Cert.Sigmoid
open Cert.FfnInIdeal.Unit (proj lo hi gate up act)

variable (X : FVec Ideal S8192x1024 .bf16) (W : FVec Ideal S5632x1024 .bf16)

theorem proj_at (r : Fin 8192) (j : Fin 5632) : val_main_v3 (F := Ideal) X W (ix2 r j) = proj X W r j := by
  unfold proj
  pointwise! [val_main_v3, val_main_v2, val_main_v1, val_main_v0]

theorem lo_at (r : Fin 8192) (j : Fin 2816) : val_main_v4 (F := Ideal) X W (ix2 r j) = proj X W r (lo j) := by
  refine (?_ : _ = val_main_v3 (F := Ideal) X W (ix2 r (lo j))).trans (proj_at X W r (lo j))
  pointwise [val_main_v4]
  blk_ext

theorem hi_at (r : Fin 8192) (j : Fin 2816) : val_main_v5 (F := Ideal) X W (ix2 r j) = proj X W r (hi j) := by
  refine (?_ : _ = val_main_v3 (F := Ideal) X W (ix2 r (hi j))).trans (proj_at X W r (hi j))
  pointwise [val_main_v5]
  blk_ext

theorem gate_at : val_main_v6 (F := Ideal) X W = gate X W := by
  funext i
  idx_vars i
  unfold gate
  pointwise! [val_main_v6, lo_at]

theorem up_at : val_main_v7 (F := Ideal) X W = up X W := by
  funext i
  idx_vars i
  unfold up
  pointwise! [val_main_v7, hi_at]

theorem act_at : val_main_v10 (F := Ideal) X W = act X W := by
  funext i
  idx_vars i
  unfold act
  rw [logt_eq]
  unfold sigQuot
  pointwise! [val_main_v10, val_main_v9, val_main_v8, val_main_call0_v5, val_main_call0_v4, val_main_call0_v3,
    val_main_call0_v2, val_main_call0_v1, val_main_call0_v0, val_main_call0_cst, val_main_call0_cst_0, lo_at, hi_at]

end Cert.FfnInReferenceIdeal.Unit

namespace Cert.FfnInProof

open Idealize.ShloMosaic Idealize.SL.Sem

/-- The reference runs and leaves its arguments as they were. -/
theorem frame_reference : Cert.quiescent_FfnInReferenceIdeal := by
  intro m g _
  exact (θ_run _ _ _).mono (fun r h => ⟨fun c => (h c).2.2.2, sem_eq_zero_of_no_sems (by decide) r.2⟩)
    (Cert.FfnInReferenceIdeal.Value.run m g)

/-- Over the extended reals the kernel and the reference leave the same three arrays. -/
theorem algebraic : Cert.algebraic_FfnInIdeal_FfnInReferenceIdeal := by
  intro m g m' g' _ hagree
  refine ⟨_, _, _, Cert.FfnInIdeal.Value.run_blocks m g, ?_⟩
  refine (θ_run _ _ _).mono (fun r h c => ?_) (Cert.FfnInReferenceIdeal.Value.run m' g')
  obtain ⟨h0, h1, h2, k⟩ := h c
  obtain ⟨a0, a1⟩ := hagree c
  refine ⟨h0.trans ?_, h1.trans ?_, h2.trans ?_, k⟩
  · rw [Cert.FfnInReferenceIdeal.Read.val_main_v6_eq, a0, a1]
    exact (Cert.FfnInReferenceIdeal.Unit.gate_at _ _).trans (Cert.FfnInIdeal.Unit.final_gate m c).symm
  · rw [Cert.FfnInReferenceIdeal.Read.val_main_v7_eq, a0, a1]
    exact (Cert.FfnInReferenceIdeal.Unit.up_at _ _).trans (Cert.FfnInIdeal.Unit.final_up m c).symm
  · rw [Cert.FfnInReferenceIdeal.Read.val_main_v10_eq, a0, a1]
    exact (Cert.FfnInReferenceIdeal.Unit.act_at _ _).trans (Cert.FfnInIdeal.Unit.final_act m c).symm

end Cert.FfnInProof

end
-- ==== Proof.DwSsdBlock.lean ====
/- The gradient of the state-space branch's in-projection: the product over the tokens, tile by tile. -/
module

public import proofs.«01_k».proof.Proof.XaSums
public import proofs.«01_k».proof.Proof.Gen.DwSsdIdeal.Skeleton
public import proofs.«01_k».proof.Proof.Gen.DwSsdIdeal
public import proofs.«01_k».proof.Proof.Gen.DwSsdIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DwSsdIdeal.Product

open Cert.DwSsdIdeal Cert.DwSsdIdeal.Gen Idealize.ShloMosaic Idealize.ShloMosaic.TcCoe Idealize.SL.Sem
open Idealize.ShloMosaic.Pipeline (Dat)

section Whole
variable (A : FVec Ideal S8192x1024 .bf16) (B : FVec Ideal S8192x5632 .bf16)

/-- The summand `k` of an entry of the product. -/
def term (i : S1024x5632.Idx) (k : Fin 8192) : EReal := A (ix2 k (i 0)) * B (ix2 k (i 1))
/-- The array that the call leaves. -/
def out : FVec Ideal S1024x5632 .f32 := fun i => (∑ k : Fin 8192, term A B i k)
/-- The summands that the points at place `s` of the inner axis add. -/
def seg (i : S1024x5632.Idx) (s : ℕ) (hs : s < 2) : EReal := ∑ k : Fin 4096, term A B i ⟨s * 4096 + k.val, by have := k.isLt; omega⟩
end Whole

section At
variable (a : FVec Ideal S4096x512 .bf16) (b : FVec Ideal S4096x1408 .bf16) (acc : FVec Ideal S512x1408 .f32)

/-- The product of two blocks at an entry. -/
abbrev dot (y : S512x1408.Idx) : EReal := ∑ k : Fin 4096, a (ix2 k (y 0)) * b (ix2 k (y 1))

theorem pay1_at (y : S512x1408.Idx) : k0_pay1 (F := Ideal) a b y = dot a b y := by
  idx_vars y
  pointwise! [k0_pay1]

theorem pay2_at (y : S512x1408.Idx) : k0_pay2 (F := Ideal) acc a b y = acc y + dot a b y := by
  idx_vars y
  pointwise! [k0_pay2]

theorem pay3_at (y : S512x1408.Idx) : k0_pay3 (F := Ideal) acc a b y = acc y + dot a b y := by
  idx_vars y
  pointwise! [k0_pay3]
end At

variable (m : (ℓ : Loc nD τ sig) → Buf (Elt Ideal) ℓ) (c : Dev nD)

theorem idx : ∀ t : Fin cfg0.N, win0_0.index t = ![t.val % 2, t.val / 8] ∧ win0_1.index t = ![t.val % 2, t.val / 2 % 4] ∧ win0_2.index t = ![t.val / 8, t.val / 2 % 4] :=
  (by decide +kernel : ∀ t : Fin grid0.N, _)

abbrev mA : FVec Ideal S8192x1024 .bf16 := m ((c : Thread nD τ).loc main_arg0)
abbrev mB : FVec Ideal S8192x5632 .bf16 := m ((c : Thread nD τ).loc main_arg1)

theorem lt_points (t : Fin cfg0.N) : t.val < 16 := lt_of_lt_of_eq t.isLt N_0

section Block
variable (t : Fin cfg0.N) (a : FVec Ideal S4096x512 .bf16) (b : FVec Ideal S4096x1408 .bf16)
  (ha : ∀ (p : Fin 4096) (q : Fin 512), a (ix2 p q) = mA m c (ix2 ⟨t.val % 2 * 4096 + p.val, by have := lt_points t; have := p.isLt; omega⟩ ⟨t.val / 8 * 512 + q.val, by have := lt_points t; have := q.isLt; omega⟩))
  (hb : ∀ (p : Fin 4096) (q : Fin 1408), b (ix2 p q) = mB m c (ix2 ⟨t.val % 2 * 4096 + p.val, by have := lt_points t; have := p.isLt; omega⟩ ⟨t.val / 2 % 4 * 1408 + q.val, by have := lt_points t; have := q.isLt; omega⟩))

include ha hb in
/-- The blocks' product is the point's part of the whole product. -/
theorem block_dot (y : S512x1408.Idx) (i : S1024x5632.Idx) (h0 : (i 0 : ℕ) = t.val / 8 * 512 + y 0) (h1 : (i 1 : ℕ) = t.val / 2 % 4 * 1408 + y 1) :
    dot a b y = seg (mA m c) (mB m c) i (t.val % 2) (Nat.mod_lt _ (by decide)) := by
  idx_vars y
  have b0 : y0.val < 512 := y0.isLt
  have b1 : y1.val < 1408 := y1.isLt
  have e0 : i 0 = (⟨t.val / 8 * 512 + y0.val, by have := lt_points t; omega⟩ : Fin 1024) := Fin.ext h0
  have e1 : i 1 = (⟨t.val / 2 % 4 * 1408 + y1.val, by have := lt_points t; omega⟩ : Fin 5632) := Fin.ext h1
  unfold seg term
  rw [e0, e1]
  refine Finset.sum_congr rfl fun k _ => ?_
  refine Ideal.mul_congr ((ha _ _).trans ?_) ((hb _ _).trans ?_) <;> rfl
end Block

/-- The scratch after the first point of a tile. -/
theorem scratch_first (t : Fin cfg0.N) (h : t.val % 2 = 0) (y : S512x1408.Idx) (i : S1024x5632.Idx) (h0 : (i 0 : ℕ) = t.val / 8 * 512 + y 0) (h1 : (i 1 : ℕ) = t.val / 2 % 4 * 1408 + y 1) :
    (outsAt0 m c t.val t.isLt).2 y = seg (mA m c) (mB m c) i 0 (by decide) := by
  rw [outsAt0_A m c t h (by omega)]
  frame_out
  refine (pay1_at _ _ y).trans ((block_dot m c t _ _ (fun p q => ?_) (fun p q => ?_) y i h0 h1).trans ?_)
  · blk_point [iblk, V, idx t]
  · blk_point [iblk, V, idx t]
  · simp only [h]

/-- The tile's last point leaves the sum of all its points' summands. -/
theorem out_last (t : Fin cfg0.N) (hl : t.val % 2 = 1) (y : S512x1408.Idx) (i : S1024x5632.Idx) (h0 : (i 0 : ℕ) = t.val / 8 * 512 + y 0) (h1 : (i 1 : ℕ) = t.val / 2 % 4 * 1408 + y 1) :
    (outsAt0 m c t.val t.isLt).1 y = out (mA m c) (mB m c) i := by
  have hN := lt_points t
  have e : out (mA m c) (mB m c) i = ∑ s : Fin 2, seg (mA m c) (mB m c) i s.val s.isLt := by
    unfold seg
    exact (Fin.sum_mul_add_congr fun s k hl => rfl).symm
  rw [e, Fin.sum_univ_two, outsAt0_B m c t (by omega) hl]
  frame_out
  refine (pay3_at _ _ _ y).trans (Ideal.add_congr ?_ ((block_dot m c t _ _ (fun p q => ?_) (fun p q => ?_) y i h0 h1).trans ?_))
  · refine (?_ : _ = (outsAt0 m c (t.val - 1) (Nat.lt_of_le_of_lt (Nat.sub_le _ _) t.isLt)).2 y).trans
      (scratch_first m c ⟨t.val - 1, Nat.lt_of_le_of_lt (Nat.sub_le _ _) t.isLt⟩ (by dsimp only; omega) y i (by dsimp only; omega) (by dsimp only; omega))
    pointwise
    exact congrFun (read_unread_whole cc0_scratch0 _ _) y
  · blk_point [iblk, V, idx t]
  · blk_point [iblk, V, idx t]
  · simp only [hl]; rfl

theorem final : (dats m 0 c).arrAt 2 (cfgs 0).N = out (mA m c) (mB m c) := by
  refine (dats m 0 c).arrAt_eq_of_covers 2 _ (by decide +kernel) fun t hf y => ?_
  have hl := (flush0_2 t).mp hf
  blk_simp
  rw [after0_2]
  refine out_last m c t hl y _ ?_ ?_ <;> (blk_simp [idx t] <;> try omega)

end Cert.DwSsdIdeal.Product

end
-- ==== Proof.DwSsdClaim.lean ====
/- The reference's product, read at an index, and the claims about the call. -/
module

public import proofs.«01_k».proof.Defs
public import proofs.«01_k».proof.Proof.DwSsdBlock
public import proofs.«01_k».proof.Proof.Gen.DwSsdReferenceIdeal.Read
public import proofs.«01_k».proof.Proof.Gen.DwSsdReferenceIdeal.Run
public import Idealize.ShloMosaic.Lib.Claim

@[expose] public section

set_option maxRecDepth 16384

noncomputable section

namespace Cert.DwSsdReferenceIdeal.Product

open Cert.DwSsdReferenceIdeal Cert.DwSsdReferenceIdeal.Gen Cert.DwSsdReferenceIdeal.Read Idealize.ShloMosaic Idealize.ShloMosaic.TcCoe Idealize.SL.Sem
open Cert.DwSsdIdeal.Product (out term)

theorem out_at (X0 : FVec Ideal S8192x1024 .bf16) (X1 : FVec Ideal S8192x5632 .bf16) : val_main_v5 (F := Ideal) X0 X1 = out X0 X1 := by
  funext i
  idx_vars i
  unfold out term
  refine Eq.trans ?_ (Finset.sum_congr rfl fun k _ => mul_comm _ _)
  pointwise! [val_main_cst, val_main_v0, val_main_v1, val_main_v2, val_main_v3, val_main_v4, val_main_v5]

end Cert.DwSsdReferenceIdeal.Product

namespace Cert.DwSsdProof

open Idealize.ShloMosaic Idealize.SL.Sem

/-- The reference runs and leaves its arguments as they were. -/
theorem frame_reference : Cert.quiescent_DwSsdReferenceIdeal := by
  intro m g _
  exact (θ_run _ _ _).mono (fun r h => ⟨fun c => (h c).2, sem_eq_zero_of_no_sems (by decide) r.2⟩)
    (Cert.DwSsdReferenceIdeal.Value.run m g)

/-- Over the extended reals the kernel and the reference leave the same product. -/
theorem algebraic : Cert.algebraic_DwSsdIdeal_DwSsdReferenceIdeal := by
  intro m g m' g' _ hagree
  refine ⟨_, Cert.DwSsdIdeal.Value.run_blocks m g, ?_⟩
  refine (θ_run _ _ _).mono (fun r h c => ?_) (Cert.DwSsdReferenceIdeal.Value.run m' g')
  obtain ⟨h0, k⟩ := h c
  obtain ⟨a0, a1⟩ := hagree c
  refine ⟨h0.trans ?_, k⟩
  rw [Cert.DwSsdReferenceIdeal.Read.val_main_v5_eq, a0, a1]
  exact (Cert.DwSsdReferenceIdeal.Product.out_at _ _).trans (Cert.DwSsdIdeal.Product.final m c).symm

end Cert.DwSsdProof

end
-- ==== Proof.DwLruBlock.lean ====
/- The gradient of the recurrent branch's in-projection: the product over the tokens, tile by tile. -/
module

public import proofs.«01_k».proof.Proof.XaSums
public import proofs.«01_k».proof.Proof.Gen.DwLruIdeal.Skeleton
public import proofs.«01_k».proof.Proof.Gen.DwLruIdeal
public import proofs.«01_k».proof.Proof.Gen.DwLruIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DwLruIdeal.Product

open Cert.DwLruIdeal Cert.DwLruIdeal.Gen Idealize.ShloMosaic Idealize.ShloMosaic.TcCoe Idealize.SL.Sem
open Idealize.ShloMosaic.Pipeline (Dat)

section Whole
variable (A : FVec Ideal S8192x1024 .bf16) (B : FVec Ideal S8192x2048 .bf16)

/-- The summand `k` of an entry of the product. -/
def term (i : S1024x2048.Idx) (k : Fin 8192) : EReal := A (ix2 k (i 0)) * B (ix2 k (i 1))
/-- The array that the call leaves. -/
def out : FVec Ideal S1024x2048 .f32 := fun i => (∑ k : Fin 8192, term A B i k)
/-- The summands that the points at place `s` of the inner axis add. -/
def seg (i : S1024x2048.Idx) (s : ℕ) (hs : s < 2) : EReal := ∑ k : Fin 4096, term A B i ⟨s * 4096 + k.val, by have := k.isLt; omega⟩
end Whole

section At
variable (a : FVec Ideal S4096x1024 .bf16) (b : FVec Ideal S4096x1024 .bf16) (acc : FVec Ideal S1024x1024 .f32)

/-- The product of two blocks at an entry. -/
abbrev dot (y : S1024x1024.Idx) : EReal := ∑ k : Fin 4096, a (ix2 k (y 0)) * b (ix2 k (y 1))

theorem pay1_at (y : S1024x1024.Idx) : k0_pay1 (F := Ideal) a b y = dot a b y := by
  idx_vars y
  pointwise! [k0_pay1]

theorem pay2_at (y : S1024x1024.Idx) : k0_pay2 (F := Ideal) acc a b y = acc y + dot a b y := by
  idx_vars y
  pointwise! [k0_pay2]

theorem pay3_at (y : S1024x1024.Idx) : k0_pay3 (F := Ideal) acc a b y = acc y + dot a b y := by
  idx_vars y
  pointwise! [k0_pay3]
end At

variable (m : (ℓ : Loc nD τ sig) → Buf (Elt Ideal) ℓ) (c : Dev nD)

theorem idx : ∀ t : Fin cfg0.N, win0_0.index t = ![t.val % 2, 0] ∧ win0_1.index t = ![t.val % 2, t.val / 2 % 2] ∧ win0_2.index t = ![0, t.val / 2 % 2] :=
  (by decide +kernel : ∀ t : Fin grid0.N, _)

abbrev mA : FVec Ideal S8192x1024 .bf16 := m ((c : Thread nD τ).loc main_arg0)
abbrev mB : FVec Ideal S8192x2048 .bf16 := m ((c : Thread nD τ).loc main_arg1)

theorem lt_points (t : Fin cfg0.N) : t.val < 4 := lt_of_lt_of_eq t.isLt N_0

section Block
variable (t : Fin cfg0.N) (a : FVec Ideal S4096x1024 .bf16) (b : FVec Ideal S4096x1024 .bf16)
  (ha : ∀ (p : Fin 4096) (q : Fin 1024), a (ix2 p q) = mA m c (ix2 ⟨t.val % 2 * 4096 + p.val, by have := lt_points t; have := p.isLt; omega⟩ q))
  (hb : ∀ (p : Fin 4096) (q : Fin 1024), b (ix2 p q) = mB m c (ix2 ⟨t.val % 2 * 4096 + p.val, by have := lt_points t; have := p.isLt; omega⟩ ⟨t.val / 2 % 2 * 1024 + q.val, by have := lt_points t; have := q.isLt; omega⟩))

include ha hb in
/-- The blocks' product is the point's part of the whole product. -/
theorem block_dot (y : S1024x1024.Idx) (i : S1024x2048.Idx) (h0 : (i 0 : ℕ) = y 0) (h1 : (i 1 : ℕ) = t.val / 2 % 2 * 1024 + y 1) :
    dot a b y = seg (mA m c) (mB m c) i (t.val % 2) (Nat.mod_lt _ (by decide)) := by
  idx_vars y
  have b0 : y0.val < 1024 := y0.isLt
  have b1 : y1.val < 1024 := y1.isLt
  have e0 : i 0 = y0 := Fin.ext h0
  have e1 : i 1 = (⟨t.val / 2 % 2 * 1024 + y1.val, by have := lt_points t; omega⟩ : Fin 2048) := Fin.ext h1
  unfold seg term
  rw [e0, e1]
  refine Finset.sum_congr rfl fun k _ => ?_
  refine Ideal.mul_congr ((ha _ _).trans ?_) ((hb _ _).trans ?_) <;> rfl
end Block

/-- The scratch after the first point of a tile. -/
theorem scratch_first (t : Fin cfg0.N) (h : t.val % 2 = 0) (y : S1024x1024.Idx) (i : S1024x2048.Idx) (h0 : (i 0 : ℕ) = y 0) (h1 : (i 1 : ℕ) = t.val / 2 % 2 * 1024 + y 1) :
    (outsAt0 m c t.val t.isLt).2 y = seg (mA m c) (mB m c) i 0 (by decide) := by
  rw [outsAt0_A m c t h (by omega)]
  frame_out
  refine (pay1_at _ _ y).trans ((block_dot m c t _ _ (fun p q => ?_) (fun p q => ?_) y i h0 h1).trans ?_)
  · blk_point [iblk, V, idx t]
  · blk_point [iblk, V, idx t]
  · simp only [h]

/-- The tile's last point leaves the sum of all its points' summands. -/
theorem out_last (t : Fin cfg0.N) (hl : t.val % 2 = 1) (y : S1024x1024.Idx) (i : S1024x2048.Idx) (h0 : (i 0 : ℕ) = y 0) (h1 : (i 1 : ℕ) = t.val / 2 % 2 * 1024 + y 1) :
    (outsAt0 m c t.val t.isLt).1 y = out (mA m c) (mB m c) i := by
  have hN := lt_points t
  have e : out (mA m c) (mB m c) i = ∑ s : Fin 2, seg (mA m c) (mB m c) i s.val s.isLt := by
    unfold seg
    exact (Fin.sum_mul_add_congr fun s k hl => rfl).symm
  rw [e, Fin.sum_univ_two, outsAt0_B m c t (by omega) hl]
  frame_out
  refine (pay3_at _ _ _ y).trans (Ideal.add_congr ?_ ((block_dot m c t _ _ (fun p q => ?_) (fun p q => ?_) y i h0 h1).trans ?_))
  · refine (?_ : _ = (outsAt0 m c (t.val - 1) (Nat.lt_of_le_of_lt (Nat.sub_le _ _) t.isLt)).2 y).trans
      (scratch_first m c ⟨t.val - 1, Nat.lt_of_le_of_lt (Nat.sub_le _ _) t.isLt⟩ (by dsimp only; omega) y i (by dsimp only; omega) (by dsimp only; omega))
    pointwise
    exact congrFun (read_unread_whole cc0_scratch0 _ _) y
  · blk_point [iblk, V, idx t]
  · blk_point [iblk, V, idx t]
  · simp only [hl]; rfl

theorem final : (dats m 0 c).arrAt 2 (cfgs 0).N = out (mA m c) (mB m c) := by
  refine (dats m 0 c).arrAt_eq_of_covers 2 _ (by decide +kernel) fun t hf y => ?_
  have hl := (flush0_2 t).mp hf
  blk_simp
  rw [after0_2]
  refine out_last m c t hl y _ ?_ ?_ <;> (blk_simp [idx t] <;> try omega)

end Cert.DwLruIdeal.Product

end
-- ==== Proof.DwLruClaim.lean ====
/- The reference's product, read at an index, and the claims about the call. -/
module

public import proofs.«01_k».proof.Defs
public import proofs.«01_k».proof.Proof.DwLruBlock
public import proofs.«01_k».proof.Proof.Gen.DwLruReferenceIdeal.Read
public import proofs.«01_k».proof.Proof.Gen.DwLruReferenceIdeal.Run
public import Idealize.ShloMosaic.Lib.Claim

@[expose] public section

set_option maxRecDepth 16384

noncomputable section

namespace Cert.DwLruReferenceIdeal.Product

open Cert.DwLruReferenceIdeal Cert.DwLruReferenceIdeal.Gen Cert.DwLruReferenceIdeal.Read Idealize.ShloMosaic Idealize.ShloMosaic.TcCoe Idealize.SL.Sem
open Cert.DwLruIdeal.Product (out term)

theorem out_at (X0 : FVec Ideal S8192x1024 .bf16) (X1 : FVec Ideal S8192x2048 .bf16) : val_main_v5 (F := Ideal) X0 X1 = out X0 X1 := by
  funext i
  idx_vars i
  unfold out term
  refine Eq.trans ?_ (Finset.sum_congr rfl fun k _ => mul_comm _ _)
  pointwise! [val_main_cst, val_main_v0, val_main_v1, val_main_v2, val_main_v3, val_main_v4, val_main_v5]

end Cert.DwLruReferenceIdeal.Product

namespace Cert.DwLruProof

open Idealize.ShloMosaic Idealize.SL.Sem

/-- The reference runs and leaves its arguments as they were. -/
theorem frame_reference : Cert.quiescent_DwLruReferenceIdeal := by
  intro m g _
  exact (θ_run _ _ _).mono (fun r h => ⟨fun c => (h c).2, sem_eq_zero_of_no_sems (by decide) r.2⟩)
    (Cert.DwLruReferenceIdeal.Value.run m g)

/-- Over the extended reals the kernel and the reference leave the same product. -/
theorem algebraic : Cert.algebraic_DwLruIdeal_DwLruReferenceIdeal := by
  intro m g m' g' _ hagree
  refine ⟨_, Cert.DwLruIdeal.Value.run_blocks m g, ?_⟩
  refine (θ_run _ _ _).mono (fun r h c => ?_) (Cert.DwLruReferenceIdeal.Value.run m' g')
  obtain ⟨h0, k⟩ := h c
  obtain ⟨a0, a1⟩ := hagree c
  refine ⟨h0.trans ?_, k⟩
  rw [Cert.DwLruReferenceIdeal.Read.val_main_v5_eq, a0, a1]
  exact (Cert.DwLruReferenceIdeal.Product.out_at _ _).trans (Cert.DwLruIdeal.Product.final m c).symm

end Cert.DwLruProof

end
-- ==== Proof.DwGlBlock.lean ====
/- The gradient of the gates' in-projection: the product over the tokens, tile by tile. -/
module

public import proofs.«01_k».proof.Proof.XaSums
public import proofs.«01_k».proof.Proof.Gen.DwGlIdeal.Skeleton
public import proofs.«01_k».proof.Proof.Gen.DwGlIdeal
public import proofs.«01_k».proof.Proof.Gen.DwGlIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DwGlIdeal.Product

open Cert.DwGlIdeal Cert.DwGlIdeal.Gen Idealize.ShloMosaic Idealize.ShloMosaic.TcCoe Idealize.SL.Sem
open Idealize.ShloMosaic.Pipeline (Dat)

section Whole
variable (A : FVec Ideal S8192x1024 .bf16) (B : FVec Ideal S8192x3072 .bf16)

/-- The summand `k` of an entry of the product. -/
def term (i : S1024x3072.Idx) (k : Fin 8192) : EReal := A (ix2 k (i 0)) * B (ix2 k (i 1))
/-- The array that the call leaves. -/
def out : FVec Ideal S1024x3072 .f32 := fun i => (∑ k : Fin 8192, term A B i k)
/-- The summands that the points at place `s` of the inner axis add. -/
def seg (i : S1024x3072.Idx) (s : ℕ) (hs : s < 2) : EReal := ∑ k : Fin 4096, term A B i ⟨s * 4096 + k.val, by have := k.isLt; omega⟩
end Whole

section At
variable (a : FVec Ideal S4096x1024 .bf16) (b : FVec Ideal S4096x1024 .bf16) (acc : FVec Ideal S1024x1024 .f32)

/-- The product of two blocks at an entry. -/
abbrev dot (y : S1024x1024.Idx) : EReal := ∑ k : Fin 4096, a (ix2 k (y 0)) * b (ix2 k (y 1))

theorem pay1_at (y : S1024x1024.Idx) : k0_pay1 (F := Ideal) a b y = dot a b y := by
  idx_vars y
  pointwise! [k0_pay1]

theorem pay2_at (y : S1024x1024.Idx) : k0_pay2 (F := Ideal) acc a b y = acc y + dot a b y := by
  idx_vars y
  pointwise! [k0_pay2]

theorem pay3_at (y : S1024x1024.Idx) : k0_pay3 (F := Ideal) acc a b y = acc y + dot a b y := by
  idx_vars y
  pointwise! [k0_pay3]
end At

variable (m : (ℓ : Loc nD τ sig) → Buf (Elt Ideal) ℓ) (c : Dev nD)

theorem idx : ∀ t : Fin cfg0.N, win0_0.index t = ![t.val % 2, 0] ∧ win0_1.index t = ![t.val % 2, t.val / 2 % 3] ∧ win0_2.index t = ![0, t.val / 2 % 3] :=
  (by decide +kernel : ∀ t : Fin grid0.N, _)

abbrev mA : FVec Ideal S8192x1024 .bf16 := m ((c : Thread nD τ).loc main_arg0)
abbrev mB : FVec Ideal S8192x3072 .bf16 := m ((c : Thread nD τ).loc main_arg1)

theorem lt_points (t : Fin cfg0.N) : t.val < 6 := lt_of_lt_of_eq t.isLt N_0

section Block
variable (t : Fin cfg0.N) (a : FVec Ideal S4096x1024 .bf16) (b : FVec Ideal S4096x1024 .bf16)
  (ha : ∀ (p : Fin 4096) (q : Fin 1024), a (ix2 p q) = mA m c (ix2 ⟨t.val % 2 * 4096 + p.val, by have := lt_points t; have := p.isLt; omega⟩ q))
  (hb : ∀ (p : Fin 4096) (q : Fin 1024), b (ix2 p q) = mB m c (ix2 ⟨t.val % 2 * 4096 + p.val, by have := lt_points t; have := p.isLt; omega⟩ ⟨t.val / 2 % 3 * 1024 + q.val, by have := lt_points t; have := q.isLt; omega⟩))

include ha hb in
/-- The blocks' product is the point's part of the whole product. -/
theorem block_dot (y : S1024x1024.Idx) (i : S1024x3072.Idx) (h0 : (i 0 : ℕ) = y 0) (h1 : (i 1 : ℕ) = t.val / 2 % 3 * 1024 + y 1) :
    dot a b y = seg (mA m c) (mB m c) i (t.val % 2) (Nat.mod_lt _ (by decide)) := by
  idx_vars y
  have b0 : y0.val < 1024 := y0.isLt
  have b1 : y1.val < 1024 := y1.isLt
  have e0 : i 0 = y0 := Fin.ext h0
  have e1 : i 1 = (⟨t.val / 2 % 3 * 1024 + y1.val, by have := lt_points t; omega⟩ : Fin 3072) := Fin.ext h1
  unfold seg term
  rw [e0, e1]
  refine Finset.sum_congr rfl fun k _ => ?_
  refine Ideal.mul_congr ((ha _ _).trans ?_) ((hb _ _).trans ?_) <;> rfl
end Block

/-- The scratch after the first point of a tile. -/
theorem scratch_first (t : Fin cfg0.N) (h : t.val % 2 = 0) (y : S1024x1024.Idx) (i : S1024x3072.Idx) (h0 : (i 0 : ℕ) = y 0) (h1 : (i 1 : ℕ) = t.val / 2 % 3 * 1024 + y 1) :
    (outsAt0 m c t.val t.isLt).2 y = seg (mA m c) (mB m c) i 0 (by decide) := by
  rw [outsAt0_A m c t h (by omega)]
  frame_out
  refine (pay1_at _ _ y).trans ((block_dot m c t _ _ (fun p q => ?_) (fun p q => ?_) y i h0 h1).trans ?_)
  · blk_point [iblk, V, idx t]
  · blk_point [iblk, V, idx t]
  · simp only [h]

/-- The tile's last point leaves the sum of all its points' summands. -/
theorem out_last (t : Fin cfg0.N) (hl : t.val % 2 = 1) (y : S1024x1024.Idx) (i : S1024x3072.Idx) (h0 : (i 0 : ℕ) = y 0) (h1 : (i 1 : ℕ) = t.val / 2 % 3 * 1024 + y 1) :
    (outsAt0 m c t.val t.isLt).1 y = out (mA m c) (mB m c) i := by
  have hN := lt_points t
  have e : out (mA m c) (mB m c) i = ∑ s : Fin 2, seg (mA m c) (mB m c) i s.val s.isLt := by
    unfold seg
    exact (Fin.sum_mul_add_congr fun s k hl => rfl).symm
  rw [e, Fin.sum_univ_two, outsAt0_B m c t (by omega) hl]
  frame_out
  refine (pay3_at _ _ _ y).trans (Ideal.add_congr ?_ ((block_dot m c t _ _ (fun p q => ?_) (fun p q => ?_) y i h0 h1).trans ?_))
  · refine (?_ : _ = (outsAt0 m c (t.val - 1) (Nat.lt_of_le_of_lt (Nat.sub_le _ _) t.isLt)).2 y).trans
      (scratch_first m c ⟨t.val - 1, Nat.lt_of_le_of_lt (Nat.sub_le _ _) t.isLt⟩ (by dsimp only; omega) y i (by dsimp only; omega) (by dsimp only; omega))
    pointwise
    exact congrFun (read_unread_whole cc0_scratch0 _ _) y
  · blk_point [iblk, V, idx t]
  · blk_point [iblk, V, idx t]
  · simp only [hl]; rfl

theorem final : (dats m 0 c).arrAt 2 (cfgs 0).N = out (mA m c) (mB m c) := by
  refine (dats m 0 c).arrAt_eq_of_covers 2 _ (by decide +kernel) fun t hf y => ?_
  have hl := (flush0_2 t).mp hf
  blk_simp
  rw [after0_2]
  refine out_last m c t hl y _ ?_ ?_ <;> (blk_simp [idx t] <;> try omega)

end Cert.DwGlIdeal.Product

end
-- ==== Proof.DwGlClaim.lean ====
/- The reference's product, read at an index, and the claims about the call. -/
module

public import proofs.«01_k».proof.Defs
public import proofs.«01_k».proof.Proof.DwGlBlock
public import proofs.«01_k».proof.Proof.Gen.DwGlReferenceIdeal.Read
public import proofs.«01_k».proof.Proof.Gen.DwGlReferenceIdeal.Run
public import Idealize.ShloMosaic.Lib.Claim

@[expose] public section

set_option maxRecDepth 16384

noncomputable section

namespace Cert.DwGlReferenceIdeal.Product

open Cert.DwGlReferenceIdeal Cert.DwGlReferenceIdeal.Gen Cert.DwGlReferenceIdeal.Read Idealize.ShloMosaic Idealize.ShloMosaic.TcCoe Idealize.SL.Sem
open Cert.DwGlIdeal.Product (out term)

theorem out_at (X0 : FVec Ideal S8192x1024 .bf16) (X1 : FVec Ideal S8192x3072 .bf16) : val_main_v5 (F := Ideal) X0 X1 = out X0 X1 := by
  funext i
  idx_vars i
  unfold out term
  refine Eq.trans ?_ (Finset.sum_congr rfl fun k _ => mul_comm _ _)
  pointwise! [val_main_cst, val_main_v0, val_main_v1, val_main_v2, val_main_v3, val_main_v4, val_main_v5]

end Cert.DwGlReferenceIdeal.Product

namespace Cert.DwGlProof

open Idealize.ShloMosaic Idealize.SL.Sem

/-- The reference runs and leaves its arguments as they were. -/
theorem frame_reference : Cert.quiescent_DwGlReferenceIdeal := by
  intro m g _
  exact (θ_run _ _ _).mono (fun r h => ⟨fun c => (h c).2, sem_eq_zero_of_no_sems (by decide) r.2⟩)
    (Cert.DwGlReferenceIdeal.Value.run m g)

/-- Over the extended reals the kernel and the reference leave the same product. -/
theorem algebraic : Cert.algebraic_DwGlIdeal_DwGlReferenceIdeal := by
  intro m g m' g' _ hagree
  refine ⟨_, Cert.DwGlIdeal.Value.run_blocks m g, ?_⟩
  refine (θ_run _ _ _).mono (fun r h c => ?_) (Cert.DwGlReferenceIdeal.Value.run m' g')
  obtain ⟨h0, k⟩ := h c
  obtain ⟨a0, a1⟩ := hagree c
  refine ⟨h0.trans ?_, k⟩
  rw [Cert.DwGlReferenceIdeal.Read.val_main_v5_eq, a0, a1]
  exact (Cert.DwGlReferenceIdeal.Product.out_at _ _).trans (Cert.DwGlIdeal.Product.final m c).symm

end Cert.DwGlProof

end
-- ==== Proof.DwQBlock.lean ====
/- The gradient of a square projection (the queries', the recurrent branch's and the attention's out-projections): the product over the tokens, tile by tile. -/
module

public import proofs.«01_k».proof.Proof.XaSums
public import proofs.«01_k».proof.Proof.Gen.DwQIdeal.Skeleton
public import proofs.«01_k».proof.Proof.Gen.DwQIdeal
public import proofs.«01_k».proof.Proof.Gen.DwQIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DwQIdeal.Product

open Cert.DwQIdeal Cert.DwQIdeal.Gen Idealize.ShloMosaic Idealize.ShloMosaic.TcCoe Idealize.SL.Sem
open Idealize.ShloMosaic.Pipeline (Dat)

section Whole
variable (A : FVec Ideal S8192x1024 .bf16) (B : FVec Ideal S8192x1024 .bf16)

/-- The summand `k` of an entry of the product. -/
def term (i : S1024x1024.Idx) (k : Fin 8192) : EReal := A (ix2 k (i 0)) * B (ix2 k (i 1))
/-- The array that the call leaves. -/
def out : FVec Ideal S1024x1024 .f32 := fun i => (∑ k : Fin 8192, term A B i k)
/-- The summands that the points at place `s` of the inner axis add. -/
def seg (i : S1024x1024.Idx) (s : ℕ) (hs : s < 2) : EReal := ∑ k : Fin 4096, term A B i ⟨s * 4096 + k.val, by have := k.isLt; omega⟩
end Whole

section At
variable (a : FVec Ideal S4096x1024 .bf16) (b : FVec Ideal S4096x1024 .bf16) (acc : FVec Ideal S1024x1024 .f32)

/-- The product of two blocks at an entry. -/
abbrev dot (y : S1024x1024.Idx) : EReal := ∑ k : Fin 4096, a (ix2 k (y 0)) * b (ix2 k (y 1))

theorem pay1_at (y : S1024x1024.Idx) : k0_pay1 (F := Ideal) a b y = dot a b y := by
  idx_vars y
  pointwise! [k0_pay1]

theorem pay2_at (y : S1024x1024.Idx) : k0_pay2 (F := Ideal) acc a b y = acc y + dot a b y := by
  idx_vars y
  pointwise! [k0_pay2]

theorem pay3_at (y : S1024x1024.Idx) : k0_pay3 (F := Ideal) acc a b y = acc y + dot a b y := by
  idx_vars y
  pointwise! [k0_pay3]
end At

variable (m : (ℓ : Loc nD τ sig) → Buf (Elt Ideal) ℓ) (c : Dev nD)

theorem idx : ∀ t : Fin cfg0.N, win0_0.index t = ![t.val % 2, 0] ∧ win0_1.index t = ![t.val % 2, 0] ∧ win0_2.index t = ![0, 0] :=
  (by decide +kernel : ∀ t : Fin grid0.N, _)

abbrev mA : FVec Ideal S8192x1024 .bf16 := m ((c : Thread nD τ).loc main_arg0)
abbrev mB : FVec Ideal S8192x1024 .bf16 := m ((c : Thread nD τ).loc main_arg1)

theorem lt_points (t : Fin cfg0.N) : t.val < 2 := lt_of_lt_of_eq t.isLt N_0

section Block
variable (t : Fin cfg0.N) (a : FVec Ideal S4096x1024 .bf16) (b : FVec Ideal S4096x1024 .bf16)
  (ha : ∀ (p : Fin 4096) (q : Fin 1024), a (ix2 p q) = mA m c (ix2 ⟨t.val % 2 * 4096 + p.val, by have := lt_points t; have := p.isLt; omega⟩ q))
  (hb : ∀ (p : Fin 4096) (q : Fin 1024), b (ix2 p q) = mB m c (ix2 ⟨t.val % 2 * 4096 + p.val, by have := lt_points t; have := p.isLt; omega⟩ q))

include ha hb in
/-- The blocks' product is the point's part of the whole product. -/
theorem block_dot (y : S1024x1024.Idx) (i : S1024x1024.Idx) (h0 : (i 0 : ℕ) = y 0) (h1 : (i 1 : ℕ) = y 1) :
    dot a b y = seg (mA m c) (mB m c) i (t.val % 2) (Nat.mod_lt _ (by decide)) := by
  idx_vars y
  have b0 : y0.val < 1024 := y0.isLt
  have b1 : y1.val < 1024 := y1.isLt
  have e0 : i 0 = y0 := Fin.ext h0
  have e1 : i 1 = y1 := Fin.ext h1
  unfold seg term
  rw [e0, e1]
  refine Finset.sum_congr rfl fun k _ => ?_
  refine Ideal.mul_congr ((ha _ _).trans ?_) ((hb _ _).trans ?_) <;> rfl
end Block

/-- The scratch after the first point of a tile. -/
theorem scratch_first (t : Fin cfg0.N) (h : t.val % 2 = 0) (y : S1024x1024.Idx) (i : S1024x1024.Idx) (h0 : (i 0 : ℕ) = y 0) (h1 : (i 1 : ℕ) = y 1) :
    (outsAt0 m c t.val t.isLt).2 y = seg (mA m c) (mB m c) i 0 (by decide) := by
  rw [outsAt0_A m c t h (by omega)]
  frame_out
  refine (pay1_at _ _ y).trans ((block_dot m c t _ _ (fun p q => ?_) (fun p q => ?_) y i h0 h1).trans ?_)
  · blk_point [iblk, V, idx t]
  · blk_point [iblk, V, idx t]
  · simp only [h]

/-- The tile's last point leaves the sum of all its points' summands. -/
theorem out_last (t : Fin cfg0.N) (hl : t.val % 2 = 1) (y : S1024x1024.Idx) (i : S1024x1024.Idx) (h0 : (i 0 : ℕ) = y 0) (h1 : (i 1 : ℕ) = y 1) :
    (outsAt0 m c t.val t.isLt).1 y = out (mA m c) (mB m c) i := by
  have hN := lt_points t
  have e : out (mA m c) (mB m c) i = ∑ s : Fin 2, seg (mA m c) (mB m c) i s.val s.isLt := by
    unfold seg
    exact (Fin.sum_mul_add_congr fun s k hl => rfl).symm
  rw [e, Fin.sum_univ_two, outsAt0_B m c t (by omega) hl]
  frame_out
  refine (pay3_at _ _ _ y).trans (Ideal.add_congr ?_ ((block_dot m c t _ _ (fun p q => ?_) (fun p q => ?_) y i h0 h1).trans ?_))
  · refine (?_ : _ = (outsAt0 m c (t.val - 1) (Nat.lt_of_le_of_lt (Nat.sub_le _ _) t.isLt)).2 y).trans
      (scratch_first m c ⟨t.val - 1, Nat.lt_of_le_of_lt (Nat.sub_le _ _) t.isLt⟩ (by dsimp only; omega) y i (by dsimp only; omega) (by dsimp only; omega))
    pointwise
    exact congrFun (read_unread_whole cc0_scratch0 _ _) y
  · blk_point [iblk, V, idx t]
  · blk_point [iblk, V, idx t]
  · simp only [hl]; rfl

theorem final : (dats m 0 c).arrAt 2 (cfgs 0).N = out (mA m c) (mB m c) := by
  refine (dats m 0 c).arrAt_eq_of_covers 2 _ (by decide +kernel) fun t hf y => ?_
  have hl := (flush0_2 t).mp hf
  blk_simp
  rw [after0_2]
  refine out_last m c t hl y _ ?_ ?_ <;> (blk_simp [idx t] <;> try omega)

end Cert.DwQIdeal.Product

end
-- ==== Proof.DwQClaim.lean ====
/- The reference's product, read at an index, and the claims about the call. -/
module

public import proofs.«01_k».proof.Defs
public import proofs.«01_k».proof.Proof.DwQBlock
public import proofs.«01_k».proof.Proof.Gen.DwQReferenceIdeal.Read
public import proofs.«01_k».proof.Proof.Gen.DwQReferenceIdeal.Run
public import Idealize.ShloMosaic.Lib.Claim

@[expose] public section

set_option maxRecDepth 16384

noncomputable section

namespace Cert.DwQReferenceIdeal.Product

open Cert.DwQReferenceIdeal Cert.DwQReferenceIdeal.Gen Cert.DwQReferenceIdeal.Read Idealize.ShloMosaic Idealize.ShloMosaic.TcCoe Idealize.SL.Sem
open Cert.DwQIdeal.Product (out term)

theorem out_at (X0 : FVec Ideal S8192x1024 .bf16) (X1 : FVec Ideal S8192x1024 .bf16) : val_main_v5 (F := Ideal) X0 X1 = out X0 X1 := by
  funext i
  idx_vars i
  unfold out term
  refine Eq.trans ?_ (Finset.sum_congr rfl fun k _ => mul_comm _ _)
  pointwise! [val_main_cst, val_main_v0, val_main_v1, val_main_v2, val_main_v3, val_main_v4, val_main_v5]

end Cert.DwQReferenceIdeal.Product

namespace Cert.DwQProof

open Idealize.ShloMosaic Idealize.SL.Sem

/-- The reference runs and leaves its arguments as they were. -/
theorem frame_reference : Cert.quiescent_DwQReferenceIdeal := by
  intro m g _
  exact (θ_run _ _ _).mono (fun r h => ⟨fun c => (h c).2, sem_eq_zero_of_no_sems (by decide) r.2⟩)
    (Cert.DwQReferenceIdeal.Value.run m g)

/-- Over the extended reals the kernel and the reference leave the same product. -/
theorem algebraic : Cert.algebraic_DwQIdeal_DwQReferenceIdeal := by
  intro m g m' g' _ hagree
  refine ⟨_, Cert.DwQIdeal.Value.run_blocks m g, ?_⟩
  refine (θ_run _ _ _).mono (fun r h c => ?_) (Cert.DwQReferenceIdeal.Value.run m' g')
  obtain ⟨h0, k⟩ := h c
  obtain ⟨a0, a1⟩ := hagree c
  refine ⟨h0.trans ?_, k⟩
  rw [Cert.DwQReferenceIdeal.Read.val_main_v5_eq, a0, a1]
  exact (Cert.DwQReferenceIdeal.Product.out_at _ _).trans (Cert.DwQIdeal.Product.final m c).symm

end Cert.DwQProof

end
-- ==== Proof.DwOutBlock.lean ====
/- The gradient of the mixer's out-projection: the product over the tokens, tile by tile. -/
module

public import proofs.«01_k».proof.Proof.XaSums
public import proofs.«01_k».proof.Proof.Gen.DwOutIdeal.Skeleton
public import proofs.«01_k».proof.Proof.Gen.DwOutIdeal
public import proofs.«01_k».proof.Proof.Gen.DwOutIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DwOutIdeal.Product

open Cert.DwOutIdeal Cert.DwOutIdeal.Gen Idealize.ShloMosaic Idealize.ShloMosaic.TcCoe Idealize.SL.Sem
open Idealize.ShloMosaic.Pipeline (Dat)

section Whole
variable (A : FVec Ideal S8192x1024 .bf16) (B : FVec Ideal S8192x1024 .f32)

/-- The summand `k` of an entry of the product. -/
def term (i : S1024x1024.Idx) (k : Fin 8192) : EReal := A (ix2 k (i 0)) * B (ix2 k (i 1))
/-- The array that the call leaves. -/
def out : FVec Ideal S1024x1024 .f32 := fun i => (∑ k : Fin 8192, term A B i k)
/-- The summands that the points at place `s` of the inner axis add. -/
def seg (i : S1024x1024.Idx) (s : ℕ) (hs : s < 2) : EReal := ∑ k : Fin 4096, term A B i ⟨s * 4096 + k.val, by have := k.isLt; omega⟩
end Whole

section At
variable (a : FVec Ideal S4096x1024 .bf16) (b : FVec Ideal S4096x512 .f32) (acc : FVec Ideal S1024x512 .f32)

/-- The product of two blocks at an entry. -/
abbrev dot (y : S1024x512.Idx) : EReal := ∑ k : Fin 4096, a (ix2 k (y 0)) * b (ix2 k (y 1))

theorem pay1_at (y : S1024x512.Idx) : k0_pay1 (F := Ideal) a b y = dot a b y := by
  idx_vars y
  pointwise! [k0_pay1]

theorem pay2_at (y : S1024x512.Idx) : k0_pay2 (F := Ideal) acc a b y = acc y + dot a b y := by
  idx_vars y
  pointwise! [k0_pay2]

theorem pay3_at (y : S1024x512.Idx) : k0_pay3 (F := Ideal) acc a b y = acc y + dot a b y := by
  idx_vars y
  pointwise! [k0_pay3]
end At

variable (m : (ℓ : Loc nD τ sig) → Buf (Elt Ideal) ℓ) (c : Dev nD)

theorem idx : ∀ t : Fin cfg0.N, win0_0.index t = ![t.val % 2, 0] ∧ win0_1.index t = ![t.val % 2, t.val / 2 % 2] ∧ win0_2.index t = ![0, t.val / 2 % 2] :=
  (by decide +kernel : ∀ t : Fin grid0.N, _)

abbrev mA : FVec Ideal S8192x1024 .bf16 := m ((c : Thread nD τ).loc main_arg0)
abbrev mB : FVec Ideal S8192x1024 .f32 := m ((c : Thread nD τ).loc main_arg1)

theorem lt_points (t : Fin cfg0.N) : t.val < 4 := lt_of_lt_of_eq t.isLt N_0

section Block
variable (t : Fin cfg0.N) (a : FVec Ideal S4096x1024 .bf16) (b : FVec Ideal S4096x512 .f32)
  (ha : ∀ (p : Fin 4096) (q : Fin 1024), a (ix2 p q) = mA m c (ix2 ⟨t.val % 2 * 4096 + p.val, by have := lt_points t; have := p.isLt; omega⟩ q))
  (hb : ∀ (p : Fin 4096) (q : Fin 512), b (ix2 p q) = mB m c (ix2 ⟨t.val % 2 * 4096 + p.val, by have := lt_points t; have := p.isLt; omega⟩ ⟨t.val / 2 % 2 * 512 + q.val, by have := lt_points t; have := q.isLt; omega⟩))

include ha hb in
/-- The blocks' product is the point's part of the whole product. -/
theorem block_dot (y : S1024x512.Idx) (i : S1024x1024.Idx) (h0 : (i 0 : ℕ) = y 0) (h1 : (i 1 : ℕ) = t.val / 2 % 2 * 512 + y 1) :
    dot a b y = seg (mA m c) (mB m c) i (t.val % 2) (Nat.mod_lt _ (by decide)) := by
  idx_vars y
  have b0 : y0.val < 1024 := y0.isLt
  have b1 : y1.val < 512 := y1.isLt
  have e0 : i 0 = y0 := Fin.ext h0
  have e1 : i 1 = (⟨t.val / 2 % 2 * 512 + y1.val, by have := lt_points t; omega⟩ : Fin 1024) := Fin.ext h1
  unfold seg term
  rw [e0, e1]
  refine Finset.sum_congr rfl fun k _ => ?_
  refine Ideal.mul_congr ((ha _ _).trans ?_) ((hb _ _).trans ?_) <;> rfl
end Block

/-- The scratch after the first point of a tile. -/
theorem scratch_first (t : Fin cfg0.N) (h : t.val % 2 = 0) (y : S1024x512.Idx) (i : S1024x1024.Idx) (h0 : (i 0 : ℕ) = y 0) (h1 : (i 1 : ℕ) = t.val / 2 % 2 * 512 + y 1) :
    (outsAt0 m c t.val t.isLt).2 y = seg (mA m c) (mB m c) i 0 (by decide) := by
  rw [outsAt0_A m c t h (by omega)]
  frame_out
  refine (pay1_at _ _ y).trans ((block_dot m c t _ _ (fun p q => ?_) (fun p q => ?_) y i h0 h1).trans ?_)
  · blk_point [iblk, V, idx t]
  · blk_point [iblk, V, idx t]
  · simp only [h]

/-- The tile's last point leaves the sum of all its points' summands. -/
theorem out_last (t : Fin cfg0.N) (hl : t.val % 2 = 1) (y : S1024x512.Idx) (i : S1024x1024.Idx) (h0 : (i 0 : ℕ) = y 0) (h1 : (i 1 : ℕ) = t.val / 2 % 2 * 512 + y 1) :
    (outsAt0 m c t.val t.isLt).1 y = out (mA m c) (mB m c) i := by
  have hN := lt_points t
  have e : out (mA m c) (mB m c) i = ∑ s : Fin 2, seg (mA m c) (mB m c) i s.val s.isLt := by
    unfold seg
    exact (Fin.sum_mul_add_congr fun s k hl => rfl).symm
  rw [e, Fin.sum_univ_two, outsAt0_B m c t (by omega) hl]
  frame_out
  refine (pay3_at _ _ _ y).trans (Ideal.add_congr ?_ ((block_dot m c t _ _ (fun p q => ?_) (fun p q => ?_) y i h0 h1).trans ?_))
  · refine (?_ : _ = (outsAt0 m c (t.val - 1) (Nat.lt_of_le_of_lt (Nat.sub_le _ _) t.isLt)).2 y).trans
      (scratch_first m c ⟨t.val - 1, Nat.lt_of_le_of_lt (Nat.sub_le _ _) t.isLt⟩ (by dsimp only; omega) y i (by dsimp only; omega) (by dsimp only; omega))
    pointwise
    exact congrFun (read_unread_whole cc0_scratch0 _ _) y
  · blk_point [iblk, V, idx t]
  · blk_point [iblk, V, idx t]
  · simp only [hl]; rfl

theorem final : (dats m 0 c).arrAt 2 (cfgs 0).N = out (mA m c) (mB m c) := by
  refine (dats m 0 c).arrAt_eq_of_covers 2 _ (by decide +kernel) fun t hf y => ?_
  have hl := (flush0_2 t).mp hf
  blk_simp
  rw [after0_2]
  refine out_last m c t hl y _ ?_ ?_ <;> (blk_simp [idx t] <;> try omega)

end Cert.DwOutIdeal.Product

end
-- ==== Proof.DwOutClaim.lean ====
/- The reference's product, read at an index, and the claims about the call. -/
module

public import proofs.«01_k».proof.Defs
public import proofs.«01_k».proof.Proof.DwOutBlock
public import proofs.«01_k».proof.Proof.Gen.DwOutReferenceIdeal.Read
public import proofs.«01_k».proof.Proof.Gen.DwOutReferenceIdeal.Run
public import Idealize.ShloMosaic.Lib.Claim

@[expose] public section

set_option maxRecDepth 16384

noncomputable section

namespace Cert.DwOutReferenceIdeal.Product

open Cert.DwOutReferenceIdeal Cert.DwOutReferenceIdeal.Gen Cert.DwOutReferenceIdeal.Read Idealize.ShloMosaic Idealize.ShloMosaic.TcCoe Idealize.SL.Sem
open Cert.DwOutIdeal.Product (out term)

theorem out_at (X0 : FVec Ideal S8192x1024 .bf16) (X1 : FVec Ideal S8192x1024 .f32) : val_main_v4 (F := Ideal) X0 X1 = out X0 X1 := by
  funext i
  idx_vars i
  unfold out term
  refine Eq.trans ?_ (Finset.sum_congr rfl fun k _ => mul_comm _ _)
  pointwise! [val_main_cst, val_main_v0, val_main_v1, val_main_v2, val_main_v3, val_main_v4]

end Cert.DwOutReferenceIdeal.Product

namespace Cert.DwOutProof

open Idealize.ShloMosaic Idealize.SL.Sem

/-- The reference runs and leaves its arguments as they were. -/
theorem frame_reference : Cert.quiescent_DwOutReferenceIdeal := by
  intro m g _
  exact (θ_run _ _ _).mono (fun r h => ⟨fun c => (h c).2, sem_eq_zero_of_no_sems (by decide) r.2⟩)
    (Cert.DwOutReferenceIdeal.Value.run m g)

/-- Over the extended reals the kernel and the reference leave the same product. -/
theorem algebraic : Cert.algebraic_DwOutIdeal_DwOutReferenceIdeal := by
  intro m g m' g' _ hagree
  refine ⟨_, Cert.DwOutIdeal.Value.run_blocks m g, ?_⟩
  refine (θ_run _ _ _).mono (fun r h c => ?_) (Cert.DwOutReferenceIdeal.Value.run m' g')
  obtain ⟨h0, k⟩ := h c
  obtain ⟨a0, a1⟩ := hagree c
  refine ⟨h0.trans ?_, k⟩
  rw [Cert.DwOutReferenceIdeal.Read.val_main_v4_eq, a0, a1]
  exact (Cert.DwOutReferenceIdeal.Product.out_at _ _).trans (Cert.DwOutIdeal.Product.final m c).symm

end Cert.DwOutProof

end
-- ==== Proof.DwBrSsdBlock.lean ====
/- The gradient of the state-space branch's out-projection: the product over the tokens, tile by tile. -/
module

public import proofs.«01_k».proof.Proof.XaSums
public import proofs.«01_k».proof.Proof.Gen.DwBrSsdIdeal.Skeleton
public import proofs.«01_k».proof.Proof.Gen.DwBrSsdIdeal
public import proofs.«01_k».proof.Proof.Gen.DwBrSsdIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DwBrSsdIdeal.Product

open Cert.DwBrSsdIdeal Cert.DwBrSsdIdeal.Gen Idealize.ShloMosaic Idealize.ShloMosaic.TcCoe Idealize.SL.Sem
open Idealize.ShloMosaic.Pipeline (Dat)

section Whole
variable (A : FVec Ideal S8192x2048 .bf16) (B : FVec Ideal S8192x1024 .bf16)

/-- The summand `k` of an entry of the product. -/
def term (i : S2048x1024.Idx) (k : Fin 8192) : EReal := A (ix2 k (i 0)) * B (ix2 k (i 1))
/-- The array that the call leaves. -/
def out : FVec Ideal S2048x1024 .f32 := fun i => (∑ k : Fin 8192, term A B i k)
/-- The summands that the points at place `s` of the inner axis add. -/
def seg (i : S2048x1024.Idx) (s : ℕ) (hs : s < 2) : EReal := ∑ k : Fin 4096, term A B i ⟨s * 4096 + k.val, by have := k.isLt; omega⟩
end Whole

section At
variable (a : FVec Ideal S4096x1024 .bf16) (b : FVec Ideal S4096x1024 .bf16) (acc : FVec Ideal S1024x1024 .f32)

/-- The product of two blocks at an entry. -/
abbrev dot (y : S1024x1024.Idx) : EReal := ∑ k : Fin 4096, a (ix2 k (y 0)) * b (ix2 k (y 1))

theorem pay1_at (y : S1024x1024.Idx) : k0_pay1 (F := Ideal) a b y = dot a b y := by
  idx_vars y
  pointwise! [k0_pay1]

theorem pay2_at (y : S1024x1024.Idx) : k0_pay2 (F := Ideal) acc a b y = acc y + dot a b y := by
  idx_vars y
  pointwise! [k0_pay2]

theorem pay3_at (y : S1024x1024.Idx) : k0_pay3 (F := Ideal) acc a b y = acc y + dot a b y := by
  idx_vars y
  pointwise! [k0_pay3]
end At

variable (m : (ℓ : Loc nD τ sig) → Buf (Elt Ideal) ℓ) (c : Dev nD)

theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

abbrev mA : FVec Ideal S8192x2048 .bf16 := m ((c : Thread nD τ).loc main_arg0)
abbrev mB : FVec Ideal S8192x1024 .bf16 := m ((c : Thread nD τ).loc main_arg1)

theorem lt_points (t : Fin cfg0.N) : t.val < 4 := lt_of_lt_of_eq t.isLt N_0

section Block
variable (t : Fin cfg0.N) (a : FVec Ideal S4096x1024 .bf16) (b : FVec Ideal S4096x1024 .bf16)
  (ha : ∀ (p : Fin 4096) (q : Fin 1024), a (ix2 p q) = mA m c (ix2 ⟨t.val % 2 * 4096 + p.val, by have := lt_points t; have := p.isLt; omega⟩ ⟨t.val / 2 * 1024 + q.val, by have := lt_points t; have := q.isLt; omega⟩))
  (hb : ∀ (p : Fin 4096) (q : Fin 1024), b (ix2 p q) = mB m c (ix2 ⟨t.val % 2 * 4096 + p.val, by have := lt_points t; have := p.isLt; omega⟩ q))

include ha hb in
/-- The blocks' product is the point's part of the whole product. -/
theorem block_dot (y : S1024x1024.Idx) (i : S2048x1024.Idx) (h0 : (i 0 : ℕ) = t.val / 2 * 1024 + y 0) (h1 : (i 1 : ℕ) = y 1) :
    dot a b y = seg (mA m c) (mB m c) i (t.val % 2) (Nat.mod_lt _ (by decide)) := by
  idx_vars y
  have b0 : y0.val < 1024 := y0.isLt
  have b1 : y1.val < 1024 := y1.isLt
  have e0 : i 0 = (⟨t.val / 2 * 1024 + y0.val, by have := lt_points t; omega⟩ : Fin 2048) := Fin.ext h0
  have e1 : i 1 = y1 := Fin.ext h1
  unfold seg term
  rw [e0, e1]
  refine Finset.sum_congr rfl fun k _ => ?_
  refine Ideal.mul_congr ((ha _ _).trans ?_) ((hb _ _).trans ?_) <;> rfl
end Block

/-- The scratch after the first point of a tile. -/
theorem scratch_first (t : Fin cfg0.N) (h : t.val % 2 = 0) (y : S1024x1024.Idx) (i : S2048x1024.Idx) (h0 : (i 0 : ℕ) = t.val / 2 * 1024 + y 0) (h1 : (i 1 : ℕ) = y 1) :
    (outsAt0 m c t.val t.isLt).2 y = seg (mA m c) (mB m c) i 0 (by decide) := by
  rw [outsAt0_A m c t h (by omega)]
  frame_out
  refine (pay1_at _ _ y).trans ((block_dot m c t _ _ (fun p q => ?_) (fun p q => ?_) y i h0 h1).trans ?_)
  · blk_point [iblk, V, idx t]
  · blk_point [iblk, V, idx t]
  · simp only [h]

/-- The tile's last point leaves the sum of all its points' summands. -/
theorem out_last (t : Fin cfg0.N) (hl : t.val % 2 = 1) (y : S1024x1024.Idx) (i : S2048x1024.Idx) (h0 : (i 0 : ℕ) = t.val / 2 * 1024 + y 0) (h1 : (i 1 : ℕ) = y 1) :
    (outsAt0 m c t.val t.isLt).1 y = out (mA m c) (mB m c) i := by
  have hN := lt_points t
  have e : out (mA m c) (mB m c) i = ∑ s : Fin 2, seg (mA m c) (mB m c) i s.val s.isLt := by
    unfold seg
    exact (Fin.sum_mul_add_congr fun s k hl => rfl).symm
  rw [e, Fin.sum_univ_two, outsAt0_B m c t (by omega) hl]
  frame_out
  refine (pay3_at _ _ _ y).trans (Ideal.add_congr ?_ ((block_dot m c t _ _ (fun p q => ?_) (fun p q => ?_) y i h0 h1).trans ?_))
  · refine (?_ : _ = (outsAt0 m c (t.val - 1) (Nat.lt_of_le_of_lt (Nat.sub_le _ _) t.isLt)).2 y).trans
      (scratch_first m c ⟨t.val - 1, Nat.lt_of_le_of_lt (Nat.sub_le _ _) t.isLt⟩ (by dsimp only; omega) y i (by dsimp only; omega) (by dsimp only; omega))
    pointwise
    exact congrFun (read_unread_whole cc0_scratch0 _ _) y
  · blk_point [iblk, V, idx t]
  · blk_point [iblk, V, idx t]
  · simp only [hl]; rfl

theorem final : (dats m 0 c).arrAt 2 (cfgs 0).N = out (mA m c) (mB m c) := by
  refine (dats m 0 c).arrAt_eq_of_covers 2 _ (by decide +kernel) fun t hf y => ?_
  have hl := (flush0_2 t).mp hf
  blk_simp
  rw [after0_2]
  refine out_last m c t hl y _ ?_ ?_ <;> (blk_simp [idx t] <;> try omega)

end Cert.DwBrSsdIdeal.Product

end
-- ==== Proof.DwBrSsdClaim.lean ====
/- The reference's product, read at an index, and the claims about the call. -/
module

public import proofs.«01_k».proof.Defs
public import proofs.«01_k».proof.Proof.DwBrSsdBlock
public import proofs.«01_k».proof.Proof.Gen.DwBrSsdReferenceIdeal.Read
public import proofs.«01_k».proof.Proof.Gen.DwBrSsdReferenceIdeal.Run
public import Idealize.ShloMosaic.Lib.Claim

@[expose] public section

set_option maxRecDepth 16384

noncomputable section

namespace Cert.DwBrSsdReferenceIdeal.Product

open Cert.DwBrSsdReferenceIdeal Cert.DwBrSsdReferenceIdeal.Gen Cert.DwBrSsdReferenceIdeal.Read Idealize.ShloMosaic Idealize.ShloMosaic.TcCoe Idealize.SL.Sem
open Cert.DwBrSsdIdeal.Product (out term)

theorem out_at (X0 : FVec Ideal S8192x2048 .bf16) (X1 : FVec Ideal S8192x1024 .bf16) : val_main_v5 (F := Ideal) X0 X1 = out X0 X1 := by
  funext i
  idx_vars i
  unfold out term
  refine Eq.trans ?_ (Finset.sum_congr rfl fun k _ => mul_comm _ _)
  pointwise! [val_main_cst, val_main_v0, val_main_v1, val_main_v2, val_main_v3, val_main_v4, val_main_v5]

end Cert.DwBrSsdReferenceIdeal.Product

namespace Cert.DwBrSsdProof

open Idealize.ShloMosaic Idealize.SL.Sem

/-- The reference runs and leaves its arguments as they were. -/
theorem frame_reference : Cert.quiescent_DwBrSsdReferenceIdeal := by
  intro m g _
  exact (θ_run _ _ _).mono (fun r h => ⟨fun c => (h c).2, sem_eq_zero_of_no_sems (by decide) r.2⟩)
    (Cert.DwBrSsdReferenceIdeal.Value.run m g)

/-- Over the extended reals the kernel and the reference leave the same product. -/
theorem algebraic : Cert.algebraic_DwBrSsdIdeal_DwBrSsdReferenceIdeal := by
  intro m g m' g' _ hagree
  refine ⟨_, Cert.DwBrSsdIdeal.Value.run_blocks m g, ?_⟩
  refine (θ_run _ _ _).mono (fun r h c => ?_) (Cert.DwBrSsdReferenceIdeal.Value.run m' g')
  obtain ⟨h0, k⟩ := h c
  obtain ⟨a0, a1⟩ := hagree c
  refine ⟨h0.trans ?_, k⟩
  rw [Cert.DwBrSsdReferenceIdeal.Read.val_main_v5_eq, a0, a1]
  exact (Cert.DwBrSsdReferenceIdeal.Product.out_at _ _).trans (Cert.DwBrSsdIdeal.Product.final m c).symm

end Cert.DwBrSsdProof

end
-- ==== Proof.DxSsdBlock.lean ====
/- The state-space branch's part of the gradient of the layer's input, added to the scaled residual's. -/
module

public import proofs.«01_k».proof.Proof.XaSums
public import proofs.«01_k».proof.Proof.Gen.DxSsdIdeal.Skeleton
public import proofs.«01_k».proof.Proof.Gen.DxSsdIdeal
public import proofs.«01_k».proof.Proof.Gen.DxSsdIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DxSsdIdeal.Product

open Cert.DxSsdIdeal Cert.DxSsdIdeal.Gen Idealize.ShloMosaic Idealize.ShloMosaic.TcCoe Idealize.SL.Sem
open Idealize.ShloMosaic.Pipeline (Dat)

/-- The factor of the residual's gradient. -/
def scale : EReal := Ideal.ofBits .f32 0x3FB504F3#32

section Whole
variable (A : FVec Ideal S8192x5632 .bf16) (B : FVec Ideal S1024x5632 .bf16) (C : FVec Ideal S8192x1024 .f32)

/-- The summand `k` of an entry of the product. -/
def term (i : S8192x1024.Idx) (k : Fin 5632) : EReal := A (ix2 (i 0) k) * B (ix2 (i 1) k)
/-- The array that the call leaves. -/
def out : FVec Ideal S8192x1024 .f32 := fun i => (∑ k : Fin 5632, term A B i k) + scale * C i
end Whole

section At
variable (a : FVec Ideal S512x5632 .bf16) (b : FVec Ideal S1024x5632 .bf16) (acc : FVec Ideal S512x1024 .f32)

/-- The product of two blocks at an entry. -/
abbrev dot (y : S512x1024.Idx) : EReal := ∑ k : Fin 5632, a (ix2 (y 0) k) * b (ix2 (y 1) k)

theorem pay_at (y : S512x1024.Idx) : k0_pay1 (F := Ideal) a b acc y = dot a b y + scale * acc y := by
  idx_vars y
  unfold scale
  pointwise! [k0_pay1]
end At

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

abbrev mA : FVec Ideal S8192x5632 .bf16 := m ((c : Thread nD τ).loc main_arg0)
abbrev mB : FVec Ideal S1024x5632 .bf16 := m ((c : Thread nD τ).loc main_arg1)
abbrev mC : FVec Ideal S8192x1024 .f32 := m ((c : Thread nD τ).loc main_arg2)

theorem lt_points (t : Fin cfg0.N) : t.val < 16 := lt_of_lt_of_eq t.isLt N_0

section Block
variable (t : Fin cfg0.N) (a : FVec Ideal S512x5632 .bf16) (b : FVec Ideal S1024x5632 .bf16)
  (ha : ∀ (p : Fin 512) (q : Fin 5632), a (ix2 p q) = mA m c (ix2 ⟨t.val * 512 + p.val, by have := lt_points t; have := p.isLt; omega⟩ q))
  (hb : ∀ (p : Fin 1024) (q : Fin 5632), b (ix2 p q) = mB m c (ix2 p q))

include ha hb in
/-- The blocks' product is the point's part of the whole product. -/
theorem block_dot (y : S512x1024.Idx) (i : S8192x1024.Idx) (h0 : (i 0 : ℕ) = t.val * 512 + y 0) (h1 : (i 1 : ℕ) = y 1) :
    dot a b y = ∑ k : Fin 5632, term (mA m c) (mB m c) i k := by
  idx_vars y
  have b0 : y0.val < 512 := y0.isLt
  have b1 : y1.val < 1024 := y1.isLt
  have e0 : i 0 = (⟨t.val * 512 + y0.val, by have := lt_points t; omega⟩ : Fin 8192) := Fin.ext h0
  have e1 : i 1 = y1 := Fin.ext h1
  unfold term
  rw [e0, e1]
  refine Finset.sum_congr rfl fun k _ => ?_
  refine Ideal.mul_congr ((ha _ _).trans ?_) ((hb _ _).trans ?_) <;> rfl
end Block

theorem final : (dats m 0 c).arrAt 3 (cfgs 0).N = out (mA m c) (mB m c) (mC m c) := by
  refine (dats m 0 c).arrAt_eq_of_covers 3 _ (by decide +kernel) fun t _ y => ?_
  blk_simp
  rw [after0_3]
  frame_out
  refine (pay_at _ _ _ y).trans ?_
  unfold out
  refine Ideal.add_congr ?_ ?_
  · refine block_dot m c t _ _ (fun p q => ?_) (fun p q => ?_) y _ ?_ ?_ <;>
      (first | blk_point [iblk, V, idx t] | (blk_simp [idx t] <;> try omega))
  · refine Ideal.mul_congr rfl ?_
    idx_vars y
    blk_point [iblk, V, idx t]

end Cert.DxSsdIdeal.Product

end
-- ==== Proof.DxSsdClaim.lean ====
/- The reference's product, read at an index, and the claims about the call. -/
module

public import proofs.«01_k».proof.Defs
public import proofs.«01_k».proof.Proof.DxSsdBlock
public import proofs.«01_k».proof.Proof.Gen.DxSsdReferenceIdeal.Read
public import proofs.«01_k».proof.Proof.Gen.DxSsdReferenceIdeal.Run
public import Idealize.ShloMosaic.Lib.Claim

@[expose] public section

set_option maxRecDepth 16384

noncomputable section

namespace Cert.DxSsdReferenceIdeal.Product

open Cert.DxSsdReferenceIdeal Cert.DxSsdReferenceIdeal.Gen Cert.DxSsdReferenceIdeal.Read Idealize.ShloMosaic Idealize.ShloMosaic.TcCoe Idealize.SL.Sem
open Cert.DxSsdIdeal.Product (out term scale)

theorem out_at (X0 : FVec Ideal S8192x5632 .bf16) (X1 : FVec Ideal S1024x5632 .bf16) (X2 : FVec Ideal S8192x1024 .f32) : val_main_v9 (F := Ideal) X0 X1 X2 = out X0 X1 X2 := by
  funext i
  idx_vars i
  unfold out term scale
  refine Eq.trans ?_ (add_comm _ _)
  pointwise! [val_main_cst, val_main_v0, val_main_v1, val_main_v2, val_main_cst_0, val_main_v3, val_main_v4, val_main_v5, val_main_cst_1, val_main_v6, val_main_v7, val_main_v8, val_main_v9]

end Cert.DxSsdReferenceIdeal.Product

namespace Cert.DxSsdProof

open Idealize.ShloMosaic Idealize.SL.Sem

/-- The reference runs and leaves its arguments as they were. -/
theorem frame_reference : Cert.quiescent_DxSsdReferenceIdeal := by
  intro m g _
  exact (θ_run _ _ _).mono (fun r h => ⟨fun c => (h c).2, sem_eq_zero_of_no_sems (by decide) r.2⟩)
    (Cert.DxSsdReferenceIdeal.Value.run m g)

/-- Over the extended reals the kernel and the reference leave the same product. -/
theorem algebraic : Cert.algebraic_DxSsdIdeal_DxSsdReferenceIdeal := by
  intro m g m' g' _ hagree
  refine ⟨_, Cert.DxSsdIdeal.Value.run_blocks m g, ?_⟩
  refine (θ_run _ _ _).mono (fun r h c => ?_) (Cert.DxSsdReferenceIdeal.Value.run m' g')
  obtain ⟨h0, k⟩ := h c
  obtain ⟨a0, a1, a2⟩ := hagree c
  refine ⟨h0.trans ?_, k⟩
  rw [Cert.DxSsdReferenceIdeal.Read.val_main_v9_eq, a0, a1, a2]
  exact (Cert.DxSsdReferenceIdeal.Product.out_at _ _ _).trans (Cert.DxSsdIdeal.Product.final m c).symm

end Cert.DxSsdProof

end
-- ==== Proof.DxLruBlock.lean ====
/- The recurrent branch's part of the gradient of the layer's input, added to what was there. -/
module

public import proofs.«01_k».proof.Proof.XaSums
public import proofs.«01_k».proof.Proof.Gen.DxLruIdeal.Skeleton
public import proofs.«01_k».proof.Proof.Gen.DxLruIdeal
public import proofs.«01_k».proof.Proof.Gen.DxLruIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DxLruIdeal.Product

open Cert.DxLruIdeal Cert.DxLruIdeal.Gen Idealize.ShloMosaic Idealize.ShloMosaic.TcCoe Idealize.SL.Sem
open Idealize.ShloMosaic.Pipeline (Dat)

section Whole
variable (A : FVec Ideal S8192x2048 .bf16) (B : FVec Ideal S1024x2048 .bf16) (C : FVec Ideal S8192x1024 .f32)

/-- The summand `k` of an entry of the product. -/
def term (i : S8192x1024.Idx) (k : Fin 2048) : EReal := A (ix2 (i 0) k) * B (ix2 (i 1) k)
/-- The array that the call leaves. -/
def out : FVec Ideal S8192x1024 .f32 := fun i => (∑ k : Fin 2048, term A B i k) + C i
end Whole

section At
variable (a : FVec Ideal S1024x2048 .bf16) (b : FVec Ideal S1024x2048 .bf16) (acc : FVec Ideal S1024x1024 .f32)

/-- The product of two blocks at an entry. -/
abbrev dot (y : S1024x1024.Idx) : EReal := ∑ k : Fin 2048, a (ix2 (y 0) k) * b (ix2 (y 1) k)

theorem pay_at (y : S1024x1024.Idx) : k0_pay1 (F := Ideal) a b acc y = dot a b y + acc y := by
  idx_vars y
  pointwise! [k0_pay1]
end At

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

abbrev mA : FVec Ideal S8192x2048 .bf16 := m ((c : Thread nD τ).loc main_arg0)
abbrev mB : FVec Ideal S1024x2048 .bf16 := m ((c : Thread nD τ).loc main_arg1)
abbrev mC : FVec Ideal S8192x1024 .f32 := m ((c : Thread nD τ).loc main_arg2)

theorem lt_points (t : Fin cfg0.N) : t.val < 8 := lt_of_lt_of_eq t.isLt N_0

section Block
variable (t : Fin cfg0.N) (a : FVec Ideal S1024x2048 .bf16) (b : FVec Ideal S1024x2048 .bf16)
  (ha : ∀ (p : Fin 1024) (q : Fin 2048), a (ix2 p q) = mA m c (ix2 ⟨t.val * 1024 + p.val, by have := lt_points t; have := p.isLt; omega⟩ q))
  (hb : ∀ (p : Fin 1024) (q : Fin 2048), b (ix2 p q) = mB m c (ix2 p q))

include ha hb in
/-- The blocks' product is the point's part of the whole product. -/
theorem block_dot (y : S1024x1024.Idx) (i : S8192x1024.Idx) (h0 : (i 0 : ℕ) = t.val * 1024 + y 0) (h1 : (i 1 : ℕ) = y 1) :
    dot a b y = ∑ k : Fin 2048, term (mA m c) (mB m c) i k := by
  idx_vars y
  have b0 : y0.val < 1024 := y0.isLt
  have b1 : y1.val < 1024 := y1.isLt
  have e0 : i 0 = (⟨t.val * 1024 + y0.val, by have := lt_points t; omega⟩ : Fin 8192) := Fin.ext h0
  have e1 : i 1 = y1 := Fin.ext h1
  unfold term
  rw [e0, e1]
  refine Finset.sum_congr rfl fun k _ => ?_
  refine Ideal.mul_congr ((ha _ _).trans ?_) ((hb _ _).trans ?_) <;> rfl
end Block

theorem final : (dats m 0 c).arrAt 3 (cfgs 0).N = out (mA m c) (mB m c) (mC m c) := by
  refine (dats m 0 c).arrAt_eq_of_covers 3 _ (by decide +kernel) fun t _ y => ?_
  blk_simp
  rw [after0_3]
  frame_out
  refine (pay_at _ _ _ y).trans ?_
  unfold out
  refine Ideal.add_congr ?_ ?_
  · refine block_dot m c t _ _ (fun p q => ?_) (fun p q => ?_) y _ ?_ ?_ <;>
      (first | blk_point [iblk, V, idx t] | (blk_simp [idx t] <;> try omega))
  · idx_vars y
    blk_point [iblk, V, idx t]

end Cert.DxLruIdeal.Product

end
-- ==== Proof.DxLruClaim.lean ====
/- The reference's product, read at an index, and the claims about the call. -/
module

public import proofs.«01_k».proof.Defs
public import proofs.«01_k».proof.Proof.DxLruBlock
public import proofs.«01_k».proof.Proof.Gen.DxLruReferenceIdeal.Read
public import proofs.«01_k».proof.Proof.Gen.DxLruReferenceIdeal.Run
public import Idealize.ShloMosaic.Lib.Claim

@[expose] public section

set_option maxRecDepth 16384

noncomputable section

namespace Cert.DxLruReferenceIdeal.Product

open Cert.DxLruReferenceIdeal Cert.DxLruReferenceIdeal.Gen Cert.DxLruReferenceIdeal.Read Idealize.ShloMosaic Idealize.ShloMosaic.TcCoe Idealize.SL.Sem
open Cert.DxLruIdeal.Product (out term)

theorem out_at (X0 : FVec Ideal S8192x2048 .bf16) (X1 : FVec Ideal S1024x2048 .bf16) (X2 : FVec Ideal S8192x1024 .f32) : val_main_v5 (F := Ideal) X0 X1 X2 = out X0 X1 X2 := by
  funext i
  idx_vars i
  unfold out term
  refine Eq.trans ?_ (add_comm _ _)
  pointwise! [val_main_cst, val_main_v0, val_main_v1, val_main_v2, val_main_v3, val_main_v4, val_main_v5]

end Cert.DxLruReferenceIdeal.Product

namespace Cert.DxLruProof

open Idealize.ShloMosaic Idealize.SL.Sem

/-- The reference runs and leaves its arguments as they were. -/
theorem frame_reference : Cert.quiescent_DxLruReferenceIdeal := by
  intro m g _
  exact (θ_run _ _ _).mono (fun r h => ⟨fun c => (h c).2, sem_eq_zero_of_no_sems (by decide) r.2⟩)
    (Cert.DxLruReferenceIdeal.Value.run m g)

/-- Over the extended reals the kernel and the reference leave the same product. -/
theorem algebraic : Cert.algebraic_DxLruIdeal_DxLruReferenceIdeal := by
  intro m g m' g' _ hagree
  refine ⟨_, Cert.DxLruIdeal.Value.run_blocks m g, ?_⟩
  refine (θ_run _ _ _).mono (fun r h c => ?_) (Cert.DxLruReferenceIdeal.Value.run m' g')
  obtain ⟨h0, k⟩ := h c
  obtain ⟨a0, a1, a2⟩ := hagree c
  refine ⟨h0.trans ?_, k⟩
  rw [Cert.DxLruReferenceIdeal.Read.val_main_v5_eq, a0, a1, a2]
  exact (Cert.DxLruReferenceIdeal.Product.out_at _ _ _).trans (Cert.DxLruIdeal.Product.final m c).symm

end Cert.DxLruProof

end
-- ==== Proof.DxGlBlock.lean ====
/- The gates' part of the gradient of the layer's input, added to what was there. -/
module

public import proofs.«01_k».proof.Proof.XaSums
public import proofs.«01_k».proof.Proof.Gen.DxGlIdeal.Skeleton
public import proofs.«01_k».proof.Proof.Gen.DxGlIdeal
public import proofs.«01_k».proof.Proof.Gen.DxGlIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DxGlIdeal.Product

open Cert.DxGlIdeal Cert.DxGlIdeal.Gen Idealize.ShloMosaic Idealize.ShloMosaic.TcCoe Idealize.SL.Sem
open Idealize.ShloMosaic.Pipeline (Dat)

section Whole
variable (A : FVec Ideal S8192x3072 .bf16) (B : FVec Ideal S1024x3072 .bf16) (C : FVec Ideal S8192x1024 .f32)

/-- The summand `k` of an entry of the product. -/
def term (i : S8192x1024.Idx) (k : Fin 3072) : EReal := A (ix2 (i 0) k) * B (ix2 (i 1) k)
/-- The array that the call leaves. -/
def out : FVec Ideal S8192x1024 .f32 := fun i => (∑ k : Fin 3072, term A B i k) + C i
end Whole

section At
variable (a : FVec Ideal S1024x3072 .bf16) (b : FVec Ideal S1024x3072 .bf16) (acc : FVec Ideal S1024x1024 .f32)

/-- The product of two blocks at an entry. -/
abbrev dot (y : S1024x1024.Idx) : EReal := ∑ k : Fin 3072, a (ix2 (y 0) k) * b (ix2 (y 1) k)

theorem pay_at (y : S1024x1024.Idx) : k0_pay1 (F := Ideal) a b acc y = dot a b y + acc y := by
  idx_vars y
  pointwise! [k0_pay1]
end At

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

abbrev mA : FVec Ideal S8192x3072 .bf16 := m ((c : Thread nD τ).loc main_arg0)
abbrev mB : FVec Ideal S1024x3072 .bf16 := m ((c : Thread nD τ).loc main_arg1)
abbrev mC : FVec Ideal S8192x1024 .f32 := m ((c : Thread nD τ).loc main_arg2)

theorem lt_points (t : Fin cfg0.N) : t.val < 8 := lt_of_lt_of_eq t.isLt N_0

section Block
variable (t : Fin cfg0.N) (a : FVec Ideal S1024x3072 .bf16) (b : FVec Ideal S1024x3072 .bf16)
  (ha : ∀ (p : Fin 1024) (q : Fin 3072), a (ix2 p q) = mA m c (ix2 ⟨t.val * 1024 + p.val, by have := lt_points t; have := p.isLt; omega⟩ q))
  (hb : ∀ (p : Fin 1024) (q : Fin 3072), b (ix2 p q) = mB m c (ix2 p q))

include ha hb in
/-- The blocks' product is the point's part of the whole product. -/
theorem block_dot (y : S1024x1024.Idx) (i : S8192x1024.Idx) (h0 : (i 0 : ℕ) = t.val * 1024 + y 0) (h1 : (i 1 : ℕ) = y 1) :
    dot a b y = ∑ k : Fin 3072, term (mA m c) (mB m c) i k := by
  idx_vars y
  have b0 : y0.val < 1024 := y0.isLt
  have b1 : y1.val < 1024 := y1.isLt
  have e0 : i 0 = (⟨t.val * 1024 + y0.val, by have := lt_points t; omega⟩ : Fin 8192) := Fin.ext h0
  have e1 : i 1 = y1 := Fin.ext h1
  unfold term
  rw [e0, e1]
  refine Finset.sum_congr rfl fun k _ => ?_
  refine Ideal.mul_congr ((ha _ _).trans ?_) ((hb _ _).trans ?_) <;> rfl
end Block

theorem final : (dats m 0 c).arrAt 3 (cfgs 0).N = out (mA m c) (mB m c) (mC m c) := by
  refine (dats m 0 c).arrAt_eq_of_covers 3 _ (by decide +kernel) fun t _ y => ?_
  blk_simp
  rw [after0_3]
  frame_out
  refine (pay_at _ _ _ y).trans ?_
  unfold out
  refine Ideal.add_congr ?_ ?_
  · refine block_dot m c t _ _ (fun p q => ?_) (fun p q => ?_) y _ ?_ ?_ <;>
      (first | blk_point [iblk, V, idx t] | (blk_simp [idx t] <;> try omega))
  · idx_vars y
    blk_point [iblk, V, idx t]

end Cert.DxGlIdeal.Product

end
-- ==== Proof.DxGlClaim.lean ====
/- The reference's product, read at an index, and the claims about the call. -/
module

public import proofs.«01_k».proof.Defs
public import proofs.«01_k».proof.Proof.DxGlBlock
public import proofs.«01_k».proof.Proof.Gen.DxGlReferenceIdeal.Read
public import proofs.«01_k».proof.Proof.Gen.DxGlReferenceIdeal.Run
public import Idealize.ShloMosaic.Lib.Claim

@[expose] public section

set_option maxRecDepth 16384

noncomputable section

namespace Cert.DxGlReferenceIdeal.Product

open Cert.DxGlReferenceIdeal Cert.DxGlReferenceIdeal.Gen Cert.DxGlReferenceIdeal.Read Idealize.ShloMosaic Idealize.ShloMosaic.TcCoe Idealize.SL.Sem
open Cert.DxGlIdeal.Product (out term)

theorem out_at (X0 : FVec Ideal S8192x3072 .bf16) (X1 : FVec Ideal S1024x3072 .bf16) (X2 : FVec Ideal S8192x1024 .f32) : val_main_v5 (F := Ideal) X0 X1 X2 = out X0 X1 X2 := by
  funext i
  idx_vars i
  unfold out term
  refine Eq.trans ?_ (add_comm _ _)
  pointwise! [val_main_cst, val_main_v0, val_main_v1, val_main_v2, val_main_v3, val_main_v4, val_main_v5]

end Cert.DxGlReferenceIdeal.Product

namespace Cert.DxGlProof

open Idealize.ShloMosaic Idealize.SL.Sem

/-- The reference runs and leaves its arguments as they were. -/
theorem frame_reference : Cert.quiescent_DxGlReferenceIdeal := by
  intro m g _
  exact (θ_run _ _ _).mono (fun r h => ⟨fun c => (h c).2, sem_eq_zero_of_no_sems (by decide) r.2⟩)
    (Cert.DxGlReferenceIdeal.Value.run m g)

/-- Over the extended reals the kernel and the reference leave the same product. -/
theorem algebraic : Cert.algebraic_DxGlIdeal_DxGlReferenceIdeal := by
  intro m g m' g' _ hagree
  refine ⟨_, Cert.DxGlIdeal.Value.run_blocks m g, ?_⟩
  refine (θ_run _ _ _).mono (fun r h c => ?_) (Cert.DxGlReferenceIdeal.Value.run m' g')
  obtain ⟨h0, k⟩ := h c
  obtain ⟨a0, a1, a2⟩ := hagree c
  refine ⟨h0.trans ?_, k⟩
  rw [Cert.DxGlReferenceIdeal.Read.val_main_v5_eq, a0, a1, a2]
  exact (Cert.DxGlReferenceIdeal.Product.out_at _ _ _).trans (Cert.DxGlIdeal.Product.final m c).symm

end Cert.DxGlProof

end
-- ==== Proof.DxQBlock.lean ====
/- The queries' part of the gradient of the layer's input, added to what was there. -/
module

public import proofs.«01_k».proof.Proof.XaSums
public import proofs.«01_k».proof.Proof.Gen.DxQIdeal.Skeleton
public import proofs.«01_k».proof.Proof.Gen.DxQIdeal
public import proofs.«01_k».proof.Proof.Gen.DxQIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DxQIdeal.Product

open Cert.DxQIdeal Cert.DxQIdeal.Gen Idealize.ShloMosaic Idealize.ShloMosaic.TcCoe Idealize.SL.Sem
open Idealize.ShloMosaic.Pipeline (Dat)

section Whole
variable (A : FVec Ideal S8192x1024 .bf16) (B : FVec Ideal S1024x1024 .bf16) (C : FVec Ideal S8192x1024 .f32)

/-- The summand `k` of an entry of the product. -/
def term (i : S8192x1024.Idx) (k : Fin 1024) : EReal := A (ix2 (i 0) k) * B (ix2 (i 1) k)
/-- The array that the call leaves. -/
def out : FVec Ideal S8192x1024 .f32 := fun i => (∑ k : Fin 1024, term A B i k) + C i
end Whole

section At
variable (a : FVec Ideal S1024x1024 .bf16) (b : FVec Ideal S1024x1024 .bf16) (acc : FVec Ideal S1024x1024 .f32)

/-- The product of two blocks at an entry. -/
abbrev dot (y : S1024x1024.Idx) : EReal := ∑ k : Fin 1024, a (ix2 (y 0) k) * b (ix2 (y 1) k)

theorem pay_at (y : S1024x1024.Idx) : k0_pay1 (F := Ideal) a b acc y = dot a b y + acc y := by
  idx_vars y
  pointwise! [k0_pay1]
end At

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

abbrev mA : FVec Ideal S8192x1024 .bf16 := m ((c : Thread nD τ).loc main_arg0)
abbrev mB : FVec Ideal S1024x1024 .bf16 := m ((c : Thread nD τ).loc main_arg1)
abbrev mC : FVec Ideal S8192x1024 .f32 := m ((c : Thread nD τ).loc main_arg2)

theorem lt_points (t : Fin cfg0.N) : t.val < 8 := lt_of_lt_of_eq t.isLt N_0

section Block
variable (t : Fin cfg0.N) (a : FVec Ideal S1024x1024 .bf16) (b : FVec Ideal S1024x1024 .bf16)
  (ha : ∀ (p : Fin 1024) (q : Fin 1024), a (ix2 p q) = mA m c (ix2 ⟨t.val * 1024 + p.val, by have := lt_points t; have := p.isLt; omega⟩ q))
  (hb : ∀ (p : Fin 1024) (q : Fin 1024), b (ix2 p q) = mB m c (ix2 p q))

include ha hb in
/-- The blocks' product is the point's part of the whole product. -/
theorem block_dot (y : S1024x1024.Idx) (i : S8192x1024.Idx) (h0 : (i 0 : ℕ) = t.val * 1024 + y 0) (h1 : (i 1 : ℕ) = y 1) :
    dot a b y = ∑ k : Fin 1024, term (mA m c) (mB m c) i k := by
  idx_vars y
  have b0 : y0.val < 1024 := y0.isLt
  have b1 : y1.val < 1024 := y1.isLt
  have e0 : i 0 = (⟨t.val * 1024 + y0.val, by have := lt_points t; omega⟩ : Fin 8192) := Fin.ext h0
  have e1 : i 1 = y1 := Fin.ext h1
  unfold term
  rw [e0, e1]
  refine Finset.sum_congr rfl fun k _ => ?_
  refine Ideal.mul_congr ((ha _ _).trans ?_) ((hb _ _).trans ?_) <;> rfl
end Block

theorem final : (dats m 0 c).arrAt 3 (cfgs 0).N = out (mA m c) (mB m c) (mC m c) := by
  refine (dats m 0 c).arrAt_eq_of_covers 3 _ (by decide +kernel) fun t _ y => ?_
  blk_simp
  rw [after0_3]
  frame_out
  refine (pay_at _ _ _ y).trans ?_
  unfold out
  refine Ideal.add_congr ?_ ?_
  · refine block_dot m c t _ _ (fun p q => ?_) (fun p q => ?_) y _ ?_ ?_ <;>
      (first | blk_point [iblk, V, idx t] | (blk_simp [idx t] <;> try omega))
  · idx_vars y
    blk_point [iblk, V, idx t]

end Cert.DxQIdeal.Product

end
-- ==== Proof.DxQClaim.lean ====
/- The reference's product, read at an index, and the claims about the call. -/
module

public import proofs.«01_k».proof.Defs
public import proofs.«01_k».proof.Proof.DxQBlock
public import proofs.«01_k».proof.Proof.Gen.DxQReferenceIdeal.Read
public import proofs.«01_k».proof.Proof.Gen.DxQReferenceIdeal.Run
public import Idealize.ShloMosaic.Lib.Claim

@[expose] public section

set_option maxRecDepth 16384

noncomputable section

namespace Cert.DxQReferenceIdeal.Product

open Cert.DxQReferenceIdeal Cert.DxQReferenceIdeal.Gen Cert.DxQReferenceIdeal.Read Idealize.ShloMosaic Idealize.ShloMosaic.TcCoe Idealize.SL.Sem
open Cert.DxQIdeal.Product (out term)

theorem out_at (X0 : FVec Ideal S8192x1024 .bf16) (X1 : FVec Ideal S1024x1024 .bf16) (X2 : FVec Ideal S8192x1024 .f32) : val_main_v5 (F := Ideal) X0 X1 X2 = out X0 X1 X2 := by
  funext i
  idx_vars i
  unfold out term
  refine Eq.trans ?_ (add_comm _ _)
  pointwise! [val_main_cst, val_main_v0, val_main_v1, val_main_v2, val_main_v3, val_main_v4, val_main_v5]

end Cert.DxQReferenceIdeal.Product

namespace Cert.DxQProof

open Idealize.ShloMosaic Idealize.SL.Sem

/-- The reference runs and leaves its arguments as they were. -/
theorem frame_reference : Cert.quiescent_DxQReferenceIdeal := by
  intro m g _
  exact (θ_run _ _ _).mono (fun r h => ⟨fun c => (h c).2, sem_eq_zero_of_no_sems (by decide) r.2⟩)
    (Cert.DxQReferenceIdeal.Value.run m g)

/-- Over the extended reals the kernel and the reference leave the same product. -/
theorem algebraic : Cert.algebraic_DxQIdeal_DxQReferenceIdeal := by
  intro m g m' g' _ hagree
  refine ⟨_, Cert.DxQIdeal.Value.run_blocks m g, ?_⟩
  refine (θ_run _ _ _).mono (fun r h c => ?_) (Cert.DxQReferenceIdeal.Value.run m' g')
  obtain ⟨h0, k⟩ := h c
  obtain ⟨a0, a1, a2⟩ := hagree c
  refine ⟨h0.trans ?_, k⟩
  rw [Cert.DxQReferenceIdeal.Read.val_main_v5_eq, a0, a1, a2]
  exact (Cert.DxQReferenceIdeal.Product.out_at _ _ _).trans (Cert.DxQIdeal.Product.final m c).symm

end Cert.DxQProof

end
-- ==== Proof.DMergedBlock.lean ====
/- The gradient of the merged branches, through the out-projection. -/
module

public import proofs.«01_k».proof.Proof.XaSums
public import proofs.«01_k».proof.Proof.Gen.DMergedIdeal.Skeleton
public import proofs.«01_k».proof.Proof.Gen.DMergedIdeal
public import proofs.«01_k».proof.Proof.Gen.DMergedIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DMergedIdeal.Product

open Cert.DMergedIdeal Cert.DMergedIdeal.Gen Idealize.ShloMosaic Idealize.ShloMosaic.TcCoe Idealize.SL.Sem
open Idealize.ShloMosaic.Pipeline (Dat)

section Whole
variable (A : FVec Ideal S8192x1024 .f32) (B : FVec Ideal S1024x1024 .bf16)

/-- The summand `k` of an entry of the product. -/
def term (i : S8192x1024.Idx) (k : Fin 1024) : EReal := A (ix2 (i 0) k) * B (ix2 (i 1) k)
/-- The array that the call leaves. -/
def out : FVec Ideal S8192x1024 .f32 := fun i => (∑ k : Fin 1024, term A B i k)
end Whole

section At
variable (a : FVec Ideal S1024x1024 .f32) (b : FVec Ideal S1024x1024 .bf16) (acc : FVec Ideal S1024x1024 .f32)

/-- The product of two blocks at an entry. -/
abbrev dot (y : S1024x1024.Idx) : EReal := ∑ k : Fin 1024, a (ix2 (y 0) k) * b (ix2 (y 1) k)

theorem pay_at (y : S1024x1024.Idx) : k0_pay1 (F := Ideal) a b y = dot a b y := by
  idx_vars y
  pointwise! [k0_pay1]
end At

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

abbrev mA : FVec Ideal S8192x1024 .f32 := m ((c : Thread nD τ).loc main_arg0)
abbrev mB : FVec Ideal S1024x1024 .bf16 := m ((c : Thread nD τ).loc main_arg1)

theorem lt_points (t : Fin cfg0.N) : t.val < 8 := lt_of_lt_of_eq t.isLt N_0

section Block
variable (t : Fin cfg0.N) (a : FVec Ideal S1024x1024 .f32) (b : FVec Ideal S1024x1024 .bf16)
  (ha : ∀ (p : Fin 1024) (q : Fin 1024), a (ix2 p q) = mA m c (ix2 ⟨t.val * 1024 + p.val, by have := lt_points t; have := p.isLt; omega⟩ q))
  (hb : ∀ (p : Fin 1024) (q : Fin 1024), b (ix2 p q) = mB m c (ix2 p q))

include ha hb in
/-- The blocks' product is the point's part of the whole product. -/
theorem block_dot (y : S1024x1024.Idx) (i : S8192x1024.Idx) (h0 : (i 0 : ℕ) = t.val * 1024 + y 0) (h1 : (i 1 : ℕ) = y 1) :
    dot a b y = ∑ k : Fin 1024, term (mA m c) (mB m c) i k := by
  idx_vars y
  have b0 : y0.val < 1024 := y0.isLt
  have b1 : y1.val < 1024 := y1.isLt
  have e0 : i 0 = (⟨t.val * 1024 + y0.val, by have := lt_points t; omega⟩ : Fin 8192) := Fin.ext h0
  have e1 : i 1 = y1 := Fin.ext h1
  unfold term
  rw [e0, e1]
  refine Finset.sum_congr rfl fun k _ => ?_
  refine Ideal.mul_congr ((ha _ _).trans ?_) ((hb _ _).trans ?_) <;> rfl
end Block

theorem final : (dats m 0 c).arrAt 2 (cfgs 0).N = out (mA m c) (mB m c) := by
  refine (dats m 0 c).arrAt_eq_of_covers 2 _ (by decide +kernel) fun t _ y => ?_
  blk_simp
  rw [after0_2]
  frame_out
  refine (pay_at _ _ y).trans ?_
  unfold out
  refine block_dot m c t _ _ (fun p q => ?_) (fun p q => ?_) y _ ?_ ?_ <;>
    (first | blk_point [iblk, V, idx t] | (blk_simp [idx t] <;> try omega))

end Cert.DMergedIdeal.Product

end
-- ==== Proof.DMergedClaim.lean ====
/- The reference's product, read at an index, and the claims about the call. -/
module

public import proofs.«01_k».proof.Defs
public import proofs.«01_k».proof.Proof.DMergedBlock
public import proofs.«01_k».proof.Proof.Gen.DMergedReferenceIdeal.Read
public import proofs.«01_k».proof.Proof.Gen.DMergedReferenceIdeal.Run
public import Idealize.ShloMosaic.Lib.Claim

@[expose] public section

set_option maxRecDepth 16384

noncomputable section

namespace Cert.DMergedReferenceIdeal.Product

open Cert.DMergedReferenceIdeal Cert.DMergedReferenceIdeal.Gen Cert.DMergedReferenceIdeal.Read Idealize.ShloMosaic Idealize.ShloMosaic.TcCoe Idealize.SL.Sem
open Cert.DMergedIdeal.Product (out term)

theorem out_at (X0 : FVec Ideal S8192x1024 .f32) (X1 : FVec Ideal S1024x1024 .bf16) : val_main_v3 (F := Ideal) X0 X1 = out X0 X1 := by
  funext i
  idx_vars i
  unfold out term
  pointwise! [val_main_cst, val_main_v0, val_main_v1, val_main_v2, val_main_v3]

end Cert.DMergedReferenceIdeal.Product

namespace Cert.DMergedProof

open Idealize.ShloMosaic Idealize.SL.Sem

/-- The reference runs and leaves its arguments as they were. -/
theorem frame_reference : Cert.quiescent_DMergedReferenceIdeal := by
  intro m g _
  exact (θ_run _ _ _).mono (fun r h => ⟨fun c => (h c).2, sem_eq_zero_of_no_sems (by decide) r.2⟩)
    (Cert.DMergedReferenceIdeal.Value.run m g)

/-- Over the extended reals the kernel and the reference leave the same product. -/
theorem algebraic : Cert.algebraic_DMergedIdeal_DMergedReferenceIdeal := by
  intro m g m' g' _ hagree
  refine ⟨_, Cert.DMergedIdeal.Value.run_blocks m g, ?_⟩
  refine (θ_run _ _ _).mono (fun r h c => ?_) (Cert.DMergedReferenceIdeal.Value.run m' g')
  obtain ⟨h0, k⟩ := h c
  obtain ⟨a0, a1⟩ := hagree c
  refine ⟨h0.trans ?_, k⟩
  rw [Cert.DMergedReferenceIdeal.Read.val_main_v3_eq, a0, a1]
  exact (Cert.DMergedReferenceIdeal.Product.out_at _ _).trans (Cert.DMergedIdeal.Product.final m c).symm

end Cert.DMergedProof

end
-- ==== Proof.DyLruBlock.lean ====
/- The gradient of the recurrent branch's output, through its out-projection. -/
module

public import proofs.«01_k».proof.Proof.XaSums
public import proofs.«01_k».proof.Proof.Gen.DyLruIdeal.Skeleton
public import proofs.«01_k».proof.Proof.Gen.DyLruIdeal
public import proofs.«01_k».proof.Proof.Gen.DyLruIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DyLruIdeal.Product

open Cert.DyLruIdeal Cert.DyLruIdeal.Gen Idealize.ShloMosaic Idealize.ShloMosaic.TcCoe Idealize.SL.Sem
open Idealize.ShloMosaic.Pipeline (Dat)

section Whole
variable (A : FVec Ideal S8192x1024 .bf16) (B : FVec Ideal S1024x1024 .bf16)

/-- The summand `k` of an entry of the product. -/
def term (i : S8192x1024.Idx) (k : Fin 1024) : EReal := A (ix2 (i 0) k) * B (ix2 (i 1) k)
/-- The array that the call leaves. -/
def out : FVec Ideal S8192x1024 .f32 := fun i => (∑ k : Fin 1024, term A B i k)
end Whole

section At
variable (a : FVec Ideal S1024x1024 .bf16) (b : FVec Ideal S1024x1024 .bf16) (acc : FVec Ideal S1024x1024 .f32)

/-- The product of two blocks at an entry. -/
abbrev dot (y : S1024x1024.Idx) : EReal := ∑ k : Fin 1024, a (ix2 (y 0) k) * b (ix2 (y 1) k)

theorem pay_at (y : S1024x1024.Idx) : k0_pay1 (F := Ideal) a b y = dot a b y := by
  idx_vars y
  pointwise! [k0_pay1]
end At

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

abbrev mA : FVec Ideal S8192x1024 .bf16 := m ((c : Thread nD τ).loc main_arg0)
abbrev mB : FVec Ideal S1024x1024 .bf16 := m ((c : Thread nD τ).loc main_arg1)

theorem lt_points (t : Fin cfg0.N) : t.val < 8 := lt_of_lt_of_eq t.isLt N_0

section Block
variable (t : Fin cfg0.N) (a : FVec Ideal S1024x1024 .bf16) (b : FVec Ideal S1024x1024 .bf16)
  (ha : ∀ (p : Fin 1024) (q : Fin 1024), a (ix2 p q) = mA m c (ix2 ⟨t.val * 1024 + p.val, by have := lt_points t; have := p.isLt; omega⟩ q))
  (hb : ∀ (p : Fin 1024) (q : Fin 1024), b (ix2 p q) = mB m c (ix2 p q))

include ha hb in
/-- The blocks' product is the point's part of the whole product. -/
theorem block_dot (y : S1024x1024.Idx) (i : S8192x1024.Idx) (h0 : (i 0 : ℕ) = t.val * 1024 + y 0) (h1 : (i 1 : ℕ) = y 1) :
    dot a b y = ∑ k : Fin 1024, term (mA m c) (mB m c) i k := by
  idx_vars y
  have b0 : y0.val < 1024 := y0.isLt
  have b1 : y1.val < 1024 := y1.isLt
  have e0 : i 0 = (⟨t.val * 1024 + y0.val, by have := lt_points t; omega⟩ : Fin 8192) := Fin.ext h0
  have e1 : i 1 = y1 := Fin.ext h1
  unfold term
  rw [e0, e1]
  refine Finset.sum_congr rfl fun k _ => ?_
  refine Ideal.mul_congr ((ha _ _).trans ?_) ((hb _ _).trans ?_) <;> rfl
end Block

theorem final : (dats m 0 c).arrAt 2 (cfgs 0).N = out (mA m c) (mB m c) := by
  refine (dats m 0 c).arrAt_eq_of_covers 2 _ (by decide +kernel) fun t _ y => ?_
  blk_simp
  rw [after0_2]
  frame_out
  refine (pay_at _ _ y).trans ?_
  unfold out
  refine block_dot m c t _ _ (fun p q => ?_) (fun p q => ?_) y _ ?_ ?_ <;>
    (first | blk_point [iblk, V, idx t] | (blk_simp [idx t] <;> try omega))

end Cert.DyLruIdeal.Product

end
-- ==== Proof.DyLruClaim.lean ====
/- The reference's product, read at an index, and the claims about the call. -/
module

public import proofs.«01_k».proof.Defs
public import proofs.«01_k».proof.Proof.DyLruBlock
public import proofs.«01_k».proof.Proof.Gen.DyLruReferenceIdeal.Read
public import proofs.«01_k».proof.Proof.Gen.DyLruReferenceIdeal.Run
public import Idealize.ShloMosaic.Lib.Claim

@[expose] public section

set_option maxRecDepth 16384

noncomputable section

namespace Cert.DyLruReferenceIdeal.Product

open Cert.DyLruReferenceIdeal Cert.DyLruReferenceIdeal.Gen Cert.DyLruReferenceIdeal.Read Idealize.ShloMosaic Idealize.ShloMosaic.TcCoe Idealize.SL.Sem
open Cert.DyLruIdeal.Product (out term)

theorem out_at (X0 : FVec Ideal S8192x1024 .bf16) (X1 : FVec Ideal S1024x1024 .bf16) : val_main_v4 (F := Ideal) X0 X1 = out X0 X1 := by
  funext i
  idx_vars i
  unfold out term
  pointwise! [val_main_cst, val_main_v0, val_main_v1, val_main_v2, val_main_v3, val_main_v4]

end Cert.DyLruReferenceIdeal.Product

namespace Cert.DyLruProof

open Idealize.ShloMosaic Idealize.SL.Sem

/-- The reference runs and leaves its arguments as they were. -/
theorem frame_reference : Cert.quiescent_DyLruReferenceIdeal := by
  intro m g _
  exact (θ_run _ _ _).mono (fun r h => ⟨fun c => (h c).2, sem_eq_zero_of_no_sems (by decide) r.2⟩)
    (Cert.DyLruReferenceIdeal.Value.run m g)

/-- Over the extended reals the kernel and the reference leave the same product. -/
theorem algebraic : Cert.algebraic_DyLruIdeal_DyLruReferenceIdeal := by
  intro m g m' g' _ hagree
  refine ⟨_, Cert.DyLruIdeal.Value.run_blocks m g, ?_⟩
  refine (θ_run _ _ _).mono (fun r h c => ?_) (Cert.DyLruReferenceIdeal.Value.run m' g')
  obtain ⟨h0, k⟩ := h c
  obtain ⟨a0, a1⟩ := hagree c
  refine ⟨h0.trans ?_, k⟩
  rw [Cert.DyLruReferenceIdeal.Read.val_main_v4_eq, a0, a1]
  exact (Cert.DyLruReferenceIdeal.Product.out_at _ _).trans (Cert.DyLruIdeal.Product.final m c).symm

end Cert.DyLruProof

end
-- ==== Proof.DySsdBlock.lean ====
/- The gradient of the state-space branch's output, through its out-projection. -/
module

public import proofs.«01_k».proof.Proof.XaSums
public import proofs.«01_k».proof.Proof.Gen.DySsdIdeal.Skeleton
public import proofs.«01_k».proof.Proof.Gen.DySsdIdeal
public import proofs.«01_k».proof.Proof.Gen.DySsdIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DySsdIdeal.Product

open Cert.DySsdIdeal Cert.DySsdIdeal.Gen Idealize.ShloMosaic Idealize.ShloMosaic.TcCoe Idealize.SL.Sem
open Idealize.ShloMosaic.Pipeline (Dat)

section Whole
variable (A : FVec Ideal S8192x1024 .bf16) (B : FVec Ideal S2048x1024 .bf16)

/-- The summand `k` of an entry of the product. -/
def term (i : S8192x2048.Idx) (k : Fin 1024) : EReal := A (ix2 (i 0) k) * B (ix2 (i 1) k)
/-- The array that the call leaves. -/
def out : FVec Ideal S8192x2048 .f32 := fun i => (∑ k : Fin 1024, term A B i k)
end Whole

section At
variable (a : FVec Ideal S1024x1024 .bf16) (b : FVec Ideal S1024x1024 .bf16) (acc : FVec Ideal S1024x1024 .f32)

/-- The product of two blocks at an entry. -/
abbrev dot (y : S1024x1024.Idx) : EReal := ∑ k : Fin 1024, a (ix2 (y 0) k) * b (ix2 (y 1) k)

theorem pay_at (y : S1024x1024.Idx) : k0_pay1 (F := Ideal) a b y = dot a b y := by
  idx_vars y
  pointwise! [k0_pay1]
end At

variable (m : (ℓ : Loc nD τ sig) → Buf (Elt Ideal) ℓ) (c : Dev nD)

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

abbrev mA : FVec Ideal S8192x1024 .bf16 := m ((c : Thread nD τ).loc main_arg0)
abbrev mB : FVec Ideal S2048x1024 .bf16 := m ((c : Thread nD τ).loc main_arg1)

theorem lt_points (t : Fin cfg0.N) : t.val < 16 := lt_of_lt_of_eq t.isLt N_0

section Block
variable (t : Fin cfg0.N) (a : FVec Ideal S1024x1024 .bf16) (b : FVec Ideal S1024x1024 .bf16)
  (ha : ∀ (p : Fin 1024) (q : Fin 1024), a (ix2 p q) = mA m c (ix2 ⟨t.val / 2 * 1024 + p.val, by have := lt_points t; have := p.isLt; omega⟩ q))
  (hb : ∀ (p : Fin 1024) (q : Fin 1024), b (ix2 p q) = mB m c (ix2 ⟨t.val % 2 * 1024 + p.val, by have := lt_points t; have := p.isLt; omega⟩ q))

include ha hb in
/-- The blocks' product is the point's part of the whole product. -/
theorem block_dot (y : S1024x1024.Idx) (i : S8192x2048.Idx) (h0 : (i 0 : ℕ) = t.val / 2 * 1024 + y 0) (h1 : (i 1 : ℕ) = t.val % 2 * 1024 + y 1) :
    dot a b y = ∑ k : Fin 1024, term (mA m c) (mB m c) i k := by
  idx_vars y
  have b0 : y0.val < 1024 := y0.isLt
  have b1 : y1.val < 1024 := y1.isLt
  have e0 : i 0 = (⟨t.val / 2 * 1024 + y0.val, by have := lt_points t; omega⟩ : Fin 8192) := Fin.ext h0
  have e1 : i 1 = (⟨t.val % 2 * 1024 + y1.val, by have := lt_points t; omega⟩ : Fin 2048) := Fin.ext h1
  unfold term
  rw [e0, e1]
  refine Finset.sum_congr rfl fun k _ => ?_
  refine Ideal.mul_congr ((ha _ _).trans ?_) ((hb _ _).trans ?_) <;> rfl
end Block

theorem final : (dats m 0 c).arrAt 2 (cfgs 0).N = out (mA m c) (mB m c) := by
  refine (dats m 0 c).arrAt_eq_of_covers 2 _ (by decide +kernel) fun t _ y => ?_
  blk_simp
  rw [after0_2]
  frame_out
  refine (pay_at _ _ y).trans ?_
  unfold out
  refine block_dot m c t _ _ (fun p q => ?_) (fun p q => ?_) y _ ?_ ?_ <;>
    (first | blk_point [iblk, V, idx t] | (blk_simp [idx t] <;> try omega))

end Cert.DySsdIdeal.Product

end
-- ==== Proof.DySsdClaim.lean ====
/- The reference's product, read at an index, and the claims about the call. -/
module

public import proofs.«01_k».proof.Defs
public import proofs.«01_k».proof.Proof.DySsdBlock
public import proofs.«01_k».proof.Proof.Gen.DySsdReferenceIdeal.Read
public import proofs.«01_k».proof.Proof.Gen.DySsdReferenceIdeal.Run
public import Idealize.ShloMosaic.Lib.Claim

@[expose] public section

set_option maxRecDepth 16384

noncomputable section

namespace Cert.DySsdReferenceIdeal.Product

open Cert.DySsdReferenceIdeal Cert.DySsdReferenceIdeal.Gen Cert.DySsdReferenceIdeal.Read Idealize.ShloMosaic Idealize.ShloMosaic.TcCoe Idealize.SL.Sem
open Cert.DySsdIdeal.Product (out term)

theorem out_at (X0 : FVec Ideal S8192x1024 .bf16) (X1 : FVec Ideal S2048x1024 .bf16) : val_main_v4 (F := Ideal) X0 X1 = out X0 X1 := by
  funext i
  idx_vars i
  unfold out term
  pointwise! [val_main_cst, val_main_v0, val_main_v1, val_main_v2, val_main_v3, val_main_v4]

end Cert.DySsdReferenceIdeal.Product

namespace Cert.DySsdProof

open Idealize.ShloMosaic Idealize.SL.Sem

/-- The reference runs and leaves its arguments as they were. -/
theorem frame_reference : Cert.quiescent_DySsdReferenceIdeal := by
  intro m g _
  exact (θ_run _ _ _).mono (fun r h => ⟨fun c => (h c).2, sem_eq_zero_of_no_sems (by decide) r.2⟩)
    (Cert.DySsdReferenceIdeal.Value.run m g)

/-- Over the extended reals the kernel and the reference leave the same product. -/
theorem algebraic : Cert.algebraic_DySsdIdeal_DySsdReferenceIdeal := by
  intro m g m' g' _ hagree
  refine ⟨_, Cert.DySsdIdeal.Value.run_blocks m g, ?_⟩
  refine (θ_run _ _ _).mono (fun r h c => ?_) (Cert.DySsdReferenceIdeal.Value.run m' g')
  obtain ⟨h0, k⟩ := h c
  obtain ⟨a0, a1⟩ := hagree c
  refine ⟨h0.trans ?_, k⟩
  rw [Cert.DySsdReferenceIdeal.Read.val_main_v4_eq, a0, a1]
  exact (Cert.DySsdReferenceIdeal.Product.out_at _ _).trans (Cert.DySsdIdeal.Product.final m c).symm

end Cert.DySsdProof

end
-- ==== Proof.DyXaBlock.lean ====
/- The gradient of the attention's output, through its out-projection. -/
module

public import proofs.«01_k».proof.Proof.XaSums
public import proofs.«01_k».proof.Proof.Gen.DyXaIdeal.Skeleton
public import proofs.«01_k».proof.Proof.Gen.DyXaIdeal
public import proofs.«01_k».proof.Proof.Gen.DyXaIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DyXaIdeal.Product

open Cert.DyXaIdeal Cert.DyXaIdeal.Gen Idealize.ShloMosaic Idealize.ShloMosaic.TcCoe Idealize.SL.Sem
open Idealize.ShloMosaic.Pipeline (Dat)

section Whole
variable (A : FVec Ideal S8192x1024 .bf16) (B : FVec Ideal S1024x1024 .bf16)

/-- The summand `k` of an entry of the product. -/
def term (i : S8192x1024.Idx) (k : Fin 1024) : EReal := A (ix2 (i 0) k) * B (ix2 (i 1) k)
/-- The array that the call leaves. -/
def out : FVec Ideal S8192x1024 .bf16 := fun i => (∑ k : Fin 1024, term A B i k)
end Whole

section At
variable (a : FVec Ideal S1024x1024 .bf16) (b : FVec Ideal S1024x1024 .bf16) (acc : FVec Ideal S1024x1024 .f32)

/-- The product of two blocks at an entry. -/
abbrev dot (y : S1024x1024.Idx) : EReal := ∑ k : Fin 1024, a (ix2 (y 0) k) * b (ix2 (y 1) k)

theorem pay_at (y : S1024x1024.Idx) : k0_pay1 (F := Ideal) a b y = dot a b y := by
  idx_vars y
  pointwise! [k0_pay1]
end At

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

abbrev mA : FVec Ideal S8192x1024 .bf16 := m ((c : Thread nD τ).loc main_arg0)
abbrev mB : FVec Ideal S1024x1024 .bf16 := m ((c : Thread nD τ).loc main_arg1)

theorem lt_points (t : Fin cfg0.N) : t.val < 8 := lt_of_lt_of_eq t.isLt N_0

section Block
variable (t : Fin cfg0.N) (a : FVec Ideal S1024x1024 .bf16) (b : FVec Ideal S1024x1024 .bf16)
  (ha : ∀ (p : Fin 1024) (q : Fin 1024), a (ix2 p q) = mA m c (ix2 ⟨t.val * 1024 + p.val, by have := lt_points t; have := p.isLt; omega⟩ q))
  (hb : ∀ (p : Fin 1024) (q : Fin 1024), b (ix2 p q) = mB m c (ix2 p q))

include ha hb in
/-- The blocks' product is the point's part of the whole product. -/
theorem block_dot (y : S1024x1024.Idx) (i : S8192x1024.Idx) (h0 : (i 0 : ℕ) = t.val * 1024 + y 0) (h1 : (i 1 : ℕ) = y 1) :
    dot a b y = ∑ k : Fin 1024, term (mA m c) (mB m c) i k := by
  idx_vars y
  have b0 : y0.val < 1024 := y0.isLt
  have b1 : y1.val < 1024 := y1.isLt
  have e0 : i 0 = (⟨t.val * 1024 + y0.val, by have := lt_points t; omega⟩ : Fin 8192) := Fin.ext h0
  have e1 : i 1 = y1 := Fin.ext h1
  unfold term
  rw [e0, e1]
  refine Finset.sum_congr rfl fun k _ => ?_
  refine Ideal.mul_congr ((ha _ _).trans ?_) ((hb _ _).trans ?_) <;> rfl
end Block

theorem final : (dats m 0 c).arrAt 2 (cfgs 0).N = out (mA m c) (mB m c) := by
  refine (dats m 0 c).arrAt_eq_of_covers 2 _ (by decide +kernel) fun t _ y => ?_
  blk_simp
  rw [after0_2]
  frame_out
  refine (pay_at _ _ y).trans ?_
  unfold out
  refine block_dot m c t _ _ (fun p q => ?_) (fun p q => ?_) y _ ?_ ?_ <;>
    (first | blk_point [iblk, V, idx t] | (blk_simp [idx t] <;> try omega))

end Cert.DyXaIdeal.Product

end
-- ==== Proof.DyXaClaim.lean ====
/- The reference's product, read at an index, and the claims about the call. -/
module

public import proofs.«01_k».proof.Defs
public import proofs.«01_k».proof.Proof.DyXaBlock
public import proofs.«01_k».proof.Proof.Gen.DyXaReferenceIdeal.Read
public import proofs.«01_k».proof.Proof.Gen.DyXaReferenceIdeal.Run
public import Idealize.ShloMosaic.Lib.Claim

@[expose] public section

set_option maxRecDepth 16384

noncomputable section

namespace Cert.DyXaReferenceIdeal.Product

open Cert.DyXaReferenceIdeal Cert.DyXaReferenceIdeal.Gen Cert.DyXaReferenceIdeal.Read Idealize.ShloMosaic Idealize.ShloMosaic.TcCoe Idealize.SL.Sem
open Cert.DyXaIdeal.Product (out term)

theorem out_at (X0 : FVec Ideal S8192x1024 .bf16) (X1 : FVec Ideal S1024x1024 .bf16) : val_main_v5 (F := Ideal) X0 X1 = out X0 X1 := by
  funext i
  idx_vars i
  unfold out term
  pointwise! [val_main_cst, val_main_v0, val_main_v1, val_main_v2, val_main_v3, val_main_v4, val_main_v5]

end Cert.DyXaReferenceIdeal.Product

namespace Cert.DyXaProof

open Idealize.ShloMosaic Idealize.SL.Sem

/-- The reference runs and leaves its arguments as they were. -/
theorem frame_reference : Cert.quiescent_DyXaReferenceIdeal := by
  intro m g _
  exact (θ_run _ _ _).mono (fun r h => ⟨fun c => (h c).2, sem_eq_zero_of_no_sems (by decide) r.2⟩)
    (Cert.DyXaReferenceIdeal.Value.run m g)

/-- Over the extended reals the kernel and the reference leave the same product. -/
theorem algebraic : Cert.algebraic_DyXaIdeal_DyXaReferenceIdeal := by
  intro m g m' g' _ hagree
  refine ⟨_, Cert.DyXaIdeal.Value.run_blocks m g, ?_⟩
  refine (θ_run _ _ _).mono (fun r h c => ?_) (Cert.DyXaReferenceIdeal.Value.run m' g')
  obtain ⟨h0, k⟩ := h c
  obtain ⟨a0, a1⟩ := hagree c
  refine ⟨h0.trans ?_, k⟩
  rw [Cert.DyXaReferenceIdeal.Read.val_main_v5_eq, a0, a1]
  exact (Cert.DyXaReferenceIdeal.Product.out_at _ _).trans (Cert.DyXaIdeal.Product.final m c).symm

end Cert.DyXaProof

end
-- ==== Proof.ProjSsdBlock.lean ====
/- The state-space branch's in-projection, tile by tile. -/
module

public import proofs.«01_k».proof.Proof.XaSums
public import proofs.«01_k».proof.Proof.Gen.ProjSsdIdeal.Skeleton
public import proofs.«01_k».proof.Proof.Gen.ProjSsdIdeal
public import proofs.«01_k».proof.Proof.Gen.ProjSsdIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.ProjSsdIdeal.Product

open Cert.ProjSsdIdeal Cert.ProjSsdIdeal.Gen Idealize.ShloMosaic Idealize.ShloMosaic.TcCoe Idealize.SL.Sem
open Idealize.ShloMosaic.Pipeline (Dat)

section Whole
variable (A : FVec Ideal S8192x1024 .bf16) (B : FVec Ideal S1024x5632 .bf16)

/-- The summand `k` of an entry of the product. -/
def term (i : S8192x5632.Idx) (k : Fin 1024) : EReal := A (ix2 (i 0) k) * B (ix2 k (i 1))
/-- The array that the call leaves. -/
def out : FVec Ideal S8192x5632 .f32 := fun i => (∑ k : Fin 1024, term A B i k)
end Whole

section At
variable (a : FVec Ideal S1024x1024 .bf16) (b : FVec Ideal S1024x1408 .bf16) (acc : FVec Ideal S1024x1408 .f32)

/-- The product of two blocks at an entry. -/
abbrev dot (y : S1024x1408.Idx) : EReal := ∑ k : Fin 1024, a (ix2 (y 0) k) * b (ix2 k (y 1))

theorem pay_at (y : S1024x1408.Idx) : k0_pay1 (F := Ideal) a b y = dot a b y := by
  idx_vars y
  pointwise! [k0_pay1]
end At

variable (m : (ℓ : Loc nD τ sig) → Buf (Elt Ideal) ℓ) (c : Dev nD)

theorem idx : ∀ t : Fin cfg0.N, win0_0.index t = ![t.val / 4, 0] ∧ win0_1.index t = ![0, t.val % 4] ∧ win0_2.index t = ![t.val / 4, t.val % 4] :=
  (by decide +kernel : ∀ t : Fin grid0.N, _)

abbrev mA : FVec Ideal S8192x1024 .bf16 := m ((c : Thread nD τ).loc main_arg0)
abbrev mB : FVec Ideal S1024x5632 .bf16 := m ((c : Thread nD τ).loc main_arg1)

theorem lt_points (t : Fin cfg0.N) : t.val < 32 := lt_of_lt_of_eq t.isLt N_0

section Block
variable (t : Fin cfg0.N) (a : FVec Ideal S1024x1024 .bf16) (b : FVec Ideal S1024x1408 .bf16)
  (ha : ∀ (p : Fin 1024) (q : Fin 1024), a (ix2 p q) = mA m c (ix2 ⟨t.val / 4 * 1024 + p.val, by have := lt_points t; have := p.isLt; omega⟩ q))
  (hb : ∀ (p : Fin 1024) (q : Fin 1408), b (ix2 p q) = mB m c (ix2 p ⟨t.val % 4 * 1408 + q.val, by have := lt_points t; have := q.isLt; omega⟩))

include ha hb in
/-- The blocks' product is the point's part of the whole product. -/
theorem block_dot (y : S1024x1408.Idx) (i : S8192x5632.Idx) (h0 : (i 0 : ℕ) = t.val / 4 * 1024 + y 0) (h1 : (i 1 : ℕ) = t.val % 4 * 1408 + y 1) :
    dot a b y = ∑ k : Fin 1024, term (mA m c) (mB m c) i k := by
  idx_vars y
  have b0 : y0.val < 1024 := y0.isLt
  have b1 : y1.val < 1408 := y1.isLt
  have e0 : i 0 = (⟨t.val / 4 * 1024 + y0.val, by have := lt_points t; omega⟩ : Fin 8192) := Fin.ext h0
  have e1 : i 1 = (⟨t.val % 4 * 1408 + y1.val, by have := lt_points t; omega⟩ : Fin 5632) := Fin.ext h1
  unfold term
  rw [e0, e1]
  refine Finset.sum_congr rfl fun k _ => ?_
  refine Ideal.mul_congr ((ha _ _).trans ?_) ((hb _ _).trans ?_) <;> rfl
end Block

theorem final : (dats m 0 c).arrAt 2 (cfgs 0).N = out (mA m c) (mB m c) := by
  refine (dats m 0 c).arrAt_eq_of_covers 2 _ (by decide +kernel) fun t _ y => ?_
  blk_simp
  rw [after0_2]
  frame_out
  refine (pay_at _ _ y).trans ?_
  unfold out
  refine block_dot m c t _ _ (fun p q => ?_) (fun p q => ?_) y _ ?_ ?_ <;>
    (first | blk_point [iblk, V, idx t] | (blk_simp [idx t] <;> try omega))

end Cert.ProjSsdIdeal.Product

end
-- ==== Proof.ProjSsdClaim.lean ====
/- The reference's product, read at an index, and the claims about the call. -/
module

public import proofs.«01_k».proof.Defs
public import proofs.«01_k».proof.Proof.ProjSsdBlock
public import proofs.«01_k».proof.Proof.Gen.ProjSsdReferenceIdeal.Read
public import proofs.«01_k».proof.Proof.Gen.ProjSsdReferenceIdeal.Run
public import Idealize.ShloMosaic.Lib.Claim

@[expose] public section

set_option maxRecDepth 16384

noncomputable section

namespace Cert.ProjSsdReferenceIdeal.Product

open Cert.ProjSsdReferenceIdeal Cert.ProjSsdReferenceIdeal.Gen Cert.ProjSsdReferenceIdeal.Read Idealize.ShloMosaic Idealize.ShloMosaic.TcCoe Idealize.SL.Sem
open Cert.ProjSsdIdeal.Product (out term)

theorem out_at (X0 : FVec Ideal S8192x1024 .bf16) (X1 : FVec Ideal S1024x5632 .bf16) : val_main_v2 (F := Ideal) X0 X1 = out X0 X1 := by
  funext i
  idx_vars i
  unfold out term
  pointwise! [val_main_v0, val_main_v1, val_main_v2]

end Cert.ProjSsdReferenceIdeal.Product

namespace Cert.ProjSsdProof

open Idealize.ShloMosaic Idealize.SL.Sem

/-- The reference runs and leaves its arguments as they were. -/
theorem frame_reference : Cert.quiescent_ProjSsdReferenceIdeal := by
  intro m g _
  exact (θ_run _ _ _).mono (fun r h => ⟨fun c => (h c).2, sem_eq_zero_of_no_sems (by decide) r.2⟩)
    (Cert.ProjSsdReferenceIdeal.Value.run m g)

/-- Over the extended reals the kernel and the reference leave the same product. -/
theorem algebraic : Cert.algebraic_ProjSsdIdeal_ProjSsdReferenceIdeal := by
  intro m g m' g' _ hagree
  refine ⟨_, Cert.ProjSsdIdeal.Value.run_blocks m g, ?_⟩
  refine (θ_run _ _ _).mono (fun r h c => ?_) (Cert.ProjSsdReferenceIdeal.Value.run m' g')
  obtain ⟨h0, k⟩ := h c
  obtain ⟨a0, a1⟩ := hagree c
  refine ⟨h0.trans ?_, k⟩
  rw [Cert.ProjSsdReferenceIdeal.Read.val_main_v2_eq, a0, a1]
  exact (Cert.ProjSsdReferenceIdeal.Product.out_at _ _).trans (Cert.ProjSsdIdeal.Product.final m c).symm

end Cert.ProjSsdProof

end
-- ==== Proof.ProjLruBlock.lean ====
/- The recurrent branch's in-projection, tile by tile. -/
module

public import proofs.«01_k».proof.Proof.XaSums
public import proofs.«01_k».proof.Proof.Gen.ProjLruIdeal.Skeleton
public import proofs.«01_k».proof.Proof.Gen.ProjLruIdeal
public import proofs.«01_k».proof.Proof.Gen.ProjLruIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.ProjLruIdeal.Product

open Cert.ProjLruIdeal Cert.ProjLruIdeal.Gen Idealize.ShloMosaic Idealize.ShloMosaic.TcCoe Idealize.SL.Sem
open Idealize.ShloMosaic.Pipeline (Dat)

section Whole
variable (A : FVec Ideal S8192x1024 .bf16) (B : FVec Ideal S1024x2048 .bf16)

/-- The summand `k` of an entry of the product. -/
def term (i : S8192x2048.Idx) (k : Fin 1024) : EReal := A (ix2 (i 0) k) * B (ix2 k (i 1))
/-- The array that the call leaves. -/
def out : FVec Ideal S8192x2048 .f32 := fun i => (∑ k : Fin 1024, term A B i k)
end Whole

section At
variable (a : FVec Ideal S1024x1024 .bf16) (b : FVec Ideal S1024x1024 .bf16) (acc : FVec Ideal S1024x1024 .f32)

/-- The product of two blocks at an entry. -/
abbrev dot (y : S1024x1024.Idx) : EReal := ∑ k : Fin 1024, a (ix2 (y 0) k) * b (ix2 k (y 1))

theorem pay_at (y : S1024x1024.Idx) : k0_pay1 (F := Ideal) a b y = dot a b y := by
  idx_vars y
  pointwise! [k0_pay1]
end At

variable (m : (ℓ : Loc nD τ sig) → Buf (Elt Ideal) ℓ) (c : Dev nD)

theorem idx : ∀ t : Fin cfg0.N, win0_0.index t = ![t.val / 2, 0] ∧ win0_1.index t = ![0, t.val % 2] ∧ win0_2.index t = ![t.val / 2, t.val % 2] :=
  (by decide +kernel : ∀ t : Fin grid0.N, _)

abbrev mA : FVec Ideal S8192x1024 .bf16 := m ((c : Thread nD τ).loc main_arg0)
abbrev mB : FVec Ideal S1024x2048 .bf16 := m ((c : Thread nD τ).loc main_arg1)

theorem lt_points (t : Fin cfg0.N) : t.val < 16 := lt_of_lt_of_eq t.isLt N_0

section Block
variable (t : Fin cfg0.N) (a : FVec Ideal S1024x1024 .bf16) (b : FVec Ideal S1024x1024 .bf16)
  (ha : ∀ (p : Fin 1024) (q : Fin 1024), a (ix2 p q) = mA m c (ix2 ⟨t.val / 2 * 1024 + p.val, by have := lt_points t; have := p.isLt; omega⟩ q))
  (hb : ∀ (p : Fin 1024) (q : Fin 1024), b (ix2 p q) = mB m c (ix2 p ⟨t.val % 2 * 1024 + q.val, by have := lt_points t; have := q.isLt; omega⟩))

include ha hb in
/-- The blocks' product is the point's part of the whole product. -/
theorem block_dot (y : S1024x1024.Idx) (i : S8192x2048.Idx) (h0 : (i 0 : ℕ) = t.val / 2 * 1024 + y 0) (h1 : (i 1 : ℕ) = t.val % 2 * 1024 + y 1) :
    dot a b y = ∑ k : Fin 1024, term (mA m c) (mB m c) i k := by
  idx_vars y
  have b0 : y0.val < 1024 := y0.isLt
  have b1 : y1.val < 1024 := y1.isLt
  have e0 : i 0 = (⟨t.val / 2 * 1024 + y0.val, by have := lt_points t; omega⟩ : Fin 8192) := Fin.ext h0
  have e1 : i 1 = (⟨t.val % 2 * 1024 + y1.val, by have := lt_points t; omega⟩ : Fin 2048) := Fin.ext h1
  unfold term
  rw [e0, e1]
  refine Finset.sum_congr rfl fun k _ => ?_
  refine Ideal.mul_congr ((ha _ _).trans ?_) ((hb _ _).trans ?_) <;> rfl
end Block

theorem final : (dats m 0 c).arrAt 2 (cfgs 0).N = out (mA m c) (mB m c) := by
  refine (dats m 0 c).arrAt_eq_of_covers 2 _ (by decide +kernel) fun t _ y => ?_
  blk_simp
  rw [after0_2]
  frame_out
  refine (pay_at _ _ y).trans ?_
  unfold out
  refine block_dot m c t _ _ (fun p q => ?_) (fun p q => ?_) y _ ?_ ?_ <;>
    (first | blk_point [iblk, V, idx t] | (blk_simp [idx t] <;> try omega))

end Cert.ProjLruIdeal.Product

end
-- ==== Proof.ProjLruClaim.lean ====
/- The reference's product, read at an index, and the claims about the call. -/
module

public import proofs.«01_k».proof.Defs
public import proofs.«01_k».proof.Proof.ProjLruBlock
public import proofs.«01_k».proof.Proof.Gen.ProjLruReferenceIdeal.Read
public import proofs.«01_k».proof.Proof.Gen.ProjLruReferenceIdeal.Run
public import Idealize.ShloMosaic.Lib.Claim

@[expose] public section

set_option maxRecDepth 16384

noncomputable section

namespace Cert.ProjLruReferenceIdeal.Product

open Cert.ProjLruReferenceIdeal Cert.ProjLruReferenceIdeal.Gen Cert.ProjLruReferenceIdeal.Read Idealize.ShloMosaic Idealize.ShloMosaic.TcCoe Idealize.SL.Sem
open Cert.ProjLruIdeal.Product (out term)

theorem out_at (X0 : FVec Ideal S8192x1024 .bf16) (X1 : FVec Ideal S1024x2048 .bf16) : val_main_v2 (F := Ideal) X0 X1 = out X0 X1 := by
  funext i
  idx_vars i
  unfold out term
  pointwise! [val_main_v0, val_main_v1, val_main_v2]

end Cert.ProjLruReferenceIdeal.Product

namespace Cert.ProjLruProof

open Idealize.ShloMosaic Idealize.SL.Sem

/-- The reference runs and leaves its arguments as they were. -/
theorem frame_reference : Cert.quiescent_ProjLruReferenceIdeal := by
  intro m g _
  exact (θ_run _ _ _).mono (fun r h => ⟨fun c => (h c).2, sem_eq_zero_of_no_sems (by decide) r.2⟩)
    (Cert.ProjLruReferenceIdeal.Value.run m g)

/-- Over the extended reals the kernel and the reference leave the same product. -/
theorem algebraic : Cert.algebraic_ProjLruIdeal_ProjLruReferenceIdeal := by
  intro m g m' g' _ hagree
  refine ⟨_, Cert.ProjLruIdeal.Value.run_blocks m g, ?_⟩
  refine (θ_run _ _ _).mono (fun r h c => ?_) (Cert.ProjLruReferenceIdeal.Value.run m' g')
  obtain ⟨h0, k⟩ := h c
  obtain ⟨a0, a1⟩ := hagree c
  refine ⟨h0.trans ?_, k⟩
  rw [Cert.ProjLruReferenceIdeal.Read.val_main_v2_eq, a0, a1]
  exact (Cert.ProjLruReferenceIdeal.Product.out_at _ _).trans (Cert.ProjLruIdeal.Product.final m c).symm

end Cert.ProjLruProof

end
-- ==== Proof.ProjGlBlock.lean ====
/- The gates' in-projection, tile by tile. -/
module

public import proofs.«01_k».proof.Proof.XaSums
public import proofs.«01_k».proof.Proof.Gen.ProjGlIdeal.Skeleton
public import proofs.«01_k».proof.Proof.Gen.ProjGlIdeal
public import proofs.«01_k».proof.Proof.Gen.ProjGlIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.ProjGlIdeal.Product

open Cert.ProjGlIdeal Cert.ProjGlIdeal.Gen Idealize.ShloMosaic Idealize.ShloMosaic.TcCoe Idealize.SL.Sem
open Idealize.ShloMosaic.Pipeline (Dat)

section Whole
variable (A : FVec Ideal S8192x1024 .bf16) (B : FVec Ideal S1024x3072 .bf16)

/-- The summand `k` of an entry of the product. -/
def term (i : S8192x3072.Idx) (k : Fin 1024) : EReal := A (ix2 (i 0) k) * B (ix2 k (i 1))
/-- The array that the call leaves. -/
def out : FVec Ideal S8192x3072 .bf16 := fun i => (∑ k : Fin 1024, term A B i k)
end Whole

section At
variable (a : FVec Ideal S1024x1024 .bf16) (b : FVec Ideal S1024x1024 .bf16) (acc : FVec Ideal S1024x1024 .f32)

/-- The product of two blocks at an entry. -/
abbrev dot (y : S1024x1024.Idx) : EReal := ∑ k : Fin 1024, a (ix2 (y 0) k) * b (ix2 k (y 1))

theorem pay_at (y : S1024x1024.Idx) : k0_pay1 (F := Ideal) a b y = dot a b y := by
  idx_vars y
  pointwise! [k0_pay1]
end At

variable (m : (ℓ : Loc nD τ sig) → Buf (Elt Ideal) ℓ) (c : Dev nD)

theorem idx : ∀ t : Fin cfg0.N, win0_0.index t = ![t.val / 3, 0] ∧ win0_1.index t = ![0, t.val % 3] ∧ win0_2.index t = ![t.val / 3, t.val % 3] :=
  (by decide +kernel : ∀ t : Fin grid0.N, _)

abbrev mA : FVec Ideal S8192x1024 .bf16 := m ((c : Thread nD τ).loc main_arg0)
abbrev mB : FVec Ideal S1024x3072 .bf16 := m ((c : Thread nD τ).loc main_arg1)

theorem lt_points (t : Fin cfg0.N) : t.val < 24 := lt_of_lt_of_eq t.isLt N_0

section Block
variable (t : Fin cfg0.N) (a : FVec Ideal S1024x1024 .bf16) (b : FVec Ideal S1024x1024 .bf16)
  (ha : ∀ (p : Fin 1024) (q : Fin 1024), a (ix2 p q) = mA m c (ix2 ⟨t.val / 3 * 1024 + p.val, by have := lt_points t; have := p.isLt; omega⟩ q))
  (hb : ∀ (p : Fin 1024) (q : Fin 1024), b (ix2 p q) = mB m c (ix2 p ⟨t.val % 3 * 1024 + q.val, by have := lt_points t; have := q.isLt; omega⟩))

include ha hb in
/-- The blocks' product is the point's part of the whole product. -/
theorem block_dot (y : S1024x1024.Idx) (i : S8192x3072.Idx) (h0 : (i 0 : ℕ) = t.val / 3 * 1024 + y 0) (h1 : (i 1 : ℕ) = t.val % 3 * 1024 + y 1) :
    dot a b y = ∑ k : Fin 1024, term (mA m c) (mB m c) i k := by
  idx_vars y
  have b0 : y0.val < 1024 := y0.isLt
  have b1 : y1.val < 1024 := y1.isLt
  have e0 : i 0 = (⟨t.val / 3 * 1024 + y0.val, by have := lt_points t; omega⟩ : Fin 8192) := Fin.ext h0
  have e1 : i 1 = (⟨t.val % 3 * 1024 + y1.val, by have := lt_points t; omega⟩ : Fin 3072) := Fin.ext h1
  unfold term
  rw [e0, e1]
  refine Finset.sum_congr rfl fun k _ => ?_
  refine Ideal.mul_congr ((ha _ _).trans ?_) ((hb _ _).trans ?_) <;> rfl
end Block

theorem final : (dats m 0 c).arrAt 2 (cfgs 0).N = out (mA m c) (mB m c) := by
  refine (dats m 0 c).arrAt_eq_of_covers 2 _ (by decide +kernel) fun t _ y => ?_
  blk_simp
  rw [after0_2]
  frame_out
  refine (pay_at _ _ y).trans ?_
  unfold out
  refine block_dot m c t _ _ (fun p q => ?_) (fun p q => ?_) y _ ?_ ?_ <;>
    (first | blk_point [iblk, V, idx t] | (blk_simp [idx t] <;> try omega))

end Cert.ProjGlIdeal.Product

end
-- ==== Proof.ProjGlClaim.lean ====
/- The reference's product, read at an index, and the claims about the call. -/
module

public import proofs.«01_k».proof.Defs
public import proofs.«01_k».proof.Proof.ProjGlBlock
public import proofs.«01_k».proof.Proof.Gen.ProjGlReferenceIdeal.Read
public import proofs.«01_k».proof.Proof.Gen.ProjGlReferenceIdeal.Run
public import Idealize.ShloMosaic.Lib.Claim

@[expose] public section

set_option maxRecDepth 16384

noncomputable section

namespace Cert.ProjGlReferenceIdeal.Product

open Cert.ProjGlReferenceIdeal Cert.ProjGlReferenceIdeal.Gen Cert.ProjGlReferenceIdeal.Read Idealize.ShloMosaic Idealize.ShloMosaic.TcCoe Idealize.SL.Sem
open Cert.ProjGlIdeal.Product (out term)

theorem out_at (X0 : FVec Ideal S8192x1024 .bf16) (X1 : FVec Ideal S1024x3072 .bf16) : val_main_v3 (F := Ideal) X0 X1 = out X0 X1 := by
  funext i
  idx_vars i
  unfold out term
  pointwise! [val_main_v0, val_main_v1, val_main_v2, val_main_v3]

end Cert.ProjGlReferenceIdeal.Product

namespace Cert.ProjGlProof

open Idealize.ShloMosaic Idealize.SL.Sem

/-- The reference runs and leaves its arguments as they were. -/
theorem frame_reference : Cert.quiescent_ProjGlReferenceIdeal := by
  intro m g _
  exact (θ_run _ _ _).mono (fun r h => ⟨fun c => (h c).2, sem_eq_zero_of_no_sems (by decide) r.2⟩)
    (Cert.ProjGlReferenceIdeal.Value.run m g)

/-- Over the extended reals the kernel and the reference leave the same product. -/
theorem algebraic : Cert.algebraic_ProjGlIdeal_ProjGlReferenceIdeal := by
  intro m g m' g' _ hagree
  refine ⟨_, Cert.ProjGlIdeal.Value.run_blocks m g, ?_⟩
  refine (θ_run _ _ _).mono (fun r h c => ?_) (Cert.ProjGlReferenceIdeal.Value.run m' g')
  obtain ⟨h0, k⟩ := h c
  obtain ⟨a0, a1⟩ := hagree c
  refine ⟨h0.trans ?_, k⟩
  rw [Cert.ProjGlReferenceIdeal.Read.val_main_v3_eq, a0, a1]
  exact (Cert.ProjGlReferenceIdeal.Product.out_at _ _).trans (Cert.ProjGlIdeal.Product.final m c).symm

end Cert.ProjGlProof

end
-- ==== Proof.ProjQBlock.lean ====
/- A square projection rounded to bfloat16 (the queries', and the recurrent branch's and the attention's out-projections), tile by tile. -/
module

public import proofs.«01_k».proof.Proof.XaSums
public import proofs.«01_k».proof.Proof.Gen.ProjQIdeal.Skeleton
public import proofs.«01_k».proof.Proof.Gen.ProjQIdeal
public import proofs.«01_k».proof.Proof.Gen.ProjQIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.ProjQIdeal.Product

open Cert.ProjQIdeal Cert.ProjQIdeal.Gen Idealize.ShloMosaic Idealize.ShloMosaic.TcCoe Idealize.SL.Sem
open Idealize.ShloMosaic.Pipeline (Dat)

section Whole
variable (A : FVec Ideal S8192x1024 .bf16) (B : FVec Ideal S1024x1024 .bf16)

/-- The summand `k` of an entry of the product. -/
def term (i : S8192x1024.Idx) (k : Fin 1024) : EReal := A (ix2 (i 0) k) * B (ix2 k (i 1))
/-- The array that the call leaves. -/
def out : FVec Ideal S8192x1024 .bf16 := fun i => (∑ k : Fin 1024, term A B i k)
end Whole

section At
variable (a : FVec Ideal S1024x1024 .bf16) (b : FVec Ideal S1024x1024 .bf16) (acc : FVec Ideal S1024x1024 .f32)

/-- The product of two blocks at an entry. -/
abbrev dot (y : S1024x1024.Idx) : EReal := ∑ k : Fin 1024, a (ix2 (y 0) k) * b (ix2 k (y 1))

theorem pay_at (y : S1024x1024.Idx) : k0_pay1 (F := Ideal) a b y = dot a b y := by
  idx_vars y
  pointwise! [k0_pay1]
end At

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

abbrev mA : FVec Ideal S8192x1024 .bf16 := m ((c : Thread nD τ).loc main_arg0)
abbrev mB : FVec Ideal S1024x1024 .bf16 := m ((c : Thread nD τ).loc main_arg1)

theorem lt_points (t : Fin cfg0.N) : t.val < 8 := lt_of_lt_of_eq t.isLt N_0

section Block
variable (t : Fin cfg0.N) (a : FVec Ideal S1024x1024 .bf16) (b : FVec Ideal S1024x1024 .bf16)
  (ha : ∀ (p : Fin 1024) (q : Fin 1024), a (ix2 p q) = mA m c (ix2 ⟨t.val * 1024 + p.val, by have := lt_points t; have := p.isLt; omega⟩ q))
  (hb : ∀ (p : Fin 1024) (q : Fin 1024), b (ix2 p q) = mB m c (ix2 p q))

include ha hb in
/-- The blocks' product is the point's part of the whole product. -/
theorem block_dot (y : S1024x1024.Idx) (i : S8192x1024.Idx) (h0 : (i 0 : ℕ) = t.val * 1024 + y 0) (h1 : (i 1 : ℕ) = y 1) :
    dot a b y = ∑ k : Fin 1024, term (mA m c) (mB m c) i k := by
  idx_vars y
  have b0 : y0.val < 1024 := y0.isLt
  have b1 : y1.val < 1024 := y1.isLt
  have e0 : i 0 = (⟨t.val * 1024 + y0.val, by have := lt_points t; omega⟩ : Fin 8192) := Fin.ext h0
  have e1 : i 1 = y1 := Fin.ext h1
  unfold term
  rw [e0, e1]
  refine Finset.sum_congr rfl fun k _ => ?_
  refine Ideal.mul_congr ((ha _ _).trans ?_) ((hb _ _).trans ?_) <;> rfl
end Block

theorem final : (dats m 0 c).arrAt 2 (cfgs 0).N = out (mA m c) (mB m c) := by
  refine (dats m 0 c).arrAt_eq_of_covers 2 _ (by decide +kernel) fun t _ y => ?_
  blk_simp
  rw [after0_2]
  frame_out
  refine (pay_at _ _ y).trans ?_
  unfold out
  refine block_dot m c t _ _ (fun p q => ?_) (fun p q => ?_) y _ ?_ ?_ <;>
    (first | blk_point [iblk, V, idx t] | (blk_simp [idx t] <;> try omega))

end Cert.ProjQIdeal.Product

end
-- ==== Proof.ProjQClaim.lean ====
/- The reference's product, read at an index, and the claims about the call. -/
module

public import proofs.«01_k».proof.Defs
public import proofs.«01_k».proof.Proof.ProjQBlock
public import proofs.«01_k».proof.Proof.Gen.ProjQReferenceIdeal.Read
public import proofs.«01_k».proof.Proof.Gen.ProjQReferenceIdeal.Run
public import Idealize.ShloMosaic.Lib.Claim

@[expose] public section

set_option maxRecDepth 16384

noncomputable section

namespace Cert.ProjQReferenceIdeal.Product

open Cert.ProjQReferenceIdeal Cert.ProjQReferenceIdeal.Gen Cert.ProjQReferenceIdeal.Read Idealize.ShloMosaic Idealize.ShloMosaic.TcCoe Idealize.SL.Sem
open Cert.ProjQIdeal.Product (out term)

theorem out_at (X0 : FVec Ideal S8192x1024 .bf16) (X1 : FVec Ideal S1024x1024 .bf16) : val_main_v3 (F := Ideal) X0 X1 = out X0 X1 := by
  funext i
  idx_vars i
  unfold out term
  pointwise! [val_main_v0, val_main_v1, val_main_v2, val_main_v3]

end Cert.ProjQReferenceIdeal.Product

namespace Cert.ProjQProof

open Idealize.ShloMosaic Idealize.SL.Sem

/-- The reference runs and leaves its arguments as they were. -/
theorem frame_reference : Cert.quiescent_ProjQReferenceIdeal := by
  intro m g _
  exact (θ_run _ _ _).mono (fun r h => ⟨fun c => (h c).2, sem_eq_zero_of_no_sems (by decide) r.2⟩)
    (Cert.ProjQReferenceIdeal.Value.run m g)

/-- Over the extended reals the kernel and the reference leave the same product. -/
theorem algebraic : Cert.algebraic_ProjQIdeal_ProjQReferenceIdeal := by
  intro m g m' g' _ hagree
  refine ⟨_, Cert.ProjQIdeal.Value.run_blocks m g, ?_⟩
  refine (θ_run _ _ _).mono (fun r h c => ?_) (Cert.ProjQReferenceIdeal.Value.run m' g')
  obtain ⟨h0, k⟩ := h c
  obtain ⟨a0, a1⟩ := hagree c
  refine ⟨h0.trans ?_, k⟩
  rw [Cert.ProjQReferenceIdeal.Read.val_main_v3_eq, a0, a1]
  exact (Cert.ProjQReferenceIdeal.Product.out_at _ _).trans (Cert.ProjQIdeal.Product.final m c).symm

end Cert.ProjQProof

end
-- ==== Proof.BrSsdBlock.lean ====
/- The state-space branch's out-projection, tile by tile. -/
module

public import proofs.«01_k».proof.Proof.XaSums
public import proofs.«01_k».proof.Proof.Gen.BrSsdIdeal.Skeleton
public import proofs.«01_k».proof.Proof.Gen.BrSsdIdeal
public import proofs.«01_k».proof.Proof.Gen.BrSsdIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.BrSsdIdeal.Product

open Cert.BrSsdIdeal Cert.BrSsdIdeal.Gen Idealize.ShloMosaic Idealize.ShloMosaic.TcCoe Idealize.SL.Sem
open Idealize.ShloMosaic.Pipeline (Dat)

section Whole
variable (A : FVec Ideal S8192x2048 .bf16) (B : FVec Ideal S2048x1024 .bf16)

/-- The summand `k` of an entry of the product. -/
def term (i : S8192x1024.Idx) (k : Fin 2048) : EReal := A (ix2 (i 0) k) * B (ix2 k (i 1))
/-- The array that the call leaves. -/
def out : FVec Ideal S8192x1024 .bf16 := fun i => (∑ k : Fin 2048, term A B i k)
end Whole

section At
variable (a : FVec Ideal S1024x2048 .bf16) (b : FVec Ideal S2048x1024 .bf16) (acc : FVec Ideal S1024x1024 .f32)

/-- The product of two blocks at an entry. -/
abbrev dot (y : S1024x1024.Idx) : EReal := ∑ k : Fin 2048, a (ix2 (y 0) k) * b (ix2 k (y 1))

theorem pay_at (y : S1024x1024.Idx) : k0_pay1 (F := Ideal) a b y = dot a b y := by
  idx_vars y
  pointwise! [k0_pay1]
end At

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

abbrev mA : FVec Ideal S8192x2048 .bf16 := m ((c : Thread nD τ).loc main_arg0)
abbrev mB : FVec Ideal S2048x1024 .bf16 := m ((c : Thread nD τ).loc main_arg1)

theorem lt_points (t : Fin cfg0.N) : t.val < 8 := lt_of_lt_of_eq t.isLt N_0

section Block
variable (t : Fin cfg0.N) (a : FVec Ideal S1024x2048 .bf16) (b : FVec Ideal S2048x1024 .bf16)
  (ha : ∀ (p : Fin 1024) (q : Fin 2048), a (ix2 p q) = mA m c (ix2 ⟨t.val * 1024 + p.val, by have := lt_points t; have := p.isLt; omega⟩ q))
  (hb : ∀ (p : Fin 2048) (q : Fin 1024), b (ix2 p q) = mB m c (ix2 p q))

include ha hb in
/-- The blocks' product is the point's part of the whole product. -/
theorem block_dot (y : S1024x1024.Idx) (i : S8192x1024.Idx) (h0 : (i 0 : ℕ) = t.val * 1024 + y 0) (h1 : (i 1 : ℕ) = y 1) :
    dot a b y = ∑ k : Fin 2048, term (mA m c) (mB m c) i k := by
  idx_vars y
  have b0 : y0.val < 1024 := y0.isLt
  have b1 : y1.val < 1024 := y1.isLt
  have e0 : i 0 = (⟨t.val * 1024 + y0.val, by have := lt_points t; omega⟩ : Fin 8192) := Fin.ext h0
  have e1 : i 1 = y1 := Fin.ext h1
  unfold term
  rw [e0, e1]
  refine Finset.sum_congr rfl fun k _ => ?_
  refine Ideal.mul_congr ((ha _ _).trans ?_) ((hb _ _).trans ?_) <;> rfl
end Block

theorem final : (dats m 0 c).arrAt 2 (cfgs 0).N = out (mA m c) (mB m c) := by
  refine (dats m 0 c).arrAt_eq_of_covers 2 _ (by decide +kernel) fun t _ y => ?_
  blk_simp
  rw [after0_2]
  frame_out
  refine (pay_at _ _ y).trans ?_
  unfold out
  refine block_dot m c t _ _ (fun p q => ?_) (fun p q => ?_) y _ ?_ ?_ <;>
    (first | blk_point [iblk, V, idx t] | (blk_simp [idx t] <;> try omega))

end Cert.BrSsdIdeal.Product

end
-- ==== Proof.BrSsdClaim.lean ====
/- The reference's product, read at an index, and the claims about the call. -/
module

public import proofs.«01_k».proof.Defs
public import proofs.«01_k».proof.Proof.BrSsdBlock
public import proofs.«01_k».proof.Proof.Gen.BrSsdReferenceIdeal.Read
public import proofs.«01_k».proof.Proof.Gen.BrSsdReferenceIdeal.Run
public import Idealize.ShloMosaic.Lib.Claim

@[expose] public section

set_option maxRecDepth 16384

noncomputable section

namespace Cert.BrSsdReferenceIdeal.Product

open Cert.BrSsdReferenceIdeal Cert.BrSsdReferenceIdeal.Gen Cert.BrSsdReferenceIdeal.Read Idealize.ShloMosaic Idealize.ShloMosaic.TcCoe Idealize.SL.Sem
open Cert.BrSsdIdeal.Product (out term)

theorem out_at (X0 : FVec Ideal S8192x2048 .bf16) (X1 : FVec Ideal S2048x1024 .bf16) : val_main_v3 (F := Ideal) X0 X1 = out X0 X1 := by
  funext i
  idx_vars i
  unfold out term
  pointwise! [val_main_v0, val_main_v1, val_main_v2, val_main_v3]

end Cert.BrSsdReferenceIdeal.Product

namespace Cert.BrSsdProof

open Idealize.ShloMosaic Idealize.SL.Sem

/-- The reference runs and leaves its arguments as they were. -/
theorem frame_reference : Cert.quiescent_BrSsdReferenceIdeal := by
  intro m g _
  exact (θ_run _ _ _).mono (fun r h => ⟨fun c => (h c).2, sem_eq_zero_of_no_sems (by decide) r.2⟩)
    (Cert.BrSsdReferenceIdeal.Value.run m g)

/-- Over the extended reals the kernel and the reference leave the same product. -/
theorem algebraic : Cert.algebraic_BrSsdIdeal_BrSsdReferenceIdeal := by
  intro m g m' g' _ hagree
  refine ⟨_, Cert.BrSsdIdeal.Value.run_blocks m g, ?_⟩
  refine (θ_run _ _ _).mono (fun r h c => ?_) (Cert.BrSsdReferenceIdeal.Value.run m' g')
  obtain ⟨h0, k⟩ := h c
  obtain ⟨a0, a1⟩ := hagree c
  refine ⟨h0.trans ?_, k⟩
  rw [Cert.BrSsdReferenceIdeal.Read.val_main_v3_eq, a0, a1]
  exact (Cert.BrSsdReferenceIdeal.Product.out_at _ _).trans (Cert.BrSsdIdeal.Product.final m c).symm

end Cert.BrSsdProof

end
-- ==== Proof.OutProjBlock.lean ====
/- The mixer's out-projection, tile by tile. -/
module

public import proofs.«01_k».proof.Proof.XaSums
public import proofs.«01_k».proof.Proof.Gen.OutProjIdeal.Skeleton
public import proofs.«01_k».proof.Proof.Gen.OutProjIdeal
public import proofs.«01_k».proof.Proof.Gen.OutProjIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.OutProjIdeal.Product

open Cert.OutProjIdeal Cert.OutProjIdeal.Gen Idealize.ShloMosaic Idealize.ShloMosaic.TcCoe Idealize.SL.Sem
open Idealize.ShloMosaic.Pipeline (Dat)

section Whole
variable (A : FVec Ideal S8192x1024 .bf16) (B : FVec Ideal S1024x1024 .bf16)

/-- The summand `k` of an entry of the product. -/
def term (i : S8192x1024.Idx) (k : Fin 1024) : EReal := A (ix2 (i 0) k) * B (ix2 k (i 1))
/-- The array that the call leaves. -/
def out : FVec Ideal S8192x1024 .f32 := fun i => (∑ k : Fin 1024, term A B i k)
end Whole

section At
variable (a : FVec Ideal S1024x1024 .bf16) (b : FVec Ideal S1024x1024 .bf16) (acc : FVec Ideal S1024x1024 .f32)

/-- The product of two blocks at an entry. -/
abbrev dot (y : S1024x1024.Idx) : EReal := ∑ k : Fin 1024, a (ix2 (y 0) k) * b (ix2 k (y 1))

theorem pay_at (y : S1024x1024.Idx) : k0_pay1 (F := Ideal) a b y = dot a b y := by
  idx_vars y
  pointwise! [k0_pay1]
end At

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

abbrev mA : FVec Ideal S8192x1024 .bf16 := m ((c : Thread nD τ).loc main_arg0)
abbrev mB : FVec Ideal S1024x1024 .bf16 := m ((c : Thread nD τ).loc main_arg1)

theorem lt_points (t : Fin cfg0.N) : t.val < 8 := lt_of_lt_of_eq t.isLt N_0

section Block
variable (t : Fin cfg0.N) (a : FVec Ideal S1024x1024 .bf16) (b : FVec Ideal S1024x1024 .bf16)
  (ha : ∀ (p : Fin 1024) (q : Fin 1024), a (ix2 p q) = mA m c (ix2 ⟨t.val * 1024 + p.val, by have := lt_points t; have := p.isLt; omega⟩ q))
  (hb : ∀ (p : Fin 1024) (q : Fin 1024), b (ix2 p q) = mB m c (ix2 p q))

include ha hb in
/-- The blocks' product is the point's part of the whole product. -/
theorem block_dot (y : S1024x1024.Idx) (i : S8192x1024.Idx) (h0 : (i 0 : ℕ) = t.val * 1024 + y 0) (h1 : (i 1 : ℕ) = y 1) :
    dot a b y = ∑ k : Fin 1024, term (mA m c) (mB m c) i k := by
  idx_vars y
  have b0 : y0.val < 1024 := y0.isLt
  have b1 : y1.val < 1024 := y1.isLt
  have e0 : i 0 = (⟨t.val * 1024 + y0.val, by have := lt_points t; omega⟩ : Fin 8192) := Fin.ext h0
  have e1 : i 1 = y1 := Fin.ext h1
  unfold term
  rw [e0, e1]
  refine Finset.sum_congr rfl fun k _ => ?_
  refine Ideal.mul_congr ((ha _ _).trans ?_) ((hb _ _).trans ?_) <;> rfl
end Block

theorem final : (dats m 0 c).arrAt 2 (cfgs 0).N = out (mA m c) (mB m c) := by
  refine (dats m 0 c).arrAt_eq_of_covers 2 _ (by decide +kernel) fun t _ y => ?_
  blk_simp
  rw [after0_2]
  frame_out
  refine (pay_at _ _ y).trans ?_
  unfold out
  refine block_dot m c t _ _ (fun p q => ?_) (fun p q => ?_) y _ ?_ ?_ <;>
    (first | blk_point [iblk, V, idx t] | (blk_simp [idx t] <;> try omega))

end Cert.OutProjIdeal.Product

end
-- ==== Proof.OutProjClaim.lean ====
/- The reference's product, read at an index, and the claims about the call. -/
module

public import proofs.«01_k».proof.Defs
public import proofs.«01_k».proof.Proof.OutProjBlock
public import proofs.«01_k».proof.Proof.Gen.OutProjReferenceIdeal.Read
public import proofs.«01_k».proof.Proof.Gen.OutProjReferenceIdeal.Run
public import Idealize.ShloMosaic.Lib.Claim

@[expose] public section

set_option maxRecDepth 16384

noncomputable section

namespace Cert.OutProjReferenceIdeal.Product

open Cert.OutProjReferenceIdeal Cert.OutProjReferenceIdeal.Gen Cert.OutProjReferenceIdeal.Read Idealize.ShloMosaic Idealize.ShloMosaic.TcCoe Idealize.SL.Sem
open Cert.OutProjIdeal.Product (out term)

theorem out_at (X0 : FVec Ideal S8192x1024 .bf16) (X1 : FVec Ideal S1024x1024 .bf16) : val_main_v2 (F := Ideal) X0 X1 = out X0 X1 := by
  funext i
  idx_vars i
  unfold out term
  pointwise! [val_main_v0, val_main_v1, val_main_v2]

end Cert.OutProjReferenceIdeal.Product

namespace Cert.OutProjProof

open Idealize.ShloMosaic Idealize.SL.Sem

/-- The reference runs and leaves its arguments as they were. -/
theorem frame_reference : Cert.quiescent_OutProjReferenceIdeal := by
  intro m g _
  exact (θ_run _ _ _).mono (fun r h => ⟨fun c => (h c).2, sem_eq_zero_of_no_sems (by decide) r.2⟩)
    (Cert.OutProjReferenceIdeal.Value.run m g)

/-- Over the extended reals the kernel and the reference leave the same product. -/
theorem algebraic : Cert.algebraic_OutProjIdeal_OutProjReferenceIdeal := by
  intro m g m' g' _ hagree
  refine ⟨_, Cert.OutProjIdeal.Value.run_blocks m g, ?_⟩
  refine (θ_run _ _ _).mono (fun r h c => ?_) (Cert.OutProjReferenceIdeal.Value.run m' g')
  obtain ⟨h0, k⟩ := h c
  obtain ⟨a0, a1⟩ := hagree c
  refine ⟨h0.trans ?_, k⟩
  rw [Cert.OutProjReferenceIdeal.Read.val_main_v2_eq, a0, a1]
  exact (Cert.OutProjReferenceIdeal.Product.out_at _ _).trans (Cert.OutProjIdeal.Product.final m c).symm

end Cert.OutProjProof

end
-- ==== Proof.FfnDownBlock.lean ====
/- The feed-forward block's down projection, tile by tile. -/
module

public import proofs.«01_k».proof.Proof.XaSums
public import proofs.«01_k».proof.Proof.Gen.FfnDownIdeal.Skeleton
public import proofs.«01_k».proof.Proof.Gen.FfnDownIdeal
public import proofs.«01_k».proof.Proof.Gen.FfnDownIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.FfnDownIdeal.Product

open Cert.FfnDownIdeal Cert.FfnDownIdeal.Gen Idealize.ShloMosaic Idealize.ShloMosaic.TcCoe Idealize.SL.Sem
open Idealize.ShloMosaic.Pipeline (Dat)

section Whole
variable (A : FVec Ideal S8192x2816 .bf16) (B : FVec Ideal S2816x1024 .bf16)

/-- The summand `k` of an entry of the product. -/
def term (i : S8192x1024.Idx) (k : Fin 2816) : EReal := A (ix2 (i 0) k) * B (ix2 k (i 1))
/-- The array that the call leaves. -/
def out : FVec Ideal S8192x1024 .f32 := fun i => (∑ k : Fin 2816, term A B i k)
end Whole

section At
variable (a : FVec Ideal S1024x2816 .bf16) (b : FVec Ideal S2816x1024 .bf16) (acc : FVec Ideal S1024x1024 .f32)

/-- The product of two blocks at an entry. -/
abbrev dot (y : S1024x1024.Idx) : EReal := ∑ k : Fin 2816, a (ix2 (y 0) k) * b (ix2 k (y 1))

theorem pay_at (y : S1024x1024.Idx) : k0_pay1 (F := Ideal) a b y = dot a b y := by
  idx_vars y
  pointwise! [k0_pay1]
end At

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

abbrev mA : FVec Ideal S8192x2816 .bf16 := m ((c : Thread nD τ).loc main_arg0)
abbrev mB : FVec Ideal S2816x1024 .bf16 := m ((c : Thread nD τ).loc main_arg1)

theorem lt_points (t : Fin cfg0.N) : t.val < 8 := lt_of_lt_of_eq t.isLt N_0

section Block
variable (t : Fin cfg0.N) (a : FVec Ideal S1024x2816 .bf16) (b : FVec Ideal S2816x1024 .bf16)
  (ha : ∀ (p : Fin 1024) (q : Fin 2816), a (ix2 p q) = mA m c (ix2 ⟨t.val * 1024 + p.val, by have := lt_points t; have := p.isLt; omega⟩ q))
  (hb : ∀ (p : Fin 2816) (q : Fin 1024), b (ix2 p q) = mB m c (ix2 p q))

include ha hb in
/-- The blocks' product is the point's part of the whole product. -/
theorem block_dot (y : S1024x1024.Idx) (i : S8192x1024.Idx) (h0 : (i 0 : ℕ) = t.val * 1024 + y 0) (h1 : (i 1 : ℕ) = y 1) :
    dot a b y = ∑ k : Fin 2816, term (mA m c) (mB m c) i k := by
  idx_vars y
  have b0 : y0.val < 1024 := y0.isLt
  have b1 : y1.val < 1024 := y1.isLt
  have e0 : i 0 = (⟨t.val * 1024 + y0.val, by have := lt_points t; omega⟩ : Fin 8192) := Fin.ext h0
  have e1 : i 1 = y1 := Fin.ext h1
  unfold term
  rw [e0, e1]
  refine Finset.sum_congr rfl fun k _ => ?_
  refine Ideal.mul_congr ((ha _ _).trans ?_) ((hb _ _).trans ?_) <;> rfl
end Block

theorem final : (dats m 0 c).arrAt 2 (cfgs 0).N = out (mA m c) (mB m c) := by
  refine (dats m 0 c).arrAt_eq_of_covers 2 _ (by decide +kernel) fun t _ y => ?_
  blk_simp
  rw [after0_2]
  frame_out
  refine (pay_at _ _ y).trans ?_
  unfold out
  refine block_dot m c t _ _ (fun p q => ?_) (fun p q => ?_) y _ ?_ ?_ <;>
    (first | blk_point [iblk, V, idx t] | (blk_simp [idx t] <;> try omega))

end Cert.FfnDownIdeal.Product

end
-- ==== Proof.FfnDownClaim.lean ====
/- The reference's product, read at an index, and the claims about the call. -/
module

public import proofs.«01_k».proof.Defs
public import proofs.«01_k».proof.Proof.FfnDownBlock
public import proofs.«01_k».proof.Proof.Gen.FfnDownReferenceIdeal.Read
public import proofs.«01_k».proof.Proof.Gen.FfnDownReferenceIdeal.Run
public import Idealize.ShloMosaic.Lib.Claim

@[expose] public section

set_option maxRecDepth 16384

noncomputable section

namespace Cert.FfnDownReferenceIdeal.Product

open Cert.FfnDownReferenceIdeal Cert.FfnDownReferenceIdeal.Gen Cert.FfnDownReferenceIdeal.Read Idealize.ShloMosaic Idealize.ShloMosaic.TcCoe Idealize.SL.Sem
open Cert.FfnDownIdeal.Product (out term)

theorem out_at (X0 : FVec Ideal S8192x2816 .bf16) (X1 : FVec Ideal S2816x1024 .bf16) : val_main_v2 (F := Ideal) X0 X1 = out X0 X1 := by
  funext i
  idx_vars i
  unfold out term
  pointwise! [val_main_v0, val_main_v1, val_main_v2]

end Cert.FfnDownReferenceIdeal.Product

namespace Cert.FfnDownProof

open Idealize.ShloMosaic Idealize.SL.Sem

/-- The reference runs and leaves its arguments as they were. -/
theorem frame_reference : Cert.quiescent_FfnDownReferenceIdeal := by
  intro m g _
  exact (θ_run _ _ _).mono (fun r h => ⟨fun c => (h c).2, sem_eq_zero_of_no_sems (by decide) r.2⟩)
    (Cert.FfnDownReferenceIdeal.Value.run m g)

/-- Over the extended reals the kernel and the reference leave the same product. -/
theorem algebraic : Cert.algebraic_FfnDownIdeal_FfnDownReferenceIdeal := by
  intro m g m' g' _ hagree
  refine ⟨_, Cert.FfnDownIdeal.Value.run_blocks m g, ?_⟩
  refine (θ_run _ _ _).mono (fun r h c => ?_) (Cert.FfnDownReferenceIdeal.Value.run m' g')
  obtain ⟨h0, k⟩ := h c
  obtain ⟨a0, a1⟩ := hagree c
  refine ⟨h0.trans ?_, k⟩
  rw [Cert.FfnDownReferenceIdeal.Read.val_main_v2_eq, a0, a1]
  exact (Cert.FfnDownReferenceIdeal.Product.out_at _ _).trans (Cert.FfnDownIdeal.Product.final m c).symm

end Cert.FfnDownProof

end
-- ==== Proof.XaFwdBlock.lean ====
/- The memory attention: what the body computes from one block of 512 queries, head by head, and the array that the kernel leaves. -/
module

public import proofs.«01_k».proof.Proof.Softmax
public import proofs.«01_k».proof.Proof.Gen.XaFwdIdeal.Skeleton
public import proofs.«01_k».proof.Proof.Gen.XaFwdIdeal
public import proofs.«01_k».proof.Proof.Gen.XaFwdIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.XaFwdIdeal.Xa

open Cert.XaFwdIdeal Cert.XaFwdIdeal.Gen Idealize.ShloMosaic Idealize.ShloMosaic.TcCoe Idealize.SL.Sem
open Idealize.ShloMosaic.Pipeline (Dat)

/-! ## One head of one block -/

/-- The scaled scores of the block's queries. -/
def scores (q : FVec Ideal S512x256 .bf16) (k : FVec Ideal S256x256 .f32) : FVec Ideal S512x256 .f32 :=
  mulf (matmul dot_S512x256_S256x256_S512x256_1_1_0_0_n_n none q (truncf .bf16 k bitsLt_bf16_f32)
    (constant S512x256 .f32 0x00000000#32)) (broadcast S512x256 (Scalar.ofBits .f32 0x3D800000#32))

/-- Each score's exponential, below the largest score of its row. -/
def expos (s : FVec Ideal S512x256 .f32) : FVec Ideal S512x256 .f32 :=
  exp (subf s (broadcastTo S512x256 (shapeCast S512x1
    (multiReduction .maximumf [1] S512 s 0xFF800000#32 reduces_S512x256_S512 (.inl rfl) rfl) shapeCasts_S512_S512x1)
    broadcasts_S512x1_S512x256))

/-- The probabilities. -/
def probs (e : FVec Ideal S512x256 .f32) : FVec Ideal S512x256 .f32 :=
  divf e (broadcastTo S512x256 (shapeCast S512x1
    (multiReduction .add [1] S512 e 0x00000000#32 reduces_S512x256_S512 (.inl rfl) rfl) shapeCasts_S512_S512x1)
    broadcasts_S512x1_S512x256)

/-- The head's result. -/
def attend (q : FVec Ideal S512x256 .bf16) (k v : FVec Ideal S256x256 .f32) : FVec Ideal S512x256 .bf16 :=
  truncf .bf16 (matmul dot_S512x256_S256x256_S512x256_1_0_0_1_n_n none (truncf .bf16 (probs (expos (scores q k))) bitsLt_bf16_f32)
    (truncf .bf16 v bitsLt_bf16_f32) (constant S512x256 .f32 0x00000000#32)) bitsLt_bf16_f32

/-- The four heads' queries. -/
def head (h : Fin 4) (x : FVec Ideal S512x1024 .bf16) : FVec Ideal S512x256 .bf16 := match h with
  | 0 => extractStridedSlice S512x256 ![0, 0] x slices_S512x1024_o0_0_S512x256
  | 1 => extractStridedSlice S512x256 ![0, 256] x slices_S512x1024_o0_256_S512x256
  | 2 => extractStridedSlice S512x256 ![0, 512] x slices_S512x1024_o0_512_S512x256
  | 3 => extractStridedSlice S512x256 ![0, 768] x slices_S512x1024_o0_768_S512x256

section Payloads
variable (x : FVec Ideal S512x1024 .bf16) (k v : FVec Ideal S256x256 .f32)

theorem out0 : k0_pay2 x k v = attend (head 0 x) k v := rfl
theorem out1 : k0_pay5 v (k0_pay3 x k) (k0_pay4 x k) = attend (head 1 x) k v := rfl
theorem out2 : k0_pay6 x k v = attend (head 2 x) k v := rfl
theorem out3 : k0_pay1 v (k0_pay7 x k) (k0_pay8 x k) = attend (head 3 x) k v := rfl
end Payloads

/-- The scaled scores of one query. -/
abbrev sRow (q : Fin 256 → EReal) (k : Fin 256 → Fin 256 → EReal) (j : Fin 256) : EReal :=
  (∑ d, q d * k j d) * Ideal.ofBits .f32 0x3D800000#32

section At
variable (q : FVec Ideal S512x256 .bf16) (k v : FVec Ideal S256x256 .f32)

theorem scores_at (r : Fin 512) (j : Fin 256) : scores q k (ix2 r j) = sRow (fun d => q (ix2 r d)) (fun i d => k (ix2 i d)) j := by
  pointwise! [scores]

theorem expos_at (s : FVec Ideal S512x256 .f32) (r : Fin 512) (j : Fin 256) :
    expos s (ix2 r j) = Cert.Softmax.expo (fun j => s (ix2 r j)) j := by
  unfold Cert.Softmax.expo Cert.Softmax.peak
  pointwise! [expos]

theorem probs_at (e : FVec Ideal S512x256 .f32) (r : Fin 512) (j : Fin 256) :
    probs e (ix2 r j) = Ideal.div (e (ix2 r j)) (∑ i : Fin 256, e (ix2 r i)) := by
  pointwise! [probs]

theorem attend_at (r : Fin 512) (d : Fin 256) : attend q k v (ix2 r d)
    = ∑ j : Fin 256, Cert.Softmax.prob (sRow (fun d => q (ix2 r d)) (fun i d => k (ix2 i d))) j * v (ix2 j d) := by
  unfold Cert.Softmax.prob
  pointwise! [attend, probs_at, expos_at, scores_at]

theorem head_at (h : Fin 4) (x : FVec Ideal S512x1024 .bf16) (r : Fin 512) (d : Fin 256) :
    head h x (ix2 r d) = x (ix2 r ⟨h.val * 256 + d.val, by omega⟩) := by
  fin_cases h <;> pointwise! [head]
end At

/-! ## The whole array -/

section Whole
variable (Q : FVec Ideal S8192x1024 .bf16) (KV : FVec Ideal S256x2048 .f32)

/-- The scaled scores of query `r` in head `h`. -/
def score (h : Fin 4) (r : Fin 8192) : Fin 256 → EReal :=
  sRow (fun d => Q (ix2 r ⟨h.val * 256 + d.val, by omega⟩)) (fun j d => KV (ix2 j ⟨h.val * 256 + d.val, by omega⟩))

/-- Head `h`'s result. -/
def outAt (h : Fin 4) (r : Fin 8192) (d : Fin 256) : EReal :=
  ∑ j : Fin 256, Cert.Softmax.prob (score Q KV h r) j * KV (ix2 j ⟨1024 + (h.val * 256 + d.val), by omega⟩)

def attention : FVec Ideal S8192x1024 .bf16 := fun i =>
  outAt Q KV ⟨(i 1 : ℕ) / 256, by have h : (i 1 : ℕ) < 1024 := (i 1).isLt; omega⟩ (i 0) ⟨(i 1 : ℕ) % 256, by omega⟩

theorem attention_at (h : Fin 4) (r : Fin 8192) (d : Fin 256) (i : S8192x1024.Idx) (h0 : (i 0 : ℕ) = r) (h1 : (i 1 : ℕ) = h.val * 256 + d.val) :
    attention Q KV i = outAt Q KV h r d := by
  unfold attention
  congr 1 <;> (apply Fin.ext; simp only []; omega)
end Whole

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

abbrev mQ : FVec Ideal S8192x1024 .bf16 := m ((c : Thread nD τ).loc main_arg0)
abbrev mKV : FVec Ideal S256x2048 .f32 := m ((c : Thread nD τ).loc main_arg1)

section Block
variable (t : Fin cfg0.N) (h : Fin 4) (k v : FVec Ideal S256x256 .f32)
  (hk : ∀ j d : Fin 256, k (ix2 j d) = mKV m c (ix2 j ⟨h.val * 256 + d.val, by omega⟩))
  (hv : ∀ j d : Fin 256, v (ix2 j d) = mKV m c (ix2 j ⟨1024 + (h.val * 256 + d.val), by omega⟩))

theorem blkQ (r : Fin 512) (d : Fin 1024) :
    (show FVec Ideal S512x1024 .bf16 from iblk m c 0 t) (ix2 r d)
      = mQ m c (ix2 ⟨t.val * 512 + r.val, by have := lt_of_lt_of_eq t.isLt N_0; omega⟩ d) := by
  blk_point [iblk, V, idx t]

include hk hv in
theorem block (x : S512x256.Idx) (i : S8192x1024.Idx) (h0 : (i 0 : ℕ) = t.val * 512 + x 0) (h1 : (i 1 : ℕ) = h.val * 256 + x 1) :
    attend (head h (iblk m c 0 t)) k v x = attention (mQ m c) (mKV m c) i := by
  idx_vars x
  rw [attention_at _ _ h ⟨t.val * 512 + x0.val, by have := lt_of_lt_of_eq t.isLt N_0; have : x0.val < 512 := x0.isLt; omega⟩ _ i h0 h1, attend_at]
  simp only [head_at, blkQ, hk, hv]
  rfl
end Block

theorem final : (dats m 0 c).arrAt 2 (cfgs 0).N = attention (mQ m c) (mKV m c) := by
  refine (dats m 0 c).arrAt_eq_of_covers 2 _ (by decide +kernel) fun t _ y => ?_
  blk_simp
  rw [after0_2]
  unfold out0_2
  frame_out
  canon_tiles x h
  · rw [out3]; refine block m c t 3 _ _ (fun j d => ?_) (fun j d => ?_) x _ ?_ ?_ <;> (first | blk_point [iblk, V, idx t] | (blk_simp [idx t] <;> try omega))
  · rw [out2]; refine block m c t 2 _ _ (fun j d => ?_) (fun j d => ?_) x _ ?_ ?_ <;> (first | blk_point [iblk, V, idx t] | (blk_simp [idx t] <;> try omega))
  · rw [out1]; refine block m c t 1 _ _ (fun j d => ?_) (fun j d => ?_) x _ ?_ ?_ <;> (first | blk_point [iblk, V, idx t] | (blk_simp [idx t] <;> try omega))
  · rw [out0]; refine block m c t 0 _ _ (fun j d => ?_) (fun j d => ?_) x _ ?_ ?_ <;> (first | blk_point [iblk, V, idx t] | (blk_simp [idx t] <;> try omega))

end Cert.XaFwdIdeal.Xa

end
-- ==== Proof.XaFwdClaim.lean ====
/- The reference's attention, read at an index, and the claims about the call. -/
module

public import proofs.«01_k».proof.Defs
public import proofs.«01_k».proof.Proof.XaFwdBlock
public import proofs.«01_k».proof.Proof.Gen.XaFwdReferenceIdeal.Read
public import proofs.«01_k».proof.Proof.Gen.XaFwdReferenceIdeal.Run
public import Idealize.ShloMosaic.Lib.Claim

@[expose] public section

set_option maxRecDepth 16384

noncomputable section

namespace Cert.XaFwdReferenceIdeal.Xa

open Cert.XaFwdReferenceIdeal Cert.XaFwdReferenceIdeal.Gen Cert.XaFwdReferenceIdeal.Read Idealize.ShloMosaic Idealize.ShloMosaic.TcCoe Idealize.SL.Sem
open Cert.XaFwdIdeal.Xa (score outAt attention attention_at)

variable (Q : FVec Ideal S8192x1024 .bf16) (KV : FVec Ideal S256x2048 .f32)

theorem score_at (h : Fin 4) (r : Fin 8192) (j : Fin 256) : val_main_v8 (F := Ideal) Q KV (ix3 h r j) = score Q KV h r j := by
  unfold score Cert.XaFwdIdeal.Xa.sRow
  pointwise [val_main_v8, val_main_v7, val_main_cst, val_main_v6, val_main_v4, val_main_v3, val_main_v1, val_main_v0]
  blk_ext

theorem max_at (x : FVec Ideal S4x8192x256 .f32) (h : Fin 4) (r : Fin 8192) :
    Host.reduce FloatOps.maximumf x (val_main_cst_0 (F := Ideal)) reducesTo_S4x8192x256_S4x8192_d2 h_S_ (ix2 h r)
      = Cert.Softmax.peak (fun j : Fin 256 => x (ix3 h r j)) := by
  unfold Cert.Softmax.peak
  pointwise [val_main_cst_0]

theorem peak_at (h : Fin 4) (r : Fin 8192) : val_main_v11 (F := Ideal) Q KV (ix2 h r) = Cert.Softmax.peak (score Q KV h r) := by
  have e : val_main_v9 (F := Ideal) Q KV (ix2 h r) = Cert.Softmax.peak (score Q KV h r) := by
    unfold val_main_v9
    rw [max_at]
    exact congrArg Cert.Softmax.peak (funext fun j => score_at Q KV h r j)
  have e' : val_main_v10 (F := Ideal) (ix2 h r) = (⊥ : EReal) := by
    rw [val_main_v10_apply, val_main_cst_1_apply]
    exact Cert.Softmax.ofBits_negInf
  rw [val_main_v11_apply, e, e']
  exact max_eq_right bot_le

theorem expo_at (h : Fin 4) (r : Fin 8192) (j : Fin 256) :
    val_main_v15 (F := Ideal) Q KV (ix3 h r j) = Cert.Softmax.expo (score Q KV h r) j := by
  unfold Cert.Softmax.expo
  pointwise! [val_main_v15, val_main_v14, val_main_v13, val_main_v12, score_at, peak_at]

theorem prob_at (h : Fin 4) (r : Fin 8192) (j : Fin 256) :
    val_main_v19 (F := Ideal) Q KV (ix3 h r j) = Cert.Softmax.prob (score Q KV h r) j := by
  unfold Cert.Softmax.prob
  pointwise! [val_main_v19, val_main_v18, val_main_v17, val_main_v16, val_main_cst_2, expo_at]

theorem value_at (h : Fin 4) (j d : Fin 256) :
    val_main_v5 (F := Ideal) KV (ix3 j h d) = KV (ix2 j ⟨1024 + (h.val * 256 + d.val), by omega⟩) := by
  pointwise [val_main_v5, val_main_v2]
  blk_ext

theorem out_at (h : Fin 4) (r : Fin 8192) (d : Fin 256) : val_main_v20 (F := Ideal) Q KV (ix3 h d r) = outAt Q KV h r d := by
  unfold outAt
  refine (?_ : _ = ∑ j : Fin 256, val_main_v5 (F := Ideal) KV (ix3 j h d) * val_main_v19 (F := Ideal) Q KV (ix3 h r j)).trans
    (Finset.sum_congr rfl fun j _ => ?_)
  · pointwise! [val_main_v20]
  · rw [value_at, prob_at, mul_comm]

theorem attention_eq : val_main_v23 (F := Ideal) Q KV = attention Q KV := by
  funext i
  idx_vars i
  have hi : i1.val < 1024 := i1.isLt
  rw [attention_at Q KV ⟨i1.val / 256, by omega⟩ i0 ⟨i1.val % 256, by omega⟩ (ix2 i0 i1) rfl (by show i1.val = _; simp only []; omega)]
  rw [← out_at]
  pointwise! [val_main_v23, val_main_v22, val_main_v21]

end Cert.XaFwdReferenceIdeal.Xa

namespace Cert.XaFwdProof

open Idealize.ShloMosaic Idealize.SL.Sem

/-- The reference runs and leaves its arguments as they were. -/
theorem frame_reference : Cert.quiescent_XaFwdReferenceIdeal := by
  intro m g _
  exact (θ_run _ _ _).mono (fun r h => ⟨fun c => (h c).2, sem_eq_zero_of_no_sems (by decide) r.2⟩)
    (Cert.XaFwdReferenceIdeal.Value.run m g)

/-- Over the extended reals the kernel and the reference leave the same one array. -/
theorem algebraic : Cert.algebraic_XaFwdIdeal_XaFwdReferenceIdeal := by
  intro m g m' g' _ hagree
  refine ⟨_, Cert.XaFwdIdeal.Value.run_blocks m g, ?_⟩
  refine (θ_run _ _ _).mono (fun r h c => ?_) (Cert.XaFwdReferenceIdeal.Value.run m' g')
  obtain ⟨h0, k⟩ := h c
  obtain ⟨a0, a1⟩ := hagree c
  refine ⟨h0.trans ?_, k⟩
  · rw [Cert.XaFwdReferenceIdeal.Read.val_main_v23_eq, a0, a1]
    exact (Cert.XaFwdReferenceIdeal.Xa.attention_eq _ _).trans (Cert.XaFwdIdeal.Xa.final m c).symm

end Cert.XaFwdProof

end
-- ==== Proof.MergeFwdBlock.lean ====
/- The gated merge of the three branches: what the body computes from one block of 512 rows, and the array that the kernel leaves. -/
module

public import proofs.«01_k».proof.Proof.Sigmoid
public import proofs.«01_k».proof.Proof.Gen.MergeFwdIdeal.Skeleton
public import proofs.«01_k».proof.Proof.Gen.MergeFwdIdeal
public import proofs.«01_k».proof.Proof.Gen.MergeFwdIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MergeFwdIdeal.Merge

open Cert.MergeFwdIdeal Cert.MergeFwdIdeal.Gen Idealize.ShloMosaic Idealize.ShloMosaic.TcCoe Idealize.SL.Sem
open Idealize.ShloMosaic.Pipeline (Dat)
open Cert.Sigmoid

/-- Three branches, each under its gate. -/
def mix (z1 z2 z3 b1 b2 b3 : EReal) : EReal := logt z1 * b1 + logt z2 * b2 + logt z3 * b3

section At
variable (z : FVec Ideal S512x3072 .bf16) (bg : FVec Ideal S1x3072 .f32) (b1 b2 b3 : FVec Ideal S512x1024 .bf16)

/-- The gate's argument of branch `p`. -/
abbrev argRow (p : Fin 3) (r : Fin 512) (j : Fin 1024) : EReal :=
  z (ix2 r ⟨p.val * 1024 + j.val, by omega⟩) + bg (ix2 0 ⟨p.val * 1024 + j.val, by omega⟩)

theorem out_at (y : S512x1024.Idx) : out0_5 (F := Ideal) z bg b1 b2 b3 y
    = mix (argRow z bg 0 (y 0) (y 1)) (argRow z bg 1 (y 0) (y 1)) (argRow z bg 2 (y 0) (y 1)) (b1 y) (b2 y) (b3 y) := by
  idx_vars y
  unfold out0_5 mix argRow logt
  frame_out
  pointwise! [k0_pay1, k0_pay2, k0_pay3]
end At

section Whole
variable (Z : FVec Ideal S8192x3072 .bf16) (BG : FVec Ideal S1x3072 .f32) (B1 B2 B3 : FVec Ideal S8192x1024 .bf16)

abbrev arg (p : Fin 3) (r : Fin 8192) (j : Fin 1024) : EReal :=
  Z (ix2 r ⟨p.val * 1024 + j.val, by omega⟩) + BG (ix2 0 ⟨p.val * 1024 + j.val, by omega⟩)

def merged : FVec Ideal S8192x1024 .bf16 := fun i =>
  mix (arg Z BG 0 (i 0) (i 1)) (arg Z BG 1 (i 0) (i 1)) (arg Z BG 2 (i 0) (i 1)) (B1 i) (B2 i) (B3 i)
end Whole

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] :=
  (by decide +kernel : ∀ t : Fin grid0.N, _)

abbrev mZ : FVec Ideal S8192x3072 .bf16 := m ((c : Thread nD τ).loc main_arg0)
abbrev mBG : FVec Ideal S1x3072 .f32 := m ((c : Thread nD τ).loc main_arg1)
abbrev mB1 : FVec Ideal S8192x1024 .bf16 := m ((c : Thread nD τ).loc main_arg2)
abbrev mB2 : FVec Ideal S8192x1024 .bf16 := m ((c : Thread nD τ).loc main_arg3)
abbrev mB3 : FVec Ideal S8192x1024 .bf16 := m ((c : Thread nD τ).loc main_arg4)

section Block
variable (t : Fin cfg0.N) (y : S512x1024.Idx) (i : S8192x1024.Idx) (h0 : (i 0 : ℕ) = t.val * 512 + y 0) (h1 : (i 1 : ℕ) = y 1)
include h0 h1

theorem arg_eq (p : Fin 3) : argRow (iblk m c 0 t) (iblk m c 1 t) p (y 0) (y 1) = arg (mZ m c) (mBG m c) p (i 0) (i 1) := by
  unfold argRow arg
  have hz : (iblk m c 0 t : FVec Ideal S512x3072 .bf16) (ix2 (y 0) ⟨p.val * 1024 + (y 1).val, by have h : (y 1).val < 1024 := (y 1).isLt; omega⟩)
      = mZ m c (ix2 (i 0) ⟨p.val * 1024 + (i 1).val, by have h : (i 1).val < 1024 := (i 1).isLt; omega⟩) := by
    blk_point [iblk, V, idx t] <;> omega
  have hb : (iblk m c 1 t : FVec Ideal S1x3072 .f32) (ix2 0 ⟨p.val * 1024 + (y 1).val, by have h : (y 1).val < 1024 := (y 1).isLt; omega⟩)
      = mBG m c (ix2 0 ⟨p.val * 1024 + (i 1).val, by have h : (i 1).val < 1024 := (i 1).isLt; omega⟩) := by
    blk_point [iblk, V, idx t] <;> omega
  exact congrArg₂ (· + ·) hz hb

theorem b1_eq : (iblk m c 2 t : FVec Ideal S512x1024 .bf16) y = mB1 m c i := by
  blk_point [iblk, V, idx t] <;> omega
theorem b2_eq : (iblk m c 3 t : FVec Ideal S512x1024 .bf16) y = mB2 m c i := by
  blk_point [iblk, V, idx t] <;> omega
theorem b3_eq : (iblk m c 4 t : FVec Ideal S512x1024 .bf16) y = mB3 m c i := by
  blk_point [iblk, V, idx t] <;> omega

theorem block : out0_5 (iblk m c 0 t) (iblk m c 1 t) (iblk m c 2 t) (iblk m c 3 t) (iblk m c 4 t) y
    = merged (mZ m c) (mBG m c) (mB1 m c) (mB2 m c) (mB3 m c) i := by
  refine (out_at _ _ _ _ _ y).trans ?_
  unfold merged
  rw [arg_eq m c t y i h0 h1, arg_eq m c t y i h0 h1, arg_eq m c t y i h0 h1, b1_eq m c t y i h0 h1, b2_eq m c t y i h0 h1,
    b3_eq m c t y i h0 h1]
end Block

theorem final : (dats m 0 c).arrAt 5 (cfgs 0).N = merged (mZ m c) (mBG m c) (mB1 m c) (mB2 m c) (mB3 m c) := by
  refine (dats m 0 c).arrAt_eq_of_covers 5 _ (by decide +kernel) fun t _ y => ?_
  blk_simp
  rw [after0_5]
  refine block m c t y _ ?_ ?_ <;> (blk_simp [idx t] <;> try omega)

end Cert.MergeFwdIdeal.Merge

end
-- ==== Proof.MergeFwdClaim.lean ====
/- The reference's gated merge, read at an index, and the claims about the call. -/
module

public import proofs.«01_k».proof.Defs
public import proofs.«01_k».proof.Proof.MergeFwdBlock
public import proofs.«01_k».proof.Proof.Gen.MergeFwdReferenceIdeal.Read
public import proofs.«01_k».proof.Proof.Gen.MergeFwdReferenceIdeal.Run
public import Idealize.ShloMosaic.Lib.Claim

@[expose] public section

set_option maxRecDepth 16384

noncomputable section

namespace Cert.MergeFwdReferenceIdeal.Merge

open Cert.MergeFwdReferenceIdeal Cert.MergeFwdReferenceIdeal.Gen Cert.MergeFwdReferenceIdeal.Read Idealize.ShloMosaic Idealize.ShloMosaic.TcCoe Idealize.SL.Sem
open Cert.Sigmoid
open Cert.MergeFwdIdeal.Merge (mix arg merged)

variable (Z : FVec Ideal S8192x3072 .bf16) (BG : FVec Ideal S1x3072 .f32) (B1 B2 B3 : FVec Ideal S8192x1024 .bf16)

theorem arg_at (r : Fin 8192) (p : Fin 3) (j : Fin 1024) : val_main_v5 (F := Ideal) Z BG (ix3 r p j) = arg Z BG p r j := by
  pointwise! [val_main_v5, val_main_v4, val_main_v3, val_main_v2, val_main_v1, val_main_v0]

theorem sig_at (r : Fin 8192) (p : Fin 3) (j : Fin 1024) : val_main_v11 (F := Ideal) Z BG (ix3 r p j) = logt (arg Z BG p r j) := by
  rw [logt_eq]
  unfold sigQuot
  pointwise! [val_main_v11, val_main_v10, val_main_v9, val_main_v8, val_main_v7, val_main_v6, val_main_cst, val_main_cst_0, arg_at]

theorem merged_eq : val_main_v26 (F := Ideal) Z BG B1 B2 B3 = merged Z BG B1 B2 B3 := by
  funext i
  idx_vars i
  unfold merged mix
  pointwise! [val_main_v26, val_main_v25, val_main_v24, val_main_v23, val_main_v22, val_main_v21, val_main_v20, val_main_v19,
    val_main_v18, val_main_v17, val_main_v16, val_main_v15, val_main_v14, val_main_v13, val_main_v12, sig_at]

end Cert.MergeFwdReferenceIdeal.Merge

namespace Cert.MergeFwdProof

open Idealize.ShloMosaic Idealize.SL.Sem

/-- The reference runs and leaves its arguments as they were. -/
theorem frame_reference : Cert.quiescent_MergeFwdReferenceIdeal := by
  intro m g _
  exact (θ_run _ _ _).mono (fun r h => ⟨fun c => (h c).2, sem_eq_zero_of_no_sems (by decide) r.2⟩)
    (Cert.MergeFwdReferenceIdeal.Value.run m g)

/-- Over the extended reals the kernel and the reference leave the same one array. -/
theorem algebraic : Cert.algebraic_MergeFwdIdeal_MergeFwdReferenceIdeal := by
  intro m g m' g' _ hagree
  refine ⟨_, Cert.MergeFwdIdeal.Value.run_blocks m g, ?_⟩
  refine (θ_run _ _ _).mono (fun r h c => ?_) (Cert.MergeFwdReferenceIdeal.Value.run m' g')
  obtain ⟨h0, k⟩ := h c
  obtain ⟨a0, a1, a2, a3, a4⟩ := hagree c
  refine ⟨h0.trans ?_, k⟩
  · rw [Cert.MergeFwdReferenceIdeal.Read.val_main_v26_eq, a0, a1, a2, a3, a4]
    exact (Cert.MergeFwdReferenceIdeal.Merge.merged_eq _ _ _ _ _).trans (Cert.MergeFwdIdeal.Merge.final m c).symm

end Cert.MergeFwdProof

end
-- ==== Proof.LnFwdBlock.lean ====
/- The layer normalisation: what the body computes from one block of 512 rows, and the two arrays that the kernel leaves. -/
module

public import proofs.«01_k».proof.Proof.NormRow
public import proofs.«01_k».proof.Proof.Gen.LnFwdIdeal.Skeleton
public import proofs.«01_k».proof.Proof.Gen.LnFwdIdeal
public import proofs.«01_k».proof.Proof.Gen.LnFwdIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.LnFwdIdeal.Ln

open Cert.LnFwdIdeal Cert.LnFwdIdeal.Gen Idealize.ShloMosaic Idealize.ShloMosaic.TcCoe Idealize.SL.Sem
open Idealize.ShloMosaic.Pipeline (Dat)
open Cert.NormRow

/-- One normalised entry with gain and shift. -/
def out (u : Fin 1024 → EReal) (j : Fin 1024) (g b : EReal) : EReal := xhat u j * g + b

section At
variable (x f : FVec Ideal S512x1024 .f32) (g b : FVec Ideal S1x1024 .f32)

/-- The normalised row: the residual's scale times the one input, plus the other. -/
abbrev uRow (r : Fin 512) (i : Fin 1024) : EReal := alpha * x (ix2 r i) + f (ix2 r i)

theorem wide_at (r : Fin 512) (j : Fin 1024) : k0_pay1 (F := Ideal) x f g b (ix2 r j) = out (uRow x f r) j (g (ix2 0 j)) (b (ix2 0 j)) := by
  unfold out xhat rstd vari cent mean
  pointwise! [k0_pay1]

theorem out4_at (y : S512x1024.Idx) : out0_4 (F := Ideal) x f g b y = out (uRow x f (y 0)) (y 1) (g (ix2 0 (y 1))) (b (ix2 0 (y 1))) := by
  idx_vars y
  unfold out0_4
  frame_out
  exact wide_at x f g b y0 y1

theorem out5_at (y : S512x1024.Idx) : out0_5 (F := Ideal) x f g b y = out (uRow x f (y 0)) (y 1) (g (ix2 0 (y 1))) (b (ix2 0 (y 1))) := by
  idx_vars y
  unfold out0_5
  frame_out
  pointwise! [k0_pay2, wide_at]
end At

section Whole
variable (X F : FVec Ideal S8192x1024 .f32) (G B : FVec Ideal S1x1024 .f32)

abbrev uAll (r : Fin 8192) (i : Fin 1024) : EReal := alpha * X (ix2 r i) + F (ix2 r i)

def norm : FVec Ideal S8192x1024 .f32 := fun i => out (uAll X F (i 0)) (i 1) (G (ix2 0 (i 1))) (B (ix2 0 (i 1)))
def norm16 : FVec Ideal S8192x1024 .bf16 := fun i => out (uAll X F (i 0)) (i 1) (G (ix2 0 (i 1))) (B (ix2 0 (i 1)))
end Whole

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] :=
  (by decide +kernel : ∀ t : Fin grid0.N, _)

abbrev mX : FVec Ideal S8192x1024 .f32 := m ((c : Thread nD τ).loc main_arg0)
abbrev mF : FVec Ideal S8192x1024 .f32 := m ((c : Thread nD τ).loc main_arg1)
abbrev mG : FVec Ideal S1x1024 .f32 := m ((c : Thread nD τ).loc main_arg2)
abbrev mB : FVec Ideal S1x1024 .f32 := m ((c : Thread nD τ).loc main_arg3)

theorem block (t : Fin cfg0.N) (y : S512x1024.Idx) (i : S8192x1024.Idx) (h0 : (i 0 : ℕ) = t.val * 512 + y 0) (h1 : (i 1 : ℕ) = y 1) :
    out (uRow (iblk m c 0 t) (iblk m c 1 t) (y 0)) (y 1) ((iblk m c 2 t : FVec Ideal S1x1024 .f32) (ix2 0 (y 1)))
      ((iblk m c 3 t : FVec Ideal S1x1024 .f32) (ix2 0 (y 1)))
      = out (uAll (mX m c) (mF m c) (i 0)) (i 1) (mG m c (ix2 0 (i 1))) (mB m c (ix2 0 (i 1))) := by
  have e1 : y 1 = i 1 := Fin.ext h1.symm
  have hx : ∀ k : Fin 1024, (iblk m c 0 t : FVec Ideal S512x1024 .f32) (ix2 (y 0) k) = mX m c (ix2 (i 0) k) := fun k => by
    blk_point [iblk, V, idx t] <;> first | omega | exact h0.symm
  have hf : ∀ k : Fin 1024, (iblk m c 1 t : FVec Ideal S512x1024 .f32) (ix2 (y 0) k) = mF m c (ix2 (i 0) k) := fun k => by
    blk_point [iblk, V, idx t] <;> first | omega | exact h0.symm
  have hg : ∀ k : Fin 1024, (iblk m c 2 t : FVec Ideal S1x1024 .f32) (ix2 0 k) = mG m c (ix2 0 k) := fun k => by
    blk_point [iblk, V, idx t]
  have hb : ∀ k : Fin 1024, (iblk m c 3 t : FVec Ideal S1x1024 .f32) (ix2 0 k) = mB m c (ix2 0 k) := fun k => by
    blk_point [iblk, V, idx t]
  have hu : uRow (iblk m c 0 t) (iblk m c 1 t) (y 0) = uAll (mX m c) (mF m c) (i 0) := funext fun k => by
    unfold uRow uAll
    rw [hx, hf]
  rw [hu, e1]
  exact congrArg₂ (out _ _) (hg _) (hb _)

theorem final4 : (dats m 0 c).arrAt 4 (cfgs 0).N = norm (mX m c) (mF m c) (mG m c) (mB m c) := by
  refine (dats m 0 c).arrAt_eq_of_covers 4 _ (by decide +kernel) fun t _ y => ?_
  blk_simp
  rw [after0_4]
  unfold norm
  refine (out4_at _ _ _ _ y).trans (block m c t y _ ?_ ?_) <;> (blk_simp [idx t] <;> try omega)

theorem final5 : (dats m 0 c).arrAt 5 (cfgs 0).N = norm16 (mX m c) (mF m c) (mG m c) (mB m c) := by
  refine (dats m 0 c).arrAt_eq_of_covers 5 _ (by decide +kernel) fun t _ y => ?_
  blk_simp
  rw [after0_5]
  unfold norm16
  refine (out5_at _ _ _ _ y).trans (block m c t y _ ?_ ?_) <;> (blk_simp [idx t] <;> try omega)

end Cert.LnFwdIdeal.Ln

end
-- ==== Proof.LnFwdClaim.lean ====
/- The reference's layer normalisation, read at an index, and the claims about the call. -/
module

public import proofs.«01_k».proof.Defs
public import proofs.«01_k».proof.Proof.LnFwdBlock
public import proofs.«01_k».proof.Proof.Gen.LnFwdReferenceIdeal.Read
public import proofs.«01_k».proof.Proof.Gen.LnFwdReferenceIdeal.Run
public import Idealize.ShloMosaic.Lib.Claim

@[expose] public section

set_option maxRecDepth 16384

noncomputable section

namespace Cert.LnFwdReferenceIdeal.Ln

open Cert.LnFwdReferenceIdeal Cert.LnFwdReferenceIdeal.Gen Cert.LnFwdReferenceIdeal.Read Idealize.ShloMosaic Idealize.ShloMosaic.TcCoe Idealize.SL.Sem
open Cert.NormRow
open Cert.LnFwdIdeal.Ln (out uAll norm norm16)

variable (X F : FVec Ideal S8192x1024 .f32) (G B : FVec Ideal S1x1024 .f32)

theorem u_at (r : Fin 8192) (j : Fin 1024) : val_main_v2 (F := Ideal) X F (ix2 r j) = uAll X F r j := by
  pointwise! [val_main_v2, val_main_v1, val_main_v0, val_main_cst]

theorem mean_at (r : Fin 8192) : val_main_v6 (F := Ideal) X F (ix2 r 0) = mean (uAll X F r) := by
  unfold mean
  pointwise! [val_main_v6, val_main_v5, val_main_v4, val_main_v3, val_main_cst_0, val_main_cst_1, u_at]

theorem cent_at (r : Fin 8192) (j : Fin 1024) : val_main_v8 (F := Ideal) X F (ix2 r j) = cent (uAll X F r) j := by
  unfold cent
  pointwise! [val_main_v8, val_main_v7, u_at, mean_at]

theorem rstd_at (r : Fin 8192) : val_main_v18 (F := Ideal) X F (ix2 r 0) = rstd (uAll X F r) := by
  unfold rstd vari
  pointwise! [val_main_v18, val_main_v17, val_main_v16, val_main_v13, val_main_v12, val_main_v11, val_main_v10, val_main_v9,
    val_main_cst_2, val_main_cst_3, val_main_cst_4, cent_at]

theorem out_at (r : Fin 8192) (j : Fin 1024) :
    val_main_v24 (F := Ideal) X F G B (ix2 r j) = out (uAll X F r) j (G (ix2 0 j)) (B (ix2 0 j)) := by
  unfold out xhat cent
  pointwise! [val_main_v24, val_main_v23, val_main_v22, val_main_v21, val_main_v20, val_main_v19, val_main_v15, val_main_v14,
    u_at, mean_at, rstd_at]

theorem norm_eq : val_main_v24 (F := Ideal) X F G B = norm X F G B := by
  funext i
  idx_vars i
  exact out_at X F G B i0 i1

theorem norm16_eq : val_main_v25 (F := Ideal) X F G B = norm16 X F G B := by
  funext i
  idx_vars i
  refine (?_ : _ = val_main_v24 (F := Ideal) X F G B (ix2 i0 i1)).trans (out_at X F G B i0 i1)
  pointwise! [val_main_v25]

end Cert.LnFwdReferenceIdeal.Ln

namespace Cert.LnFwdProof

open Idealize.ShloMosaic Idealize.SL.Sem

/-- The reference runs and leaves its arguments as they were. -/
theorem frame_reference : Cert.quiescent_LnFwdReferenceIdeal := by
  intro m g _
  exact (θ_run _ _ _).mono (fun r h => ⟨fun c => (h c).2.2, sem_eq_zero_of_no_sems (by decide) r.2⟩)
    (Cert.LnFwdReferenceIdeal.Value.run m g)

/-- Over the extended reals the kernel and the reference leave the same two arrays. -/
theorem algebraic : Cert.algebraic_LnFwdIdeal_LnFwdReferenceIdeal := by
  intro m g m' g' _ hagree
  refine ⟨_, _, Cert.LnFwdIdeal.Value.run_blocks m g, ?_⟩
  refine (θ_run _ _ _).mono (fun r h c => ?_) (Cert.LnFwdReferenceIdeal.Value.run m' g')
  obtain ⟨h0, h1, k⟩ := h c
  obtain ⟨a0, a1, a2, a3⟩ := hagree c
  refine ⟨h0.trans ?_, h1.trans ?_, k⟩
  · rw [Cert.LnFwdReferenceIdeal.Read.val_main_v24_eq, a0, a1, a2, a3]
    exact (Cert.LnFwdReferenceIdeal.Ln.norm_eq _ _ _ _).trans (Cert.LnFwdIdeal.Ln.final4 m c).symm
  · rw [Cert.LnFwdReferenceIdeal.Read.val_main_v25_eq, a0, a1, a2, a3]
    exact (Cert.LnFwdReferenceIdeal.Ln.norm16_eq _ _ _ _).trans (Cert.LnFwdIdeal.Ln.final5 m c).symm

end Cert.LnFwdProof

end
-- ==== Proof.LossHeadBlock.lean ====
/- The loss and its gradient: what the body computes from one block of 512 rows, and the two arrays that the kernel leaves. -/
module

public import proofs.«01_k».proof.Proof.Softmax
public import proofs.«01_k».proof.Proof.Gen.LossHeadIdeal.Skeleton
public import proofs.«01_k».proof.Proof.Gen.LossHeadIdeal
public import proofs.«01_k».proof.Proof.Gen.LossHeadIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.LossHeadIdeal.Loss

open Cert.LossHeadIdeal Cert.LossHeadIdeal.Gen Idealize.ShloMosaic Idealize.ShloMosaic.TcCoe Idealize.SL.Sem
open Idealize.ShloMosaic.Pipeline (Dat)

/-- One over the length of a row. -/
def inv : EReal := Ideal.ofBits .f32 0x3A800000#32
/-- Half of that. -/
def half : EReal := Ideal.ofBits .f32 0x3A000000#32

section At
variable (x d : FVec Ideal S512x1024 .f32) (acc : FVec Ideal S8x128 .f32)

theorem diff_at (r : Fin 512) (j : Fin 1024) : k0_pay2 (F := Ideal) x d (ix2 r j) = x (ix2 r j) - d (ix2 r j) := by
  pointwise! [k0_pay2]

theorem grad_at (r : Fin 512) (j : Fin 1024) : k0_pay3 (F := Ideal) x d (ix2 r j) = (x (ix2 r j) - d (ix2 r j)) * inv := by
  unfold inv
  pointwise! [k0_pay3, diff_at]

theorem loss_at (a : Fin 8) (b : Fin 128) : k0_pay4 (F := Ideal) x d acc (ix2 a b)
    = acc (ix2 a b) + (∑ r : Fin 512, ∑ j : Fin 1024, (x (ix2 r j) - d (ix2 r j)) * (x (ix2 r j) - d (ix2 r j))) * half := by
  unfold half
  pointwise! [k0_pay4, diff_at]
end At

section Whole
variable (X D : FVec Ideal S8192x1024 .f32)

/-- The error at one entry. -/
def err (r : Fin 8192) (j : Fin 1024) : EReal := X (ix2 r j) - D (ix2 r j)
/-- The squared error of one row. -/
def rowSq (r : Fin 8192) : EReal := ∑ j : Fin 1024, err X D r j * err X D r j

def gradAll : FVec Ideal S8192x1024 .f32 := fun i => err X D (i 0) (i 1) * inv
def lossAll : FVec Ideal S8x128 .f32 := fun _ => ∑ r : Fin 8192, rowSq X D r * half
end Whole

theorem half_eq : half = ((1 / 2048 : ℝ) : EReal) := by
  unfold half
  simp [Ideal.ofBits, Ideal.ieee, -EReal.coe_mul]; norm_num

theorem inv_eq : inv = ((1 / 1024 : ℝ) : EReal) := by
  unfold inv
  simp [Ideal.ofBits, Ideal.ieee, -EReal.coe_mul]; norm_num

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![0, 0] :=
  (by decide +kernel : ∀ t : Fin grid0.N, _)

abbrev mX : FVec Ideal S8192x1024 .f32 := m ((c : Thread nD τ).loc main_arg0)
abbrev mD : FVec Ideal S8192x1024 .f32 := m ((c : Thread nD τ).loc main_arg1)

theorem lt16 (t : Fin cfg0.N) : t.val < 16 := lt_of_lt_of_eq t.isLt N_0

/-- Row `r` of the point's block. -/
abbrev row (t : Fin cfg0.N) (r : Fin 512) : Fin 8192 := ⟨t.val * 512 + r.val, by have := lt16 t; omega⟩

section Block
variable (t : Fin cfg0.N) (x d : FVec Ideal S512x1024 .f32) (acc : FVec Ideal S8x128 .f32)
  (hx : ∀ (r : Fin 512) (j : Fin 1024), x (ix2 r j) = mX m c (ix2 (row t r) j))
  (hd : ∀ (r : Fin 512) (j : Fin 1024), d (ix2 r j) = mD m c (ix2 (row t r) j))

/-- What the point's rows add to the loss. -/
def part : EReal := ∑ r : Fin 512, rowSq (mX m c) (mD m c) (row t r) * half

include hx hd in
theorem block_grad (y : S512x1024.Idx) (i : S8192x1024.Idx) (h0 : (i 0 : ℕ) = t.val * 512 + y 0) (h1 : (i 1 : ℕ) = y 1) :
    k0_pay3 (F := Ideal) x d y = gradAll (mX m c) (mD m c) i := by
  idx_vars y
  have e0 : i 0 = row t y0 := Fin.ext h0
  have e1 : i 1 = y1 := Fin.ext h1
  unfold gradAll err
  rw [e0, e1, grad_at, hx, hd]

include hx hd in
theorem block_loss (y : S8x128.Idx) : k0_pay4 (F := Ideal) x d acc y = acc y + part m c t := by
  idx_vars y
  rw [loss_at]
  unfold part
  rw [half_eq, Cert.Softmax.sum_mul_coe _ _ (by norm_num)]
  simp only [hx, hd]
  rfl
end Block

theorem final_grad : (dats m 0 c).arrAt 2 (cfgs 0).N = gradAll (mX m c) (mD m c) := by
  refine (dats m 0 c).arrAt_eq_of_covers 2 _ (by decide +kernel) fun t _ y => ?_
  blk_simp
  rw [after0_2]
  by_cases h0 : t.val % 16 = 0
  · rw [outsAt0_A m c t h0]
    frame_out
    refine block_grad m c t _ _ (fun r j => ?_) (fun r j => ?_) y _ ?_ ?_ <;>
      (first | blk_point [iblk, V, idx t] | (blk_simp [idx t] <;> try omega))
  · rw [outsAt0_B m c t h0]
    frame_out
    refine block_grad m c t _ _ (fun r j => ?_) (fun r j => ?_) y _ ?_ ?_ <;>
      (first | blk_point [iblk, V, idx t] | (blk_simp [idx t] <;> try omega))

theorem step (t : Fin cfg0.N) (h0 : ¬ t.val % 16 = 0) (y : S8x128.Idx) :
    (outsAt0 m c t.val t.isLt).2 y
      = (outsAt0 m c (t.val - 1) (Nat.lt_of_le_of_lt (Nat.sub_le _ _) t.isLt)).2 y + part m c t := by
  rw [outsAt0_B m c t h0]
  frame_out
  refine (block_loss m c t _ _ _ (fun r j => ?_) (fun r j => ?_) y).trans ?_
  iterate 2 blk_point [iblk, V, idx t]
  refine Ideal.add_congr ?_ rfl; pointwise; blk_ext

theorem first (t : Fin cfg0.N) (h0 : t.val % 16 = 0) (y : S8x128.Idx) :
    (outsAt0 m c t.val t.isLt).2 y = 0 + part m c t := by
  rw [outsAt0_A m c t h0]
  frame_out
  refine (block_loss m c t _ _ _ (fun r j => ?_) (fun r j => ?_) y).trans ?_
  iterate 2 blk_point [iblk, V, idx t]
  refine Ideal.add_congr ?_ rfl; pointwise! [k0_pay1]

theorem final_loss : (dats m 0 c).arrAt 3 (cfgs 0).N = lossAll (mX m c) (mD m c) := by
  refine (dats m 0 c).arrAt_eq_of_after_last 3 t0_15 (by decide +kernel) _ fun j => ?_
  blk_simp
  rw [after0_3, Pipeline.eq_sum_fin_of_reset_step_apply_last (fun n h => (outsAt0 m c n h).2) 16 (fun _ => 0)
    (fun p _ => part m c p) (fun t h j => first m c t h j) (fun t h j => step m c t h j) (le_of_eq N_0) t0_15 rfl j, zero_add]
  unfold part lossAll
  refine Fin.sum_mul_add_congr fun s k hl => ?_
  rfl

end Cert.LossHeadIdeal.Loss

end
-- ==== Proof.LossHeadClaim.lean ====
/- The reference's loss and its gradient, read at an index, and the claims about the call. -/
module

public import proofs.«01_k».proof.Defs
public import proofs.«01_k».proof.Proof.LossHeadBlock
public import proofs.«01_k».proof.Proof.Gen.LossHeadReferenceIdeal.Read
public import proofs.«01_k».proof.Proof.Gen.LossHeadReferenceIdeal.Run
public import Idealize.ShloMosaic.Lib.Claim

@[expose] public section

set_option maxRecDepth 16384

noncomputable section

namespace Cert.LossHeadReferenceIdeal.Loss

open Cert.LossHeadReferenceIdeal Cert.LossHeadReferenceIdeal.Gen Cert.LossHeadReferenceIdeal.Read Idealize.ShloMosaic Idealize.ShloMosaic.TcCoe Idealize.SL.Sem
open Cert.LossHeadIdeal.Loss (err rowSq gradAll lossAll half half_eq inv inv_eq)

variable (X D : FVec Ideal S8192x1024 .f32)

theorem thousand : Ideal.ofBits .f32 0x44800000#32 = ((1024 : ℝ) : EReal) := by
  simp [Ideal.ofBits, Ideal.ieee, -EReal.coe_mul]; norm_num
theorem one_half : Ideal.ofBits .f32 0x3F000000#32 = ((1 / 2 : ℝ) : EReal) := by
  simp [Ideal.ofBits, Ideal.ieee, -EReal.coe_mul]; norm_num
theorem one : Ideal.ofBits .f32 0x3F800000#32 = ((1 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num

theorem err_at (r : Fin 8192) (j : Fin 1024) : val_main_v0 (F := Ideal) X D (ix2 r j) = err X D r j := by
  unfold err
  pointwise! [val_main_v0]

theorem rowSq_at (r : Fin 8192) : val_main_v6 (F := Ideal) X D (ix1 r) = Ideal.div (rowSq X D r) (Ideal.ofBits .f32 0x44800000#32) := by
  unfold rowSq
  pointwise! [val_main_v6, val_main_v5, val_main_v4, val_main_v1, val_main_cst_0, val_main_cst_1, err_at]

theorem loss_at (a : Fin 8) (b : Fin 128) : val_main_v15 (F := Ideal) X D (ix2 a b)
    = Ideal.ofBits .f32 0x3F000000#32 * ∑ r : Fin 8192, Ideal.div (rowSq X D r) (Ideal.ofBits .f32 0x44800000#32) := by
  pointwise! [val_main_v15, val_main_v8, val_main_v7, val_main_cst_2, val_main_cst_3, rowSq_at]

theorem loss_eq : val_main_v15 (F := Ideal) X D = lossAll X D := by
  funext i
  idx_vars i
  rw [loss_at]
  unfold lossAll
  rw [one_half, thousand, half_eq]
  simp only [Ideal.div_coe (show (1024 : ℝ) ≠ 0 by norm_num)]
  rw [mul_comm, ← Cert.Softmax.sum_mul_coe _ _ (by norm_num)]
  refine Finset.sum_congr rfl fun r _ => ?_
  rw [mul_assoc, ← EReal.coe_mul]
  norm_num

theorem grad_at (r : Fin 8192) (j : Fin 1024) : val_main_v14 (F := Ideal) X D (ix2 r j)
    = Ideal.div (Ideal.ofBits .f32 0x3F000000#32 * Ideal.ofBits .f32 0x3F800000#32) (Ideal.ofBits .f32 0x44800000#32)
      * (Ideal.ofBits .f32 0x40000000#32 * err X D r j) := by
  pointwise! [val_main_v14, val_main_v13, val_main_v12, val_main_v11, val_main_v10, val_main_v9, val_main_v3, val_main_v2,
    val_main_cst, val_main_cst_4, val_main_cst_5, val_main_cst_6, err_at]

theorem grad_eq : val_main_v14 (F := Ideal) X D = gradAll X D := by
  funext i
  idx_vars i
  rw [grad_at]
  unfold gradAll
  rw [one_half, thousand, one, two, inv_eq, Ideal.div_coe (show (1024 : ℝ) ≠ 0 by norm_num), ← mul_assoc, ← EReal.coe_mul, ← EReal.coe_mul, ← EReal.coe_mul, mul_comm]
  norm_num

end Cert.LossHeadReferenceIdeal.Loss

namespace Cert.LossHeadProof

open Idealize.ShloMosaic Idealize.SL.Sem

/-- The reference runs and leaves its arguments as they were. -/
theorem frame_reference : Cert.quiescent_LossHeadReferenceIdeal := by
  intro m g _
  exact (θ_run _ _ _).mono (fun r h => ⟨fun c => (h c).2.2, sem_eq_zero_of_no_sems (by decide) r.2⟩)
    (Cert.LossHeadReferenceIdeal.Value.run m g)

/-- Over the extended reals the kernel and the reference leave the same two arrays. -/
theorem algebraic : Cert.algebraic_LossHeadIdeal_LossHeadReferenceIdeal := by
  intro m g m' g' _ hagree
  refine ⟨_, _, Cert.LossHeadIdeal.Value.run_blocks m g, ?_⟩
  refine (θ_run _ _ _).mono (fun r h c => ?_) (Cert.LossHeadReferenceIdeal.Value.run m' g')
  obtain ⟨h0, h1, k⟩ := h c
  obtain ⟨a0, a1⟩ := hagree c
  refine ⟨h0.trans ?_, h1.trans ?_, k⟩
  · rw [Cert.LossHeadReferenceIdeal.Read.val_main_v14_eq, a0, a1]
    exact (Cert.LossHeadReferenceIdeal.Loss.grad_eq _ _).trans (Cert.LossHeadIdeal.Loss.final_grad m c).symm
  · rw [Cert.LossHeadReferenceIdeal.Read.val_main_v15_eq, a0, a1]
    exact (Cert.LossHeadReferenceIdeal.Loss.loss_eq _ _).trans (Cert.LossHeadIdeal.Loss.final_loss m c).symm

end Cert.LossHeadProof

end
-- ==== Proof.KvBlock.lean ====
/- The memory's keys and values: what the body computes from the memory and a block of 1024 columns of the weights, and the array that the kernel leaves. -/
module

public import proofs.«01_k».proof.Proof.Gen.KvIdeal.Skeleton
public import proofs.«01_k».proof.Proof.Gen.KvIdeal
public import proofs.«01_k».proof.Proof.Gen.KvIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KvIdeal.Mem

open Cert.KvIdeal Cert.KvIdeal.Gen Idealize.ShloMosaic Idealize.ShloMosaic.TcCoe Idealize.SL.Sem
open Idealize.ShloMosaic.Pipeline (Dat)

section At
variable (x : FVec Ideal S256x1024 .f32) (w : FVec Ideal S1024x1024 .bf16)

/-- One entry of the block's product. -/
def entry (y : S256x1024.Idx) : EReal := ∑ k : Fin 1024, x (ix2 (y 0) k) * w (ix2 k (y 1))

theorem out_at (y : S256x1024.Idx) : out0_2 (F := Ideal) x w y = entry x w y := by
  idx_vars y
  unfold out0_2 entry
  frame_out
  pointwise! [k0_pay1]
end At

/-- The memory times the weights. -/
def prod (X : FVec Ideal S256x1024 .f32) (W : FVec Ideal S1024x2048 .bf16) : FVec Ideal S256x2048 .f32 :=
  fun i => ∑ k : Fin 1024, X (ix2 (i 0) k) * W (ix2 k (i 1))

variable (m : (ℓ : Loc nD τ sig) → Buf (Elt Ideal) ℓ) (c : Dev nD)

theorem idx : ∀ t : Fin cfg0.N, win0_0.index t = ![0, 0] ∧ win0_1.index t = ![0, t.val] ∧ win0_2.index t = ![0, t.val] :=
  (by decide +kernel : ∀ t : Fin grid0.N, _)

abbrev mX : FVec Ideal S256x1024 .f32 := m ((c : Thread nD τ).loc main_arg0)
abbrev mW : FVec Ideal S1024x2048 .bf16 := m ((c : Thread nD τ).loc main_arg1)

theorem block (t : Fin cfg0.N) (y : S256x1024.Idx) (i : S256x2048.Idx) (h0 : (i 0 : ℕ) = y 0) (h1 : (i 1 : ℕ) = t.val * 1024 + y 1) :
    entry (iblk m c 0 t) (iblk m c 1 t) y = prod (mX m c) (mW m c) i := by
  have hx : ∀ k : Fin 1024, (iblk m c 0 t : FVec Ideal S256x1024 .f32) (ix2 (y 0) k) = mX m c (ix2 (i 0) k) := fun k => by
    blk_point [iblk, V, idx t] <;> first | omega | exact h0.symm
  have hw : ∀ k : Fin 1024, (iblk m c 1 t : FVec Ideal S1024x1024 .bf16) (ix2 k (y 1)) = mW m c (ix2 k (i 1)) := fun k => by
    blk_point [iblk, V, idx t] <;> first | omega | exact h1.symm
  unfold entry prod
  exact Finset.sum_congr rfl fun k _ => congrArg₂ (· * ·) (hx k) (hw k)

theorem final : (dats m 0 c).arrAt 2 (cfgs 0).N = prod (mX m c) (mW m c) := by
  refine (dats m 0 c).arrAt_eq_of_covers 2 _ (by decide +kernel) fun t _ y => ?_
  blk_simp
  rw [after0_2]
  refine (out_at _ _ y).trans (block m c t y _ ?_ ?_) <;> (blk_simp [idx t] <;> try omega)

end Cert.KvIdeal.Mem

end
-- ==== Proof.KvClaim.lean ====
/- The reference's product, read at an index, and the claims about the call. -/
module

public import proofs.«01_k».proof.Defs
public import proofs.«01_k».proof.Proof.KvBlock
public import proofs.«01_k».proof.Proof.Gen.KvReferenceIdeal.Read
public import proofs.«01_k».proof.Proof.Gen.KvReferenceIdeal.Run
public import Idealize.ShloMosaic.Lib.Claim

@[expose] public section

set_option maxRecDepth 16384

noncomputable section

namespace Cert.KvReferenceIdeal.Mem

open Cert.KvReferenceIdeal Cert.KvReferenceIdeal.Gen Cert.KvReferenceIdeal.Read Idealize.ShloMosaic Idealize.ShloMosaic.TcCoe Idealize.SL.Sem
open Cert.KvIdeal.Mem (prod)

variable (X : FVec Ideal S256x1024 .f32) (W : FVec Ideal S1024x2048 .bf16)

theorem prod_eq : val_main_v1 (F := Ideal) X W = prod X W := by
  funext i
  idx_vars i
  unfold prod
  pointwise! [val_main_v1, val_main_v0]

end Cert.KvReferenceIdeal.Mem

namespace Cert.KvProof

open Idealize.ShloMosaic Idealize.SL.Sem

/-- The reference runs and leaves its arguments as they were. -/
theorem frame_reference : Cert.quiescent_KvReferenceIdeal := by
  intro m g _
  exact (θ_run _ _ _).mono (fun r h => ⟨fun c => (h c).2, sem_eq_zero_of_no_sems (by decide) r.2⟩)
    (Cert.KvReferenceIdeal.Value.run m g)

/-- Over the extended reals the kernel and the reference leave the same one array. -/
theorem algebraic : Cert.algebraic_KvIdeal_KvReferenceIdeal := by
  intro m g m' g' _ hagree
  refine ⟨_, Cert.KvIdeal.Value.run_blocks m g, ?_⟩
  refine (θ_run _ _ _).mono (fun r h c => ?_) (Cert.KvReferenceIdeal.Value.run m' g')
  obtain ⟨h0, k⟩ := h c
  obtain ⟨a0, a1⟩ := hagree c
  refine ⟨h0.trans ?_, k⟩
  · rw [Cert.KvReferenceIdeal.Read.val_main_v1_eq, a0, a1]
    exact (Cert.KvReferenceIdeal.Mem.prod_eq _ _).trans (Cert.KvIdeal.Mem.final m c).symm

end Cert.KvProof

end
-- ==== Proof.DwKvBlock.lean ====
/- The gradient of the weights of the memory's keys and values: what the body computes from the memory and a block of 256 columns of the gradient, and the array that the kernel leaves. -/
module

public import proofs.«01_k».proof.Proof.Gen.DwKvIdeal.Skeleton
public import proofs.«01_k».proof.Proof.Gen.DwKvIdeal
public import proofs.«01_k».proof.Proof.Gen.DwKvIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DwKvIdeal.Mem

open Cert.DwKvIdeal Cert.DwKvIdeal.Gen Idealize.ShloMosaic Idealize.ShloMosaic.TcCoe Idealize.SL.Sem
open Idealize.ShloMosaic.Pipeline (Dat)

section At
variable (x : FVec Ideal S256x1024 .f32) (d : FVec Ideal S256x256 .f32)

/-- One entry of the block's product. -/
def entry (y : S1x1024x256.Idx) : EReal := ∑ k : Fin 256, x (ix2 k (y 1)) * d (ix2 k (y 2))

theorem out_at (y : S1x1024x256.Idx) : out0_2 (F := Ideal) x d y = entry x d y := by
  idx_vars y
  obtain rfl : y0 = 0 := Subsingleton.elim _ _
  unfold out0_2 entry
  frame_out
  pointwise! [k0_pay1]
end At

/-- The column that entry `i` of the eight tiles stands for. -/
abbrev col (i : S8x1024x256.Idx) : Fin 2048 := ⟨(i 0).val * 256 + (i 2).val, by have h0 := (i 0).isLt; have h2 := (i 2).isLt; change _ < 8 at h0; change _ < 256 at h2; omega⟩

/-- The transposed memory times the gradient, in eight tiles of 256 columns. -/
def prod (X : FVec Ideal S256x1024 .f32) (D : FVec Ideal S256x2048 .f32) : FVec Ideal S8x1024x256 .f32 :=
  fun i => ∑ k : Fin 256, X (ix2 k (i 1)) * D (ix2 k (col i))

variable (m : (ℓ : Loc nD τ sig) → Buf (Elt Ideal) ℓ) (c : Dev nD)

theorem idx : ∀ t : Fin cfg0.N, win0_0.index t = ![0, 0] ∧ win0_1.index t = ![0, t.val] ∧ win0_2.index t = ![t.val, 0, 0] :=
  (by decide +kernel : ∀ t : Fin grid0.N, _)

abbrev mX : FVec Ideal S256x1024 .f32 := m ((c : Thread nD τ).loc main_arg0)
abbrev mD : FVec Ideal S256x2048 .f32 := m ((c : Thread nD τ).loc main_arg1)

theorem block (t : Fin cfg0.N) (y : S1x1024x256.Idx) (i : S8x1024x256.Idx) (h0 : (i 0 : ℕ) = t.val) (h1 : (i 1 : ℕ) = y 1) (h2 : (i 2 : ℕ) = y 2) :
    entry (iblk m c 0 t) (iblk m c 1 t) y = prod (mX m c) (mD m c) i := by
  have hx : ∀ k : Fin 256, (iblk m c 0 t : FVec Ideal S256x1024 .f32) (ix2 k (y 1)) = mX m c (ix2 k (i 1)) := fun k => by
    blk_point [iblk, V, idx t] <;> first | omega | exact h1.symm
  have hd : ∀ k : Fin 256, (iblk m c 1 t : FVec Ideal S256x256 .f32) (ix2 k (y 2)) = mD m c (ix2 k (col i)) := fun k => by
    blk_point [iblk, V, idx t] <;> (show _ = (i 0 : ℕ) * 256 + (i 2 : ℕ); rw [h0, h2])
  unfold entry prod
  exact Finset.sum_congr rfl fun k _ => congrArg₂ (· * ·) (hx k) (hd k)

theorem final : (dats m 0 c).arrAt 2 (cfgs 0).N = prod (mX m c) (mD m c) := by
  refine (dats m 0 c).arrAt_eq_of_covers 2 _ (by decide +kernel) fun t _ y => ?_
  blk_simp
  rw [after0_2]
  refine (out_at _ _ y).trans (block m c t y _ ?_ ?_ ?_) <;> (blk_simp [idx t] <;> try omega)

end Cert.DwKvIdeal.Mem

end
-- ==== Proof.DwKvClaim.lean ====
/- The reference's gradient of the weights, read at an index, and the claims about the call. -/
module

public import proofs.«01_k».proof.Defs
public import proofs.«01_k».proof.Proof.DwKvBlock
public import proofs.«01_k».proof.Proof.Gen.DwKvReferenceIdeal.Read
public import proofs.«01_k».proof.Proof.Gen.DwKvReferenceIdeal.Run
public import Idealize.ShloMosaic.Lib.Claim

@[expose] public section

set_option maxRecDepth 16384

noncomputable section

namespace Cert.DwKvReferenceIdeal.Mem

open Cert.DwKvReferenceIdeal Cert.DwKvReferenceIdeal.Gen Cert.DwKvReferenceIdeal.Read Idealize.ShloMosaic Idealize.ShloMosaic.TcCoe Idealize.SL.Sem
open Cert.DwKvIdeal.Mem (prod col)

variable (X : FVec Ideal S256x1024 .f32) (D : FVec Ideal S256x2048 .f32)

theorem flat_at (r : Fin 1024) (n : Fin 2048) : val_main_v3 (F := Ideal) X D (ix2 r n) = ∑ k : Fin 256, D (ix2 k n) * X (ix2 k r) := by
  pointwise! [val_main_v3, val_main_v2]

theorem prod_eq : val_main_v5 (F := Ideal) X D = prod X D := by
  funext i
  idx_vars i
  refine (?_ : _ = val_main_v3 (F := Ideal) X D (ix2 i1 (col (ix3 i0 i1 i2)))).trans ((flat_at X D _ _).trans ?_)
  · pointwise! [val_main_v5, val_main_v4]
  · unfold prod
    exact Finset.sum_congr rfl fun k _ => mul_comm _ _

end Cert.DwKvReferenceIdeal.Mem

namespace Cert.DwKvProof

open Idealize.ShloMosaic Idealize.SL.Sem

/-- The reference runs and leaves its arguments as they were. -/
theorem frame_reference : Cert.quiescent_DwKvReferenceIdeal := by
  intro m g _
  exact (θ_run _ _ _).mono (fun r h => ⟨fun c => (h c).2, sem_eq_zero_of_no_sems (by decide) r.2⟩)
    (Cert.DwKvReferenceIdeal.Value.run m g)

/-- Over the extended reals the kernel and the reference leave the same one array. -/
theorem algebraic : Cert.algebraic_DwKvIdeal_DwKvReferenceIdeal := by
  intro m g m' g' _ hagree
  refine ⟨_, Cert.DwKvIdeal.Value.run_blocks m g, ?_⟩
  refine (θ_run _ _ _).mono (fun r h c => ?_) (Cert.DwKvReferenceIdeal.Value.run m' g')
  obtain ⟨h0, k⟩ := h c
  obtain ⟨a0, a1⟩ := hagree c
  refine ⟨h0.trans ?_, k⟩
  · rw [Cert.DwKvReferenceIdeal.Read.val_main_v5_eq, a0, a1]
    exact (Cert.DwKvReferenceIdeal.Mem.prod_eq _ _).trans (Cert.DwKvIdeal.Mem.final m c).symm

end Cert.DwKvProof

end
-- ==== Proof.AdamStep.lean ====
/- One step of the optimiser on one number: the two running means and the change of the weight. -/
module

public import Idealize.ShloMosaic.PureOps.Ideal.Laws

@[expose] public section

noncomputable section

namespace Cert.AdamStep

open Idealize.ShloMosaic

/-- The running mean of the gradient. -/
def mean (m g : EReal) : EReal := Ideal.ofBits .f32 0x3F666666#32 * m + Ideal.ofBits .f32 0x3DCCCCCD#32 * g
/-- The running mean of its square. -/
def meanSq (v g : EReal) : EReal := Ideal.ofBits .f32 0x3F7FBE77#32 * v + Ideal.ofBits .f32 0x3A83126F#32 * (g * g)
/-- The change of the weight. -/
def change (w m v g : EReal) : EReal :=
  Ideal.ofBits .f32 0xBA83126F#32 * (Ideal.div (Ideal.div (mean m g) (Ideal.ofBits .f32 0x3F26BD02#32))
      (Ideal.sqrt (Ideal.div (meanSq v g) (Ideal.ofBits .f32 0x3C231ACC#32)) + Ideal.ofBits .f32 0x322BCC77#32)
    + Ideal.ofBits .f32 0x3C23D70A#32 * w)

theorem mean_congr {m m' g g' : EReal} (hm : m = m') (hg : g = g') : mean m g = mean m' g' := by rw [hm, hg]
theorem meanSq_congr {v v' g g' : EReal} (hv : v = v') (hg : g = g') : meanSq v g = meanSq v' g' := by rw [hv, hg]
theorem change_congr {w w' m m' v v' g g' : EReal} (hw : w = w') (hm : m = m') (hv : v = v') (hg : g = g') :
    change w m v g = change w' m' v' g' := by rw [hw, hm, hv, hg]

end Cert.AdamStep

end
-- ==== Proof.AdamInBlock.lean ====
/- The optimiser's step on the in-projection: what the body computes from a block of 128 rows, and the arrays that the call leaves. -/
module

public import proofs.«01_k».proof.Proof.AdamStep
public import proofs.«01_k».proof.Proof.Gen.AdamInIdeal.Skeleton
public import proofs.«01_k».proof.Proof.Gen.AdamInIdeal
public import proofs.«01_k».proof.Proof.Gen.AdamInIdeal.Value
public import Idealize.ShloMosaic.Lib.Pointwise
public import Idealize.ShloMosaic.Lib.Pipeline.ValueKit

@[expose] public section

set_option maxRecDepth 16384

noncomputable section

namespace Cert.AdamInIdeal.Step

open Cert.AdamInIdeal Cert.AdamInIdeal.Gen Idealize.ShloMosaic Idealize.ShloMosaic.TcCoe Idealize.SL.Sem
open Idealize.ShloMosaic.Pipeline (Dat)
open Cert.AdamStep

/-! ## One block -/

section At
variable (i : grid0.Coords) (a b : FVec Ideal S4x128x1412 .bf16) (w mo ve : FVec Ideal S1x128x1412 .f32)

/-- The gradient of the block's layer: the sum of that layer's four slots. -/
abbrev gB (y : S1x128x1412.Idx) : EReal :=
  if (i 0).val = 1 then ∑ s : Fin 4, b (ix3 s (y 1) (y 2)) else ∑ s : Fin 4, a (ix3 s (y 1) (y 2))

theorem total_at (r : Fin 128) (j : Fin 1412) : k0_pay8 (F := Ideal) i a b w mo ve (ix2 r j) = gB i a b (ix3 0 r j) := by
  unfold k0_pay8 gB
  rw [Fin.sum_univ_four, Fin.sum_univ_four]
  pointwise! [k0_pay3]
  rcases (show (i 0).val = 0 ∨ (i 0).val = 1 from by have : (i 0).val < 2 := (i 0).isLt; omega) with h | h <;>
    rw [h] <;> rfl

theorem mean_at (r : Fin 128) (j : Fin 1412) : k0_pay4 (F := Ideal) (k0_pay8 i a b w mo ve) mo (ix2 r j)
    = mean (mo (ix3 0 r j)) (gB i a b (ix3 0 r j)) := by
  unfold mean
  pointwise! [k0_pay4, total_at]

theorem meanSq_at (r : Fin 128) (j : Fin 1412) : k0_pay5 (F := Ideal) (k0_pay8 i a b w mo ve) ve (ix2 r j)
    = meanSq (ve (ix3 0 r j)) (gB i a b (ix3 0 r j)) := by
  unfold meanSq
  pointwise! [k0_pay5, total_at]

theorem out5_at (y : S1x128x1412.Idx) : out0_5 (F := Ideal) i a b w mo ve y = gB i a b y := by
  idx_vars y
  unfold out0_5
  frame_out
  pointwise! [k0_pay6, total_at]

theorem out6_at (y : S1x128x1412.Idx) : out0_6 (F := Ideal) i a b w mo ve y = change (w y) (mo y) (ve y) (gB i a b y) := by
  idx_vars y
  obtain rfl : y0 = 0 := Subsingleton.elim _ _
  unfold out0_6 change
  frame_out
  pointwise! [k0_pay7, total_at, mean_at, meanSq_at]

theorem out7_at (y : S1x128x1412.Idx) : out0_7 (F := Ideal) i a b w mo ve y = mean (mo y) (gB i a b y) := by
  idx_vars y
  obtain rfl : y0 = 0 := Subsingleton.elim _ _
  unfold out0_7
  frame_out
  pointwise! [k0_pay1, mean_at]

theorem out8_at (y : S1x128x1412.Idx) : out0_8 (F := Ideal) i a b w mo ve y = meanSq (ve y) (gB i a b y) := by
  idx_vars y
  obtain rfl : y0 = 0 := Subsingleton.elim _ _
  unfold out0_8
  frame_out
  pointwise! [k0_pay2, meanSq_at]
end At

/-! ## The whole arrays -/

section Whole
variable (A B : FVec Ideal S4x1024x1412 .bf16) (W M Z : FVec Ideal S2x1024x1412 .f32)

/-- The gradient: layer by layer the sum of the four slots. -/
def grad : FVec Ideal S2x1024x1412 .f32 := fun i =>
  if (i 0).val = 1 then ∑ s : Fin 4, B (ix3 s (i 1) (i 2)) else ∑ s : Fin 4, A (ix3 s (i 1) (i 2))
def delta : FVec Ideal S2x1024x1412 .f32 := fun i => change (W i) (M i) (Z i) (grad A B i)
def newM : FVec Ideal S2x1024x1412 .f32 := fun i => mean (M i) (grad A B i)
def newV : FVec Ideal S2x1024x1412 .f32 := fun i => meanSq (Z i) (grad A B i)
end Whole

variable (m : (ℓ : Loc nD τ sig) → Buf (Elt Ideal) ℓ) (c : Dev nD)

theorem idx : ∀ t : Fin cfg0.N, (grid0.coords t 0).val = t.val / 8
    ∧ win0_0.index t = ![0, if t.val / 8 = 0 then t.val % 8 else 0, 0]
    ∧ win0_1.index t = ![0, if t.val / 8 = 1 then t.val % 8 else 0, 0]
    ∧ win0_2.index t = ![t.val / 8, t.val % 8, 0] ∧ win0_3.index t = ![t.val / 8, t.val % 8, 0]
    ∧ win0_4.index t = ![t.val / 8, t.val % 8, 0] ∧ win0_5.index t = ![t.val / 8, t.val % 8, 0]
    ∧ win0_6.index t = ![t.val / 8, t.val % 8, 0] ∧ win0_7.index t = ![t.val / 8, t.val % 8, 0]
    ∧ win0_8.index t = ![t.val / 8, t.val % 8, 0] :=
  (by decide +kernel : ∀ t : Fin grid0.N, _)

abbrev mA : FVec Ideal S4x1024x1412 .bf16 := m ((c : Thread nD τ).loc main_arg0)
abbrev mB : FVec Ideal S4x1024x1412 .bf16 := m ((c : Thread nD τ).loc main_arg1)
abbrev mW : FVec Ideal S2x1024x1412 .f32 := m ((c : Thread nD τ).loc main_arg2)
abbrev mM : FVec Ideal S2x1024x1412 .f32 := m ((c : Thread nD τ).loc main_arg3)
abbrev mV : FVec Ideal S2x1024x1412 .f32 := m ((c : Thread nD τ).loc main_arg4)

theorem lt_points (t : Fin cfg0.N) : t.val < 16 := lt_of_lt_of_eq t.isLt N_0

section Place
variable (t : Fin cfg0.N) (y : S1x128x1412.Idx) (i : S2x1024x1412.Idx) (h0 : (i 0).val = t.val / 8) (h1 : (i 1).val = t.val % 8 * 128 + (y 1).val)
  (h2 : (i 2).val = (y 2).val)

include h0 h1 h2

theorem blk2 : (iblk m c 2 t : FVec Ideal S1x128x1412 .f32) y = mW m c i := by
  idx_vars y
  blk_point [iblk, V, idx t] <;> first | exact h0.symm | exact h1.symm | exact h2.symm
theorem blk3 : (iblk m c 3 t : FVec Ideal S1x128x1412 .f32) y = mM m c i := by
  idx_vars y
  blk_point [iblk, V, idx t] <;> first | exact h0.symm | exact h1.symm | exact h2.symm
theorem blk4 : (iblk m c 4 t : FVec Ideal S1x128x1412 .f32) y = mV m c i := by
  idx_vars y
  blk_point [iblk, V, idx t] <;> first | exact h0.symm | exact h1.symm | exact h2.symm

/-- The slots that the point reads are its own rows'. -/
theorem gB_eq : gB (grid0.coords t) (iblk m c 0 t) (iblk m c 1 t) y = grad (mA m c) (mB m c) i := by
  unfold gB grad
  rw [(idx t).1, h0]
  have hN := lt_points t
  by_cases h : t.val / 8 = 1
  · rw [if_pos h, if_pos h]
    refine Finset.sum_congr rfl fun s _ => ?_
    blk_point [iblk, V, idx t, h] <;> first | omega | rw [if_pos trivial, h1]
  · have h' : t.val / 8 = 0 := by omega
    rw [if_neg h, if_neg h]
    refine Finset.sum_congr rfl fun s _ => ?_
    blk_point [iblk, V, idx t, h'] <;> first | omega | rw [if_pos trivial, h1]
end Place

theorem final5 : (dats m 0 c).arrAt 5 (cfgs 0).N = grad (mA m c) (mB m c) := by
  refine (dats m 0 c).arrAt_eq_of_covers 5 _ (by decide +kernel) fun t _ y => ?_
  blk_simp
  rw [after0_5]
  refine (out5_at _ _ _ _ _ _ y).trans (gB_eq m c t y _ ?_ ?_ ?_) <;> (blk_simp [idx t] <;> try omega)

theorem final6 : (dats m 0 c).arrAt 6 (cfgs 0).N = delta (mA m c) (mB m c) (mW m c) (mM m c) (mV m c) := by
  refine (dats m 0 c).arrAt_eq_of_covers 6 _ (by decide +kernel) fun t _ y => ?_
  blk_simp
  rw [after0_6]
  unfold delta
  refine (out6_at _ _ _ _ _ _ y).trans (change_congr (blk2 m c t y _ ?_ ?_ ?_) (blk3 m c t y _ ?_ ?_ ?_) (blk4 m c t y _ ?_ ?_ ?_)
    (gB_eq m c t y _ ?_ ?_ ?_)) <;> (blk_simp [idx t] <;> try omega)

theorem final7 : (dats m 0 c).arrAt 7 (cfgs 0).N = newM (mA m c) (mB m c) (mM m c) := by
  refine (dats m 0 c).arrAt_eq_of_covers 7 _ (by decide +kernel) fun t _ y => ?_
  blk_simp
  rw [after0_7]
  unfold newM
  refine (out7_at _ _ _ _ _ _ y).trans (mean_congr (blk3 m c t y _ ?_ ?_ ?_) (gB_eq m c t y _ ?_ ?_ ?_)) <;>
    (blk_simp [idx t] <;> try omega)

theorem final8 : (dats m 0 c).arrAt 8 (cfgs 0).N = newV (mA m c) (mB m c) (mV m c) := by
  refine (dats m 0 c).arrAt_eq_of_covers 8 _ (by decide +kernel) fun t _ y => ?_
  blk_simp
  rw [after0_8]
  unfold newV
  refine (out8_at _ _ _ _ _ _ y).trans (meanSq_congr (blk4 m c t y _ ?_ ?_ ?_) (gB_eq m c t y _ ?_ ?_ ?_)) <;>
    (blk_simp [idx t] <;> try omega)

end Cert.AdamInIdeal.Step

end
-- ==== Proof.AdamInClaim.lean ====
/- The reference's step on the in-projection, read at an index, and the claims about the call. -/
module

public import proofs.«01_k».proof.Defs
public import proofs.«01_k».proof.Proof.AdamInBlock
public import proofs.«01_k».proof.Proof.Gen.AdamInReferenceIdeal.Read
public import proofs.«01_k».proof.Proof.Gen.AdamInReferenceIdeal.Run
public import Idealize.ShloMosaic.Lib.Claim

@[expose] public section

set_option maxRecDepth 16384

noncomputable section

namespace Cert.AdamInReferenceIdeal.Step

open Cert.AdamInReferenceIdeal Cert.AdamInReferenceIdeal.Gen Cert.AdamInReferenceIdeal.Read Idealize.ShloMosaic Idealize.ShloMosaic.TcCoe Idealize.SL.Sem
open Cert.AdamStep
open Cert.AdamInIdeal.Step (grad delta newM newV)

variable (A B : FVec Ideal S4x1024x1412 .bf16) (W M Z : FVec Ideal S2x1024x1412 .f32)

theorem sumA_at (r : Fin 1024) (j : Fin 1412) : val_main_v1 (F := Ideal) A (ix2 r j) = ∑ s : Fin 4, A (ix3 s r j) := by
  pointwise! [val_main_v1, val_main_v0, val_main_cst]

theorem sumB_at (r : Fin 1024) (j : Fin 1412) : val_main_v3 (F := Ideal) B (ix2 r j) = ∑ s : Fin 4, B (ix3 s r j) := by
  pointwise! [val_main_v3, val_main_v2, val_main_cst_0]

theorem grad_at (i : S2x1024x1412.Idx) : val_main_v6 (F := Ideal) A B i = grad A B i := by
  idx_vars i
  unfold grad
  rcases (show i0.val = 0 ∨ i0.val = 1 from by omega) with h | h
  · pointwise! [val_main_v6, val_main_v5, val_main_v4, sumA_at, sumB_at, h]
  · pointwise! [val_main_v6, val_main_v5, val_main_v4, sumA_at, sumB_at, h]

theorem mean_at (i : S2x1024x1412.Idx) : val_main_v11 (F := Ideal) A B M i = newM A B M i := by
  unfold newM mean
  rw [← grad_at]
  pointwise! [val_main_v11, val_main_v10, val_main_v9, val_main_v8, val_main_v7, val_main_cst_1, val_main_cst_2]

theorem meanSq_at (i : S2x1024x1412.Idx) : val_main_v17 (F := Ideal) A B Z i = newV A B Z i := by
  unfold newV meanSq
  rw [← grad_at]
  pointwise! [val_main_v17, val_main_v16, val_main_v15, val_main_v14, val_main_v13, val_main_v12, val_main_cst_3, val_main_cst_4]

theorem delta_at (i : S2x1024x1412.Idx) : val_main_v30 (F := Ideal) A B W M Z i = delta A B W M Z i := by
  unfold delta change
  rw [show mean (M i) (grad A B i) = val_main_v11 (F := Ideal) A B M i from (mean_at A B M i).symm,
    show meanSq (Z i) (grad A B i) = val_main_v17 (F := Ideal) A B Z i from (meanSq_at A B Z i).symm]
  pointwise! [val_main_v30, val_main_v29, val_main_v28, val_main_v27, val_main_v26, val_main_v25, val_main_v24, val_main_v23,
    val_main_v22, val_main_v21, val_main_v20, val_main_v19, val_main_v18, val_main_cst_5, val_main_cst_6, val_main_cst_7,
    val_main_cst_8, val_main_cst_9]

theorem grad_eq : val_main_v6 (F := Ideal) A B = grad A B := funext fun i => grad_at A B i
theorem delta_eq : val_main_v30 (F := Ideal) A B W M Z = delta A B W M Z := funext fun i => delta_at A B W M Z i
theorem newM_eq : val_main_v11 (F := Ideal) A B M = newM A B M := funext fun i => mean_at A B M i
theorem newV_eq : val_main_v17 (F := Ideal) A B Z = newV A B Z := funext fun i => meanSq_at A B Z i

end Cert.AdamInReferenceIdeal.Step

namespace Cert.AdamInProof

open Idealize.ShloMosaic Idealize.SL.Sem

/-- The reference runs and leaves its arguments as they were. -/
theorem frame_reference : Cert.quiescent_AdamInReferenceIdeal := by
  intro m g _
  exact (θ_run _ _ _).mono (fun r h => ⟨fun c => (h c).2.2.2.2, sem_eq_zero_of_no_sems (by decide) r.2⟩)
    (Cert.AdamInReferenceIdeal.Value.run m g)

/-- Over the extended reals the kernel and the reference leave the same four arrays. -/
theorem algebraic : Cert.algebraic_AdamInIdeal_AdamInReferenceIdeal := by
  intro m g m' g' _ hagree
  refine ⟨_, _, _, _, Cert.AdamInIdeal.Value.run_blocks m g, ?_⟩
  refine (θ_run _ _ _).mono (fun r h c => ?_) (Cert.AdamInReferenceIdeal.Value.run m' g')
  obtain ⟨h0, h1, h2, h3, k⟩ := h c
  obtain ⟨a0, a1, a2, a3, a4⟩ := hagree c
  refine ⟨h0.trans ?_, h1.trans ?_, h2.trans ?_, h3.trans ?_, k⟩
  · rw [Cert.AdamInReferenceIdeal.Read.val_main_v6_eq, a0, a1]
    exact (Cert.AdamInReferenceIdeal.Step.grad_eq _ _).trans (Cert.AdamInIdeal.Step.final5 m c).symm
  · rw [Cert.AdamInReferenceIdeal.Read.val_main_v30_eq, a0, a1, a2, a3, a4]
    exact (Cert.AdamInReferenceIdeal.Step.delta_eq _ _ _ _ _).trans (Cert.AdamInIdeal.Step.final6 m c).symm
  · rw [Cert.AdamInReferenceIdeal.Read.val_main_v11_eq, a0, a1, a3]
    exact (Cert.AdamInReferenceIdeal.Step.newM_eq _ _ _).trans (Cert.AdamInIdeal.Step.final7 m c).symm
  · rw [Cert.AdamInReferenceIdeal.Read.val_main_v17_eq, a0, a1, a4]
    exact (Cert.AdamInReferenceIdeal.Step.newV_eq _ _ _).trans (Cert.AdamInIdeal.Step.final8 m c).symm

end Cert.AdamInProof

end
-- ==== Proof.AdamKvBlock.lean ====
/- The optimiser's step on the memory's projection: what the body computes from a block of 256 rows, and the arrays that the call leaves. -/
module

public import proofs.«01_k».proof.Proof.AdamStep
public import proofs.«01_k».proof.Proof.Gen.AdamKvIdeal.Skeleton
public import proofs.«01_k».proof.Proof.Gen.AdamKvIdeal
public import proofs.«01_k».proof.Proof.Gen.AdamKvIdeal.Value
public import Idealize.ShloMosaic.Lib.Pointwise
public import Idealize.ShloMosaic.Lib.Pipeline.ValueKit

@[expose] public section

set_option maxRecDepth 16384

noncomputable section

namespace Cert.AdamKvIdeal.Step

open Cert.AdamKvIdeal Cert.AdamKvIdeal.Gen Idealize.ShloMosaic Idealize.ShloMosaic.TcCoe Idealize.SL.Sem
open Idealize.ShloMosaic.Pipeline (Dat)
open Cert.AdamStep

/-! ## One block -/

section At
variable (i : grid0.Coords) (a b : FVec Ideal S4x256x256 .bf16) (w mo ve : FVec Ideal S1x256x256 .f32)

/-- The gradient of the block's layer: the sum of that layer's four slots. -/
abbrev gB (y : S1x256x256.Idx) : EReal :=
  if (i 0).val = 1 then ∑ s : Fin 4, b (ix3 s (y 1) (y 2)) else ∑ s : Fin 4, a (ix3 s (y 1) (y 2))

theorem total_at (r : Fin 256) (j : Fin 256) : k0_pay8 (F := Ideal) i a b w mo ve (ix2 r j) = gB i a b (ix3 0 r j) := by
  unfold k0_pay8 gB
  rw [Fin.sum_univ_four, Fin.sum_univ_four]
  pointwise! [k0_pay3]
  rcases (show (i 0).val = 0 ∨ (i 0).val = 1 from by have : (i 0).val < 2 := (i 0).isLt; omega) with h | h <;>
    rw [h] <;> rfl

theorem mean_at (r : Fin 256) (j : Fin 256) : k0_pay4 (F := Ideal) (k0_pay8 i a b w mo ve) mo (ix2 r j)
    = mean (mo (ix3 0 r j)) (gB i a b (ix3 0 r j)) := by
  unfold mean
  pointwise! [k0_pay4, total_at]

theorem meanSq_at (r : Fin 256) (j : Fin 256) : k0_pay5 (F := Ideal) (k0_pay8 i a b w mo ve) ve (ix2 r j)
    = meanSq (ve (ix3 0 r j)) (gB i a b (ix3 0 r j)) := by
  unfold meanSq
  pointwise! [k0_pay5, total_at]

theorem out5_at (y : S1x256x256.Idx) : out0_5 (F := Ideal) i a b w mo ve y = gB i a b y := by
  idx_vars y
  unfold out0_5
  frame_out
  pointwise! [k0_pay6, total_at]

theorem out6_at (y : S1x256x256.Idx) : out0_6 (F := Ideal) i a b w mo ve y = change (w y) (mo y) (ve y) (gB i a b y) := by
  idx_vars y
  obtain rfl : y0 = 0 := Subsingleton.elim _ _
  unfold out0_6 change
  frame_out
  pointwise! [k0_pay7, total_at, mean_at, meanSq_at]

theorem out7_at (y : S1x256x256.Idx) : out0_7 (F := Ideal) i a b w mo ve y = mean (mo y) (gB i a b y) := by
  idx_vars y
  obtain rfl : y0 = 0 := Subsingleton.elim _ _
  unfold out0_7
  frame_out
  pointwise! [k0_pay1, mean_at]

theorem out8_at (y : S1x256x256.Idx) : out0_8 (F := Ideal) i a b w mo ve y = meanSq (ve y) (gB i a b y) := by
  idx_vars y
  obtain rfl : y0 = 0 := Subsingleton.elim _ _
  unfold out0_8
  frame_out
  pointwise! [k0_pay2, meanSq_at]
end At

/-! ## The whole arrays -/

section Whole
variable (A B : FVec Ideal S4x1024x256 .bf16) (W M Z : FVec Ideal S2x1024x256 .f32)

/-- The gradient: layer by layer the sum of the four slots. -/
def grad : FVec Ideal S2x1024x256 .f32 := fun i =>
  if (i 0).val = 1 then ∑ s : Fin 4, B (ix3 s (i 1) (i 2)) else ∑ s : Fin 4, A (ix3 s (i 1) (i 2))
def delta : FVec Ideal S2x1024x256 .f32 := fun i => change (W i) (M i) (Z i) (grad A B i)
def newM : FVec Ideal S2x1024x256 .f32 := fun i => mean (M i) (grad A B i)
def newV : FVec Ideal S2x1024x256 .f32 := fun i => meanSq (Z i) (grad A B i)
end Whole

variable (m : (ℓ : Loc nD τ sig) → Buf (Elt Ideal) ℓ) (c : Dev nD)

theorem idx : ∀ t : Fin cfg0.N, (grid0.coords t 0).val = t.val / 4
    ∧ win0_0.index t = ![0, if t.val / 4 = 0 then t.val % 4 else 0, 0]
    ∧ win0_1.index t = ![0, if t.val / 4 = 1 then t.val % 4 else 0, 0]
    ∧ win0_2.index t = ![t.val / 4, t.val % 4, 0] ∧ win0_3.index t = ![t.val / 4, t.val % 4, 0]
    ∧ win0_4.index t = ![t.val / 4, t.val % 4, 0] ∧ win0_5.index t = ![t.val / 4, t.val % 4, 0]
    ∧ win0_6.index t = ![t.val / 4, t.val % 4, 0] ∧ win0_7.index t = ![t.val / 4, t.val % 4, 0]
    ∧ win0_8.index t = ![t.val / 4, t.val % 4, 0] :=
  (by decide +kernel : ∀ t : Fin grid0.N, _)

abbrev mA : FVec Ideal S4x1024x256 .bf16 := m ((c : Thread nD τ).loc main_arg0)
abbrev mB : FVec Ideal S4x1024x256 .bf16 := m ((c : Thread nD τ).loc main_arg1)
abbrev mW : FVec Ideal S2x1024x256 .f32 := m ((c : Thread nD τ).loc main_arg2)
abbrev mM : FVec Ideal S2x1024x256 .f32 := m ((c : Thread nD τ).loc main_arg3)
abbrev mV : FVec Ideal S2x1024x256 .f32 := m ((c : Thread nD τ).loc main_arg4)

theorem lt_points (t : Fin cfg0.N) : t.val < 8 := lt_of_lt_of_eq t.isLt N_0

section Place
variable (t : Fin cfg0.N) (y : S1x256x256.Idx) (i : S2x1024x256.Idx) (h0 : (i 0).val = t.val / 4) (h1 : (i 1).val = t.val % 4 * 256 + (y 1).val)
  (h2 : (i 2).val = (y 2).val)

include h0 h1 h2

theorem blk2 : (iblk m c 2 t : FVec Ideal S1x256x256 .f32) y = mW m c i := by
  idx_vars y
  blk_point [iblk, V, idx t] <;> first | exact h0.symm | exact h1.symm | exact h2.symm
theorem blk3 : (iblk m c 3 t : FVec Ideal S1x256x256 .f32) y = mM m c i := by
  idx_vars y
  blk_point [iblk, V, idx t] <;> first | exact h0.symm | exact h1.symm | exact h2.symm
theorem blk4 : (iblk m c 4 t : FVec Ideal S1x256x256 .f32) y = mV m c i := by
  idx_vars y
  blk_point [iblk, V, idx t] <;> first | exact h0.symm | exact h1.symm | exact h2.symm

/-- The slots that the point reads are its own rows'. -/
theorem gB_eq : gB (grid0.coords t) (iblk m c 0 t) (iblk m c 1 t) y = grad (mA m c) (mB m c) i := by
  unfold gB grad
  rw [(idx t).1, h0]
  have hN := lt_points t
  by_cases h : t.val / 4 = 1
  · rw [if_pos h, if_pos h]
    refine Finset.sum_congr rfl fun s _ => ?_
    blk_point [iblk, V, idx t, h] <;> first | omega | rw [if_pos trivial, h1]
  · have h' : t.val / 4 = 0 := by omega
    rw [if_neg h, if_neg h]
    refine Finset.sum_congr rfl fun s _ => ?_
    blk_point [iblk, V, idx t, h'] <;> first | omega | rw [if_pos trivial, h1]
end Place

theorem final5 : (dats m 0 c).arrAt 5 (cfgs 0).N = grad (mA m c) (mB m c) := by
  refine (dats m 0 c).arrAt_eq_of_covers 5 _ (by decide +kernel) fun t _ y => ?_
  blk_simp
  rw [after0_5]
  refine (out5_at _ _ _ _ _ _ y).trans (gB_eq m c t y _ ?_ ?_ ?_) <;> (blk_simp [idx t] <;> try omega)

theorem final6 : (dats m 0 c).arrAt 6 (cfgs 0).N = delta (mA m c) (mB m c) (mW m c) (mM m c) (mV m c) := by
  refine (dats m 0 c).arrAt_eq_of_covers 6 _ (by decide +kernel) fun t _ y => ?_
  blk_simp
  rw [after0_6]
  unfold delta
  refine (out6_at _ _ _ _ _ _ y).trans (change_congr (blk2 m c t y _ ?_ ?_ ?_) (blk3 m c t y _ ?_ ?_ ?_) (blk4 m c t y _ ?_ ?_ ?_)
    (gB_eq m c t y _ ?_ ?_ ?_)) <;> (blk_simp [idx t] <;> try omega)

theorem final7 : (dats m 0 c).arrAt 7 (cfgs 0).N = newM (mA m c) (mB m c) (mM m c) := by
  refine (dats m 0 c).arrAt_eq_of_covers 7 _ (by decide +kernel) fun t _ y => ?_
  blk_simp
  rw [after0_7]
  unfold newM
  refine (out7_at _ _ _ _ _ _ y).trans (mean_congr (blk3 m c t y _ ?_ ?_ ?_) (gB_eq m c t y _ ?_ ?_ ?_)) <;>
    (blk_simp [idx t] <;> try omega)

theorem final8 : (dats m 0 c).arrAt 8 (cfgs 0).N = newV (mA m c) (mB m c) (mV m c) := by
  refine (dats m 0 c).arrAt_eq_of_covers 8 _ (by decide +kernel) fun t _ y => ?_
  blk_simp
  rw [after0_8]
  unfold newV
  refine (out8_at _ _ _ _ _ _ y).trans (meanSq_congr (blk4 m c t y _ ?_ ?_ ?_) (gB_eq m c t y _ ?_ ?_ ?_)) <;>
    (blk_simp [idx t] <;> try omega)

end Cert.AdamKvIdeal.Step

end
-- ==== Proof.AdamKvClaim.lean ====
/- The reference's step on the memory's projection, read at an index, and the claims about the call. -/
module

public import proofs.«01_k».proof.Defs
public import proofs.«01_k».proof.Proof.AdamKvBlock
public import proofs.«01_k».proof.Proof.Gen.AdamKvReferenceIdeal.Read
public import proofs.«01_k».proof.Proof.Gen.AdamKvReferenceIdeal.Run
public import Idealize.ShloMosaic.Lib.Claim

@[expose] public section

set_option maxRecDepth 16384

noncomputable section

namespace Cert.AdamKvReferenceIdeal.Step

open Cert.AdamKvReferenceIdeal Cert.AdamKvReferenceIdeal.Gen Cert.AdamKvReferenceIdeal.Read Idealize.ShloMosaic Idealize.ShloMosaic.TcCoe Idealize.SL.Sem
open Cert.AdamStep
open Cert.AdamKvIdeal.Step (grad delta newM newV)

variable (A B : FVec Ideal S4x1024x256 .bf16) (W M Z : FVec Ideal S2x1024x256 .f32)

theorem sumA_at (r : Fin 1024) (j : Fin 256) : val_main_v1 (F := Ideal) A (ix2 r j) = ∑ s : Fin 4, A (ix3 s r j) := by
  pointwise! [val_main_v1, val_main_v0, val_main_cst]

theorem sumB_at (r : Fin 1024) (j : Fin 256) : val_main_v3 (F := Ideal) B (ix2 r j) = ∑ s : Fin 4, B (ix3 s r j) := by
  pointwise! [val_main_v3, val_main_v2, val_main_cst_0]

theorem grad_at (i : S2x1024x256.Idx) : val_main_v6 (F := Ideal) A B i = grad A B i := by
  idx_vars i
  unfold grad
  rcases (show i0.val = 0 ∨ i0.val = 1 from by omega) with h | h
  · pointwise! [val_main_v6, val_main_v5, val_main_v4, sumA_at, sumB_at, h]
  · pointwise! [val_main_v6, val_main_v5, val_main_v4, sumA_at, sumB_at, h]

theorem mean_at (i : S2x1024x256.Idx) : val_main_v11 (F := Ideal) A B M i = newM A B M i := by
  unfold newM mean
  rw [← grad_at]
  pointwise! [val_main_v11, val_main_v10, val_main_v9, val_main_v8, val_main_v7, val_main_cst_1, val_main_cst_2]

theorem meanSq_at (i : S2x1024x256.Idx) : val_main_v17 (F := Ideal) A B Z i = newV A B Z i := by
  unfold newV meanSq
  rw [← grad_at]
  pointwise! [val_main_v17, val_main_v16, val_main_v15, val_main_v14, val_main_v13, val_main_v12, val_main_cst_3, val_main_cst_4]

theorem delta_at (i : S2x1024x256.Idx) : val_main_v30 (F := Ideal) A B W M Z i = delta A B W M Z i := by
  unfold delta change
  rw [show mean (M i) (grad A B i) = val_main_v11 (F := Ideal) A B M i from (mean_at A B M i).symm,
    show meanSq (Z i) (grad A B i) = val_main_v17 (F := Ideal) A B Z i from (meanSq_at A B Z i).symm]
  pointwise! [val_main_v30, val_main_v29, val_main_v28, val_main_v27, val_main_v26, val_main_v25, val_main_v24, val_main_v23,
    val_main_v22, val_main_v21, val_main_v20, val_main_v19, val_main_v18, val_main_cst_5, val_main_cst_6, val_main_cst_7,
    val_main_cst_8, val_main_cst_9]

theorem grad_eq : val_main_v6 (F := Ideal) A B = grad A B := funext fun i => grad_at A B i
theorem delta_eq : val_main_v30 (F := Ideal) A B W M Z = delta A B W M Z := funext fun i => delta_at A B W M Z i
theorem newM_eq : val_main_v11 (F := Ideal) A B M = newM A B M := funext fun i => mean_at A B M i
theorem newV_eq : val_main_v17 (F := Ideal) A B Z = newV A B Z := funext fun i => meanSq_at A B Z i

end Cert.AdamKvReferenceIdeal.Step

namespace Cert.AdamKvProof

open Idealize.ShloMosaic Idealize.SL.Sem

/-- The reference runs and leaves its arguments as they were. -/
theorem frame_reference : Cert.quiescent_AdamKvReferenceIdeal := by
  intro m g _
  exact (θ_run _ _ _).mono (fun r h => ⟨fun c => (h c).2.2.2.2, sem_eq_zero_of_no_sems (by decide) r.2⟩)
    (Cert.AdamKvReferenceIdeal.Value.run m g)

/-- Over the extended reals the kernel and the reference leave the same four arrays. -/
theorem algebraic : Cert.algebraic_AdamKvIdeal_AdamKvReferenceIdeal := by
  intro m g m' g' _ hagree
  refine ⟨_, _, _, _, Cert.AdamKvIdeal.Value.run_blocks m g, ?_⟩
  refine (θ_run _ _ _).mono (fun r h c => ?_) (Cert.AdamKvReferenceIdeal.Value.run m' g')
  obtain ⟨h0, h1, h2, h3, k⟩ := h c
  obtain ⟨a0, a1, a2, a3, a4⟩ := hagree c
  refine ⟨h0.trans ?_, h1.trans ?_, h2.trans ?_, h3.trans ?_, k⟩
  · rw [Cert.AdamKvReferenceIdeal.Read.val_main_v6_eq, a0, a1]
    exact (Cert.AdamKvReferenceIdeal.Step.grad_eq _ _).trans (Cert.AdamKvIdeal.Step.final5 m c).symm
  · rw [Cert.AdamKvReferenceIdeal.Read.val_main_v30_eq, a0, a1, a2, a3, a4]
    exact (Cert.AdamKvReferenceIdeal.Step.delta_eq _ _ _ _ _).trans (Cert.AdamKvIdeal.Step.final6 m c).symm
  · rw [Cert.AdamKvReferenceIdeal.Read.val_main_v11_eq, a0, a1, a3]
    exact (Cert.AdamKvReferenceIdeal.Step.newM_eq _ _ _).trans (Cert.AdamKvIdeal.Step.final7 m c).symm
  · rw [Cert.AdamKvReferenceIdeal.Read.val_main_v17_eq, a0, a1, a4]
    exact (Cert.AdamKvReferenceIdeal.Step.newV_eq _ _ _).trans (Cert.AdamKvIdeal.Step.final8 m c).symm

end Cert.AdamKvProof

end
-- ==== Proof.AdamBrBlock.lean ====
/- The optimiser's step on a branch projection of 128 rows: what the body computes from a block of 128 rows, and the arrays that the call leaves. -/
module

public import proofs.«01_k».proof.Proof.AdamStep
public import proofs.«01_k».proof.Proof.Gen.AdamBrIdeal.Skeleton
public import proofs.«01_k».proof.Proof.Gen.AdamBrIdeal
public import proofs.«01_k».proof.Proof.Gen.AdamBrIdeal.Value
public import Idealize.ShloMosaic.Lib.Pointwise
public import Idealize.ShloMosaic.Lib.Pipeline.ValueKit

@[expose] public section

set_option maxRecDepth 16384

noncomputable section

namespace Cert.AdamBrIdeal.Step

open Cert.AdamBrIdeal Cert.AdamBrIdeal.Gen Idealize.ShloMosaic Idealize.ShloMosaic.TcCoe Idealize.SL.Sem
open Idealize.ShloMosaic.Pipeline (Dat)
open Cert.AdamStep

/-! ## One block -/

section At
variable (i : grid0.Coords) (a b : FVec Ideal S4x128x1024 .bf16) (w mo ve : FVec Ideal S1x128x1024 .f32)

/-- The gradient of the block's layer: the sum of that layer's four slots. -/
abbrev gB (y : S1x128x1024.Idx) : EReal :=
  if (i 0).val = 1 then ∑ s : Fin 4, b (ix3 s (y 1) (y 2)) else ∑ s : Fin 4, a (ix3 s (y 1) (y 2))

theorem total_at (r : Fin 128) (j : Fin 1024) : k0_pay8 (F := Ideal) i a b w mo ve (ix2 r j) = gB i a b (ix3 0 r j) := by
  unfold k0_pay8 gB
  rw [Fin.sum_univ_four, Fin.sum_univ_four]
  pointwise! [k0_pay3]
  rcases (show (i 0).val = 0 ∨ (i 0).val = 1 from by have : (i 0).val < 2 := (i 0).isLt; omega) with h | h <;>
    rw [h] <;> rfl

theorem mean_at (r : Fin 128) (j : Fin 1024) : k0_pay4 (F := Ideal) (k0_pay8 i a b w mo ve) mo (ix2 r j)
    = mean (mo (ix3 0 r j)) (gB i a b (ix3 0 r j)) := by
  unfold mean
  pointwise! [k0_pay4, total_at]

theorem meanSq_at (r : Fin 128) (j : Fin 1024) : k0_pay5 (F := Ideal) (k0_pay8 i a b w mo ve) ve (ix2 r j)
    = meanSq (ve (ix3 0 r j)) (gB i a b (ix3 0 r j)) := by
  unfold meanSq
  pointwise! [k0_pay5, total_at]

theorem out5_at (y : S1x128x1024.Idx) : out0_5 (F := Ideal) i a b w mo ve y = gB i a b y := by
  idx_vars y
  unfold out0_5
  frame_out
  pointwise! [k0_pay6, total_at]

theorem out6_at (y : S1x128x1024.Idx) : out0_6 (F := Ideal) i a b w mo ve y = change (w y) (mo y) (ve y) (gB i a b y) := by
  idx_vars y
  obtain rfl : y0 = 0 := Subsingleton.elim _ _
  unfold out0_6 change
  frame_out
  pointwise! [k0_pay7, total_at, mean_at, meanSq_at]

theorem out7_at (y : S1x128x1024.Idx) : out0_7 (F := Ideal) i a b w mo ve y = mean (mo y) (gB i a b y) := by
  idx_vars y
  obtain rfl : y0 = 0 := Subsingleton.elim _ _
  unfold out0_7
  frame_out
  pointwise! [k0_pay1, mean_at]

theorem out8_at (y : S1x128x1024.Idx) : out0_8 (F := Ideal) i a b w mo ve y = meanSq (ve y) (gB i a b y) := by
  idx_vars y
  obtain rfl : y0 = 0 := Subsingleton.elim _ _
  unfold out0_8
  frame_out
  pointwise! [k0_pay2, meanSq_at]
end At

/-! ## The whole arrays -/

section Whole
variable (A B : FVec Ideal S4x128x1024 .bf16) (W M Z : FVec Ideal S2x128x1024 .f32)

/-- The gradient: layer by layer the sum of the four slots. -/
def grad : FVec Ideal S2x128x1024 .f32 := fun i =>
  if (i 0).val = 1 then ∑ s : Fin 4, B (ix3 s (i 1) (i 2)) else ∑ s : Fin 4, A (ix3 s (i 1) (i 2))
def delta : FVec Ideal S2x128x1024 .f32 := fun i => change (W i) (M i) (Z i) (grad A B i)
def newM : FVec Ideal S2x128x1024 .f32 := fun i => mean (M i) (grad A B i)
def newV : FVec Ideal S2x128x1024 .f32 := fun i => meanSq (Z i) (grad A B i)
end Whole

variable (m : (ℓ : Loc nD τ sig) → Buf (Elt Ideal) ℓ) (c : Dev nD)

theorem idx : ∀ t : Fin cfg0.N, (grid0.coords t 0).val = t.val / 1
    ∧ win0_0.index t = ![0, if t.val / 1 = 0 then t.val % 1 else 0, 0]
    ∧ win0_1.index t = ![0, if t.val / 1 = 1 then t.val % 1 else 0, 0]
    ∧ win0_2.index t = ![t.val / 1, t.val % 1, 0] ∧ win0_3.index t = ![t.val / 1, t.val % 1, 0]
    ∧ win0_4.index t = ![t.val / 1, t.val % 1, 0] ∧ win0_5.index t = ![t.val / 1, t.val % 1, 0]
    ∧ win0_6.index t = ![t.val / 1, t.val % 1, 0] ∧ win0_7.index t = ![t.val / 1, t.val % 1, 0]
    ∧ win0_8.index t = ![t.val / 1, t.val % 1, 0] :=
  (by decide +kernel : ∀ t : Fin grid0.N, _)

abbrev mA : FVec Ideal S4x128x1024 .bf16 := m ((c : Thread nD τ).loc main_arg0)
abbrev mB : FVec Ideal S4x128x1024 .bf16 := m ((c : Thread nD τ).loc main_arg1)
abbrev mW : FVec Ideal S2x128x1024 .f32 := m ((c : Thread nD τ).loc main_arg2)
abbrev mM : FVec Ideal S2x128x1024 .f32 := m ((c : Thread nD τ).loc main_arg3)
abbrev mV : FVec Ideal S2x128x1024 .f32 := m ((c : Thread nD τ).loc main_arg4)

theorem lt_points (t : Fin cfg0.N) : t.val < 2 := lt_of_lt_of_eq t.isLt N_0

section Place
variable (t : Fin cfg0.N) (y : S1x128x1024.Idx) (i : S2x128x1024.Idx) (h0 : (i 0).val = t.val / 1) (h1 : (i 1).val = t.val % 1 * 128 + (y 1).val)
  (h2 : (i 2).val = (y 2).val)

include h0 h1 h2

theorem blk2 : (iblk m c 2 t : FVec Ideal S1x128x1024 .f32) y = mW m c i := by
  idx_vars y
  blk_point [iblk, V, idx t] <;> first | exact h0.symm | exact h1.symm | exact h2.symm
theorem blk3 : (iblk m c 3 t : FVec Ideal S1x128x1024 .f32) y = mM m c i := by
  idx_vars y
  blk_point [iblk, V, idx t] <;> first | exact h0.symm | exact h1.symm | exact h2.symm
theorem blk4 : (iblk m c 4 t : FVec Ideal S1x128x1024 .f32) y = mV m c i := by
  idx_vars y
  blk_point [iblk, V, idx t] <;> first | exact h0.symm | exact h1.symm | exact h2.symm

/-- The slots that the point reads are its own rows'. -/
theorem gB_eq : gB (grid0.coords t) (iblk m c 0 t) (iblk m c 1 t) y = grad (mA m c) (mB m c) i := by
  unfold gB grad
  rw [(idx t).1, h0]
  have hN := lt_points t
  by_cases h : t.val / 1 = 1
  · rw [if_pos h, if_pos h]
    refine Finset.sum_congr rfl fun s _ => ?_
    blk_point [iblk, V, idx t, h] <;> first | omega | rw [if_pos trivial, h1]
  · have h' : t.val / 1 = 0 := by omega
    rw [if_neg h, if_neg h]
    refine Finset.sum_congr rfl fun s _ => ?_
    blk_point [iblk, V, idx t, h'] <;> first | omega | rw [if_pos trivial, h1]
end Place

theorem final5 : (dats m 0 c).arrAt 5 (cfgs 0).N = grad (mA m c) (mB m c) := by
  refine (dats m 0 c).arrAt_eq_of_covers 5 _ (by decide +kernel) fun t _ y => ?_
  blk_simp
  rw [after0_5]
  refine (out5_at _ _ _ _ _ _ y).trans (gB_eq m c t y _ ?_ ?_ ?_) <;> (blk_simp [idx t] <;> try omega)

theorem final6 : (dats m 0 c).arrAt 6 (cfgs 0).N = delta (mA m c) (mB m c) (mW m c) (mM m c) (mV m c) := by
  refine (dats m 0 c).arrAt_eq_of_covers 6 _ (by decide +kernel) fun t _ y => ?_
  blk_simp
  rw [after0_6]
  unfold delta
  refine (out6_at _ _ _ _ _ _ y).trans (change_congr (blk2 m c t y _ ?_ ?_ ?_) (blk3 m c t y _ ?_ ?_ ?_) (blk4 m c t y _ ?_ ?_ ?_)
    (gB_eq m c t y _ ?_ ?_ ?_)) <;> (blk_simp [idx t] <;> try omega)

theorem final7 : (dats m 0 c).arrAt 7 (cfgs 0).N = newM (mA m c) (mB m c) (mM m c) := by
  refine (dats m 0 c).arrAt_eq_of_covers 7 _ (by decide +kernel) fun t _ y => ?_
  blk_simp
  rw [after0_7]
  unfold newM
  refine (out7_at _ _ _ _ _ _ y).trans (mean_congr (blk3 m c t y _ ?_ ?_ ?_) (gB_eq m c t y _ ?_ ?_ ?_)) <;>
    (blk_simp [idx t] <;> try omega)

theorem final8 : (dats m 0 c).arrAt 8 (cfgs 0).N = newV (mA m c) (mB m c) (mV m c) := by
  refine (dats m 0 c).arrAt_eq_of_covers 8 _ (by decide +kernel) fun t _ y => ?_
  blk_simp
  rw [after0_8]
  unfold newV
  refine (out8_at _ _ _ _ _ _ y).trans (meanSq_congr (blk4 m c t y _ ?_ ?_ ?_) (gB_eq m c t y _ ?_ ?_ ?_)) <;>
    (blk_simp [idx t] <;> try omega)

end Cert.AdamBrIdeal.Step

end
-- ==== Proof.AdamBrClaim.lean ====
/- The reference's step on a branch projection of 128 rows, read at an index, and the claims about the call. -/
module

public import proofs.«01_k».proof.Defs
public import proofs.«01_k».proof.Proof.AdamBrBlock
public import proofs.«01_k».proof.Proof.Gen.AdamBrReferenceIdeal.Read
public import proofs.«01_k».proof.Proof.Gen.AdamBrReferenceIdeal.Run
public import Idealize.ShloMosaic.Lib.Claim

@[expose] public section

set_option maxRecDepth 16384

noncomputable section

namespace Cert.AdamBrReferenceIdeal.Step

open Cert.AdamBrReferenceIdeal Cert.AdamBrReferenceIdeal.Gen Cert.AdamBrReferenceIdeal.Read Idealize.ShloMosaic Idealize.ShloMosaic.TcCoe Idealize.SL.Sem
open Cert.AdamStep
open Cert.AdamBrIdeal.Step (grad delta newM newV)

variable (A B : FVec Ideal S4x128x1024 .bf16) (W M Z : FVec Ideal S2x128x1024 .f32)

theorem sumA_at (r : Fin 128) (j : Fin 1024) : val_main_v1 (F := Ideal) A (ix2 r j) = ∑ s : Fin 4, A (ix3 s r j) := by
  pointwise! [val_main_v1, val_main_v0, val_main_cst]

theorem sumB_at (r : Fin 128) (j : Fin 1024) : val_main_v3 (F := Ideal) B (ix2 r j) = ∑ s : Fin 4, B (ix3 s r j) := by
  pointwise! [val_main_v3, val_main_v2, val_main_cst_0]

theorem grad_at (i : S2x128x1024.Idx) : val_main_v6 (F := Ideal) A B i = grad A B i := by
  idx_vars i
  unfold grad
  rcases (show i0.val = 0 ∨ i0.val = 1 from by omega) with h | h
  · pointwise! [val_main_v6, val_main_v5, val_main_v4, sumA_at, sumB_at, h]
  · pointwise! [val_main_v6, val_main_v5, val_main_v4, sumA_at, sumB_at, h]

theorem mean_at (i : S2x128x1024.Idx) : val_main_v11 (F := Ideal) A B M i = newM A B M i := by
  unfold newM mean
  rw [← grad_at]
  pointwise! [val_main_v11, val_main_v10, val_main_v9, val_main_v8, val_main_v7, val_main_cst_1, val_main_cst_2]

theorem meanSq_at (i : S2x128x1024.Idx) : val_main_v17 (F := Ideal) A B Z i = newV A B Z i := by
  unfold newV meanSq
  rw [← grad_at]
  pointwise! [val_main_v17, val_main_v16, val_main_v15, val_main_v14, val_main_v13, val_main_v12, val_main_cst_3, val_main_cst_4]

theorem delta_at (i : S2x128x1024.Idx) : val_main_v30 (F := Ideal) A B W M Z i = delta A B W M Z i := by
  unfold delta change
  rw [show mean (M i) (grad A B i) = val_main_v11 (F := Ideal) A B M i from (mean_at A B M i).symm,
    show meanSq (Z i) (grad A B i) = val_main_v17 (F := Ideal) A B Z i from (meanSq_at A B Z i).symm]
  pointwise! [val_main_v30, val_main_v29, val_main_v28, val_main_v27, val_main_v26, val_main_v25, val_main_v24, val_main_v23,
    val_main_v22, val_main_v21, val_main_v20, val_main_v19, val_main_v18, val_main_cst_5, val_main_cst_6, val_main_cst_7,
    val_main_cst_8, val_main_cst_9]

theorem grad_eq : val_main_v6 (F := Ideal) A B = grad A B := funext fun i => grad_at A B i
theorem delta_eq : val_main_v30 (F := Ideal) A B W M Z = delta A B W M Z := funext fun i => delta_at A B W M Z i
theorem newM_eq : val_main_v11 (F := Ideal) A B M = newM A B M := funext fun i => mean_at A B M i
theorem newV_eq : val_main_v17 (F := Ideal) A B Z = newV A B Z := funext fun i => meanSq_at A B Z i

end Cert.AdamBrReferenceIdeal.Step

namespace Cert.AdamBrProof

open Idealize.ShloMosaic Idealize.SL.Sem

/-- The reference runs and leaves its arguments as they were. -/
theorem frame_reference : Cert.quiescent_AdamBrReferenceIdeal := by
  intro m g _
  exact (θ_run _ _ _).mono (fun r h => ⟨fun c => (h c).2.2.2.2, sem_eq_zero_of_no_sems (by decide) r.2⟩)
    (Cert.AdamBrReferenceIdeal.Value.run m g)

/-- Over the extended reals the kernel and the reference leave the same four arrays. -/
theorem algebraic : Cert.algebraic_AdamBrIdeal_AdamBrReferenceIdeal := by
  intro m g m' g' _ hagree
  refine ⟨_, _, _, _, Cert.AdamBrIdeal.Value.run_blocks m g, ?_⟩
  refine (θ_run _ _ _).mono (fun r h c => ?_) (Cert.AdamBrReferenceIdeal.Value.run m' g')
  obtain ⟨h0, h1, h2, h3, k⟩ := h c
  obtain ⟨a0, a1, a2, a3, a4⟩ := hagree c
  refine ⟨h0.trans ?_, h1.trans ?_, h2.trans ?_, h3.trans ?_, k⟩
  · rw [Cert.AdamBrReferenceIdeal.Read.val_main_v6_eq, a0, a1]
    exact (Cert.AdamBrReferenceIdeal.Step.grad_eq _ _).trans (Cert.AdamBrIdeal.Step.final5 m c).symm
  · rw [Cert.AdamBrReferenceIdeal.Read.val_main_v30_eq, a0, a1, a2, a3, a4]
    exact (Cert.AdamBrReferenceIdeal.Step.delta_eq _ _ _ _ _).trans (Cert.AdamBrIdeal.Step.final6 m c).symm
  · rw [Cert.AdamBrReferenceIdeal.Read.val_main_v11_eq, a0, a1, a3]
    exact (Cert.AdamBrReferenceIdeal.Step.newM_eq _ _ _).trans (Cert.AdamBrIdeal.Step.final7 m c).symm
  · rw [Cert.AdamBrReferenceIdeal.Read.val_main_v17_eq, a0, a1, a4]
    exact (Cert.AdamBrReferenceIdeal.Step.newV_eq _ _ _).trans (Cert.AdamBrIdeal.Step.final8 m c).symm

end Cert.AdamBrProof

end
-- ==== Proof.AdamBrSsdBlock.lean ====
/- The optimiser's step on the state-space branch's projection: what the body computes from a block of 256 rows, and the arrays that the call leaves. -/
module

public import proofs.«01_k».proof.Proof.AdamStep
public import proofs.«01_k».proof.Proof.Gen.AdamBrSsdIdeal.Skeleton
public import proofs.«01_k».proof.Proof.Gen.AdamBrSsdIdeal
public import proofs.«01_k».proof.Proof.Gen.AdamBrSsdIdeal.Value
public import Idealize.ShloMosaic.Lib.Pointwise
public import Idealize.ShloMosaic.Lib.Pipeline.ValueKit

@[expose] public section

set_option maxRecDepth 16384

noncomputable section

namespace Cert.AdamBrSsdIdeal.Step

open Cert.AdamBrSsdIdeal Cert.AdamBrSsdIdeal.Gen Idealize.ShloMosaic Idealize.ShloMosaic.TcCoe Idealize.SL.Sem
open Idealize.ShloMosaic.Pipeline (Dat)
open Cert.AdamStep

/-! ## One block -/

section At
variable (i : grid0.Coords) (a b : FVec Ideal S4x256x1024 .bf16) (w mo ve : FVec Ideal S1x256x1024 .f32)

/-- The gradient of the block's layer: the sum of that layer's four slots. -/
abbrev gB (y : S1x256x1024.Idx) : EReal :=
  if (i 0).val = 1 then ∑ s : Fin 4, b (ix3 s (y 1) (y 2)) else ∑ s : Fin 4, a (ix3 s (y 1) (y 2))

theorem total_at (r : Fin 256) (j : Fin 1024) : k0_pay8 (F := Ideal) i a b w mo ve (ix2 r j) = gB i a b (ix3 0 r j) := by
  unfold k0_pay8 gB
  rw [Fin.sum_univ_four, Fin.sum_univ_four]
  pointwise! [k0_pay3]
  rcases (show (i 0).val = 0 ∨ (i 0).val = 1 from by have : (i 0).val < 2 := (i 0).isLt; omega) with h | h <;>
    rw [h] <;> rfl

theorem mean_at (r : Fin 256) (j : Fin 1024) : k0_pay4 (F := Ideal) (k0_pay8 i a b w mo ve) mo (ix2 r j)
    = mean (mo (ix3 0 r j)) (gB i a b (ix3 0 r j)) := by
  unfold mean
  pointwise! [k0_pay4, total_at]

theorem meanSq_at (r : Fin 256) (j : Fin 1024) : k0_pay5 (F := Ideal) (k0_pay8 i a b w mo ve) ve (ix2 r j)
    = meanSq (ve (ix3 0 r j)) (gB i a b (ix3 0 r j)) := by
  unfold meanSq
  pointwise! [k0_pay5, total_at]

theorem out5_at (y : S1x256x1024.Idx) : out0_5 (F := Ideal) i a b w mo ve y = gB i a b y := by
  idx_vars y
  unfold out0_5
  frame_out
  pointwise! [k0_pay6, total_at]

theorem out6_at (y : S1x256x1024.Idx) : out0_6 (F := Ideal) i a b w mo ve y = change (w y) (mo y) (ve y) (gB i a b y) := by
  idx_vars y
  obtain rfl : y0 = 0 := Subsingleton.elim _ _
  unfold out0_6 change
  frame_out
  pointwise! [k0_pay7, total_at, mean_at, meanSq_at]

theorem out7_at (y : S1x256x1024.Idx) : out0_7 (F := Ideal) i a b w mo ve y = mean (mo y) (gB i a b y) := by
  idx_vars y
  obtain rfl : y0 = 0 := Subsingleton.elim _ _
  unfold out0_7
  frame_out
  pointwise! [k0_pay1, mean_at]

theorem out8_at (y : S1x256x1024.Idx) : out0_8 (F := Ideal) i a b w mo ve y = meanSq (ve y) (gB i a b y) := by
  idx_vars y
  obtain rfl : y0 = 0 := Subsingleton.elim _ _
  unfold out0_8
  frame_out
  pointwise! [k0_pay2, meanSq_at]
end At

/-! ## The whole arrays -/

section Whole
variable (A B : FVec Ideal S4x256x1024 .bf16) (W M Z : FVec Ideal S2x256x1024 .f32)

/-- The gradient: layer by layer the sum of the four slots. -/
def grad : FVec Ideal S2x256x1024 .f32 := fun i =>
  if (i 0).val = 1 then ∑ s : Fin 4, B (ix3 s (i 1) (i 2)) else ∑ s : Fin 4, A (ix3 s (i 1) (i 2))
def delta : FVec Ideal S2x256x1024 .f32 := fun i => change (W i) (M i) (Z i) (grad A B i)
def newM : FVec Ideal S2x256x1024 .f32 := fun i => mean (M i) (grad A B i)
def newV : FVec Ideal S2x256x1024 .f32 := fun i => meanSq (Z i) (grad A B i)
end Whole

variable (m : (ℓ : Loc nD τ sig) → Buf (Elt Ideal) ℓ) (c : Dev nD)

theorem idx : ∀ t : Fin cfg0.N, (grid0.coords t 0).val = t.val / 1
    ∧ win0_0.index t = ![0, if t.val / 1 = 0 then t.val % 1 else 0, 0]
    ∧ win0_1.index t = ![0, if t.val / 1 = 1 then t.val % 1 else 0, 0]
    ∧ win0_2.index t = ![t.val / 1, t.val % 1, 0] ∧ win0_3.index t = ![t.val / 1, t.val % 1, 0]
    ∧ win0_4.index t = ![t.val / 1, t.val % 1, 0] ∧ win0_5.index t = ![t.val / 1, t.val % 1, 0]
    ∧ win0_6.index t = ![t.val / 1, t.val % 1, 0] ∧ win0_7.index t = ![t.val / 1, t.val % 1, 0]
    ∧ win0_8.index t = ![t.val / 1, t.val % 1, 0] :=
  (by decide +kernel : ∀ t : Fin grid0.N, _)

abbrev mA : FVec Ideal S4x256x1024 .bf16 := m ((c : Thread nD τ).loc main_arg0)
abbrev mB : FVec Ideal S4x256x1024 .bf16 := m ((c : Thread nD τ).loc main_arg1)
abbrev mW : FVec Ideal S2x256x1024 .f32 := m ((c : Thread nD τ).loc main_arg2)
abbrev mM : FVec Ideal S2x256x1024 .f32 := m ((c : Thread nD τ).loc main_arg3)
abbrev mV : FVec Ideal S2x256x1024 .f32 := m ((c : Thread nD τ).loc main_arg4)

theorem lt_points (t : Fin cfg0.N) : t.val < 2 := lt_of_lt_of_eq t.isLt N_0

section Place
variable (t : Fin cfg0.N) (y : S1x256x1024.Idx) (i : S2x256x1024.Idx) (h0 : (i 0).val = t.val / 1) (h1 : (i 1).val = t.val % 1 * 256 + (y 1).val)
  (h2 : (i 2).val = (y 2).val)

include h0 h1 h2

theorem blk2 : (iblk m c 2 t : FVec Ideal S1x256x1024 .f32) y = mW m c i := by
  idx_vars y
  blk_point [iblk, V, idx t] <;> first | exact h0.symm | exact h1.symm | exact h2.symm
theorem blk3 : (iblk m c 3 t : FVec Ideal S1x256x1024 .f32) y = mM m c i := by
  idx_vars y
  blk_point [iblk, V, idx t] <;> first | exact h0.symm | exact h1.symm | exact h2.symm
theorem blk4 : (iblk m c 4 t : FVec Ideal S1x256x1024 .f32) y = mV m c i := by
  idx_vars y
  blk_point [iblk, V, idx t] <;> first | exact h0.symm | exact h1.symm | exact h2.symm

/-- The slots that the point reads are its own rows'. -/
theorem gB_eq : gB (grid0.coords t) (iblk m c 0 t) (iblk m c 1 t) y = grad (mA m c) (mB m c) i := by
  unfold gB grad
  rw [(idx t).1, h0]
  have hN := lt_points t
  by_cases h : t.val / 1 = 1
  · rw [if_pos h, if_pos h]
    refine Finset.sum_congr rfl fun s _ => ?_
    blk_point [iblk, V, idx t, h] <;> first | omega | rw [if_pos trivial, h1]
  · have h' : t.val / 1 = 0 := by omega
    rw [if_neg h, if_neg h]
    refine Finset.sum_congr rfl fun s _ => ?_
    blk_point [iblk, V, idx t, h'] <;> first | omega | rw [if_pos trivial, h1]
end Place

theorem final5 : (dats m 0 c).arrAt 5 (cfgs 0).N = grad (mA m c) (mB m c) := by
  refine (dats m 0 c).arrAt_eq_of_covers 5 _ (by decide +kernel) fun t _ y => ?_
  blk_simp
  rw [after0_5]
  refine (out5_at _ _ _ _ _ _ y).trans (gB_eq m c t y _ ?_ ?_ ?_) <;> (blk_simp [idx t] <;> try omega)

theorem final6 : (dats m 0 c).arrAt 6 (cfgs 0).N = delta (mA m c) (mB m c) (mW m c) (mM m c) (mV m c) := by
  refine (dats m 0 c).arrAt_eq_of_covers 6 _ (by decide +kernel) fun t _ y => ?_
  blk_simp
  rw [after0_6]
  unfold delta
  refine (out6_at _ _ _ _ _ _ y).trans (change_congr (blk2 m c t y _ ?_ ?_ ?_) (blk3 m c t y _ ?_ ?_ ?_) (blk4 m c t y _ ?_ ?_ ?_)
    (gB_eq m c t y _ ?_ ?_ ?_)) <;> (blk_simp [idx t] <;> try omega)

theorem final7 : (dats m 0 c).arrAt 7 (cfgs 0).N = newM (mA m c) (mB m c) (mM m c) := by
  refine (dats m 0 c).arrAt_eq_of_covers 7 _ (by decide +kernel) fun t _ y => ?_
  blk_simp
  rw [after0_7]
  unfold newM
  refine (out7_at _ _ _ _ _ _ y).trans (mean_congr (blk3 m c t y _ ?_ ?_ ?_) (gB_eq m c t y _ ?_ ?_ ?_)) <;>
    (blk_simp [idx t] <;> try omega)

theorem final8 : (dats m 0 c).arrAt 8 (cfgs 0).N = newV (mA m c) (mB m c) (mV m c) := by
  refine (dats m 0 c).arrAt_eq_of_covers 8 _ (by decide +kernel) fun t _ y => ?_
  blk_simp
  rw [after0_8]
  unfold newV
  refine (out8_at _ _ _ _ _ _ y).trans (meanSq_congr (blk4 m c t y _ ?_ ?_ ?_) (gB_eq m c t y _ ?_ ?_ ?_)) <;>
    (blk_simp [idx t] <;> try omega)

end Cert.AdamBrSsdIdeal.Step

end
-- ==== Proof.AdamBrSsdClaim.lean ====
/- The reference's step on the state-space branch's projection, read at an index, and the claims about the call. -/
module

public import proofs.«01_k».proof.Defs
public import proofs.«01_k».proof.Proof.AdamBrSsdBlock
public import proofs.«01_k».proof.Proof.Gen.AdamBrSsdReferenceIdeal.Read
public import proofs.«01_k».proof.Proof.Gen.AdamBrSsdReferenceIdeal.Run
public import Idealize.ShloMosaic.Lib.Claim

@[expose] public section

set_option maxRecDepth 16384

noncomputable section

namespace Cert.AdamBrSsdReferenceIdeal.Step

open Cert.AdamBrSsdReferenceIdeal Cert.AdamBrSsdReferenceIdeal.Gen Cert.AdamBrSsdReferenceIdeal.Read Idealize.ShloMosaic Idealize.ShloMosaic.TcCoe Idealize.SL.Sem
open Cert.AdamStep
open Cert.AdamBrSsdIdeal.Step (grad delta newM newV)

variable (A B : FVec Ideal S4x256x1024 .bf16) (W M Z : FVec Ideal S2x256x1024 .f32)

theorem sumA_at (r : Fin 256) (j : Fin 1024) : val_main_v1 (F := Ideal) A (ix2 r j) = ∑ s : Fin 4, A (ix3 s r j) := by
  pointwise! [val_main_v1, val_main_v0, val_main_cst]

theorem sumB_at (r : Fin 256) (j : Fin 1024) : val_main_v3 (F := Ideal) B (ix2 r j) = ∑ s : Fin 4, B (ix3 s r j) := by
  pointwise! [val_main_v3, val_main_v2, val_main_cst_0]

theorem grad_at (i : S2x256x1024.Idx) : val_main_v6 (F := Ideal) A B i = grad A B i := by
  idx_vars i
  unfold grad
  rcases (show i0.val = 0 ∨ i0.val = 1 from by omega) with h | h
  · pointwise! [val_main_v6, val_main_v5, val_main_v4, sumA_at, sumB_at, h]
  · pointwise! [val_main_v6, val_main_v5, val_main_v4, sumA_at, sumB_at, h]

theorem mean_at (i : S2x256x1024.Idx) : val_main_v11 (F := Ideal) A B M i = newM A B M i := by
  unfold newM mean
  rw [← grad_at]
  pointwise! [val_main_v11, val_main_v10, val_main_v9, val_main_v8, val_main_v7, val_main_cst_1, val_main_cst_2]

theorem meanSq_at (i : S2x256x1024.Idx) : val_main_v17 (F := Ideal) A B Z i = newV A B Z i := by
  unfold newV meanSq
  rw [← grad_at]
  pointwise! [val_main_v17, val_main_v16, val_main_v15, val_main_v14, val_main_v13, val_main_v12, val_main_cst_3, val_main_cst_4]

theorem delta_at (i : S2x256x1024.Idx) : val_main_v30 (F := Ideal) A B W M Z i = delta A B W M Z i := by
  unfold delta change
  rw [show mean (M i) (grad A B i) = val_main_v11 (F := Ideal) A B M i from (mean_at A B M i).symm,
    show meanSq (Z i) (grad A B i) = val_main_v17 (F := Ideal) A B Z i from (meanSq_at A B Z i).symm]
  pointwise! [val_main_v30, val_main_v29, val_main_v28, val_main_v27, val_main_v26, val_main_v25, val_main_v24, val_main_v23,
    val_main_v22, val_main_v21, val_main_v20, val_main_v19, val_main_v18, val_main_cst_5, val_main_cst_6, val_main_cst_7,
    val_main_cst_8, val_main_cst_9]

theorem grad_eq : val_main_v6 (F := Ideal) A B = grad A B := funext fun i => grad_at A B i
theorem delta_eq : val_main_v30 (F := Ideal) A B W M Z = delta A B W M Z := funext fun i => delta_at A B W M Z i
theorem newM_eq : val_main_v11 (F := Ideal) A B M = newM A B M := funext fun i => mean_at A B M i
theorem newV_eq : val_main_v17 (F := Ideal) A B Z = newV A B Z := funext fun i => meanSq_at A B Z i

end Cert.AdamBrSsdReferenceIdeal.Step

namespace Cert.AdamBrSsdProof

open Idealize.ShloMosaic Idealize.SL.Sem

/-- The reference runs and leaves its arguments as they were. -/
theorem frame_reference : Cert.quiescent_AdamBrSsdReferenceIdeal := by
  intro m g _
  exact (θ_run _ _ _).mono (fun r h => ⟨fun c => (h c).2.2.2.2, sem_eq_zero_of_no_sems (by decide) r.2⟩)
    (Cert.AdamBrSsdReferenceIdeal.Value.run m g)

/-- Over the extended reals the kernel and the reference leave the same four arrays. -/
theorem algebraic : Cert.algebraic_AdamBrSsdIdeal_AdamBrSsdReferenceIdeal := by
  intro m g m' g' _ hagree
  refine ⟨_, _, _, _, Cert.AdamBrSsdIdeal.Value.run_blocks m g, ?_⟩
  refine (θ_run _ _ _).mono (fun r h c => ?_) (Cert.AdamBrSsdReferenceIdeal.Value.run m' g')
  obtain ⟨h0, h1, h2, h3, k⟩ := h c
  obtain ⟨a0, a1, a2, a3, a4⟩ := hagree c
  refine ⟨h0.trans ?_, h1.trans ?_, h2.trans ?_, h3.trans ?_, k⟩
  · rw [Cert.AdamBrSsdReferenceIdeal.Read.val_main_v6_eq, a0, a1]
    exact (Cert.AdamBrSsdReferenceIdeal.Step.grad_eq _ _).trans (Cert.AdamBrSsdIdeal.Step.final5 m c).symm
  · rw [Cert.AdamBrSsdReferenceIdeal.Read.val_main_v30_eq, a0, a1, a2, a3, a4]
    exact (Cert.AdamBrSsdReferenceIdeal.Step.delta_eq _ _ _ _ _).trans (Cert.AdamBrSsdIdeal.Step.final6 m c).symm
  · rw [Cert.AdamBrSsdReferenceIdeal.Read.val_main_v11_eq, a0, a1, a3]
    exact (Cert.AdamBrSsdReferenceIdeal.Step.newM_eq _ _ _).trans (Cert.AdamBrSsdIdeal.Step.final7 m c).symm
  · rw [Cert.AdamBrSsdReferenceIdeal.Read.val_main_v17_eq, a0, a1, a4]
    exact (Cert.AdamBrSsdReferenceIdeal.Step.newV_eq _ _ _).trans (Cert.AdamBrSsdIdeal.Step.final8 m c).symm

end Cert.AdamBrSsdProof

end
-- ==== Proof.AdamFfnInBlock.lean ====
/- The optimiser's step on the feed-forward unit's first weight: what the body computes from a block of 176 rows, and the arrays that the call leaves. -/
module

public import proofs.«01_k».proof.Proof.AdamStep
public import proofs.«01_k».proof.Proof.Gen.AdamFfnInIdeal.Skeleton
public import proofs.«01_k».proof.Proof.Gen.AdamFfnInIdeal
public import proofs.«01_k».proof.Proof.Gen.AdamFfnInIdeal.Value
public import Idealize.ShloMosaic.Lib.Pointwise
public import Idealize.ShloMosaic.Lib.Pipeline.ValueKit

@[expose] public section

set_option maxRecDepth 16384

noncomputable section

namespace Cert.AdamFfnInIdeal.Step

open Cert.AdamFfnInIdeal Cert.AdamFfnInIdeal.Gen Idealize.ShloMosaic Idealize.ShloMosaic.TcCoe Idealize.SL.Sem
open Idealize.ShloMosaic.Pipeline (Dat)
open Cert.AdamStep

/-! ## One block -/

section At
variable (i : grid0.Coords) (a b : FVec Ideal S4x176x1024 .bf16) (w mo ve : FVec Ideal S1x176x1024 .f32)

/-- The gradient of the block's layer: the sum of that layer's four slots. -/
abbrev gB (y : S1x176x1024.Idx) : EReal :=
  if (i 0).val = 1 then ∑ s : Fin 4, b (ix3 s (y 1) (y 2)) else ∑ s : Fin 4, a (ix3 s (y 1) (y 2))

theorem total_at (r : Fin 176) (j : Fin 1024) : k0_pay8 (F := Ideal) i a b w mo ve (ix2 r j) = gB i a b (ix3 0 r j) := by
  unfold k0_pay8 gB
  rw [Fin.sum_univ_four, Fin.sum_univ_four]
  pointwise! [k0_pay3]
  rcases (show (i 0).val = 0 ∨ (i 0).val = 1 from by have : (i 0).val < 2 := (i 0).isLt; omega) with h | h <;>
    rw [h] <;> rfl

theorem mean_at (r : Fin 176) (j : Fin 1024) : k0_pay4 (F := Ideal) (k0_pay8 i a b w mo ve) mo (ix2 r j)
    = mean (mo (ix3 0 r j)) (gB i a b (ix3 0 r j)) := by
  unfold mean
  pointwise! [k0_pay4, total_at]

theorem meanSq_at (r : Fin 176) (j : Fin 1024) : k0_pay5 (F := Ideal) (k0_pay8 i a b w mo ve) ve (ix2 r j)
    = meanSq (ve (ix3 0 r j)) (gB i a b (ix3 0 r j)) := by
  unfold meanSq
  pointwise! [k0_pay5, total_at]

theorem out5_at (y : S1x176x1024.Idx) : out0_5 (F := Ideal) i a b w mo ve y = gB i a b y := by
  idx_vars y
  unfold out0_5
  frame_out
  pointwise! [k0_pay6, total_at]

theorem out6_at (y : S1x176x1024.Idx) : out0_6 (F := Ideal) i a b w mo ve y = change (w y) (mo y) (ve y) (gB i a b y) := by
  idx_vars y
  obtain rfl : y0 = 0 := Subsingleton.elim _ _
  unfold out0_6 change
  frame_out
  pointwise! [k0_pay7, total_at, mean_at, meanSq_at]

theorem out7_at (y : S1x176x1024.Idx) : out0_7 (F := Ideal) i a b w mo ve y = mean (mo y) (gB i a b y) := by
  idx_vars y
  obtain rfl : y0 = 0 := Subsingleton.elim _ _
  unfold out0_7
  frame_out
  pointwise! [k0_pay1, mean_at]

theorem out8_at (y : S1x176x1024.Idx) : out0_8 (F := Ideal) i a b w mo ve y = meanSq (ve y) (gB i a b y) := by
  idx_vars y
  obtain rfl : y0 = 0 := Subsingleton.elim _ _
  unfold out0_8
  frame_out
  pointwise! [k0_pay2, meanSq_at]
end At

/-! ## The whole arrays -/

section Whole
variable (A B : FVec Ideal S4x704x1024 .bf16) (W M Z : FVec Ideal S2x704x1024 .f32)

/-- The gradient: layer by layer the sum of the four slots. -/
def grad : FVec Ideal S2x704x1024 .f32 := fun i =>
  if (i 0).val = 1 then ∑ s : Fin 4, B (ix3 s (i 1) (i 2)) else ∑ s : Fin 4, A (ix3 s (i 1) (i 2))
def delta : FVec Ideal S2x704x1024 .f32 := fun i => change (W i) (M i) (Z i) (grad A B i)
def newM : FVec Ideal S2x704x1024 .f32 := fun i => mean (M i) (grad A B i)
def newV : FVec Ideal S2x704x1024 .f32 := fun i => meanSq (Z i) (grad A B i)
end Whole

variable (m : (ℓ : Loc nD τ sig) → Buf (Elt Ideal) ℓ) (c : Dev nD)

theorem idx : ∀ t : Fin cfg0.N, (grid0.coords t 0).val = t.val / 4
    ∧ win0_0.index t = ![0, if t.val / 4 = 0 then t.val % 4 else 0, 0]
    ∧ win0_1.index t = ![0, if t.val / 4 = 1 then t.val % 4 else 0, 0]
    ∧ win0_2.index t = ![t.val / 4, t.val % 4, 0] ∧ win0_3.index t = ![t.val / 4, t.val % 4, 0]
    ∧ win0_4.index t = ![t.val / 4, t.val % 4, 0] ∧ win0_5.index t = ![t.val / 4, t.val % 4, 0]
    ∧ win0_6.index t = ![t.val / 4, t.val % 4, 0] ∧ win0_7.index t = ![t.val / 4, t.val % 4, 0]
    ∧ win0_8.index t = ![t.val / 4, t.val % 4, 0] :=
  (by decide +kernel : ∀ t : Fin grid0.N, _)

abbrev mA : FVec Ideal S4x704x1024 .bf16 := m ((c : Thread nD τ).loc main_arg0)
abbrev mB : FVec Ideal S4x704x1024 .bf16 := m ((c : Thread nD τ).loc main_arg1)
abbrev mW : FVec Ideal S2x704x1024 .f32 := m ((c : Thread nD τ).loc main_arg2)
abbrev mM : FVec Ideal S2x704x1024 .f32 := m ((c : Thread nD τ).loc main_arg3)
abbrev mV : FVec Ideal S2x704x1024 .f32 := m ((c : Thread nD τ).loc main_arg4)

theorem lt_points (t : Fin cfg0.N) : t.val < 8 := lt_of_lt_of_eq t.isLt N_0

section Place
variable (t : Fin cfg0.N) (y : S1x176x1024.Idx) (i : S2x704x1024.Idx) (h0 : (i 0).val = t.val / 4) (h1 : (i 1).val = t.val % 4 * 176 + (y 1).val)
  (h2 : (i 2).val = (y 2).val)

include h0 h1 h2

theorem blk2 : (iblk m c 2 t : FVec Ideal S1x176x1024 .f32) y = mW m c i := by
  idx_vars y
  blk_point [iblk, V, idx t] <;> first | exact h0.symm | exact h1.symm | exact h2.symm
theorem blk3 : (iblk m c 3 t : FVec Ideal S1x176x1024 .f32) y = mM m c i := by
  idx_vars y
  blk_point [iblk, V, idx t] <;> first | exact h0.symm | exact h1.symm | exact h2.symm
theorem blk4 : (iblk m c 4 t : FVec Ideal S1x176x1024 .f32) y = mV m c i := by
  idx_vars y
  blk_point [iblk, V, idx t] <;> first | exact h0.symm | exact h1.symm | exact h2.symm

/-- The slots that the point reads are its own rows'. -/
theorem gB_eq : gB (grid0.coords t) (iblk m c 0 t) (iblk m c 1 t) y = grad (mA m c) (mB m c) i := by
  unfold gB grad
  rw [(idx t).1, h0]
  have hN := lt_points t
  by_cases h : t.val / 4 = 1
  · rw [if_pos h, if_pos h]
    refine Finset.sum_congr rfl fun s _ => ?_
    blk_point [iblk, V, idx t, h] <;> first | omega | rw [if_pos trivial, h1]
  · have h' : t.val / 4 = 0 := by omega
    rw [if_neg h, if_neg h]
    refine Finset.sum_congr rfl fun s _ => ?_
    blk_point [iblk, V, idx t, h'] <;> first | omega | rw [if_pos trivial, h1]
end Place

theorem final5 : (dats m 0 c).arrAt 5 (cfgs 0).N = grad (mA m c) (mB m c) := by
  refine (dats m 0 c).arrAt_eq_of_covers 5 _ (by decide +kernel) fun t _ y => ?_
  blk_simp
  rw [after0_5]
  refine (out5_at _ _ _ _ _ _ y).trans (gB_eq m c t y _ ?_ ?_ ?_) <;> (blk_simp [idx t] <;> try omega)

theorem final6 : (dats m 0 c).arrAt 6 (cfgs 0).N = delta (mA m c) (mB m c) (mW m c) (mM m c) (mV m c) := by
  refine (dats m 0 c).arrAt_eq_of_covers 6 _ (by decide +kernel) fun t _ y => ?_
  blk_simp
  rw [after0_6]
  unfold delta
  refine (out6_at _ _ _ _ _ _ y).trans (change_congr (blk2 m c t y _ ?_ ?_ ?_) (blk3 m c t y _ ?_ ?_ ?_) (blk4 m c t y _ ?_ ?_ ?_)
    (gB_eq m c t y _ ?_ ?_ ?_)) <;> (blk_simp [idx t] <;> try omega)

theorem final7 : (dats m 0 c).arrAt 7 (cfgs 0).N = newM (mA m c) (mB m c) (mM m c) := by
  refine (dats m 0 c).arrAt_eq_of_covers 7 _ (by decide +kernel) fun t _ y => ?_
  blk_simp
  rw [after0_7]
  unfold newM
  refine (out7_at _ _ _ _ _ _ y).trans (mean_congr (blk3 m c t y _ ?_ ?_ ?_) (gB_eq m c t y _ ?_ ?_ ?_)) <;>
    (blk_simp [idx t] <;> try omega)

theorem final8 : (dats m 0 c).arrAt 8 (cfgs 0).N = newV (mA m c) (mB m c) (mV m c) := by
  refine (dats m 0 c).arrAt_eq_of_covers 8 _ (by decide +kernel) fun t _ y => ?_
  blk_simp
  rw [after0_8]
  unfold newV
  refine (out8_at _ _ _ _ _ _ y).trans (meanSq_congr (blk4 m c t y _ ?_ ?_ ?_) (gB_eq m c t y _ ?_ ?_ ?_)) <;>
    (blk_simp [idx t] <;> try omega)

end Cert.AdamFfnInIdeal.Step

end
-- ==== Proof.AdamFfnInClaim.lean ====
/- The reference's step on the feed-forward unit's first weight, read at an index, and the claims about the call. -/
module

public import proofs.«01_k».proof.Defs
public import proofs.«01_k».proof.Proof.AdamFfnInBlock
public import proofs.«01_k».proof.Proof.Gen.AdamFfnInReferenceIdeal.Read
public import proofs.«01_k».proof.Proof.Gen.AdamFfnInReferenceIdeal.Run
public import Idealize.ShloMosaic.Lib.Claim

@[expose] public section

set_option maxRecDepth 16384

noncomputable section

namespace Cert.AdamFfnInReferenceIdeal.Step

open Cert.AdamFfnInReferenceIdeal Cert.AdamFfnInReferenceIdeal.Gen Cert.AdamFfnInReferenceIdeal.Read Idealize.ShloMosaic Idealize.ShloMosaic.TcCoe Idealize.SL.Sem
open Cert.AdamStep
open Cert.AdamFfnInIdeal.Step (grad delta newM newV)

variable (A B : FVec Ideal S4x704x1024 .bf16) (W M Z : FVec Ideal S2x704x1024 .f32)

theorem sumA_at (r : Fin 704) (j : Fin 1024) : val_main_v1 (F := Ideal) A (ix2 r j) = ∑ s : Fin 4, A (ix3 s r j) := by
  pointwise! [val_main_v1, val_main_v0, val_main_cst]

theorem sumB_at (r : Fin 704) (j : Fin 1024) : val_main_v3 (F := Ideal) B (ix2 r j) = ∑ s : Fin 4, B (ix3 s r j) := by
  pointwise! [val_main_v3, val_main_v2, val_main_cst_0]

theorem grad_at (i : S2x704x1024.Idx) : val_main_v6 (F := Ideal) A B i = grad A B i := by
  idx_vars i
  unfold grad
  rcases (show i0.val = 0 ∨ i0.val = 1 from by omega) with h | h
  · pointwise! [val_main_v6, val_main_v5, val_main_v4, sumA_at, sumB_at, h]
  · pointwise! [val_main_v6, val_main_v5, val_main_v4, sumA_at, sumB_at, h]

theorem mean_at (i : S2x704x1024.Idx) : val_main_v11 (F := Ideal) A B M i = newM A B M i := by
  unfold newM mean
  rw [← grad_at]
  pointwise! [val_main_v11, val_main_v10, val_main_v9, val_main_v8, val_main_v7, val_main_cst_1, val_main_cst_2]

theorem meanSq_at (i : S2x704x1024.Idx) : val_main_v17 (F := Ideal) A B Z i = newV A B Z i := by
  unfold newV meanSq
  rw [← grad_at]
  pointwise! [val_main_v17, val_main_v16, val_main_v15, val_main_v14, val_main_v13, val_main_v12, val_main_cst_3, val_main_cst_4]

theorem delta_at (i : S2x704x1024.Idx) : val_main_v30 (F := Ideal) A B W M Z i = delta A B W M Z i := by
  unfold delta change
  rw [show mean (M i) (grad A B i) = val_main_v11 (F := Ideal) A B M i from (mean_at A B M i).symm,
    show meanSq (Z i) (grad A B i) = val_main_v17 (F := Ideal) A B Z i from (meanSq_at A B Z i).symm]
  pointwise! [val_main_v30, val_main_v29, val_main_v28, val_main_v27, val_main_v26, val_main_v25, val_main_v24, val_main_v23,
    val_main_v22, val_main_v21, val_main_v20, val_main_v19, val_main_v18, val_main_cst_5, val_main_cst_6, val_main_cst_7,
    val_main_cst_8, val_main_cst_9]

theorem grad_eq : val_main_v6 (F := Ideal) A B = grad A B := funext fun i => grad_at A B i
theorem delta_eq : val_main_v30 (F := Ideal) A B W M Z = delta A B W M Z := funext fun i => delta_at A B W M Z i
theorem newM_eq : val_main_v11 (F := Ideal) A B M = newM A B M := funext fun i => mean_at A B M i
theorem newV_eq : val_main_v17 (F := Ideal) A B Z = newV A B Z := funext fun i => meanSq_at A B Z i

end Cert.AdamFfnInReferenceIdeal.Step

namespace Cert.AdamFfnInProof

open Idealize.ShloMosaic Idealize.SL.Sem

/-- The reference runs and leaves its arguments as they were. -/
theorem frame_reference : Cert.quiescent_AdamFfnInReferenceIdeal := by
  intro m g _
  exact (θ_run _ _ _).mono (fun r h => ⟨fun c => (h c).2.2.2.2, sem_eq_zero_of_no_sems (by decide) r.2⟩)
    (Cert.AdamFfnInReferenceIdeal.Value.run m g)

/-- Over the extended reals the kernel and the reference leave the same four arrays. -/
theorem algebraic : Cert.algebraic_AdamFfnInIdeal_AdamFfnInReferenceIdeal := by
  intro m g m' g' _ hagree
  refine ⟨_, _, _, _, Cert.AdamFfnInIdeal.Value.run_blocks m g, ?_⟩
  refine (θ_run _ _ _).mono (fun r h c => ?_) (Cert.AdamFfnInReferenceIdeal.Value.run m' g')
  obtain ⟨h0, h1, h2, h3, k⟩ := h c
  obtain ⟨a0, a1, a2, a3, a4⟩ := hagree c
  refine ⟨h0.trans ?_, h1.trans ?_, h2.trans ?_, h3.trans ?_, k⟩
  · rw [Cert.AdamFfnInReferenceIdeal.Read.val_main_v6_eq, a0, a1]
    exact (Cert.AdamFfnInReferenceIdeal.Step.grad_eq _ _).trans (Cert.AdamFfnInIdeal.Step.final5 m c).symm
  · rw [Cert.AdamFfnInReferenceIdeal.Read.val_main_v30_eq, a0, a1, a2, a3, a4]
    exact (Cert.AdamFfnInReferenceIdeal.Step.delta_eq _ _ _ _ _).trans (Cert.AdamFfnInIdeal.Step.final6 m c).symm
  · rw [Cert.AdamFfnInReferenceIdeal.Read.val_main_v11_eq, a0, a1, a3]
    exact (Cert.AdamFfnInReferenceIdeal.Step.newM_eq _ _ _).trans (Cert.AdamFfnInIdeal.Step.final7 m c).symm
  · rw [Cert.AdamFfnInReferenceIdeal.Read.val_main_v17_eq, a0, a1, a4]
    exact (Cert.AdamFfnInReferenceIdeal.Step.newV_eq _ _ _).trans (Cert.AdamFfnInIdeal.Step.final8 m c).symm

end Cert.AdamFfnInProof

end
-- ==== Proof.AdamFfnDownBlock.lean ====
/- The optimiser's step on the feed-forward unit's second weight: what the body computes from a block of 176 rows, and the arrays that the call leaves. -/
module

public import proofs.«01_k».proof.Proof.AdamStep
public import proofs.«01_k».proof.Proof.Gen.AdamFfnDownIdeal.Skeleton
public import proofs.«01_k».proof.Proof.Gen.AdamFfnDownIdeal
public import proofs.«01_k».proof.Proof.Gen.AdamFfnDownIdeal.Value
public import Idealize.ShloMosaic.Lib.Pointwise
public import Idealize.ShloMosaic.Lib.Pipeline.ValueKit

@[expose] public section

set_option maxRecDepth 16384

noncomputable section

namespace Cert.AdamFfnDownIdeal.Step

open Cert.AdamFfnDownIdeal Cert.AdamFfnDownIdeal.Gen Idealize.ShloMosaic Idealize.ShloMosaic.TcCoe Idealize.SL.Sem
open Idealize.ShloMosaic.Pipeline (Dat)
open Cert.AdamStep

/-! ## One block -/

section At
variable (i : grid0.Coords) (a b : FVec Ideal S4x176x1024 .bf16) (w mo ve : FVec Ideal S1x176x1024 .f32)

/-- The gradient of the block's layer: the sum of that layer's four slots. -/
abbrev gB (y : S1x176x1024.Idx) : EReal :=
  if (i 0).val = 1 then ∑ s : Fin 4, b (ix3 s (y 1) (y 2)) else ∑ s : Fin 4, a (ix3 s (y 1) (y 2))

theorem total_at (r : Fin 176) (j : Fin 1024) : k0_pay8 (F := Ideal) i a b w mo ve (ix2 r j) = gB i a b (ix3 0 r j) := by
  unfold k0_pay8 gB
  rw [Fin.sum_univ_four, Fin.sum_univ_four]
  pointwise! [k0_pay3]
  rcases (show (i 0).val = 0 ∨ (i 0).val = 1 from by have : (i 0).val < 2 := (i 0).isLt; omega) with h | h <;>
    rw [h] <;> rfl

theorem mean_at (r : Fin 176) (j : Fin 1024) : k0_pay4 (F := Ideal) (k0_pay8 i a b w mo ve) mo (ix2 r j)
    = mean (mo (ix3 0 r j)) (gB i a b (ix3 0 r j)) := by
  unfold mean
  pointwise! [k0_pay4, total_at]

theorem meanSq_at (r : Fin 176) (j : Fin 1024) : k0_pay5 (F := Ideal) (k0_pay8 i a b w mo ve) ve (ix2 r j)
    = meanSq (ve (ix3 0 r j)) (gB i a b (ix3 0 r j)) := by
  unfold meanSq
  pointwise! [k0_pay5, total_at]

theorem out5_at (y : S1x176x1024.Idx) : out0_5 (F := Ideal) i a b w mo ve y = gB i a b y := by
  idx_vars y
  unfold out0_5
  frame_out
  pointwise! [k0_pay6, total_at]

theorem out6_at (y : S1x176x1024.Idx) : out0_6 (F := Ideal) i a b w mo ve y = change (w y) (mo y) (ve y) (gB i a b y) := by
  idx_vars y
  obtain rfl : y0 = 0 := Subsingleton.elim _ _
  unfold out0_6 change
  frame_out
  pointwise! [k0_pay7, total_at, mean_at, meanSq_at]

theorem out7_at (y : S1x176x1024.Idx) : out0_7 (F := Ideal) i a b w mo ve y = mean (mo y) (gB i a b y) := by
  idx_vars y
  obtain rfl : y0 = 0 := Subsingleton.elim _ _
  unfold out0_7
  frame_out
  pointwise! [k0_pay1, mean_at]

theorem out8_at (y : S1x176x1024.Idx) : out0_8 (F := Ideal) i a b w mo ve y = meanSq (ve y) (gB i a b y) := by
  idx_vars y
  obtain rfl : y0 = 0 := Subsingleton.elim _ _
  unfold out0_8
  frame_out
  pointwise! [k0_pay2, meanSq_at]
end At

/-! ## The whole arrays -/

section Whole
variable (A B : FVec Ideal S4x352x1024 .bf16) (W M Z : FVec Ideal S2x352x1024 .f32)

/-- The gradient: layer by layer the sum of the four slots. -/
def grad : FVec Ideal S2x352x1024 .f32 := fun i =>
  if (i 0).val = 1 then ∑ s : Fin 4, B (ix3 s (i 1) (i 2)) else ∑ s : Fin 4, A (ix3 s (i 1) (i 2))
def delta : FVec Ideal S2x352x1024 .f32 := fun i => change (W i) (M i) (Z i) (grad A B i)
def newM : FVec Ideal S2x352x1024 .f32 := fun i => mean (M i) (grad A B i)
def newV : FVec Ideal S2x352x1024 .f32 := fun i => meanSq (Z i) (grad A B i)
end Whole

variable (m : (ℓ : Loc nD τ sig) → Buf (Elt Ideal) ℓ) (c : Dev nD)

theorem idx : ∀ t : Fin cfg0.N, (grid0.coords t 0).val = t.val / 2
    ∧ win0_0.index t = ![0, if t.val / 2 = 0 then t.val % 2 else 0, 0]
    ∧ win0_1.index t = ![0, if t.val / 2 = 1 then t.val % 2 else 0, 0]
    ∧ win0_2.index t = ![t.val / 2, t.val % 2, 0] ∧ win0_3.index t = ![t.val / 2, t.val % 2, 0]
    ∧ win0_4.index t = ![t.val / 2, t.val % 2, 0] ∧ win0_5.index t = ![t.val / 2, t.val % 2, 0]
    ∧ win0_6.index t = ![t.val / 2, t.val % 2, 0] ∧ win0_7.index t = ![t.val / 2, t.val % 2, 0]
    ∧ win0_8.index t = ![t.val / 2, t.val % 2, 0] :=
  (by decide +kernel : ∀ t : Fin grid0.N, _)

abbrev mA : FVec Ideal S4x352x1024 .bf16 := m ((c : Thread nD τ).loc main_arg0)
abbrev mB : FVec Ideal S4x352x1024 .bf16 := m ((c : Thread nD τ).loc main_arg1)
abbrev mW : FVec Ideal S2x352x1024 .f32 := m ((c : Thread nD τ).loc main_arg2)
abbrev mM : FVec Ideal S2x352x1024 .f32 := m ((c : Thread nD τ).loc main_arg3)
abbrev mV : FVec Ideal S2x352x1024 .f32 := m ((c : Thread nD τ).loc main_arg4)

theorem lt_points (t : Fin cfg0.N) : t.val < 4 := lt_of_lt_of_eq t.isLt N_0

section Place
variable (t : Fin cfg0.N) (y : S1x176x1024.Idx) (i : S2x352x1024.Idx) (h0 : (i 0).val = t.val / 2) (h1 : (i 1).val = t.val % 2 * 176 + (y 1).val)
  (h2 : (i 2).val = (y 2).val)

include h0 h1 h2

theorem blk2 : (iblk m c 2 t : FVec Ideal S1x176x1024 .f32) y = mW m c i := by
  idx_vars y
  blk_point [iblk, V, idx t] <;> first | exact h0.symm | exact h1.symm | exact h2.symm
theorem blk3 : (iblk m c 3 t : FVec Ideal S1x176x1024 .f32) y = mM m c i := by
  idx_vars y
  blk_point [iblk, V, idx t] <;> first | exact h0.symm | exact h1.symm | exact h2.symm
theorem blk4 : (iblk m c 4 t : FVec Ideal S1x176x1024 .f32) y = mV m c i := by
  idx_vars y
  blk_point [iblk, V, idx t] <;> first | exact h0.symm | exact h1.symm | exact h2.symm

/-- The slots that the point reads are its own rows'. -/
theorem gB_eq : gB (grid0.coords t) (iblk m c 0 t) (iblk m c 1 t) y = grad (mA m c) (mB m c) i := by
  unfold gB grad
  rw [(idx t).1, h0]
  have hN := lt_points t
  by_cases h : t.val / 2 = 1
  · rw [if_pos h, if_pos h]
    refine Finset.sum_congr rfl fun s _ => ?_
    blk_point [iblk, V, idx t, h] <;> first | omega | rw [if_pos trivial, h1]
  · have h' : t.val / 2 = 0 := by omega
    rw [if_neg h, if_neg h]
    refine Finset.sum_congr rfl fun s _ => ?_
    blk_point [iblk, V, idx t, h'] <;> first | omega | rw [if_pos trivial, h1]
end Place

theorem final5 : (dats m 0 c).arrAt 5 (cfgs 0).N = grad (mA m c) (mB m c) := by
  refine (dats m 0 c).arrAt_eq_of_covers 5 _ (by decide +kernel) fun t _ y => ?_
  blk_simp
  rw [after0_5]
  refine (out5_at _ _ _ _ _ _ y).trans (gB_eq m c t y _ ?_ ?_ ?_) <;> (blk_simp [idx t] <;> try omega)

theorem final6 : (dats m 0 c).arrAt 6 (cfgs 0).N = delta (mA m c) (mB m c) (mW m c) (mM m c) (mV m c) := by
  refine (dats m 0 c).arrAt_eq_of_covers 6 _ (by decide +kernel) fun t _ y => ?_
  blk_simp
  rw [after0_6]
  unfold delta
  refine (out6_at _ _ _ _ _ _ y).trans (change_congr (blk2 m c t y _ ?_ ?_ ?_) (blk3 m c t y _ ?_ ?_ ?_) (blk4 m c t y _ ?_ ?_ ?_)
    (gB_eq m c t y _ ?_ ?_ ?_)) <;> (blk_simp [idx t] <;> try omega)

theorem final7 : (dats m 0 c).arrAt 7 (cfgs 0).N = newM (mA m c) (mB m c) (mM m c) := by
  refine (dats m 0 c).arrAt_eq_of_covers 7 _ (by decide +kernel) fun t _ y => ?_
  blk_simp
  rw [after0_7]
  unfold newM
  refine (out7_at _ _ _ _ _ _ y).trans (mean_congr (blk3 m c t y _ ?_ ?_ ?_) (gB_eq m c t y _ ?_ ?_ ?_)) <;>
    (blk_simp [idx t] <;> try omega)

theorem final8 : (dats m 0 c).arrAt 8 (cfgs 0).N = newV (mA m c) (mB m c) (mV m c) := by
  refine (dats m 0 c).arrAt_eq_of_covers 8 _ (by decide +kernel) fun t _ y => ?_
  blk_simp
  rw [after0_8]
  unfold newV
  refine (out8_at _ _ _ _ _ _ y).trans (meanSq_congr (blk4 m c t y _ ?_ ?_ ?_) (gB_eq m c t y _ ?_ ?_ ?_)) <;>
    (blk_simp [idx t] <;> try omega)

end Cert.AdamFfnDownIdeal.Step

end
-- ==== Proof.AdamFfnDownClaim.lean ====
/- The reference's step on the feed-forward unit's second weight, read at an index, and the claims about the call. -/
module

public import proofs.«01_k».proof.Defs
public import proofs.«01_k».proof.Proof.AdamFfnDownBlock
public import proofs.«01_k».proof.Proof.Gen.AdamFfnDownReferenceIdeal.Read
public import proofs.«01_k».proof.Proof.Gen.AdamFfnDownReferenceIdeal.Run
public import Idealize.ShloMosaic.Lib.Claim

@[expose] public section

set_option maxRecDepth 16384

noncomputable section

namespace Cert.AdamFfnDownReferenceIdeal.Step

open Cert.AdamFfnDownReferenceIdeal Cert.AdamFfnDownReferenceIdeal.Gen Cert.AdamFfnDownReferenceIdeal.Read Idealize.ShloMosaic Idealize.ShloMosaic.TcCoe Idealize.SL.Sem
open Cert.AdamStep
open Cert.AdamFfnDownIdeal.Step (grad delta newM newV)

variable (A B : FVec Ideal S4x352x1024 .bf16) (W M Z : FVec Ideal S2x352x1024 .f32)

theorem sumA_at (r : Fin 352) (j : Fin 1024) : val_main_v1 (F := Ideal) A (ix2 r j) = ∑ s : Fin 4, A (ix3 s r j) := by
  pointwise! [val_main_v1, val_main_v0, val_main_cst]

theorem sumB_at (r : Fin 352) (j : Fin 1024) : val_main_v3 (F := Ideal) B (ix2 r j) = ∑ s : Fin 4, B (ix3 s r j) := by
  pointwise! [val_main_v3, val_main_v2, val_main_cst_0]

theorem grad_at (i : S2x352x1024.Idx) : val_main_v6 (F := Ideal) A B i = grad A B i := by
  idx_vars i
  unfold grad
  rcases (show i0.val = 0 ∨ i0.val = 1 from by omega) with h | h
  · pointwise! [val_main_v6, val_main_v5, val_main_v4, sumA_at, sumB_at, h]
  · pointwise! [val_main_v6, val_main_v5, val_main_v4, sumA_at, sumB_at, h]

theorem mean_at (i : S2x352x1024.Idx) : val_main_v11 (F := Ideal) A B M i = newM A B M i := by
  unfold newM mean
  rw [← grad_at]
  pointwise! [val_main_v11, val_main_v10, val_main_v9, val_main_v8, val_main_v7, val_main_cst_1, val_main_cst_2]

theorem meanSq_at (i : S2x352x1024.Idx) : val_main_v17 (F := Ideal) A B Z i = newV A B Z i := by
  unfold newV meanSq
  rw [← grad_at]
  pointwise! [val_main_v17, val_main_v16, val_main_v15, val_main_v14, val_main_v13, val_main_v12, val_main_cst_3, val_main_cst_4]

theorem delta_at (i : S2x352x1024.Idx) : val_main_v30 (F := Ideal) A B W M Z i = delta A B W M Z i := by
  unfold delta change
  rw [show mean (M i) (grad A B i) = val_main_v11 (F := Ideal) A B M i from (mean_at A B M i).symm,
    show meanSq (Z i) (grad A B i) = val_main_v17 (F := Ideal) A B Z i from (meanSq_at A B Z i).symm]
  pointwise! [val_main_v30, val_main_v29, val_main_v28, val_main_v27, val_main_v26, val_main_v25, val_main_v24, val_main_v23,
    val_main_v22, val_main_v21, val_main_v20, val_main_v19, val_main_v18, val_main_cst_5, val_main_cst_6, val_main_cst_7,
    val_main_cst_8, val_main_cst_9]

theorem grad_eq : val_main_v6 (F := Ideal) A B = grad A B := funext fun i => grad_at A B i
theorem delta_eq : val_main_v30 (F := Ideal) A B W M Z = delta A B W M Z := funext fun i => delta_at A B W M Z i
theorem newM_eq : val_main_v11 (F := Ideal) A B M = newM A B M := funext fun i => mean_at A B M i
theorem newV_eq : val_main_v17 (F := Ideal) A B Z = newV A B Z := funext fun i => meanSq_at A B Z i

end Cert.AdamFfnDownReferenceIdeal.Step

namespace Cert.AdamFfnDownProof

open Idealize.ShloMosaic Idealize.SL.Sem

/-- The reference runs and leaves its arguments as they were. -/
theorem frame_reference : Cert.quiescent_AdamFfnDownReferenceIdeal := by
  intro m g _
  exact (θ_run _ _ _).mono (fun r h => ⟨fun c => (h c).2.2.2.2, sem_eq_zero_of_no_sems (by decide) r.2⟩)
    (Cert.AdamFfnDownReferenceIdeal.Value.run m g)

/-- Over the extended reals the kernel and the reference leave the same four arrays. -/
theorem algebraic : Cert.algebraic_AdamFfnDownIdeal_AdamFfnDownReferenceIdeal := by
  intro m g m' g' _ hagree
  refine ⟨_, _, _, _, Cert.AdamFfnDownIdeal.Value.run_blocks m g, ?_⟩
  refine (θ_run _ _ _).mono (fun r h c => ?_) (Cert.AdamFfnDownReferenceIdeal.Value.run m' g')
  obtain ⟨h0, h1, h2, h3, k⟩ := h c
  obtain ⟨a0, a1, a2, a3, a4⟩ := hagree c
  refine ⟨h0.trans ?_, h1.trans ?_, h2.trans ?_, h3.trans ?_, k⟩
  · rw [Cert.AdamFfnDownReferenceIdeal.Read.val_main_v6_eq, a0, a1]
    exact (Cert.AdamFfnDownReferenceIdeal.Step.grad_eq _ _).trans (Cert.AdamFfnDownIdeal.Step.final5 m c).symm
  · rw [Cert.AdamFfnDownReferenceIdeal.Read.val_main_v30_eq, a0, a1, a2, a3, a4]
    exact (Cert.AdamFfnDownReferenceIdeal.Step.delta_eq _ _ _ _ _).trans (Cert.AdamFfnDownIdeal.Step.final6 m c).symm
  · rw [Cert.AdamFfnDownReferenceIdeal.Read.val_main_v11_eq, a0, a1, a3]
    exact (Cert.AdamFfnDownReferenceIdeal.Step.newM_eq _ _ _).trans (Cert.AdamFfnDownIdeal.Step.final7 m c).symm
  · rw [Cert.AdamFfnDownReferenceIdeal.Read.val_main_v17_eq, a0, a1, a4]
    exact (Cert.AdamFfnDownReferenceIdeal.Step.newV_eq _ _ _).trans (Cert.AdamFfnDownIdeal.Step.final8 m c).symm

end Cert.AdamFfnDownProof

end
-- ==== Proof.AdamTailBlock.lean ====
/- The optimiser's step on the packed small weights: what the body computes from a block of 184 rows, and the arrays that the call leaves. -/
module

public import proofs.«01_k».proof.Proof.AdamStep
public import proofs.«01_k».proof.Proof.Gen.AdamTailIdeal.Skeleton
public import proofs.«01_k».proof.Proof.Gen.AdamTailIdeal
public import proofs.«01_k».proof.Proof.Gen.AdamTailIdeal.Value
public import Idealize.ShloMosaic.Lib.Pointwise
public import Idealize.ShloMosaic.Lib.Pipeline.ValueKit

@[expose] public section

set_option maxRecDepth 16384

noncomputable section

namespace Cert.AdamTailIdeal.Step

open Cert.AdamTailIdeal Cert.AdamTailIdeal.Gen Idealize.ShloMosaic Idealize.ShloMosaic.TcCoe Idealize.SL.Sem
open Idealize.ShloMosaic.Pipeline (Dat)
open Cert.AdamStep

/-! ## One block -/

section At
variable (g w mo ve : FVec Ideal S1x184x1024 .f32)

theorem mean_at (r : Fin 184) (j : Fin 1024) : k0_pay5 (F := Ideal) g mo (ix2 r j) = mean (mo (ix3 0 r j)) (g (ix3 0 r j)) := by
  unfold mean
  pointwise! [k0_pay5, k0_pay4]

theorem meanSq_at (r : Fin 184) (j : Fin 1024) : k0_pay6 (F := Ideal) g ve (ix2 r j) = meanSq (ve (ix3 0 r j)) (g (ix3 0 r j)) := by
  unfold meanSq
  pointwise! [k0_pay6, k0_pay4]

theorem out4_at (y : S1x184x1024.Idx) : out0_4 (F := Ideal) g w mo ve y = g y := by
  idx_vars y
  obtain rfl : y0 = 0 := Subsingleton.elim _ _
  unfold out0_4
  frame_out
  pointwise! [k0_pay7, k0_pay4]

theorem out5_at (y : S1x184x1024.Idx) : out0_5 (F := Ideal) g w mo ve y = change (w y) (mo y) (ve y) (g y) := by
  idx_vars y
  obtain rfl : y0 = 0 := Subsingleton.elim _ _
  unfold out0_5 change
  frame_out
  pointwise! [k0_pay1, k0_pay8, mean_at, meanSq_at]

theorem out6_at (y : S1x184x1024.Idx) : out0_6 (F := Ideal) g w mo ve y = mean (mo y) (g y) := by
  idx_vars y
  obtain rfl : y0 = 0 := Subsingleton.elim _ _
  unfold out0_6
  frame_out
  pointwise! [k0_pay2, mean_at]

theorem out7_at (y : S1x184x1024.Idx) : out0_7 (F := Ideal) g w mo ve y = meanSq (ve y) (g y) := by
  idx_vars y
  obtain rfl : y0 = 0 := Subsingleton.elim _ _
  unfold out0_7
  frame_out
  pointwise! [k0_pay3, meanSq_at]
end At

/-! ## The whole arrays -/

section Whole
variable (G W M Z : FVec Ideal S1x552x1024 .f32)

def delta : FVec Ideal S1x552x1024 .f32 := fun i => change (W i) (M i) (Z i) (G i)
def newM : FVec Ideal S1x552x1024 .f32 := fun i => mean (M i) (G i)
def newV : FVec Ideal S1x552x1024 .f32 := fun i => meanSq (Z i) (G i)
end Whole

variable (m : (ℓ : Loc nD τ sig) → Buf (Elt Ideal) ℓ) (c : Dev nD)

theorem idx : ∀ t : Fin cfg0.N, win0_0.index t = ![0, t.val, 0] ∧ win0_1.index t = ![0, t.val, 0]
    ∧ win0_2.index t = ![0, t.val, 0] ∧ win0_3.index t = ![0, t.val, 0] ∧ win0_4.index t = ![0, t.val, 0]
    ∧ win0_5.index t = ![0, t.val, 0] ∧ win0_6.index t = ![0, t.val, 0] ∧ win0_7.index t = ![0, t.val, 0] :=
  (by decide +kernel : ∀ t : Fin grid0.N, _)

abbrev mG : FVec Ideal S1x552x1024 .f32 := m ((c : Thread nD τ).loc main_arg0)
abbrev mW : FVec Ideal S1x552x1024 .f32 := m ((c : Thread nD τ).loc main_arg1)
abbrev mM : FVec Ideal S1x552x1024 .f32 := m ((c : Thread nD τ).loc main_arg2)
abbrev mV : FVec Ideal S1x552x1024 .f32 := m ((c : Thread nD τ).loc main_arg3)

section Place
variable (t : Fin cfg0.N) (y : S1x184x1024.Idx) (i : S1x552x1024.Idx) (h0 : (i 0).val = 0) (h1 : (i 1).val = t.val * 184 + (y 1).val)
  (h2 : (i 2).val = (y 2).val)

include h0 h1 h2

theorem blk0 : (iblk m c 0 t : FVec Ideal S1x184x1024 .f32) y = mG m c i := by
  idx_vars y
  blk_point [iblk, V, idx t] <;> first | exact h0.symm | exact h1.symm | exact h2.symm
theorem blk1 : (iblk m c 1 t : FVec Ideal S1x184x1024 .f32) y = mW m c i := by
  idx_vars y
  blk_point [iblk, V, idx t] <;> first | exact h0.symm | exact h1.symm | exact h2.symm
theorem blk2 : (iblk m c 2 t : FVec Ideal S1x184x1024 .f32) y = mM m c i := by
  idx_vars y
  blk_point [iblk, V, idx t] <;> first | exact h0.symm | exact h1.symm | exact h2.symm
theorem blk3 : (iblk m c 3 t : FVec Ideal S1x184x1024 .f32) y = mV m c i := by
  idx_vars y
  blk_point [iblk, V, idx t] <;> first | exact h0.symm | exact h1.symm | exact h2.symm
end Place

theorem final4 : (dats m 0 c).arrAt 4 (cfgs 0).N = mG m c := by
  refine (dats m 0 c).arrAt_eq_of_covers 4 _ (by decide +kernel) fun t _ y => ?_
  blk_simp
  rw [after0_4]
  refine (out4_at _ _ _ _ y).trans (blk0 m c t y _ ?_ ?_ ?_) <;> (blk_simp [idx t] <;> try omega)

theorem final5 : (dats m 0 c).arrAt 5 (cfgs 0).N = delta (mG m c) (mW m c) (mM m c) (mV m c) := by
  refine (dats m 0 c).arrAt_eq_of_covers 5 _ (by decide +kernel) fun t _ y => ?_
  blk_simp
  rw [after0_5]
  unfold delta
  refine (out5_at _ _ _ _ y).trans (change_congr (blk1 m c t y _ ?_ ?_ ?_) (blk2 m c t y _ ?_ ?_ ?_) (blk3 m c t y _ ?_ ?_ ?_)
    (blk0 m c t y _ ?_ ?_ ?_)) <;> (blk_simp [idx t] <;> try omega)

theorem final6 : (dats m 0 c).arrAt 6 (cfgs 0).N = newM (mG m c) (mM m c) := by
  refine (dats m 0 c).arrAt_eq_of_covers 6 _ (by decide +kernel) fun t _ y => ?_
  blk_simp
  rw [after0_6]
  unfold newM
  refine (out6_at _ _ _ _ y).trans (mean_congr (blk2 m c t y _ ?_ ?_ ?_) (blk0 m c t y _ ?_ ?_ ?_)) <;> (blk_simp [idx t] <;> try omega)

theorem final7 : (dats m 0 c).arrAt 7 (cfgs 0).N = newV (mG m c) (mV m c) := by
  refine (dats m 0 c).arrAt_eq_of_covers 7 _ (by decide +kernel) fun t _ y => ?_
  blk_simp
  rw [after0_7]
  unfold newV
  refine (out7_at _ _ _ _ y).trans (meanSq_congr (blk3 m c t y _ ?_ ?_ ?_) (blk0 m c t y _ ?_ ?_ ?_)) <;> (blk_simp [idx t] <;> try omega)

end Cert.AdamTailIdeal.Step

end
-- ==== Proof.AdamTailClaim.lean ====
/- The reference's step on the packed small weights, read at an index, and the claims about the call. -/
module

public import proofs.«01_k».proof.Defs
public import proofs.«01_k».proof.Proof.AdamTailBlock
public import proofs.«01_k».proof.Proof.Gen.AdamTailReferenceIdeal.Read
public import proofs.«01_k».proof.Proof.Gen.AdamTailReferenceIdeal.Run
public import Idealize.ShloMosaic.Lib.Claim

@[expose] public section

set_option maxRecDepth 16384

noncomputable section

namespace Cert.AdamTailReferenceIdeal.Step

open Cert.AdamTailReferenceIdeal Cert.AdamTailReferenceIdeal.Gen Cert.AdamTailReferenceIdeal.Read Idealize.ShloMosaic Idealize.ShloMosaic.TcCoe Idealize.SL.Sem
open Cert.AdamStep
open Cert.AdamTailIdeal.Step (delta newM newV)

variable (G W M Z : FVec Ideal S1x552x1024 .f32)

theorem mean_at (i : S1x552x1024.Idx) : val_main_v4 (F := Ideal) G M i = newM G M i := by
  unfold newM mean
  pointwise! [val_main_v4, val_main_v3, val_main_v2, val_main_v1, val_main_v0, val_main_cst, val_main_cst_0]

theorem meanSq_at (i : S1x552x1024.Idx) : val_main_v10 (F := Ideal) G Z i = newV G Z i := by
  unfold newV meanSq
  pointwise! [val_main_v10, val_main_v9, val_main_v8, val_main_v7, val_main_v6, val_main_v5, val_main_cst_1, val_main_cst_2]

theorem delta_at (i : S1x552x1024.Idx) : val_main_v23 (F := Ideal) G W M Z i = delta G W M Z i := by
  unfold delta change
  rw [show mean (M i) (G i) = val_main_v4 (F := Ideal) G M i from (mean_at G M i).symm,
    show meanSq (Z i) (G i) = val_main_v10 (F := Ideal) G Z i from (meanSq_at G Z i).symm]
  pointwise! [val_main_v23, val_main_v22, val_main_v21, val_main_v20, val_main_v19, val_main_v18, val_main_v17, val_main_v16,
    val_main_v15, val_main_v14, val_main_v13, val_main_v12, val_main_v11, val_main_cst_3, val_main_cst_4, val_main_cst_5,
    val_main_cst_6, val_main_cst_7]

theorem delta_eq : val_main_v23 (F := Ideal) G W M Z = delta G W M Z := funext fun i => delta_at G W M Z i
theorem newM_eq : val_main_v4 (F := Ideal) G M = newM G M := funext fun i => mean_at G M i
theorem newV_eq : val_main_v10 (F := Ideal) G Z = newV G Z := funext fun i => meanSq_at G Z i

end Cert.AdamTailReferenceIdeal.Step

namespace Cert.AdamTailProof

open Idealize.ShloMosaic Idealize.SL.Sem

/-- The reference runs and leaves its arguments as they were. -/
theorem frame_reference : Cert.quiescent_AdamTailReferenceIdeal := by
  intro m g _
  exact (θ_run _ _ _).mono (fun r h => ⟨fun c => (h c).2.2.2.2, sem_eq_zero_of_no_sems (by decide) r.2⟩)
    (Cert.AdamTailReferenceIdeal.Value.run m g)

/-- Over the extended reals the kernel and the reference leave the same four arrays. -/
theorem algebraic : Cert.algebraic_AdamTailIdeal_AdamTailReferenceIdeal := by
  intro m g m' g' _ hagree
  refine ⟨_, _, _, _, Cert.AdamTailIdeal.Value.run_blocks m g, ?_⟩
  refine (θ_run _ _ _).mono (fun r h c => ?_) (Cert.AdamTailReferenceIdeal.Value.run m' g')
  obtain ⟨h0, h1, h2, h3, k⟩ := h c
  obtain ⟨a0, a1, a2, a3⟩ := hagree c
  refine ⟨h0.trans ?_, h1.trans ?_, h2.trans ?_, h3.trans ?_, k⟩
  · rw [a0]
    exact (Cert.AdamTailIdeal.Step.final4 m c).symm
  · rw [Cert.AdamTailReferenceIdeal.Read.val_main_v23_eq, a0, a1, a2, a3]
    exact (Cert.AdamTailReferenceIdeal.Step.delta_eq _ _ _ _).trans (Cert.AdamTailIdeal.Step.final5 m c).symm
  · rw [Cert.AdamTailReferenceIdeal.Read.val_main_v4_eq, a0, a2]
    exact (Cert.AdamTailReferenceIdeal.Step.newM_eq _ _).trans (Cert.AdamTailIdeal.Step.final6 m c).symm
  · rw [Cert.AdamTailReferenceIdeal.Read.val_main_v10_eq, a0, a3]
    exact (Cert.AdamTailReferenceIdeal.Step.newV_eq _ _).trans (Cert.AdamTailIdeal.Step.final7 m c).symm

end Cert.AdamTailProof

end
-- ==== Proof.SlotSumClaim.lean ====
/- The sum of the four slots: the kernel adds them one after the other, the reference over the axis. -/
module

public import proofs.«01_k».proof.Defs
public import proofs.«01_k».proof.Proof.Gen.SlotSumIdeal.Value
public import proofs.«01_k».proof.Proof.Gen.SlotSumReferenceIdeal.Read
public import proofs.«01_k».proof.Proof.Gen.SlotSumReferenceIdeal.Run
public import Idealize.ShloMosaic.Lib.Pointwise
public import Idealize.ShloMosaic.Lib.Claim

@[expose] public section

set_option maxRecDepth 16384

noncomputable section

namespace Cert.SlotSumProof

open Idealize.ShloMosaic Idealize.SL.Sem

/-- Four slots added in turn are their sum over the axis. -/
theorem slots_eq (X : FVec Ideal Cert.SlotSumIdeal.S4x80x1024 .f32) :
    Cert.SlotSumReferenceIdeal.Read.val_main_v0 (F := Ideal) X = Cert.SlotSumIdeal.Value.G1 (F := Ideal) X := by
  funext i
  idx_vars i
  have e : ∀ k : Fin 4, Cert.SlotSumReferenceIdeal.Read.idx_main_v0 (ix2 i0 i1) k = ix3 k i0 i1 := fun k =>
    funext fun a => Fin.ext (by match a with | ⟨0, _⟩ => rfl | ⟨1, _⟩ => rfl | ⟨2, _⟩ => rfl)
  rw [Cert.SlotSumReferenceIdeal.Read.val_main_v0_apply, Fin.sum_univ_four, e, e, e, e]
  unfold Cert.SlotSumIdeal.Value.G1
  pointwise! [Cert.SlotSumIdeal.Gen.k0_pay1, Cert.SlotSumReferenceIdeal.Read.val_main_cst]

/-- The reference runs and leaves its argument as it was. -/
theorem frame_reference : Cert.quiescent_SlotSumReferenceIdeal := by
  intro m g _
  exact (θ_run _ _ _).mono (fun r h => ⟨fun c => (h c).2, sem_eq_zero_of_no_sems (by decide) r.2⟩)
    (Cert.SlotSumReferenceIdeal.Value.run m g)

/-- Over the extended reals the kernel and the reference leave the same sum. -/
theorem algebraic : Cert.algebraic_SlotSumIdeal_SlotSumReferenceIdeal := by
  intro m g m' g' _ hagree
  refine ⟨_, Cert.SlotSumIdeal.Value.run m g, ?_⟩
  refine (θ_run _ _ _).mono (fun r h c => ?_) (Cert.SlotSumReferenceIdeal.Value.run m' g')
  obtain ⟨h0, k⟩ := h c
  have a0 := hagree c
  refine ⟨h0.trans ?_, k⟩
  rw [Cert.SlotSumReferenceIdeal.Read.val_main_v0_eq, a0]
  exact slots_eq _

end Cert.SlotSumProof

end
-- ==== Proof.LruConvBlock.lean ====
/- What one grid point of the recurrence's forward call stores for the convolution, and the whole array. -/
module

public import proofs.«01_k».proof.Proof.Gen.LruConvIdeal.Skeleton
public import proofs.«01_k».proof.Proof.Gen.LruConvIdeal
public import proofs.«01_k».proof.Proof.Gen.LruConvIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.LruConvIdeal.Conv

open Cert.LruConvIdeal Cert.LruConvIdeal.Gen Idealize.ShloMosaic Idealize.ShloMosaic.TcCoe Idealize.SL.Sem
open Idealize.ShloMosaic.Pipeline (Dat)

section At
variable (i : grid0.Coords) (p : FVec Ideal S8x1024 .f32) (x : FVec Ideal S256x1024 .f32) (w : FVec Ideal S4x1024 .f32) (b : FVec Ideal S1x1024 .f32)

/-- Row `r` of the block, shifted down by `k` rows behind the eight rows in front of it. -/
def lagged (k : ℕ) (r : Fin 256) (j : Fin 1024) : EReal :=
  if h : (8 + r.val + 264 - k) % 264 < 8 then
    Scalar.select (Scalar.cmpi CmpIPredicate.eq (BitVec.ofNat 32 (i 0).val) 0#32) 0 (p (ix2 (⟨(8 + r.val + 264 - k) % 264, h⟩ : Fin 8) j))
  else x (ix2 (⟨(8 + r.val + 264 - k) % 264 - 8, by omega⟩ : Fin 256) j)

theorem pay_at (r : Fin 256) (j : Fin 1024) : k0_pay3 (F := Ideal) i p x w b (ix2 r j)
    = b (ix2 0 j) + w (ix2 0 j) * lagged i p x 3 r j + w (ix2 1 j) * lagged i p x 2 r j + w (ix2 2 j) * lagged i p x 1 r j
      + w (ix2 3 j) * x (ix2 r j) := by
  unfold lagged
  pointwise! [k0_pay3]
end At

section Whole
variable (X : FVec Ideal S8192x2048 .f32) (w : FVec Ideal S4x1024 .f32) (b : FVec Ideal S1x1024 .f32)

/-- The entry `k` rows above row `r`, in the columns that the recurrence takes; zero above the first row. -/
def above (k r : ℕ) (h : r < 8192) (j : Fin 1024) : EReal :=
  if k ≤ r then X (ix2 (⟨r - k, by omega⟩ : Fin 8192) (⟨j.val, by omega⟩ : Fin 2048)) else 0

/-- The causal convolution over four rows. -/
def conv (r : Fin 8192) (j : Fin 1024) : EReal :=
  b (ix2 0 j) + w (ix2 0 j) * above X 3 r.val r.isLt j + w (ix2 1 j) * above X 2 r.val r.isLt j
    + w (ix2 2 j) * above X 1 r.val r.isLt j + w (ix2 3 j) * above X 0 r.val r.isLt j

def convAll : FVec Ideal S8192x1024 .f32 := fun i => conv X w b (i 0) (i 1)
end Whole

variable (m : (ℓ : Loc nD τ sig) → Buf (Elt Ideal) ℓ) (c : Dev nD)

theorem idx : ∀ t : Fin cfg0.N, win0_0.index t = ![t.val, 0] ∧ win0_1.index t = ![t.val * 32 - 1, 0] ∧ win0_3.index t = ![0, 0]
    ∧ win0_4.index t = ![0, 0] ∧ win0_12.index t = ![t.val, 0] :=
  (by decide +kernel : ∀ t : Fin grid0.N, _)

theorem coord : ∀ t : Fin cfg0.N, ((grid0.coords t 0 : Fin _) : ℕ) = t.val :=
  (by decide +kernel : ∀ t : Fin grid0.N, _)

theorem lt32 (t : Fin cfg0.N) : t.val < 32 := lt_of_lt_of_eq t.isLt N_0

abbrev mX : FVec Ideal S8192x2048 .f32 := m ((c : Thread nD τ).loc main_arg0)
abbrev mW : FVec Ideal S4x1024 .f32 := m ((c : Thread nD τ).loc main_arg1)
abbrev mB : FVec Ideal S1x1024 .f32 := m ((c : Thread nD τ).loc main_arg2)

/-- Row `r` of the point's block. -/
abbrev row (t : Fin cfg0.N) (r : Fin 256) : Fin 8192 := ⟨t.val * 256 + r.val, by have := lt32 t; omega⟩
/-- Row `a` of the eight rows in front of the block (of the block's own first rows at the first point). -/
abbrev front (t : Fin cfg0.N) (a : Fin 8) : Fin 8192 := ⟨(t.val * 32 - 1) * 8 + a.val, by have := lt32 t; omega⟩
/-- Column `j` of the wider array. -/
abbrev wide (j : Fin 1024) : Fin 2048 := ⟨j.val, by omega⟩

section Block
variable (t : Fin cfg0.N) (p : FVec Ideal S8x1024 .f32) (x : FVec Ideal S256x1024 .f32) (w : FVec Ideal S4x1024 .f32) (b : FVec Ideal S1x1024 .f32)
  (hp : ∀ (a : Fin 8) (j : Fin 1024), p (ix2 a j) = mX m c (ix2 (front t a) (wide j)))
  (hx : ∀ (r : Fin 256) (j : Fin 1024), x (ix2 r j) = mX m c (ix2 (row t r) (wide j)))
  (hw : ∀ (k : Fin 4) (j : Fin 1024), w (ix2 k j) = mW m c (ix2 k j))
  (hb : ∀ (j : Fin 1024), b (ix2 0 j) = mB m c (ix2 0 j))

include hp hx in
theorem lagged_eq (k : ℕ) (h1 : 1 ≤ k) (h3 : k ≤ 3) (r : Fin 256) (j : Fin 1024) :
    lagged (grid0.coords t) p x k r j = above (mX m c) k (row t r).val (row t r).isLt j := by
  have ht := lt32 t
  have hr := r.isLt
  unfold lagged above
  by_cases hrk : r.val < k
  · have e : (8 + r.val + 264 - k) % 264 = 8 + r.val - k := by omega
    rw [dif_pos (by omega)]
    by_cases h0 : t.val = 0
    · rw [coord, h0, if_neg (by show ¬ k ≤ t.val * 256 + r.val; omega)]
      rfl
    · have hc : Scalar.cmpi CmpIPredicate.eq (BitVec.ofNat 32 (grid0.coords t 0 : Fin _).val) 0#32 = 0#1 := by
        rw [coord]
        have : ∀ n : Fin 32, n.val ≠ 0 → Scalar.cmpi CmpIPredicate.eq (BitVec.ofNat 32 n.val) 0#32 = 0#1 := by decide +kernel
        exact this ⟨t.val, ht⟩ h0
      rw [hc, if_pos (by show k ≤ t.val * 256 + r.val; omega)]
      refine (hp _ _).trans (congrArg _ ?_)
      congr 1
      exact Fin.ext (by show (t.val * 32 - 1) * 8 + (8 + r.val + 264 - k) % 264 = t.val * 256 + r.val - k; omega)
  · have e : (8 + r.val + 264 - k) % 264 = 8 + r.val - k := by omega
    rw [dif_neg (by omega), if_pos (by show k ≤ t.val * 256 + r.val; omega)]
    refine (hx _ _).trans (congrArg _ ?_)
    congr 1
    exact Fin.ext (by show t.val * 256 + ((8 + r.val + 264 - k) % 264 - 8) = t.val * 256 + r.val - k; omega)

include hp hx hw hb in
theorem block_conv (y : S256x1024.Idx) (i : S8192x1024.Idx) (h0 : (i 0 : ℕ) = t.val * 256 + y 0) (h1 : (i 1 : ℕ) = y 1) :
    k0_pay3 (F := Ideal) (grid0.coords t) p x w b y = convAll (mX m c) (mW m c) (mB m c) i := by
  idx_vars y
  have e0 : i 0 = row t y0 := Fin.ext h0
  have e1 : i 1 = y1 := Fin.ext h1
  unfold convAll conv
  rw [e0, e1, pay_at, lagged_eq m c t p x hp hx 3 (by omega) (by omega), lagged_eq m c t p x hp hx 2 (by omega) (by omega),
    lagged_eq m c t p x hp hx 1 (by omega) (by omega), hw, hw, hw, hw, hb, hx]
  unfold above
  rw [if_pos (Nat.zero_le _)]
  rfl
end Block

theorem final_conv : (dats m 0 c).arrAt 12 (cfgs 0).N = convAll (mX m c) (mW m c) (mB m c) := by
  refine (dats m 0 c).arrAt_eq_of_covers 12 _ (by decide +kernel) fun t _ y => ?_
  blk_simp
  rw [after0_12]
  by_cases h0 : t.val % 32 = 0
  · rw [outsAt0_A m c t h0]
    frame_out
    refine block_conv m c t _ _ _ _ (fun a j => ?_) (fun r j => ?_) (fun k j => ?_) (fun j => ?_) y _ ?_ ?_ <;>
      (first | blk_point [iblk, V, idx t] | (blk_simp [idx t] <;> try omega))
  · rw [outsAt0_B m c t h0]
    frame_out
    refine block_conv m c t _ _ _ _ (fun a j => ?_) (fun r j => ?_) (fun k j => ?_) (fun j => ?_) y _ ?_ ?_ <;>
      (first | blk_point [iblk, V, idx t] | (blk_simp [idx t] <;> try omega))

end Cert.LruConvIdeal.Conv

end
-- ==== Proof.LruConvClaim.lean ====
/- The reference's causal convolution over four rows, read at an index, and the claims about the call. -/
module

public import proofs.«01_k».proof.Defs
public import proofs.«01_k».proof.Proof.LruConvBlock
public import proofs.«01_k».proof.Proof.Gen.LruConvReferenceIdeal.Read
public import proofs.«01_k».proof.Proof.Gen.LruConvReferenceIdeal.Run
public import Idealize.ShloMosaic.Lib.Claim

@[expose] public section

set_option maxRecDepth 16384

noncomputable section

namespace Cert.LruConvReferenceIdeal.Conv

open Cert.LruConvReferenceIdeal Cert.LruConvReferenceIdeal.Gen Cert.LruConvReferenceIdeal.Read Idealize.ShloMosaic Idealize.ShloMosaic.TcCoe Idealize.SL.Sem
open Cert.LruConvIdeal.Conv (above conv convAll)

variable (X : FVec Ideal S8192x2048 .f32) (w : FVec Ideal S4x1024 .f32) (b : FVec Ideal S1x1024 .f32)

/-- The columns behind three rows of zeros. -/
theorem padded_at (k : ℕ) (h3 : k ≤ 3) (r : Fin 8192) (j : Fin 1024) (s : Fin 8195) (hs : s.val + k = 3 + r.val) :
    val_main_v2 (F := Ideal) X (ix2 s j) = above X k r.val r.isLt j := by
  unfold above
  by_cases hk : k ≤ r.val
  · rw [if_pos hk]
    pointwise! [val_main_v2, val_main_v1, val_main_v0, val_main_cst]
    rw [dif_neg (by omega)]
    congr 2
    exact Fin.ext (by show s.val - 3 = r.val - k; omega)
  · rw [if_neg hk]
    pointwise! [val_main_v2, val_main_v1, val_main_v0, val_main_cst]
    rw [dif_pos (by omega)]

theorem at0 (r : Fin 8192) (j : Fin 1024) : val_main_v4 (F := Ideal) X (ix2 r j) = above X 3 r.val r.isLt j := by
  rw [← padded_at X 3 (by omega) r j ⟨r.val, by omega⟩ (by show r.val + 3 = 3 + r.val; omega)]
  pointwise! [val_main_v4]
theorem at1 (r : Fin 8192) (j : Fin 1024) : val_main_v10 (F := Ideal) X (ix2 r j) = above X 2 r.val r.isLt j := by
  rw [← padded_at X 2 (by omega) r j ⟨1 + r.val, by omega⟩ (by show 1 + r.val + 2 = 3 + r.val; omega)]
  pointwise! [val_main_v10]
theorem at2 (r : Fin 8192) (j : Fin 1024) : val_main_v15 (F := Ideal) X (ix2 r j) = above X 1 r.val r.isLt j := by
  rw [← padded_at X 1 (by omega) r j ⟨2 + r.val, by omega⟩ (by show 2 + r.val + 1 = 3 + r.val; omega)]
  pointwise! [val_main_v15]
theorem at3 (r : Fin 8192) (j : Fin 1024) : val_main_v20 (F := Ideal) X (ix2 r j) = above X 0 r.val r.isLt j := by
  rw [← padded_at X 0 (by omega) r j ⟨3 + r.val, by omega⟩ (by show 3 + r.val + 0 = 3 + r.val; omega)]
  pointwise! [val_main_v20]

theorem conv_at (r : Fin 8192) (j : Fin 1024) : val_main_v25 (F := Ideal) X w b (ix2 r j)
    = w (ix2 0 j) * above X 3 r.val r.isLt j + w (ix2 1 j) * above X 2 r.val r.isLt j
      + w (ix2 2 j) * above X 1 r.val r.isLt j + w (ix2 3 j) * above X 0 r.val r.isLt j + b (ix2 0 j) := by
  pointwise! [val_main_v25, val_main_v24, val_main_v23, val_main_v22, val_main_v21, val_main_v19, val_main_v18, val_main_v17,
    val_main_v16, val_main_v14, val_main_v13, val_main_v12, val_main_v11, val_main_v9, val_main_v8, val_main_v7, val_main_cst_0,
    val_main_v6, val_main_v5, val_main_v3, at0, at1, at2, at3]

theorem conv_eq : val_main_v25 (F := Ideal) X w b = convAll X w b := by
  funext i
  idx_vars i
  rw [conv_at]
  unfold convAll conv
  rw [add_comm]
  simp only [← add_assoc]
  rfl

end Cert.LruConvReferenceIdeal.Conv

namespace Cert.LruConvProof

open Idealize.ShloMosaic Idealize.SL.Sem

/-- The reference runs and leaves its arguments as they were. -/
theorem frame_reference : Cert.quiescent_LruConvReferenceIdeal := by
  intro m g _
  exact (θ_run _ _ _).mono (fun r h => ⟨fun c => (h c).2, sem_eq_zero_of_no_sems (by decide) r.2⟩)
    (Cert.LruConvReferenceIdeal.Value.run m g)

/-- Over the extended reals the kernel and the reference leave the same convolution. -/
theorem algebraic : Cert.algebraic_LruConvIdeal_LruConvReferenceIdeal := by
  intro m g m' g' _ hagree
  refine ⟨_, (θ_run _ _ _).mono (fun r h c => (h c).2.2) (Cert.LruConvIdeal.Value.run_blocks m g), ?_⟩
  refine (θ_run _ _ _).mono (fun r h c => ?_) (Cert.LruConvReferenceIdeal.Value.run m' g')
  obtain ⟨h0, k⟩ := h c
  obtain ⟨a0, a1, a2, _⟩ := hagree c
  refine ⟨h0.trans ?_, k⟩
  rw [Cert.LruConvReferenceIdeal.Read.val_main_v25_eq, a0, a1, a2]
  exact (Cert.LruConvReferenceIdeal.Conv.conv_eq _ _ _).trans (Cert.LruConvIdeal.Conv.final_conv m c).symm

end Cert.LruConvProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Swiglu
public import proofs.«01_k».proof.Proof.Gen.Swiglu.Skeleton
public import proofs.«01_k».proof.Proof.Gen.Swiglu.Launch
public import proofs.«01_k».proof.Proof.Gen.Swiglu.Points
public import proofs.«01_k».proof.Proof.Gen.Swiglu.Frame
public import proofs.«01_k».proof.Proof.Gen.SwigluIdeal
public import proofs.«01_k».proof.Proof.Gen.SwigluIdeal.Skeleton
public import proofs.«01_k».proof.Proof.Gen.SwigluIdeal.Launch
public import proofs.«01_k».proof.Proof.Gen.SwigluIdeal.Points
public import proofs.«01_k».proof.Proof.Gen.SwigluIdeal.Frame
public import proofs.«01_k».proof.Proof.Gen.SwigluIdeal.Value
public import proofs.«01_k».proof.Proof.Gen.SwigluReferenceIdeal
public import proofs.«01_k».proof.Proof.Gen.SwigluReferenceIdeal.Run
public import proofs.«01_k».proof.Proof.Gen.SwigluReferenceIdeal.Read
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateIdeal.Value
public import proofs.«01_k».proof.Proof.Gen.GateReferenceIdeal
public import proofs.«01_k».proof.Proof.Gen.GateReferenceIdeal.Run
public import proofs.«01_k».proof.Proof.Gen.GateReferenceIdeal.Read
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormReferenceIdeal
public import proofs.«01_k».proof.Proof.Gen.NormReferenceIdeal.Run
public import proofs.«01_k».proof.Proof.Gen.NormReferenceIdeal.Read
public import proofs.«01_k».proof.Proof.Gen.DwDown
public import proofs.«01_k».proof.Proof.Gen.DwDown.Skeleton
public import proofs.«01_k».proof.Proof.Gen.DwDown.Launch
public import proofs.«01_k».proof.Proof.Gen.DwDown.Points
public import proofs.«01_k».proof.Proof.Gen.DwDown.Frame
public import proofs.«01_k».proof.Proof.Gen.DwDownIdeal
public import proofs.«01_k».proof.Proof.Gen.DwDownIdeal.Skeleton
public import proofs.«01_k».proof.Proof.Gen.DwDownIdeal.Launch
public import proofs.«01_k».proof.Proof.Gen.DwDownIdeal.Points
public import proofs.«01_k».proof.Proof.Gen.DwDownIdeal.Frame
public import proofs.«01_k».proof.Proof.Gen.DwDownIdeal.Value
public import proofs.«01_k».proof.Proof.Gen.DwDownReferenceIdeal
public import proofs.«01_k».proof.Proof.Gen.DwDownReferenceIdeal.Run
public import proofs.«01_k».proof.Proof.Gen.DwDownReferenceIdeal.Read
public import proofs.«01_k».proof.Proof.Gen.DwIn
public import proofs.«01_k».proof.Proof.Gen.DwIn.Skeleton
public import proofs.«01_k».proof.Proof.Gen.DwIn.Launch
public import proofs.«01_k».proof.Proof.Gen.DwIn.Points
public import proofs.«01_k».proof.Proof.Gen.DwIn.Frame
public import proofs.«01_k».proof.Proof.Gen.DwInIdeal
public import proofs.«01_k».proof.Proof.Gen.DwInIdeal.Skeleton
public import proofs.«01_k».proof.Proof.Gen.DwInIdeal.Launch
public import proofs.«01_k».proof.Proof.Gen.DwInIdeal.Points
public import proofs.«01_k».proof.Proof.Gen.DwInIdeal.Frame
public import proofs.«01_k».proof.Proof.Gen.DwInIdeal.Value
public import proofs.«01_k».proof.Proof.Gen.DwInReferenceIdeal
public import proofs.«01_k».proof.Proof.Gen.DwInReferenceIdeal.Run
public import proofs.«01_k».proof.Proof.Gen.DwInReferenceIdeal.Read
public import proofs.«01_k».proof.Proof.Gen.DxGate
public import proofs.«01_k».proof.Proof.Gen.DxGate.Skeleton
public import proofs.«01_k».proof.Proof.Gen.DxGate.Launch
public import proofs.«01_k».proof.Proof.Gen.DxGate.Points
public import proofs.«01_k».proof.Proof.Gen.DxGate.Frame
public import proofs.«01_k».proof.Proof.Gen.DxGateIdeal
public import proofs.«01_k».proof.Proof.Gen.DxGateIdeal.Skeleton
public import proofs.«01_k».proof.Proof.Gen.DxGateIdeal.Launch
public import proofs.«01_k».proof.Proof.Gen.DxGateIdeal.Points
public import proofs.«01_k».proof.Proof.Gen.DxGateIdeal.Frame
public import proofs.«01_k».proof.Proof.Gen.DxGateIdeal.Value
public import proofs.«01_k».proof.Proof.Gen.DxGateReferenceIdeal
public import proofs.«01_k».proof.Proof.Gen.DxGateReferenceIdeal.Run
public import proofs.«01_k».proof.Proof.Gen.DxGateReferenceIdeal.Read
public import proofs.«01_k».proof.Proof.Gen.DxUp
public import proofs.«01_k».proof.Proof.Gen.DxUp.Skeleton
public import proofs.«01_k».proof.Proof.Gen.DxUp.Launch
public import proofs.«01_k».proof.Proof.Gen.DxUp.Points
public import proofs.«01_k».proof.Proof.Gen.DxUp.Frame
public import proofs.«01_k».proof.Proof.Gen.DxUpIdeal
public import proofs.«01_k».proof.Proof.Gen.DxUpIdeal.Skeleton
public import proofs.«01_k».proof.Proof.Gen.DxUpIdeal.Launch
public import proofs.«01_k».proof.Proof.Gen.DxUpIdeal.Points
public import proofs.«01_k».proof.Proof.Gen.DxUpIdeal.Frame
public import proofs.«01_k».proof.Proof.Gen.DxUpIdeal.Value
public import proofs.«01_k».proof.Proof.Gen.DxUpReferenceIdeal
public import proofs.«01_k».proof.Proof.Gen.DxUpReferenceIdeal.Run
public import proofs.«01_k».proof.Proof.Gen.DxUpReferenceIdeal.Read
public import proofs.«01_k».proof.Proof.Gen.FfnIn
public import proofs.«01_k».proof.Proof.Gen.FfnIn.Skeleton
public import proofs.«01_k».proof.Proof.Gen.FfnIn.Launch
public import proofs.«01_k».proof.Proof.Gen.FfnIn.Points
public import proofs.«01_k».proof.Proof.Gen.FfnIn.Frame
public import proofs.«01_k».proof.Proof.Gen.FfnInIdeal
public import proofs.«01_k».proof.Proof.Gen.FfnInIdeal.Skeleton
public import proofs.«01_k».proof.Proof.Gen.FfnInIdeal.Launch
public import proofs.«01_k».proof.Proof.Gen.FfnInIdeal.Points
public import proofs.«01_k».proof.Proof.Gen.FfnInIdeal.Frame
public import proofs.«01_k».proof.Proof.Gen.FfnInIdeal.Value
public import proofs.«01_k».proof.Proof.Gen.FfnInReferenceIdeal
public import proofs.«01_k».proof.Proof.Gen.FfnInReferenceIdeal.Run
public import proofs.«01_k».proof.Proof.Gen.FfnInReferenceIdeal.Read
public import proofs.«01_k».proof.Proof.Gen.DwSsd
public import proofs.«01_k».proof.Proof.Gen.DwSsd.Skeleton
public import proofs.«01_k».proof.Proof.Gen.DwSsd.Launch
public import proofs.«01_k».proof.Proof.Gen.DwSsd.Points
public import proofs.«01_k».proof.Proof.Gen.DwSsd.Frame
public import proofs.«01_k».proof.Proof.Gen.DwSsdIdeal
public import proofs.«01_k».proof.Proof.Gen.DwSsdIdeal.Skeleton
public import proofs.«01_k».proof.Proof.Gen.DwSsdIdeal.Launch
public import proofs.«01_k».proof.Proof.Gen.DwSsdIdeal.Points
public import proofs.«01_k».proof.Proof.Gen.DwSsdIdeal.Frame
public import proofs.«01_k».proof.Proof.Gen.DwSsdIdeal.Value
public import proofs.«01_k».proof.Proof.Gen.DwSsdReferenceIdeal
public import proofs.«01_k».proof.Proof.Gen.DwSsdReferenceIdeal.Run
public import proofs.«01_k».proof.Proof.Gen.DwSsdReferenceIdeal.Read
public import proofs.«01_k».proof.Proof.Gen.DwLru
public import proofs.«01_k».proof.Proof.Gen.DwLru.Skeleton
public import proofs.«01_k».proof.Proof.Gen.DwLru.Launch
public import proofs.«01_k».proof.Proof.Gen.DwLru.Points
public import proofs.«01_k».proof.Proof.Gen.DwLru.Frame
public import proofs.«01_k».proof.Proof.Gen.DwLruIdeal
public import proofs.«01_k».proof.Proof.Gen.DwLruIdeal.Skeleton
public import proofs.«01_k».proof.Proof.Gen.DwLruIdeal.Launch
public import proofs.«01_k».proof.Proof.Gen.DwLruIdeal.Points
public import proofs.«01_k».proof.Proof.Gen.DwLruIdeal.Frame
public import proofs.«01_k».proof.Proof.Gen.DwLruIdeal.Value
public import proofs.«01_k».proof.Proof.Gen.DwLruReferenceIdeal
public import proofs.«01_k».proof.Proof.Gen.DwLruReferenceIdeal.Run
public import proofs.«01_k».proof.Proof.Gen.DwLruReferenceIdeal.Read
public import proofs.«01_k».proof.Proof.Gen.DwGl
public import proofs.«01_k».proof.Proof.Gen.DwGl.Skeleton
public import proofs.«01_k».proof.Proof.Gen.DwGl.Launch
public import proofs.«01_k».proof.Proof.Gen.DwGl.Points
public import proofs.«01_k».proof.Proof.Gen.DwGl.Frame
public import proofs.«01_k».proof.Proof.Gen.DwGlIdeal
public import proofs.«01_k».proof.Proof.Gen.DwGlIdeal.Skeleton
public import proofs.«01_k».proof.Proof.Gen.DwGlIdeal.Launch
public import proofs.«01_k».proof.Proof.Gen.DwGlIdeal.Points
public import proofs.«01_k».proof.Proof.Gen.DwGlIdeal.Frame
public import proofs.«01_k».proof.Proof.Gen.DwGlIdeal.Value
public import proofs.«01_k».proof.Proof.Gen.DwGlReferenceIdeal
public import proofs.«01_k».proof.Proof.Gen.DwGlReferenceIdeal.Run
public import proofs.«01_k».proof.Proof.Gen.DwGlReferenceIdeal.Read
public import proofs.«01_k».proof.Proof.Gen.DwQ
public import proofs.«01_k».proof.Proof.Gen.DwQ.Skeleton
public import proofs.«01_k».proof.Proof.Gen.DwQ.Launch
public import proofs.«01_k».proof.Proof.Gen.DwQ.Points
public import proofs.«01_k».proof.Proof.Gen.DwQ.Frame
public import proofs.«01_k».proof.Proof.Gen.DwQIdeal
public import proofs.«01_k».proof.Proof.Gen.DwQIdeal.Skeleton
public import proofs.«01_k».proof.Proof.Gen.DwQIdeal.Launch
public import proofs.«01_k».proof.Proof.Gen.DwQIdeal.Points
public import proofs.«01_k».proof.Proof.Gen.DwQIdeal.Frame
public import proofs.«01_k».proof.Proof.Gen.DwQIdeal.Value
public import proofs.«01_k».proof.Proof.Gen.DwQReferenceIdeal
public import proofs.«01_k».proof.Proof.Gen.DwQReferenceIdeal.Run
public import proofs.«01_k».proof.Proof.Gen.DwQReferenceIdeal.Read
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutIdeal.Value
public import proofs.«01_k».proof.Proof.Gen.DwOutReferenceIdeal
public import proofs.«01_k».proof.Proof.Gen.DwOutReferenceIdeal.Run
public import proofs.«01_k».proof.Proof.Gen.DwOutReferenceIdeal.Read
public import proofs.«01_k».proof.Proof.Gen.DwBrSsd
public import proofs.«01_k».proof.Proof.Gen.DwBrSsd.Skeleton
public import proofs.«01_k».proof.Proof.Gen.DwBrSsd.Launch
public import proofs.«01_k».proof.Proof.Gen.DwBrSsd.Points
public import proofs.«01_k».proof.Proof.Gen.DwBrSsd.Frame
public import proofs.«01_k».proof.Proof.Gen.DwBrSsdIdeal
public import proofs.«01_k».proof.Proof.Gen.DwBrSsdIdeal.Skeleton
public import proofs.«01_k».proof.Proof.Gen.DwBrSsdIdeal.Launch
public import proofs.«01_k».proof.Proof.Gen.DwBrSsdIdeal.Points
public import proofs.«01_k».proof.Proof.Gen.DwBrSsdIdeal.Frame
public import proofs.«01_k».proof.Proof.Gen.DwBrSsdIdeal.Value
public import proofs.«01_k».proof.Proof.Gen.DwBrSsdReferenceIdeal
public import proofs.«01_k».proof.Proof.Gen.DwBrSsdReferenceIdeal.Run
public import proofs.«01_k».proof.Proof.Gen.DwBrSsdReferenceIdeal.Read
public import proofs.«01_k».proof.Proof.Gen.DxSsd
public import proofs.«01_k».proof.Proof.Gen.DxSsd.Skeleton
public import proofs.«01_k».proof.Proof.Gen.DxSsd.Launch
public import proofs.«01_k».proof.Proof.Gen.DxSsd.Points
public import proofs.«01_k».proof.Proof.Gen.DxSsd.Frame
public import proofs.«01_k».proof.Proof.Gen.DxSsdIdeal
public import proofs.«01_k».proof.Proof.Gen.DxSsdIdeal.Skeleton
public import proofs.«01_k».proof.Proof.Gen.DxSsdIdeal.Launch
public import proofs.«01_k».proof.Proof.Gen.DxSsdIdeal.Points
public import proofs.«01_k».proof.Proof.Gen.DxSsdIdeal.Frame
public import proofs.«01_k».proof.Proof.Gen.DxSsdIdeal.Value
public import proofs.«01_k».proof.Proof.Gen.DxSsdReferenceIdeal
public import proofs.«01_k».proof.Proof.Gen.DxSsdReferenceIdeal.Run
public import proofs.«01_k».proof.Proof.Gen.DxSsdReferenceIdeal.Read
public import proofs.«01_k».proof.Proof.Gen.DxLru
public import proofs.«01_k».proof.Proof.Gen.DxLru.Skeleton
public import proofs.«01_k».proof.Proof.Gen.DxLru.Launch
public import proofs.«01_k».proof.Proof.Gen.DxLru.Points
public import proofs.«01_k».proof.Proof.Gen.DxLru.Frame
public import proofs.«01_k».proof.Proof.Gen.DxLruIdeal
public import proofs.«01_k».proof.Proof.Gen.DxLruIdeal.Skeleton
public import proofs.«01_k».proof.Proof.Gen.DxLruIdeal.Launch
public import proofs.«01_k».proof.Proof.Gen.DxLruIdeal.Points
public import proofs.«01_k».proof.Proof.Gen.DxLruIdeal.Frame
public import proofs.«01_k».proof.Proof.Gen.DxLruIdeal.Value
public import proofs.«01_k».proof.Proof.Gen.DxLruReferenceIdeal
public import proofs.«01_k».proof.Proof.Gen.DxLruReferenceIdeal.Run
public import proofs.«01_k».proof.Proof.Gen.DxLruReferenceIdeal.Read
public import proofs.«01_k».proof.Proof.Gen.DxGl
public import proofs.«01_k».proof.Proof.Gen.DxGl.Skeleton
public import proofs.«01_k».proof.Proof.Gen.DxGl.Launch
public import proofs.«01_k».proof.Proof.Gen.DxGl.Points
public import proofs.«01_k».proof.Proof.Gen.DxGl.Frame
public import proofs.«01_k».proof.Proof.Gen.DxGlIdeal
public import proofs.«01_k».proof.Proof.Gen.DxGlIdeal.Skeleton
public import proofs.«01_k».proof.Proof.Gen.DxGlIdeal.Launch
public import proofs.«01_k».proof.Proof.Gen.DxGlIdeal.Points
public import proofs.«01_k».proof.Proof.Gen.DxGlIdeal.Frame
public import proofs.«01_k».proof.Proof.Gen.DxGlIdeal.Value
public import proofs.«01_k».proof.Proof.Gen.DxGlReferenceIdeal
public import proofs.«01_k».proof.Proof.Gen.DxGlReferenceIdeal.Run
public import proofs.«01_k».proof.Proof.Gen.DxGlReferenceIdeal.Read
public import proofs.«01_k».proof.Proof.Gen.DxQ
public import proofs.«01_k».proof.Proof.Gen.DxQ.Skeleton
public import proofs.«01_k».proof.Proof.Gen.DxQ.Launch
public import proofs.«01_k».proof.Proof.Gen.DxQ.Points
public import proofs.«01_k».proof.Proof.Gen.DxQ.Frame
public import proofs.«01_k».proof.Proof.Gen.DxQIdeal
public import proofs.«01_k».proof.Proof.Gen.DxQIdeal.Skeleton
public import proofs.«01_k».proof.Proof.Gen.DxQIdeal.Launch
public import proofs.«01_k».proof.Proof.Gen.DxQIdeal.Points
public import proofs.«01_k».proof.Proof.Gen.DxQIdeal.Frame
public import proofs.«01_k».proof.Proof.Gen.DxQIdeal.Value
public import proofs.«01_k».proof.Proof.Gen.DxQReferenceIdeal
public import proofs.«01_k».proof.Proof.Gen.DxQReferenceIdeal.Run
public import proofs.«01_k».proof.Proof.Gen.DxQReferenceIdeal.Read
public import proofs.«01_k».proof.Proof.Gen.DMerged
public import proofs.«01_k».proof.Proof.Gen.DMerged.Skeleton
public import proofs.«01_k».proof.Proof.Gen.DMerged.Launch
public import proofs.«01_k».proof.Proof.Gen.DMerged.Points
public import proofs.«01_k».proof.Proof.Gen.DMerged.Frame
public import proofs.«01_k».proof.Proof.Gen.DMergedIdeal
public import proofs.«01_k».proof.Proof.Gen.DMergedIdeal.Skeleton
public import proofs.«01_k».proof.Proof.Gen.DMergedIdeal.Launch
public import proofs.«01_k».proof.Proof.Gen.DMergedIdeal.Points
public import proofs.«01_k».proof.Proof.Gen.DMergedIdeal.Frame
public import proofs.«01_k».proof.Proof.Gen.DMergedIdeal.Value
public import proofs.«01_k».proof.Proof.Gen.DMergedReferenceIdeal
public import proofs.«01_k».proof.Proof.Gen.DMergedReferenceIdeal.Run
public import proofs.«01_k».proof.Proof.Gen.DMergedReferenceIdeal.Read
public import proofs.«01_k».proof.Proof.Gen.DyLru
public import proofs.«01_k».proof.Proof.Gen.DyLru.Skeleton
public import proofs.«01_k».proof.Proof.Gen.DyLru.Launch
public import proofs.«01_k».proof.Proof.Gen.DyLru.Points
public import proofs.«01_k».proof.Proof.Gen.DyLru.Frame
public import proofs.«01_k».proof.Proof.Gen.DyLruIdeal
public import proofs.«01_k».proof.Proof.Gen.DyLruIdeal.Skeleton
public import proofs.«01_k».proof.Proof.Gen.DyLruIdeal.Launch
public import proofs.«01_k».proof.Proof.Gen.DyLruIdeal.Points
public import proofs.«01_k».proof.Proof.Gen.DyLruIdeal.Frame
public import proofs.«01_k».proof.Proof.Gen.DyLruIdeal.Value
public import proofs.«01_k».proof.Proof.Gen.DyLruReferenceIdeal
public import proofs.«01_k».proof.Proof.Gen.DyLruReferenceIdeal.Run
public import proofs.«01_k».proof.Proof.Gen.DyLruReferenceIdeal.Read
public import proofs.«01_k».proof.Proof.Gen.DySsd
public import proofs.«01_k».proof.Proof.Gen.DySsd.Skeleton
public import proofs.«01_k».proof.Proof.Gen.DySsd.Launch
public import proofs.«01_k».proof.Proof.Gen.DySsd.Points
public import proofs.«01_k».proof.Proof.Gen.DySsd.Frame
public import proofs.«01_k».proof.Proof.Gen.DySsdIdeal
public import proofs.«01_k».proof.Proof.Gen.DySsdIdeal.Skeleton
public import proofs.«01_k».proof.Proof.Gen.DySsdIdeal.Launch
public import proofs.«01_k».proof.Proof.Gen.DySsdIdeal.Points
public import proofs.«01_k».proof.Proof.Gen.DySsdIdeal.Frame
public import proofs.«01_k».proof.Proof.Gen.DySsdIdeal.Value
public import proofs.«01_k».proof.Proof.Gen.DySsdReferenceIdeal
public import proofs.«01_k».proof.Proof.Gen.DySsdReferenceIdeal.Run
public import proofs.«01_k».proof.Proof.Gen.DySsdReferenceIdeal.Read
public import proofs.«01_k».proof.Proof.Gen.DyXa
public import proofs.«01_k».proof.Proof.Gen.DyXa.Skeleton
public import proofs.«01_k».proof.Proof.Gen.DyXa.Launch
public import proofs.«01_k».proof.Proof.Gen.DyXa.Points
public import proofs.«01_k».proof.Proof.Gen.DyXa.Frame
public import proofs.«01_k».proof.Proof.Gen.DyXaIdeal
public import proofs.«01_k».proof.Proof.Gen.DyXaIdeal.Skeleton
public import proofs.«01_k».proof.Proof.Gen.DyXaIdeal.Launch
public import proofs.«01_k».proof.Proof.Gen.DyXaIdeal.Points
public import proofs.«01_k».proof.Proof.Gen.DyXaIdeal.Frame
public import proofs.«01_k».proof.Proof.Gen.DyXaIdeal.Value
public import proofs.«01_k».proof.Proof.Gen.DyXaReferenceIdeal
public import proofs.«01_k».proof.Proof.Gen.DyXaReferenceIdeal.Run
public import proofs.«01_k».proof.Proof.Gen.DyXaReferenceIdeal.Read
public import proofs.«01_k».proof.Proof.Gen.ProjSsd
public import proofs.«01_k».proof.Proof.Gen.ProjSsd.Skeleton
public import proofs.«01_k».proof.Proof.Gen.ProjSsd.Launch
public import proofs.«01_k».proof.Proof.Gen.ProjSsd.Points
public import proofs.«01_k».proof.Proof.Gen.ProjSsd.Frame
public import proofs.«01_k».proof.Proof.Gen.ProjSsdIdeal
public import proofs.«01_k».proof.Proof.Gen.ProjSsdIdeal.Skeleton
public import proofs.«01_k».proof.Proof.Gen.ProjSsdIdeal.Launch
public import proofs.«01_k».proof.Proof.Gen.ProjSsdIdeal.Points
public import proofs.«01_k».proof.Proof.Gen.ProjSsdIdeal.Frame
public import proofs.«01_k».proof.Proof.Gen.ProjSsdIdeal.Value
public import proofs.«01_k».proof.Proof.Gen.ProjSsdReferenceIdeal
public import proofs.«01_k».proof.Proof.Gen.ProjSsdReferenceIdeal.Run
public import proofs.«01_k».proof.Proof.Gen.ProjSsdReferenceIdeal.Read
public import proofs.«01_k».proof.Proof.Gen.ProjLru
public import proofs.«01_k».proof.Proof.Gen.ProjLru.Skeleton
public import proofs.«01_k».proof.Proof.Gen.ProjLru.Launch
public import proofs.«01_k».proof.Proof.Gen.ProjLru.Points
public import proofs.«01_k».proof.Proof.Gen.ProjLru.Frame
public import proofs.«01_k».proof.Proof.Gen.ProjLruIdeal
public import proofs.«01_k».proof.Proof.Gen.ProjLruIdeal.Skeleton
public import proofs.«01_k».proof.Proof.Gen.ProjLruIdeal.Launch
public import proofs.«01_k».proof.Proof.Gen.ProjLruIdeal.Points
public import proofs.«01_k».proof.Proof.Gen.ProjLruIdeal.Frame
public import proofs.«01_k».proof.Proof.Gen.ProjLruIdeal.Value
public import proofs.«01_k».proof.Proof.Gen.ProjLruReferenceIdeal
public import proofs.«01_k».proof.Proof.Gen.ProjLruReferenceIdeal.Run
public import proofs.«01_k».proof.Proof.Gen.ProjLruReferenceIdeal.Read
public import proofs.«01_k».proof.Proof.Gen.ProjGl
public import proofs.«01_k».proof.Proof.Gen.ProjGl.Skeleton
public import proofs.«01_k».proof.Proof.Gen.ProjGl.Launch
public import proofs.«01_k».proof.Proof.Gen.ProjGl.Points
public import proofs.«01_k».proof.Proof.Gen.ProjGl.Frame
public import proofs.«01_k».proof.Proof.Gen.ProjGlIdeal
public import proofs.«01_k».proof.Proof.Gen.ProjGlIdeal.Skeleton
public import proofs.«01_k».proof.Proof.Gen.ProjGlIdeal.Launch
public import proofs.«01_k».proof.Proof.Gen.ProjGlIdeal.Points
public import proofs.«01_k».proof.Proof.Gen.ProjGlIdeal.Frame
public import proofs.«01_k».proof.Proof.Gen.ProjGlIdeal.Value
public import proofs.«01_k».proof.Proof.Gen.ProjGlReferenceIdeal
public import proofs.«01_k».proof.Proof.Gen.ProjGlReferenceIdeal.Run
public import proofs.«01_k».proof.Proof.Gen.ProjGlReferenceIdeal.Read
public import proofs.«01_k».proof.Proof.Gen.ProjQ
public import proofs.«01_k».proof.Proof.Gen.ProjQ.Skeleton
public import proofs.«01_k».proof.Proof.Gen.ProjQ.Launch
public import proofs.«01_k».proof.Proof.Gen.ProjQ.Points
public import proofs.«01_k».proof.Proof.Gen.ProjQ.Frame
public import proofs.«01_k».proof.Proof.Gen.ProjQIdeal
public import proofs.«01_k».proof.Proof.Gen.ProjQIdeal.Skeleton
public import proofs.«01_k».proof.Proof.Gen.ProjQIdeal.Launch
public import proofs.«01_k».proof.Proof.Gen.ProjQIdeal.Points
public import proofs.«01_k».proof.Proof.Gen.ProjQIdeal.Frame
public import proofs.«01_k».proof.Proof.Gen.ProjQIdeal.Value
public import proofs.«01_k».proof.Proof.Gen.ProjQReferenceIdeal
public import proofs.«01_k».proof.Proof.Gen.ProjQReferenceIdeal.Run
public import proofs.«01_k».proof.Proof.Gen.ProjQReferenceIdeal.Read
public import proofs.«01_k».proof.Proof.Gen.BrSsd
public import proofs.«01_k».proof.Proof.Gen.BrSsd.Skeleton
public import proofs.«01_k».proof.Proof.Gen.BrSsd.Launch
public import proofs.«01_k».proof.Proof.Gen.BrSsd.Points
public import proofs.«01_k».proof.Proof.Gen.BrSsd.Frame
public import proofs.«01_k».proof.Proof.Gen.BrSsdIdeal
public import proofs.«01_k».proof.Proof.Gen.BrSsdIdeal.Skeleton
public import proofs.«01_k».proof.Proof.Gen.BrSsdIdeal.Launch
public import proofs.«01_k».proof.Proof.Gen.BrSsdIdeal.Points
public import proofs.«01_k».proof.Proof.Gen.BrSsdIdeal.Frame
public import proofs.«01_k».proof.Proof.Gen.BrSsdIdeal.Value
public import proofs.«01_k».proof.Proof.Gen.BrSsdReferenceIdeal
public import proofs.«01_k».proof.Proof.Gen.BrSsdReferenceIdeal.Run
public import proofs.«01_k».proof.Proof.Gen.BrSsdReferenceIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjReferenceIdeal
public import proofs.«01_k».proof.Proof.Gen.OutProjReferenceIdeal.Run
public import proofs.«01_k».proof.Proof.Gen.OutProjReferenceIdeal.Read
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownIdeal.Value
public import proofs.«01_k».proof.Proof.Gen.FfnDownReferenceIdeal
public import proofs.«01_k».proof.Proof.Gen.FfnDownReferenceIdeal.Run
public import proofs.«01_k».proof.Proof.Gen.FfnDownReferenceIdeal.Read
public import proofs.«01_k».proof.Proof.Gen.XaFwd
public import proofs.«01_k».proof.Proof.Gen.XaFwd.Skeleton
public import proofs.«01_k».proof.Proof.Gen.XaFwd.Launch
public import proofs.«01_k».proof.Proof.Gen.XaFwd.Points
public import proofs.«01_k».proof.Proof.Gen.XaFwd.Frame
public import proofs.«01_k».proof.Proof.Gen.XaFwdIdeal
public import proofs.«01_k».proof.Proof.Gen.XaFwdIdeal.Skeleton
public import proofs.«01_k».proof.Proof.Gen.XaFwdIdeal.Launch
public import proofs.«01_k».proof.Proof.Gen.XaFwdIdeal.Points
public import proofs.«01_k».proof.Proof.Gen.XaFwdIdeal.Frame
public import proofs.«01_k».proof.Proof.Gen.XaFwdIdeal.Value
public import proofs.«01_k».proof.Proof.Gen.XaFwdReferenceIdeal
public import proofs.«01_k».proof.Proof.Gen.XaFwdReferenceIdeal.Run
public import proofs.«01_k».proof.Proof.Gen.XaFwdReferenceIdeal.Read
public import proofs.«01_k».proof.Proof.Gen.MergeFwd
public import proofs.«01_k».proof.Proof.Gen.MergeFwd.Skeleton
public import proofs.«01_k».proof.Proof.Gen.MergeFwd.Launch
public import proofs.«01_k».proof.Proof.Gen.MergeFwd.Points
public import proofs.«01_k».proof.Proof.Gen.MergeFwd.Frame
public import proofs.«01_k».proof.Proof.Gen.MergeFwdIdeal
public import proofs.«01_k».proof.Proof.Gen.MergeFwdIdeal.Skeleton
public import proofs.«01_k».proof.Proof.Gen.MergeFwdIdeal.Launch
public import proofs.«01_k».proof.Proof.Gen.MergeFwdIdeal.Points
public import proofs.«01_k».proof.Proof.Gen.MergeFwdIdeal.Frame
public import proofs.«01_k».proof.Proof.Gen.MergeFwdIdeal.Value
public import proofs.«01_k».proof.Proof.Gen.MergeFwdReferenceIdeal
public import proofs.«01_k».proof.Proof.Gen.MergeFwdReferenceIdeal.Run
public import proofs.«01_k».proof.Proof.Gen.MergeFwdReferenceIdeal.Read
public import proofs.«01_k».proof.Proof.Gen.LnFwd
public import proofs.«01_k».proof.Proof.Gen.LnFwd.Skeleton
public import proofs.«01_k».proof.Proof.Gen.LnFwd.Launch
public import proofs.«01_k».proof.Proof.Gen.LnFwd.Points
public import proofs.«01_k».proof.Proof.Gen.LnFwd.Frame
public import proofs.«01_k».proof.Proof.Gen.LnFwdIdeal
public import proofs.«01_k».proof.Proof.Gen.LnFwdIdeal.Skeleton
public import proofs.«01_k».proof.Proof.Gen.LnFwdIdeal.Launch
public import proofs.«01_k».proof.Proof.Gen.LnFwdIdeal.Points
public import proofs.«01_k».proof.Proof.Gen.LnFwdIdeal.Frame
public import proofs.«01_k».proof.Proof.Gen.LnFwdIdeal.Value
public import proofs.«01_k».proof.Proof.Gen.LnFwdReferenceIdeal
public import proofs.«01_k».proof.Proof.Gen.LnFwdReferenceIdeal.Run
public import proofs.«01_k».proof.Proof.Gen.LnFwdReferenceIdeal.Read
public import proofs.«01_k».proof.Proof.Gen.LossHead
public import proofs.«01_k».proof.Proof.Gen.LossHead.Skeleton
public import proofs.«01_k».proof.Proof.Gen.LossHead.Launch
public import proofs.«01_k».proof.Proof.Gen.LossHead.Points
public import proofs.«01_k».proof.Proof.Gen.LossHead.Frame
public import proofs.«01_k».proof.Proof.Gen.LossHeadIdeal
public import proofs.«01_k».proof.Proof.Gen.LossHeadIdeal.Skeleton
public import proofs.«01_k».proof.Proof.Gen.LossHeadIdeal.Launch
public import proofs.«01_k».proof.Proof.Gen.LossHeadIdeal.Points
public import proofs.«01_k».proof.Proof.Gen.LossHeadIdeal.Frame
public import proofs.«01_k».proof.Proof.Gen.LossHeadIdeal.Value
public import proofs.«01_k».proof.Proof.Gen.LossHeadReferenceIdeal
public import proofs.«01_k».proof.Proof.Gen.LossHeadReferenceIdeal.Run
public import proofs.«01_k».proof.Proof.Gen.LossHeadReferenceIdeal.Read
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvIdeal.Value
public import proofs.«01_k».proof.Proof.Gen.KvReferenceIdeal
public import proofs.«01_k».proof.Proof.Gen.KvReferenceIdeal.Run
public import proofs.«01_k».proof.Proof.Gen.KvReferenceIdeal.Read
public import proofs.«01_k».proof.Proof.Gen.DwKv
public import proofs.«01_k».proof.Proof.Gen.DwKv.Skeleton
public import proofs.«01_k».proof.Proof.Gen.DwKv.Launch
public import proofs.«01_k».proof.Proof.Gen.DwKv.Points
public import proofs.«01_k».proof.Proof.Gen.DwKv.Frame
public import proofs.«01_k».proof.Proof.Gen.DwKvIdeal
public import proofs.«01_k».proof.Proof.Gen.DwKvIdeal.Skeleton
public import proofs.«01_k».proof.Proof.Gen.DwKvIdeal.Launch
public import proofs.«01_k».proof.Proof.Gen.DwKvIdeal.Points
public import proofs.«01_k».proof.Proof.Gen.DwKvIdeal.Frame
public import proofs.«01_k».proof.Proof.Gen.DwKvIdeal.Value
public import proofs.«01_k».proof.Proof.Gen.DwKvReferenceIdeal
public import proofs.«01_k».proof.Proof.Gen.DwKvReferenceIdeal.Run
public import proofs.«01_k».proof.Proof.Gen.DwKvReferenceIdeal.Read
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.AdamInReferenceIdeal
public import proofs.«01_k».proof.Proof.Gen.AdamInReferenceIdeal.Run
public import proofs.«01_k».proof.Proof.Gen.AdamInReferenceIdeal.Read
public import proofs.«01_k».proof.Proof.Gen.AdamKv
public import proofs.«01_k».proof.Proof.Gen.AdamKv.Skeleton
public import proofs.«01_k».proof.Proof.Gen.AdamKv.Launch
public import proofs.«01_k».proof.Proof.Gen.AdamKv.Points
public import proofs.«01_k».proof.Proof.Gen.AdamKv.Frame
public import proofs.«01_k».proof.Proof.Gen.AdamKvIdeal
public import proofs.«01_k».proof.Proof.Gen.AdamKvIdeal.Skeleton
public import proofs.«01_k».proof.Proof.Gen.AdamKvIdeal.Launch
public import proofs.«01_k».proof.Proof.Gen.AdamKvIdeal.Points
public import proofs.«01_k».proof.Proof.Gen.AdamKvIdeal.Frame
public import proofs.«01_k».proof.Proof.Gen.AdamKvIdeal.Value
public import proofs.«01_k».proof.Proof.Gen.AdamKvReferenceIdeal
public import proofs.«01_k».proof.Proof.Gen.AdamKvReferenceIdeal.Run
public import proofs.«01_k».proof.Proof.Gen.AdamKvReferenceIdeal.Read
public import proofs.«01_k».proof.Proof.Gen.AdamBr
public import proofs.«01_k».proof.Proof.Gen.AdamBr.Skeleton
public import proofs.«01_k».proof.Proof.Gen.AdamBr.Launch
public import proofs.«01_k».proof.Proof.Gen.AdamBr.Points
public import proofs.«01_k».proof.Proof.Gen.AdamBr.Frame
public import proofs.«01_k».proof.Proof.Gen.AdamBrIdeal
public import proofs.«01_k».proof.Proof.Gen.AdamBrIdeal.Skeleton
public import proofs.«01_k».proof.Proof.Gen.AdamBrIdeal.Launch
public import proofs.«01_k».proof.Proof.Gen.AdamBrIdeal.Points
public import proofs.«01_k».proof.Proof.Gen.AdamBrIdeal.Frame
public import proofs.«01_k».proof.Proof.Gen.AdamBrIdeal.Value
public import proofs.«01_k».proof.Proof.Gen.AdamBrReferenceIdeal
public import proofs.«01_k».proof.Proof.Gen.AdamBrReferenceIdeal.Run
public import proofs.«01_k».proof.Proof.Gen.AdamBrReferenceIdeal.Read
public import proofs.«01_k».proof.Proof.Gen.AdamBrSsd
public import proofs.«01_k».proof.Proof.Gen.AdamBrSsd.Skeleton
public import proofs.«01_k».proof.Proof.Gen.AdamBrSsd.Launch
public import proofs.«01_k».proof.Proof.Gen.AdamBrSsd.Points
public import proofs.«01_k».proof.Proof.Gen.AdamBrSsd.Frame
public import proofs.«01_k».proof.Proof.Gen.AdamBrSsdIdeal
public import proofs.«01_k».proof.Proof.Gen.AdamBrSsdIdeal.Skeleton
public import proofs.«01_k».proof.Proof.Gen.AdamBrSsdIdeal.Launch
public import proofs.«01_k».proof.Proof.Gen.AdamBrSsdIdeal.Points
public import proofs.«01_k».proof.Proof.Gen.AdamBrSsdIdeal.Frame
public import proofs.«01_k».proof.Proof.Gen.AdamBrSsdIdeal.Value
public import proofs.«01_k».proof.Proof.Gen.AdamBrSsdReferenceIdeal
public import proofs.«01_k».proof.Proof.Gen.AdamBrSsdReferenceIdeal.Run
public import proofs.«01_k».proof.Proof.Gen.AdamBrSsdReferenceIdeal.Read
public import proofs.«01_k».proof.Proof.Gen.AdamFfnIn
public import proofs.«01_k».proof.Proof.Gen.AdamFfnIn.Skeleton
public import proofs.«01_k».proof.Proof.Gen.AdamFfnIn.Launch
public import proofs.«01_k».proof.Proof.Gen.AdamFfnIn.Points
public import proofs.«01_k».proof.Proof.Gen.AdamFfnIn.Frame
public import proofs.«01_k».proof.Proof.Gen.AdamFfnInIdeal
public import proofs.«01_k».proof.Proof.Gen.AdamFfnInIdeal.Skeleton
public import proofs.«01_k».proof.Proof.Gen.AdamFfnInIdeal.Launch
public import proofs.«01_k».proof.Proof.Gen.AdamFfnInIdeal.Points
public import proofs.«01_k».proof.Proof.Gen.AdamFfnInIdeal.Frame
public import proofs.«01_k».proof.Proof.Gen.AdamFfnInIdeal.Value
public import proofs.«01_k».proof.Proof.Gen.AdamFfnInReferenceIdeal
public import proofs.«01_k».proof.Proof.Gen.AdamFfnInReferenceIdeal.Run
public import proofs.«01_k».proof.Proof.Gen.AdamFfnInReferenceIdeal.Read
public import proofs.«01_k».proof.Proof.Gen.AdamFfnDown
public import proofs.«01_k».proof.Proof.Gen.AdamFfnDown.Skeleton
public import proofs.«01_k».proof.Proof.Gen.AdamFfnDown.Launch
public import proofs.«01_k».proof.Proof.Gen.AdamFfnDown.Points
public import proofs.«01_k».proof.Proof.Gen.AdamFfnDown.Frame
public import proofs.«01_k».proof.Proof.Gen.AdamFfnDownIdeal
public import proofs.«01_k».proof.Proof.Gen.AdamFfnDownIdeal.Skeleton
public import proofs.«01_k».proof.Proof.Gen.AdamFfnDownIdeal.Launch
public import proofs.«01_k».proof.Proof.Gen.AdamFfnDownIdeal.Points
public import proofs.«01_k».proof.Proof.Gen.AdamFfnDownIdeal.Frame
public import proofs.«01_k».proof.Proof.Gen.AdamFfnDownIdeal.Value
public import proofs.«01_k».proof.Proof.Gen.AdamFfnDownReferenceIdeal
public import proofs.«01_k».proof.Proof.Gen.AdamFfnDownReferenceIdeal.Run
public import proofs.«01_k».proof.Proof.Gen.AdamFfnDownReferenceIdeal.Read
public import proofs.«01_k».proof.Proof.Gen.AdamTail
public import proofs.«01_k».proof.Proof.Gen.AdamTail.Skeleton
public import proofs.«01_k».proof.Proof.Gen.AdamTail.Launch
public import proofs.«01_k».proof.Proof.Gen.AdamTail.Points
public import proofs.«01_k».proof.Proof.Gen.AdamTail.Frame
public import proofs.«01_k».proof.Proof.Gen.AdamTailIdeal
public import proofs.«01_k».proof.Proof.Gen.AdamTailIdeal.Skeleton
public import proofs.«01_k».proof.Proof.Gen.AdamTailIdeal.Launch
public import proofs.«01_k».proof.Proof.Gen.AdamTailIdeal.Points
public import proofs.«01_k».proof.Proof.Gen.AdamTailIdeal.Frame
public import proofs.«01_k».proof.Proof.Gen.AdamTailIdeal.Value
public import proofs.«01_k».proof.Proof.Gen.AdamTailReferenceIdeal
public import proofs.«01_k».proof.Proof.Gen.AdamTailReferenceIdeal.Run
public import proofs.«01_k».proof.Proof.Gen.AdamTailReferenceIdeal.Read
public import proofs.«01_k».proof.Proof.Gen.SlotSum
public import proofs.«01_k».proof.Proof.Gen.SlotSum.Skeleton
public import proofs.«01_k».proof.Proof.Gen.SlotSum.Launch
public import proofs.«01_k».proof.Proof.Gen.SlotSum.Points
public import proofs.«01_k».proof.Proof.Gen.SlotSum.Frame
public import proofs.«01_k».proof.Proof.Gen.SlotSumIdeal
public import proofs.«01_k».proof.Proof.Gen.SlotSumIdeal.Skeleton
public import proofs.«01_k».proof.Proof.Gen.SlotSumIdeal.Launch
public import proofs.«01_k».proof.Proof.Gen.SlotSumIdeal.Points
public import proofs.«01_k».proof.Proof.Gen.SlotSumIdeal.Frame
public import proofs.«01_k».proof.Proof.Gen.SlotSumIdeal.Value
public import proofs.«01_k».proof.Proof.Gen.SlotSumReferenceIdeal
public import proofs.«01_k».proof.Proof.Gen.SlotSumReferenceIdeal.Run
public import proofs.«01_k».proof.Proof.Gen.SlotSumReferenceIdeal.Read
public import proofs.«01_k».proof.Proof.Gen.LruConv
public import proofs.«01_k».proof.Proof.Gen.LruConv.Skeleton
public import proofs.«01_k».proof.Proof.Gen.LruConv.Launch
public import proofs.«01_k».proof.Proof.Gen.LruConv.Points
public import proofs.«01_k».proof.Proof.Gen.LruConv.Frame
public import proofs.«01_k».proof.Proof.Gen.LruConvIdeal
public import proofs.«01_k».proof.Proof.Gen.LruConvIdeal.Skeleton
public import proofs.«01_k».proof.Proof.Gen.LruConvIdeal.Launch
public import proofs.«01_k».proof.Proof.Gen.LruConvIdeal.Points
public import proofs.«01_k».proof.Proof.Gen.LruConvIdeal.Frame
public import proofs.«01_k».proof.Proof.Gen.LruConvIdeal.Value
public import proofs.«01_k».proof.Proof.Gen.LruConvReferenceIdeal
public import proofs.«01_k».proof.Proof.Gen.LruConvReferenceIdeal.Run
public import proofs.«01_k».proof.Proof.Gen.LruConvReferenceIdeal.Read
public import proofs.«01_k».proof.Proof.Gen.SsdBwd
public import proofs.«01_k».proof.Proof.Gen.SsdBwd.Skeleton
public import proofs.«01_k».proof.Proof.Gen.SsdBwd.Launch
public import proofs.«01_k».proof.Proof.Gen.SsdBwd.Points
public import proofs.«01_k».proof.Proof.Gen.SsdBwd.Frame
public import proofs.«01_k».proof.Proof.Gen.SsdBwdIdeal
public import proofs.«01_k».proof.Proof.Gen.SsdBwdIdeal.Skeleton
public import proofs.«01_k».proof.Proof.Gen.SsdBwdIdeal.Launch
public import proofs.«01_k».proof.Proof.Gen.SsdBwdIdeal.Points
public import proofs.«01_k».proof.Proof.Gen.SsdBwdIdeal.Frame
public import proofs.«01_k».proof.Proof.Gen.Pre_finite
public import proofs.«01_k».proof.Proof.Gen.Pre_swiglu_finite
public import proofs.«01_k».proof.Proof.Gen.Pre_norm_finite
public import proofs.«01_k».proof.Proof.XaClaim
public import proofs.«01_k».proof.Proof.SwigluClaim
public import proofs.«01_k».proof.Proof.GateClaim
public import proofs.«01_k».proof.Proof.NormClaim
public import proofs.«01_k».proof.Proof.DwDownClaim
public import proofs.«01_k».proof.Proof.DwInClaim
public import proofs.«01_k».proof.Proof.DxGateClaim
public import proofs.«01_k».proof.Proof.DxUpClaim
public import proofs.«01_k».proof.Proof.FfnInClaim
public import proofs.«01_k».proof.Proof.DwSsdClaim
public import proofs.«01_k».proof.Proof.DwLruClaim
public import proofs.«01_k».proof.Proof.DwGlClaim
public import proofs.«01_k».proof.Proof.DwQClaim
public import proofs.«01_k».proof.Proof.DwOutClaim
public import proofs.«01_k».proof.Proof.DwBrSsdClaim
public import proofs.«01_k».proof.Proof.DxSsdClaim
public import proofs.«01_k».proof.Proof.DxLruClaim
public import proofs.«01_k».proof.Proof.DxGlClaim
public import proofs.«01_k».proof.Proof.DxQClaim
public import proofs.«01_k».proof.Proof.DMergedClaim
public import proofs.«01_k».proof.Proof.DyLruClaim
public import proofs.«01_k».proof.Proof.DySsdClaim
public import proofs.«01_k».proof.Proof.DyXaClaim
public import proofs.«01_k».proof.Proof.ProjSsdClaim
public import proofs.«01_k».proof.Proof.ProjLruClaim
public import proofs.«01_k».proof.Proof.ProjGlClaim
public import proofs.«01_k».proof.Proof.ProjQClaim
public import proofs.«01_k».proof.Proof.BrSsdClaim
public import proofs.«01_k».proof.Proof.OutProjClaim
public import proofs.«01_k».proof.Proof.FfnDownClaim
public import proofs.«01_k».proof.Proof.XaFwdClaim
public import proofs.«01_k».proof.Proof.MergeFwdClaim
public import proofs.«01_k».proof.Proof.LnFwdClaim
public import proofs.«01_k».proof.Proof.LossHeadClaim
public import proofs.«01_k».proof.Proof.KvClaim
public import proofs.«01_k».proof.Proof.DwKvClaim
public import proofs.«01_k».proof.Proof.AdamInClaim
public import proofs.«01_k».proof.Proof.AdamKvClaim
public import proofs.«01_k».proof.Proof.AdamBrClaim
public import proofs.«01_k».proof.Proof.AdamBrSsdClaim
public import proofs.«01_k».proof.Proof.AdamFfnInClaim
public import proofs.«01_k».proof.Proof.AdamFfnDownClaim
public import proofs.«01_k».proof.Proof.AdamTailClaim
public import proofs.«01_k».proof.Proof.SlotSumClaim
public import proofs.«01_k».proof.Proof.LruConvClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Swiglu.Gen.facts, Cert.SwigluIdeal.Gen.facts, Cert.SwigluReferenceIdeal.Gen.facts, Cert.Gate.Gen.facts, Cert.GateIdeal.Gen.facts, Cert.GateReferenceIdeal.Gen.facts, Cert.Norm.Gen.facts, Cert.NormIdeal.Gen.facts, Cert.NormReferenceIdeal.Gen.facts, Cert.DwDown.Gen.facts, Cert.DwDownIdeal.Gen.facts, Cert.DwDownReferenceIdeal.Gen.facts, Cert.DwIn.Gen.facts, Cert.DwInIdeal.Gen.facts, Cert.DwInReferenceIdeal.Gen.facts, Cert.DxGate.Gen.facts, Cert.DxGateIdeal.Gen.facts, Cert.DxGateReferenceIdeal.Gen.facts, Cert.DxUp.Gen.facts, Cert.DxUpIdeal.Gen.facts, Cert.DxUpReferenceIdeal.Gen.facts, Cert.FfnIn.Gen.facts, Cert.FfnInIdeal.Gen.facts, Cert.FfnInReferenceIdeal.Gen.facts, Cert.DwSsd.Gen.facts, Cert.DwSsdIdeal.Gen.facts, Cert.DwSsdReferenceIdeal.Gen.facts, Cert.DwLru.Gen.facts, Cert.DwLruIdeal.Gen.facts, Cert.DwLruReferenceIdeal.Gen.facts, Cert.DwGl.Gen.facts, Cert.DwGlIdeal.Gen.facts, Cert.DwGlReferenceIdeal.Gen.facts, Cert.DwQ.Gen.facts, Cert.DwQIdeal.Gen.facts, Cert.DwQReferenceIdeal.Gen.facts, Cert.DwOut.Gen.facts, Cert.DwOutIdeal.Gen.facts, Cert.DwOutReferenceIdeal.Gen.facts, Cert.DwBrSsd.Gen.facts, Cert.DwBrSsdIdeal.Gen.facts, Cert.DwBrSsdReferenceIdeal.Gen.facts, Cert.DxSsd.Gen.facts, Cert.DxSsdIdeal.Gen.facts, Cert.DxSsdReferenceIdeal.Gen.facts, Cert.DxLru.Gen.facts, Cert.DxLruIdeal.Gen.facts, Cert.DxLruReferenceIdeal.Gen.facts, Cert.DxGl.Gen.facts, Cert.DxGlIdeal.Gen.facts, Cert.DxGlReferenceIdeal.Gen.facts, Cert.DxQ.Gen.facts, Cert.DxQIdeal.Gen.facts, Cert.DxQReferenceIdeal.Gen.facts, Cert.DMerged.Gen.facts, Cert.DMergedIdeal.Gen.facts, Cert.DMergedReferenceIdeal.Gen.facts, Cert.DyLru.Gen.facts, Cert.DyLruIdeal.Gen.facts, Cert.DyLruReferenceIdeal.Gen.facts, Cert.DySsd.Gen.facts, Cert.DySsdIdeal.Gen.facts, Cert.DySsdReferenceIdeal.Gen.facts, Cert.DyXa.Gen.facts, Cert.DyXaIdeal.Gen.facts, Cert.DyXaReferenceIdeal.Gen.facts, Cert.ProjSsd.Gen.facts, Cert.ProjSsdIdeal.Gen.facts, Cert.ProjSsdReferenceIdeal.Gen.facts, Cert.ProjLru.Gen.facts, Cert.ProjLruIdeal.Gen.facts, Cert.ProjLruReferenceIdeal.Gen.facts, Cert.ProjGl.Gen.facts, Cert.ProjGlIdeal.Gen.facts, Cert.ProjGlReferenceIdeal.Gen.facts, Cert.ProjQ.Gen.facts, Cert.ProjQIdeal.Gen.facts, Cert.ProjQReferenceIdeal.Gen.facts, Cert.BrSsd.Gen.facts, Cert.BrSsdIdeal.Gen.facts, Cert.BrSsdReferenceIdeal.Gen.facts, Cert.OutProj.Gen.facts, Cert.OutProjIdeal.Gen.facts, Cert.OutProjReferenceIdeal.Gen.facts, Cert.FfnDown.Gen.facts, Cert.FfnDownIdeal.Gen.facts, Cert.FfnDownReferenceIdeal.Gen.facts, Cert.XaFwd.Gen.facts, Cert.XaFwdIdeal.Gen.facts, Cert.XaFwdReferenceIdeal.Gen.facts, Cert.MergeFwd.Gen.facts, Cert.MergeFwdIdeal.Gen.facts, Cert.MergeFwdReferenceIdeal.Gen.facts, Cert.LnFwd.Gen.facts, Cert.LnFwdIdeal.Gen.facts, Cert.LnFwdReferenceIdeal.Gen.facts, Cert.LossHead.Gen.facts, Cert.LossHeadIdeal.Gen.facts, Cert.LossHeadReferenceIdeal.Gen.facts, Cert.Kv.Gen.facts, Cert.KvIdeal.Gen.facts, Cert.KvReferenceIdeal.Gen.facts, Cert.DwKv.Gen.facts, Cert.DwKvIdeal.Gen.facts, Cert.DwKvReferenceIdeal.Gen.facts, Cert.AdamIn.Gen.facts, Cert.AdamInIdeal.Gen.facts, Cert.AdamInReferenceIdeal.Gen.facts, Cert.AdamKv.Gen.facts, Cert.AdamKvIdeal.Gen.facts, Cert.AdamKvReferenceIdeal.Gen.facts, Cert.AdamBr.Gen.facts, Cert.AdamBrIdeal.Gen.facts, Cert.AdamBrReferenceIdeal.Gen.facts, Cert.AdamBrSsd.Gen.facts, Cert.AdamBrSsdIdeal.Gen.facts, Cert.AdamBrSsdReferenceIdeal.Gen.facts, Cert.AdamFfnIn.Gen.facts, Cert.AdamFfnInIdeal.Gen.facts, Cert.AdamFfnInReferenceIdeal.Gen.facts, Cert.AdamFfnDown.Gen.facts, Cert.AdamFfnDownIdeal.Gen.facts, Cert.AdamFfnDownReferenceIdeal.Gen.facts, Cert.AdamTail.Gen.facts, Cert.AdamTailIdeal.Gen.facts, Cert.AdamTailReferenceIdeal.Gen.facts, Cert.SlotSum.Gen.facts, Cert.SlotSumIdeal.Gen.facts, Cert.SlotSumReferenceIdeal.Gen.facts, Cert.LruConv.Gen.facts, Cert.LruConvIdeal.Gen.facts, Cert.LruConvReferenceIdeal.Gen.facts, Cert.SsdBwd.Gen.facts, Cert.SsdBwdIdeal.Gen.facts, Cert.Pre_finite.Gen.facts, Cert.Pre_swiglu_finite.Gen.facts, Cert.Pre_norm_finite.Gen.facts,
  fun m ρ _ => Cert.Kernel.Gen.frame m ρ,
  fun m ρ _ => Cert.KernelIdeal.Gen.frame m ρ,
  fun m ρ _ => Cert.KernelIdeal.Gen.frame m ρ,
  Cert.XaProof.frame_reference,
  fun m ρ _ => Cert.XaProof.frame_reference m ρ trivial,
  fun m ρ _ => Cert.Swiglu.Gen.frame m ρ,
  fun m ρ _ => Cert.SwigluIdeal.Gen.frame m ρ,
  fun m ρ _ => Cert.SwigluIdeal.Gen.frame m ρ,
  Cert.SwigluProof.frame_reference,
  fun m ρ _ => Cert.SwigluProof.frame_reference m ρ trivial,
  fun m ρ _ => Cert.Gate.Gen.frame m ρ,
  fun m ρ _ => Cert.GateIdeal.Gen.frame m ρ,
  Cert.GateProof.frame_reference,
  fun m ρ _ => Cert.Norm.Gen.frame m ρ,
  fun m ρ _ => Cert.NormIdeal.Gen.frame m ρ,
  fun m ρ _ => Cert.NormIdeal.Gen.frame m ρ,
  Cert.NormProof.frame_reference,
  fun m ρ _ => Cert.NormProof.frame_reference m ρ trivial,
  fun m ρ _ => Cert.DwDown.Gen.frame m ρ,
  fun m ρ _ => Cert.DwDownIdeal.Gen.frame m ρ,
  Cert.DwDownProof.frame_reference,
  fun m ρ _ => Cert.DwIn.Gen.frame m ρ,
  fun m ρ _ => Cert.DwInIdeal.Gen.frame m ρ,
  Cert.DwInProof.frame_reference,
  fun m ρ _ => Cert.DxGate.Gen.frame m ρ,
  fun m ρ _ => Cert.DxGateIdeal.Gen.frame m ρ,
  Cert.DxGateProof.frame_reference,
  fun m ρ _ => Cert.DxUp.Gen.frame m ρ,
  fun m ρ _ => Cert.DxUpIdeal.Gen.frame m ρ,
  Cert.DxUpProof.frame_reference,
  fun m ρ _ => Cert.FfnIn.Gen.frame m ρ,
  fun m ρ _ => Cert.FfnInIdeal.Gen.frame m ρ,
  Cert.FfnInProof.frame_reference,
  fun m ρ _ => Cert.DwSsd.Gen.frame m ρ,
  fun m ρ _ => Cert.DwSsdIdeal.Gen.frame m ρ,
  Cert.DwSsdProof.frame_reference,
  fun m ρ _ => Cert.DwLru.Gen.frame m ρ,
  fun m ρ _ => Cert.DwLruIdeal.Gen.frame m ρ,
  Cert.DwLruProof.frame_reference,
  fun m ρ _ => Cert.DwGl.Gen.frame m ρ,
  fun m ρ _ => Cert.DwGlIdeal.Gen.frame m ρ,
  Cert.DwGlProof.frame_reference,
  fun m ρ _ => Cert.DwQ.Gen.frame m ρ,
  fun m ρ _ => Cert.DwQIdeal.Gen.frame m ρ,
  Cert.DwQProof.frame_reference,
  fun m ρ _ => Cert.DwOut.Gen.frame m ρ,
  fun m ρ _ => Cert.DwOutIdeal.Gen.frame m ρ,
  Cert.DwOutProof.frame_reference,
  fun m ρ _ => Cert.DwBrSsd.Gen.frame m ρ,
  fun m ρ _ => Cert.DwBrSsdIdeal.Gen.frame m ρ,
  Cert.DwBrSsdProof.frame_reference,
  fun m ρ _ => Cert.DxSsd.Gen.frame m ρ,
  fun m ρ _ => Cert.DxSsdIdeal.Gen.frame m ρ,
  Cert.DxSsdProof.frame_reference,
  fun m ρ _ => Cert.DxLru.Gen.frame m ρ,
  fun m ρ _ => Cert.DxLruIdeal.Gen.frame m ρ,
  Cert.DxLruProof.frame_reference,
  fun m ρ _ => Cert.DxGl.Gen.frame m ρ,
  fun m ρ _ => Cert.DxGlIdeal.Gen.frame m ρ,
  Cert.DxGlProof.frame_reference,
  fun m ρ _ => Cert.DxQ.Gen.frame m ρ,
  fun m ρ _ => Cert.DxQIdeal.Gen.frame m ρ,
  Cert.DxQProof.frame_reference,
  fun m ρ _ => Cert.DMerged.Gen.frame m ρ,
  fun m ρ _ => Cert.DMergedIdeal.Gen.frame m ρ,
  Cert.DMergedProof.frame_reference,
  fun m ρ _ => Cert.DyLru.Gen.frame m ρ,
  fun m ρ _ => Cert.DyLruIdeal.Gen.frame m ρ,
  Cert.DyLruProof.frame_reference,
  fun m ρ _ => Cert.DySsd.Gen.frame m ρ,
  fun m ρ _ => Cert.DySsdIdeal.Gen.frame m ρ,
  Cert.DySsdProof.frame_reference,
  fun m ρ _ => Cert.DyXa.Gen.frame m ρ,
  fun m ρ _ => Cert.DyXaIdeal.Gen.frame m ρ,
  Cert.DyXaProof.frame_reference,
  fun m ρ _ => Cert.ProjSsd.Gen.frame m ρ,
  fun m ρ _ => Cert.ProjSsdIdeal.Gen.frame m ρ,
  Cert.ProjSsdProof.frame_reference,
  fun m ρ _ => Cert.ProjLru.Gen.frame m ρ,
  fun m ρ _ => Cert.ProjLruIdeal.Gen.frame m ρ,
  Cert.ProjLruProof.frame_reference,
  fun m ρ _ => Cert.ProjGl.Gen.frame m ρ,
  fun m ρ _ => Cert.ProjGlIdeal.Gen.frame m ρ,
  Cert.ProjGlProof.frame_reference,
  fun m ρ _ => Cert.ProjQ.Gen.frame m ρ,
  fun m ρ _ => Cert.ProjQIdeal.Gen.frame m ρ,
  Cert.ProjQProof.frame_reference,
  fun m ρ _ => Cert.BrSsd.Gen.frame m ρ,
  fun m ρ _ => Cert.BrSsdIdeal.Gen.frame m ρ,
  Cert.BrSsdProof.frame_reference,
  fun m ρ _ => Cert.OutProj.Gen.frame m ρ,
  fun m ρ _ => Cert.OutProjIdeal.Gen.frame m ρ,
  Cert.OutProjProof.frame_reference,
  fun m ρ _ => Cert.FfnDown.Gen.frame m ρ,
  fun m ρ _ => Cert.FfnDownIdeal.Gen.frame m ρ,
  Cert.FfnDownProof.frame_reference,
  fun m ρ _ => Cert.XaFwd.Gen.frame m ρ,
  fun m ρ _ => Cert.XaFwdIdeal.Gen.frame m ρ,
  Cert.XaFwdProof.frame_reference,
  fun m ρ _ => Cert.MergeFwd.Gen.frame m ρ,
  fun m ρ _ => Cert.MergeFwdIdeal.Gen.frame m ρ,
  Cert.MergeFwdProof.frame_reference,
  fun m ρ _ => Cert.LnFwd.Gen.frame m ρ,
  fun m ρ _ => Cert.LnFwdIdeal.Gen.frame m ρ,
  Cert.LnFwdProof.frame_reference,
  fun m ρ _ => Cert.LossHead.Gen.frame m ρ,
  fun m ρ _ => Cert.LossHeadIdeal.Gen.frame m ρ,
  Cert.LossHeadProof.frame_reference,
  fun m ρ _ => Cert.Kv.Gen.frame m ρ,
  fun m ρ _ => Cert.KvIdeal.Gen.frame m ρ,
  Cert.KvProof.frame_reference,
  fun m ρ _ => Cert.DwKv.Gen.frame m ρ,
  fun m ρ _ => Cert.DwKvIdeal.Gen.frame m ρ,
  Cert.DwKvProof.frame_reference,
  fun m ρ _ => Cert.AdamIn.Gen.frame m ρ,
  fun m ρ _ => Cert.AdamInIdeal.Gen.frame m ρ,
  Cert.AdamInProof.frame_reference,
  fun m ρ _ => Cert.AdamKv.Gen.frame m ρ,
  fun m ρ _ => Cert.AdamKvIdeal.Gen.frame m ρ,
  Cert.AdamKvProof.frame_reference,
  fun m ρ _ => Cert.AdamBr.Gen.frame m ρ,
  fun m ρ _ => Cert.AdamBrIdeal.Gen.frame m ρ,
  Cert.AdamBrProof.frame_reference,
  fun m ρ _ => Cert.AdamBrSsd.Gen.frame m ρ,
  fun m ρ _ => Cert.AdamBrSsdIdeal.Gen.frame m ρ,
  Cert.AdamBrSsdProof.frame_reference,
  fun m ρ _ => Cert.AdamFfnIn.Gen.frame m ρ,
  fun m ρ _ => Cert.AdamFfnInIdeal.Gen.frame m ρ,
  Cert.AdamFfnInProof.frame_reference,
  fun m ρ _ => Cert.AdamFfnDown.Gen.frame m ρ,
  fun m ρ _ => Cert.AdamFfnDownIdeal.Gen.frame m ρ,
  Cert.AdamFfnDownProof.frame_reference,
  fun m ρ _ => Cert.AdamTail.Gen.frame m ρ,
  fun m ρ _ => Cert.AdamTailIdeal.Gen.frame m ρ,
  Cert.AdamTailProof.frame_reference,
  fun m ρ _ => Cert.SlotSum.Gen.frame m ρ,
  fun m ρ _ => Cert.SlotSumIdeal.Gen.frame m ρ,
  Cert.SlotSumProof.frame_reference,
  fun m ρ _ => Cert.LruConv.Gen.frame m ρ,
  fun m ρ _ => Cert.LruConvIdeal.Gen.frame m ρ,
  Cert.LruConvProof.frame_reference,
  fun m ρ _ => Cert.SsdBwd.Gen.frame m ρ,
  fun m ρ _ => Cert.SsdBwdIdeal.Gen.frame m ρ,
  trivial,
  Cert.XaProof.algebraic,
  trivial,
  Cert.SwigluProof.algebraic,
  trivial,
  Cert.GateProof.algebraic,
  trivial,
  Cert.NormProof.algebraic,
  trivial,
  Cert.DwDownProof.algebraic,
  trivial,
  Cert.DwInProof.algebraic,
  trivial,
  Cert.DxGateProof.algebraic,
  trivial,
  Cert.DxUpProof.algebraic,
  trivial,
  Cert.FfnInProof.algebraic,
  trivial,
  Cert.DwSsdProof.algebraic,
  trivial,
  Cert.DwLruProof.algebraic,
  trivial,
  Cert.DwGlProof.algebraic,
  trivial,
  Cert.DwQProof.algebraic,
  trivial,
  Cert.DwOutProof.algebraic,
  trivial,
  Cert.DwBrSsdProof.algebraic,
  trivial,
  Cert.DxSsdProof.algebraic,
  trivial,
  Cert.DxLruProof.algebraic,
  trivial,
  Cert.DxGlProof.algebraic,
  trivial,
  Cert.DxQProof.algebraic,
  trivial,
  Cert.DMergedProof.algebraic,
  trivial,
  Cert.DyLruProof.algebraic,
  trivial,
  Cert.DySsdProof.algebraic,
  trivial,
  Cert.DyXaProof.algebraic,
  trivial,
  Cert.ProjSsdProof.algebraic,
  trivial,
  Cert.ProjLruProof.algebraic,
  trivial,
  Cert.ProjGlProof.algebraic,
  trivial,
  Cert.ProjQProof.algebraic,
  trivial,
  Cert.BrSsdProof.algebraic,
  trivial,
  Cert.OutProjProof.algebraic,
  trivial,
  Cert.FfnDownProof.algebraic,
  trivial,
  Cert.XaFwdProof.algebraic,
  trivial,
  Cert.MergeFwdProof.algebraic,
  trivial,
  Cert.LnFwdProof.algebraic,
  trivial,
  Cert.LossHeadProof.algebraic,
  trivial,
  Cert.KvProof.algebraic,
  trivial,
  Cert.DwKvProof.algebraic,
  trivial,
  Cert.AdamInProof.algebraic,
  trivial,
  Cert.AdamKvProof.algebraic,
  trivial,
  Cert.AdamBrProof.algebraic,
  trivial,
  Cert.AdamBrSsdProof.algebraic,
  trivial,
  Cert.AdamFfnInProof.algebraic,
  trivial,
  Cert.AdamFfnDownProof.algebraic,
  trivial,
  Cert.AdamTailProof.algebraic,
  trivial,
  Cert.SlotSumProof.algebraic,
  trivial,
  Cert.LruConvProof.algebraic,
  trivial⟩

end Cert.Proof

end
